-- ==== Defs.lean ====
def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Du (m : (ℓ : Loc Cert.Du.nD Cert.Du.τ Cert.Du.sig) → Buf (Elt Bits) ℓ) : Prop :=
  True

def Pre_DuIdeal (m : (ℓ : Loc Cert.DuIdeal.nD Cert.DuIdeal.τ Cert.DuIdeal.sig) → Buf (Elt Ideal) ℓ) : Prop :=
  True

def Pre_DuRefIdeal (m : (ℓ : Loc Cert.DuRefIdeal.nD Cert.DuRefIdeal.τ Cert.DuRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_ProjDw (m : (ℓ : Loc Cert.ProjDw.nD Cert.ProjDw.τ Cert.ProjDw.sig) → Buf (Elt Bits) ℓ) : Prop :=
  True

def Pre_ProjDwIdeal (m : (ℓ : Loc Cert.ProjDwIdeal.nD Cert.ProjDwIdeal.τ Cert.ProjDwIdeal.sig) → Buf (Elt Ideal) ℓ) : Prop :=
  True

def Pre_ProjDwRefIdeal (m : (ℓ : Loc Cert.ProjDwRefIdeal.nD Cert.ProjDwRefIdeal.τ Cert.ProjDwRefIdeal.sig) → Buf (Elt Ideal) ℓ) : Prop :=
  True

def Pre_ProjB (m : (ℓ : Loc Cert.ProjB.nD Cert.ProjB.τ Cert.ProjB.sig) → Buf (Elt Bits) ℓ) : Prop :=
  True

def Pre_ProjBIdeal (m : (ℓ : Loc Cert.ProjBIdeal.nD Cert.ProjBIdeal.τ Cert.ProjBIdeal.sig) → Buf (Elt Ideal) ℓ) : Prop :=
  True

def Pre_ProjBRefIdeal (m : (ℓ : Loc Cert.ProjBRefIdeal.nD Cert.ProjBRefIdeal.τ Cert.ProjBRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpIdeal_finite_up [hPre_finite_up : Cert.Pre_finite_up.Facts] (m : (ℓ : Loc Cert.GateUpIdeal.nD Cert.GateUpIdeal.τ Cert.GateUpIdeal.sig) → Buf (Elt Ideal) ℓ) : Prop :=
  ∀ c : Dev Cert.GateUpIdeal.nD,
    (Cert.Pre_finite_up.fn (F := Ideal) (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2))).1 = (fun _ => 1#1)
    ∧ (Cert.Pre_finite_up.fn (F := Ideal) (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2))).2 = (fun _ => 1#1)

def Pre_GateUpRefIdeal (m : (ℓ : Loc Cert.GateUpRefIdeal.nD Cert.GateUpRefIdeal.τ Cert.GateUpRefIdeal.sig) → Buf (Elt Ideal) ℓ) : Prop :=
  True

def Pre_GateUpRefIdeal_finite_up [hPre_finite_up : Cert.Pre_finite_up.Facts] (m : (ℓ : Loc Cert.GateUpRefIdeal.nD Cert.GateUpRefIdeal.τ Cert.GateUpRefIdeal.sig) → Buf (Elt Ideal) ℓ) : Prop :=
  ∀ c : Dev Cert.GateUpRefIdeal.nD,
    (Cert.Pre_finite_up.fn (F := Ideal) (m ((c.tc : Thread Cert.GateUpRefIdeal.nD Cert.GateUpRefIdeal.τ).loc Cert.GateUpRefIdeal.main_arg0)) (m ((c.tc : Thread Cert.GateUpRefIdeal.nD Cert.GateUpRefIdeal.τ).loc Cert.GateUpRefIdeal.main_arg1)) (m ((c.tc : Thread Cert.GateUpRefIdeal.nD Cert.GateUpRefIdeal.τ).loc Cert.GateUpRefIdeal.main_arg2))).1 = (fun _ => 1#1)
    ∧ (Cert.Pre_finite_up.fn (F := Ideal) (m ((c.tc : Thread Cert.GateUpRefIdeal.nD Cert.GateUpRefIdeal.τ).loc Cert.GateUpRefIdeal.main_arg0)) (m ((c.tc : Thread Cert.GateUpRefIdeal.nD Cert.GateUpRefIdeal.τ).loc Cert.GateUpRefIdeal.main_arg1)) (m ((c.tc : Thread Cert.GateUpRefIdeal.nD Cert.GateUpRefIdeal.τ).loc Cert.GateUpRefIdeal.main_arg2))).2 = (fun _ => 1#1)

def Pre_Dhid (m : (ℓ : Loc Cert.Dhid.nD Cert.Dhid.τ Cert.Dhid.sig) → Buf (Elt Bits) ℓ) : Prop :=
  True

def Pre_DhidIdeal (m : (ℓ : Loc Cert.DhidIdeal.nD Cert.DhidIdeal.τ Cert.DhidIdeal.sig) → Buf (Elt Ideal) ℓ) : Prop :=
  True

def Pre_DhidIdeal_finite_hidden [hPre_finite_hidden : Cert.Pre_finite_hidden.Facts] (m : (ℓ : Loc Cert.DhidIdeal.nD Cert.DhidIdeal.τ Cert.DhidIdeal.sig) → Buf (Elt Ideal) ℓ) : Prop :=
  ∀ c : Dev Cert.DhidIdeal.nD,
    (Cert.Pre_finite_hidden.fn (F := Ideal) (m ((c.tc : Thread Cert.DhidIdeal.nD Cert.DhidIdeal.τ).loc Cert.DhidIdeal.main_arg0)) (m ((c.tc : Thread Cert.DhidIdeal.nD Cert.DhidIdeal.τ).loc Cert.DhidIdeal.main_arg1)) (m ((c.tc : Thread Cert.DhidIdeal.nD Cert.DhidIdeal.τ).loc Cert.DhidIdeal.main_arg2)) (m ((c.tc : Thread Cert.DhidIdeal.nD Cert.DhidIdeal.τ).loc Cert.DhidIdeal.main_arg3)) (m ((c.tc : Thread Cert.DhidIdeal.nD Cert.DhidIdeal.τ).loc Cert.DhidIdeal.main_arg4))).1 = (fun _ => 1#1)
    ∧ (Cert.Pre_finite_hidden.fn (F := Ideal) (m ((c.tc : Thread Cert.DhidIdeal.nD Cert.DhidIdeal.τ).loc Cert.DhidIdeal.main_arg0)) (m ((c.tc : Thread Cert.DhidIdeal.nD Cert.DhidIdeal.τ).loc Cert.DhidIdeal.main_arg1)) (m ((c.tc : Thread Cert.DhidIdeal.nD Cert.DhidIdeal.τ).loc Cert.DhidIdeal.main_arg2)) (m ((c.tc : Thread Cert.DhidIdeal.nD Cert.DhidIdeal.τ).loc Cert.DhidIdeal.main_arg3)) (m ((c.tc : Thread Cert.DhidIdeal.nD Cert.DhidIdeal.τ).loc Cert.DhidIdeal.main_arg4))).2.1 = (fun _ => 1#1)
    ∧ (Cert.Pre_finite_hidden.fn (F := Ideal) (m ((c.tc : Thread Cert.DhidIdeal.nD Cert.DhidIdeal.τ).loc Cert.DhidIdeal.main_arg0)) (m ((c.tc : Thread Cert.DhidIdeal.nD Cert.DhidIdeal.τ).loc Cert.DhidIdeal.main_arg1)) (m ((c.tc : Thread Cert.DhidIdeal.nD Cert.DhidIdeal.τ).loc Cert.DhidIdeal.main_arg2)) (m ((c.tc : Thread Cert.DhidIdeal.nD Cert.DhidIdeal.τ).loc Cert.DhidIdeal.main_arg3)) (m ((c.tc : Thread Cert.DhidIdeal.nD Cert.DhidIdeal.τ).loc Cert.DhidIdeal.main_arg4))).2.2.1 = (fun _ => 1#1)
    ∧ (Cert.Pre_finite_hidden.fn (F := Ideal) (m ((c.tc : Thread Cert.DhidIdeal.nD Cert.DhidIdeal.τ).loc Cert.DhidIdeal.main_arg0)) (m ((c.tc : Thread Cert.DhidIdeal.nD Cert.DhidIdeal.τ).loc Cert.DhidIdeal.main_arg1)) (m ((c.tc : Thread Cert.DhidIdeal.nD Cert.DhidIdeal.τ).loc Cert.DhidIdeal.main_arg2)) (m ((c.tc : Thread Cert.DhidIdeal.nD Cert.DhidIdeal.τ).loc Cert.DhidIdeal.main_arg3)) (m ((c.tc : Thread Cert.DhidIdeal.nD Cert.DhidIdeal.τ).loc Cert.DhidIdeal.main_arg4))).2.2.2 = (fun _ => 1#1)

def Pre_DhidRefIdeal (m : (ℓ : Loc Cert.DhidRefIdeal.nD Cert.DhidRefIdeal.τ Cert.DhidRefIdeal.sig) → Buf (Elt Ideal) ℓ) : Prop :=
  True

def Pre_DhidRefIdeal_finite_hidden [hPre_finite_hidden : Cert.Pre_finite_hidden.Facts] (m : (ℓ : Loc Cert.DhidRefIdeal.nD Cert.DhidRefIdeal.τ Cert.DhidRefIdeal.sig) → Buf (Elt Ideal) ℓ) : Prop :=
  ∀ c : Dev Cert.DhidRefIdeal.nD,
    (Cert.Pre_finite_hidden.fn (F := Ideal) (m ((c.tc : Thread Cert.DhidRefIdeal.nD Cert.DhidRefIdeal.τ).loc Cert.DhidRefIdeal.main_arg0)) (m ((c.tc : Thread Cert.DhidRefIdeal.nD Cert.DhidRefIdeal.τ).loc Cert.DhidRefIdeal.main_arg1)) (m ((c.tc : Thread Cert.DhidRefIdeal.nD Cert.DhidRefIdeal.τ).loc Cert.DhidRefIdeal.main_arg2)) (m ((c.tc : Thread Cert.DhidRefIdeal.nD Cert.DhidRefIdeal.τ).loc Cert.DhidRefIdeal.main_arg3)) (m ((c.tc : Thread Cert.DhidRefIdeal.nD Cert.DhidRefIdeal.τ).loc Cert.DhidRefIdeal.main_arg4))).1 = (fun _ => 1#1)
    ∧ (Cert.Pre_finite_hidden.fn (F := Ideal) (m ((c.tc : Thread Cert.DhidRefIdeal.nD Cert.DhidRefIdeal.τ).loc Cert.DhidRefIdeal.main_arg0)) (m ((c.tc : Thread Cert.DhidRefIdeal.nD Cert.DhidRefIdeal.τ).loc Cert.DhidRefIdeal.main_arg1)) (m ((c.tc : Thread Cert.DhidRefIdeal.nD Cert.DhidRefIdeal.τ).loc Cert.DhidRefIdeal.main_arg2)) (m ((c.tc : Thread Cert.DhidRefIdeal.nD Cert.DhidRefIdeal.τ).loc Cert.DhidRefIdeal.main_arg3)) (m ((c.tc : Thread Cert.DhidRefIdeal.nD Cert.DhidRefIdeal.τ).loc Cert.DhidRefIdeal.main_arg4))).2.1 = (fun _ => 1#1)
    ∧ (Cert.Pre_finite_hidden.fn (F := Ideal) (m ((c.tc : Thread Cert.DhidRefIdeal.nD Cert.DhidRefIdeal.τ).loc Cert.DhidRefIdeal.main_arg0)) (m ((c.tc : Thread Cert.DhidRefIdeal.nD Cert.DhidRefIdeal.τ).loc Cert.DhidRefIdeal.main_arg1)) (m ((c.tc : Thread Cert.DhidRefIdeal.nD Cert.DhidRefIdeal.τ).loc Cert.DhidRefIdeal.main_arg2)) (m ((c.tc : Thread Cert.DhidRefIdeal.nD Cert.DhidRefIdeal.τ).loc Cert.DhidRefIdeal.main_arg3)) (m ((c.tc : Thread Cert.DhidRefIdeal.nD Cert.DhidRefIdeal.τ).loc Cert.DhidRefIdeal.main_arg4))).2.2.1 = (fun _ => 1#1)
    ∧ (Cert.Pre_finite_hidden.fn (F := Ideal) (m ((c.tc : Thread Cert.DhidRefIdeal.nD Cert.DhidRefIdeal.τ).loc Cert.DhidRefIdeal.main_arg0)) (m ((c.tc : Thread Cert.DhidRefIdeal.nD Cert.DhidRefIdeal.τ).loc Cert.DhidRefIdeal.main_arg1)) (m ((c.tc : Thread Cert.DhidRefIdeal.nD Cert.DhidRefIdeal.τ).loc Cert.DhidRefIdeal.main_arg2)) (m ((c.tc : Thread Cert.DhidRefIdeal.nD Cert.DhidRefIdeal.τ).loc Cert.DhidRefIdeal.main_arg3)) (m ((c.tc : Thread Cert.DhidRefIdeal.nD Cert.DhidRefIdeal.τ).loc Cert.DhidRefIdeal.main_arg4))).2.2.2 = (fun _ => 1#1)

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_MixOutB (m : (ℓ : Loc Cert.MixOutB.nD Cert.MixOutB.τ Cert.MixOutB.sig) → Buf (Elt Bits) ℓ) : Prop :=
  True

def Pre_MixOutBIdeal (m : (ℓ : Loc Cert.MixOutBIdeal.nD Cert.MixOutBIdeal.τ Cert.MixOutBIdeal.sig) → Buf (Elt Ideal) ℓ) : Prop :=
  True

def Pre_MixOutBRefIdeal (m : (ℓ : Loc Cert.MixOutBRefIdeal.nD Cert.MixOutBRefIdeal.τ Cert.MixOutBRefIdeal.sig) → Buf (Elt Ideal) ℓ) : Prop :=
  True

def Pre_MixOutDw (m : (ℓ : Loc Cert.MixOutDw.nD Cert.MixOutDw.τ Cert.MixOutDw.sig) → Buf (Elt Bits) ℓ) : Prop :=
  True

def Pre_MixOutDwIdeal (m : (ℓ : Loc Cert.MixOutDwIdeal.nD Cert.MixOutDwIdeal.τ Cert.MixOutDwIdeal.sig) → Buf (Elt Ideal) ℓ) : Prop :=
  True

def Pre_MixOutDwRefIdeal (m : (ℓ : Loc Cert.MixOutDwRefIdeal.nD Cert.MixOutDwRefIdeal.τ Cert.MixOutDwRefIdeal.sig) → Buf (Elt Ideal) ℓ) : Prop :=
  True

def Pre_SOut (m : (ℓ : Loc Cert.SOut.nD Cert.SOut.τ Cert.SOut.sig) → Buf (Elt Bits) ℓ) : Prop :=
  True

def Pre_SOutIdeal (m : (ℓ : Loc Cert.SOutIdeal.nD Cert.SOutIdeal.τ Cert.SOutIdeal.sig) → Buf (Elt Ideal) ℓ) : Prop :=
  True

def Pre_SOutRefIdeal (m : (ℓ : Loc Cert.SOutRefIdeal.nD Cert.SOutRefIdeal.τ Cert.SOutRefIdeal.sig) → Buf (Elt Ideal) ℓ) : Prop :=
  True

def Pre_SOutB (m : (ℓ : Loc Cert.SOutB.nD Cert.SOutB.τ Cert.SOutB.sig) → Buf (Elt Bits) ℓ) : Prop :=
  True

def Pre_SOutBIdeal (m : (ℓ : Loc Cert.SOutBIdeal.nD Cert.SOutBIdeal.τ Cert.SOutBIdeal.sig) → Buf (Elt Ideal) ℓ) : Prop :=
  True

def Pre_SOutBRefIdeal (m : (ℓ : Loc Cert.SOutBRefIdeal.nD Cert.SOutBRefIdeal.τ Cert.SOutBRefIdeal.sig) → Buf (Elt Ideal) ℓ) : Prop :=
  True

def Pre_ConvOut (m : (ℓ : Loc Cert.ConvOut.nD Cert.ConvOut.τ Cert.ConvOut.sig) → Buf (Elt Bits) ℓ) : Prop :=
  True

def Pre_ConvOutIdeal (m : (ℓ : Loc Cert.ConvOutIdeal.nD Cert.ConvOutIdeal.τ Cert.ConvOutIdeal.sig) → Buf (Elt Ideal) ℓ) : Prop :=
  True

def Pre_ConvOutRefIdeal (m : (ℓ : Loc Cert.ConvOutRefIdeal.nD Cert.ConvOutRefIdeal.τ Cert.ConvOutRefIdeal.sig) → Buf (Elt Ideal) ℓ) : Prop :=
  True

def Pre_ConvOutB (m : (ℓ : Loc Cert.ConvOutB.nD Cert.ConvOutB.τ Cert.ConvOutB.sig) → Buf (Elt Bits) ℓ) : Prop :=
  True

def Pre_ConvOutBIdeal (m : (ℓ : Loc Cert.ConvOutBIdeal.nD Cert.ConvOutBIdeal.τ Cert.ConvOutBIdeal.sig) → Buf (Elt Ideal) ℓ) : Prop :=
  True

def Pre_ConvOutBRefIdeal (m : (ℓ : Loc Cert.ConvOutBRefIdeal.nD Cert.ConvOutBRefIdeal.τ Cert.ConvOutBRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_GluDw (m : (ℓ : Loc Cert.GluDw.nD Cert.GluDw.τ Cert.GluDw.sig) → Buf (Elt Bits) ℓ) : Prop :=
  True

def Pre_GluDwIdeal (m : (ℓ : Loc Cert.GluDwIdeal.nD Cert.GluDwIdeal.τ Cert.GluDwIdeal.sig) → Buf (Elt Ideal) ℓ) : Prop :=
  True

def Pre_GluDwRefIdeal (m : (ℓ : Loc Cert.GluDwRefIdeal.nD Cert.GluDwRefIdeal.τ Cert.GluDwRefIdeal.sig) → Buf (Elt Ideal) ℓ) : Prop :=
  True

def Pre_Dw [hPre_on_a_device : Cert.Pre_on_a_device.Facts] (m : (ℓ : Loc Cert.Dw.nD Cert.Dw.τ Cert.Dw.sig) → Buf (Elt Bits) ℓ) : Prop :=
  ∀ c : Dev Cert.Dw.nD,
    (Cert.Pre_on_a_device.fn (F := Bits) (m ((c.tc : Thread Cert.Dw.nD Cert.Dw.τ).loc Cert.Dw.main_arg0)) (m ((c.tc : Thread Cert.Dw.nD Cert.Dw.τ).loc Cert.Dw.main_arg1)) (m ((c.tc : Thread Cert.Dw.nD Cert.Dw.τ).loc Cert.Dw.main_arg2))) = (fun _ => 1#1)

def Pre_DwIdeal [hPre_on_a_device : Cert.Pre_on_a_device.Facts] (m : (ℓ : Loc Cert.DwIdeal.nD Cert.DwIdeal.τ Cert.DwIdeal.sig) → Buf (Elt Ideal) ℓ) : Prop :=
  ∀ c : Dev Cert.DwIdeal.nD,
    (Cert.Pre_on_a_device.fn (F := Ideal) (m ((c.tc : Thread Cert.DwIdeal.nD Cert.DwIdeal.τ).loc Cert.DwIdeal.main_arg0)) (m ((c.tc : Thread Cert.DwIdeal.nD Cert.DwIdeal.τ).loc Cert.DwIdeal.main_arg1)) (m ((c.tc : Thread Cert.DwIdeal.nD Cert.DwIdeal.τ).loc Cert.DwIdeal.main_arg2))) = (fun _ => 1#1)

def Pre_DwRefIdeal (m : (ℓ : Loc Cert.DwRefIdeal.nD Cert.DwRefIdeal.τ Cert.DwRefIdeal.sig) → Buf (Elt Ideal) ℓ) : Prop :=
  True

def Pre_DwRefIdeal_on_a_device [hPre_on_a_device : Cert.Pre_on_a_device.Facts] (m : (ℓ : Loc Cert.DwRefIdeal.nD Cert.DwRefIdeal.τ Cert.DwRefIdeal.sig) → Buf (Elt Ideal) ℓ) : Prop :=
  ∀ c : Dev Cert.DwRefIdeal.nD,
    (Cert.Pre_on_a_device.fn (F := Ideal) (m ((c.tc : Thread Cert.DwRefIdeal.nD Cert.DwRefIdeal.τ).loc Cert.DwRefIdeal.main_arg0)) (m ((c.tc : Thread Cert.DwRefIdeal.nD Cert.DwRefIdeal.τ).loc Cert.DwRefIdeal.main_arg1)) (m ((c.tc : Thread Cert.DwRefIdeal.nD Cert.DwRefIdeal.τ).loc Cert.DwRefIdeal.main_arg2))) = (fun _ => 1#1)

def Pre_DwD [hPre_on_a_device : Cert.Pre_on_a_device.Facts] (m : (ℓ : Loc Cert.DwD.nD Cert.DwD.τ Cert.DwD.sig) → Buf (Elt Bits) ℓ) : Prop :=
  ∀ c : Dev Cert.DwD.nD,
    (Cert.Pre_on_a_device.fn (F := Bits) (m ((c.tc : Thread Cert.DwD.nD Cert.DwD.τ).loc Cert.DwD.main_arg0)) (m ((c.tc : Thread Cert.DwD.nD Cert.DwD.τ).loc Cert.DwD.main_arg1)) (m ((c.tc : Thread Cert.DwD.nD Cert.DwD.τ).loc Cert.DwD.main_arg2))) = (fun _ => 1#1)

def Pre_DwDIdeal [hPre_on_a_device : Cert.Pre_on_a_device.Facts] (m : (ℓ : Loc Cert.DwDIdeal.nD Cert.DwDIdeal.τ Cert.DwDIdeal.sig) → Buf (Elt Ideal) ℓ) : Prop :=
  ∀ c : Dev Cert.DwDIdeal.nD,
    (Cert.Pre_on_a_device.fn (F := Ideal) (m ((c.tc : Thread Cert.DwDIdeal.nD Cert.DwDIdeal.τ).loc Cert.DwDIdeal.main_arg0)) (m ((c.tc : Thread Cert.DwDIdeal.nD Cert.DwDIdeal.τ).loc Cert.DwDIdeal.main_arg1)) (m ((c.tc : Thread Cert.DwDIdeal.nD Cert.DwDIdeal.τ).loc Cert.DwDIdeal.main_arg2))) = (fun _ => 1#1)

def Pre_DwDRefIdeal (m : (ℓ : Loc Cert.DwDRefIdeal.nD Cert.DwDRefIdeal.τ Cert.DwDRefIdeal.sig) → Buf (Elt Ideal) ℓ) : Prop :=
  True

def Pre_DwDRefIdeal_on_a_device [hPre_on_a_device : Cert.Pre_on_a_device.Facts] (m : (ℓ : Loc Cert.DwDRefIdeal.nD Cert.DwDRefIdeal.τ Cert.DwDRefIdeal.sig) → Buf (Elt Ideal) ℓ) : Prop :=
  ∀ c : Dev Cert.DwDRefIdeal.nD,
    (Cert.Pre_on_a_device.fn (F := Ideal) (m ((c.tc : Thread Cert.DwDRefIdeal.nD Cert.DwDRefIdeal.τ).loc Cert.DwDRefIdeal.main_arg0)) (m ((c.tc : Thread Cert.DwDRefIdeal.nD Cert.DwDRefIdeal.τ).loc Cert.DwDRefIdeal.main_arg1)) (m ((c.tc : Thread Cert.DwDRefIdeal.nD Cert.DwDRefIdeal.τ).loc Cert.DwDRefIdeal.main_arg2))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_NormB (m : (ℓ : Loc Cert.NormB.nD Cert.NormB.τ Cert.NormB.sig) → Buf (Elt Bits) ℓ) : Prop :=
  True

def Pre_NormBIdeal (m : (ℓ : Loc Cert.NormBIdeal.nD Cert.NormBIdeal.τ Cert.NormBIdeal.sig) → Buf (Elt Ideal) ℓ) : Prop :=
  True

def Pre_NormBRefIdeal (m : (ℓ : Loc Cert.NormBRefIdeal.nD Cert.NormBRefIdeal.τ Cert.NormBRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_ConvF (m : (ℓ : Loc Cert.ConvF.nD Cert.ConvF.τ Cert.ConvF.sig) → Buf (Elt Bits) ℓ) : Prop :=
  True

def Pre_ConvFIdeal (m : (ℓ : Loc Cert.ConvFIdeal.nD Cert.ConvFIdeal.τ Cert.ConvFIdeal.sig) → Buf (Elt Ideal) ℓ) : Prop :=
  True

def Pre_ConvFRefIdeal (m : (ℓ : Loc Cert.ConvFRefIdeal.nD Cert.ConvFRefIdeal.τ Cert.ConvFRefIdeal.sig) → Buf (Elt Ideal) ℓ) : Prop :=
  True

def Pre_VecG (m : (ℓ : Loc Cert.VecG.nD Cert.VecG.τ Cert.VecG.sig) → Buf (Elt Bits) ℓ) : Prop :=
  True

def Pre_VecGIdeal (m : (ℓ : Loc Cert.VecGIdeal.nD Cert.VecGIdeal.τ Cert.VecGIdeal.sig) → Buf (Elt Ideal) ℓ) : Prop :=
  True

def Pre_VecGRefIdeal (m : (ℓ : Loc Cert.VecGRefIdeal.nD Cert.VecGRefIdeal.τ Cert.VecGRefIdeal.sig) → Buf (Elt Ideal) ℓ) : Prop :=
  True

def Pre_Disc (m : (ℓ : Loc Cert.Disc.nD Cert.Disc.τ Cert.Disc.sig) → Buf (Elt Bits) ℓ) : Prop :=
  True

def Pre_DiscIdeal (m : (ℓ : Loc Cert.DiscIdeal.nD Cert.DiscIdeal.τ Cert.DiscIdeal.sig) → Buf (Elt Ideal) ℓ) : Prop :=
  True

def Pre_DiscRefIdeal (m : (ℓ : Loc Cert.DiscRefIdeal.nD Cert.DiscRefIdeal.τ Cert.DiscRefIdeal.sig) → Buf (Elt Ideal) ℓ) : Prop :=
  True

def Pre_DiscB (m : (ℓ : Loc Cert.DiscB.nD Cert.DiscB.τ Cert.DiscB.sig) → Buf (Elt Bits) ℓ) : Prop :=
  True

def Pre_DiscBIdeal (m : (ℓ : Loc Cert.DiscBIdeal.nD Cert.DiscBIdeal.τ Cert.DiscBIdeal.sig) → Buf (Elt Ideal) ℓ) : Prop :=
  True

def Pre_DiscBRefIdeal (m : (ℓ : Loc Cert.DiscBRefIdeal.nD Cert.DiscBRefIdeal.τ Cert.DiscBRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamO (m : (ℓ : Loc Cert.AdamO.nD Cert.AdamO.τ Cert.AdamO.sig) → Buf (Elt Bits) ℓ) : Prop :=
  True

def Pre_AdamOIdeal (m : (ℓ : Loc Cert.AdamOIdeal.nD Cert.AdamOIdeal.τ Cert.AdamOIdeal.sig) → Buf (Elt Ideal) ℓ) : Prop :=
  True

def Pre_AdamORefIdeal (m : (ℓ : Loc Cert.AdamORefIdeal.nD Cert.AdamORefIdeal.τ Cert.AdamORefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamGlu (m : (ℓ : Loc Cert.AdamGlu.nD Cert.AdamGlu.τ Cert.AdamGlu.sig) → Buf (Elt Bits) ℓ) : Prop :=
  True

def Pre_AdamGluIdeal (m : (ℓ : Loc Cert.AdamGluIdeal.nD Cert.AdamGluIdeal.τ Cert.AdamGluIdeal.sig) → Buf (Elt Ideal) ℓ) : Prop :=
  True

def Pre_AdamGluRefIdeal (m : (ℓ : Loc Cert.AdamGluRefIdeal.nD Cert.AdamGluRefIdeal.τ Cert.AdamGluRefIdeal.sig) → Buf (Elt Ideal) ℓ) : Prop :=
  True

def Pre_AdamFfn (m : (ℓ : Loc Cert.AdamFfn.nD Cert.AdamFfn.τ Cert.AdamFfn.sig) → Buf (Elt Bits) ℓ) : Prop :=
  True

def Pre_AdamFfnIdeal (m : (ℓ : Loc Cert.AdamFfnIdeal.nD Cert.AdamFfnIdeal.τ Cert.AdamFfnIdeal.sig) → Buf (Elt Ideal) ℓ) : Prop :=
  True

def Pre_AdamFfnRefIdeal (m : (ℓ : Loc Cert.AdamFfnRefIdeal.nD Cert.AdamFfnRefIdeal.τ Cert.AdamFfnRefIdeal.sig) → Buf (Elt Ideal) ℓ) : Prop :=
  True

def Pre_AdamFfnT (m : (ℓ : Loc Cert.AdamFfnT.nD Cert.AdamFfnT.τ Cert.AdamFfnT.sig) → Buf (Elt Bits) ℓ) : Prop :=
  True

def Pre_AdamFfnTIdeal (m : (ℓ : Loc Cert.AdamFfnTIdeal.nD Cert.AdamFfnTIdeal.τ Cert.AdamFfnTIdeal.sig) → Buf (Elt Ideal) ℓ) : Prop :=
  True

def Pre_AdamFfnTRefIdeal (m : (ℓ : Loc Cert.AdamFfnTRefIdeal.nD Cert.AdamFfnTRefIdeal.τ Cert.AdamFfnTRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_Du [hDu : Cert.Du.Facts] : Prop :=
  ∀ (m : (ℓ : Loc Cert.Du.nD Cert.Du.τ Cert.Du.sig) → Buf (Elt Bits) ℓ) (g : Dev Cert.Du.nD → PrngReg), Pre_Du m →
    θ_run (Cert.Du.defs (F := Bits)) (onTc (τ := Cert.Du.τ) (Cert.Du.main (F := Bits))) ⟨m, fun _ => 0, g⟩ (fun r => (∀ c : Dev Cert.Du.nD,
      r.2.mem ((c.tc : Thread Cert.Du.nD Cert.Du.τ).loc Cert.Du.main_arg0) = m ((c.tc : Thread Cert.Du.nD Cert.Du.τ).loc Cert.Du.main_arg0)
      ∧ r.2.mem ((c.tc : Thread Cert.Du.nD Cert.Du.τ).loc Cert.Du.main_arg1) = m ((c.tc : Thread Cert.Du.nD Cert.Du.τ).loc Cert.Du.main_arg1)
      ∧ r.2.mem ((c.tc : Thread Cert.Du.nD Cert.Du.τ).loc Cert.Du.main_arg2) = m ((c.tc : Thread Cert.Du.nD Cert.Du.τ).loc Cert.Du.main_arg2)
      ∧ r.2.mem ((c.tc : Thread Cert.Du.nD Cert.Du.τ).loc Cert.Du.main_arg3) = m ((c.tc : Thread Cert.Du.nD Cert.Du.τ).loc Cert.Du.main_arg3)
      ∧ r.2.mem ((c.tc : Thread Cert.Du.nD Cert.Du.τ).loc Cert.Du.main_arg4) = m ((c.tc : Thread Cert.Du.nD Cert.Du.τ).loc Cert.Du.main_arg4))
      ∧ r.2.sem = fun _ => 0)

def quiescent_DuIdeal [hDuIdeal : Cert.DuIdeal.Facts] : Prop :=
  ∀ (m : (ℓ : Loc Cert.DuIdeal.nD Cert.DuIdeal.τ Cert.DuIdeal.sig) → Buf (Elt Ideal) ℓ) (g : Dev Cert.DuIdeal.nD → PrngReg), Pre_DuIdeal m →
    θ_run (Cert.DuIdeal.defs (F := Ideal)) (onTc (τ := Cert.DuIdeal.τ) (Cert.DuIdeal.main (F := Ideal))) ⟨m, fun _ => 0, g⟩ (fun r => (∀ c : Dev Cert.DuIdeal.nD,
      r.2.mem ((c.tc : Thread Cert.DuIdeal.nD Cert.DuIdeal.τ).loc Cert.DuIdeal.main_arg0) = m ((c.tc : Thread Cert.DuIdeal.nD Cert.DuIdeal.τ).loc Cert.DuIdeal.main_arg0)
      ∧ r.2.mem ((c.tc : Thread Cert.DuIdeal.nD Cert.DuIdeal.τ).loc Cert.DuIdeal.main_arg1) = m ((c.tc : Thread Cert.DuIdeal.nD Cert.DuIdeal.τ).loc Cert.DuIdeal.main_arg1)
      ∧ r.2.mem ((c.tc : Thread Cert.DuIdeal.nD Cert.DuIdeal.τ).loc Cert.DuIdeal.main_arg2) = m ((c.tc : Thread Cert.DuIdeal.nD Cert.DuIdeal.τ).loc Cert.DuIdeal.main_arg2)
      ∧ r.2.mem ((c.tc : Thread Cert.DuIdeal.nD Cert.DuIdeal.τ).loc Cert.DuIdeal.main_arg3) = m ((c.tc : Thread Cert.DuIdeal.nD Cert.DuIdeal.τ).loc Cert.DuIdeal.main_arg3)
      ∧ r.2.mem ((c.tc : Thread Cert.DuIdeal.nD Cert.DuIdeal.τ).loc Cert.DuIdeal.main_arg4) = m ((c.tc : Thread Cert.DuIdeal.nD Cert.DuIdeal.τ).loc Cert.DuIdeal.main_arg4))
      ∧ r.2.sem = fun _ => 0)

def quiescent_DuRefIdeal [hDuRefIdeal : Cert.DuRefIdeal.Facts] : Prop :=
  ∀ (m : (ℓ : Loc Cert.DuRefIdeal.nD Cert.DuRefIdeal.τ Cert.DuRefIdeal.sig) → Buf (Elt Ideal) ℓ) (g : Dev Cert.DuRefIdeal.nD → PrngReg), Pre_DuRefIdeal m →
    θ_run (Cert.DuRefIdeal.defs (F := Ideal)) (onTc (τ := Cert.DuRefIdeal.τ) (Cert.DuRefIdeal.main (F := Ideal))) ⟨m, fun _ => 0, g⟩ (fun r => (∀ c : Dev Cert.DuRefIdeal.nD,
      r.2.mem ((c.tc : Thread Cert.DuRefIdeal.nD Cert.DuRefIdeal.τ).loc Cert.DuRefIdeal.main_arg0) = m ((c.tc : Thread Cert.DuRefIdeal.nD Cert.DuRefIdeal.τ).loc Cert.DuRefIdeal.main_arg0)
      ∧ r.2.mem ((c.tc : Thread Cert.DuRefIdeal.nD Cert.DuRefIdeal.τ).loc Cert.DuRefIdeal.main_arg1) = m ((c.tc : Thread Cert.DuRefIdeal.nD Cert.DuRefIdeal.τ).loc Cert.DuRefIdeal.main_arg1)
      ∧ r.2.mem ((c.tc : Thread Cert.DuRefIdeal.nD Cert.DuRefIdeal.τ).loc Cert.DuRefIdeal.main_arg2) = m ((c.tc : Thread Cert.DuRefIdeal.nD Cert.DuRefIdeal.τ).loc Cert.DuRefIdeal.main_arg2)
      ∧ r.2.mem ((c.tc : Thread Cert.DuRefIdeal.nD Cert.DuRefIdeal.τ).loc Cert.DuRefIdeal.main_arg3) = m ((c.tc : Thread Cert.DuRefIdeal.nD Cert.DuRefIdeal.τ).loc Cert.DuRefIdeal.main_arg3)
      ∧ r.2.mem ((c.tc : Thread Cert.DuRefIdeal.nD Cert.DuRefIdeal.τ).loc Cert.DuRefIdeal.main_arg4) = m ((c.tc : Thread Cert.DuRefIdeal.nD Cert.DuRefIdeal.τ).loc Cert.DuRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_ProjDw [hProjDw : Cert.ProjDw.Facts] : Prop :=
  ∀ (m : (ℓ : Loc Cert.ProjDw.nD Cert.ProjDw.τ Cert.ProjDw.sig) → Buf (Elt Bits) ℓ) (g : Dev Cert.ProjDw.nD → PrngReg), Pre_ProjDw m →
    θ_run (Cert.ProjDw.defs (F := Bits)) (onTc (τ := Cert.ProjDw.τ) (Cert.ProjDw.main (F := Bits))) ⟨m, fun _ => 0, g⟩ (fun r => (∀ c : Dev Cert.ProjDw.nD,
      r.2.mem ((c.tc : Thread Cert.ProjDw.nD Cert.ProjDw.τ).loc Cert.ProjDw.main_arg0) = m ((c.tc : Thread Cert.ProjDw.nD Cert.ProjDw.τ).loc Cert.ProjDw.main_arg0)
      ∧ r.2.mem ((c.tc : Thread Cert.ProjDw.nD Cert.ProjDw.τ).loc Cert.ProjDw.main_arg1) = m ((c.tc : Thread Cert.ProjDw.nD Cert.ProjDw.τ).loc Cert.ProjDw.main_arg1))
      ∧ r.2.sem = fun _ => 0)

def quiescent_ProjDwIdeal [hProjDwIdeal : Cert.ProjDwIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg), Pre_ProjDwIdeal m →
    θ_run (Cert.ProjDwIdeal.defs (F := Ideal)) (onTc (τ := Cert.ProjDwIdeal.τ) (Cert.ProjDwIdeal.main (F := Ideal))) ⟨m, fun _ => 0, g⟩ (fun r => (∀ c : Dev Cert.ProjDwIdeal.nD,
      r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
      ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ r.2.sem = fun _ => 0)

def quiescent_ProjDwRefIdeal [hProjDwRefIdeal : Cert.ProjDwRefIdeal.Facts] : Prop :=
  ∀ (m : (ℓ : Loc Cert.ProjDwRefIdeal.nD Cert.ProjDwRefIdeal.τ Cert.ProjDwRefIdeal.sig) → Buf (Elt Ideal) ℓ) (g : Dev Cert.ProjDwRefIdeal.nD → PrngReg), Pre_ProjDwRefIdeal m →
    θ_run (Cert.ProjDwRefIdeal.defs (F := Ideal)) (onTc (τ := Cert.ProjDwRefIdeal.τ) (Cert.ProjDwRefIdeal.main (F := Ideal))) ⟨m, fun _ => 0, g⟩ (fun r => (∀ c : Dev Cert.ProjDwRefIdeal.nD,
      r.2.mem ((c.tc : Thread Cert.ProjDwRefIdeal.nD Cert.ProjDwRefIdeal.τ).loc Cert.ProjDwRefIdeal.main_arg0) = m ((c.tc : Thread Cert.ProjDwRefIdeal.nD Cert.ProjDwRefIdeal.τ).loc Cert.ProjDwRefIdeal.main_arg0)
      ∧ r.2.mem ((c.tc : Thread Cert.ProjDwRefIdeal.nD Cert.ProjDwRefIdeal.τ).loc Cert.ProjDwRefIdeal.main_arg1) = m ((c.tc : Thread Cert.ProjDwRefIdeal.nD Cert.ProjDwRefIdeal.τ).loc Cert.ProjDwRefIdeal.main_arg1))
      ∧ r.2.sem = fun _ => 0)

def quiescent_ProjB [hProjB : Cert.ProjB.Facts] : Prop :=
  ∀ (m : (ℓ : Loc Cert.ProjB.nD Cert.ProjB.τ Cert.ProjB.sig) → Buf (Elt Bits) ℓ) (g : Dev Cert.ProjB.nD → PrngReg), Pre_ProjB m →
    θ_run (Cert.ProjB.defs (F := Bits)) (onTc (τ := Cert.ProjB.τ) (Cert.ProjB.main (F := Bits))) ⟨m, fun _ => 0, g⟩ (fun r => (∀ c : Dev Cert.ProjB.nD,
      r.2.mem ((c.tc : Thread Cert.ProjB.nD Cert.ProjB.τ).loc Cert.ProjB.main_arg0) = m ((c.tc : Thread Cert.ProjB.nD Cert.ProjB.τ).loc Cert.ProjB.main_arg0)
      ∧ r.2.mem ((c.tc : Thread Cert.ProjB.nD Cert.ProjB.τ).loc Cert.ProjB.main_arg1) = m ((c.tc : Thread Cert.ProjB.nD Cert.ProjB.τ).loc Cert.ProjB.main_arg1))
      ∧ r.2.sem = fun _ => 0)

def quiescent_ProjBIdeal [hProjBIdeal : Cert.ProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg), Pre_ProjBIdeal m →
    θ_run (Cert.ProjBIdeal.defs (F := Ideal)) (onTc (τ := Cert.ProjBIdeal.τ) (Cert.ProjBIdeal.main (F := Ideal))) ⟨m, fun _ => 0, g⟩ (fun r => (∀ c : Dev Cert.ProjBIdeal.nD,
      r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
      ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ r.2.sem = fun _ => 0)

def quiescent_ProjBRefIdeal [hProjBRefIdeal : Cert.ProjBRefIdeal.Facts] : Prop :=
  ∀ (m : (ℓ : Loc Cert.ProjBRefIdeal.nD Cert.ProjBRefIdeal.τ Cert.ProjBRefIdeal.sig) → Buf (Elt Ideal) ℓ) (g : Dev Cert.ProjBRefIdeal.nD → PrngReg), Pre_ProjBRefIdeal m →
    θ_run (Cert.ProjBRefIdeal.defs (F := Ideal)) (onTc (τ := Cert.ProjBRefIdeal.τ) (Cert.ProjBRefIdeal.main (F := Ideal))) ⟨m, fun _ => 0, g⟩ (fun r => (∀ c : Dev Cert.ProjBRefIdeal.nD,
      r.2.mem ((c.tc : Thread Cert.ProjBRefIdeal.nD Cert.ProjBRefIdeal.τ).loc Cert.ProjBRefIdeal.main_arg0) = m ((c.tc : Thread Cert.ProjBRefIdeal.nD Cert.ProjBRefIdeal.τ).loc Cert.ProjBRefIdeal.main_arg0)
      ∧ r.2.mem ((c.tc : Thread Cert.ProjBRefIdeal.nD Cert.ProjBRefIdeal.τ).loc Cert.ProjBRefIdeal.main_arg1) = m ((c.tc : Thread Cert.ProjBRefIdeal.nD Cert.ProjBRefIdeal.τ).loc Cert.ProjBRefIdeal.main_arg1))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ r.2.sem = fun _ => 0)

def quiescent_GateUpIdeal_pre_finite_up [hGateUpIdeal : Cert.GateUpIdeal.Facts] [hPre_finite_up : Cert.Pre_finite_up.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal_finite_up m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2))
      ∧ r.2.sem = fun _ => 0)

def quiescent_GateUpRefIdeal_pre_finite_up [hGateUpRefIdeal : Cert.GateUpRefIdeal.Facts] [hPre_finite_up : Cert.Pre_finite_up.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal_finite_up m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2))
      ∧ r.2.sem = fun _ => 0)

def quiescent_Dhid [hDhid : Cert.Dhid.Facts] : Prop :=
  ∀ (m : (ℓ : Loc Cert.Dhid.nD Cert.Dhid.τ Cert.Dhid.sig) → Buf (Elt Bits) ℓ) (g : Dev Cert.Dhid.nD → PrngReg), Pre_Dhid m →
    θ_run (Cert.Dhid.defs (F := Bits)) (onTc (τ := Cert.Dhid.τ) (Cert.Dhid.main (F := Bits))) ⟨m, fun _ => 0, g⟩ (fun r => (∀ c : Dev Cert.Dhid.nD,
      r.2.mem ((c.tc : Thread Cert.Dhid.nD Cert.Dhid.τ).loc Cert.Dhid.main_arg0) = m ((c.tc : Thread Cert.Dhid.nD Cert.Dhid.τ).loc Cert.Dhid.main_arg0)
      ∧ r.2.mem ((c.tc : Thread Cert.Dhid.nD Cert.Dhid.τ).loc Cert.Dhid.main_arg1) = m ((c.tc : Thread Cert.Dhid.nD Cert.Dhid.τ).loc Cert.Dhid.main_arg1)
      ∧ r.2.mem ((c.tc : Thread Cert.Dhid.nD Cert.Dhid.τ).loc Cert.Dhid.main_arg2) = m ((c.tc : Thread Cert.Dhid.nD Cert.Dhid.τ).loc Cert.Dhid.main_arg2)
      ∧ r.2.mem ((c.tc : Thread Cert.Dhid.nD Cert.Dhid.τ).loc Cert.Dhid.main_arg3) = m ((c.tc : Thread Cert.Dhid.nD Cert.Dhid.τ).loc Cert.Dhid.main_arg3)
      ∧ r.2.mem ((c.tc : Thread Cert.Dhid.nD Cert.Dhid.τ).loc Cert.Dhid.main_arg4) = m ((c.tc : Thread Cert.Dhid.nD Cert.Dhid.τ).loc Cert.Dhid.main_arg4))
      ∧ r.2.sem = fun _ => 0)

def quiescent_DhidIdeal [hDhidIdeal : Cert.DhidIdeal.Facts] : Prop :=
  ∀ (m : (ℓ : Loc Cert.DhidIdeal.nD Cert.DhidIdeal.τ Cert.DhidIdeal.sig) → Buf (Elt Ideal) ℓ) (g : Dev Cert.DhidIdeal.nD → PrngReg), Pre_DhidIdeal m →
    θ_run (Cert.DhidIdeal.defs (F := Ideal)) (onTc (τ := Cert.DhidIdeal.τ) (Cert.DhidIdeal.main (F := Ideal))) ⟨m, fun _ => 0, g⟩ (fun r => (∀ c : Dev Cert.DhidIdeal.nD,
      r.2.mem ((c.tc : Thread Cert.DhidIdeal.nD Cert.DhidIdeal.τ).loc Cert.DhidIdeal.main_arg0) = m ((c.tc : Thread Cert.DhidIdeal.nD Cert.DhidIdeal.τ).loc Cert.DhidIdeal.main_arg0)
      ∧ r.2.mem ((c.tc : Thread Cert.DhidIdeal.nD Cert.DhidIdeal.τ).loc Cert.DhidIdeal.main_arg1) = m ((c.tc : Thread Cert.DhidIdeal.nD Cert.DhidIdeal.τ).loc Cert.DhidIdeal.main_arg1)
      ∧ r.2.mem ((c.tc : Thread Cert.DhidIdeal.nD Cert.DhidIdeal.τ).loc Cert.DhidIdeal.main_arg2) = m ((c.tc : Thread Cert.DhidIdeal.nD Cert.DhidIdeal.τ).loc Cert.DhidIdeal.main_arg2)
      ∧ r.2.mem ((c.tc : Thread Cert.DhidIdeal.nD Cert.DhidIdeal.τ).loc Cert.DhidIdeal.main_arg3) = m ((c.tc : Thread Cert.DhidIdeal.nD Cert.DhidIdeal.τ).loc Cert.DhidIdeal.main_arg3)
      ∧ r.2.mem ((c.tc : Thread Cert.DhidIdeal.nD Cert.DhidIdeal.τ).loc Cert.DhidIdeal.main_arg4) = m ((c.tc : Thread Cert.DhidIdeal.nD Cert.DhidIdeal.τ).loc Cert.DhidIdeal.main_arg4))
      ∧ r.2.sem = fun _ => 0)

def quiescent_DhidIdeal_pre_finite_hidden [hDhidIdeal : Cert.DhidIdeal.Facts] [hPre_finite_hidden : Cert.Pre_finite_hidden.Facts] : Prop :=
  ∀ (m : (ℓ : Loc Cert.DhidIdeal.nD Cert.DhidIdeal.τ Cert.DhidIdeal.sig) → Buf (Elt Ideal) ℓ) (g : Dev Cert.DhidIdeal.nD → PrngReg), Pre_DhidIdeal_finite_hidden m →
    θ_run (Cert.DhidIdeal.defs (F := Ideal)) (onTc (τ := Cert.DhidIdeal.τ) (Cert.DhidIdeal.main (F := Ideal))) ⟨m, fun _ => 0, g⟩ (fun r => (∀ c : Dev Cert.DhidIdeal.nD,
      r.2.mem ((c.tc : Thread Cert.DhidIdeal.nD Cert.DhidIdeal.τ).loc Cert.DhidIdeal.main_arg0) = m ((c.tc : Thread Cert.DhidIdeal.nD Cert.DhidIdeal.τ).loc Cert.DhidIdeal.main_arg0)
      ∧ r.2.mem ((c.tc : Thread Cert.DhidIdeal.nD Cert.DhidIdeal.τ).loc Cert.DhidIdeal.main_arg1) = m ((c.tc : Thread Cert.DhidIdeal.nD Cert.DhidIdeal.τ).loc Cert.DhidIdeal.main_arg1)
      ∧ r.2.mem ((c.tc : Thread Cert.DhidIdeal.nD Cert.DhidIdeal.τ).loc Cert.DhidIdeal.main_arg2) = m ((c.tc : Thread Cert.DhidIdeal.nD Cert.DhidIdeal.τ).loc Cert.DhidIdeal.main_arg2)
      ∧ r.2.mem ((c.tc : Thread Cert.DhidIdeal.nD Cert.DhidIdeal.τ).loc Cert.DhidIdeal.main_arg3) = m ((c.tc : Thread Cert.DhidIdeal.nD Cert.DhidIdeal.τ).loc Cert.DhidIdeal.main_arg3)
      ∧ r.2.mem ((c.tc : Thread Cert.DhidIdeal.nD Cert.DhidIdeal.τ).loc Cert.DhidIdeal.main_arg4) = m ((c.tc : Thread Cert.DhidIdeal.nD Cert.DhidIdeal.τ).loc Cert.DhidIdeal.main_arg4))
      ∧ r.2.sem = fun _ => 0)

def quiescent_DhidRefIdeal [hDhidRefIdeal : Cert.DhidRefIdeal.Facts] : Prop :=
  ∀ (m : (ℓ : Loc Cert.DhidRefIdeal.nD Cert.DhidRefIdeal.τ Cert.DhidRefIdeal.sig) → Buf (Elt Ideal) ℓ) (g : Dev Cert.DhidRefIdeal.nD → PrngReg), Pre_DhidRefIdeal m →
    θ_run (Cert.DhidRefIdeal.defs (F := Ideal)) (onTc (τ := Cert.DhidRefIdeal.τ) (Cert.DhidRefIdeal.main (F := Ideal))) ⟨m, fun _ => 0, g⟩ (fun r => (∀ c : Dev Cert.DhidRefIdeal.nD,
      r.2.mem ((c.tc : Thread Cert.DhidRefIdeal.nD Cert.DhidRefIdeal.τ).loc Cert.DhidRefIdeal.main_arg0) = m ((c.tc : Thread Cert.DhidRefIdeal.nD Cert.DhidRefIdeal.τ).loc Cert.DhidRefIdeal.main_arg0)
      ∧ r.2.mem ((c.tc : Thread Cert.DhidRefIdeal.nD Cert.DhidRefIdeal.τ).loc Cert.DhidRefIdeal.main_arg1) = m ((c.tc : Thread Cert.DhidRefIdeal.nD Cert.DhidRefIdeal.τ).loc Cert.DhidRefIdeal.main_arg1)
      ∧ r.2.mem ((c.tc : Thread Cert.DhidRefIdeal.nD Cert.DhidRefIdeal.τ).loc Cert.DhidRefIdeal.main_arg2) = m ((c.tc : Thread Cert.DhidRefIdeal.nD Cert.DhidRefIdeal.τ).loc Cert.DhidRefIdeal.main_arg2)
      ∧ r.2.mem ((c.tc : Thread Cert.DhidRefIdeal.nD Cert.DhidRefIdeal.τ).loc Cert.DhidRefIdeal.main_arg3) = m ((c.tc : Thread Cert.DhidRefIdeal.nD Cert.DhidRefIdeal.τ).loc Cert.DhidRefIdeal.main_arg3)
      ∧ r.2.mem ((c.tc : Thread Cert.DhidRefIdeal.nD Cert.DhidRefIdeal.τ).loc Cert.DhidRefIdeal.main_arg4) = m ((c.tc : Thread Cert.DhidRefIdeal.nD Cert.DhidRefIdeal.τ).loc Cert.DhidRefIdeal.main_arg4))
      ∧ r.2.sem = fun _ => 0)

def quiescent_DhidRefIdeal_pre_finite_hidden [hDhidRefIdeal : Cert.DhidRefIdeal.Facts] [hPre_finite_hidden : Cert.Pre_finite_hidden.Facts] : Prop :=
  ∀ (m : (ℓ : Loc Cert.DhidRefIdeal.nD Cert.DhidRefIdeal.τ Cert.DhidRefIdeal.sig) → Buf (Elt Ideal) ℓ) (g : Dev Cert.DhidRefIdeal.nD → PrngReg), Pre_DhidRefIdeal_finite_hidden m →
    θ_run (Cert.DhidRefIdeal.defs (F := Ideal)) (onTc (τ := Cert.DhidRefIdeal.τ) (Cert.DhidRefIdeal.main (F := Ideal))) ⟨m, fun _ => 0, g⟩ (fun r => (∀ c : Dev Cert.DhidRefIdeal.nD,
      r.2.mem ((c.tc : Thread Cert.DhidRefIdeal.nD Cert.DhidRefIdeal.τ).loc Cert.DhidRefIdeal.main_arg0) = m ((c.tc : Thread Cert.DhidRefIdeal.nD Cert.DhidRefIdeal.τ).loc Cert.DhidRefIdeal.main_arg0)
      ∧ r.2.mem ((c.tc : Thread Cert.DhidRefIdeal.nD Cert.DhidRefIdeal.τ).loc Cert.DhidRefIdeal.main_arg1) = m ((c.tc : Thread Cert.DhidRefIdeal.nD Cert.DhidRefIdeal.τ).loc Cert.DhidRefIdeal.main_arg1)
      ∧ r.2.mem ((c.tc : Thread Cert.DhidRefIdeal.nD Cert.DhidRefIdeal.τ).loc Cert.DhidRefIdeal.main_arg2) = m ((c.tc : Thread Cert.DhidRefIdeal.nD Cert.DhidRefIdeal.τ).loc Cert.DhidRefIdeal.main_arg2)
      ∧ r.2.mem ((c.tc : Thread Cert.DhidRefIdeal.nD Cert.DhidRefIdeal.τ).loc Cert.DhidRefIdeal.main_arg3) = m ((c.tc : Thread Cert.DhidRefIdeal.nD Cert.DhidRefIdeal.τ).loc Cert.DhidRefIdeal.main_arg3)
      ∧ r.2.mem ((c.tc : Thread Cert.DhidRefIdeal.nD Cert.DhidRefIdeal.τ).loc Cert.DhidRefIdeal.main_arg4) = m ((c.tc : Thread Cert.DhidRefIdeal.nD Cert.DhidRefIdeal.τ).loc Cert.DhidRefIdeal.main_arg4))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2))
      ∧ r.2.sem = fun _ => 0)

def quiescent_MixOutB [hMixOutB : Cert.MixOutB.Facts] : Prop :=
  ∀ (m : (ℓ : Loc Cert.MixOutB.nD Cert.MixOutB.τ Cert.MixOutB.sig) → Buf (Elt Bits) ℓ) (g : Dev Cert.MixOutB.nD → PrngReg), Pre_MixOutB m →
    θ_run (Cert.MixOutB.defs (F := Bits)) (onTc (τ := Cert.MixOutB.τ) (Cert.MixOutB.main (F := Bits))) ⟨m, fun _ => 0, g⟩ (fun r => (∀ c : Dev Cert.MixOutB.nD,
      r.2.mem ((c.tc : Thread Cert.MixOutB.nD Cert.MixOutB.τ).loc Cert.MixOutB.main_arg0) = m ((c.tc : Thread Cert.MixOutB.nD Cert.MixOutB.τ).loc Cert.MixOutB.main_arg0)
      ∧ r.2.mem ((c.tc : Thread Cert.MixOutB.nD Cert.MixOutB.τ).loc Cert.MixOutB.main_arg1) = m ((c.tc : Thread Cert.MixOutB.nD Cert.MixOutB.τ).loc Cert.MixOutB.main_arg1)
      ∧ r.2.mem ((c.tc : Thread Cert.MixOutB.nD Cert.MixOutB.τ).loc Cert.MixOutB.main_arg2) = m ((c.tc : Thread Cert.MixOutB.nD Cert.MixOutB.τ).loc Cert.MixOutB.main_arg2)
      ∧ r.2.mem ((c.tc : Thread Cert.MixOutB.nD Cert.MixOutB.τ).loc Cert.MixOutB.main_arg3) = m ((c.tc : Thread Cert.MixOutB.nD Cert.MixOutB.τ).loc Cert.MixOutB.main_arg3)
      ∧ r.2.mem ((c.tc : Thread Cert.MixOutB.nD Cert.MixOutB.τ).loc Cert.MixOutB.main_arg4) = m ((c.tc : Thread Cert.MixOutB.nD Cert.MixOutB.τ).loc Cert.MixOutB.main_arg4)
      ∧ r.2.mem ((c.tc : Thread Cert.MixOutB.nD Cert.MixOutB.τ).loc Cert.MixOutB.main_arg5) = m ((c.tc : Thread Cert.MixOutB.nD Cert.MixOutB.τ).loc Cert.MixOutB.main_arg5))
      ∧ r.2.sem = fun _ => 0)

def quiescent_MixOutBIdeal [hMixOutBIdeal : Cert.MixOutBIdeal.Facts] : Prop :=
  ∀ (m : (ℓ : Loc Cert.MixOutBIdeal.nD Cert.MixOutBIdeal.τ Cert.MixOutBIdeal.sig) → Buf (Elt Ideal) ℓ) (g : Dev Cert.MixOutBIdeal.nD → PrngReg), Pre_MixOutBIdeal m →
    θ_run (Cert.MixOutBIdeal.defs (F := Ideal)) (onTc (τ := Cert.MixOutBIdeal.τ) (Cert.MixOutBIdeal.main (F := Ideal))) ⟨m, fun _ => 0, g⟩ (fun r => (∀ c : Dev Cert.MixOutBIdeal.nD,
      r.2.mem ((c.tc : Thread Cert.MixOutBIdeal.nD Cert.MixOutBIdeal.τ).loc Cert.MixOutBIdeal.main_arg0) = m ((c.tc : Thread Cert.MixOutBIdeal.nD Cert.MixOutBIdeal.τ).loc Cert.MixOutBIdeal.main_arg0)
      ∧ r.2.mem ((c.tc : Thread Cert.MixOutBIdeal.nD Cert.MixOutBIdeal.τ).loc Cert.MixOutBIdeal.main_arg1) = m ((c.tc : Thread Cert.MixOutBIdeal.nD Cert.MixOutBIdeal.τ).loc Cert.MixOutBIdeal.main_arg1)
      ∧ r.2.mem ((c.tc : Thread Cert.MixOutBIdeal.nD Cert.MixOutBIdeal.τ).loc Cert.MixOutBIdeal.main_arg2) = m ((c.tc : Thread Cert.MixOutBIdeal.nD Cert.MixOutBIdeal.τ).loc Cert.MixOutBIdeal.main_arg2)
      ∧ r.2.mem ((c.tc : Thread Cert.MixOutBIdeal.nD Cert.MixOutBIdeal.τ).loc Cert.MixOutBIdeal.main_arg3) = m ((c.tc : Thread Cert.MixOutBIdeal.nD Cert.MixOutBIdeal.τ).loc Cert.MixOutBIdeal.main_arg3)
      ∧ r.2.mem ((c.tc : Thread Cert.MixOutBIdeal.nD Cert.MixOutBIdeal.τ).loc Cert.MixOutBIdeal.main_arg4) = m ((c.tc : Thread Cert.MixOutBIdeal.nD Cert.MixOutBIdeal.τ).loc Cert.MixOutBIdeal.main_arg4)
      ∧ r.2.mem ((c.tc : Thread Cert.MixOutBIdeal.nD Cert.MixOutBIdeal.τ).loc Cert.MixOutBIdeal.main_arg5) = m ((c.tc : Thread Cert.MixOutBIdeal.nD Cert.MixOutBIdeal.τ).loc Cert.MixOutBIdeal.main_arg5))
      ∧ r.2.sem = fun _ => 0)

def quiescent_MixOutBRefIdeal [hMixOutBRefIdeal : Cert.MixOutBRefIdeal.Facts] : Prop :=
  ∀ (m : (ℓ : Loc Cert.MixOutBRefIdeal.nD Cert.MixOutBRefIdeal.τ Cert.MixOutBRefIdeal.sig) → Buf (Elt Ideal) ℓ) (g : Dev Cert.MixOutBRefIdeal.nD → PrngReg), Pre_MixOutBRefIdeal m →
    θ_run (Cert.MixOutBRefIdeal.defs (F := Ideal)) (onTc (τ := Cert.MixOutBRefIdeal.τ) (Cert.MixOutBRefIdeal.main (F := Ideal))) ⟨m, fun _ => 0, g⟩ (fun r => (∀ c : Dev Cert.MixOutBRefIdeal.nD,
      r.2.mem ((c.tc : Thread Cert.MixOutBRefIdeal.nD Cert.MixOutBRefIdeal.τ).loc Cert.MixOutBRefIdeal.main_arg0) = m ((c.tc : Thread Cert.MixOutBRefIdeal.nD Cert.MixOutBRefIdeal.τ).loc Cert.MixOutBRefIdeal.main_arg0)
      ∧ r.2.mem ((c.tc : Thread Cert.MixOutBRefIdeal.nD Cert.MixOutBRefIdeal.τ).loc Cert.MixOutBRefIdeal.main_arg1) = m ((c.tc : Thread Cert.MixOutBRefIdeal.nD Cert.MixOutBRefIdeal.τ).loc Cert.MixOutBRefIdeal.main_arg1)
      ∧ r.2.mem ((c.tc : Thread Cert.MixOutBRefIdeal.nD Cert.MixOutBRefIdeal.τ).loc Cert.MixOutBRefIdeal.main_arg2) = m ((c.tc : Thread Cert.MixOutBRefIdeal.nD Cert.MixOutBRefIdeal.τ).loc Cert.MixOutBRefIdeal.main_arg2)
      ∧ r.2.mem ((c.tc : Thread Cert.MixOutBRefIdeal.nD Cert.MixOutBRefIdeal.τ).loc Cert.MixOutBRefIdeal.main_arg3) = m ((c.tc : Thread Cert.MixOutBRefIdeal.nD Cert.MixOutBRefIdeal.τ).loc Cert.MixOutBRefIdeal.main_arg3)
      ∧ r.2.mem ((c.tc : Thread Cert.MixOutBRefIdeal.nD Cert.MixOutBRefIdeal.τ).loc Cert.MixOutBRefIdeal.main_arg4) = m ((c.tc : Thread Cert.MixOutBRefIdeal.nD Cert.MixOutBRefIdeal.τ).loc Cert.MixOutBRefIdeal.main_arg4)
      ∧ r.2.mem ((c.tc : Thread Cert.MixOutBRefIdeal.nD Cert.MixOutBRefIdeal.τ).loc Cert.MixOutBRefIdeal.main_arg5) = m ((c.tc : Thread Cert.MixOutBRefIdeal.nD Cert.MixOutBRefIdeal.τ).loc Cert.MixOutBRefIdeal.main_arg5))
      ∧ r.2.sem = fun _ => 0)

def quiescent_MixOutDw [hMixOutDw : Cert.MixOutDw.Facts] : Prop :=
  ∀ (m : (ℓ : Loc Cert.MixOutDw.nD Cert.MixOutDw.τ Cert.MixOutDw.sig) → Buf (Elt Bits) ℓ) (g : Dev Cert.MixOutDw.nD → PrngReg), Pre_MixOutDw m →
    θ_run (Cert.MixOutDw.defs (F := Bits)) (onTc (τ := Cert.MixOutDw.τ) (Cert.MixOutDw.main (F := Bits))) ⟨m, fun _ => 0, g⟩ (fun r => (∀ c : Dev Cert.MixOutDw.nD,
      r.2.mem ((c.tc : Thread Cert.MixOutDw.nD Cert.MixOutDw.τ).loc Cert.MixOutDw.main_arg0) = m ((c.tc : Thread Cert.MixOutDw.nD Cert.MixOutDw.τ).loc Cert.MixOutDw.main_arg0)
      ∧ r.2.mem ((c.tc : Thread Cert.MixOutDw.nD Cert.MixOutDw.τ).loc Cert.MixOutDw.main_arg1) = m ((c.tc : Thread Cert.MixOutDw.nD Cert.MixOutDw.τ).loc Cert.MixOutDw.main_arg1))
      ∧ r.2.sem = fun _ => 0)

def quiescent_MixOutDwIdeal [hMixOutDwIdeal : Cert.MixOutDwIdeal.Facts] : Prop :=
  ∀ (m : (ℓ : Loc Cert.MixOutDwIdeal.nD Cert.MixOutDwIdeal.τ Cert.MixOutDwIdeal.sig) → Buf (Elt Ideal) ℓ) (g : Dev Cert.MixOutDwIdeal.nD → PrngReg), Pre_MixOutDwIdeal m →
    θ_run (Cert.MixOutDwIdeal.defs (F := Ideal)) (onTc (τ := Cert.MixOutDwIdeal.τ) (Cert.MixOutDwIdeal.main (F := Ideal))) ⟨m, fun _ => 0, g⟩ (fun r => (∀ c : Dev Cert.MixOutDwIdeal.nD,
      r.2.mem ((c.tc : Thread Cert.MixOutDwIdeal.nD Cert.MixOutDwIdeal.τ).loc Cert.MixOutDwIdeal.main_arg0) = m ((c.tc : Thread Cert.MixOutDwIdeal.nD Cert.MixOutDwIdeal.τ).loc Cert.MixOutDwIdeal.main_arg0)
      ∧ r.2.mem ((c.tc : Thread Cert.MixOutDwIdeal.nD Cert.MixOutDwIdeal.τ).loc Cert.MixOutDwIdeal.main_arg1) = m ((c.tc : Thread Cert.MixOutDwIdeal.nD Cert.MixOutDwIdeal.τ).loc Cert.MixOutDwIdeal.main_arg1))
      ∧ r.2.sem = fun _ => 0)

def quiescent_MixOutDwRefIdeal [hMixOutDwRefIdeal : Cert.MixOutDwRefIdeal.Facts] : Prop :=
  ∀ (m : (ℓ : Loc Cert.MixOutDwRefIdeal.nD Cert.MixOutDwRefIdeal.τ Cert.MixOutDwRefIdeal.sig) → Buf (Elt Ideal) ℓ) (g : Dev Cert.MixOutDwRefIdeal.nD → PrngReg), Pre_MixOutDwRefIdeal m →
    θ_run (Cert.MixOutDwRefIdeal.defs (F := Ideal)) (onTc (τ := Cert.MixOutDwRefIdeal.τ) (Cert.MixOutDwRefIdeal.main (F := Ideal))) ⟨m, fun _ => 0, g⟩ (fun r => (∀ c : Dev Cert.MixOutDwRefIdeal.nD,
      r.2.mem ((c.tc : Thread Cert.MixOutDwRefIdeal.nD Cert.MixOutDwRefIdeal.τ).loc Cert.MixOutDwRefIdeal.main_arg0) = m ((c.tc : Thread Cert.MixOutDwRefIdeal.nD Cert.MixOutDwRefIdeal.τ).loc Cert.MixOutDwRefIdeal.main_arg0)
      ∧ r.2.mem ((c.tc : Thread Cert.MixOutDwRefIdeal.nD Cert.MixOutDwRefIdeal.τ).loc Cert.MixOutDwRefIdeal.main_arg1) = m ((c.tc : Thread Cert.MixOutDwRefIdeal.nD Cert.MixOutDwRefIdeal.τ).loc Cert.MixOutDwRefIdeal.main_arg1))
      ∧ r.2.sem = fun _ => 0)

def quiescent_SOut [hSOut : Cert.SOut.Facts] : Prop :=
  ∀ (m : (ℓ : Loc Cert.SOut.nD Cert.SOut.τ Cert.SOut.sig) → Buf (Elt Bits) ℓ) (g : Dev Cert.SOut.nD → PrngReg), Pre_SOut m →
    θ_run (Cert.SOut.defs (F := Bits)) (onTc (τ := Cert.SOut.τ) (Cert.SOut.main (F := Bits))) ⟨m, fun _ => 0, g⟩ (fun r => (∀ c : Dev Cert.SOut.nD,
      r.2.mem ((c.tc : Thread Cert.SOut.nD Cert.SOut.τ).loc Cert.SOut.main_arg0) = m ((c.tc : Thread Cert.SOut.nD Cert.SOut.τ).loc Cert.SOut.main_arg0)
      ∧ r.2.mem ((c.tc : Thread Cert.SOut.nD Cert.SOut.τ).loc Cert.SOut.main_arg1) = m ((c.tc : Thread Cert.SOut.nD Cert.SOut.τ).loc Cert.SOut.main_arg1))
      ∧ r.2.sem = fun _ => 0)

def quiescent_SOutIdeal [hSOutIdeal : Cert.SOutIdeal.Facts] : Prop :=
  ∀ (m : (ℓ : Loc Cert.SOutIdeal.nD Cert.SOutIdeal.τ Cert.SOutIdeal.sig) → Buf (Elt Ideal) ℓ) (g : Dev Cert.SOutIdeal.nD → PrngReg), Pre_SOutIdeal m →
    θ_run (Cert.SOutIdeal.defs (F := Ideal)) (onTc (τ := Cert.SOutIdeal.τ) (Cert.SOutIdeal.main (F := Ideal))) ⟨m, fun _ => 0, g⟩ (fun r => (∀ c : Dev Cert.SOutIdeal.nD,
      r.2.mem ((c.tc : Thread Cert.SOutIdeal.nD Cert.SOutIdeal.τ).loc Cert.SOutIdeal.main_arg0) = m ((c.tc : Thread Cert.SOutIdeal.nD Cert.SOutIdeal.τ).loc Cert.SOutIdeal.main_arg0)
      ∧ r.2.mem ((c.tc : Thread Cert.SOutIdeal.nD Cert.SOutIdeal.τ).loc Cert.SOutIdeal.main_arg1) = m ((c.tc : Thread Cert.SOutIdeal.nD Cert.SOutIdeal.τ).loc Cert.SOutIdeal.main_arg1))
      ∧ r.2.sem = fun _ => 0)

def quiescent_SOutRefIdeal [hSOutRefIdeal : Cert.SOutRefIdeal.Facts] : Prop :=
  ∀ (m : (ℓ : Loc Cert.SOutRefIdeal.nD Cert.SOutRefIdeal.τ Cert.SOutRefIdeal.sig) → Buf (Elt Ideal) ℓ) (g : Dev Cert.SOutRefIdeal.nD → PrngReg), Pre_SOutRefIdeal m →
    θ_run (Cert.SOutRefIdeal.defs (F := Ideal)) (onTc (τ := Cert.SOutRefIdeal.τ) (Cert.SOutRefIdeal.main (F := Ideal))) ⟨m, fun _ => 0, g⟩ (fun r => (∀ c : Dev Cert.SOutRefIdeal.nD,
      r.2.mem ((c.tc : Thread Cert.SOutRefIdeal.nD Cert.SOutRefIdeal.τ).loc Cert.SOutRefIdeal.main_arg0) = m ((c.tc : Thread Cert.SOutRefIdeal.nD Cert.SOutRefIdeal.τ).loc Cert.SOutRefIdeal.main_arg0)
      ∧ r.2.mem ((c.tc : Thread Cert.SOutRefIdeal.nD Cert.SOutRefIdeal.τ).loc Cert.SOutRefIdeal.main_arg1) = m ((c.tc : Thread Cert.SOutRefIdeal.nD Cert.SOutRefIdeal.τ).loc Cert.SOutRefIdeal.main_arg1))
      ∧ r.2.sem = fun _ => 0)

def quiescent_SOutB [hSOutB : Cert.SOutB.Facts] : Prop :=
  ∀ (m : (ℓ : Loc Cert.SOutB.nD Cert.SOutB.τ Cert.SOutB.sig) → Buf (Elt Bits) ℓ) (g : Dev Cert.SOutB.nD → PrngReg), Pre_SOutB m →
    θ_run (Cert.SOutB.defs (F := Bits)) (onTc (τ := Cert.SOutB.τ) (Cert.SOutB.main (F := Bits))) ⟨m, fun _ => 0, g⟩ (fun r => (∀ c : Dev Cert.SOutB.nD,
      r.2.mem ((c.tc : Thread Cert.SOutB.nD Cert.SOutB.τ).loc Cert.SOutB.main_arg0) = m ((c.tc : Thread Cert.SOutB.nD Cert.SOutB.τ).loc Cert.SOutB.main_arg0)
      ∧ r.2.mem ((c.tc : Thread Cert.SOutB.nD Cert.SOutB.τ).loc Cert.SOutB.main_arg1) = m ((c.tc : Thread Cert.SOutB.nD Cert.SOutB.τ).loc Cert.SOutB.main_arg1)
      ∧ r.2.mem ((c.tc : Thread Cert.SOutB.nD Cert.SOutB.τ).loc Cert.SOutB.main_arg2) = m ((c.tc : Thread Cert.SOutB.nD Cert.SOutB.τ).loc Cert.SOutB.main_arg2)
      ∧ r.2.mem ((c.tc : Thread Cert.SOutB.nD Cert.SOutB.τ).loc Cert.SOutB.main_arg3) = m ((c.tc : Thread Cert.SOutB.nD Cert.SOutB.τ).loc Cert.SOutB.main_arg3)
      ∧ r.2.mem ((c.tc : Thread Cert.SOutB.nD Cert.SOutB.τ).loc Cert.SOutB.main_arg4) = m ((c.tc : Thread Cert.SOutB.nD Cert.SOutB.τ).loc Cert.SOutB.main_arg4))
      ∧ r.2.sem = fun _ => 0)

def quiescent_SOutBIdeal [hSOutBIdeal : Cert.SOutBIdeal.Facts] : Prop :=
  ∀ (m : (ℓ : Loc Cert.SOutBIdeal.nD Cert.SOutBIdeal.τ Cert.SOutBIdeal.sig) → Buf (Elt Ideal) ℓ) (g : Dev Cert.SOutBIdeal.nD → PrngReg), Pre_SOutBIdeal m →
    θ_run (Cert.SOutBIdeal.defs (F := Ideal)) (onTc (τ := Cert.SOutBIdeal.τ) (Cert.SOutBIdeal.main (F := Ideal))) ⟨m, fun _ => 0, g⟩ (fun r => (∀ c : Dev Cert.SOutBIdeal.nD,
      r.2.mem ((c.tc : Thread Cert.SOutBIdeal.nD Cert.SOutBIdeal.τ).loc Cert.SOutBIdeal.main_arg0) = m ((c.tc : Thread Cert.SOutBIdeal.nD Cert.SOutBIdeal.τ).loc Cert.SOutBIdeal.main_arg0)
      ∧ r.2.mem ((c.tc : Thread Cert.SOutBIdeal.nD Cert.SOutBIdeal.τ).loc Cert.SOutBIdeal.main_arg1) = m ((c.tc : Thread Cert.SOutBIdeal.nD Cert.SOutBIdeal.τ).loc Cert.SOutBIdeal.main_arg1)
      ∧ r.2.mem ((c.tc : Thread Cert.SOutBIdeal.nD Cert.SOutBIdeal.τ).loc Cert.SOutBIdeal.main_arg2) = m ((c.tc : Thread Cert.SOutBIdeal.nD Cert.SOutBIdeal.τ).loc Cert.SOutBIdeal.main_arg2)
      ∧ r.2.mem ((c.tc : Thread Cert.SOutBIdeal.nD Cert.SOutBIdeal.τ).loc Cert.SOutBIdeal.main_arg3) = m ((c.tc : Thread Cert.SOutBIdeal.nD Cert.SOutBIdeal.τ).loc Cert.SOutBIdeal.main_arg3)
      ∧ r.2.mem ((c.tc : Thread Cert.SOutBIdeal.nD Cert.SOutBIdeal.τ).loc Cert.SOutBIdeal.main_arg4) = m ((c.tc : Thread Cert.SOutBIdeal.nD Cert.SOutBIdeal.τ).loc Cert.SOutBIdeal.main_arg4))
      ∧ r.2.sem = fun _ => 0)

def quiescent_SOutBRefIdeal [hSOutBRefIdeal : Cert.SOutBRefIdeal.Facts] : Prop :=
  ∀ (m : (ℓ : Loc Cert.SOutBRefIdeal.nD Cert.SOutBRefIdeal.τ Cert.SOutBRefIdeal.sig) → Buf (Elt Ideal) ℓ) (g : Dev Cert.SOutBRefIdeal.nD → PrngReg), Pre_SOutBRefIdeal m →
    θ_run (Cert.SOutBRefIdeal.defs (F := Ideal)) (onTc (τ := Cert.SOutBRefIdeal.τ) (Cert.SOutBRefIdeal.main (F := Ideal))) ⟨m, fun _ => 0, g⟩ (fun r => (∀ c : Dev Cert.SOutBRefIdeal.nD,
      r.2.mem ((c.tc : Thread Cert.SOutBRefIdeal.nD Cert.SOutBRefIdeal.τ).loc Cert.SOutBRefIdeal.main_arg0) = m ((c.tc : Thread Cert.SOutBRefIdeal.nD Cert.SOutBRefIdeal.τ).loc Cert.SOutBRefIdeal.main_arg0)
      ∧ r.2.mem ((c.tc : Thread Cert.SOutBRefIdeal.nD Cert.SOutBRefIdeal.τ).loc Cert.SOutBRefIdeal.main_arg1) = m ((c.tc : Thread Cert.SOutBRefIdeal.nD Cert.SOutBRefIdeal.τ).loc Cert.SOutBRefIdeal.main_arg1)
      ∧ r.2.mem ((c.tc : Thread Cert.SOutBRefIdeal.nD Cert.SOutBRefIdeal.τ).loc Cert.SOutBRefIdeal.main_arg2) = m ((c.tc : Thread Cert.SOutBRefIdeal.nD Cert.SOutBRefIdeal.τ).loc Cert.SOutBRefIdeal.main_arg2)
      ∧ r.2.mem ((c.tc : Thread Cert.SOutBRefIdeal.nD Cert.SOutBRefIdeal.τ).loc Cert.SOutBRefIdeal.main_arg3) = m ((c.tc : Thread Cert.SOutBRefIdeal.nD Cert.SOutBRefIdeal.τ).loc Cert.SOutBRefIdeal.main_arg3)
      ∧ r.2.mem ((c.tc : Thread Cert.SOutBRefIdeal.nD Cert.SOutBRefIdeal.τ).loc Cert.SOutBRefIdeal.main_arg4) = m ((c.tc : Thread Cert.SOutBRefIdeal.nD Cert.SOutBRefIdeal.τ).loc Cert.SOutBRefIdeal.main_arg4))
      ∧ r.2.sem = fun _ => 0)

def quiescent_ConvOut [hConvOut : Cert.ConvOut.Facts] : Prop :=
  ∀ (m : (ℓ : Loc Cert.ConvOut.nD Cert.ConvOut.τ Cert.ConvOut.sig) → Buf (Elt Bits) ℓ) (g : Dev Cert.ConvOut.nD → PrngReg), Pre_ConvOut m →
    θ_run (Cert.ConvOut.defs (F := Bits)) (onTc (τ := Cert.ConvOut.τ) (Cert.ConvOut.main (F := Bits))) ⟨m, fun _ => 0, g⟩ (fun r => (∀ c : Dev Cert.ConvOut.nD,
      r.2.mem ((c.tc : Thread Cert.ConvOut.nD Cert.ConvOut.τ).loc Cert.ConvOut.main_arg0) = m ((c.tc : Thread Cert.ConvOut.nD Cert.ConvOut.τ).loc Cert.ConvOut.main_arg0)
      ∧ r.2.mem ((c.tc : Thread Cert.ConvOut.nD Cert.ConvOut.τ).loc Cert.ConvOut.main_arg1) = m ((c.tc : Thread Cert.ConvOut.nD Cert.ConvOut.τ).loc Cert.ConvOut.main_arg1)
      ∧ r.2.mem ((c.tc : Thread Cert.ConvOut.nD Cert.ConvOut.τ).loc Cert.ConvOut.main_arg2) = m ((c.tc : Thread Cert.ConvOut.nD Cert.ConvOut.τ).loc Cert.ConvOut.main_arg2)
      ∧ r.2.mem ((c.tc : Thread Cert.ConvOut.nD Cert.ConvOut.τ).loc Cert.ConvOut.main_arg3) = m ((c.tc : Thread Cert.ConvOut.nD Cert.ConvOut.τ).loc Cert.ConvOut.main_arg3))
      ∧ r.2.sem = fun _ => 0)

def quiescent_ConvOutIdeal [hConvOutIdeal : Cert.ConvOutIdeal.Facts] : Prop :=
  ∀ (m : (ℓ : Loc Cert.ConvOutIdeal.nD Cert.ConvOutIdeal.τ Cert.ConvOutIdeal.sig) → Buf (Elt Ideal) ℓ) (g : Dev Cert.ConvOutIdeal.nD → PrngReg), Pre_ConvOutIdeal m →
    θ_run (Cert.ConvOutIdeal.defs (F := Ideal)) (onTc (τ := Cert.ConvOutIdeal.τ) (Cert.ConvOutIdeal.main (F := Ideal))) ⟨m, fun _ => 0, g⟩ (fun r => (∀ c : Dev Cert.ConvOutIdeal.nD,
      r.2.mem ((c.tc : Thread Cert.ConvOutIdeal.nD Cert.ConvOutIdeal.τ).loc Cert.ConvOutIdeal.main_arg0) = m ((c.tc : Thread Cert.ConvOutIdeal.nD Cert.ConvOutIdeal.τ).loc Cert.ConvOutIdeal.main_arg0)
      ∧ r.2.mem ((c.tc : Thread Cert.ConvOutIdeal.nD Cert.ConvOutIdeal.τ).loc Cert.ConvOutIdeal.main_arg1) = m ((c.tc : Thread Cert.ConvOutIdeal.nD Cert.ConvOutIdeal.τ).loc Cert.ConvOutIdeal.main_arg1)
      ∧ r.2.mem ((c.tc : Thread Cert.ConvOutIdeal.nD Cert.ConvOutIdeal.τ).loc Cert.ConvOutIdeal.main_arg2) = m ((c.tc : Thread Cert.ConvOutIdeal.nD Cert.ConvOutIdeal.τ).loc Cert.ConvOutIdeal.main_arg2)
      ∧ r.2.mem ((c.tc : Thread Cert.ConvOutIdeal.nD Cert.ConvOutIdeal.τ).loc Cert.ConvOutIdeal.main_arg3) = m ((c.tc : Thread Cert.ConvOutIdeal.nD Cert.ConvOutIdeal.τ).loc Cert.ConvOutIdeal.main_arg3))
      ∧ r.2.sem = fun _ => 0)

def quiescent_ConvOutRefIdeal [hConvOutRefIdeal : Cert.ConvOutRefIdeal.Facts] : Prop :=
  ∀ (m : (ℓ : Loc Cert.ConvOutRefIdeal.nD Cert.ConvOutRefIdeal.τ Cert.ConvOutRefIdeal.sig) → Buf (Elt Ideal) ℓ) (g : Dev Cert.ConvOutRefIdeal.nD → PrngReg), Pre_ConvOutRefIdeal m →
    θ_run (Cert.ConvOutRefIdeal.defs (F := Ideal)) (onTc (τ := Cert.ConvOutRefIdeal.τ) (Cert.ConvOutRefIdeal.main (F := Ideal))) ⟨m, fun _ => 0, g⟩ (fun r => (∀ c : Dev Cert.ConvOutRefIdeal.nD,
      r.2.mem ((c.tc : Thread Cert.ConvOutRefIdeal.nD Cert.ConvOutRefIdeal.τ).loc Cert.ConvOutRefIdeal.main_arg0) = m ((c.tc : Thread Cert.ConvOutRefIdeal.nD Cert.ConvOutRefIdeal.τ).loc Cert.ConvOutRefIdeal.main_arg0)
      ∧ r.2.mem ((c.tc : Thread Cert.ConvOutRefIdeal.nD Cert.ConvOutRefIdeal.τ).loc Cert.ConvOutRefIdeal.main_arg1) = m ((c.tc : Thread Cert.ConvOutRefIdeal.nD Cert.ConvOutRefIdeal.τ).loc Cert.ConvOutRefIdeal.main_arg1)
      ∧ r.2.mem ((c.tc : Thread Cert.ConvOutRefIdeal.nD Cert.ConvOutRefIdeal.τ).loc Cert.ConvOutRefIdeal.main_arg2) = m ((c.tc : Thread Cert.ConvOutRefIdeal.nD Cert.ConvOutRefIdeal.τ).loc Cert.ConvOutRefIdeal.main_arg2)
      ∧ r.2.mem ((c.tc : Thread Cert.ConvOutRefIdeal.nD Cert.ConvOutRefIdeal.τ).loc Cert.ConvOutRefIdeal.main_arg3) = m ((c.tc : Thread Cert.ConvOutRefIdeal.nD Cert.ConvOutRefIdeal.τ).loc Cert.ConvOutRefIdeal.main_arg3))
      ∧ r.2.sem = fun _ => 0)

def quiescent_ConvOutB [hConvOutB : Cert.ConvOutB.Facts] : Prop :=
  ∀ (m : (ℓ : Loc Cert.ConvOutB.nD Cert.ConvOutB.τ Cert.ConvOutB.sig) → Buf (Elt Bits) ℓ) (g : Dev Cert.ConvOutB.nD → PrngReg), Pre_ConvOutB m →
    θ_run (Cert.ConvOutB.defs (F := Bits)) (onTc (τ := Cert.ConvOutB.τ) (Cert.ConvOutB.main (F := Bits))) ⟨m, fun _ => 0, g⟩ (fun r => (∀ c : Dev Cert.ConvOutB.nD,
      r.2.mem ((c.tc : Thread Cert.ConvOutB.nD Cert.ConvOutB.τ).loc Cert.ConvOutB.main_arg0) = m ((c.tc : Thread Cert.ConvOutB.nD Cert.ConvOutB.τ).loc Cert.ConvOutB.main_arg0)
      ∧ r.2.mem ((c.tc : Thread Cert.ConvOutB.nD Cert.ConvOutB.τ).loc Cert.ConvOutB.main_arg1) = m ((c.tc : Thread Cert.ConvOutB.nD Cert.ConvOutB.τ).loc Cert.ConvOutB.main_arg1))
      ∧ r.2.sem = fun _ => 0)

def quiescent_ConvOutBIdeal [hConvOutBIdeal : Cert.ConvOutBIdeal.Facts] : Prop :=
  ∀ (m : (ℓ : Loc Cert.ConvOutBIdeal.nD Cert.ConvOutBIdeal.τ Cert.ConvOutBIdeal.sig) → Buf (Elt Ideal) ℓ) (g : Dev Cert.ConvOutBIdeal.nD → PrngReg), Pre_ConvOutBIdeal m →
    θ_run (Cert.ConvOutBIdeal.defs (F := Ideal)) (onTc (τ := Cert.ConvOutBIdeal.τ) (Cert.ConvOutBIdeal.main (F := Ideal))) ⟨m, fun _ => 0, g⟩ (fun r => (∀ c : Dev Cert.ConvOutBIdeal.nD,
      r.2.mem ((c.tc : Thread Cert.ConvOutBIdeal.nD Cert.ConvOutBIdeal.τ).loc Cert.ConvOutBIdeal.main_arg0) = m ((c.tc : Thread Cert.ConvOutBIdeal.nD Cert.ConvOutBIdeal.τ).loc Cert.ConvOutBIdeal.main_arg0)
      ∧ r.2.mem ((c.tc : Thread Cert.ConvOutBIdeal.nD Cert.ConvOutBIdeal.τ).loc Cert.ConvOutBIdeal.main_arg1) = m ((c.tc : Thread Cert.ConvOutBIdeal.nD Cert.ConvOutBIdeal.τ).loc Cert.ConvOutBIdeal.main_arg1))
      ∧ r.2.sem = fun _ => 0)

def quiescent_ConvOutBRefIdeal [hConvOutBRefIdeal : Cert.ConvOutBRefIdeal.Facts] : Prop :=
  ∀ (m : (ℓ : Loc Cert.ConvOutBRefIdeal.nD Cert.ConvOutBRefIdeal.τ Cert.ConvOutBRefIdeal.sig) → Buf (Elt Ideal) ℓ) (g : Dev Cert.ConvOutBRefIdeal.nD → PrngReg), Pre_ConvOutBRefIdeal m →
    θ_run (Cert.ConvOutBRefIdeal.defs (F := Ideal)) (onTc (τ := Cert.ConvOutBRefIdeal.τ) (Cert.ConvOutBRefIdeal.main (F := Ideal))) ⟨m, fun _ => 0, g⟩ (fun r => (∀ c : Dev Cert.ConvOutBRefIdeal.nD,
      r.2.mem ((c.tc : Thread Cert.ConvOutBRefIdeal.nD Cert.ConvOutBRefIdeal.τ).loc Cert.ConvOutBRefIdeal.main_arg0) = m ((c.tc : Thread Cert.ConvOutBRefIdeal.nD Cert.ConvOutBRefIdeal.τ).loc Cert.ConvOutBRefIdeal.main_arg0)
      ∧ r.2.mem ((c.tc : Thread Cert.ConvOutBRefIdeal.nD Cert.ConvOutBRefIdeal.τ).loc Cert.ConvOutBRefIdeal.main_arg1) = m ((c.tc : Thread Cert.ConvOutBRefIdeal.nD Cert.ConvOutBRefIdeal.τ).loc Cert.ConvOutBRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2))
      ∧ r.2.sem = fun _ => 0)

def quiescent_GluDw [hGluDw : Cert.GluDw.Facts] : Prop :=
  ∀ (m : (ℓ : Loc Cert.GluDw.nD Cert.GluDw.τ Cert.GluDw.sig) → Buf (Elt Bits) ℓ) (g : Dev Cert.GluDw.nD → PrngReg), Pre_GluDw m →
    θ_run (Cert.GluDw.defs (F := Bits)) (onTc (τ := Cert.GluDw.τ) (Cert.GluDw.main (F := Bits))) ⟨m, fun _ => 0, g⟩ (fun r => (∀ c : Dev Cert.GluDw.nD,
      r.2.mem ((c.tc : Thread Cert.GluDw.nD Cert.GluDw.τ).loc Cert.GluDw.main_arg0) = m ((c.tc : Thread Cert.GluDw.nD Cert.GluDw.τ).loc Cert.GluDw.main_arg0)
      ∧ r.2.mem ((c.tc : Thread Cert.GluDw.nD Cert.GluDw.τ).loc Cert.GluDw.main_arg1) = m ((c.tc : Thread Cert.GluDw.nD Cert.GluDw.τ).loc Cert.GluDw.main_arg1))
      ∧ r.2.sem = fun _ => 0)

def quiescent_GluDwIdeal [hGluDwIdeal : Cert.GluDwIdeal.Facts] : Prop :=
  ∀ (m : (ℓ : Loc Cert.GluDwIdeal.nD Cert.GluDwIdeal.τ Cert.GluDwIdeal.sig) → Buf (Elt Ideal) ℓ) (g : Dev Cert.GluDwIdeal.nD → PrngReg), Pre_GluDwIdeal m →
    θ_run (Cert.GluDwIdeal.defs (F := Ideal)) (onTc (τ := Cert.GluDwIdeal.τ) (Cert.GluDwIdeal.main (F := Ideal))) ⟨m, fun _ => 0, g⟩ (fun r => (∀ c : Dev Cert.GluDwIdeal.nD,
      r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
      ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1))
      ∧ r.2.sem = fun _ => 0)

def quiescent_GluDwRefIdeal [hGluDwRefIdeal : Cert.GluDwRefIdeal.Facts] : Prop :=
  ∀ (m : (ℓ : Loc Cert.GluDwRefIdeal.nD Cert.GluDwRefIdeal.τ Cert.GluDwRefIdeal.sig) → Buf (Elt Ideal) ℓ) (g : Dev Cert.GluDwRefIdeal.nD → PrngReg), Pre_GluDwRefIdeal m →
    θ_run (Cert.GluDwRefIdeal.defs (F := Ideal)) (onTc (τ := Cert.GluDwRefIdeal.τ) (Cert.GluDwRefIdeal.main (F := Ideal))) ⟨m, fun _ => 0, g⟩ (fun r => (∀ c : Dev Cert.GluDwRefIdeal.nD,
      r.2.mem ((c.tc : Thread Cert.GluDwRefIdeal.nD Cert.GluDwRefIdeal.τ).loc Cert.GluDwRefIdeal.main_arg0) = m ((c.tc : Thread Cert.GluDwRefIdeal.nD Cert.GluDwRefIdeal.τ).loc Cert.GluDwRefIdeal.main_arg0)
      ∧ r.2.mem ((c.tc : Thread Cert.GluDwRefIdeal.nD Cert.GluDwRefIdeal.τ).loc Cert.GluDwRefIdeal.main_arg1) = m ((c.tc : Thread Cert.GluDwRefIdeal.nD Cert.GluDwRefIdeal.τ).loc Cert.GluDwRefIdeal.main_arg1))
      ∧ r.2.sem = fun _ => 0)

def quiescent_Dw [hDw : Cert.Dw.Facts] [hPre_on_a_device : Cert.Pre_on_a_device.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1)
      ∧ r.2.mem ((c.tc : Thread Cert.Dw.nD Cert.Dw.τ).loc Cert.Dw.main_arg2) = m ((c.tc : Thread Cert.Dw.nD Cert.Dw.τ).loc Cert.Dw.main_arg2))
      ∧ r.2.sem = fun _ => 0)

def quiescent_DwIdeal [hDwIdeal : Cert.DwIdeal.Facts] [hPre_on_a_device : Cert.Pre_on_a_device.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
      ∧ r.2.mem ((c.tc : Thread Cert.DwIdeal.nD Cert.DwIdeal.τ).loc Cert.DwIdeal.main_arg2) = m ((c.tc : Thread Cert.DwIdeal.nD Cert.DwIdeal.τ).loc Cert.DwIdeal.main_arg2))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1)
      ∧ r.2.mem ((c.tc : Thread Cert.DwRefIdeal.nD Cert.DwRefIdeal.τ).loc Cert.DwRefIdeal.main_arg2) = m ((c.tc : Thread Cert.DwRefIdeal.nD Cert.DwRefIdeal.τ).loc Cert.DwRefIdeal.main_arg2))
      ∧ r.2.sem = fun _ => 0)

def quiescent_DwRefIdeal_pre_on_a_device [hDwRefIdeal : Cert.DwRefIdeal.Facts] [hPre_on_a_device : Cert.Pre_on_a_device.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal_on_a_device m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1)
      ∧ r.2.mem ((c.tc : Thread Cert.DwRefIdeal.nD Cert.DwRefIdeal.τ).loc Cert.DwRefIdeal.main_arg2) = m ((c.tc : Thread Cert.DwRefIdeal.nD Cert.DwRefIdeal.τ).loc Cert.DwRefIdeal.main_arg2))
      ∧ r.2.sem = fun _ => 0)

def quiescent_DwD [hDwD : Cert.DwD.Facts] [hPre_on_a_device : Cert.Pre_on_a_device.Facts] : Prop :=
  ∀ (m : (ℓ : Loc Cert.DwD.nD Cert.DwD.τ Cert.DwD.sig) → Buf (Elt Bits) ℓ) (g : Dev Cert.DwD.nD → PrngReg), Pre_DwD m →
    θ_run (Cert.DwD.defs (F := Bits)) (onTc (τ := Cert.DwD.τ) (Cert.DwD.main (F := Bits))) ⟨m, fun _ => 0, g⟩ (fun r => (∀ c : Dev Cert.DwD.nD,
      r.2.mem ((c.tc : Thread Cert.DwD.nD Cert.DwD.τ).loc Cert.DwD.main_arg0) = m ((c.tc : Thread Cert.DwD.nD Cert.DwD.τ).loc Cert.DwD.main_arg0)
      ∧ r.2.mem ((c.tc : Thread Cert.DwD.nD Cert.DwD.τ).loc Cert.DwD.main_arg1) = m ((c.tc : Thread Cert.DwD.nD Cert.DwD.τ).loc Cert.DwD.main_arg1)
      ∧ r.2.mem ((c.tc : Thread Cert.DwD.nD Cert.DwD.τ).loc Cert.DwD.main_arg2) = m ((c.tc : Thread Cert.DwD.nD Cert.DwD.τ).loc Cert.DwD.main_arg2))
      ∧ r.2.sem = fun _ => 0)

def quiescent_DwDIdeal [hDwDIdeal : Cert.DwDIdeal.Facts] [hPre_on_a_device : Cert.Pre_on_a_device.Facts] : Prop :=
  ∀ (m : (ℓ : Loc Cert.DwDIdeal.nD Cert.DwDIdeal.τ Cert.DwDIdeal.sig) → Buf (Elt Ideal) ℓ) (g : Dev Cert.DwDIdeal.nD → PrngReg), Pre_DwDIdeal m →
    θ_run (Cert.DwDIdeal.defs (F := Ideal)) (onTc (τ := Cert.DwDIdeal.τ) (Cert.DwDIdeal.main (F := Ideal))) ⟨m, fun _ => 0, g⟩ (fun r => (∀ c : Dev Cert.DwDIdeal.nD,
      r.2.mem ((c.tc : Thread Cert.DwDIdeal.nD Cert.DwDIdeal.τ).loc Cert.DwDIdeal.main_arg0) = m ((c.tc : Thread Cert.DwDIdeal.nD Cert.DwDIdeal.τ).loc Cert.DwDIdeal.main_arg0)
      ∧ r.2.mem ((c.tc : Thread Cert.DwDIdeal.nD Cert.DwDIdeal.τ).loc Cert.DwDIdeal.main_arg1) = m ((c.tc : Thread Cert.DwDIdeal.nD Cert.DwDIdeal.τ).loc Cert.DwDIdeal.main_arg1)
      ∧ r.2.mem ((c.tc : Thread Cert.DwDIdeal.nD Cert.DwDIdeal.τ).loc Cert.DwDIdeal.main_arg2) = m ((c.tc : Thread Cert.DwDIdeal.nD Cert.DwDIdeal.τ).loc Cert.DwDIdeal.main_arg2))
      ∧ r.2.sem = fun _ => 0)

def quiescent_DwDRefIdeal [hDwDRefIdeal : Cert.DwDRefIdeal.Facts] : Prop :=
  ∀ (m : (ℓ : Loc Cert.DwDRefIdeal.nD Cert.DwDRefIdeal.τ Cert.DwDRefIdeal.sig) → Buf (Elt Ideal) ℓ) (g : Dev Cert.DwDRefIdeal.nD → PrngReg), Pre_DwDRefIdeal m →
    θ_run (Cert.DwDRefIdeal.defs (F := Ideal)) (onTc (τ := Cert.DwDRefIdeal.τ) (Cert.DwDRefIdeal.main (F := Ideal))) ⟨m, fun _ => 0, g⟩ (fun r => (∀ c : Dev Cert.DwDRefIdeal.nD,
      r.2.mem ((c.tc : Thread Cert.DwDRefIdeal.nD Cert.DwDRefIdeal.τ).loc Cert.DwDRefIdeal.main_arg0) = m ((c.tc : Thread Cert.DwDRefIdeal.nD Cert.DwDRefIdeal.τ).loc Cert.DwDRefIdeal.main_arg0)
      ∧ r.2.mem ((c.tc : Thread Cert.DwDRefIdeal.nD Cert.DwDRefIdeal.τ).loc Cert.DwDRefIdeal.main_arg1) = m ((c.tc : Thread Cert.DwDRefIdeal.nD Cert.DwDRefIdeal.τ).loc Cert.DwDRefIdeal.main_arg1)
      ∧ r.2.mem ((c.tc : Thread Cert.DwDRefIdeal.nD Cert.DwDRefIdeal.τ).loc Cert.DwDRefIdeal.main_arg2) = m ((c.tc : Thread Cert.DwDRefIdeal.nD Cert.DwDRefIdeal.τ).loc Cert.DwDRefIdeal.main_arg2))
      ∧ r.2.sem = fun _ => 0)

def quiescent_DwDRefIdeal_pre_on_a_device [hDwDRefIdeal : Cert.DwDRefIdeal.Facts] [hPre_on_a_device : Cert.Pre_on_a_device.Facts] : Prop :=
  ∀ (m : (ℓ : Loc Cert.DwDRefIdeal.nD Cert.DwDRefIdeal.τ Cert.DwDRefIdeal.sig) → Buf (Elt Ideal) ℓ) (g : Dev Cert.DwDRefIdeal.nD → PrngReg), Pre_DwDRefIdeal_on_a_device m →
    θ_run (Cert.DwDRefIdeal.defs (F := Ideal)) (onTc (τ := Cert.DwDRefIdeal.τ) (Cert.DwDRefIdeal.main (F := Ideal))) ⟨m, fun _ => 0, g⟩ (fun r => (∀ c : Dev Cert.DwDRefIdeal.nD,
      r.2.mem ((c.tc : Thread Cert.DwDRefIdeal.nD Cert.DwDRefIdeal.τ).loc Cert.DwDRefIdeal.main_arg0) = m ((c.tc : Thread Cert.DwDRefIdeal.nD Cert.DwDRefIdeal.τ).loc Cert.DwDRefIdeal.main_arg0)
      ∧ r.2.mem ((c.tc : Thread Cert.DwDRefIdeal.nD Cert.DwDRefIdeal.τ).loc Cert.DwDRefIdeal.main_arg1) = m ((c.tc : Thread Cert.DwDRefIdeal.nD Cert.DwDRefIdeal.τ).loc Cert.DwDRefIdeal.main_arg1)
      ∧ r.2.mem ((c.tc : Thread Cert.DwDRefIdeal.nD Cert.DwDRefIdeal.τ).loc Cert.DwDRefIdeal.main_arg2) = m ((c.tc : Thread Cert.DwDRefIdeal.nD Cert.DwDRefIdeal.τ).loc Cert.DwDRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_NormB [hNormB : Cert.NormB.Facts] : Prop :=
  ∀ (m : (ℓ : Loc Cert.NormB.nD Cert.NormB.τ Cert.NormB.sig) → Buf (Elt Bits) ℓ) (g : Dev Cert.NormB.nD → PrngReg), Pre_NormB m →
    θ_run (Cert.NormB.defs (F := Bits)) (onTc (τ := Cert.NormB.τ) (Cert.NormB.main (F := Bits))) ⟨m, fun _ => 0, g⟩ (fun r => (∀ c : Dev Cert.NormB.nD,
      r.2.mem ((c.tc : Thread Cert.NormB.nD Cert.NormB.τ).loc Cert.NormB.main_arg0) = m ((c.tc : Thread Cert.NormB.nD Cert.NormB.τ).loc Cert.NormB.main_arg0)
      ∧ r.2.mem ((c.tc : Thread Cert.NormB.nD Cert.NormB.τ).loc Cert.NormB.main_arg1) = m ((c.tc : Thread Cert.NormB.nD Cert.NormB.τ).loc Cert.NormB.main_arg1)
      ∧ r.2.mem ((c.tc : Thread Cert.NormB.nD Cert.NormB.τ).loc Cert.NormB.main_arg2) = m ((c.tc : Thread Cert.NormB.nD Cert.NormB.τ).loc Cert.NormB.main_arg2)
      ∧ r.2.mem ((c.tc : Thread Cert.NormB.nD Cert.NormB.τ).loc Cert.NormB.main_arg3) = m ((c.tc : Thread Cert.NormB.nD Cert.NormB.τ).loc Cert.NormB.main_arg3))
      ∧ r.2.sem = fun _ => 0)

def quiescent_NormBIdeal [hNormBIdeal : Cert.NormBIdeal.Facts] : Prop :=
  ∀ (m : (ℓ : Loc Cert.NormBIdeal.nD Cert.NormBIdeal.τ Cert.NormBIdeal.sig) → Buf (Elt Ideal) ℓ) (g : Dev Cert.NormBIdeal.nD → PrngReg), Pre_NormBIdeal m →
    θ_run (Cert.NormBIdeal.defs (F := Ideal)) (onTc (τ := Cert.NormBIdeal.τ) (Cert.NormBIdeal.main (F := Ideal))) ⟨m, fun _ => 0, g⟩ (fun r => (∀ c : Dev Cert.NormBIdeal.nD,
      r.2.mem ((c.tc : Thread Cert.NormBIdeal.nD Cert.NormBIdeal.τ).loc Cert.NormBIdeal.main_arg0) = m ((c.tc : Thread Cert.NormBIdeal.nD Cert.NormBIdeal.τ).loc Cert.NormBIdeal.main_arg0)
      ∧ r.2.mem ((c.tc : Thread Cert.NormBIdeal.nD Cert.NormBIdeal.τ).loc Cert.NormBIdeal.main_arg1) = m ((c.tc : Thread Cert.NormBIdeal.nD Cert.NormBIdeal.τ).loc Cert.NormBIdeal.main_arg1)
      ∧ r.2.mem ((c.tc : Thread Cert.NormBIdeal.nD Cert.NormBIdeal.τ).loc Cert.NormBIdeal.main_arg2) = m ((c.tc : Thread Cert.NormBIdeal.nD Cert.NormBIdeal.τ).loc Cert.NormBIdeal.main_arg2)
      ∧ r.2.mem ((c.tc : Thread Cert.NormBIdeal.nD Cert.NormBIdeal.τ).loc Cert.NormBIdeal.main_arg3) = m ((c.tc : Thread Cert.NormBIdeal.nD Cert.NormBIdeal.τ).loc Cert.NormBIdeal.main_arg3))
      ∧ r.2.sem = fun _ => 0)

def quiescent_NormBRefIdeal [hNormBRefIdeal : Cert.NormBRefIdeal.Facts] : Prop :=
  ∀ (m : (ℓ : Loc Cert.NormBRefIdeal.nD Cert.NormBRefIdeal.τ Cert.NormBRefIdeal.sig) → Buf (Elt Ideal) ℓ) (g : Dev Cert.NormBRefIdeal.nD → PrngReg), Pre_NormBRefIdeal m →
    θ_run (Cert.NormBRefIdeal.defs (F := Ideal)) (onTc (τ := Cert.NormBRefIdeal.τ) (Cert.NormBRefIdeal.main (F := Ideal))) ⟨m, fun _ => 0, g⟩ (fun r => (∀ c : Dev Cert.NormBRefIdeal.nD,
      r.2.mem ((c.tc : Thread Cert.NormBRefIdeal.nD Cert.NormBRefIdeal.τ).loc Cert.NormBRefIdeal.main_arg0) = m ((c.tc : Thread Cert.NormBRefIdeal.nD Cert.NormBRefIdeal.τ).loc Cert.NormBRefIdeal.main_arg0)
      ∧ r.2.mem ((c.tc : Thread Cert.NormBRefIdeal.nD Cert.NormBRefIdeal.τ).loc Cert.NormBRefIdeal.main_arg1) = m ((c.tc : Thread Cert.NormBRefIdeal.nD Cert.NormBRefIdeal.τ).loc Cert.NormBRefIdeal.main_arg1)
      ∧ r.2.mem ((c.tc : Thread Cert.NormBRefIdeal.nD Cert.NormBRefIdeal.τ).loc Cert.NormBRefIdeal.main_arg2) = m ((c.tc : Thread Cert.NormBRefIdeal.nD Cert.NormBRefIdeal.τ).loc Cert.NormBRefIdeal.main_arg2)
      ∧ r.2.mem ((c.tc : Thread Cert.NormBRefIdeal.nD Cert.NormBRefIdeal.τ).loc Cert.NormBRefIdeal.main_arg3) = m ((c.tc : Thread Cert.NormBRefIdeal.nD Cert.NormBRefIdeal.τ).loc Cert.NormBRefIdeal.main_arg3))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_ConvF [hConvF : Cert.ConvF.Facts] : Prop :=
  ∀ (m : (ℓ : Loc Cert.ConvF.nD Cert.ConvF.τ Cert.ConvF.sig) → Buf (Elt Bits) ℓ) (g : Dev Cert.ConvF.nD → PrngReg), Pre_ConvF m →
    θ_run (Cert.ConvF.defs (F := Bits)) (onTc (τ := Cert.ConvF.τ) (Cert.ConvF.main (F := Bits))) ⟨m, fun _ => 0, g⟩ (fun r => (∀ c : Dev Cert.ConvF.nD,
      r.2.mem ((c.tc : Thread Cert.ConvF.nD Cert.ConvF.τ).loc Cert.ConvF.main_arg0) = m ((c.tc : Thread Cert.ConvF.nD Cert.ConvF.τ).loc Cert.ConvF.main_arg0)
      ∧ r.2.mem ((c.tc : Thread Cert.ConvF.nD Cert.ConvF.τ).loc Cert.ConvF.main_arg1) = m ((c.tc : Thread Cert.ConvF.nD Cert.ConvF.τ).loc Cert.ConvF.main_arg1)
      ∧ r.2.mem ((c.tc : Thread Cert.ConvF.nD Cert.ConvF.τ).loc Cert.ConvF.main_arg2) = m ((c.tc : Thread Cert.ConvF.nD Cert.ConvF.τ).loc Cert.ConvF.main_arg2))
      ∧ r.2.sem = fun _ => 0)

def quiescent_ConvFIdeal [hConvFIdeal : Cert.ConvFIdeal.Facts] : Prop :=
  ∀ (m : (ℓ : Loc Cert.ConvFIdeal.nD Cert.ConvFIdeal.τ Cert.ConvFIdeal.sig) → Buf (Elt Ideal) ℓ) (g : Dev Cert.ConvFIdeal.nD → PrngReg), Pre_ConvFIdeal m →
    θ_run (Cert.ConvFIdeal.defs (F := Ideal)) (onTc (τ := Cert.ConvFIdeal.τ) (Cert.ConvFIdeal.main (F := Ideal))) ⟨m, fun _ => 0, g⟩ (fun r => (∀ c : Dev Cert.ConvFIdeal.nD,
      r.2.mem ((c.tc : Thread Cert.ConvFIdeal.nD Cert.ConvFIdeal.τ).loc Cert.ConvFIdeal.main_arg0) = m ((c.tc : Thread Cert.ConvFIdeal.nD Cert.ConvFIdeal.τ).loc Cert.ConvFIdeal.main_arg0)
      ∧ r.2.mem ((c.tc : Thread Cert.ConvFIdeal.nD Cert.ConvFIdeal.τ).loc Cert.ConvFIdeal.main_arg1) = m ((c.tc : Thread Cert.ConvFIdeal.nD Cert.ConvFIdeal.τ).loc Cert.ConvFIdeal.main_arg1)
      ∧ r.2.mem ((c.tc : Thread Cert.ConvFIdeal.nD Cert.ConvFIdeal.τ).loc Cert.ConvFIdeal.main_arg2) = m ((c.tc : Thread Cert.ConvFIdeal.nD Cert.ConvFIdeal.τ).loc Cert.ConvFIdeal.main_arg2))
      ∧ r.2.sem = fun _ => 0)

def quiescent_ConvFRefIdeal [hConvFRefIdeal : Cert.ConvFRefIdeal.Facts] : Prop :=
  ∀ (m : (ℓ : Loc Cert.ConvFRefIdeal.nD Cert.ConvFRefIdeal.τ Cert.ConvFRefIdeal.sig) → Buf (Elt Ideal) ℓ) (g : Dev Cert.ConvFRefIdeal.nD → PrngReg), Pre_ConvFRefIdeal m →
    θ_run (Cert.ConvFRefIdeal.defs (F := Ideal)) (onTc (τ := Cert.ConvFRefIdeal.τ) (Cert.ConvFRefIdeal.main (F := Ideal))) ⟨m, fun _ => 0, g⟩ (fun r => (∀ c : Dev Cert.ConvFRefIdeal.nD,
      r.2.mem ((c.tc : Thread Cert.ConvFRefIdeal.nD Cert.ConvFRefIdeal.τ).loc Cert.ConvFRefIdeal.main_arg0) = m ((c.tc : Thread Cert.ConvFRefIdeal.nD Cert.ConvFRefIdeal.τ).loc Cert.ConvFRefIdeal.main_arg0)
      ∧ r.2.mem ((c.tc : Thread Cert.ConvFRefIdeal.nD Cert.ConvFRefIdeal.τ).loc Cert.ConvFRefIdeal.main_arg1) = m ((c.tc : Thread Cert.ConvFRefIdeal.nD Cert.ConvFRefIdeal.τ).loc Cert.ConvFRefIdeal.main_arg1)
      ∧ r.2.mem ((c.tc : Thread Cert.ConvFRefIdeal.nD Cert.ConvFRefIdeal.τ).loc Cert.ConvFRefIdeal.main_arg2) = m ((c.tc : Thread Cert.ConvFRefIdeal.nD Cert.ConvFRefIdeal.τ).loc Cert.ConvFRefIdeal.main_arg2))
      ∧ r.2.sem = fun _ => 0)

def quiescent_VecG [hVecG : Cert.VecG.Facts] : Prop :=
  ∀ (m : (ℓ : Loc Cert.VecG.nD Cert.VecG.τ Cert.VecG.sig) → Buf (Elt Bits) ℓ) (g : Dev Cert.VecG.nD → PrngReg), Pre_VecG m →
    θ_run (Cert.VecG.defs (F := Bits)) (onTc (τ := Cert.VecG.τ) (Cert.VecG.main (F := Bits))) ⟨m, fun _ => 0, g⟩ (fun r => (∀ c : Dev Cert.VecG.nD,
      r.2.mem ((c.tc : Thread Cert.VecG.nD Cert.VecG.τ).loc Cert.VecG.main_arg0) = m ((c.tc : Thread Cert.VecG.nD Cert.VecG.τ).loc Cert.VecG.main_arg0)
      ∧ r.2.mem ((c.tc : Thread Cert.VecG.nD Cert.VecG.τ).loc Cert.VecG.main_arg1) = m ((c.tc : Thread Cert.VecG.nD Cert.VecG.τ).loc Cert.VecG.main_arg1)
      ∧ r.2.mem ((c.tc : Thread Cert.VecG.nD Cert.VecG.τ).loc Cert.VecG.main_arg2) = m ((c.tc : Thread Cert.VecG.nD Cert.VecG.τ).loc Cert.VecG.main_arg2))
      ∧ r.2.sem = fun _ => 0)

def quiescent_VecGIdeal [hVecGIdeal : Cert.VecGIdeal.Facts] : Prop :=
  ∀ (m : (ℓ : Loc Cert.VecGIdeal.nD Cert.VecGIdeal.τ Cert.VecGIdeal.sig) → Buf (Elt Ideal) ℓ) (g : Dev Cert.VecGIdeal.nD → PrngReg), Pre_VecGIdeal m →
    θ_run (Cert.VecGIdeal.defs (F := Ideal)) (onTc (τ := Cert.VecGIdeal.τ) (Cert.VecGIdeal.main (F := Ideal))) ⟨m, fun _ => 0, g⟩ (fun r => (∀ c : Dev Cert.VecGIdeal.nD,
      r.2.mem ((c.tc : Thread Cert.VecGIdeal.nD Cert.VecGIdeal.τ).loc Cert.VecGIdeal.main_arg0) = m ((c.tc : Thread Cert.VecGIdeal.nD Cert.VecGIdeal.τ).loc Cert.VecGIdeal.main_arg0)
      ∧ r.2.mem ((c.tc : Thread Cert.VecGIdeal.nD Cert.VecGIdeal.τ).loc Cert.VecGIdeal.main_arg1) = m ((c.tc : Thread Cert.VecGIdeal.nD Cert.VecGIdeal.τ).loc Cert.VecGIdeal.main_arg1)
      ∧ r.2.mem ((c.tc : Thread Cert.VecGIdeal.nD Cert.VecGIdeal.τ).loc Cert.VecGIdeal.main_arg2) = m ((c.tc : Thread Cert.VecGIdeal.nD Cert.VecGIdeal.τ).loc Cert.VecGIdeal.main_arg2))
      ∧ r.2.sem = fun _ => 0)

def quiescent_VecGRefIdeal [hVecGRefIdeal : Cert.VecGRefIdeal.Facts] : Prop :=
  ∀ (m : (ℓ : Loc Cert.VecGRefIdeal.nD Cert.VecGRefIdeal.τ Cert.VecGRefIdeal.sig) → Buf (Elt Ideal) ℓ) (g : Dev Cert.VecGRefIdeal.nD → PrngReg), Pre_VecGRefIdeal m →
    θ_run (Cert.VecGRefIdeal.defs (F := Ideal)) (onTc (τ := Cert.VecGRefIdeal.τ) (Cert.VecGRefIdeal.main (F := Ideal))) ⟨m, fun _ => 0, g⟩ (fun r => (∀ c : Dev Cert.VecGRefIdeal.nD,
      r.2.mem ((c.tc : Thread Cert.VecGRefIdeal.nD Cert.VecGRefIdeal.τ).loc Cert.VecGRefIdeal.main_arg0) = m ((c.tc : Thread Cert.VecGRefIdeal.nD Cert.VecGRefIdeal.τ).loc Cert.VecGRefIdeal.main_arg0)
      ∧ r.2.mem ((c.tc : Thread Cert.VecGRefIdeal.nD Cert.VecGRefIdeal.τ).loc Cert.VecGRefIdeal.main_arg1) = m ((c.tc : Thread Cert.VecGRefIdeal.nD Cert.VecGRefIdeal.τ).loc Cert.VecGRefIdeal.main_arg1)
      ∧ r.2.mem ((c.tc : Thread Cert.VecGRefIdeal.nD Cert.VecGRefIdeal.τ).loc Cert.VecGRefIdeal.main_arg2) = m ((c.tc : Thread Cert.VecGRefIdeal.nD Cert.VecGRefIdeal.τ).loc Cert.VecGRefIdeal.main_arg2))
      ∧ r.2.sem = fun _ => 0)

def quiescent_Disc [hDisc : Cert.Disc.Facts] : Prop :=
  ∀ (m : (ℓ : Loc Cert.Disc.nD Cert.Disc.τ Cert.Disc.sig) → Buf (Elt Bits) ℓ) (g : Dev Cert.Disc.nD → PrngReg), Pre_Disc m →
    θ_run (Cert.Disc.defs (F := Bits)) (onTc (τ := Cert.Disc.τ) (Cert.Disc.main (F := Bits))) ⟨m, fun _ => 0, g⟩ (fun r => (∀ c : Dev Cert.Disc.nD,
      r.2.mem ((c.tc : Thread Cert.Disc.nD Cert.Disc.τ).loc Cert.Disc.main_arg0) = m ((c.tc : Thread Cert.Disc.nD Cert.Disc.τ).loc Cert.Disc.main_arg0)
      ∧ r.2.mem ((c.tc : Thread Cert.Disc.nD Cert.Disc.τ).loc Cert.Disc.main_arg1) = m ((c.tc : Thread Cert.Disc.nD Cert.Disc.τ).loc Cert.Disc.main_arg1)
      ∧ r.2.mem ((c.tc : Thread Cert.Disc.nD Cert.Disc.τ).loc Cert.Disc.main_arg2) = m ((c.tc : Thread Cert.Disc.nD Cert.Disc.τ).loc Cert.Disc.main_arg2)
      ∧ r.2.mem ((c.tc : Thread Cert.Disc.nD Cert.Disc.τ).loc Cert.Disc.main_arg3) = m ((c.tc : Thread Cert.Disc.nD Cert.Disc.τ).loc Cert.Disc.main_arg3)
      ∧ r.2.mem ((c.tc : Thread Cert.Disc.nD Cert.Disc.τ).loc Cert.Disc.main_arg4) = m ((c.tc : Thread Cert.Disc.nD Cert.Disc.τ).loc Cert.Disc.main_arg4))
      ∧ r.2.sem = fun _ => 0)

def quiescent_DiscIdeal [hDiscIdeal : Cert.DiscIdeal.Facts] : Prop :=
  ∀ (m : (ℓ : Loc Cert.DiscIdeal.nD Cert.DiscIdeal.τ Cert.DiscIdeal.sig) → Buf (Elt Ideal) ℓ) (g : Dev Cert.DiscIdeal.nD → PrngReg), Pre_DiscIdeal m →
    θ_run (Cert.DiscIdeal.defs (F := Ideal)) (onTc (τ := Cert.DiscIdeal.τ) (Cert.DiscIdeal.main (F := Ideal))) ⟨m, fun _ => 0, g⟩ (fun r => (∀ c : Dev Cert.DiscIdeal.nD,
      r.2.mem ((c.tc : Thread Cert.DiscIdeal.nD Cert.DiscIdeal.τ).loc Cert.DiscIdeal.main_arg0) = m ((c.tc : Thread Cert.DiscIdeal.nD Cert.DiscIdeal.τ).loc Cert.DiscIdeal.main_arg0)
      ∧ r.2.mem ((c.tc : Thread Cert.DiscIdeal.nD Cert.DiscIdeal.τ).loc Cert.DiscIdeal.main_arg1) = m ((c.tc : Thread Cert.DiscIdeal.nD Cert.DiscIdeal.τ).loc Cert.DiscIdeal.main_arg1)
      ∧ r.2.mem ((c.tc : Thread Cert.DiscIdeal.nD Cert.DiscIdeal.τ).loc Cert.DiscIdeal.main_arg2) = m ((c.tc : Thread Cert.DiscIdeal.nD Cert.DiscIdeal.τ).loc Cert.DiscIdeal.main_arg2)
      ∧ r.2.mem ((c.tc : Thread Cert.DiscIdeal.nD Cert.DiscIdeal.τ).loc Cert.DiscIdeal.main_arg3) = m ((c.tc : Thread Cert.DiscIdeal.nD Cert.DiscIdeal.τ).loc Cert.DiscIdeal.main_arg3)
      ∧ r.2.mem ((c.tc : Thread Cert.DiscIdeal.nD Cert.DiscIdeal.τ).loc Cert.DiscIdeal.main_arg4) = m ((c.tc : Thread Cert.DiscIdeal.nD Cert.DiscIdeal.τ).loc Cert.DiscIdeal.main_arg4))
      ∧ r.2.sem = fun _ => 0)

def quiescent_DiscRefIdeal [hDiscRefIdeal : Cert.DiscRefIdeal.Facts] : Prop :=
  ∀ (m : (ℓ : Loc Cert.DiscRefIdeal.nD Cert.DiscRefIdeal.τ Cert.DiscRefIdeal.sig) → Buf (Elt Ideal) ℓ) (g : Dev Cert.DiscRefIdeal.nD → PrngReg), Pre_DiscRefIdeal m →
    θ_run (Cert.DiscRefIdeal.defs (F := Ideal)) (onTc (τ := Cert.DiscRefIdeal.τ) (Cert.DiscRefIdeal.main (F := Ideal))) ⟨m, fun _ => 0, g⟩ (fun r => (∀ c : Dev Cert.DiscRefIdeal.nD,
      r.2.mem ((c.tc : Thread Cert.DiscRefIdeal.nD Cert.DiscRefIdeal.τ).loc Cert.DiscRefIdeal.main_arg0) = m ((c.tc : Thread Cert.DiscRefIdeal.nD Cert.DiscRefIdeal.τ).loc Cert.DiscRefIdeal.main_arg0)
      ∧ r.2.mem ((c.tc : Thread Cert.DiscRefIdeal.nD Cert.DiscRefIdeal.τ).loc Cert.DiscRefIdeal.main_arg1) = m ((c.tc : Thread Cert.DiscRefIdeal.nD Cert.DiscRefIdeal.τ).loc Cert.DiscRefIdeal.main_arg1)
      ∧ r.2.mem ((c.tc : Thread Cert.DiscRefIdeal.nD Cert.DiscRefIdeal.τ).loc Cert.DiscRefIdeal.main_arg2) = m ((c.tc : Thread Cert.DiscRefIdeal.nD Cert.DiscRefIdeal.τ).loc Cert.DiscRefIdeal.main_arg2)
      ∧ r.2.mem ((c.tc : Thread Cert.DiscRefIdeal.nD Cert.DiscRefIdeal.τ).loc Cert.DiscRefIdeal.main_arg3) = m ((c.tc : Thread Cert.DiscRefIdeal.nD Cert.DiscRefIdeal.τ).loc Cert.DiscRefIdeal.main_arg3)
      ∧ r.2.mem ((c.tc : Thread Cert.DiscRefIdeal.nD Cert.DiscRefIdeal.τ).loc Cert.DiscRefIdeal.main_arg4) = m ((c.tc : Thread Cert.DiscRefIdeal.nD Cert.DiscRefIdeal.τ).loc Cert.DiscRefIdeal.main_arg4))
      ∧ r.2.sem = fun _ => 0)

def quiescent_DiscB [hDiscB : Cert.DiscB.Facts] : Prop :=
  ∀ (m : (ℓ : Loc Cert.DiscB.nD Cert.DiscB.τ Cert.DiscB.sig) → Buf (Elt Bits) ℓ) (g : Dev Cert.DiscB.nD → PrngReg), Pre_DiscB m →
    θ_run (Cert.DiscB.defs (F := Bits)) (onTc (τ := Cert.DiscB.τ) (Cert.DiscB.main (F := Bits))) ⟨m, fun _ => 0, g⟩ (fun r => (∀ c : Dev Cert.DiscB.nD,
      r.2.mem ((c.tc : Thread Cert.DiscB.nD Cert.DiscB.τ).loc Cert.DiscB.main_arg0) = m ((c.tc : Thread Cert.DiscB.nD Cert.DiscB.τ).loc Cert.DiscB.main_arg0)
      ∧ r.2.mem ((c.tc : Thread Cert.DiscB.nD Cert.DiscB.τ).loc Cert.DiscB.main_arg1) = m ((c.tc : Thread Cert.DiscB.nD Cert.DiscB.τ).loc Cert.DiscB.main_arg1)
      ∧ r.2.mem ((c.tc : Thread Cert.DiscB.nD Cert.DiscB.τ).loc Cert.DiscB.main_arg2) = m ((c.tc : Thread Cert.DiscB.nD Cert.DiscB.τ).loc Cert.DiscB.main_arg2)
      ∧ r.2.mem ((c.tc : Thread Cert.DiscB.nD Cert.DiscB.τ).loc Cert.DiscB.main_arg3) = m ((c.tc : Thread Cert.DiscB.nD Cert.DiscB.τ).loc Cert.DiscB.main_arg3)
      ∧ r.2.mem ((c.tc : Thread Cert.DiscB.nD Cert.DiscB.τ).loc Cert.DiscB.main_arg4) = m ((c.tc : Thread Cert.DiscB.nD Cert.DiscB.τ).loc Cert.DiscB.main_arg4)
      ∧ r.2.mem ((c.tc : Thread Cert.DiscB.nD Cert.DiscB.τ).loc Cert.DiscB.main_arg5) = m ((c.tc : Thread Cert.DiscB.nD Cert.DiscB.τ).loc Cert.DiscB.main_arg5)
      ∧ r.2.mem ((c.tc : Thread Cert.DiscB.nD Cert.DiscB.τ).loc Cert.DiscB.main_arg6) = m ((c.tc : Thread Cert.DiscB.nD Cert.DiscB.τ).loc Cert.DiscB.main_arg6)
      ∧ r.2.mem ((c.tc : Thread Cert.DiscB.nD Cert.DiscB.τ).loc Cert.DiscB.main_arg7) = m ((c.tc : Thread Cert.DiscB.nD Cert.DiscB.τ).loc Cert.DiscB.main_arg7)
      ∧ r.2.mem ((c.tc : Thread Cert.DiscB.nD Cert.DiscB.τ).loc Cert.DiscB.main_arg8) = m ((c.tc : Thread Cert.DiscB.nD Cert.DiscB.τ).loc Cert.DiscB.main_arg8))
      ∧ r.2.sem = fun _ => 0)

def quiescent_DiscBIdeal [hDiscBIdeal : Cert.DiscBIdeal.Facts] : Prop :=
  ∀ (m : (ℓ : Loc Cert.DiscBIdeal.nD Cert.DiscBIdeal.τ Cert.DiscBIdeal.sig) → Buf (Elt Ideal) ℓ) (g : Dev Cert.DiscBIdeal.nD → PrngReg), Pre_DiscBIdeal m →
    θ_run (Cert.DiscBIdeal.defs (F := Ideal)) (onTc (τ := Cert.DiscBIdeal.τ) (Cert.DiscBIdeal.main (F := Ideal))) ⟨m, fun _ => 0, g⟩ (fun r => (∀ c : Dev Cert.DiscBIdeal.nD,
      r.2.mem ((c.tc : Thread Cert.DiscBIdeal.nD Cert.DiscBIdeal.τ).loc Cert.DiscBIdeal.main_arg0) = m ((c.tc : Thread Cert.DiscBIdeal.nD Cert.DiscBIdeal.τ).loc Cert.DiscBIdeal.main_arg0)
      ∧ r.2.mem ((c.tc : Thread Cert.DiscBIdeal.nD Cert.DiscBIdeal.τ).loc Cert.DiscBIdeal.main_arg1) = m ((c.tc : Thread Cert.DiscBIdeal.nD Cert.DiscBIdeal.τ).loc Cert.DiscBIdeal.main_arg1)
      ∧ r.2.mem ((c.tc : Thread Cert.DiscBIdeal.nD Cert.DiscBIdeal.τ).loc Cert.DiscBIdeal.main_arg2) = m ((c.tc : Thread Cert.DiscBIdeal.nD Cert.DiscBIdeal.τ).loc Cert.DiscBIdeal.main_arg2)
      ∧ r.2.mem ((c.tc : Thread Cert.DiscBIdeal.nD Cert.DiscBIdeal.τ).loc Cert.DiscBIdeal.main_arg3) = m ((c.tc : Thread Cert.DiscBIdeal.nD Cert.DiscBIdeal.τ).loc Cert.DiscBIdeal.main_arg3)
      ∧ r.2.mem ((c.tc : Thread Cert.DiscBIdeal.nD Cert.DiscBIdeal.τ).loc Cert.DiscBIdeal.main_arg4) = m ((c.tc : Thread Cert.DiscBIdeal.nD Cert.DiscBIdeal.τ).loc Cert.DiscBIdeal.main_arg4)
      ∧ r.2.mem ((c.tc : Thread Cert.DiscBIdeal.nD Cert.DiscBIdeal.τ).loc Cert.DiscBIdeal.main_arg5) = m ((c.tc : Thread Cert.DiscBIdeal.nD Cert.DiscBIdeal.τ).loc Cert.DiscBIdeal.main_arg5)
      ∧ r.2.mem ((c.tc : Thread Cert.DiscBIdeal.nD Cert.DiscBIdeal.τ).loc Cert.DiscBIdeal.main_arg6) = m ((c.tc : Thread Cert.DiscBIdeal.nD Cert.DiscBIdeal.τ).loc Cert.DiscBIdeal.main_arg6)
      ∧ r.2.mem ((c.tc : Thread Cert.DiscBIdeal.nD Cert.DiscBIdeal.τ).loc Cert.DiscBIdeal.main_arg7) = m ((c.tc : Thread Cert.DiscBIdeal.nD Cert.DiscBIdeal.τ).loc Cert.DiscBIdeal.main_arg7)
      ∧ r.2.mem ((c.tc : Thread Cert.DiscBIdeal.nD Cert.DiscBIdeal.τ).loc Cert.DiscBIdeal.main_arg8) = m ((c.tc : Thread Cert.DiscBIdeal.nD Cert.DiscBIdeal.τ).loc Cert.DiscBIdeal.main_arg8))
      ∧ r.2.sem = fun _ => 0)

def quiescent_DiscBRefIdeal [hDiscBRefIdeal : Cert.DiscBRefIdeal.Facts] : Prop :=
  ∀ (m : (ℓ : Loc Cert.DiscBRefIdeal.nD Cert.DiscBRefIdeal.τ Cert.DiscBRefIdeal.sig) → Buf (Elt Ideal) ℓ) (g : Dev Cert.DiscBRefIdeal.nD → PrngReg), Pre_DiscBRefIdeal m →
    θ_run (Cert.DiscBRefIdeal.defs (F := Ideal)) (onTc (τ := Cert.DiscBRefIdeal.τ) (Cert.DiscBRefIdeal.main (F := Ideal))) ⟨m, fun _ => 0, g⟩ (fun r => (∀ c : Dev Cert.DiscBRefIdeal.nD,
      r.2.mem ((c.tc : Thread Cert.DiscBRefIdeal.nD Cert.DiscBRefIdeal.τ).loc Cert.DiscBRefIdeal.main_arg0) = m ((c.tc : Thread Cert.DiscBRefIdeal.nD Cert.DiscBRefIdeal.τ).loc Cert.DiscBRefIdeal.main_arg0)
      ∧ r.2.mem ((c.tc : Thread Cert.DiscBRefIdeal.nD Cert.DiscBRefIdeal.τ).loc Cert.DiscBRefIdeal.main_arg1) = m ((c.tc : Thread Cert.DiscBRefIdeal.nD Cert.DiscBRefIdeal.τ).loc Cert.DiscBRefIdeal.main_arg1)
      ∧ r.2.mem ((c.tc : Thread Cert.DiscBRefIdeal.nD Cert.DiscBRefIdeal.τ).loc Cert.DiscBRefIdeal.main_arg2) = m ((c.tc : Thread Cert.DiscBRefIdeal.nD Cert.DiscBRefIdeal.τ).loc Cert.DiscBRefIdeal.main_arg2)
      ∧ r.2.mem ((c.tc : Thread Cert.DiscBRefIdeal.nD Cert.DiscBRefIdeal.τ).loc Cert.DiscBRefIdeal.main_arg3) = m ((c.tc : Thread Cert.DiscBRefIdeal.nD Cert.DiscBRefIdeal.τ).loc Cert.DiscBRefIdeal.main_arg3)
      ∧ r.2.mem ((c.tc : Thread Cert.DiscBRefIdeal.nD Cert.DiscBRefIdeal.τ).loc Cert.DiscBRefIdeal.main_arg4) = m ((c.tc : Thread Cert.DiscBRefIdeal.nD Cert.DiscBRefIdeal.τ).loc Cert.DiscBRefIdeal.main_arg4)
      ∧ r.2.mem ((c.tc : Thread Cert.DiscBRefIdeal.nD Cert.DiscBRefIdeal.τ).loc Cert.DiscBRefIdeal.main_arg5) = m ((c.tc : Thread Cert.DiscBRefIdeal.nD Cert.DiscBRefIdeal.τ).loc Cert.DiscBRefIdeal.main_arg5)
      ∧ r.2.mem ((c.tc : Thread Cert.DiscBRefIdeal.nD Cert.DiscBRefIdeal.τ).loc Cert.DiscBRefIdeal.main_arg6) = m ((c.tc : Thread Cert.DiscBRefIdeal.nD Cert.DiscBRefIdeal.τ).loc Cert.DiscBRefIdeal.main_arg6)
      ∧ r.2.mem ((c.tc : Thread Cert.DiscBRefIdeal.nD Cert.DiscBRefIdeal.τ).loc Cert.DiscBRefIdeal.main_arg7) = m ((c.tc : Thread Cert.DiscBRefIdeal.nD Cert.DiscBRefIdeal.τ).loc Cert.DiscBRefIdeal.main_arg7)
      ∧ r.2.mem ((c.tc : Thread Cert.DiscBRefIdeal.nD Cert.DiscBRefIdeal.τ).loc Cert.DiscBRefIdeal.main_arg8) = m ((c.tc : Thread Cert.DiscBRefIdeal.nD Cert.DiscBRefIdeal.τ).loc Cert.DiscBRefIdeal.main_arg8))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamO [hAdamO : Cert.AdamO.Facts] : Prop :=
  ∀ (m : (ℓ : Loc Cert.AdamO.nD Cert.AdamO.τ Cert.AdamO.sig) → Buf (Elt Bits) ℓ) (g : Dev Cert.AdamO.nD → PrngReg), Pre_AdamO m →
    θ_run (Cert.AdamO.defs (F := Bits)) (onTc (τ := Cert.AdamO.τ) (Cert.AdamO.main (F := Bits))) ⟨m, fun _ => 0, g⟩ (fun r => (∀ c : Dev Cert.AdamO.nD,
      r.2.mem ((c.tc : Thread Cert.AdamO.nD Cert.AdamO.τ).loc Cert.AdamO.main_arg0) = m ((c.tc : Thread Cert.AdamO.nD Cert.AdamO.τ).loc Cert.AdamO.main_arg0)
      ∧ r.2.mem ((c.tc : Thread Cert.AdamO.nD Cert.AdamO.τ).loc Cert.AdamO.main_arg1) = m ((c.tc : Thread Cert.AdamO.nD Cert.AdamO.τ).loc Cert.AdamO.main_arg1)
      ∧ r.2.mem ((c.tc : Thread Cert.AdamO.nD Cert.AdamO.τ).loc Cert.AdamO.main_arg2) = m ((c.tc : Thread Cert.AdamO.nD Cert.AdamO.τ).loc Cert.AdamO.main_arg2)
      ∧ r.2.mem ((c.tc : Thread Cert.AdamO.nD Cert.AdamO.τ).loc Cert.AdamO.main_arg3) = m ((c.tc : Thread Cert.AdamO.nD Cert.AdamO.τ).loc Cert.AdamO.main_arg3))
      ∧ r.2.sem = fun _ => 0)

def quiescent_AdamOIdeal [hAdamOIdeal : Cert.AdamOIdeal.Facts] : Prop :=
  ∀ (m : (ℓ : Loc Cert.AdamOIdeal.nD Cert.AdamOIdeal.τ Cert.AdamOIdeal.sig) → Buf (Elt Ideal) ℓ) (g : Dev Cert.AdamOIdeal.nD → PrngReg), Pre_AdamOIdeal m →
    θ_run (Cert.AdamOIdeal.defs (F := Ideal)) (onTc (τ := Cert.AdamOIdeal.τ) (Cert.AdamOIdeal.main (F := Ideal))) ⟨m, fun _ => 0, g⟩ (fun r => (∀ c : Dev Cert.AdamOIdeal.nD,
      r.2.mem ((c.tc : Thread Cert.AdamOIdeal.nD Cert.AdamOIdeal.τ).loc Cert.AdamOIdeal.main_arg0) = m ((c.tc : Thread Cert.AdamOIdeal.nD Cert.AdamOIdeal.τ).loc Cert.AdamOIdeal.main_arg0)
      ∧ r.2.mem ((c.tc : Thread Cert.AdamOIdeal.nD Cert.AdamOIdeal.τ).loc Cert.AdamOIdeal.main_arg1) = m ((c.tc : Thread Cert.AdamOIdeal.nD Cert.AdamOIdeal.τ).loc Cert.AdamOIdeal.main_arg1)
      ∧ r.2.mem ((c.tc : Thread Cert.AdamOIdeal.nD Cert.AdamOIdeal.τ).loc Cert.AdamOIdeal.main_arg2) = m ((c.tc : Thread Cert.AdamOIdeal.nD Cert.AdamOIdeal.τ).loc Cert.AdamOIdeal.main_arg2)
      ∧ r.2.mem ((c.tc : Thread Cert.AdamOIdeal.nD Cert.AdamOIdeal.τ).loc Cert.AdamOIdeal.main_arg3) = m ((c.tc : Thread Cert.AdamOIdeal.nD Cert.AdamOIdeal.τ).loc Cert.AdamOIdeal.main_arg3))
      ∧ r.2.sem = fun _ => 0)

def quiescent_AdamORefIdeal [hAdamORefIdeal : Cert.AdamORefIdeal.Facts] : Prop :=
  ∀ (m : (ℓ : Loc Cert.AdamORefIdeal.nD Cert.AdamORefIdeal.τ Cert.AdamORefIdeal.sig) → Buf (Elt Ideal) ℓ) (g : Dev Cert.AdamORefIdeal.nD → PrngReg), Pre_AdamORefIdeal m →
    θ_run (Cert.AdamORefIdeal.defs (F := Ideal)) (onTc (τ := Cert.AdamORefIdeal.τ) (Cert.AdamORefIdeal.main (F := Ideal))) ⟨m, fun _ => 0, g⟩ (fun r => (∀ c : Dev Cert.AdamORefIdeal.nD,
      r.2.mem ((c.tc : Thread Cert.AdamORefIdeal.nD Cert.AdamORefIdeal.τ).loc Cert.AdamORefIdeal.main_arg0) = m ((c.tc : Thread Cert.AdamORefIdeal.nD Cert.AdamORefIdeal.τ).loc Cert.AdamORefIdeal.main_arg0)
      ∧ r.2.mem ((c.tc : Thread Cert.AdamORefIdeal.nD Cert.AdamORefIdeal.τ).loc Cert.AdamORefIdeal.main_arg1) = m ((c.tc : Thread Cert.AdamORefIdeal.nD Cert.AdamORefIdeal.τ).loc Cert.AdamORefIdeal.main_arg1)
      ∧ r.2.mem ((c.tc : Thread Cert.AdamORefIdeal.nD Cert.AdamORefIdeal.τ).loc Cert.AdamORefIdeal.main_arg2) = m ((c.tc : Thread Cert.AdamORefIdeal.nD Cert.AdamORefIdeal.τ).loc Cert.AdamORefIdeal.main_arg2)
      ∧ r.2.mem ((c.tc : Thread Cert.AdamORefIdeal.nD Cert.AdamORefIdeal.τ).loc Cert.AdamORefIdeal.main_arg3) = m ((c.tc : Thread Cert.AdamORefIdeal.nD Cert.AdamORefIdeal.τ).loc Cert.AdamORefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamGlu [hAdamGlu : Cert.AdamGlu.Facts] : Prop :=
  ∀ (m : (ℓ : Loc Cert.AdamGlu.nD Cert.AdamGlu.τ Cert.AdamGlu.sig) → Buf (Elt Bits) ℓ) (g : Dev Cert.AdamGlu.nD → PrngReg), Pre_AdamGlu m →
    θ_run (Cert.AdamGlu.defs (F := Bits)) (onTc (τ := Cert.AdamGlu.τ) (Cert.AdamGlu.main (F := Bits))) ⟨m, fun _ => 0, g⟩ (fun r => (∀ c : Dev Cert.AdamGlu.nD,
      r.2.mem ((c.tc : Thread Cert.AdamGlu.nD Cert.AdamGlu.τ).loc Cert.AdamGlu.main_arg0) = m ((c.tc : Thread Cert.AdamGlu.nD Cert.AdamGlu.τ).loc Cert.AdamGlu.main_arg0)
      ∧ r.2.mem ((c.tc : Thread Cert.AdamGlu.nD Cert.AdamGlu.τ).loc Cert.AdamGlu.main_arg1) = m ((c.tc : Thread Cert.AdamGlu.nD Cert.AdamGlu.τ).loc Cert.AdamGlu.main_arg1)
      ∧ r.2.mem ((c.tc : Thread Cert.AdamGlu.nD Cert.AdamGlu.τ).loc Cert.AdamGlu.main_arg2) = m ((c.tc : Thread Cert.AdamGlu.nD Cert.AdamGlu.τ).loc Cert.AdamGlu.main_arg2)
      ∧ r.2.mem ((c.tc : Thread Cert.AdamGlu.nD Cert.AdamGlu.τ).loc Cert.AdamGlu.main_arg3) = m ((c.tc : Thread Cert.AdamGlu.nD Cert.AdamGlu.τ).loc Cert.AdamGlu.main_arg3))
      ∧ r.2.sem = fun _ => 0)

def quiescent_AdamGluIdeal [hAdamGluIdeal : Cert.AdamGluIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg), Pre_AdamGluIdeal m →
    θ_run (Cert.AdamGluIdeal.defs (F := Ideal)) (onTc (τ := Cert.AdamGluIdeal.τ) (Cert.AdamGluIdeal.main (F := Ideal))) ⟨m, fun _ => 0, g⟩ (fun r => (∀ c : Dev Cert.AdamGluIdeal.nD,
      r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
      ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
      ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
      ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ r.2.sem = fun _ => 0)

def quiescent_AdamGluRefIdeal [hAdamGluRefIdeal : Cert.AdamGluRefIdeal.Facts] : Prop :=
  ∀ (m : (ℓ : Loc Cert.AdamGluRefIdeal.nD Cert.AdamGluRefIdeal.τ Cert.AdamGluRefIdeal.sig) → Buf (Elt Ideal) ℓ) (g : Dev Cert.AdamGluRefIdeal.nD → PrngReg), Pre_AdamGluRefIdeal m →
    θ_run (Cert.AdamGluRefIdeal.defs (F := Ideal)) (onTc (τ := Cert.AdamGluRefIdeal.τ) (Cert.AdamGluRefIdeal.main (F := Ideal))) ⟨m, fun _ => 0, g⟩ (fun r => (∀ c : Dev Cert.AdamGluRefIdeal.nD,
      r.2.mem ((c.tc : Thread Cert.AdamGluRefIdeal.nD Cert.AdamGluRefIdeal.τ).loc Cert.AdamGluRefIdeal.main_arg0) = m ((c.tc : Thread Cert.AdamGluRefIdeal.nD Cert.AdamGluRefIdeal.τ).loc Cert.AdamGluRefIdeal.main_arg0)
      ∧ r.2.mem ((c.tc : Thread Cert.AdamGluRefIdeal.nD Cert.AdamGluRefIdeal.τ).loc Cert.AdamGluRefIdeal.main_arg1) = m ((c.tc : Thread Cert.AdamGluRefIdeal.nD Cert.AdamGluRefIdeal.τ).loc Cert.AdamGluRefIdeal.main_arg1)
      ∧ r.2.mem ((c.tc : Thread Cert.AdamGluRefIdeal.nD Cert.AdamGluRefIdeal.τ).loc Cert.AdamGluRefIdeal.main_arg2) = m ((c.tc : Thread Cert.AdamGluRefIdeal.nD Cert.AdamGluRefIdeal.τ).loc Cert.AdamGluRefIdeal.main_arg2)
      ∧ r.2.mem ((c.tc : Thread Cert.AdamGluRefIdeal.nD Cert.AdamGluRefIdeal.τ).loc Cert.AdamGluRefIdeal.main_arg3) = m ((c.tc : Thread Cert.AdamGluRefIdeal.nD Cert.AdamGluRefIdeal.τ).loc Cert.AdamGluRefIdeal.main_arg3))
      ∧ r.2.sem = fun _ => 0)

def quiescent_AdamFfn [hAdamFfn : Cert.AdamFfn.Facts] : Prop :=
  ∀ (m : (ℓ : Loc Cert.AdamFfn.nD Cert.AdamFfn.τ Cert.AdamFfn.sig) → Buf (Elt Bits) ℓ) (g : Dev Cert.AdamFfn.nD → PrngReg), Pre_AdamFfn m →
    θ_run (Cert.AdamFfn.defs (F := Bits)) (onTc (τ := Cert.AdamFfn.τ) (Cert.AdamFfn.main (F := Bits))) ⟨m, fun _ => 0, g⟩ (fun r => (∀ c : Dev Cert.AdamFfn.nD,
      r.2.mem ((c.tc : Thread Cert.AdamFfn.nD Cert.AdamFfn.τ).loc Cert.AdamFfn.main_arg0) = m ((c.tc : Thread Cert.AdamFfn.nD Cert.AdamFfn.τ).loc Cert.AdamFfn.main_arg0)
      ∧ r.2.mem ((c.tc : Thread Cert.AdamFfn.nD Cert.AdamFfn.τ).loc Cert.AdamFfn.main_arg1) = m ((c.tc : Thread Cert.AdamFfn.nD Cert.AdamFfn.τ).loc Cert.AdamFfn.main_arg1)
      ∧ r.2.mem ((c.tc : Thread Cert.AdamFfn.nD Cert.AdamFfn.τ).loc Cert.AdamFfn.main_arg2) = m ((c.tc : Thread Cert.AdamFfn.nD Cert.AdamFfn.τ).loc Cert.AdamFfn.main_arg2)
      ∧ r.2.mem ((c.tc : Thread Cert.AdamFfn.nD Cert.AdamFfn.τ).loc Cert.AdamFfn.main_arg3) = m ((c.tc : Thread Cert.AdamFfn.nD Cert.AdamFfn.τ).loc Cert.AdamFfn.main_arg3))
      ∧ r.2.sem = fun _ => 0)

def quiescent_AdamFfnIdeal [hAdamFfnIdeal : Cert.AdamFfnIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg), Pre_AdamFfnIdeal m →
    θ_run (Cert.AdamFfnIdeal.defs (F := Ideal)) (onTc (τ := Cert.AdamFfnIdeal.τ) (Cert.AdamFfnIdeal.main (F := Ideal))) ⟨m, fun _ => 0, g⟩ (fun r => (∀ c : Dev Cert.AdamFfnIdeal.nD,
      r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
      ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
      ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
      ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3))
      ∧ r.2.sem = fun _ => 0)

def quiescent_AdamFfnRefIdeal [hAdamFfnRefIdeal : Cert.AdamFfnRefIdeal.Facts] : Prop :=
  ∀ (m : (ℓ : Loc Cert.AdamFfnRefIdeal.nD Cert.AdamFfnRefIdeal.τ Cert.AdamFfnRefIdeal.sig) → Buf (Elt Ideal) ℓ) (g : Dev Cert.AdamFfnRefIdeal.nD → PrngReg), Pre_AdamFfnRefIdeal m →
    θ_run (Cert.AdamFfnRefIdeal.defs (F := Ideal)) (onTc (τ := Cert.AdamFfnRefIdeal.τ) (Cert.AdamFfnRefIdeal.main (F := Ideal))) ⟨m, fun _ => 0, g⟩ (fun r => (∀ c : Dev Cert.AdamFfnRefIdeal.nD,
      r.2.mem ((c.tc : Thread Cert.AdamFfnRefIdeal.nD Cert.AdamFfnRefIdeal.τ).loc Cert.AdamFfnRefIdeal.main_arg0) = m ((c.tc : Thread Cert.AdamFfnRefIdeal.nD Cert.AdamFfnRefIdeal.τ).loc Cert.AdamFfnRefIdeal.main_arg0)
      ∧ r.2.mem ((c.tc : Thread Cert.AdamFfnRefIdeal.nD Cert.AdamFfnRefIdeal.τ).loc Cert.AdamFfnRefIdeal.main_arg1) = m ((c.tc : Thread Cert.AdamFfnRefIdeal.nD Cert.AdamFfnRefIdeal.τ).loc Cert.AdamFfnRefIdeal.main_arg1)
      ∧ r.2.mem ((c.tc : Thread Cert.AdamFfnRefIdeal.nD Cert.AdamFfnRefIdeal.τ).loc Cert.AdamFfnRefIdeal.main_arg2) = m ((c.tc : Thread Cert.AdamFfnRefIdeal.nD Cert.AdamFfnRefIdeal.τ).loc Cert.AdamFfnRefIdeal.main_arg2)
      ∧ r.2.mem ((c.tc : Thread Cert.AdamFfnRefIdeal.nD Cert.AdamFfnRefIdeal.τ).loc Cert.AdamFfnRefIdeal.main_arg3) = m ((c.tc : Thread Cert.AdamFfnRefIdeal.nD Cert.AdamFfnRefIdeal.τ).loc Cert.AdamFfnRefIdeal.main_arg3))
      ∧ r.2.sem = fun _ => 0)

def quiescent_AdamFfnT [hAdamFfnT : Cert.AdamFfnT.Facts] : Prop :=
  ∀ (m : (ℓ : Loc Cert.AdamFfnT.nD Cert.AdamFfnT.τ Cert.AdamFfnT.sig) → Buf (Elt Bits) ℓ) (g : Dev Cert.AdamFfnT.nD → PrngReg), Pre_AdamFfnT m →
    θ_run (Cert.AdamFfnT.defs (F := Bits)) (onTc (τ := Cert.AdamFfnT.τ) (Cert.AdamFfnT.main (F := Bits))) ⟨m, fun _ => 0, g⟩ (fun r => (∀ c : Dev Cert.AdamFfnT.nD,
      r.2.mem ((c.tc : Thread Cert.AdamFfnT.nD Cert.AdamFfnT.τ).loc Cert.AdamFfnT.main_arg0) = m ((c.tc : Thread Cert.AdamFfnT.nD Cert.AdamFfnT.τ).loc Cert.AdamFfnT.main_arg0)
      ∧ r.2.mem ((c.tc : Thread Cert.AdamFfnT.nD Cert.AdamFfnT.τ).loc Cert.AdamFfnT.main_arg1) = m ((c.tc : Thread Cert.AdamFfnT.nD Cert.AdamFfnT.τ).loc Cert.AdamFfnT.main_arg1)
      ∧ r.2.mem ((c.tc : Thread Cert.AdamFfnT.nD Cert.AdamFfnT.τ).loc Cert.AdamFfnT.main_arg2) = m ((c.tc : Thread Cert.AdamFfnT.nD Cert.AdamFfnT.τ).loc Cert.AdamFfnT.main_arg2)
      ∧ r.2.mem ((c.tc : Thread Cert.AdamFfnT.nD Cert.AdamFfnT.τ).loc Cert.AdamFfnT.main_arg3) = m ((c.tc : Thread Cert.AdamFfnT.nD Cert.AdamFfnT.τ).loc Cert.AdamFfnT.main_arg3))
      ∧ r.2.sem = fun _ => 0)

def quiescent_AdamFfnTIdeal [hAdamFfnTIdeal : Cert.AdamFfnTIdeal.Facts] : Prop :=
  ∀ (m : (ℓ : Loc Cert.AdamFfnTIdeal.nD Cert.AdamFfnTIdeal.τ Cert.AdamFfnTIdeal.sig) → Buf (Elt Ideal) ℓ) (g : Dev Cert.AdamFfnTIdeal.nD → PrngReg), Pre_AdamFfnTIdeal m →
    θ_run (Cert.AdamFfnTIdeal.defs (F := Ideal)) (onTc (τ := Cert.AdamFfnTIdeal.τ) (Cert.AdamFfnTIdeal.main (F := Ideal))) ⟨m, fun _ => 0, g⟩ (fun r => (∀ c : Dev Cert.AdamFfnTIdeal.nD,
      r.2.mem ((c.tc : Thread Cert.AdamFfnTIdeal.nD Cert.AdamFfnTIdeal.τ).loc Cert.AdamFfnTIdeal.main_arg0) = m ((c.tc : Thread Cert.AdamFfnTIdeal.nD Cert.AdamFfnTIdeal.τ).loc Cert.AdamFfnTIdeal.main_arg0)
      ∧ r.2.mem ((c.tc : Thread Cert.AdamFfnTIdeal.nD Cert.AdamFfnTIdeal.τ).loc Cert.AdamFfnTIdeal.main_arg1) = m ((c.tc : Thread Cert.AdamFfnTIdeal.nD Cert.AdamFfnTIdeal.τ).loc Cert.AdamFfnTIdeal.main_arg1)
      ∧ r.2.mem ((c.tc : Thread Cert.AdamFfnTIdeal.nD Cert.AdamFfnTIdeal.τ).loc Cert.AdamFfnTIdeal.main_arg2) = m ((c.tc : Thread Cert.AdamFfnTIdeal.nD Cert.AdamFfnTIdeal.τ).loc Cert.AdamFfnTIdeal.main_arg2)
      ∧ r.2.mem ((c.tc : Thread Cert.AdamFfnTIdeal.nD Cert.AdamFfnTIdeal.τ).loc Cert.AdamFfnTIdeal.main_arg3) = m ((c.tc : Thread Cert.AdamFfnTIdeal.nD Cert.AdamFfnTIdeal.τ).loc Cert.AdamFfnTIdeal.main_arg3))
      ∧ r.2.sem = fun _ => 0)

def quiescent_AdamFfnTRefIdeal [hAdamFfnTRefIdeal : Cert.AdamFfnTRefIdeal.Facts] : Prop :=
  ∀ (m : (ℓ : Loc Cert.AdamFfnTRefIdeal.nD Cert.AdamFfnTRefIdeal.τ Cert.AdamFfnTRefIdeal.sig) → Buf (Elt Ideal) ℓ) (g : Dev Cert.AdamFfnTRefIdeal.nD → PrngReg), Pre_AdamFfnTRefIdeal m →
    θ_run (Cert.AdamFfnTRefIdeal.defs (F := Ideal)) (onTc (τ := Cert.AdamFfnTRefIdeal.τ) (Cert.AdamFfnTRefIdeal.main (F := Ideal))) ⟨m, fun _ => 0, g⟩ (fun r => (∀ c : Dev Cert.AdamFfnTRefIdeal.nD,
      r.2.mem ((c.tc : Thread Cert.AdamFfnTRefIdeal.nD Cert.AdamFfnTRefIdeal.τ).loc Cert.AdamFfnTRefIdeal.main_arg0) = m ((c.tc : Thread Cert.AdamFfnTRefIdeal.nD Cert.AdamFfnTRefIdeal.τ).loc Cert.AdamFfnTRefIdeal.main_arg0)
      ∧ r.2.mem ((c.tc : Thread Cert.AdamFfnTRefIdeal.nD Cert.AdamFfnTRefIdeal.τ).loc Cert.AdamFfnTRefIdeal.main_arg1) = m ((c.tc : Thread Cert.AdamFfnTRefIdeal.nD Cert.AdamFfnTRefIdeal.τ).loc Cert.AdamFfnTRefIdeal.main_arg1)
      ∧ r.2.mem ((c.tc : Thread Cert.AdamFfnTRefIdeal.nD Cert.AdamFfnTRefIdeal.τ).loc Cert.AdamFfnTRefIdeal.main_arg2) = m ((c.tc : Thread Cert.AdamFfnTRefIdeal.nD Cert.AdamFfnTRefIdeal.τ).loc Cert.AdamFfnTRefIdeal.main_arg2)
      ∧ r.2.mem ((c.tc : Thread Cert.AdamFfnTRefIdeal.nD Cert.AdamFfnTRefIdeal.τ).loc Cert.AdamFfnTRefIdeal.main_arg3) = m ((c.tc : Thread Cert.AdamFfnTRefIdeal.nD Cert.AdamFfnTRefIdeal.τ).loc Cert.AdamFfnTRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v2_0)) (v1 : (c : Dev Cert.ConvIdeal.nD) → Buf (Elt Ideal) ((c.tc : Thread Cert.ConvIdeal.nD Cert.ConvIdeal.τ).loc Cert.ConvIdeal.main_v2_1)) (v2 : (c : Dev Cert.ConvIdeal.nD) → Buf (Elt Ideal) ((c.tc : Thread Cert.ConvIdeal.nD Cert.ConvIdeal.τ).loc Cert.ConvIdeal.main_v2_2)) (v3 : (c : Dev Cert.ConvIdeal.nD) → Buf (Elt Ideal) ((c.tc : Thread Cert.ConvIdeal.nD Cert.ConvIdeal.τ).loc Cert.ConvIdeal.main_v2_3)) (v4 : (c : Dev Cert.ConvIdeal.nD) → Buf (Elt Ideal) ((c.tc : Thread Cert.ConvIdeal.nD Cert.ConvIdeal.τ).loc Cert.ConvIdeal.main_v2_4)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v2_0) = v0 c
          ∧ r.2.mem ((c.tc : Thread Cert.ConvIdeal.nD Cert.ConvIdeal.τ).loc Cert.ConvIdeal.main_v2_1) = v1 c
          ∧ r.2.mem ((c.tc : Thread Cert.ConvIdeal.nD Cert.ConvIdeal.τ).loc Cert.ConvIdeal.main_v2_2) = v2 c
          ∧ r.2.mem ((c.tc : Thread Cert.ConvIdeal.nD Cert.ConvIdeal.τ).loc Cert.ConvIdeal.main_v2_3) = v3 c
          ∧ r.2.mem ((c.tc : Thread Cert.ConvIdeal.nD Cert.ConvIdeal.τ).loc Cert.ConvIdeal.main_v2_4) = v4 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v76) = v0 c
          ∧ r.2.mem ((c.tc : Thread Cert.ConvRefIdeal.nD Cert.ConvRefIdeal.τ).loc Cert.ConvRefIdeal.main_v77) = v1 c
          ∧ r.2.mem ((c.tc : Thread Cert.ConvRefIdeal.nD Cert.ConvRefIdeal.τ).loc Cert.ConvRefIdeal.main_v78) = v2 c
          ∧ r.2.mem ((c.tc : Thread Cert.ConvRefIdeal.nD Cert.ConvRefIdeal.τ).loc Cert.ConvRefIdeal.main_v75) = v3 c
          ∧ r.2.mem ((c.tc : Thread Cert.ConvRefIdeal.nD Cert.ConvRefIdeal.τ).loc Cert.ConvRefIdeal.main_v79) = v4 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v6)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v6) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v7) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_Du_DuIdeal : Prop :=
  True

def algebraic_DuIdeal_DuRefIdeal [hDuIdeal : Cert.DuIdeal.Facts] [hDuRefIdeal : Cert.DuRefIdeal.Facts] : Prop :=
  ∀ (m : (ℓ : Loc Cert.DuIdeal.nD Cert.DuIdeal.τ Cert.DuIdeal.sig) → Buf (Elt Ideal) ℓ) (g : Dev Cert.DuIdeal.nD → PrngReg)
    (m' : (ℓ : Loc Cert.DuRefIdeal.nD Cert.DuRefIdeal.τ Cert.DuRefIdeal.sig) → Buf (Elt Ideal) ℓ) (g' : Dev Cert.DuRefIdeal.nD → PrngReg), Pre_DuIdeal m →
    (∀ c : Dev Cert.DuIdeal.nD,
      m' ((c.tc : Thread Cert.DuRefIdeal.nD Cert.DuRefIdeal.τ).loc Cert.DuRefIdeal.main_arg0) = m ((c.tc : Thread Cert.DuIdeal.nD Cert.DuIdeal.τ).loc Cert.DuIdeal.main_arg0)
      ∧ m' ((c.tc : Thread Cert.DuRefIdeal.nD Cert.DuRefIdeal.τ).loc Cert.DuRefIdeal.main_arg1) = m ((c.tc : Thread Cert.DuIdeal.nD Cert.DuIdeal.τ).loc Cert.DuIdeal.main_arg1)
      ∧ m' ((c.tc : Thread Cert.DuRefIdeal.nD Cert.DuRefIdeal.τ).loc Cert.DuRefIdeal.main_arg2) = m ((c.tc : Thread Cert.DuIdeal.nD Cert.DuIdeal.τ).loc Cert.DuIdeal.main_arg2)
      ∧ m' ((c.tc : Thread Cert.DuRefIdeal.nD Cert.DuRefIdeal.τ).loc Cert.DuRefIdeal.main_arg3) = m ((c.tc : Thread Cert.DuIdeal.nD Cert.DuIdeal.τ).loc Cert.DuIdeal.main_arg3)
      ∧ m' ((c.tc : Thread Cert.DuRefIdeal.nD Cert.DuRefIdeal.τ).loc Cert.DuRefIdeal.main_arg4) = m ((c.tc : Thread Cert.DuIdeal.nD Cert.DuIdeal.τ).loc Cert.DuIdeal.main_arg4)) →
    ∃ (v0 : (c : Dev Cert.DuIdeal.nD) → Buf (Elt Ideal) ((c.tc : Thread Cert.DuIdeal.nD Cert.DuIdeal.τ).loc Cert.DuIdeal.main_v19)),
      θ_run (Cert.DuIdeal.defs (F := Ideal)) (onTc (τ := Cert.DuIdeal.τ) (Cert.DuIdeal.main (F := Ideal))) ⟨m, fun _ => 0, g⟩ (fun r => ∀ c : Dev Cert.DuIdeal.nD,
          r.2.mem ((c.tc : Thread Cert.DuIdeal.nD Cert.DuIdeal.τ).loc Cert.DuIdeal.main_v19) = v0 c
          ∧ r.2.mem ((c.tc : Thread Cert.DuIdeal.nD Cert.DuIdeal.τ).loc Cert.DuIdeal.main_arg0) = m ((c.tc : Thread Cert.DuIdeal.nD Cert.DuIdeal.τ).loc Cert.DuIdeal.main_arg0)
          ∧ r.2.mem ((c.tc : Thread Cert.DuIdeal.nD Cert.DuIdeal.τ).loc Cert.DuIdeal.main_arg1) = m ((c.tc : Thread Cert.DuIdeal.nD Cert.DuIdeal.τ).loc Cert.DuIdeal.main_arg1)
          ∧ r.2.mem ((c.tc : Thread Cert.DuIdeal.nD Cert.DuIdeal.τ).loc Cert.DuIdeal.main_arg2) = m ((c.tc : Thread Cert.DuIdeal.nD Cert.DuIdeal.τ).loc Cert.DuIdeal.main_arg2)
          ∧ r.2.mem ((c.tc : Thread Cert.DuIdeal.nD Cert.DuIdeal.τ).loc Cert.DuIdeal.main_arg3) = m ((c.tc : Thread Cert.DuIdeal.nD Cert.DuIdeal.τ).loc Cert.DuIdeal.main_arg3)
          ∧ r.2.mem ((c.tc : Thread Cert.DuIdeal.nD Cert.DuIdeal.τ).loc Cert.DuIdeal.main_arg4) = m ((c.tc : Thread Cert.DuIdeal.nD Cert.DuIdeal.τ).loc Cert.DuIdeal.main_arg4))
      ∧ θ_run (Cert.DuRefIdeal.defs (F := Ideal)) (onTc (τ := Cert.DuRefIdeal.τ) (Cert.DuRefIdeal.main (F := Ideal))) ⟨m', fun _ => 0, g'⟩ (fun r => ∀ c : Dev Cert.DuRefIdeal.nD,
          r.2.mem ((c.tc : Thread Cert.DuRefIdeal.nD Cert.DuRefIdeal.τ).loc Cert.DuRefIdeal.main_v15) = v0 c
          ∧ r.2.mem ((c.tc : Thread Cert.DuRefIdeal.nD Cert.DuRefIdeal.τ).loc Cert.DuRefIdeal.main_arg0) = m' ((c.tc : Thread Cert.DuRefIdeal.nD Cert.DuRefIdeal.τ).loc Cert.DuRefIdeal.main_arg0)
          ∧ r.2.mem ((c.tc : Thread Cert.DuRefIdeal.nD Cert.DuRefIdeal.τ).loc Cert.DuRefIdeal.main_arg1) = m' ((c.tc : Thread Cert.DuRefIdeal.nD Cert.DuRefIdeal.τ).loc Cert.DuRefIdeal.main_arg1)
          ∧ r.2.mem ((c.tc : Thread Cert.DuRefIdeal.nD Cert.DuRefIdeal.τ).loc Cert.DuRefIdeal.main_arg2) = m' ((c.tc : Thread Cert.DuRefIdeal.nD Cert.DuRefIdeal.τ).loc Cert.DuRefIdeal.main_arg2)
          ∧ r.2.mem ((c.tc : Thread Cert.DuRefIdeal.nD Cert.DuRefIdeal.τ).loc Cert.DuRefIdeal.main_arg3) = m' ((c.tc : Thread Cert.DuRefIdeal.nD Cert.DuRefIdeal.τ).loc Cert.DuRefIdeal.main_arg3)
          ∧ r.2.mem ((c.tc : Thread Cert.DuRefIdeal.nD Cert.DuRefIdeal.τ).loc Cert.DuRefIdeal.main_arg4) = m' ((c.tc : Thread Cert.DuRefIdeal.nD Cert.DuRefIdeal.τ).loc Cert.DuRefIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v4) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v0) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_ProjDw_ProjDwIdeal : Prop :=
  True

def algebraic_ProjDwIdeal_ProjDwRefIdeal [hProjDwIdeal : Cert.ProjDwIdeal.Facts] [hProjDwRefIdeal : Cert.ProjDwRefIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg)
    (m' : (ℓ : Loc Cert.ProjDwRefIdeal.nD Cert.ProjDwRefIdeal.τ Cert.ProjDwRefIdeal.sig) → Buf (Elt Ideal) ℓ) (g' : Dev Cert.ProjDwRefIdeal.nD → PrngReg), Pre_ProjDwIdeal m →
    (∀ c : Dev Cert.ProjDwIdeal.nD,
      m' ((c.tc : Thread Cert.ProjDwRefIdeal.nD Cert.ProjDwRefIdeal.τ).loc Cert.ProjDwRefIdeal.main_arg0) = m ((c.tc : Thread Cert.ProjDwIdeal.nD Cert.ProjDwIdeal.τ).loc Cert.ProjDwIdeal.main_arg0)
      ∧ m' ((c.tc : Thread Cert.ProjDwRefIdeal.nD Cert.ProjDwRefIdeal.τ).loc Cert.ProjDwRefIdeal.main_arg1) = m ((c.tc : Thread Cert.ProjDwIdeal.nD Cert.ProjDwIdeal.τ).loc Cert.ProjDwIdeal.main_arg1)) →
    ∃ (v0 : (c : Dev Cert.ProjDwIdeal.nD) → Buf (Elt Ideal) ((c.tc : Thread Cert.ProjDwIdeal.nD Cert.ProjDwIdeal.τ).loc Cert.ProjDwIdeal.main_v2)),
      θ_run (Cert.ProjDwIdeal.defs (F := Ideal)) (onTc (τ := Cert.ProjDwIdeal.τ) (Cert.ProjDwIdeal.main (F := Ideal))) ⟨m, fun _ => 0, g⟩ (fun r => ∀ c : Dev Cert.ProjDwIdeal.nD,
          r.2.mem ((c.tc : Thread Cert.ProjDwIdeal.nD Cert.ProjDwIdeal.τ).loc Cert.ProjDwIdeal.main_v2) = v0 c
          ∧ r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
          ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ θ_run (Cert.ProjDwRefIdeal.defs (F := Ideal)) (onTc (τ := Cert.ProjDwRefIdeal.τ) (Cert.ProjDwRefIdeal.main (F := Ideal))) ⟨m', fun _ => 0, g'⟩ (fun r => ∀ c : Dev Cert.ProjDwRefIdeal.nD,
          r.2.mem ((c.tc : Thread Cert.ProjDwRefIdeal.nD Cert.ProjDwRefIdeal.τ).loc Cert.ProjDwRefIdeal.main_v5) = v0 c
          ∧ r.2.mem ((c.tc : Thread Cert.ProjDwRefIdeal.nD Cert.ProjDwRefIdeal.τ).loc Cert.ProjDwRefIdeal.main_arg0) = m' ((c.tc : Thread Cert.ProjDwRefIdeal.nD Cert.ProjDwRefIdeal.τ).loc Cert.ProjDwRefIdeal.main_arg0)
          ∧ r.2.mem ((c.tc : Thread Cert.ProjDwRefIdeal.nD Cert.ProjDwRefIdeal.τ).loc Cert.ProjDwRefIdeal.main_arg1) = m' ((c.tc : Thread Cert.ProjDwRefIdeal.nD Cert.ProjDwRefIdeal.τ).loc Cert.ProjDwRefIdeal.main_arg1))

def preserves_ProjB_ProjBIdeal : Prop :=
  True

def algebraic_ProjBIdeal_ProjBRefIdeal [hProjBIdeal : Cert.ProjBIdeal.Facts] [hProjBRefIdeal : Cert.ProjBRefIdeal.Facts] : Prop :=
  ∀ (m : (ℓ : Loc Cert.ProjBIdeal.nD Cert.ProjBIdeal.τ Cert.ProjBIdeal.sig) → Buf (Elt Ideal) ℓ) (g : Dev Cert.ProjBIdeal.nD → PrngReg)
    (m' : (ℓ : Loc Cert.ProjBRefIdeal.nD Cert.ProjBRefIdeal.τ Cert.ProjBRefIdeal.sig) → Buf (Elt Ideal) ℓ) (g' : Dev Cert.ProjBRefIdeal.nD → PrngReg), Pre_ProjBIdeal m →
    (∀ c : Dev Cert.ProjBIdeal.nD,
      m' ((c.tc : Thread Cert.ProjBRefIdeal.nD Cert.ProjBRefIdeal.τ).loc Cert.ProjBRefIdeal.main_arg0) = m ((c.tc : Thread Cert.ProjBIdeal.nD Cert.ProjBIdeal.τ).loc Cert.ProjBIdeal.main_arg0)
      ∧ m' ((c.tc : Thread Cert.ProjBRefIdeal.nD Cert.ProjBRefIdeal.τ).loc Cert.ProjBRefIdeal.main_arg1) = m ((c.tc : Thread Cert.ProjBIdeal.nD Cert.ProjBIdeal.τ).loc Cert.ProjBIdeal.main_arg1)) →
    ∃ (v0 : (c : Dev Cert.ProjBIdeal.nD) → Buf (Elt Ideal) ((c.tc : Thread Cert.ProjBIdeal.nD Cert.ProjBIdeal.τ).loc Cert.ProjBIdeal.main_v4)),
      θ_run (Cert.ProjBIdeal.defs (F := Ideal)) (onTc (τ := Cert.ProjBIdeal.τ) (Cert.ProjBIdeal.main (F := Ideal))) ⟨m, fun _ => 0, g⟩ (fun r => ∀ c : Dev Cert.ProjBIdeal.nD,
          r.2.mem ((c.tc : Thread Cert.ProjBIdeal.nD Cert.ProjBIdeal.τ).loc Cert.ProjBIdeal.main_v4) = v0 c
          ∧ r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
          ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ θ_run (Cert.ProjBRefIdeal.defs (F := Ideal)) (onTc (τ := Cert.ProjBRefIdeal.τ) (Cert.ProjBRefIdeal.main (F := Ideal))) ⟨m', fun _ => 0, g'⟩ (fun r => ∀ c : Dev Cert.ProjBRefIdeal.nD,
          r.2.mem ((c.tc : Thread Cert.ProjBRefIdeal.nD Cert.ProjBRefIdeal.τ).loc Cert.ProjBRefIdeal.main_v2) = v0 c
          ∧ r.2.mem ((c.tc : Thread Cert.ProjBRefIdeal.nD Cert.ProjBRefIdeal.τ).loc Cert.ProjBRefIdeal.main_arg0) = m' ((c.tc : Thread Cert.ProjBRefIdeal.nD Cert.ProjBRefIdeal.τ).loc Cert.ProjBRefIdeal.main_arg0)
          ∧ r.2.mem ((c.tc : Thread Cert.ProjBRefIdeal.nD Cert.ProjBRefIdeal.τ).loc Cert.ProjBRefIdeal.main_arg1) = m' ((c.tc : Thread Cert.ProjBRefIdeal.nD Cert.ProjBRefIdeal.τ).loc Cert.ProjBRefIdeal.main_arg1))

def preserves_GateUp_GateUpIdeal : Prop :=
  True

def algebraic_GateUpIdeal_GateUpRefIdeal_pre_finite_up [hGateUpIdeal : Cert.GateUpIdeal.Facts] [hGateUpRefIdeal : Cert.GateUpRefIdeal.Facts] [hPre_finite_up : Cert.Pre_finite_up.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal_finite_up m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)) →
    ∃ (v0 : (c : Dev Cert.GateUpIdeal.nD) → Buf (Elt Ideal) ((c.tc : Thread Cert.GateUpIdeal.nD Cert.GateUpIdeal.τ).loc Cert.GateUpIdeal.main_v5_0)) (v1 : (c : Dev Cert.GateUpIdeal.nD) → Buf (Elt Ideal) ((c.tc : Thread Cert.GateUpIdeal.nD Cert.GateUpIdeal.τ).loc Cert.GateUpIdeal.main_v5_1)) (v2 : (c : Dev Cert.GateUpIdeal.nD) → Buf (Elt Ideal) ((c.tc : Thread Cert.GateUpIdeal.nD Cert.GateUpIdeal.τ).loc Cert.GateUpIdeal.main_v5_2)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v5_0) = v0 c
          ∧ r.2.mem ((c.tc : Thread Cert.GateUpIdeal.nD Cert.GateUpIdeal.τ).loc Cert.GateUpIdeal.main_v5_1) = v1 c
          ∧ r.2.mem ((c.tc : Thread Cert.GateUpIdeal.nD Cert.GateUpIdeal.τ).loc Cert.GateUpIdeal.main_v5_2) = v2 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v8) = v0 c
          ∧ r.2.mem ((c.tc : Thread Cert.GateUpRefIdeal.nD Cert.GateUpRefIdeal.τ).loc Cert.GateUpRefIdeal.main_v9) = v1 c
          ∧ r.2.mem ((c.tc : Thread Cert.GateUpRefIdeal.nD Cert.GateUpRefIdeal.τ).loc Cert.GateUpRefIdeal.main_v10) = v2 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2))

def preserves_Dhid_DhidIdeal : Prop :=
  True

def algebraic_DhidIdeal_DhidRefIdeal_pre_finite_hidden [hDhidIdeal : Cert.DhidIdeal.Facts] [hDhidRefIdeal : Cert.DhidRefIdeal.Facts] [hPre_finite_hidden : Cert.Pre_finite_hidden.Facts] : Prop :=
  ∀ (m : (ℓ : Loc Cert.DhidIdeal.nD Cert.DhidIdeal.τ Cert.DhidIdeal.sig) → Buf (Elt Ideal) ℓ) (g : Dev Cert.DhidIdeal.nD → PrngReg)
    (m' : (ℓ : Loc Cert.DhidRefIdeal.nD Cert.DhidRefIdeal.τ Cert.DhidRefIdeal.sig) → Buf (Elt Ideal) ℓ) (g' : Dev Cert.DhidRefIdeal.nD → PrngReg), Pre_DhidIdeal_finite_hidden m →
    (∀ c : Dev Cert.DhidIdeal.nD,
      m' ((c.tc : Thread Cert.DhidRefIdeal.nD Cert.DhidRefIdeal.τ).loc Cert.DhidRefIdeal.main_arg0) = m ((c.tc : Thread Cert.DhidIdeal.nD Cert.DhidIdeal.τ).loc Cert.DhidIdeal.main_arg0)
      ∧ m' ((c.tc : Thread Cert.DhidRefIdeal.nD Cert.DhidRefIdeal.τ).loc Cert.DhidRefIdeal.main_arg1) = m ((c.tc : Thread Cert.DhidIdeal.nD Cert.DhidIdeal.τ).loc Cert.DhidIdeal.main_arg1)
      ∧ m' ((c.tc : Thread Cert.DhidRefIdeal.nD Cert.DhidRefIdeal.τ).loc Cert.DhidRefIdeal.main_arg2) = m ((c.tc : Thread Cert.DhidIdeal.nD Cert.DhidIdeal.τ).loc Cert.DhidIdeal.main_arg2)
      ∧ m' ((c.tc : Thread Cert.DhidRefIdeal.nD Cert.DhidRefIdeal.τ).loc Cert.DhidRefIdeal.main_arg3) = m ((c.tc : Thread Cert.DhidIdeal.nD Cert.DhidIdeal.τ).loc Cert.DhidIdeal.main_arg3)
      ∧ m' ((c.tc : Thread Cert.DhidRefIdeal.nD Cert.DhidRefIdeal.τ).loc Cert.DhidRefIdeal.main_arg4) = m ((c.tc : Thread Cert.DhidIdeal.nD Cert.DhidIdeal.τ).loc Cert.DhidIdeal.main_arg4)) →
    ∃ (v0 : (c : Dev Cert.DhidIdeal.nD) → Buf (Elt Ideal) ((c.tc : Thread Cert.DhidIdeal.nD Cert.DhidIdeal.τ).loc Cert.DhidIdeal.main_v13_0)) (v1 : (c : Dev Cert.DhidIdeal.nD) → Buf (Elt Ideal) ((c.tc : Thread Cert.DhidIdeal.nD Cert.DhidIdeal.τ).loc Cert.DhidIdeal.main_v13_1)),
      θ_run (Cert.DhidIdeal.defs (F := Ideal)) (onTc (τ := Cert.DhidIdeal.τ) (Cert.DhidIdeal.main (F := Ideal))) ⟨m, fun _ => 0, g⟩ (fun r => ∀ c : Dev Cert.DhidIdeal.nD,
          r.2.mem ((c.tc : Thread Cert.DhidIdeal.nD Cert.DhidIdeal.τ).loc Cert.DhidIdeal.main_v13_0) = v0 c
          ∧ r.2.mem ((c.tc : Thread Cert.DhidIdeal.nD Cert.DhidIdeal.τ).loc Cert.DhidIdeal.main_v13_1) = v1 c
          ∧ r.2.mem ((c.tc : Thread Cert.DhidIdeal.nD Cert.DhidIdeal.τ).loc Cert.DhidIdeal.main_arg0) = m ((c.tc : Thread Cert.DhidIdeal.nD Cert.DhidIdeal.τ).loc Cert.DhidIdeal.main_arg0)
          ∧ r.2.mem ((c.tc : Thread Cert.DhidIdeal.nD Cert.DhidIdeal.τ).loc Cert.DhidIdeal.main_arg1) = m ((c.tc : Thread Cert.DhidIdeal.nD Cert.DhidIdeal.τ).loc Cert.DhidIdeal.main_arg1)
          ∧ r.2.mem ((c.tc : Thread Cert.DhidIdeal.nD Cert.DhidIdeal.τ).loc Cert.DhidIdeal.main_arg2) = m ((c.tc : Thread Cert.DhidIdeal.nD Cert.DhidIdeal.τ).loc Cert.DhidIdeal.main_arg2)
          ∧ r.2.mem ((c.tc : Thread Cert.DhidIdeal.nD Cert.DhidIdeal.τ).loc Cert.DhidIdeal.main_arg3) = m ((c.tc : Thread Cert.DhidIdeal.nD Cert.DhidIdeal.τ).loc Cert.DhidIdeal.main_arg3)
          ∧ r.2.mem ((c.tc : Thread Cert.DhidIdeal.nD Cert.DhidIdeal.τ).loc Cert.DhidIdeal.main_arg4) = m ((c.tc : Thread Cert.DhidIdeal.nD Cert.DhidIdeal.τ).loc Cert.DhidIdeal.main_arg4))
      ∧ θ_run (Cert.DhidRefIdeal.defs (F := Ideal)) (onTc (τ := Cert.DhidRefIdeal.τ) (Cert.DhidRefIdeal.main (F := Ideal))) ⟨m', fun _ => 0, g'⟩ (fun r => ∀ c : Dev Cert.DhidRefIdeal.nD,
          r.2.mem ((c.tc : Thread Cert.DhidRefIdeal.nD Cert.DhidRefIdeal.τ).loc Cert.DhidRefIdeal.main_v13) = v0 c
          ∧ r.2.mem ((c.tc : Thread Cert.DhidRefIdeal.nD Cert.DhidRefIdeal.τ).loc Cert.DhidRefIdeal.main_v14) = v1 c
          ∧ r.2.mem ((c.tc : Thread Cert.DhidRefIdeal.nD Cert.DhidRefIdeal.τ).loc Cert.DhidRefIdeal.main_arg0) = m' ((c.tc : Thread Cert.DhidRefIdeal.nD Cert.DhidRefIdeal.τ).loc Cert.DhidRefIdeal.main_arg0)
          ∧ r.2.mem ((c.tc : Thread Cert.DhidRefIdeal.nD Cert.DhidRefIdeal.τ).loc Cert.DhidRefIdeal.main_arg1) = m' ((c.tc : Thread Cert.DhidRefIdeal.nD Cert.DhidRefIdeal.τ).loc Cert.DhidRefIdeal.main_arg1)
          ∧ r.2.mem ((c.tc : Thread Cert.DhidRefIdeal.nD Cert.DhidRefIdeal.τ).loc Cert.DhidRefIdeal.main_arg2) = m' ((c.tc : Thread Cert.DhidRefIdeal.nD Cert.DhidRefIdeal.τ).loc Cert.DhidRefIdeal.main_arg2)
          ∧ r.2.mem ((c.tc : Thread Cert.DhidRefIdeal.nD Cert.DhidRefIdeal.τ).loc Cert.DhidRefIdeal.main_arg3) = m' ((c.tc : Thread Cert.DhidRefIdeal.nD Cert.DhidRefIdeal.τ).loc Cert.DhidRefIdeal.main_arg3)
          ∧ r.2.mem ((c.tc : Thread Cert.DhidRefIdeal.nD Cert.DhidRefIdeal.τ).loc Cert.DhidRefIdeal.main_arg4) = m' ((c.tc : Thread Cert.DhidRefIdeal.nD Cert.DhidRefIdeal.τ).loc Cert.DhidRefIdeal.main_arg4))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)) →
    ∃ (v0 : (c : Dev Cert.MixOutIdeal.nD) → Buf (Elt Ideal) ((c.tc : Thread Cert.MixOutIdeal.nD Cert.MixOutIdeal.τ).loc Cert.MixOutIdeal.main_v2)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v2) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v1) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2))

def preserves_MixOutB_MixOutBIdeal : Prop :=
  True

def algebraic_MixOutBIdeal_MixOutBRefIdeal [hMixOutBIdeal : Cert.MixOutBIdeal.Facts] [hMixOutBRefIdeal : Cert.MixOutBRefIdeal.Facts] : Prop :=
  ∀ (m : (ℓ : Loc Cert.MixOutBIdeal.nD Cert.MixOutBIdeal.τ Cert.MixOutBIdeal.sig) → Buf (Elt Ideal) ℓ) (g : Dev Cert.MixOutBIdeal.nD → PrngReg)
    (m' : (ℓ : Loc Cert.MixOutBRefIdeal.nD Cert.MixOutBRefIdeal.τ Cert.MixOutBRefIdeal.sig) → Buf (Elt Ideal) ℓ) (g' : Dev Cert.MixOutBRefIdeal.nD → PrngReg), Pre_MixOutBIdeal m →
    (∀ c : Dev Cert.MixOutBIdeal.nD,
      m' ((c.tc : Thread Cert.MixOutBRefIdeal.nD Cert.MixOutBRefIdeal.τ).loc Cert.MixOutBRefIdeal.main_arg0) = m ((c.tc : Thread Cert.MixOutBIdeal.nD Cert.MixOutBIdeal.τ).loc Cert.MixOutBIdeal.main_arg0)
      ∧ m' ((c.tc : Thread Cert.MixOutBRefIdeal.nD Cert.MixOutBRefIdeal.τ).loc Cert.MixOutBRefIdeal.main_arg1) = m ((c.tc : Thread Cert.MixOutBIdeal.nD Cert.MixOutBIdeal.τ).loc Cert.MixOutBIdeal.main_arg1)
      ∧ m' ((c.tc : Thread Cert.MixOutBRefIdeal.nD Cert.MixOutBRefIdeal.τ).loc Cert.MixOutBRefIdeal.main_arg2) = m ((c.tc : Thread Cert.MixOutBIdeal.nD Cert.MixOutBIdeal.τ).loc Cert.MixOutBIdeal.main_arg2)
      ∧ m' ((c.tc : Thread Cert.MixOutBRefIdeal.nD Cert.MixOutBRefIdeal.τ).loc Cert.MixOutBRefIdeal.main_arg3) = m ((c.tc : Thread Cert.MixOutBIdeal.nD Cert.MixOutBIdeal.τ).loc Cert.MixOutBIdeal.main_arg3)
      ∧ m' ((c.tc : Thread Cert.MixOutBRefIdeal.nD Cert.MixOutBRefIdeal.τ).loc Cert.MixOutBRefIdeal.main_arg4) = m ((c.tc : Thread Cert.MixOutBIdeal.nD Cert.MixOutBIdeal.τ).loc Cert.MixOutBIdeal.main_arg4)
      ∧ m' ((c.tc : Thread Cert.MixOutBRefIdeal.nD Cert.MixOutBRefIdeal.τ).loc Cert.MixOutBRefIdeal.main_arg5) = m ((c.tc : Thread Cert.MixOutBIdeal.nD Cert.MixOutBIdeal.τ).loc Cert.MixOutBIdeal.main_arg5)) →
    ∃ (v0 : (c : Dev Cert.MixOutBIdeal.nD) → Buf (Elt Ideal) ((c.tc : Thread Cert.MixOutBIdeal.nD Cert.MixOutBIdeal.τ).loc Cert.MixOutBIdeal.main_v34_0)) (v1 : (c : Dev Cert.MixOutBIdeal.nD) → Buf (Elt Ideal) ((c.tc : Thread Cert.MixOutBIdeal.nD Cert.MixOutBIdeal.τ).loc Cert.MixOutBIdeal.main_v34_1)) (v2 : (c : Dev Cert.MixOutBIdeal.nD) → Buf (Elt Ideal) ((c.tc : Thread Cert.MixOutBIdeal.nD Cert.MixOutBIdeal.τ).loc Cert.MixOutBIdeal.main_v34_2)) (v3 : (c : Dev Cert.MixOutBIdeal.nD) → Buf (Elt Ideal) ((c.tc : Thread Cert.MixOutBIdeal.nD Cert.MixOutBIdeal.τ).loc Cert.MixOutBIdeal.main_v34_3)),
      θ_run (Cert.MixOutBIdeal.defs (F := Ideal)) (onTc (τ := Cert.MixOutBIdeal.τ) (Cert.MixOutBIdeal.main (F := Ideal))) ⟨m, fun _ => 0, g⟩ (fun r => ∀ c : Dev Cert.MixOutBIdeal.nD,
          r.2.mem ((c.tc : Thread Cert.MixOutBIdeal.nD Cert.MixOutBIdeal.τ).loc Cert.MixOutBIdeal.main_v34_0) = v0 c
          ∧ r.2.mem ((c.tc : Thread Cert.MixOutBIdeal.nD Cert.MixOutBIdeal.τ).loc Cert.MixOutBIdeal.main_v34_1) = v1 c
          ∧ r.2.mem ((c.tc : Thread Cert.MixOutBIdeal.nD Cert.MixOutBIdeal.τ).loc Cert.MixOutBIdeal.main_v34_2) = v2 c
          ∧ r.2.mem ((c.tc : Thread Cert.MixOutBIdeal.nD Cert.MixOutBIdeal.τ).loc Cert.MixOutBIdeal.main_v34_3) = v3 c
          ∧ r.2.mem ((c.tc : Thread Cert.MixOutBIdeal.nD Cert.MixOutBIdeal.τ).loc Cert.MixOutBIdeal.main_arg0) = m ((c.tc : Thread Cert.MixOutBIdeal.nD Cert.MixOutBIdeal.τ).loc Cert.MixOutBIdeal.main_arg0)
          ∧ r.2.mem ((c.tc : Thread Cert.MixOutBIdeal.nD Cert.MixOutBIdeal.τ).loc Cert.MixOutBIdeal.main_arg1) = m ((c.tc : Thread Cert.MixOutBIdeal.nD Cert.MixOutBIdeal.τ).loc Cert.MixOutBIdeal.main_arg1)
          ∧ r.2.mem ((c.tc : Thread Cert.MixOutBIdeal.nD Cert.MixOutBIdeal.τ).loc Cert.MixOutBIdeal.main_arg2) = m ((c.tc : Thread Cert.MixOutBIdeal.nD Cert.MixOutBIdeal.τ).loc Cert.MixOutBIdeal.main_arg2)
          ∧ r.2.mem ((c.tc : Thread Cert.MixOutBIdeal.nD Cert.MixOutBIdeal.τ).loc Cert.MixOutBIdeal.main_arg3) = m ((c.tc : Thread Cert.MixOutBIdeal.nD Cert.MixOutBIdeal.τ).loc Cert.MixOutBIdeal.main_arg3)
          ∧ r.2.mem ((c.tc : Thread Cert.MixOutBIdeal.nD Cert.MixOutBIdeal.τ).loc Cert.MixOutBIdeal.main_arg4) = m ((c.tc : Thread Cert.MixOutBIdeal.nD Cert.MixOutBIdeal.τ).loc Cert.MixOutBIdeal.main_arg4)
          ∧ r.2.mem ((c.tc : Thread Cert.MixOutBIdeal.nD Cert.MixOutBIdeal.τ).loc Cert.MixOutBIdeal.main_arg5) = m ((c.tc : Thread Cert.MixOutBIdeal.nD Cert.MixOutBIdeal.τ).loc Cert.MixOutBIdeal.main_arg5))
      ∧ θ_run (Cert.MixOutBRefIdeal.defs (F := Ideal)) (onTc (τ := Cert.MixOutBRefIdeal.τ) (Cert.MixOutBRefIdeal.main (F := Ideal))) ⟨m', fun _ => 0, g'⟩ (fun r => ∀ c : Dev Cert.MixOutBRefIdeal.nD,
          r.2.mem ((c.tc : Thread Cert.MixOutBRefIdeal.nD Cert.MixOutBRefIdeal.τ).loc Cert.MixOutBRefIdeal.main_v29) = v0 c
          ∧ r.2.mem ((c.tc : Thread Cert.MixOutBRefIdeal.nD Cert.MixOutBRefIdeal.τ).loc Cert.MixOutBRefIdeal.main_v30) = v1 c
          ∧ r.2.mem ((c.tc : Thread Cert.MixOutBRefIdeal.nD Cert.MixOutBRefIdeal.τ).loc Cert.MixOutBRefIdeal.main_v31) = v2 c
          ∧ r.2.mem ((c.tc : Thread Cert.MixOutBRefIdeal.nD Cert.MixOutBRefIdeal.τ).loc Cert.MixOutBRefIdeal.main_v32) = v3 c
          ∧ r.2.mem ((c.tc : Thread Cert.MixOutBRefIdeal.nD Cert.MixOutBRefIdeal.τ).loc Cert.MixOutBRefIdeal.main_arg0) = m' ((c.tc : Thread Cert.MixOutBRefIdeal.nD Cert.MixOutBRefIdeal.τ).loc Cert.MixOutBRefIdeal.main_arg0)
          ∧ r.2.mem ((c.tc : Thread Cert.MixOutBRefIdeal.nD Cert.MixOutBRefIdeal.τ).loc Cert.MixOutBRefIdeal.main_arg1) = m' ((c.tc : Thread Cert.MixOutBRefIdeal.nD Cert.MixOutBRefIdeal.τ).loc Cert.MixOutBRefIdeal.main_arg1)
          ∧ r.2.mem ((c.tc : Thread Cert.MixOutBRefIdeal.nD Cert.MixOutBRefIdeal.τ).loc Cert.MixOutBRefIdeal.main_arg2) = m' ((c.tc : Thread Cert.MixOutBRefIdeal.nD Cert.MixOutBRefIdeal.τ).loc Cert.MixOutBRefIdeal.main_arg2)
          ∧ r.2.mem ((c.tc : Thread Cert.MixOutBRefIdeal.nD Cert.MixOutBRefIdeal.τ).loc Cert.MixOutBRefIdeal.main_arg3) = m' ((c.tc : Thread Cert.MixOutBRefIdeal.nD Cert.MixOutBRefIdeal.τ).loc Cert.MixOutBRefIdeal.main_arg3)
          ∧ r.2.mem ((c.tc : Thread Cert.MixOutBRefIdeal.nD Cert.MixOutBRefIdeal.τ).loc Cert.MixOutBRefIdeal.main_arg4) = m' ((c.tc : Thread Cert.MixOutBRefIdeal.nD Cert.MixOutBRefIdeal.τ).loc Cert.MixOutBRefIdeal.main_arg4)
          ∧ r.2.mem ((c.tc : Thread Cert.MixOutBRefIdeal.nD Cert.MixOutBRefIdeal.τ).loc Cert.MixOutBRefIdeal.main_arg5) = m' ((c.tc : Thread Cert.MixOutBRefIdeal.nD Cert.MixOutBRefIdeal.τ).loc Cert.MixOutBRefIdeal.main_arg5))

def preserves_MixOutDw_MixOutDwIdeal : Prop :=
  True

def algebraic_MixOutDwIdeal_MixOutDwRefIdeal [hMixOutDwIdeal : Cert.MixOutDwIdeal.Facts] [hMixOutDwRefIdeal : Cert.MixOutDwRefIdeal.Facts] : Prop :=
  ∀ (m : (ℓ : Loc Cert.MixOutDwIdeal.nD Cert.MixOutDwIdeal.τ Cert.MixOutDwIdeal.sig) → Buf (Elt Ideal) ℓ) (g : Dev Cert.MixOutDwIdeal.nD → PrngReg)
    (m' : (ℓ : Loc Cert.MixOutDwRefIdeal.nD Cert.MixOutDwRefIdeal.τ Cert.MixOutDwRefIdeal.sig) → Buf (Elt Ideal) ℓ) (g' : Dev Cert.MixOutDwRefIdeal.nD → PrngReg), Pre_MixOutDwIdeal m →
    (∀ c : Dev Cert.MixOutDwIdeal.nD,
      m' ((c.tc : Thread Cert.MixOutDwRefIdeal.nD Cert.MixOutDwRefIdeal.τ).loc Cert.MixOutDwRefIdeal.main_arg0) = m ((c.tc : Thread Cert.MixOutDwIdeal.nD Cert.MixOutDwIdeal.τ).loc Cert.MixOutDwIdeal.main_arg0)
      ∧ m' ((c.tc : Thread Cert.MixOutDwRefIdeal.nD Cert.MixOutDwRefIdeal.τ).loc Cert.MixOutDwRefIdeal.main_arg1) = m ((c.tc : Thread Cert.MixOutDwIdeal.nD Cert.MixOutDwIdeal.τ).loc Cert.MixOutDwIdeal.main_arg1)) →
    ∃ (v0 : (c : Dev Cert.MixOutDwIdeal.nD) → Buf (Elt Ideal) ((c.tc : Thread Cert.MixOutDwIdeal.nD Cert.MixOutDwIdeal.τ).loc Cert.MixOutDwIdeal.main_v2)),
      θ_run (Cert.MixOutDwIdeal.defs (F := Ideal)) (onTc (τ := Cert.MixOutDwIdeal.τ) (Cert.MixOutDwIdeal.main (F := Ideal))) ⟨m, fun _ => 0, g⟩ (fun r => ∀ c : Dev Cert.MixOutDwIdeal.nD,
          r.2.mem ((c.tc : Thread Cert.MixOutDwIdeal.nD Cert.MixOutDwIdeal.τ).loc Cert.MixOutDwIdeal.main_v2) = v0 c
          ∧ r.2.mem ((c.tc : Thread Cert.MixOutDwIdeal.nD Cert.MixOutDwIdeal.τ).loc Cert.MixOutDwIdeal.main_arg0) = m ((c.tc : Thread Cert.MixOutDwIdeal.nD Cert.MixOutDwIdeal.τ).loc Cert.MixOutDwIdeal.main_arg0)
          ∧ r.2.mem ((c.tc : Thread Cert.MixOutDwIdeal.nD Cert.MixOutDwIdeal.τ).loc Cert.MixOutDwIdeal.main_arg1) = m ((c.tc : Thread Cert.MixOutDwIdeal.nD Cert.MixOutDwIdeal.τ).loc Cert.MixOutDwIdeal.main_arg1))
      ∧ θ_run (Cert.MixOutDwRefIdeal.defs (F := Ideal)) (onTc (τ := Cert.MixOutDwRefIdeal.τ) (Cert.MixOutDwRefIdeal.main (F := Ideal))) ⟨m', fun _ => 0, g'⟩ (fun r => ∀ c : Dev Cert.MixOutDwRefIdeal.nD,
          r.2.mem ((c.tc : Thread Cert.MixOutDwRefIdeal.nD Cert.MixOutDwRefIdeal.τ).loc Cert.MixOutDwRefIdeal.main_v3) = v0 c
          ∧ r.2.mem ((c.tc : Thread Cert.MixOutDwRefIdeal.nD Cert.MixOutDwRefIdeal.τ).loc Cert.MixOutDwRefIdeal.main_arg0) = m' ((c.tc : Thread Cert.MixOutDwRefIdeal.nD Cert.MixOutDwRefIdeal.τ).loc Cert.MixOutDwRefIdeal.main_arg0)
          ∧ r.2.mem ((c.tc : Thread Cert.MixOutDwRefIdeal.nD Cert.MixOutDwRefIdeal.τ).loc Cert.MixOutDwRefIdeal.main_arg1) = m' ((c.tc : Thread Cert.MixOutDwRefIdeal.nD Cert.MixOutDwRefIdeal.τ).loc Cert.MixOutDwRefIdeal.main_arg1))

def preserves_SOut_SOutIdeal : Prop :=
  True

def algebraic_SOutIdeal_SOutRefIdeal [hSOutIdeal : Cert.SOutIdeal.Facts] [hSOutRefIdeal : Cert.SOutRefIdeal.Facts] : Prop :=
  ∀ (m : (ℓ : Loc Cert.SOutIdeal.nD Cert.SOutIdeal.τ Cert.SOutIdeal.sig) → Buf (Elt Ideal) ℓ) (g : Dev Cert.SOutIdeal.nD → PrngReg)
    (m' : (ℓ : Loc Cert.SOutRefIdeal.nD Cert.SOutRefIdeal.τ Cert.SOutRefIdeal.sig) → Buf (Elt Ideal) ℓ) (g' : Dev Cert.SOutRefIdeal.nD → PrngReg), Pre_SOutIdeal m →
    (∀ c : Dev Cert.SOutIdeal.nD,
      m' ((c.tc : Thread Cert.SOutRefIdeal.nD Cert.SOutRefIdeal.τ).loc Cert.SOutRefIdeal.main_arg0) = m ((c.tc : Thread Cert.SOutIdeal.nD Cert.SOutIdeal.τ).loc Cert.SOutIdeal.main_arg0)
      ∧ m' ((c.tc : Thread Cert.SOutRefIdeal.nD Cert.SOutRefIdeal.τ).loc Cert.SOutRefIdeal.main_arg1) = m ((c.tc : Thread Cert.SOutIdeal.nD Cert.SOutIdeal.τ).loc Cert.SOutIdeal.main_arg1)) →
    ∃ (v0 : (c : Dev Cert.SOutIdeal.nD) → Buf (Elt Ideal) ((c.tc : Thread Cert.SOutIdeal.nD Cert.SOutIdeal.τ).loc Cert.SOutIdeal.main_v4)),
      θ_run (Cert.SOutIdeal.defs (F := Ideal)) (onTc (τ := Cert.SOutIdeal.τ) (Cert.SOutIdeal.main (F := Ideal))) ⟨m, fun _ => 0, g⟩ (fun r => ∀ c : Dev Cert.SOutIdeal.nD,
          r.2.mem ((c.tc : Thread Cert.SOutIdeal.nD Cert.SOutIdeal.τ).loc Cert.SOutIdeal.main_v4) = v0 c
          ∧ r.2.mem ((c.tc : Thread Cert.SOutIdeal.nD Cert.SOutIdeal.τ).loc Cert.SOutIdeal.main_arg0) = m ((c.tc : Thread Cert.SOutIdeal.nD Cert.SOutIdeal.τ).loc Cert.SOutIdeal.main_arg0)
          ∧ r.2.mem ((c.tc : Thread Cert.SOutIdeal.nD Cert.SOutIdeal.τ).loc Cert.SOutIdeal.main_arg1) = m ((c.tc : Thread Cert.SOutIdeal.nD Cert.SOutIdeal.τ).loc Cert.SOutIdeal.main_arg1))
      ∧ θ_run (Cert.SOutRefIdeal.defs (F := Ideal)) (onTc (τ := Cert.SOutRefIdeal.τ) (Cert.SOutRefIdeal.main (F := Ideal))) ⟨m', fun _ => 0, g'⟩ (fun r => ∀ c : Dev Cert.SOutRefIdeal.nD,
          r.2.mem ((c.tc : Thread Cert.SOutRefIdeal.nD Cert.SOutRefIdeal.τ).loc Cert.SOutRefIdeal.main_v0) = v0 c
          ∧ r.2.mem ((c.tc : Thread Cert.SOutRefIdeal.nD Cert.SOutRefIdeal.τ).loc Cert.SOutRefIdeal.main_arg0) = m' ((c.tc : Thread Cert.SOutRefIdeal.nD Cert.SOutRefIdeal.τ).loc Cert.SOutRefIdeal.main_arg0)
          ∧ r.2.mem ((c.tc : Thread Cert.SOutRefIdeal.nD Cert.SOutRefIdeal.τ).loc Cert.SOutRefIdeal.main_arg1) = m' ((c.tc : Thread Cert.SOutRefIdeal.nD Cert.SOutRefIdeal.τ).loc Cert.SOutRefIdeal.main_arg1))

def preserves_SOutB_SOutBIdeal : Prop :=
  True

def algebraic_SOutBIdeal_SOutBRefIdeal [hSOutBIdeal : Cert.SOutBIdeal.Facts] [hSOutBRefIdeal : Cert.SOutBRefIdeal.Facts] : Prop :=
  ∀ (m : (ℓ : Loc Cert.SOutBIdeal.nD Cert.SOutBIdeal.τ Cert.SOutBIdeal.sig) → Buf (Elt Ideal) ℓ) (g : Dev Cert.SOutBIdeal.nD → PrngReg)
    (m' : (ℓ : Loc Cert.SOutBRefIdeal.nD Cert.SOutBRefIdeal.τ Cert.SOutBRefIdeal.sig) → Buf (Elt Ideal) ℓ) (g' : Dev Cert.SOutBRefIdeal.nD → PrngReg), Pre_SOutBIdeal m →
    (∀ c : Dev Cert.SOutBIdeal.nD,
      m' ((c.tc : Thread Cert.SOutBRefIdeal.nD Cert.SOutBRefIdeal.τ).loc Cert.SOutBRefIdeal.main_arg0) = m ((c.tc : Thread Cert.SOutBIdeal.nD Cert.SOutBIdeal.τ).loc Cert.SOutBIdeal.main_arg0)
      ∧ m' ((c.tc : Thread Cert.SOutBRefIdeal.nD Cert.SOutBRefIdeal.τ).loc Cert.SOutBRefIdeal.main_arg1) = m ((c.tc : Thread Cert.SOutBIdeal.nD Cert.SOutBIdeal.τ).loc Cert.SOutBIdeal.main_arg1)
      ∧ m' ((c.tc : Thread Cert.SOutBRefIdeal.nD Cert.SOutBRefIdeal.τ).loc Cert.SOutBRefIdeal.main_arg2) = m ((c.tc : Thread Cert.SOutBIdeal.nD Cert.SOutBIdeal.τ).loc Cert.SOutBIdeal.main_arg2)
      ∧ m' ((c.tc : Thread Cert.SOutBRefIdeal.nD Cert.SOutBRefIdeal.τ).loc Cert.SOutBRefIdeal.main_arg3) = m ((c.tc : Thread Cert.SOutBIdeal.nD Cert.SOutBIdeal.τ).loc Cert.SOutBIdeal.main_arg3)
      ∧ m' ((c.tc : Thread Cert.SOutBRefIdeal.nD Cert.SOutBRefIdeal.τ).loc Cert.SOutBRefIdeal.main_arg4) = m ((c.tc : Thread Cert.SOutBIdeal.nD Cert.SOutBIdeal.τ).loc Cert.SOutBIdeal.main_arg4)) →
    ∃ (v0 : (c : Dev Cert.SOutBIdeal.nD) → Buf (Elt Ideal) ((c.tc : Thread Cert.SOutBIdeal.nD Cert.SOutBIdeal.τ).loc Cert.SOutBIdeal.main_v21_0)) (v1 : (c : Dev Cert.SOutBIdeal.nD) → Buf (Elt Ideal) ((c.tc : Thread Cert.SOutBIdeal.nD Cert.SOutBIdeal.τ).loc Cert.SOutBIdeal.main_v21_1)),
      θ_run (Cert.SOutBIdeal.defs (F := Ideal)) (onTc (τ := Cert.SOutBIdeal.τ) (Cert.SOutBIdeal.main (F := Ideal))) ⟨m, fun _ => 0, g⟩ (fun r => ∀ c : Dev Cert.SOutBIdeal.nD,
          r.2.mem ((c.tc : Thread Cert.SOutBIdeal.nD Cert.SOutBIdeal.τ).loc Cert.SOutBIdeal.main_v21_0) = v0 c
          ∧ r.2.mem ((c.tc : Thread Cert.SOutBIdeal.nD Cert.SOutBIdeal.τ).loc Cert.SOutBIdeal.main_v21_1) = v1 c
          ∧ r.2.mem ((c.tc : Thread Cert.SOutBIdeal.nD Cert.SOutBIdeal.τ).loc Cert.SOutBIdeal.main_arg0) = m ((c.tc : Thread Cert.SOutBIdeal.nD Cert.SOutBIdeal.τ).loc Cert.SOutBIdeal.main_arg0)
          ∧ r.2.mem ((c.tc : Thread Cert.SOutBIdeal.nD Cert.SOutBIdeal.τ).loc Cert.SOutBIdeal.main_arg1) = m ((c.tc : Thread Cert.SOutBIdeal.nD Cert.SOutBIdeal.τ).loc Cert.SOutBIdeal.main_arg1)
          ∧ r.2.mem ((c.tc : Thread Cert.SOutBIdeal.nD Cert.SOutBIdeal.τ).loc Cert.SOutBIdeal.main_arg2) = m ((c.tc : Thread Cert.SOutBIdeal.nD Cert.SOutBIdeal.τ).loc Cert.SOutBIdeal.main_arg2)
          ∧ r.2.mem ((c.tc : Thread Cert.SOutBIdeal.nD Cert.SOutBIdeal.τ).loc Cert.SOutBIdeal.main_arg3) = m ((c.tc : Thread Cert.SOutBIdeal.nD Cert.SOutBIdeal.τ).loc Cert.SOutBIdeal.main_arg3)
          ∧ r.2.mem ((c.tc : Thread Cert.SOutBIdeal.nD Cert.SOutBIdeal.τ).loc Cert.SOutBIdeal.main_arg4) = m ((c.tc : Thread Cert.SOutBIdeal.nD Cert.SOutBIdeal.τ).loc Cert.SOutBIdeal.main_arg4))
      ∧ θ_run (Cert.SOutBRefIdeal.defs (F := Ideal)) (onTc (τ := Cert.SOutBRefIdeal.τ) (Cert.SOutBRefIdeal.main (F := Ideal))) ⟨m', fun _ => 0, g'⟩ (fun r => ∀ c : Dev Cert.SOutBRefIdeal.nD,
          r.2.mem ((c.tc : Thread Cert.SOutBRefIdeal.nD Cert.SOutBRefIdeal.τ).loc Cert.SOutBRefIdeal.main_v30) = v0 c
          ∧ r.2.mem ((c.tc : Thread Cert.SOutBRefIdeal.nD Cert.SOutBRefIdeal.τ).loc Cert.SOutBRefIdeal.main_v32) = v1 c
          ∧ r.2.mem ((c.tc : Thread Cert.SOutBRefIdeal.nD Cert.SOutBRefIdeal.τ).loc Cert.SOutBRefIdeal.main_arg0) = m' ((c.tc : Thread Cert.SOutBRefIdeal.nD Cert.SOutBRefIdeal.τ).loc Cert.SOutBRefIdeal.main_arg0)
          ∧ r.2.mem ((c.tc : Thread Cert.SOutBRefIdeal.nD Cert.SOutBRefIdeal.τ).loc Cert.SOutBRefIdeal.main_arg1) = m' ((c.tc : Thread Cert.SOutBRefIdeal.nD Cert.SOutBRefIdeal.τ).loc Cert.SOutBRefIdeal.main_arg1)
          ∧ r.2.mem ((c.tc : Thread Cert.SOutBRefIdeal.nD Cert.SOutBRefIdeal.τ).loc Cert.SOutBRefIdeal.main_arg2) = m' ((c.tc : Thread Cert.SOutBRefIdeal.nD Cert.SOutBRefIdeal.τ).loc Cert.SOutBRefIdeal.main_arg2)
          ∧ r.2.mem ((c.tc : Thread Cert.SOutBRefIdeal.nD Cert.SOutBRefIdeal.τ).loc Cert.SOutBRefIdeal.main_arg3) = m' ((c.tc : Thread Cert.SOutBRefIdeal.nD Cert.SOutBRefIdeal.τ).loc Cert.SOutBRefIdeal.main_arg3)
          ∧ r.2.mem ((c.tc : Thread Cert.SOutBRefIdeal.nD Cert.SOutBRefIdeal.τ).loc Cert.SOutBRefIdeal.main_arg4) = m' ((c.tc : Thread Cert.SOutBRefIdeal.nD Cert.SOutBRefIdeal.τ).loc Cert.SOutBRefIdeal.main_arg4))

def preserves_ConvOut_ConvOutIdeal : Prop :=
  True

def algebraic_ConvOutIdeal_ConvOutRefIdeal [hConvOutIdeal : Cert.ConvOutIdeal.Facts] [hConvOutRefIdeal : Cert.ConvOutRefIdeal.Facts] : Prop :=
  ∀ (m : (ℓ : Loc Cert.ConvOutIdeal.nD Cert.ConvOutIdeal.τ Cert.ConvOutIdeal.sig) → Buf (Elt Ideal) ℓ) (g : Dev Cert.ConvOutIdeal.nD → PrngReg)
    (m' : (ℓ : Loc Cert.ConvOutRefIdeal.nD Cert.ConvOutRefIdeal.τ Cert.ConvOutRefIdeal.sig) → Buf (Elt Ideal) ℓ) (g' : Dev Cert.ConvOutRefIdeal.nD → PrngReg), Pre_ConvOutIdeal m →
    (∀ c : Dev Cert.ConvOutIdeal.nD,
      m' ((c.tc : Thread Cert.ConvOutRefIdeal.nD Cert.ConvOutRefIdeal.τ).loc Cert.ConvOutRefIdeal.main_arg0) = m ((c.tc : Thread Cert.ConvOutIdeal.nD Cert.ConvOutIdeal.τ).loc Cert.ConvOutIdeal.main_arg0)
      ∧ m' ((c.tc : Thread Cert.ConvOutRefIdeal.nD Cert.ConvOutRefIdeal.τ).loc Cert.ConvOutRefIdeal.main_arg1) = m ((c.tc : Thread Cert.ConvOutIdeal.nD Cert.ConvOutIdeal.τ).loc Cert.ConvOutIdeal.main_arg1)
      ∧ m' ((c.tc : Thread Cert.ConvOutRefIdeal.nD Cert.ConvOutRefIdeal.τ).loc Cert.ConvOutRefIdeal.main_arg2) = m ((c.tc : Thread Cert.ConvOutIdeal.nD Cert.ConvOutIdeal.τ).loc Cert.ConvOutIdeal.main_arg2)
      ∧ m' ((c.tc : Thread Cert.ConvOutRefIdeal.nD Cert.ConvOutRefIdeal.τ).loc Cert.ConvOutRefIdeal.main_arg3) = m ((c.tc : Thread Cert.ConvOutIdeal.nD Cert.ConvOutIdeal.τ).loc Cert.ConvOutIdeal.main_arg3)) →
    ∃ (v0 : (c : Dev Cert.ConvOutIdeal.nD) → Buf (Elt Ideal) ((c.tc : Thread Cert.ConvOutIdeal.nD Cert.ConvOutIdeal.τ).loc Cert.ConvOutIdeal.main_v4_0)) (v1 : (c : Dev Cert.ConvOutIdeal.nD) → Buf (Elt Ideal) ((c.tc : Thread Cert.ConvOutIdeal.nD Cert.ConvOutIdeal.τ).loc Cert.ConvOutIdeal.main_v4_1)) (v2 : (c : Dev Cert.ConvOutIdeal.nD) → Buf (Elt Ideal) ((c.tc : Thread Cert.ConvOutIdeal.nD Cert.ConvOutIdeal.τ).loc Cert.ConvOutIdeal.main_v4_2)) (v3 : (c : Dev Cert.ConvOutIdeal.nD) → Buf (Elt Ideal) ((c.tc : Thread Cert.ConvOutIdeal.nD Cert.ConvOutIdeal.τ).loc Cert.ConvOutIdeal.main_v4_3)) (v4 : (c : Dev Cert.ConvOutIdeal.nD) → Buf (Elt Ideal) ((c.tc : Thread Cert.ConvOutIdeal.nD Cert.ConvOutIdeal.τ).loc Cert.ConvOutIdeal.main_v4_4)),
      θ_run (Cert.ConvOutIdeal.defs (F := Ideal)) (onTc (τ := Cert.ConvOutIdeal.τ) (Cert.ConvOutIdeal.main (F := Ideal))) ⟨m, fun _ => 0, g⟩ (fun r => ∀ c : Dev Cert.ConvOutIdeal.nD,
          r.2.mem ((c.tc : Thread Cert.ConvOutIdeal.nD Cert.ConvOutIdeal.τ).loc Cert.ConvOutIdeal.main_v4_0) = v0 c
          ∧ r.2.mem ((c.tc : Thread Cert.ConvOutIdeal.nD Cert.ConvOutIdeal.τ).loc Cert.ConvOutIdeal.main_v4_1) = v1 c
          ∧ r.2.mem ((c.tc : Thread Cert.ConvOutIdeal.nD Cert.ConvOutIdeal.τ).loc Cert.ConvOutIdeal.main_v4_2) = v2 c
          ∧ r.2.mem ((c.tc : Thread Cert.ConvOutIdeal.nD Cert.ConvOutIdeal.τ).loc Cert.ConvOutIdeal.main_v4_3) = v3 c
          ∧ r.2.mem ((c.tc : Thread Cert.ConvOutIdeal.nD Cert.ConvOutIdeal.τ).loc Cert.ConvOutIdeal.main_v4_4) = v4 c
          ∧ r.2.mem ((c.tc : Thread Cert.ConvOutIdeal.nD Cert.ConvOutIdeal.τ).loc Cert.ConvOutIdeal.main_arg0) = m ((c.tc : Thread Cert.ConvOutIdeal.nD Cert.ConvOutIdeal.τ).loc Cert.ConvOutIdeal.main_arg0)
          ∧ r.2.mem ((c.tc : Thread Cert.ConvOutIdeal.nD Cert.ConvOutIdeal.τ).loc Cert.ConvOutIdeal.main_arg1) = m ((c.tc : Thread Cert.ConvOutIdeal.nD Cert.ConvOutIdeal.τ).loc Cert.ConvOutIdeal.main_arg1)
          ∧ r.2.mem ((c.tc : Thread Cert.ConvOutIdeal.nD Cert.ConvOutIdeal.τ).loc Cert.ConvOutIdeal.main_arg2) = m ((c.tc : Thread Cert.ConvOutIdeal.nD Cert.ConvOutIdeal.τ).loc Cert.ConvOutIdeal.main_arg2)
          ∧ r.2.mem ((c.tc : Thread Cert.ConvOutIdeal.nD Cert.ConvOutIdeal.τ).loc Cert.ConvOutIdeal.main_arg3) = m ((c.tc : Thread Cert.ConvOutIdeal.nD Cert.ConvOutIdeal.τ).loc Cert.ConvOutIdeal.main_arg3))
      ∧ θ_run (Cert.ConvOutRefIdeal.defs (F := Ideal)) (onTc (τ := Cert.ConvOutRefIdeal.τ) (Cert.ConvOutRefIdeal.main (F := Ideal))) ⟨m', fun _ => 0, g'⟩ (fun r => ∀ c : Dev Cert.ConvOutRefIdeal.nD,
          r.2.mem ((c.tc : Thread Cert.ConvOutRefIdeal.nD Cert.ConvOutRefIdeal.τ).loc Cert.ConvOutRefIdeal.main_v46) = v0 c
          ∧ r.2.mem ((c.tc : Thread Cert.ConvOutRefIdeal.nD Cert.ConvOutRefIdeal.τ).loc Cert.ConvOutRefIdeal.main_v47) = v1 c
          ∧ r.2.mem ((c.tc : Thread Cert.ConvOutRefIdeal.nD Cert.ConvOutRefIdeal.τ).loc Cert.ConvOutRefIdeal.main_v48) = v2 c
          ∧ r.2.mem ((c.tc : Thread Cert.ConvOutRefIdeal.nD Cert.ConvOutRefIdeal.τ).loc Cert.ConvOutRefIdeal.main_v49) = v3 c
          ∧ r.2.mem ((c.tc : Thread Cert.ConvOutRefIdeal.nD Cert.ConvOutRefIdeal.τ).loc Cert.ConvOutRefIdeal.main_v50) = v4 c
          ∧ r.2.mem ((c.tc : Thread Cert.ConvOutRefIdeal.nD Cert.ConvOutRefIdeal.τ).loc Cert.ConvOutRefIdeal.main_arg0) = m' ((c.tc : Thread Cert.ConvOutRefIdeal.nD Cert.ConvOutRefIdeal.τ).loc Cert.ConvOutRefIdeal.main_arg0)
          ∧ r.2.mem ((c.tc : Thread Cert.ConvOutRefIdeal.nD Cert.ConvOutRefIdeal.τ).loc Cert.ConvOutRefIdeal.main_arg1) = m' ((c.tc : Thread Cert.ConvOutRefIdeal.nD Cert.ConvOutRefIdeal.τ).loc Cert.ConvOutRefIdeal.main_arg1)
          ∧ r.2.mem ((c.tc : Thread Cert.ConvOutRefIdeal.nD Cert.ConvOutRefIdeal.τ).loc Cert.ConvOutRefIdeal.main_arg2) = m' ((c.tc : Thread Cert.ConvOutRefIdeal.nD Cert.ConvOutRefIdeal.τ).loc Cert.ConvOutRefIdeal.main_arg2)
          ∧ r.2.mem ((c.tc : Thread Cert.ConvOutRefIdeal.nD Cert.ConvOutRefIdeal.τ).loc Cert.ConvOutRefIdeal.main_arg3) = m' ((c.tc : Thread Cert.ConvOutRefIdeal.nD Cert.ConvOutRefIdeal.τ).loc Cert.ConvOutRefIdeal.main_arg3))

def preserves_ConvOutB_ConvOutBIdeal : Prop :=
  True

def algebraic_ConvOutBIdeal_ConvOutBRefIdeal [hConvOutBIdeal : Cert.ConvOutBIdeal.Facts] [hConvOutBRefIdeal : Cert.ConvOutBRefIdeal.Facts] : Prop :=
  ∀ (m : (ℓ : Loc Cert.ConvOutBIdeal.nD Cert.ConvOutBIdeal.τ Cert.ConvOutBIdeal.sig) → Buf (Elt Ideal) ℓ) (g : Dev Cert.ConvOutBIdeal.nD → PrngReg)
    (m' : (ℓ : Loc Cert.ConvOutBRefIdeal.nD Cert.ConvOutBRefIdeal.τ Cert.ConvOutBRefIdeal.sig) → Buf (Elt Ideal) ℓ) (g' : Dev Cert.ConvOutBRefIdeal.nD → PrngReg), Pre_ConvOutBIdeal m →
    (∀ c : Dev Cert.ConvOutBIdeal.nD,
      m' ((c.tc : Thread Cert.ConvOutBRefIdeal.nD Cert.ConvOutBRefIdeal.τ).loc Cert.ConvOutBRefIdeal.main_arg0) = m ((c.tc : Thread Cert.ConvOutBIdeal.nD Cert.ConvOutBIdeal.τ).loc Cert.ConvOutBIdeal.main_arg0)
      ∧ m' ((c.tc : Thread Cert.ConvOutBRefIdeal.nD Cert.ConvOutBRefIdeal.τ).loc Cert.ConvOutBRefIdeal.main_arg1) = m ((c.tc : Thread Cert.ConvOutBIdeal.nD Cert.ConvOutBIdeal.τ).loc Cert.ConvOutBIdeal.main_arg1)) →
    ∃ (v0 : (c : Dev Cert.ConvOutBIdeal.nD) → Buf (Elt Ideal) ((c.tc : Thread Cert.ConvOutBIdeal.nD Cert.ConvOutBIdeal.τ).loc Cert.ConvOutBIdeal.main_v4)),
      θ_run (Cert.ConvOutBIdeal.defs (F := Ideal)) (onTc (τ := Cert.ConvOutBIdeal.τ) (Cert.ConvOutBIdeal.main (F := Ideal))) ⟨m, fun _ => 0, g⟩ (fun r => ∀ c : Dev Cert.ConvOutBIdeal.nD,
          r.2.mem ((c.tc : Thread Cert.ConvOutBIdeal.nD Cert.ConvOutBIdeal.τ).loc Cert.ConvOutBIdeal.main_v4) = v0 c
          ∧ r.2.mem ((c.tc : Thread Cert.ConvOutBIdeal.nD Cert.ConvOutBIdeal.τ).loc Cert.ConvOutBIdeal.main_arg0) = m ((c.tc : Thread Cert.ConvOutBIdeal.nD Cert.ConvOutBIdeal.τ).loc Cert.ConvOutBIdeal.main_arg0)
          ∧ r.2.mem ((c.tc : Thread Cert.ConvOutBIdeal.nD Cert.ConvOutBIdeal.τ).loc Cert.ConvOutBIdeal.main_arg1) = m ((c.tc : Thread Cert.ConvOutBIdeal.nD Cert.ConvOutBIdeal.τ).loc Cert.ConvOutBIdeal.main_arg1))
      ∧ θ_run (Cert.ConvOutBRefIdeal.defs (F := Ideal)) (onTc (τ := Cert.ConvOutBRefIdeal.τ) (Cert.ConvOutBRefIdeal.main (F := Ideal))) ⟨m', fun _ => 0, g'⟩ (fun r => ∀ c : Dev Cert.ConvOutBRefIdeal.nD,
          r.2.mem ((c.tc : Thread Cert.ConvOutBRefIdeal.nD Cert.ConvOutBRefIdeal.τ).loc Cert.ConvOutBRefIdeal.main_v2) = v0 c
          ∧ r.2.mem ((c.tc : Thread Cert.ConvOutBRefIdeal.nD Cert.ConvOutBRefIdeal.τ).loc Cert.ConvOutBRefIdeal.main_arg0) = m' ((c.tc : Thread Cert.ConvOutBRefIdeal.nD Cert.ConvOutBRefIdeal.τ).loc Cert.ConvOutBRefIdeal.main_arg0)
          ∧ r.2.mem ((c.tc : Thread Cert.ConvOutBRefIdeal.nD Cert.ConvOutBRefIdeal.τ).loc Cert.ConvOutBRefIdeal.main_arg1) = m' ((c.tc : Thread Cert.ConvOutBRefIdeal.nD Cert.ConvOutBRefIdeal.τ).loc Cert.ConvOutBRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v2)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v2) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v5) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)) →
    ∃ (v0 : (c : Dev Cert.GluIdeal.nD) → Buf (Elt Ideal) ((c.tc : Thread Cert.GluIdeal.nD Cert.GluIdeal.τ).loc Cert.GluIdeal.main_v2_0)) (v1 : (c : Dev Cert.GluIdeal.nD) → Buf (Elt Ideal) ((c.tc : Thread Cert.GluIdeal.nD Cert.GluIdeal.τ).loc Cert.GluIdeal.main_v2_1)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v2_0) = v0 c
          ∧ r.2.mem ((c.tc : Thread Cert.GluIdeal.nD Cert.GluIdeal.τ).loc Cert.GluIdeal.main_v2_1) = v1 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v16) = v0 c
          ∧ r.2.mem ((c.tc : Thread Cert.GluRefIdeal.nD Cert.GluRefIdeal.τ).loc Cert.GluRefIdeal.main_v24) = v1 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2))

def preserves_GluDw_GluDwIdeal : Prop :=
  True

def algebraic_GluDwIdeal_GluDwRefIdeal [hGluDwIdeal : Cert.GluDwIdeal.Facts] [hGluDwRefIdeal : Cert.GluDwRefIdeal.Facts] : Prop :=
  ∀ (m : (ℓ : Loc Cert.GluDwIdeal.nD Cert.GluDwIdeal.τ Cert.GluDwIdeal.sig) → Buf (Elt Ideal) ℓ) (g : Dev Cert.GluDwIdeal.nD → PrngReg)
    (m' : (ℓ : Loc Cert.GluDwRefIdeal.nD Cert.GluDwRefIdeal.τ Cert.GluDwRefIdeal.sig) → Buf (Elt Ideal) ℓ) (g' : Dev Cert.GluDwRefIdeal.nD → PrngReg), Pre_GluDwIdeal m →
    (∀ c : Dev Cert.GluDwIdeal.nD,
      m' ((c.tc : Thread Cert.GluDwRefIdeal.nD Cert.GluDwRefIdeal.τ).loc Cert.GluDwRefIdeal.main_arg0) = m ((c.tc : Thread Cert.GluDwIdeal.nD Cert.GluDwIdeal.τ).loc Cert.GluDwIdeal.main_arg0)
      ∧ m' ((c.tc : Thread Cert.GluDwRefIdeal.nD Cert.GluDwRefIdeal.τ).loc Cert.GluDwRefIdeal.main_arg1) = m ((c.tc : Thread Cert.GluDwIdeal.nD Cert.GluDwIdeal.τ).loc Cert.GluDwIdeal.main_arg1)) →
    ∃ (v0 : (c : Dev Cert.GluDwIdeal.nD) → Buf (Elt Ideal) ((c.tc : Thread Cert.GluDwIdeal.nD Cert.GluDwIdeal.τ).loc Cert.GluDwIdeal.main_v1)),
      θ_run (Cert.GluDwIdeal.defs (F := Ideal)) (onTc (τ := Cert.GluDwIdeal.τ) (Cert.GluDwIdeal.main (F := Ideal))) ⟨m, fun _ => 0, g⟩ (fun r => ∀ c : Dev Cert.GluDwIdeal.nD,
          r.2.mem ((c.tc : Thread Cert.GluDwIdeal.nD Cert.GluDwIdeal.τ).loc Cert.GluDwIdeal.main_v1) = v0 c
          ∧ r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
          ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1))
      ∧ θ_run (Cert.GluDwRefIdeal.defs (F := Ideal)) (onTc (τ := Cert.GluDwRefIdeal.τ) (Cert.GluDwRefIdeal.main (F := Ideal))) ⟨m', fun _ => 0, g'⟩ (fun r => ∀ c : Dev Cert.GluDwRefIdeal.nD,
          r.2.mem ((c.tc : Thread Cert.GluDwRefIdeal.nD Cert.GluDwRefIdeal.τ).loc Cert.GluDwRefIdeal.main_v16) = v0 c
          ∧ r.2.mem ((c.tc : Thread Cert.GluDwRefIdeal.nD Cert.GluDwRefIdeal.τ).loc Cert.GluDwRefIdeal.main_arg0) = m' ((c.tc : Thread Cert.GluDwRefIdeal.nD Cert.GluDwRefIdeal.τ).loc Cert.GluDwRefIdeal.main_arg0)
          ∧ r.2.mem ((c.tc : Thread Cert.GluDwRefIdeal.nD Cert.GluDwRefIdeal.τ).loc Cert.GluDwRefIdeal.main_arg1) = m' ((c.tc : Thread Cert.GluDwRefIdeal.nD Cert.GluDwRefIdeal.τ).loc Cert.GluDwRefIdeal.main_arg1))

def preserves_Dw_DwIdeal : Prop :=
  True

def algebraic_DwIdeal_DwRefIdeal [hDwIdeal : Cert.DwIdeal.Facts] [hDwRefIdeal : Cert.DwRefIdeal.Facts] [hPre_on_a_device : Cert.Pre_on_a_device.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwIdeal m →
    (∀ c : Dev Cert.DwIdeal.nD,
      m' ((c.tc : Thread Cert.DwRefIdeal.nD Cert.DwRefIdeal.τ).loc Cert.DwRefIdeal.main_arg0) = m ((c.tc : Thread Cert.DwIdeal.nD Cert.DwIdeal.τ).loc Cert.DwIdeal.main_arg0)
      ∧ m' ((c.tc : Thread Cert.DwRefIdeal.nD Cert.DwRefIdeal.τ).loc Cert.DwRefIdeal.main_arg1) = m ((c.tc : Thread Cert.DwIdeal.nD Cert.DwIdeal.τ).loc Cert.DwIdeal.main_arg1)
      ∧ m' ((c.tc : Thread Cert.DwRefIdeal.nD Cert.DwRefIdeal.τ).loc Cert.DwRefIdeal.main_arg2) = m ((c.tc : Thread Cert.DwIdeal.nD Cert.DwIdeal.τ).loc Cert.DwIdeal.main_arg2)) →
    ∃ (v0 : (c : Dev Cert.DwIdeal.nD) → Buf (Elt Ideal) ((c.tc : Thread Cert.DwIdeal.nD Cert.DwIdeal.τ).loc Cert.DwIdeal.main_v0_0)) (v1 : (c : Dev Cert.DwIdeal.nD) → Buf (Elt Ideal) ((c.tc : Thread Cert.DwIdeal.nD Cert.DwIdeal.τ).loc Cert.DwIdeal.main_v0_1)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v0_0) = v0 c
          ∧ r.2.mem ((c.tc : Thread Cert.DwIdeal.nD Cert.DwIdeal.τ).loc Cert.DwIdeal.main_v0_1) = v1 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
          ∧ r.2.mem ((c.tc : Thread Cert.DwIdeal.nD Cert.DwIdeal.τ).loc Cert.DwIdeal.main_arg2) = m ((c.tc : Thread Cert.DwIdeal.nD Cert.DwIdeal.τ).loc Cert.DwIdeal.main_arg2))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v15) = v0 c
          ∧ r.2.mem ((c.tc : Thread Cert.DwRefIdeal.nD Cert.DwRefIdeal.τ).loc Cert.DwRefIdeal.main_v21) = v1 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1)
          ∧ r.2.mem ((c.tc : Thread Cert.DwRefIdeal.nD Cert.DwRefIdeal.τ).loc Cert.DwRefIdeal.main_arg2) = m' ((c.tc : Thread Cert.DwRefIdeal.nD Cert.DwRefIdeal.τ).loc Cert.DwRefIdeal.main_arg2))

def preserves_DwD_DwDIdeal : Prop :=
  True

def algebraic_DwDIdeal_DwDRefIdeal [hDwDIdeal : Cert.DwDIdeal.Facts] [hDwDRefIdeal : Cert.DwDRefIdeal.Facts] [hPre_on_a_device : Cert.Pre_on_a_device.Facts] : Prop :=
  ∀ (m : (ℓ : Loc Cert.DwDIdeal.nD Cert.DwDIdeal.τ Cert.DwDIdeal.sig) → Buf (Elt Ideal) ℓ) (g : Dev Cert.DwDIdeal.nD → PrngReg)
    (m' : (ℓ : Loc Cert.DwDRefIdeal.nD Cert.DwDRefIdeal.τ Cert.DwDRefIdeal.sig) → Buf (Elt Ideal) ℓ) (g' : Dev Cert.DwDRefIdeal.nD → PrngReg), Pre_DwDIdeal m →
    (∀ c : Dev Cert.DwDIdeal.nD,
      m' ((c.tc : Thread Cert.DwDRefIdeal.nD Cert.DwDRefIdeal.τ).loc Cert.DwDRefIdeal.main_arg0) = m ((c.tc : Thread Cert.DwDIdeal.nD Cert.DwDIdeal.τ).loc Cert.DwDIdeal.main_arg0)
      ∧ m' ((c.tc : Thread Cert.DwDRefIdeal.nD Cert.DwDRefIdeal.τ).loc Cert.DwDRefIdeal.main_arg1) = m ((c.tc : Thread Cert.DwDIdeal.nD Cert.DwDIdeal.τ).loc Cert.DwDIdeal.main_arg1)
      ∧ m' ((c.tc : Thread Cert.DwDRefIdeal.nD Cert.DwDRefIdeal.τ).loc Cert.DwDRefIdeal.main_arg2) = m ((c.tc : Thread Cert.DwDIdeal.nD Cert.DwDIdeal.τ).loc Cert.DwDIdeal.main_arg2)) →
    ∃ (v0 : (c : Dev Cert.DwDIdeal.nD) → Buf (Elt Ideal) ((c.tc : Thread Cert.DwDIdeal.nD Cert.DwDIdeal.τ).loc Cert.DwDIdeal.main_v0_0)) (v1 : (c : Dev Cert.DwDIdeal.nD) → Buf (Elt Ideal) ((c.tc : Thread Cert.DwDIdeal.nD Cert.DwDIdeal.τ).loc Cert.DwDIdeal.main_v0_1)),
      θ_run (Cert.DwDIdeal.defs (F := Ideal)) (onTc (τ := Cert.DwDIdeal.τ) (Cert.DwDIdeal.main (F := Ideal))) ⟨m, fun _ => 0, g⟩ (fun r => ∀ c : Dev Cert.DwDIdeal.nD,
          r.2.mem ((c.tc : Thread Cert.DwDIdeal.nD Cert.DwDIdeal.τ).loc Cert.DwDIdeal.main_v0_0) = v0 c
          ∧ r.2.mem ((c.tc : Thread Cert.DwDIdeal.nD Cert.DwDIdeal.τ).loc Cert.DwDIdeal.main_v0_1) = v1 c
          ∧ r.2.mem ((c.tc : Thread Cert.DwDIdeal.nD Cert.DwDIdeal.τ).loc Cert.DwDIdeal.main_arg0) = m ((c.tc : Thread Cert.DwDIdeal.nD Cert.DwDIdeal.τ).loc Cert.DwDIdeal.main_arg0)
          ∧ r.2.mem ((c.tc : Thread Cert.DwDIdeal.nD Cert.DwDIdeal.τ).loc Cert.DwDIdeal.main_arg1) = m ((c.tc : Thread Cert.DwDIdeal.nD Cert.DwDIdeal.τ).loc Cert.DwDIdeal.main_arg1)
          ∧ r.2.mem ((c.tc : Thread Cert.DwDIdeal.nD Cert.DwDIdeal.τ).loc Cert.DwDIdeal.main_arg2) = m ((c.tc : Thread Cert.DwDIdeal.nD Cert.DwDIdeal.τ).loc Cert.DwDIdeal.main_arg2))
      ∧ θ_run (Cert.DwDRefIdeal.defs (F := Ideal)) (onTc (τ := Cert.DwDRefIdeal.τ) (Cert.DwDRefIdeal.main (F := Ideal))) ⟨m', fun _ => 0, g'⟩ (fun r => ∀ c : Dev Cert.DwDRefIdeal.nD,
          r.2.mem ((c.tc : Thread Cert.DwDRefIdeal.nD Cert.DwDRefIdeal.τ).loc Cert.DwDRefIdeal.main_v18) = v0 c
          ∧ r.2.mem ((c.tc : Thread Cert.DwDRefIdeal.nD Cert.DwDRefIdeal.τ).loc Cert.DwDRefIdeal.main_v24) = v1 c
          ∧ r.2.mem ((c.tc : Thread Cert.DwDRefIdeal.nD Cert.DwDRefIdeal.τ).loc Cert.DwDRefIdeal.main_arg0) = m' ((c.tc : Thread Cert.DwDRefIdeal.nD Cert.DwDRefIdeal.τ).loc Cert.DwDRefIdeal.main_arg0)
          ∧ r.2.mem ((c.tc : Thread Cert.DwDRefIdeal.nD Cert.DwDRefIdeal.τ).loc Cert.DwDRefIdeal.main_arg1) = m' ((c.tc : Thread Cert.DwDRefIdeal.nD Cert.DwDRefIdeal.τ).loc Cert.DwDRefIdeal.main_arg1)
          ∧ r.2.mem ((c.tc : Thread Cert.DwDRefIdeal.nD Cert.DwDRefIdeal.τ).loc Cert.DwDRefIdeal.main_arg2) = m' ((c.tc : Thread Cert.DwDRefIdeal.nD Cert.DwDRefIdeal.τ).loc Cert.DwDRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_NormB_NormBIdeal : Prop :=
  True

def algebraic_NormBIdeal_NormBRefIdeal [hNormBIdeal : Cert.NormBIdeal.Facts] [hNormBRefIdeal : Cert.NormBRefIdeal.Facts] : Prop :=
  ∀ (m : (ℓ : Loc Cert.NormBIdeal.nD Cert.NormBIdeal.τ Cert.NormBIdeal.sig) → Buf (Elt Ideal) ℓ) (g : Dev Cert.NormBIdeal.nD → PrngReg)
    (m' : (ℓ : Loc Cert.NormBRefIdeal.nD Cert.NormBRefIdeal.τ Cert.NormBRefIdeal.sig) → Buf (Elt Ideal) ℓ) (g' : Dev Cert.NormBRefIdeal.nD → PrngReg), Pre_NormBIdeal m →
    (∀ c : Dev Cert.NormBIdeal.nD,
      m' ((c.tc : Thread Cert.NormBRefIdeal.nD Cert.NormBRefIdeal.τ).loc Cert.NormBRefIdeal.main_arg0) = m ((c.tc : Thread Cert.NormBIdeal.nD Cert.NormBIdeal.τ).loc Cert.NormBIdeal.main_arg0)
      ∧ m' ((c.tc : Thread Cert.NormBRefIdeal.nD Cert.NormBRefIdeal.τ).loc Cert.NormBRefIdeal.main_arg1) = m ((c.tc : Thread Cert.NormBIdeal.nD Cert.NormBIdeal.τ).loc Cert.NormBIdeal.main_arg1)
      ∧ m' ((c.tc : Thread Cert.NormBRefIdeal.nD Cert.NormBRefIdeal.τ).loc Cert.NormBRefIdeal.main_arg2) = m ((c.tc : Thread Cert.NormBIdeal.nD Cert.NormBIdeal.τ).loc Cert.NormBIdeal.main_arg2)
      ∧ m' ((c.tc : Thread Cert.NormBRefIdeal.nD Cert.NormBRefIdeal.τ).loc Cert.NormBRefIdeal.main_arg3) = m ((c.tc : Thread Cert.NormBIdeal.nD Cert.NormBIdeal.τ).loc Cert.NormBIdeal.main_arg3)) →
    ∃ (v0 : (c : Dev Cert.NormBIdeal.nD) → Buf (Elt Ideal) ((c.tc : Thread Cert.NormBIdeal.nD Cert.NormBIdeal.τ).loc Cert.NormBIdeal.main_v1_0)) (v1 : (c : Dev Cert.NormBIdeal.nD) → Buf (Elt Ideal) ((c.tc : Thread Cert.NormBIdeal.nD Cert.NormBIdeal.τ).loc Cert.NormBIdeal.main_v1_1)) (v2 : (c : Dev Cert.NormBIdeal.nD) → Buf (Elt Ideal) ((c.tc : Thread Cert.NormBIdeal.nD Cert.NormBIdeal.τ).loc Cert.NormBIdeal.main_v1_2)),
      θ_run (Cert.NormBIdeal.defs (F := Ideal)) (onTc (τ := Cert.NormBIdeal.τ) (Cert.NormBIdeal.main (F := Ideal))) ⟨m, fun _ => 0, g⟩ (fun r => ∀ c : Dev Cert.NormBIdeal.nD,
          r.2.mem ((c.tc : Thread Cert.NormBIdeal.nD Cert.NormBIdeal.τ).loc Cert.NormBIdeal.main_v1_0) = v0 c
          ∧ r.2.mem ((c.tc : Thread Cert.NormBIdeal.nD Cert.NormBIdeal.τ).loc Cert.NormBIdeal.main_v1_1) = v1 c
          ∧ r.2.mem ((c.tc : Thread Cert.NormBIdeal.nD Cert.NormBIdeal.τ).loc Cert.NormBIdeal.main_v1_2) = v2 c
          ∧ r.2.mem ((c.tc : Thread Cert.NormBIdeal.nD Cert.NormBIdeal.τ).loc Cert.NormBIdeal.main_arg0) = m ((c.tc : Thread Cert.NormBIdeal.nD Cert.NormBIdeal.τ).loc Cert.NormBIdeal.main_arg0)
          ∧ r.2.mem ((c.tc : Thread Cert.NormBIdeal.nD Cert.NormBIdeal.τ).loc Cert.NormBIdeal.main_arg1) = m ((c.tc : Thread Cert.NormBIdeal.nD Cert.NormBIdeal.τ).loc Cert.NormBIdeal.main_arg1)
          ∧ r.2.mem ((c.tc : Thread Cert.NormBIdeal.nD Cert.NormBIdeal.τ).loc Cert.NormBIdeal.main_arg2) = m ((c.tc : Thread Cert.NormBIdeal.nD Cert.NormBIdeal.τ).loc Cert.NormBIdeal.main_arg2)
          ∧ r.2.mem ((c.tc : Thread Cert.NormBIdeal.nD Cert.NormBIdeal.τ).loc Cert.NormBIdeal.main_arg3) = m ((c.tc : Thread Cert.NormBIdeal.nD Cert.NormBIdeal.τ).loc Cert.NormBIdeal.main_arg3))
      ∧ θ_run (Cert.NormBRefIdeal.defs (F := Ideal)) (onTc (τ := Cert.NormBRefIdeal.τ) (Cert.NormBRefIdeal.main (F := Ideal))) ⟨m', fun _ => 0, g'⟩ (fun r => ∀ c : Dev Cert.NormBRefIdeal.nD,
          r.2.mem ((c.tc : Thread Cert.NormBRefIdeal.nD Cert.NormBRefIdeal.τ).loc Cert.NormBRefIdeal.main_v36) = v0 c
          ∧ r.2.mem ((c.tc : Thread Cert.NormBRefIdeal.nD Cert.NormBRefIdeal.τ).loc Cert.NormBRefIdeal.main_v38) = v1 c
          ∧ r.2.mem ((c.tc : Thread Cert.NormBRefIdeal.nD Cert.NormBRefIdeal.τ).loc Cert.NormBRefIdeal.main_v39) = v2 c
          ∧ r.2.mem ((c.tc : Thread Cert.NormBRefIdeal.nD Cert.NormBRefIdeal.τ).loc Cert.NormBRefIdeal.main_arg0) = m' ((c.tc : Thread Cert.NormBRefIdeal.nD Cert.NormBRefIdeal.τ).loc Cert.NormBRefIdeal.main_arg0)
          ∧ r.2.mem ((c.tc : Thread Cert.NormBRefIdeal.nD Cert.NormBRefIdeal.τ).loc Cert.NormBRefIdeal.main_arg1) = m' ((c.tc : Thread Cert.NormBRefIdeal.nD Cert.NormBRefIdeal.τ).loc Cert.NormBRefIdeal.main_arg1)
          ∧ r.2.mem ((c.tc : Thread Cert.NormBRefIdeal.nD Cert.NormBRefIdeal.τ).loc Cert.NormBRefIdeal.main_arg2) = m' ((c.tc : Thread Cert.NormBRefIdeal.nD Cert.NormBRefIdeal.τ).loc Cert.NormBRefIdeal.main_arg2)
          ∧ r.2.mem ((c.tc : Thread Cert.NormBRefIdeal.nD Cert.NormBRefIdeal.τ).loc Cert.NormBRefIdeal.main_arg3) = m' ((c.tc : Thread Cert.NormBRefIdeal.nD Cert.NormBRefIdeal.τ).loc Cert.NormBRefIdeal.main_arg3))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)) →
    ∃ (v0 : (c : Dev Cert.FinalIdeal.nD) → Buf (Elt Ideal) ((c.tc : Thread Cert.FinalIdeal.nD Cert.FinalIdeal.τ).loc Cert.FinalIdeal.main_v1_0)) (v1 : (c : Dev Cert.FinalIdeal.nD) → Buf (Elt Ideal) ((c.tc : Thread Cert.FinalIdeal.nD Cert.FinalIdeal.τ).loc Cert.FinalIdeal.main_v1_1)) (v2 : (c : Dev Cert.FinalIdeal.nD) → Buf (Elt Ideal) ((c.tc : Thread Cert.FinalIdeal.nD Cert.FinalIdeal.τ).loc Cert.FinalIdeal.main_v1_2)) (v3 : (c : Dev Cert.FinalIdeal.nD) → Buf (Elt Ideal) ((c.tc : Thread Cert.FinalIdeal.nD Cert.FinalIdeal.τ).loc Cert.FinalIdeal.main_v1_3)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1_0) = v0 c
          ∧ r.2.mem ((c.tc : Thread Cert.FinalIdeal.nD Cert.FinalIdeal.τ).loc Cert.FinalIdeal.main_v1_1) = v1 c
          ∧ r.2.mem ((c.tc : Thread Cert.FinalIdeal.nD Cert.FinalIdeal.τ).loc Cert.FinalIdeal.main_v1_2) = v2 c
          ∧ r.2.mem ((c.tc : Thread Cert.FinalIdeal.nD Cert.FinalIdeal.τ).loc Cert.FinalIdeal.main_v1_3) = v3 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v50) = v0 c
          ∧ r.2.mem ((c.tc : Thread Cert.FinalRefIdeal.nD Cert.FinalRefIdeal.τ).loc Cert.FinalRefIdeal.main_v66) = v1 c
          ∧ r.2.mem ((c.tc : Thread Cert.FinalRefIdeal.nD Cert.FinalRefIdeal.τ).loc Cert.FinalRefIdeal.main_v72) = v2 c
          ∧ r.2.mem ((c.tc : Thread Cert.FinalRefIdeal.nD Cert.FinalRefIdeal.τ).loc Cert.FinalRefIdeal.main_v73) = v3 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_ConvF_ConvFIdeal : Prop :=
  True

def algebraic_ConvFIdeal_ConvFRefIdeal [hConvFIdeal : Cert.ConvFIdeal.Facts] [hConvFRefIdeal : Cert.ConvFRefIdeal.Facts] : Prop :=
  ∀ (m : (ℓ : Loc Cert.ConvFIdeal.nD Cert.ConvFIdeal.τ Cert.ConvFIdeal.sig) → Buf (Elt Ideal) ℓ) (g : Dev Cert.ConvFIdeal.nD → PrngReg)
    (m' : (ℓ : Loc Cert.ConvFRefIdeal.nD Cert.ConvFRefIdeal.τ Cert.ConvFRefIdeal.sig) → Buf (Elt Ideal) ℓ) (g' : Dev Cert.ConvFRefIdeal.nD → PrngReg), Pre_ConvFIdeal m →
    (∀ c : Dev Cert.ConvFIdeal.nD,
      m' ((c.tc : Thread Cert.ConvFRefIdeal.nD Cert.ConvFRefIdeal.τ).loc Cert.ConvFRefIdeal.main_arg0) = m ((c.tc : Thread Cert.ConvFIdeal.nD Cert.ConvFIdeal.τ).loc Cert.ConvFIdeal.main_arg0)
      ∧ m' ((c.tc : Thread Cert.ConvFRefIdeal.nD Cert.ConvFRefIdeal.τ).loc Cert.ConvFRefIdeal.main_arg1) = m ((c.tc : Thread Cert.ConvFIdeal.nD Cert.ConvFIdeal.τ).loc Cert.ConvFIdeal.main_arg1)
      ∧ m' ((c.tc : Thread Cert.ConvFRefIdeal.nD Cert.ConvFRefIdeal.τ).loc Cert.ConvFRefIdeal.main_arg2) = m ((c.tc : Thread Cert.ConvFIdeal.nD Cert.ConvFIdeal.τ).loc Cert.ConvFIdeal.main_arg2)) →
    ∃ (v0 : (c : Dev Cert.ConvFIdeal.nD) → Buf (Elt Ideal) ((c.tc : Thread Cert.ConvFIdeal.nD Cert.ConvFIdeal.τ).loc Cert.ConvFIdeal.main_v2)),
      θ_run (Cert.ConvFIdeal.defs (F := Ideal)) (onTc (τ := Cert.ConvFIdeal.τ) (Cert.ConvFIdeal.main (F := Ideal))) ⟨m, fun _ => 0, g⟩ (fun r => ∀ c : Dev Cert.ConvFIdeal.nD,
          r.2.mem ((c.tc : Thread Cert.ConvFIdeal.nD Cert.ConvFIdeal.τ).loc Cert.ConvFIdeal.main_v2) = v0 c
          ∧ r.2.mem ((c.tc : Thread Cert.ConvFIdeal.nD Cert.ConvFIdeal.τ).loc Cert.ConvFIdeal.main_arg0) = m ((c.tc : Thread Cert.ConvFIdeal.nD Cert.ConvFIdeal.τ).loc Cert.ConvFIdeal.main_arg0)
          ∧ r.2.mem ((c.tc : Thread Cert.ConvFIdeal.nD Cert.ConvFIdeal.τ).loc Cert.ConvFIdeal.main_arg1) = m ((c.tc : Thread Cert.ConvFIdeal.nD Cert.ConvFIdeal.τ).loc Cert.ConvFIdeal.main_arg1)
          ∧ r.2.mem ((c.tc : Thread Cert.ConvFIdeal.nD Cert.ConvFIdeal.τ).loc Cert.ConvFIdeal.main_arg2) = m ((c.tc : Thread Cert.ConvFIdeal.nD Cert.ConvFIdeal.τ).loc Cert.ConvFIdeal.main_arg2))
      ∧ θ_run (Cert.ConvFRefIdeal.defs (F := Ideal)) (onTc (τ := Cert.ConvFRefIdeal.τ) (Cert.ConvFRefIdeal.main (F := Ideal))) ⟨m', fun _ => 0, g'⟩ (fun r => ∀ c : Dev Cert.ConvFRefIdeal.nD,
          r.2.mem ((c.tc : Thread Cert.ConvFRefIdeal.nD Cert.ConvFRefIdeal.τ).loc Cert.ConvFRefIdeal.main_v34) = v0 c
          ∧ r.2.mem ((c.tc : Thread Cert.ConvFRefIdeal.nD Cert.ConvFRefIdeal.τ).loc Cert.ConvFRefIdeal.main_arg0) = m' ((c.tc : Thread Cert.ConvFRefIdeal.nD Cert.ConvFRefIdeal.τ).loc Cert.ConvFRefIdeal.main_arg0)
          ∧ r.2.mem ((c.tc : Thread Cert.ConvFRefIdeal.nD Cert.ConvFRefIdeal.τ).loc Cert.ConvFRefIdeal.main_arg1) = m' ((c.tc : Thread Cert.ConvFRefIdeal.nD Cert.ConvFRefIdeal.τ).loc Cert.ConvFRefIdeal.main_arg1)
          ∧ r.2.mem ((c.tc : Thread Cert.ConvFRefIdeal.nD Cert.ConvFRefIdeal.τ).loc Cert.ConvFRefIdeal.main_arg2) = m' ((c.tc : Thread Cert.ConvFRefIdeal.nD Cert.ConvFRefIdeal.τ).loc Cert.ConvFRefIdeal.main_arg2))

def preserves_VecG_VecGIdeal : Prop :=
  True

def algebraic_VecGIdeal_VecGRefIdeal [hVecGIdeal : Cert.VecGIdeal.Facts] [hVecGRefIdeal : Cert.VecGRefIdeal.Facts] : Prop :=
  ∀ (m : (ℓ : Loc Cert.VecGIdeal.nD Cert.VecGIdeal.τ Cert.VecGIdeal.sig) → Buf (Elt Ideal) ℓ) (g : Dev Cert.VecGIdeal.nD → PrngReg)
    (m' : (ℓ : Loc Cert.VecGRefIdeal.nD Cert.VecGRefIdeal.τ Cert.VecGRefIdeal.sig) → Buf (Elt Ideal) ℓ) (g' : Dev Cert.VecGRefIdeal.nD → PrngReg), Pre_VecGIdeal m →
    (∀ c : Dev Cert.VecGIdeal.nD,
      m' ((c.tc : Thread Cert.VecGRefIdeal.nD Cert.VecGRefIdeal.τ).loc Cert.VecGRefIdeal.main_arg0) = m ((c.tc : Thread Cert.VecGIdeal.nD Cert.VecGIdeal.τ).loc Cert.VecGIdeal.main_arg0)
      ∧ m' ((c.tc : Thread Cert.VecGRefIdeal.nD Cert.VecGRefIdeal.τ).loc Cert.VecGRefIdeal.main_arg1) = m ((c.tc : Thread Cert.VecGIdeal.nD Cert.VecGIdeal.τ).loc Cert.VecGIdeal.main_arg1)
      ∧ m' ((c.tc : Thread Cert.VecGRefIdeal.nD Cert.VecGRefIdeal.τ).loc Cert.VecGRefIdeal.main_arg2) = m ((c.tc : Thread Cert.VecGIdeal.nD Cert.VecGIdeal.τ).loc Cert.VecGIdeal.main_arg2)) →
    ∃ (v0 : (c : Dev Cert.VecGIdeal.nD) → Buf (Elt Ideal) ((c.tc : Thread Cert.VecGIdeal.nD Cert.VecGIdeal.τ).loc Cert.VecGIdeal.main_v1_0)) (v1 : (c : Dev Cert.VecGIdeal.nD) → Buf (Elt Ideal) ((c.tc : Thread Cert.VecGIdeal.nD Cert.VecGIdeal.τ).loc Cert.VecGIdeal.main_v1_1)),
      θ_run (Cert.VecGIdeal.defs (F := Ideal)) (onTc (τ := Cert.VecGIdeal.τ) (Cert.VecGIdeal.main (F := Ideal))) ⟨m, fun _ => 0, g⟩ (fun r => ∀ c : Dev Cert.VecGIdeal.nD,
          r.2.mem ((c.tc : Thread Cert.VecGIdeal.nD Cert.VecGIdeal.τ).loc Cert.VecGIdeal.main_v1_0) = v0 c
          ∧ r.2.mem ((c.tc : Thread Cert.VecGIdeal.nD Cert.VecGIdeal.τ).loc Cert.VecGIdeal.main_v1_1) = v1 c
          ∧ r.2.mem ((c.tc : Thread Cert.VecGIdeal.nD Cert.VecGIdeal.τ).loc Cert.VecGIdeal.main_arg0) = m ((c.tc : Thread Cert.VecGIdeal.nD Cert.VecGIdeal.τ).loc Cert.VecGIdeal.main_arg0)
          ∧ r.2.mem ((c.tc : Thread Cert.VecGIdeal.nD Cert.VecGIdeal.τ).loc Cert.VecGIdeal.main_arg1) = m ((c.tc : Thread Cert.VecGIdeal.nD Cert.VecGIdeal.τ).loc Cert.VecGIdeal.main_arg1)
          ∧ r.2.mem ((c.tc : Thread Cert.VecGIdeal.nD Cert.VecGIdeal.τ).loc Cert.VecGIdeal.main_arg2) = m ((c.tc : Thread Cert.VecGIdeal.nD Cert.VecGIdeal.τ).loc Cert.VecGIdeal.main_arg2))
      ∧ θ_run (Cert.VecGRefIdeal.defs (F := Ideal)) (onTc (τ := Cert.VecGRefIdeal.τ) (Cert.VecGRefIdeal.main (F := Ideal))) ⟨m', fun _ => 0, g'⟩ (fun r => ∀ c : Dev Cert.VecGRefIdeal.nD,
          r.2.mem ((c.tc : Thread Cert.VecGRefIdeal.nD Cert.VecGRefIdeal.τ).loc Cert.VecGRefIdeal.main_v17) = v0 c
          ∧ r.2.mem ((c.tc : Thread Cert.VecGRefIdeal.nD Cert.VecGRefIdeal.τ).loc Cert.VecGRefIdeal.main_v18) = v1 c
          ∧ r.2.mem ((c.tc : Thread Cert.VecGRefIdeal.nD Cert.VecGRefIdeal.τ).loc Cert.VecGRefIdeal.main_arg0) = m' ((c.tc : Thread Cert.VecGRefIdeal.nD Cert.VecGRefIdeal.τ).loc Cert.VecGRefIdeal.main_arg0)
          ∧ r.2.mem ((c.tc : Thread Cert.VecGRefIdeal.nD Cert.VecGRefIdeal.τ).loc Cert.VecGRefIdeal.main_arg1) = m' ((c.tc : Thread Cert.VecGRefIdeal.nD Cert.VecGRefIdeal.τ).loc Cert.VecGRefIdeal.main_arg1)
          ∧ r.2.mem ((c.tc : Thread Cert.VecGRefIdeal.nD Cert.VecGRefIdeal.τ).loc Cert.VecGRefIdeal.main_arg2) = m' ((c.tc : Thread Cert.VecGRefIdeal.nD Cert.VecGRefIdeal.τ).loc Cert.VecGRefIdeal.main_arg2))

def preserves_Disc_DiscIdeal : Prop :=
  True

def algebraic_DiscIdeal_DiscRefIdeal [hDiscIdeal : Cert.DiscIdeal.Facts] [hDiscRefIdeal : Cert.DiscRefIdeal.Facts] : Prop :=
  ∀ (m : (ℓ : Loc Cert.DiscIdeal.nD Cert.DiscIdeal.τ Cert.DiscIdeal.sig) → Buf (Elt Ideal) ℓ) (g : Dev Cert.DiscIdeal.nD → PrngReg)
    (m' : (ℓ : Loc Cert.DiscRefIdeal.nD Cert.DiscRefIdeal.τ Cert.DiscRefIdeal.sig) → Buf (Elt Ideal) ℓ) (g' : Dev Cert.DiscRefIdeal.nD → PrngReg), Pre_DiscIdeal m →
    (∀ c : Dev Cert.DiscIdeal.nD,
      m' ((c.tc : Thread Cert.DiscRefIdeal.nD Cert.DiscRefIdeal.τ).loc Cert.DiscRefIdeal.main_arg0) = m ((c.tc : Thread Cert.DiscIdeal.nD Cert.DiscIdeal.τ).loc Cert.DiscIdeal.main_arg0)
      ∧ m' ((c.tc : Thread Cert.DiscRefIdeal.nD Cert.DiscRefIdeal.τ).loc Cert.DiscRefIdeal.main_arg1) = m ((c.tc : Thread Cert.DiscIdeal.nD Cert.DiscIdeal.τ).loc Cert.DiscIdeal.main_arg1)
      ∧ m' ((c.tc : Thread Cert.DiscRefIdeal.nD Cert.DiscRefIdeal.τ).loc Cert.DiscRefIdeal.main_arg2) = m ((c.tc : Thread Cert.DiscIdeal.nD Cert.DiscIdeal.τ).loc Cert.DiscIdeal.main_arg2)
      ∧ m' ((c.tc : Thread Cert.DiscRefIdeal.nD Cert.DiscRefIdeal.τ).loc Cert.DiscRefIdeal.main_arg3) = m ((c.tc : Thread Cert.DiscIdeal.nD Cert.DiscIdeal.τ).loc Cert.DiscIdeal.main_arg3)
      ∧ m' ((c.tc : Thread Cert.DiscRefIdeal.nD Cert.DiscRefIdeal.τ).loc Cert.DiscRefIdeal.main_arg4) = m ((c.tc : Thread Cert.DiscIdeal.nD Cert.DiscIdeal.τ).loc Cert.DiscIdeal.main_arg4)) →
    ∃ (v0 : (c : Dev Cert.DiscIdeal.nD) → Buf (Elt Ideal) ((c.tc : Thread Cert.DiscIdeal.nD Cert.DiscIdeal.τ).loc Cert.DiscIdeal.main_v3_0)) (v1 : (c : Dev Cert.DiscIdeal.nD) → Buf (Elt Ideal) ((c.tc : Thread Cert.DiscIdeal.nD Cert.DiscIdeal.τ).loc Cert.DiscIdeal.main_v3_1)) (v2 : (c : Dev Cert.DiscIdeal.nD) → Buf (Elt Ideal) ((c.tc : Thread Cert.DiscIdeal.nD Cert.DiscIdeal.τ).loc Cert.DiscIdeal.main_v3_2)) (v3 : (c : Dev Cert.DiscIdeal.nD) → Buf (Elt Ideal) ((c.tc : Thread Cert.DiscIdeal.nD Cert.DiscIdeal.τ).loc Cert.DiscIdeal.main_v3_3)),
      θ_run (Cert.DiscIdeal.defs (F := Ideal)) (onTc (τ := Cert.DiscIdeal.τ) (Cert.DiscIdeal.main (F := Ideal))) ⟨m, fun _ => 0, g⟩ (fun r => ∀ c : Dev Cert.DiscIdeal.nD,
          r.2.mem ((c.tc : Thread Cert.DiscIdeal.nD Cert.DiscIdeal.τ).loc Cert.DiscIdeal.main_v3_0) = v0 c
          ∧ r.2.mem ((c.tc : Thread Cert.DiscIdeal.nD Cert.DiscIdeal.τ).loc Cert.DiscIdeal.main_v3_1) = v1 c
          ∧ r.2.mem ((c.tc : Thread Cert.DiscIdeal.nD Cert.DiscIdeal.τ).loc Cert.DiscIdeal.main_v3_2) = v2 c
          ∧ r.2.mem ((c.tc : Thread Cert.DiscIdeal.nD Cert.DiscIdeal.τ).loc Cert.DiscIdeal.main_v3_3) = v3 c
          ∧ r.2.mem ((c.tc : Thread Cert.DiscIdeal.nD Cert.DiscIdeal.τ).loc Cert.DiscIdeal.main_arg0) = m ((c.tc : Thread Cert.DiscIdeal.nD Cert.DiscIdeal.τ).loc Cert.DiscIdeal.main_arg0)
          ∧ r.2.mem ((c.tc : Thread Cert.DiscIdeal.nD Cert.DiscIdeal.τ).loc Cert.DiscIdeal.main_arg1) = m ((c.tc : Thread Cert.DiscIdeal.nD Cert.DiscIdeal.τ).loc Cert.DiscIdeal.main_arg1)
          ∧ r.2.mem ((c.tc : Thread Cert.DiscIdeal.nD Cert.DiscIdeal.τ).loc Cert.DiscIdeal.main_arg2) = m ((c.tc : Thread Cert.DiscIdeal.nD Cert.DiscIdeal.τ).loc Cert.DiscIdeal.main_arg2)
          ∧ r.2.mem ((c.tc : Thread Cert.DiscIdeal.nD Cert.DiscIdeal.τ).loc Cert.DiscIdeal.main_arg3) = m ((c.tc : Thread Cert.DiscIdeal.nD Cert.DiscIdeal.τ).loc Cert.DiscIdeal.main_arg3)
          ∧ r.2.mem ((c.tc : Thread Cert.DiscIdeal.nD Cert.DiscIdeal.τ).loc Cert.DiscIdeal.main_arg4) = m ((c.tc : Thread Cert.DiscIdeal.nD Cert.DiscIdeal.τ).loc Cert.DiscIdeal.main_arg4))
      ∧ θ_run (Cert.DiscRefIdeal.defs (F := Ideal)) (onTc (τ := Cert.DiscRefIdeal.τ) (Cert.DiscRefIdeal.main (F := Ideal))) ⟨m', fun _ => 0, g'⟩ (fun r => ∀ c : Dev Cert.DiscRefIdeal.nD,
          r.2.mem ((c.tc : Thread Cert.DiscRefIdeal.nD Cert.DiscRefIdeal.τ).loc Cert.DiscRefIdeal.main_v10) = v0 c
          ∧ r.2.mem ((c.tc : Thread Cert.DiscRefIdeal.nD Cert.DiscRefIdeal.τ).loc Cert.DiscRefIdeal.main_v14) = v1 c
          ∧ r.2.mem ((c.tc : Thread Cert.DiscRefIdeal.nD Cert.DiscRefIdeal.τ).loc Cert.DiscRefIdeal.main_v40) = v2 c
          ∧ r.2.mem ((c.tc : Thread Cert.DiscRefIdeal.nD Cert.DiscRefIdeal.τ).loc Cert.DiscRefIdeal.main_v41) = v3 c
          ∧ r.2.mem ((c.tc : Thread Cert.DiscRefIdeal.nD Cert.DiscRefIdeal.τ).loc Cert.DiscRefIdeal.main_arg0) = m' ((c.tc : Thread Cert.DiscRefIdeal.nD Cert.DiscRefIdeal.τ).loc Cert.DiscRefIdeal.main_arg0)
          ∧ r.2.mem ((c.tc : Thread Cert.DiscRefIdeal.nD Cert.DiscRefIdeal.τ).loc Cert.DiscRefIdeal.main_arg1) = m' ((c.tc : Thread Cert.DiscRefIdeal.nD Cert.DiscRefIdeal.τ).loc Cert.DiscRefIdeal.main_arg1)
          ∧ r.2.mem ((c.tc : Thread Cert.DiscRefIdeal.nD Cert.DiscRefIdeal.τ).loc Cert.DiscRefIdeal.main_arg2) = m' ((c.tc : Thread Cert.DiscRefIdeal.nD Cert.DiscRefIdeal.τ).loc Cert.DiscRefIdeal.main_arg2)
          ∧ r.2.mem ((c.tc : Thread Cert.DiscRefIdeal.nD Cert.DiscRefIdeal.τ).loc Cert.DiscRefIdeal.main_arg3) = m' ((c.tc : Thread Cert.DiscRefIdeal.nD Cert.DiscRefIdeal.τ).loc Cert.DiscRefIdeal.main_arg3)
          ∧ r.2.mem ((c.tc : Thread Cert.DiscRefIdeal.nD Cert.DiscRefIdeal.τ).loc Cert.DiscRefIdeal.main_arg4) = m' ((c.tc : Thread Cert.DiscRefIdeal.nD Cert.DiscRefIdeal.τ).loc Cert.DiscRefIdeal.main_arg4))

def preserves_DiscB_DiscBIdeal : Prop :=
  True

def algebraic_DiscBIdeal_DiscBRefIdeal [hDiscBIdeal : Cert.DiscBIdeal.Facts] [hDiscBRefIdeal : Cert.DiscBRefIdeal.Facts] : Prop :=
  ∀ (m : (ℓ : Loc Cert.DiscBIdeal.nD Cert.DiscBIdeal.τ Cert.DiscBIdeal.sig) → Buf (Elt Ideal) ℓ) (g : Dev Cert.DiscBIdeal.nD → PrngReg)
    (m' : (ℓ : Loc Cert.DiscBRefIdeal.nD Cert.DiscBRefIdeal.τ Cert.DiscBRefIdeal.sig) → Buf (Elt Ideal) ℓ) (g' : Dev Cert.DiscBRefIdeal.nD → PrngReg), Pre_DiscBIdeal m →
    (∀ c : Dev Cert.DiscBIdeal.nD,
      m' ((c.tc : Thread Cert.DiscBRefIdeal.nD Cert.DiscBRefIdeal.τ).loc Cert.DiscBRefIdeal.main_arg0) = m ((c.tc : Thread Cert.DiscBIdeal.nD Cert.DiscBIdeal.τ).loc Cert.DiscBIdeal.main_arg0)
      ∧ m' ((c.tc : Thread Cert.DiscBRefIdeal.nD Cert.DiscBRefIdeal.τ).loc Cert.DiscBRefIdeal.main_arg1) = m ((c.tc : Thread Cert.DiscBIdeal.nD Cert.DiscBIdeal.τ).loc Cert.DiscBIdeal.main_arg1)
      ∧ m' ((c.tc : Thread Cert.DiscBRefIdeal.nD Cert.DiscBRefIdeal.τ).loc Cert.DiscBRefIdeal.main_arg2) = m ((c.tc : Thread Cert.DiscBIdeal.nD Cert.DiscBIdeal.τ).loc Cert.DiscBIdeal.main_arg2)
      ∧ m' ((c.tc : Thread Cert.DiscBRefIdeal.nD Cert.DiscBRefIdeal.τ).loc Cert.DiscBRefIdeal.main_arg3) = m ((c.tc : Thread Cert.DiscBIdeal.nD Cert.DiscBIdeal.τ).loc Cert.DiscBIdeal.main_arg3)
      ∧ m' ((c.tc : Thread Cert.DiscBRefIdeal.nD Cert.DiscBRefIdeal.τ).loc Cert.DiscBRefIdeal.main_arg4) = m ((c.tc : Thread Cert.DiscBIdeal.nD Cert.DiscBIdeal.τ).loc Cert.DiscBIdeal.main_arg4)
      ∧ m' ((c.tc : Thread Cert.DiscBRefIdeal.nD Cert.DiscBRefIdeal.τ).loc Cert.DiscBRefIdeal.main_arg5) = m ((c.tc : Thread Cert.DiscBIdeal.nD Cert.DiscBIdeal.τ).loc Cert.DiscBIdeal.main_arg5)
      ∧ m' ((c.tc : Thread Cert.DiscBRefIdeal.nD Cert.DiscBRefIdeal.τ).loc Cert.DiscBRefIdeal.main_arg6) = m ((c.tc : Thread Cert.DiscBIdeal.nD Cert.DiscBIdeal.τ).loc Cert.DiscBIdeal.main_arg6)
      ∧ m' ((c.tc : Thread Cert.DiscBRefIdeal.nD Cert.DiscBRefIdeal.τ).loc Cert.DiscBRefIdeal.main_arg7) = m ((c.tc : Thread Cert.DiscBIdeal.nD Cert.DiscBIdeal.τ).loc Cert.DiscBIdeal.main_arg7)
      ∧ m' ((c.tc : Thread Cert.DiscBRefIdeal.nD Cert.DiscBRefIdeal.τ).loc Cert.DiscBRefIdeal.main_arg8) = m ((c.tc : Thread Cert.DiscBIdeal.nD Cert.DiscBIdeal.τ).loc Cert.DiscBIdeal.main_arg8)) →
    ∃ (v0 : (c : Dev Cert.DiscBIdeal.nD) → Buf (Elt Ideal) ((c.tc : Thread Cert.DiscBIdeal.nD Cert.DiscBIdeal.τ).loc Cert.DiscBIdeal.main_v3_0)) (v1 : (c : Dev Cert.DiscBIdeal.nD) → Buf (Elt Ideal) ((c.tc : Thread Cert.DiscBIdeal.nD Cert.DiscBIdeal.τ).loc Cert.DiscBIdeal.main_v3_1)) (v2 : (c : Dev Cert.DiscBIdeal.nD) → Buf (Elt Ideal) ((c.tc : Thread Cert.DiscBIdeal.nD Cert.DiscBIdeal.τ).loc Cert.DiscBIdeal.main_v3_2)) (v3 : (c : Dev Cert.DiscBIdeal.nD) → Buf (Elt Ideal) ((c.tc : Thread Cert.DiscBIdeal.nD Cert.DiscBIdeal.τ).loc Cert.DiscBIdeal.main_v3_3)) (v4 : (c : Dev Cert.DiscBIdeal.nD) → Buf (Elt Ideal) ((c.tc : Thread Cert.DiscBIdeal.nD Cert.DiscBIdeal.τ).loc Cert.DiscBIdeal.main_v3_4)),
      θ_run (Cert.DiscBIdeal.defs (F := Ideal)) (onTc (τ := Cert.DiscBIdeal.τ) (Cert.DiscBIdeal.main (F := Ideal))) ⟨m, fun _ => 0, g⟩ (fun r => ∀ c : Dev Cert.DiscBIdeal.nD,
          r.2.mem ((c.tc : Thread Cert.DiscBIdeal.nD Cert.DiscBIdeal.τ).loc Cert.DiscBIdeal.main_v3_0) = v0 c
          ∧ r.2.mem ((c.tc : Thread Cert.DiscBIdeal.nD Cert.DiscBIdeal.τ).loc Cert.DiscBIdeal.main_v3_1) = v1 c
          ∧ r.2.mem ((c.tc : Thread Cert.DiscBIdeal.nD Cert.DiscBIdeal.τ).loc Cert.DiscBIdeal.main_v3_2) = v2 c
          ∧ r.2.mem ((c.tc : Thread Cert.DiscBIdeal.nD Cert.DiscBIdeal.τ).loc Cert.DiscBIdeal.main_v3_3) = v3 c
          ∧ r.2.mem ((c.tc : Thread Cert.DiscBIdeal.nD Cert.DiscBIdeal.τ).loc Cert.DiscBIdeal.main_v3_4) = v4 c
          ∧ r.2.mem ((c.tc : Thread Cert.DiscBIdeal.nD Cert.DiscBIdeal.τ).loc Cert.DiscBIdeal.main_arg0) = m ((c.tc : Thread Cert.DiscBIdeal.nD Cert.DiscBIdeal.τ).loc Cert.DiscBIdeal.main_arg0)
          ∧ r.2.mem ((c.tc : Thread Cert.DiscBIdeal.nD Cert.DiscBIdeal.τ).loc Cert.DiscBIdeal.main_arg1) = m ((c.tc : Thread Cert.DiscBIdeal.nD Cert.DiscBIdeal.τ).loc Cert.DiscBIdeal.main_arg1)
          ∧ r.2.mem ((c.tc : Thread Cert.DiscBIdeal.nD Cert.DiscBIdeal.τ).loc Cert.DiscBIdeal.main_arg2) = m ((c.tc : Thread Cert.DiscBIdeal.nD Cert.DiscBIdeal.τ).loc Cert.DiscBIdeal.main_arg2)
          ∧ r.2.mem ((c.tc : Thread Cert.DiscBIdeal.nD Cert.DiscBIdeal.τ).loc Cert.DiscBIdeal.main_arg3) = m ((c.tc : Thread Cert.DiscBIdeal.nD Cert.DiscBIdeal.τ).loc Cert.DiscBIdeal.main_arg3)
          ∧ r.2.mem ((c.tc : Thread Cert.DiscBIdeal.nD Cert.DiscBIdeal.τ).loc Cert.DiscBIdeal.main_arg4) = m ((c.tc : Thread Cert.DiscBIdeal.nD Cert.DiscBIdeal.τ).loc Cert.DiscBIdeal.main_arg4)
          ∧ r.2.mem ((c.tc : Thread Cert.DiscBIdeal.nD Cert.DiscBIdeal.τ).loc Cert.DiscBIdeal.main_arg5) = m ((c.tc : Thread Cert.DiscBIdeal.nD Cert.DiscBIdeal.τ).loc Cert.DiscBIdeal.main_arg5)
          ∧ r.2.mem ((c.tc : Thread Cert.DiscBIdeal.nD Cert.DiscBIdeal.τ).loc Cert.DiscBIdeal.main_arg6) = m ((c.tc : Thread Cert.DiscBIdeal.nD Cert.DiscBIdeal.τ).loc Cert.DiscBIdeal.main_arg6)
          ∧ r.2.mem ((c.tc : Thread Cert.DiscBIdeal.nD Cert.DiscBIdeal.τ).loc Cert.DiscBIdeal.main_arg7) = m ((c.tc : Thread Cert.DiscBIdeal.nD Cert.DiscBIdeal.τ).loc Cert.DiscBIdeal.main_arg7)
          ∧ r.2.mem ((c.tc : Thread Cert.DiscBIdeal.nD Cert.DiscBIdeal.τ).loc Cert.DiscBIdeal.main_arg8) = m ((c.tc : Thread Cert.DiscBIdeal.nD Cert.DiscBIdeal.τ).loc Cert.DiscBIdeal.main_arg8))
      ∧ θ_run (Cert.DiscBRefIdeal.defs (F := Ideal)) (onTc (τ := Cert.DiscBRefIdeal.τ) (Cert.DiscBRefIdeal.main (F := Ideal))) ⟨m', fun _ => 0, g'⟩ (fun r => ∀ c : Dev Cert.DiscBRefIdeal.nD,
          r.2.mem ((c.tc : Thread Cert.DiscBRefIdeal.nD Cert.DiscBRefIdeal.τ).loc Cert.DiscBRefIdeal.main_v149) = v0 c
          ∧ r.2.mem ((c.tc : Thread Cert.DiscBRefIdeal.nD Cert.DiscBRefIdeal.τ).loc Cert.DiscBRefIdeal.main_v138) = v1 c
          ∧ r.2.mem ((c.tc : Thread Cert.DiscBRefIdeal.nD Cert.DiscBRefIdeal.τ).loc Cert.DiscBRefIdeal.main_v150) = v2 c
          ∧ r.2.mem ((c.tc : Thread Cert.DiscBRefIdeal.nD Cert.DiscBRefIdeal.τ).loc Cert.DiscBRefIdeal.main_v151) = v3 c
          ∧ r.2.mem ((c.tc : Thread Cert.DiscBRefIdeal.nD Cert.DiscBRefIdeal.τ).loc Cert.DiscBRefIdeal.main_v152) = v4 c
          ∧ r.2.mem ((c.tc : Thread Cert.DiscBRefIdeal.nD Cert.DiscBRefIdeal.τ).loc Cert.DiscBRefIdeal.main_arg0) = m' ((c.tc : Thread Cert.DiscBRefIdeal.nD Cert.DiscBRefIdeal.τ).loc Cert.DiscBRefIdeal.main_arg0)
          ∧ r.2.mem ((c.tc : Thread Cert.DiscBRefIdeal.nD Cert.DiscBRefIdeal.τ).loc Cert.DiscBRefIdeal.main_arg1) = m' ((c.tc : Thread Cert.DiscBRefIdeal.nD Cert.DiscBRefIdeal.τ).loc Cert.DiscBRefIdeal.main_arg1)
          ∧ r.2.mem ((c.tc : Thread Cert.DiscBRefIdeal.nD Cert.DiscBRefIdeal.τ).loc Cert.DiscBRefIdeal.main_arg2) = m' ((c.tc : Thread Cert.DiscBRefIdeal.nD Cert.DiscBRefIdeal.τ).loc Cert.DiscBRefIdeal.main_arg2)
          ∧ r.2.mem ((c.tc : Thread Cert.DiscBRefIdeal.nD Cert.DiscBRefIdeal.τ).loc Cert.DiscBRefIdeal.main_arg3) = m' ((c.tc : Thread Cert.DiscBRefIdeal.nD Cert.DiscBRefIdeal.τ).loc Cert.DiscBRefIdeal.main_arg3)
          ∧ r.2.mem ((c.tc : Thread Cert.DiscBRefIdeal.nD Cert.DiscBRefIdeal.τ).loc Cert.DiscBRefIdeal.main_arg4) = m' ((c.tc : Thread Cert.DiscBRefIdeal.nD Cert.DiscBRefIdeal.τ).loc Cert.DiscBRefIdeal.main_arg4)
          ∧ r.2.mem ((c.tc : Thread Cert.DiscBRefIdeal.nD Cert.DiscBRefIdeal.τ).loc Cert.DiscBRefIdeal.main_arg5) = m' ((c.tc : Thread Cert.DiscBRefIdeal.nD Cert.DiscBRefIdeal.τ).loc Cert.DiscBRefIdeal.main_arg5)
          ∧ r.2.mem ((c.tc : Thread Cert.DiscBRefIdeal.nD Cert.DiscBRefIdeal.τ).loc Cert.DiscBRefIdeal.main_arg6) = m' ((c.tc : Thread Cert.DiscBRefIdeal.nD Cert.DiscBRefIdeal.τ).loc Cert.DiscBRefIdeal.main_arg6)
          ∧ r.2.mem ((c.tc : Thread Cert.DiscBRefIdeal.nD Cert.DiscBRefIdeal.τ).loc Cert.DiscBRefIdeal.main_arg7) = m' ((c.tc : Thread Cert.DiscBRefIdeal.nD Cert.DiscBRefIdeal.τ).loc Cert.DiscBRefIdeal.main_arg7)
          ∧ r.2.mem ((c.tc : Thread Cert.DiscBRefIdeal.nD Cert.DiscBRefIdeal.τ).loc Cert.DiscBRefIdeal.main_arg8) = m' ((c.tc : Thread Cert.DiscBRefIdeal.nD Cert.DiscBRefIdeal.τ).loc Cert.DiscBRefIdeal.main_arg8))

def preserves_AdamIn_AdamInIdeal : Prop :=
  IdealRules.named_const.Statement Cert.AdamInIdeal.κ "inv_m" .f32 0x3FC48605#32 ((8388608 / 5463681 : ℝ) : EReal)
  ∧ IdealRules.named_const.Statement Cert.AdamInIdeal.κ "inv_v" .f32 0x42C8E6D3#32 ((268435456 / 2672307 : ℝ) : EReal)

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_arg1) = v0 c
          ∧ r.2.mem ((c.tc : Thread Cert.AdamInRefIdeal.nD Cert.AdamInRefIdeal.τ).loc Cert.AdamInRefIdeal.main_v23) = v1 c
          ∧ r.2.mem ((c.tc : Thread Cert.AdamInRefIdeal.nD Cert.AdamInRefIdeal.τ).loc Cert.AdamInRefIdeal.main_v4) = v2 c
          ∧ r.2.mem ((c.tc : Thread Cert.AdamInRefIdeal.nD Cert.AdamInRefIdeal.τ).loc Cert.AdamInRefIdeal.main_v10) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamO_AdamOIdeal : Prop :=
  IdealRules.named_const.Statement Cert.AdamOIdeal.κ "inv_m" .f32 0x3FC48605#32 ((8388608 / 5463681 : ℝ) : EReal)
  ∧ IdealRules.named_const.Statement Cert.AdamOIdeal.κ "inv_v" .f32 0x42C8E6D3#32 ((268435456 / 2672307 : ℝ) : EReal)

def algebraic_AdamOIdeal_AdamORefIdeal [hAdamOIdeal : Cert.AdamOIdeal.Facts] [hAdamORefIdeal : Cert.AdamORefIdeal.Facts] : Prop :=
  ∀ (m : (ℓ : Loc Cert.AdamOIdeal.nD Cert.AdamOIdeal.τ Cert.AdamOIdeal.sig) → Buf (Elt Ideal) ℓ) (g : Dev Cert.AdamOIdeal.nD → PrngReg)
    (m' : (ℓ : Loc Cert.AdamORefIdeal.nD Cert.AdamORefIdeal.τ Cert.AdamORefIdeal.sig) → Buf (Elt Ideal) ℓ) (g' : Dev Cert.AdamORefIdeal.nD → PrngReg), Pre_AdamOIdeal m →
    (∀ c : Dev Cert.AdamOIdeal.nD,
      m' ((c.tc : Thread Cert.AdamORefIdeal.nD Cert.AdamORefIdeal.τ).loc Cert.AdamORefIdeal.main_arg0) = m ((c.tc : Thread Cert.AdamOIdeal.nD Cert.AdamOIdeal.τ).loc Cert.AdamOIdeal.main_arg0)
      ∧ m' ((c.tc : Thread Cert.AdamORefIdeal.nD Cert.AdamORefIdeal.τ).loc Cert.AdamORefIdeal.main_arg1) = m ((c.tc : Thread Cert.AdamOIdeal.nD Cert.AdamOIdeal.τ).loc Cert.AdamOIdeal.main_arg1)
      ∧ m' ((c.tc : Thread Cert.AdamORefIdeal.nD Cert.AdamORefIdeal.τ).loc Cert.AdamORefIdeal.main_arg2) = m ((c.tc : Thread Cert.AdamOIdeal.nD Cert.AdamOIdeal.τ).loc Cert.AdamOIdeal.main_arg2)
      ∧ m' ((c.tc : Thread Cert.AdamORefIdeal.nD Cert.AdamORefIdeal.τ).loc Cert.AdamORefIdeal.main_arg3) = m ((c.tc : Thread Cert.AdamOIdeal.nD Cert.AdamOIdeal.τ).loc Cert.AdamOIdeal.main_arg3)) →
    ∃ (v0 : (c : Dev Cert.AdamOIdeal.nD) → Buf (Elt Ideal) ((c.tc : Thread Cert.AdamOIdeal.nD Cert.AdamOIdeal.τ).loc Cert.AdamOIdeal.main_v0_0)) (v1 : (c : Dev Cert.AdamOIdeal.nD) → Buf (Elt Ideal) ((c.tc : Thread Cert.AdamOIdeal.nD Cert.AdamOIdeal.τ).loc Cert.AdamOIdeal.main_v0_1)) (v2 : (c : Dev Cert.AdamOIdeal.nD) → Buf (Elt Ideal) ((c.tc : Thread Cert.AdamOIdeal.nD Cert.AdamOIdeal.τ).loc Cert.AdamOIdeal.main_v0_2)) (v3 : (c : Dev Cert.AdamOIdeal.nD) → Buf (Elt Ideal) ((c.tc : Thread Cert.AdamOIdeal.nD Cert.AdamOIdeal.τ).loc Cert.AdamOIdeal.main_v0_3)),
      θ_run (Cert.AdamOIdeal.defs (F := Ideal)) (onTc (τ := Cert.AdamOIdeal.τ) (Cert.AdamOIdeal.main (F := Ideal))) ⟨m, fun _ => 0, g⟩ (fun r => ∀ c : Dev Cert.AdamOIdeal.nD,
          r.2.mem ((c.tc : Thread Cert.AdamOIdeal.nD Cert.AdamOIdeal.τ).loc Cert.AdamOIdeal.main_v0_0) = v0 c
          ∧ r.2.mem ((c.tc : Thread Cert.AdamOIdeal.nD Cert.AdamOIdeal.τ).loc Cert.AdamOIdeal.main_v0_1) = v1 c
          ∧ r.2.mem ((c.tc : Thread Cert.AdamOIdeal.nD Cert.AdamOIdeal.τ).loc Cert.AdamOIdeal.main_v0_2) = v2 c
          ∧ r.2.mem ((c.tc : Thread Cert.AdamOIdeal.nD Cert.AdamOIdeal.τ).loc Cert.AdamOIdeal.main_v0_3) = v3 c
          ∧ r.2.mem ((c.tc : Thread Cert.AdamOIdeal.nD Cert.AdamOIdeal.τ).loc Cert.AdamOIdeal.main_arg0) = m ((c.tc : Thread Cert.AdamOIdeal.nD Cert.AdamOIdeal.τ).loc Cert.AdamOIdeal.main_arg0)
          ∧ r.2.mem ((c.tc : Thread Cert.AdamOIdeal.nD Cert.AdamOIdeal.τ).loc Cert.AdamOIdeal.main_arg1) = m ((c.tc : Thread Cert.AdamOIdeal.nD Cert.AdamOIdeal.τ).loc Cert.AdamOIdeal.main_arg1)
          ∧ r.2.mem ((c.tc : Thread Cert.AdamOIdeal.nD Cert.AdamOIdeal.τ).loc Cert.AdamOIdeal.main_arg2) = m ((c.tc : Thread Cert.AdamOIdeal.nD Cert.AdamOIdeal.τ).loc Cert.AdamOIdeal.main_arg2)
          ∧ r.2.mem ((c.tc : Thread Cert.AdamOIdeal.nD Cert.AdamOIdeal.τ).loc Cert.AdamOIdeal.main_arg3) = m ((c.tc : Thread Cert.AdamOIdeal.nD Cert.AdamOIdeal.τ).loc Cert.AdamOIdeal.main_arg3))
      ∧ θ_run (Cert.AdamORefIdeal.defs (F := Ideal)) (onTc (τ := Cert.AdamORefIdeal.τ) (Cert.AdamORefIdeal.main (F := Ideal))) ⟨m', fun _ => 0, g'⟩ (fun r => ∀ c : Dev Cert.AdamORefIdeal.nD,
          r.2.mem ((c.tc : Thread Cert.AdamORefIdeal.nD Cert.AdamORefIdeal.τ).loc Cert.AdamORefIdeal.main_arg1) = v0 c
          ∧ r.2.mem ((c.tc : Thread Cert.AdamORefIdeal.nD Cert.AdamORefIdeal.τ).loc Cert.AdamORefIdeal.main_v23) = v1 c
          ∧ r.2.mem ((c.tc : Thread Cert.AdamORefIdeal.nD Cert.AdamORefIdeal.τ).loc Cert.AdamORefIdeal.main_v4) = v2 c
          ∧ r.2.mem ((c.tc : Thread Cert.AdamORefIdeal.nD Cert.AdamORefIdeal.τ).loc Cert.AdamORefIdeal.main_v10) = v3 c
          ∧ r.2.mem ((c.tc : Thread Cert.AdamORefIdeal.nD Cert.AdamORefIdeal.τ).loc Cert.AdamORefIdeal.main_arg0) = m' ((c.tc : Thread Cert.AdamORefIdeal.nD Cert.AdamORefIdeal.τ).loc Cert.AdamORefIdeal.main_arg0)
          ∧ r.2.mem ((c.tc : Thread Cert.AdamORefIdeal.nD Cert.AdamORefIdeal.τ).loc Cert.AdamORefIdeal.main_arg1) = m' ((c.tc : Thread Cert.AdamORefIdeal.nD Cert.AdamORefIdeal.τ).loc Cert.AdamORefIdeal.main_arg1)
          ∧ r.2.mem ((c.tc : Thread Cert.AdamORefIdeal.nD Cert.AdamORefIdeal.τ).loc Cert.AdamORefIdeal.main_arg2) = m' ((c.tc : Thread Cert.AdamORefIdeal.nD Cert.AdamORefIdeal.τ).loc Cert.AdamORefIdeal.main_arg2)
          ∧ r.2.mem ((c.tc : Thread Cert.AdamORefIdeal.nD Cert.AdamORefIdeal.τ).loc Cert.AdamORefIdeal.main_arg3) = m' ((c.tc : Thread Cert.AdamORefIdeal.nD Cert.AdamORefIdeal.τ).loc Cert.AdamORefIdeal.main_arg3))

def preserves_AdamOut_AdamOutIdeal : Prop :=
  IdealRules.named_const.Statement Cert.AdamOutIdeal.κ "inv_m" .f32 0x3FC48605#32 ((8388608 / 5463681 : ℝ) : EReal)
  ∧ IdealRules.named_const.Statement Cert.AdamOutIdeal.κ "inv_v" .f32 0x42C8E6D3#32 ((268435456 / 2672307 : ℝ) : EReal)

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_arg1) = v0 c
          ∧ r.2.mem ((c.tc : Thread Cert.AdamOutRefIdeal.nD Cert.AdamOutRefIdeal.τ).loc Cert.AdamOutRefIdeal.main_v23) = v1 c
          ∧ r.2.mem ((c.tc : Thread Cert.AdamOutRefIdeal.nD Cert.AdamOutRefIdeal.τ).loc Cert.AdamOutRefIdeal.main_v4) = v2 c
          ∧ r.2.mem ((c.tc : Thread Cert.AdamOutRefIdeal.nD Cert.AdamOutRefIdeal.τ).loc Cert.AdamOutRefIdeal.main_v10) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamGlu_AdamGluIdeal : Prop :=
  IdealRules.named_const.Statement Cert.AdamGluIdeal.κ "inv_m" .f32 0x3FC48605#32 ((8388608 / 5463681 : ℝ) : EReal)
  ∧ IdealRules.named_const.Statement Cert.AdamGluIdeal.κ "inv_v" .f32 0x42C8E6D3#32 ((268435456 / 2672307 : ℝ) : EReal)

def algebraic_AdamGluIdeal_AdamGluRefIdeal [hAdamGluIdeal : Cert.AdamGluIdeal.Facts] [hAdamGluRefIdeal : Cert.AdamGluRefIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg)
    (m' : (ℓ : Loc Cert.AdamGluRefIdeal.nD Cert.AdamGluRefIdeal.τ Cert.AdamGluRefIdeal.sig) → Buf (Elt Ideal) ℓ) (g' : Dev Cert.AdamGluRefIdeal.nD → PrngReg), Pre_AdamGluIdeal m →
    (∀ c : Dev Cert.AdamGluIdeal.nD,
      m' ((c.tc : Thread Cert.AdamGluRefIdeal.nD Cert.AdamGluRefIdeal.τ).loc Cert.AdamGluRefIdeal.main_arg0) = m ((c.tc : Thread Cert.AdamGluIdeal.nD Cert.AdamGluIdeal.τ).loc Cert.AdamGluIdeal.main_arg0)
      ∧ m' ((c.tc : Thread Cert.AdamGluRefIdeal.nD Cert.AdamGluRefIdeal.τ).loc Cert.AdamGluRefIdeal.main_arg1) = m ((c.tc : Thread Cert.AdamGluIdeal.nD Cert.AdamGluIdeal.τ).loc Cert.AdamGluIdeal.main_arg1)
      ∧ m' ((c.tc : Thread Cert.AdamGluRefIdeal.nD Cert.AdamGluRefIdeal.τ).loc Cert.AdamGluRefIdeal.main_arg2) = m ((c.tc : Thread Cert.AdamGluIdeal.nD Cert.AdamGluIdeal.τ).loc Cert.AdamGluIdeal.main_arg2)
      ∧ m' ((c.tc : Thread Cert.AdamGluRefIdeal.nD Cert.AdamGluRefIdeal.τ).loc Cert.AdamGluRefIdeal.main_arg3) = m ((c.tc : Thread Cert.AdamGluIdeal.nD Cert.AdamGluIdeal.τ).loc Cert.AdamGluIdeal.main_arg3)) →
    ∃ (v0 : (c : Dev Cert.AdamGluIdeal.nD) → Buf (Elt Ideal) ((c.tc : Thread Cert.AdamGluIdeal.nD Cert.AdamGluIdeal.τ).loc Cert.AdamGluIdeal.main_v0_0)) (v1 : (c : Dev Cert.AdamGluIdeal.nD) → Buf (Elt Ideal) ((c.tc : Thread Cert.AdamGluIdeal.nD Cert.AdamGluIdeal.τ).loc Cert.AdamGluIdeal.main_v0_1)) (v2 : (c : Dev Cert.AdamGluIdeal.nD) → Buf (Elt Ideal) ((c.tc : Thread Cert.AdamGluIdeal.nD Cert.AdamGluIdeal.τ).loc Cert.AdamGluIdeal.main_v0_2)) (v3 : (c : Dev Cert.AdamGluIdeal.nD) → Buf (Elt Ideal) ((c.tc : Thread Cert.AdamGluIdeal.nD Cert.AdamGluIdeal.τ).loc Cert.AdamGluIdeal.main_v0_3)),
      θ_run (Cert.AdamGluIdeal.defs (F := Ideal)) (onTc (τ := Cert.AdamGluIdeal.τ) (Cert.AdamGluIdeal.main (F := Ideal))) ⟨m, fun _ => 0, g⟩ (fun r => ∀ c : Dev Cert.AdamGluIdeal.nD,
          r.2.mem ((c.tc : Thread Cert.AdamGluIdeal.nD Cert.AdamGluIdeal.τ).loc Cert.AdamGluIdeal.main_v0_0) = v0 c
          ∧ r.2.mem ((c.tc : Thread Cert.AdamGluIdeal.nD Cert.AdamGluIdeal.τ).loc Cert.AdamGluIdeal.main_v0_1) = v1 c
          ∧ r.2.mem ((c.tc : Thread Cert.AdamGluIdeal.nD Cert.AdamGluIdeal.τ).loc Cert.AdamGluIdeal.main_v0_2) = v2 c
          ∧ r.2.mem ((c.tc : Thread Cert.AdamGluIdeal.nD Cert.AdamGluIdeal.τ).loc Cert.AdamGluIdeal.main_v0_3) = v3 c
          ∧ r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
          ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
          ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
          ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ θ_run (Cert.AdamGluRefIdeal.defs (F := Ideal)) (onTc (τ := Cert.AdamGluRefIdeal.τ) (Cert.AdamGluRefIdeal.main (F := Ideal))) ⟨m', fun _ => 0, g'⟩ (fun r => ∀ c : Dev Cert.AdamGluRefIdeal.nD,
          r.2.mem ((c.tc : Thread Cert.AdamGluRefIdeal.nD Cert.AdamGluRefIdeal.τ).loc Cert.AdamGluRefIdeal.main_arg1) = v0 c
          ∧ r.2.mem ((c.tc : Thread Cert.AdamGluRefIdeal.nD Cert.AdamGluRefIdeal.τ).loc Cert.AdamGluRefIdeal.main_v23) = v1 c
          ∧ r.2.mem ((c.tc : Thread Cert.AdamGluRefIdeal.nD Cert.AdamGluRefIdeal.τ).loc Cert.AdamGluRefIdeal.main_v4) = v2 c
          ∧ r.2.mem ((c.tc : Thread Cert.AdamGluRefIdeal.nD Cert.AdamGluRefIdeal.τ).loc Cert.AdamGluRefIdeal.main_v10) = v3 c
          ∧ r.2.mem ((c.tc : Thread Cert.AdamGluRefIdeal.nD Cert.AdamGluRefIdeal.τ).loc Cert.AdamGluRefIdeal.main_arg0) = m' ((c.tc : Thread Cert.AdamGluRefIdeal.nD Cert.AdamGluRefIdeal.τ).loc Cert.AdamGluRefIdeal.main_arg0)
          ∧ r.2.mem ((c.tc : Thread Cert.AdamGluRefIdeal.nD Cert.AdamGluRefIdeal.τ).loc Cert.AdamGluRefIdeal.main_arg1) = m' ((c.tc : Thread Cert.AdamGluRefIdeal.nD Cert.AdamGluRefIdeal.τ).loc Cert.AdamGluRefIdeal.main_arg1)
          ∧ r.2.mem ((c.tc : Thread Cert.AdamGluRefIdeal.nD Cert.AdamGluRefIdeal.τ).loc Cert.AdamGluRefIdeal.main_arg2) = m' ((c.tc : Thread Cert.AdamGluRefIdeal.nD Cert.AdamGluRefIdeal.τ).loc Cert.AdamGluRefIdeal.main_arg2)
          ∧ r.2.mem ((c.tc : Thread Cert.AdamGluRefIdeal.nD Cert.AdamGluRefIdeal.τ).loc Cert.AdamGluRefIdeal.main_arg3) = m' ((c.tc : Thread Cert.AdamGluRefIdeal.nD Cert.AdamGluRefIdeal.τ).loc Cert.AdamGluRefIdeal.main_arg3))

def preserves_AdamFfn_AdamFfnIdeal : Prop :=
  IdealRules.named_const.Statement Cert.AdamFfnIdeal.κ "inv_m" .f32 0x3FC48605#32 ((8388608 / 5463681 : ℝ) : EReal)
  ∧ IdealRules.named_const.Statement Cert.AdamFfnIdeal.κ "inv_v" .f32 0x42C8E6D3#32 ((268435456 / 2672307 : ℝ) : EReal)

def algebraic_AdamFfnIdeal_AdamFfnRefIdeal [hAdamFfnIdeal : Cert.AdamFfnIdeal.Facts] [hAdamFfnRefIdeal : Cert.AdamFfnRefIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg)
    (m' : (ℓ : Loc Cert.AdamFfnRefIdeal.nD Cert.AdamFfnRefIdeal.τ Cert.AdamFfnRefIdeal.sig) → Buf (Elt Ideal) ℓ) (g' : Dev Cert.AdamFfnRefIdeal.nD → PrngReg), Pre_AdamFfnIdeal m →
    (∀ c : Dev Cert.AdamFfnIdeal.nD,
      m' ((c.tc : Thread Cert.AdamFfnRefIdeal.nD Cert.AdamFfnRefIdeal.τ).loc Cert.AdamFfnRefIdeal.main_arg0) = m ((c.tc : Thread Cert.AdamFfnIdeal.nD Cert.AdamFfnIdeal.τ).loc Cert.AdamFfnIdeal.main_arg0)
      ∧ m' ((c.tc : Thread Cert.AdamFfnRefIdeal.nD Cert.AdamFfnRefIdeal.τ).loc Cert.AdamFfnRefIdeal.main_arg1) = m ((c.tc : Thread Cert.AdamFfnIdeal.nD Cert.AdamFfnIdeal.τ).loc Cert.AdamFfnIdeal.main_arg1)
      ∧ m' ((c.tc : Thread Cert.AdamFfnRefIdeal.nD Cert.AdamFfnRefIdeal.τ).loc Cert.AdamFfnRefIdeal.main_arg2) = m ((c.tc : Thread Cert.AdamFfnIdeal.nD Cert.AdamFfnIdeal.τ).loc Cert.AdamFfnIdeal.main_arg2)
      ∧ m' ((c.tc : Thread Cert.AdamFfnRefIdeal.nD Cert.AdamFfnRefIdeal.τ).loc Cert.AdamFfnRefIdeal.main_arg3) = m ((c.tc : Thread Cert.AdamFfnIdeal.nD Cert.AdamFfnIdeal.τ).loc Cert.AdamFfnIdeal.main_arg3)) →
    ∃ (v0 : (c : Dev Cert.AdamFfnIdeal.nD) → Buf (Elt Ideal) ((c.tc : Thread Cert.AdamFfnIdeal.nD Cert.AdamFfnIdeal.τ).loc Cert.AdamFfnIdeal.main_v4_0)) (v1 : (c : Dev Cert.AdamFfnIdeal.nD) → Buf (Elt Ideal) ((c.tc : Thread Cert.AdamFfnIdeal.nD Cert.AdamFfnIdeal.τ).loc Cert.AdamFfnIdeal.main_v4_1)) (v2 : (c : Dev Cert.AdamFfnIdeal.nD) → Buf (Elt Ideal) ((c.tc : Thread Cert.AdamFfnIdeal.nD Cert.AdamFfnIdeal.τ).loc Cert.AdamFfnIdeal.main_v4_2)) (v3 : (c : Dev Cert.AdamFfnIdeal.nD) → Buf (Elt Ideal) ((c.tc : Thread Cert.AdamFfnIdeal.nD Cert.AdamFfnIdeal.τ).loc Cert.AdamFfnIdeal.main_v4_3)),
      θ_run (Cert.AdamFfnIdeal.defs (F := Ideal)) (onTc (τ := Cert.AdamFfnIdeal.τ) (Cert.AdamFfnIdeal.main (F := Ideal))) ⟨m, fun _ => 0, g⟩ (fun r => ∀ c : Dev Cert.AdamFfnIdeal.nD,
          r.2.mem ((c.tc : Thread Cert.AdamFfnIdeal.nD Cert.AdamFfnIdeal.τ).loc Cert.AdamFfnIdeal.main_v4_0) = v0 c
          ∧ r.2.mem ((c.tc : Thread Cert.AdamFfnIdeal.nD Cert.AdamFfnIdeal.τ).loc Cert.AdamFfnIdeal.main_v4_1) = v1 c
          ∧ r.2.mem ((c.tc : Thread Cert.AdamFfnIdeal.nD Cert.AdamFfnIdeal.τ).loc Cert.AdamFfnIdeal.main_v4_2) = v2 c
          ∧ r.2.mem ((c.tc : Thread Cert.AdamFfnIdeal.nD Cert.AdamFfnIdeal.τ).loc Cert.AdamFfnIdeal.main_v4_3) = v3 c
          ∧ r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
          ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
          ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
          ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3))
      ∧ θ_run (Cert.AdamFfnRefIdeal.defs (F := Ideal)) (onTc (τ := Cert.AdamFfnRefIdeal.τ) (Cert.AdamFfnRefIdeal.main (F := Ideal))) ⟨m', fun _ => 0, g'⟩ (fun r => ∀ c : Dev Cert.AdamFfnRefIdeal.nD,
          r.2.mem ((c.tc : Thread Cert.AdamFfnRefIdeal.nD Cert.AdamFfnRefIdeal.τ).loc Cert.AdamFfnRefIdeal.main_arg1) = v0 c
          ∧ r.2.mem ((c.tc : Thread Cert.AdamFfnRefIdeal.nD Cert.AdamFfnRefIdeal.τ).loc Cert.AdamFfnRefIdeal.main_v23) = v1 c
          ∧ r.2.mem ((c.tc : Thread Cert.AdamFfnRefIdeal.nD Cert.AdamFfnRefIdeal.τ).loc Cert.AdamFfnRefIdeal.main_v4) = v2 c
          ∧ r.2.mem ((c.tc : Thread Cert.AdamFfnRefIdeal.nD Cert.AdamFfnRefIdeal.τ).loc Cert.AdamFfnRefIdeal.main_v10) = v3 c
          ∧ r.2.mem ((c.tc : Thread Cert.AdamFfnRefIdeal.nD Cert.AdamFfnRefIdeal.τ).loc Cert.AdamFfnRefIdeal.main_arg0) = m' ((c.tc : Thread Cert.AdamFfnRefIdeal.nD Cert.AdamFfnRefIdeal.τ).loc Cert.AdamFfnRefIdeal.main_arg0)
          ∧ r.2.mem ((c.tc : Thread Cert.AdamFfnRefIdeal.nD Cert.AdamFfnRefIdeal.τ).loc Cert.AdamFfnRefIdeal.main_arg1) = m' ((c.tc : Thread Cert.AdamFfnRefIdeal.nD Cert.AdamFfnRefIdeal.τ).loc Cert.AdamFfnRefIdeal.main_arg1)
          ∧ r.2.mem ((c.tc : Thread Cert.AdamFfnRefIdeal.nD Cert.AdamFfnRefIdeal.τ).loc Cert.AdamFfnRefIdeal.main_arg2) = m' ((c.tc : Thread Cert.AdamFfnRefIdeal.nD Cert.AdamFfnRefIdeal.τ).loc Cert.AdamFfnRefIdeal.main_arg2)
          ∧ r.2.mem ((c.tc : Thread Cert.AdamFfnRefIdeal.nD Cert.AdamFfnRefIdeal.τ).loc Cert.AdamFfnRefIdeal.main_arg3) = m' ((c.tc : Thread Cert.AdamFfnRefIdeal.nD Cert.AdamFfnRefIdeal.τ).loc Cert.AdamFfnRefIdeal.main_arg3))

def preserves_AdamFfnT_AdamFfnTIdeal : Prop :=
  IdealRules.named_const.Statement Cert.AdamFfnTIdeal.κ "inv_m" .f32 0x3FC48605#32 ((8388608 / 5463681 : ℝ) : EReal)
  ∧ IdealRules.named_const.Statement Cert.AdamFfnTIdeal.κ "inv_v" .f32 0x42C8E6D3#32 ((268435456 / 2672307 : ℝ) : EReal)

def algebraic_AdamFfnTIdeal_AdamFfnTRefIdeal [hAdamFfnTIdeal : Cert.AdamFfnTIdeal.Facts] [hAdamFfnTRefIdeal : Cert.AdamFfnTRefIdeal.Facts] : Prop :=
  ∀ (m : (ℓ : Loc Cert.AdamFfnTIdeal.nD Cert.AdamFfnTIdeal.τ Cert.AdamFfnTIdeal.sig) → Buf (Elt Ideal) ℓ) (g : Dev Cert.AdamFfnTIdeal.nD → PrngReg)
    (m' : (ℓ : Loc Cert.AdamFfnTRefIdeal.nD Cert.AdamFfnTRefIdeal.τ Cert.AdamFfnTRefIdeal.sig) → Buf (Elt Ideal) ℓ) (g' : Dev Cert.AdamFfnTRefIdeal.nD → PrngReg), Pre_AdamFfnTIdeal m →
    (∀ c : Dev Cert.AdamFfnTIdeal.nD,
      m' ((c.tc : Thread Cert.AdamFfnTRefIdeal.nD Cert.AdamFfnTRefIdeal.τ).loc Cert.AdamFfnTRefIdeal.main_arg0) = m ((c.tc : Thread Cert.AdamFfnTIdeal.nD Cert.AdamFfnTIdeal.τ).loc Cert.AdamFfnTIdeal.main_arg0)
      ∧ m' ((c.tc : Thread Cert.AdamFfnTRefIdeal.nD Cert.AdamFfnTRefIdeal.τ).loc Cert.AdamFfnTRefIdeal.main_arg1) = m ((c.tc : Thread Cert.AdamFfnTIdeal.nD Cert.AdamFfnTIdeal.τ).loc Cert.AdamFfnTIdeal.main_arg1)
      ∧ m' ((c.tc : Thread Cert.AdamFfnTRefIdeal.nD Cert.AdamFfnTRefIdeal.τ).loc Cert.AdamFfnTRefIdeal.main_arg2) = m ((c.tc : Thread Cert.AdamFfnTIdeal.nD Cert.AdamFfnTIdeal.τ).loc Cert.AdamFfnTIdeal.main_arg2)
      ∧ m' ((c.tc : Thread Cert.AdamFfnTRefIdeal.nD Cert.AdamFfnTRefIdeal.τ).loc Cert.AdamFfnTRefIdeal.main_arg3) = m ((c.tc : Thread Cert.AdamFfnTIdeal.nD Cert.AdamFfnTIdeal.τ).loc Cert.AdamFfnTIdeal.main_arg3)) →
    ∃ (v0 : (c : Dev Cert.AdamFfnTIdeal.nD) → Buf (Elt Ideal) ((c.tc : Thread Cert.AdamFfnTIdeal.nD Cert.AdamFfnTIdeal.τ).loc Cert.AdamFfnTIdeal.main_v8_0)) (v1 : (c : Dev Cert.AdamFfnTIdeal.nD) → Buf (Elt Ideal) ((c.tc : Thread Cert.AdamFfnTIdeal.nD Cert.AdamFfnTIdeal.τ).loc Cert.AdamFfnTIdeal.main_v8_1)) (v2 : (c : Dev Cert.AdamFfnTIdeal.nD) → Buf (Elt Ideal) ((c.tc : Thread Cert.AdamFfnTIdeal.nD Cert.AdamFfnTIdeal.τ).loc Cert.AdamFfnTIdeal.main_v8_2)) (v3 : (c : Dev Cert.AdamFfnTIdeal.nD) → Buf (Elt Ideal) ((c.tc : Thread Cert.AdamFfnTIdeal.nD Cert.AdamFfnTIdeal.τ).loc Cert.AdamFfnTIdeal.main_v8_3)),
      θ_run (Cert.AdamFfnTIdeal.defs (F := Ideal)) (onTc (τ := Cert.AdamFfnTIdeal.τ) (Cert.AdamFfnTIdeal.main (F := Ideal))) ⟨m, fun _ => 0, g⟩ (fun r => ∀ c : Dev Cert.AdamFfnTIdeal.nD,
          r.2.mem ((c.tc : Thread Cert.AdamFfnTIdeal.nD Cert.AdamFfnTIdeal.τ).loc Cert.AdamFfnTIdeal.main_v8_0) = v0 c
          ∧ r.2.mem ((c.tc : Thread Cert.AdamFfnTIdeal.nD Cert.AdamFfnTIdeal.τ).loc Cert.AdamFfnTIdeal.main_v8_1) = v1 c
          ∧ r.2.mem ((c.tc : Thread Cert.AdamFfnTIdeal.nD Cert.AdamFfnTIdeal.τ).loc Cert.AdamFfnTIdeal.main_v8_2) = v2 c
          ∧ r.2.mem ((c.tc : Thread Cert.AdamFfnTIdeal.nD Cert.AdamFfnTIdeal.τ).loc Cert.AdamFfnTIdeal.main_v8_3) = v3 c
          ∧ r.2.mem ((c.tc : Thread Cert.AdamFfnTIdeal.nD Cert.AdamFfnTIdeal.τ).loc Cert.AdamFfnTIdeal.main_arg0) = m ((c.tc : Thread Cert.AdamFfnTIdeal.nD Cert.AdamFfnTIdeal.τ).loc Cert.AdamFfnTIdeal.main_arg0)
          ∧ r.2.mem ((c.tc : Thread Cert.AdamFfnTIdeal.nD Cert.AdamFfnTIdeal.τ).loc Cert.AdamFfnTIdeal.main_arg1) = m ((c.tc : Thread Cert.AdamFfnTIdeal.nD Cert.AdamFfnTIdeal.τ).loc Cert.AdamFfnTIdeal.main_arg1)
          ∧ r.2.mem ((c.tc : Thread Cert.AdamFfnTIdeal.nD Cert.AdamFfnTIdeal.τ).loc Cert.AdamFfnTIdeal.main_arg2) = m ((c.tc : Thread Cert.AdamFfnTIdeal.nD Cert.AdamFfnTIdeal.τ).loc Cert.AdamFfnTIdeal.main_arg2)
          ∧ r.2.mem ((c.tc : Thread Cert.AdamFfnTIdeal.nD Cert.AdamFfnTIdeal.τ).loc Cert.AdamFfnTIdeal.main_arg3) = m ((c.tc : Thread Cert.AdamFfnTIdeal.nD Cert.AdamFfnTIdeal.τ).loc Cert.AdamFfnTIdeal.main_arg3))
      ∧ θ_run (Cert.AdamFfnTRefIdeal.defs (F := Ideal)) (onTc (τ := Cert.AdamFfnTRefIdeal.τ) (Cert.AdamFfnTRefIdeal.main (F := Ideal))) ⟨m', fun _ => 0, g'⟩ (fun r => ∀ c : Dev Cert.AdamFfnTRefIdeal.nD,
          r.2.mem ((c.tc : Thread Cert.AdamFfnTRefIdeal.nD Cert.AdamFfnTRefIdeal.τ).loc Cert.AdamFfnTRefIdeal.main_v24) = v0 c
          ∧ r.2.mem ((c.tc : Thread Cert.AdamFfnTRefIdeal.nD Cert.AdamFfnTRefIdeal.τ).loc Cert.AdamFfnTRefIdeal.main_v25) = v1 c
          ∧ r.2.mem ((c.tc : Thread Cert.AdamFfnTRefIdeal.nD Cert.AdamFfnTRefIdeal.τ).loc Cert.AdamFfnTRefIdeal.main_v26) = v2 c
          ∧ r.2.mem ((c.tc : Thread Cert.AdamFfnTRefIdeal.nD Cert.AdamFfnTRefIdeal.τ).loc Cert.AdamFfnTRefIdeal.main_v27) = v3 c
          ∧ r.2.mem ((c.tc : Thread Cert.AdamFfnTRefIdeal.nD Cert.AdamFfnTRefIdeal.τ).loc Cert.AdamFfnTRefIdeal.main_arg0) = m' ((c.tc : Thread Cert.AdamFfnTRefIdeal.nD Cert.AdamFfnTRefIdeal.τ).loc Cert.AdamFfnTRefIdeal.main_arg0)
          ∧ r.2.mem ((c.tc : Thread Cert.AdamFfnTRefIdeal.nD Cert.AdamFfnTRefIdeal.τ).loc Cert.AdamFfnTRefIdeal.main_arg1) = m' ((c.tc : Thread Cert.AdamFfnTRefIdeal.nD Cert.AdamFfnTRefIdeal.τ).loc Cert.AdamFfnTRefIdeal.main_arg1)
          ∧ r.2.mem ((c.tc : Thread Cert.AdamFfnTRefIdeal.nD Cert.AdamFfnTRefIdeal.τ).loc Cert.AdamFfnTRefIdeal.main_arg2) = m' ((c.tc : Thread Cert.AdamFfnTRefIdeal.nD Cert.AdamFfnTRefIdeal.τ).loc Cert.AdamFfnTRefIdeal.main_arg2)
          ∧ r.2.mem ((c.tc : Thread Cert.AdamFfnTRefIdeal.nD Cert.AdamFfnTRefIdeal.τ).loc Cert.AdamFfnTRefIdeal.main_arg3) = m' ((c.tc : Thread Cert.AdamFfnTRefIdeal.nD Cert.AdamFfnTRefIdeal.τ).loc Cert.AdamFfnTRefIdeal.main_arg3))

def preserves_AdamSmall_AdamSmallIdeal : Prop :=
  IdealRules.named_const.Statement Cert.AdamSmallIdeal.κ "inv_m" .f32 0x3FC48605#32 ((8388608 / 5463681 : ℝ) : EReal)
  ∧ IdealRules.named_const.Statement Cert.AdamSmallIdeal.κ "inv_v" .f32 0x42C8E6D3#32 ((268435456 / 2672307 : ℝ) : EReal)

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_arg1) = v0 c
          ∧ r.2.mem ((c.tc : Thread Cert.AdamSmallRefIdeal.nD Cert.AdamSmallRefIdeal.τ).loc Cert.AdamSmallRefIdeal.main_v23) = v1 c
          ∧ r.2.mem ((c.tc : Thread Cert.AdamSmallRefIdeal.nD Cert.AdamSmallRefIdeal.τ).loc Cert.AdamSmallRefIdeal.main_v4) = v2 c
          ∧ r.2.mem ((c.tc : Thread Cert.AdamSmallRefIdeal.nD Cert.AdamSmallRefIdeal.τ).loc Cert.AdamSmallRefIdeal.main_v10) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def Claim : Prop :=
  ∃ (hConv : Cert.Conv.Facts) (hConvIdeal : Cert.ConvIdeal.Facts) (hConvRefIdeal : Cert.ConvRefIdeal.Facts) (hDown : Cert.Down.Facts) (hDownIdeal : Cert.DownIdeal.Facts) (hDownRefIdeal : Cert.DownRefIdeal.Facts) (hDu : Cert.Du.Facts) (hDuIdeal : Cert.DuIdeal.Facts) (hDuRefIdeal : Cert.DuRefIdeal.Facts) (hProj : Cert.Proj.Facts) (hProjIdeal : Cert.ProjIdeal.Facts) (hProjRefIdeal : Cert.ProjRefIdeal.Facts) (hProjDw : Cert.ProjDw.Facts) (hProjDwIdeal : Cert.ProjDwIdeal.Facts) (hProjDwRefIdeal : Cert.ProjDwRefIdeal.Facts) (hProjB : Cert.ProjB.Facts) (hProjBIdeal : Cert.ProjBIdeal.Facts) (hProjBRefIdeal : Cert.ProjBRefIdeal.Facts) (hGateUp : Cert.GateUp.Facts) (hGateUpIdeal : Cert.GateUpIdeal.Facts) (hGateUpRefIdeal : Cert.GateUpRefIdeal.Facts) (hDhid : Cert.Dhid.Facts) (hDhidIdeal : Cert.DhidIdeal.Facts) (hDhidRefIdeal : Cert.DhidRefIdeal.Facts) (hMixOut : Cert.MixOut.Facts) (hMixOutIdeal : Cert.MixOutIdeal.Facts) (hMixOutRefIdeal : Cert.MixOutRefIdeal.Facts) (hMixOutB : Cert.MixOutB.Facts) (hMixOutBIdeal : Cert.MixOutBIdeal.Facts) (hMixOutBRefIdeal : Cert.MixOutBRefIdeal.Facts) (hMixOutDw : Cert.MixOutDw.Facts) (hMixOutDwIdeal : Cert.MixOutDwIdeal.Facts) (hMixOutDwRefIdeal : Cert.MixOutDwRefIdeal.Facts) (hSOut : Cert.SOut.Facts) (hSOutIdeal : Cert.SOutIdeal.Facts) (hSOutRefIdeal : Cert.SOutRefIdeal.Facts) (hSOutB : Cert.SOutB.Facts) (hSOutBIdeal : Cert.SOutBIdeal.Facts) (hSOutBRefIdeal : Cert.SOutBRefIdeal.Facts) (hConvOut : Cert.ConvOut.Facts) (hConvOutIdeal : Cert.ConvOutIdeal.Facts) (hConvOutRefIdeal : Cert.ConvOutRefIdeal.Facts) (hConvOutB : Cert.ConvOutB.Facts) (hConvOutBIdeal : Cert.ConvOutBIdeal.Facts) (hConvOutBRefIdeal : Cert.ConvOutBRefIdeal.Facts) (hOutDw : Cert.OutDw.Facts) (hOutDwIdeal : Cert.OutDwIdeal.Facts) (hOutDwRefIdeal : Cert.OutDwRefIdeal.Facts) (hGlu : Cert.Glu.Facts) (hGluIdeal : Cert.GluIdeal.Facts) (hGluRefIdeal : Cert.GluRefIdeal.Facts) (hGluDw : Cert.GluDw.Facts) (hGluDwIdeal : Cert.GluDwIdeal.Facts) (hGluDwRefIdeal : Cert.GluDwRefIdeal.Facts) (hDw : Cert.Dw.Facts) (hDwIdeal : Cert.DwIdeal.Facts) (hDwRefIdeal : Cert.DwRefIdeal.Facts) (hDwD : Cert.DwD.Facts) (hDwDIdeal : Cert.DwDIdeal.Facts) (hDwDRefIdeal : Cert.DwDRefIdeal.Facts) (hNorm : Cert.Norm.Facts) (hNormIdeal : Cert.NormIdeal.Facts) (hNormRefIdeal : Cert.NormRefIdeal.Facts) (hNormB : Cert.NormB.Facts) (hNormBIdeal : Cert.NormBIdeal.Facts) (hNormBRefIdeal : Cert.NormBRefIdeal.Facts) (hFinal : Cert.Final.Facts) (hFinalIdeal : Cert.FinalIdeal.Facts) (hFinalRefIdeal : Cert.FinalRefIdeal.Facts) (hSumSmall : Cert.SumSmall.Facts) (hSumSmallIdeal : Cert.SumSmallIdeal.Facts) (hSumSmallRefIdeal : Cert.SumSmallRefIdeal.Facts) (hConvF : Cert.ConvF.Facts) (hConvFIdeal : Cert.ConvFIdeal.Facts) (hConvFRefIdeal : Cert.ConvFRefIdeal.Facts) (hVecG : Cert.VecG.Facts) (hVecGIdeal : Cert.VecGIdeal.Facts) (hVecGRefIdeal : Cert.VecGRefIdeal.Facts) (hDisc : Cert.Disc.Facts) (hDiscIdeal : Cert.DiscIdeal.Facts) (hDiscRefIdeal : Cert.DiscRefIdeal.Facts) (hDiscB : Cert.DiscB.Facts) (hDiscBIdeal : Cert.DiscBIdeal.Facts) (hDiscBRefIdeal : Cert.DiscBRefIdeal.Facts) (hAdamIn : Cert.AdamIn.Facts) (hAdamInIdeal : Cert.AdamInIdeal.Facts) (hAdamInRefIdeal : Cert.AdamInRefIdeal.Facts) (hAdamO : Cert.AdamO.Facts) (hAdamOIdeal : Cert.AdamOIdeal.Facts) (hAdamORefIdeal : Cert.AdamORefIdeal.Facts) (hAdamOut : Cert.AdamOut.Facts) (hAdamOutIdeal : Cert.AdamOutIdeal.Facts) (hAdamOutRefIdeal : Cert.AdamOutRefIdeal.Facts) (hAdamGlu : Cert.AdamGlu.Facts) (hAdamGluIdeal : Cert.AdamGluIdeal.Facts) (hAdamGluRefIdeal : Cert.AdamGluRefIdeal.Facts) (hAdamFfn : Cert.AdamFfn.Facts) (hAdamFfnIdeal : Cert.AdamFfnIdeal.Facts) (hAdamFfnRefIdeal : Cert.AdamFfnRefIdeal.Facts) (hAdamFfnT : Cert.AdamFfnT.Facts) (hAdamFfnTIdeal : Cert.AdamFfnTIdeal.Facts) (hAdamFfnTRefIdeal : Cert.AdamFfnTRefIdeal.Facts) (hAdamSmall : Cert.AdamSmall.Facts) (hAdamSmallIdeal : Cert.AdamSmallIdeal.Facts) (hAdamSmallRefIdeal : Cert.AdamSmallRefIdeal.Facts) (hPre_finite_up : Cert.Pre_finite_up.Facts) (hPre_finite_hidden : Cert.Pre_finite_hidden.Facts) (hPre_on_a_device : Cert.Pre_on_a_device.Facts),
    quiescent_Conv (hConv := hConv)
    ∧ quiescent_ConvIdeal (hConvIdeal := hConvIdeal)
    ∧ quiescent_ConvRefIdeal (hConvRefIdeal := hConvRefIdeal)
    ∧ quiescent_Down (hDown := hDown)
    ∧ quiescent_DownIdeal (hDownIdeal := hDownIdeal)
    ∧ quiescent_DownRefIdeal (hDownRefIdeal := hDownRefIdeal)
    ∧ quiescent_Du (hDu := hDu)
    ∧ quiescent_DuIdeal (hDuIdeal := hDuIdeal)
    ∧ quiescent_DuRefIdeal (hDuRefIdeal := hDuRefIdeal)
    ∧ quiescent_Proj (hProj := hProj)
    ∧ quiescent_ProjIdeal (hProjIdeal := hProjIdeal)
    ∧ quiescent_ProjRefIdeal (hProjRefIdeal := hProjRefIdeal)
    ∧ quiescent_ProjDw (hProjDw := hProjDw)
    ∧ quiescent_ProjDwIdeal (hProjDwIdeal := hProjDwIdeal)
    ∧ quiescent_ProjDwRefIdeal (hProjDwRefIdeal := hProjDwRefIdeal)
    ∧ quiescent_ProjB (hProjB := hProjB)
    ∧ quiescent_ProjBIdeal (hProjBIdeal := hProjBIdeal)
    ∧ quiescent_ProjBRefIdeal (hProjBRefIdeal := hProjBRefIdeal)
    ∧ quiescent_GateUp (hGateUp := hGateUp)
    ∧ quiescent_GateUpIdeal (hGateUpIdeal := hGateUpIdeal)
    ∧ quiescent_GateUpIdeal_pre_finite_up (hGateUpIdeal := hGateUpIdeal) (hPre_finite_up := hPre_finite_up)
    ∧ quiescent_GateUpRefIdeal (hGateUpRefIdeal := hGateUpRefIdeal)
    ∧ quiescent_GateUpRefIdeal_pre_finite_up (hGateUpRefIdeal := hGateUpRefIdeal) (hPre_finite_up := hPre_finite_up)
    ∧ quiescent_Dhid (hDhid := hDhid)
    ∧ quiescent_DhidIdeal (hDhidIdeal := hDhidIdeal)
    ∧ quiescent_DhidIdeal_pre_finite_hidden (hDhidIdeal := hDhidIdeal) (hPre_finite_hidden := hPre_finite_hidden)
    ∧ quiescent_DhidRefIdeal (hDhidRefIdeal := hDhidRefIdeal)
    ∧ quiescent_DhidRefIdeal_pre_finite_hidden (hDhidRefIdeal := hDhidRefIdeal) (hPre_finite_hidden := hPre_finite_hidden)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_MixOutB (hMixOutB := hMixOutB)
    ∧ quiescent_MixOutBIdeal (hMixOutBIdeal := hMixOutBIdeal)
    ∧ quiescent_MixOutBRefIdeal (hMixOutBRefIdeal := hMixOutBRefIdeal)
    ∧ quiescent_MixOutDw (hMixOutDw := hMixOutDw)
    ∧ quiescent_MixOutDwIdeal (hMixOutDwIdeal := hMixOutDwIdeal)
    ∧ quiescent_MixOutDwRefIdeal (hMixOutDwRefIdeal := hMixOutDwRefIdeal)
    ∧ quiescent_SOut (hSOut := hSOut)
    ∧ quiescent_SOutIdeal (hSOutIdeal := hSOutIdeal)
    ∧ quiescent_SOutRefIdeal (hSOutRefIdeal := hSOutRefIdeal)
    ∧ quiescent_SOutB (hSOutB := hSOutB)
    ∧ quiescent_SOutBIdeal (hSOutBIdeal := hSOutBIdeal)
    ∧ quiescent_SOutBRefIdeal (hSOutBRefIdeal := hSOutBRefIdeal)
    ∧ quiescent_ConvOut (hConvOut := hConvOut)
    ∧ quiescent_ConvOutIdeal (hConvOutIdeal := hConvOutIdeal)
    ∧ quiescent_ConvOutRefIdeal (hConvOutRefIdeal := hConvOutRefIdeal)
    ∧ quiescent_ConvOutB (hConvOutB := hConvOutB)
    ∧ quiescent_ConvOutBIdeal (hConvOutBIdeal := hConvOutBIdeal)
    ∧ quiescent_ConvOutBRefIdeal (hConvOutBRefIdeal := hConvOutBRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_Glu (hGlu := hGlu)
    ∧ quiescent_GluIdeal (hGluIdeal := hGluIdeal)
    ∧ quiescent_GluRefIdeal (hGluRefIdeal := hGluRefIdeal)
    ∧ quiescent_GluDw (hGluDw := hGluDw)
    ∧ quiescent_GluDwIdeal (hGluDwIdeal := hGluDwIdeal)
    ∧ quiescent_GluDwRefIdeal (hGluDwRefIdeal := hGluDwRefIdeal)
    ∧ quiescent_Dw (hDw := hDw) (hPre_on_a_device := hPre_on_a_device)
    ∧ quiescent_DwIdeal (hDwIdeal := hDwIdeal) (hPre_on_a_device := hPre_on_a_device)
    ∧ quiescent_DwRefIdeal (hDwRefIdeal := hDwRefIdeal)
    ∧ quiescent_DwRefIdeal_pre_on_a_device (hDwRefIdeal := hDwRefIdeal) (hPre_on_a_device := hPre_on_a_device)
    ∧ quiescent_DwD (hDwD := hDwD) (hPre_on_a_device := hPre_on_a_device)
    ∧ quiescent_DwDIdeal (hDwDIdeal := hDwDIdeal) (hPre_on_a_device := hPre_on_a_device)
    ∧ quiescent_DwDRefIdeal (hDwDRefIdeal := hDwDRefIdeal)
    ∧ quiescent_DwDRefIdeal_pre_on_a_device (hDwDRefIdeal := hDwDRefIdeal) (hPre_on_a_device := hPre_on_a_device)
    ∧ quiescent_Norm (hNorm := hNorm)
    ∧ quiescent_NormIdeal (hNormIdeal := hNormIdeal)
    ∧ quiescent_NormRefIdeal (hNormRefIdeal := hNormRefIdeal)
    ∧ quiescent_NormB (hNormB := hNormB)
    ∧ quiescent_NormBIdeal (hNormBIdeal := hNormBIdeal)
    ∧ quiescent_NormBRefIdeal (hNormBRefIdeal := hNormBRefIdeal)
    ∧ quiescent_Final (hFinal := hFinal)
    ∧ quiescent_FinalIdeal (hFinalIdeal := hFinalIdeal)
    ∧ quiescent_FinalRefIdeal (hFinalRefIdeal := hFinalRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_ConvF (hConvF := hConvF)
    ∧ quiescent_ConvFIdeal (hConvFIdeal := hConvFIdeal)
    ∧ quiescent_ConvFRefIdeal (hConvFRefIdeal := hConvFRefIdeal)
    ∧ quiescent_VecG (hVecG := hVecG)
    ∧ quiescent_VecGIdeal (hVecGIdeal := hVecGIdeal)
    ∧ quiescent_VecGRefIdeal (hVecGRefIdeal := hVecGRefIdeal)
    ∧ quiescent_Disc (hDisc := hDisc)
    ∧ quiescent_DiscIdeal (hDiscIdeal := hDiscIdeal)
    ∧ quiescent_DiscRefIdeal (hDiscRefIdeal := hDiscRefIdeal)
    ∧ quiescent_DiscB (hDiscB := hDiscB)
    ∧ quiescent_DiscBIdeal (hDiscBIdeal := hDiscBIdeal)
    ∧ quiescent_DiscBRefIdeal (hDiscBRefIdeal := hDiscBRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamO (hAdamO := hAdamO)
    ∧ quiescent_AdamOIdeal (hAdamOIdeal := hAdamOIdeal)
    ∧ quiescent_AdamORefIdeal (hAdamORefIdeal := hAdamORefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamGlu (hAdamGlu := hAdamGlu)
    ∧ quiescent_AdamGluIdeal (hAdamGluIdeal := hAdamGluIdeal)
    ∧ quiescent_AdamGluRefIdeal (hAdamGluRefIdeal := hAdamGluRefIdeal)
    ∧ quiescent_AdamFfn (hAdamFfn := hAdamFfn)
    ∧ quiescent_AdamFfnIdeal (hAdamFfnIdeal := hAdamFfnIdeal)
    ∧ quiescent_AdamFfnRefIdeal (hAdamFfnRefIdeal := hAdamFfnRefIdeal)
    ∧ quiescent_AdamFfnT (hAdamFfnT := hAdamFfnT)
    ∧ quiescent_AdamFfnTIdeal (hAdamFfnTIdeal := hAdamFfnTIdeal)
    ∧ quiescent_AdamFfnTRefIdeal (hAdamFfnTRefIdeal := hAdamFfnTRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ preserves_Conv_ConvIdeal
    ∧ algebraic_ConvIdeal_ConvRefIdeal (hConvIdeal := hConvIdeal) (hConvRefIdeal := hConvRefIdeal)
    ∧ preserves_Down_DownIdeal
    ∧ algebraic_DownIdeal_DownRefIdeal (hDownIdeal := hDownIdeal) (hDownRefIdeal := hDownRefIdeal)
    ∧ preserves_Du_DuIdeal
    ∧ algebraic_DuIdeal_DuRefIdeal (hDuIdeal := hDuIdeal) (hDuRefIdeal := hDuRefIdeal)
    ∧ preserves_Proj_ProjIdeal
    ∧ algebraic_ProjIdeal_ProjRefIdeal (hProjIdeal := hProjIdeal) (hProjRefIdeal := hProjRefIdeal)
    ∧ preserves_ProjDw_ProjDwIdeal
    ∧ algebraic_ProjDwIdeal_ProjDwRefIdeal (hProjDwIdeal := hProjDwIdeal) (hProjDwRefIdeal := hProjDwRefIdeal)
    ∧ preserves_ProjB_ProjBIdeal
    ∧ algebraic_ProjBIdeal_ProjBRefIdeal (hProjBIdeal := hProjBIdeal) (hProjBRefIdeal := hProjBRefIdeal)
    ∧ preserves_GateUp_GateUpIdeal
    ∧ algebraic_GateUpIdeal_GateUpRefIdeal_pre_finite_up (hGateUpIdeal := hGateUpIdeal) (hGateUpRefIdeal := hGateUpRefIdeal) (hPre_finite_up := hPre_finite_up)
    ∧ preserves_Dhid_DhidIdeal
    ∧ algebraic_DhidIdeal_DhidRefIdeal_pre_finite_hidden (hDhidIdeal := hDhidIdeal) (hDhidRefIdeal := hDhidRefIdeal) (hPre_finite_hidden := hPre_finite_hidden)
    ∧ preserves_MixOut_MixOutIdeal
    ∧ algebraic_MixOutIdeal_MixOutRefIdeal (hMixOutIdeal := hMixOutIdeal) (hMixOutRefIdeal := hMixOutRefIdeal)
    ∧ preserves_MixOutB_MixOutBIdeal
    ∧ algebraic_MixOutBIdeal_MixOutBRefIdeal (hMixOutBIdeal := hMixOutBIdeal) (hMixOutBRefIdeal := hMixOutBRefIdeal)
    ∧ preserves_MixOutDw_MixOutDwIdeal
    ∧ algebraic_MixOutDwIdeal_MixOutDwRefIdeal (hMixOutDwIdeal := hMixOutDwIdeal) (hMixOutDwRefIdeal := hMixOutDwRefIdeal)
    ∧ preserves_SOut_SOutIdeal
    ∧ algebraic_SOutIdeal_SOutRefIdeal (hSOutIdeal := hSOutIdeal) (hSOutRefIdeal := hSOutRefIdeal)
    ∧ preserves_SOutB_SOutBIdeal
    ∧ algebraic_SOutBIdeal_SOutBRefIdeal (hSOutBIdeal := hSOutBIdeal) (hSOutBRefIdeal := hSOutBRefIdeal)
    ∧ preserves_ConvOut_ConvOutIdeal
    ∧ algebraic_ConvOutIdeal_ConvOutRefIdeal (hConvOutIdeal := hConvOutIdeal) (hConvOutRefIdeal := hConvOutRefIdeal)
    ∧ preserves_ConvOutB_ConvOutBIdeal
    ∧ algebraic_ConvOutBIdeal_ConvOutBRefIdeal (hConvOutBIdeal := hConvOutBIdeal) (hConvOutBRefIdeal := hConvOutBRefIdeal)
    ∧ preserves_OutDw_OutDwIdeal
    ∧ algebraic_OutDwIdeal_OutDwRefIdeal (hOutDwIdeal := hOutDwIdeal) (hOutDwRefIdeal := hOutDwRefIdeal)
    ∧ preserves_Glu_GluIdeal
    ∧ algebraic_GluIdeal_GluRefIdeal (hGluIdeal := hGluIdeal) (hGluRefIdeal := hGluRefIdeal)
    ∧ preserves_GluDw_GluDwIdeal
    ∧ algebraic_GluDwIdeal_GluDwRefIdeal (hGluDwIdeal := hGluDwIdeal) (hGluDwRefIdeal := hGluDwRefIdeal)
    ∧ preserves_Dw_DwIdeal
    ∧ algebraic_DwIdeal_DwRefIdeal (hDwIdeal := hDwIdeal) (hDwRefIdeal := hDwRefIdeal) (hPre_on_a_device := hPre_on_a_device)
    ∧ preserves_DwD_DwDIdeal
    ∧ algebraic_DwDIdeal_DwDRefIdeal (hDwDIdeal := hDwDIdeal) (hDwDRefIdeal := hDwDRefIdeal) (hPre_on_a_device := hPre_on_a_device)
    ∧ preserves_Norm_NormIdeal
    ∧ algebraic_NormIdeal_NormRefIdeal (hNormIdeal := hNormIdeal) (hNormRefIdeal := hNormRefIdeal)
    ∧ preserves_NormB_NormBIdeal
    ∧ algebraic_NormBIdeal_NormBRefIdeal (hNormBIdeal := hNormBIdeal) (hNormBRefIdeal := hNormBRefIdeal)
    ∧ preserves_Final_FinalIdeal
    ∧ algebraic_FinalIdeal_FinalRefIdeal (hFinalIdeal := hFinalIdeal) (hFinalRefIdeal := hFinalRefIdeal)
    ∧ preserves_SumSmall_SumSmallIdeal
    ∧ algebraic_SumSmallIdeal_SumSmallRefIdeal (hSumSmallIdeal := hSumSmallIdeal) (hSumSmallRefIdeal := hSumSmallRefIdeal)
    ∧ preserves_ConvF_ConvFIdeal
    ∧ algebraic_ConvFIdeal_ConvFRefIdeal (hConvFIdeal := hConvFIdeal) (hConvFRefIdeal := hConvFRefIdeal)
    ∧ preserves_VecG_VecGIdeal
    ∧ algebraic_VecGIdeal_VecGRefIdeal (hVecGIdeal := hVecGIdeal) (hVecGRefIdeal := hVecGRefIdeal)
    ∧ preserves_Disc_DiscIdeal
    ∧ algebraic_DiscIdeal_DiscRefIdeal (hDiscIdeal := hDiscIdeal) (hDiscRefIdeal := hDiscRefIdeal)
    ∧ preserves_DiscB_DiscBIdeal
    ∧ algebraic_DiscBIdeal_DiscBRefIdeal (hDiscBIdeal := hDiscBIdeal) (hDiscBRefIdeal := hDiscBRefIdeal)
    ∧ preserves_AdamIn_AdamInIdeal
    ∧ algebraic_AdamInIdeal_AdamInRefIdeal (hAdamInIdeal := hAdamInIdeal) (hAdamInRefIdeal := hAdamInRefIdeal)
    ∧ preserves_AdamO_AdamOIdeal
    ∧ algebraic_AdamOIdeal_AdamORefIdeal (hAdamOIdeal := hAdamOIdeal) (hAdamORefIdeal := hAdamORefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamGlu_AdamGluIdeal
    ∧ algebraic_AdamGluIdeal_AdamGluRefIdeal (hAdamGluIdeal := hAdamGluIdeal) (hAdamGluRefIdeal := hAdamGluRefIdeal)
    ∧ preserves_AdamFfn_AdamFfnIdeal
    ∧ algebraic_AdamFfnIdeal_AdamFfnRefIdeal (hAdamFfnIdeal := hAdamFfnIdeal) (hAdamFfnRefIdeal := hAdamFfnRefIdeal)
    ∧ preserves_AdamFfnT_AdamFfnTIdeal
    ∧ algebraic_AdamFfnTIdeal_AdamFfnTRefIdeal (hAdamFfnTIdeal := hAdamFfnTIdeal) (hAdamFfnTRefIdeal := hAdamFfnTRefIdeal)
    ∧ preserves_AdamSmall_AdamSmallIdeal
    ∧ algebraic_AdamSmallIdeal_AdamSmallRefIdeal (hAdamSmallIdeal := hAdamSmallIdeal) (hAdamSmallRefIdeal := hAdamSmallRefIdeal)
-- ==== Pre_finite_hidden.lean ====
abbrev S2048x2048 : Shape := ⟨2, ![2048, 2048]⟩
abbrev S2048x5632 : Shape := ⟨2, ![2048, 5632]⟩
abbrev S5632x2048 : Shape := ⟨2, ![5632, 2048]⟩
abbrev S_ : Shape := ⟨0, ![]⟩

class Facts : Prop where
  bcast_S_S2048x2048 : S_.BroadcastsInDim S2048x2048 (![] : Fin 0 → Fin S2048x2048.rank)
  bcast_S_S2048x5632 : S_.BroadcastsInDim S2048x5632 (![] : Fin 0 → Fin S2048x5632.rank)
  bcast_S_S5632x2048 : S_.BroadcastsInDim S5632x2048 (![] : Fin 0 → Fin S5632x2048.rank)

variable [Facts]

def fn {F : FTy → Type} [FloatOps F] (main_arg0 : FVec F S2048x2048 .f32) (main_arg1 : FVec F S2048x5632 .f32) (main_arg2 : FVec F S2048x5632 .f32) (main_arg3 : FVec F S5632x2048 .f32) (main_arg4 : FVec F S2048x2048 .f32) : IVec S2048x2048 1 × IVec S2048x5632 1 × IVec S5632x2048 1 × IVec S2048x2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S2048x5632 .f32 := Host.absf main_arg2
  let main_cst_0 : FVec F S_ .f32 := constant S_ .f32 0x7F800000#32
  let main_v4 : FVec F S2048x5632 .f32 := broadcastInDim S2048x5632 ![] bcast_S_S2048x5632 main_cst_0
  let main_v5 : IVec S2048x5632 1 := cmpf .olt main_v3 main_v4
  let main_v6 : FVec F S5632x2048 .f32 := Host.absf main_arg3
  let main_cst_1 : FVec F S_ .f32 := constant S_ .f32 0x7F800000#32
  let main_v7 : FVec F S5632x2048 .f32 := broadcastInDim S5632x2048 ![] bcast_S_S5632x2048 main_cst_1
  let main_v8 : IVec S5632x2048 1 := cmpf .olt main_v6 main_v7
  let main_v9 : FVec F S2048x2048 .f32 := Host.absf main_arg4
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  (main_v2, main_v5, main_v8, main_v11)
-- ==== Pre_finite_up.lean ====
abbrev S2048x2048 : Shape := ⟨2, ![2048, 2048]⟩
abbrev S2048x5632 : Shape := ⟨2, ![2048, 5632]⟩
abbrev S_ : Shape := ⟨0, ![]⟩

class Facts : Prop where
  bcast_S_S2048x2048 : S_.BroadcastsInDim S2048x2048 (![] : Fin 0 → Fin S2048x2048.rank)
  bcast_S_S2048x5632 : S_.BroadcastsInDim S2048x5632 (![] : Fin 0 → Fin S2048x5632.rank)

variable [Facts]

def fn {F : FTy → Type} [FloatOps F] (main_arg0 : FVec F S2048x2048 .f32) (main_arg1 : FVec F S2048x5632 .f32) (main_arg2 : FVec F S2048x5632 .f32) : IVec S2048x2048 1 × IVec S2048x5632 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S2048x5632 .f32 := Host.absf main_arg2
  let main_cst_0 : FVec F S_ .f32 := constant S_ .f32 0x7F800000#32
  let main_v4 : FVec F S2048x5632 .f32 := broadcastInDim S2048x5632 ![] bcast_S_S2048x5632 main_cst_0
  let main_v5 : IVec S2048x5632 1 := cmpf .olt main_v3 main_v4
  (main_v2, main_v5)
-- ==== Pre_on_a_device.lean ====
abbrev S2 : Shape := ⟨1, ![2]⟩
abbrev S2048x5632 : Shape := ⟨2, ![2048, 5632]⟩
abbrev S2048x2048 : Shape := ⟨2, ![2048, 2048]⟩
abbrev S_ : Shape := ⟨0, ![]⟩

class Facts : Prop where
  bcast_S_S2 : S_.BroadcastsInDim S2 (![] : Fin 0 → Fin S2.rank)

variable [Facts]

def fn {F : FTy → Type} [FloatOps F] (main_arg0 : IVec S2 32) (main_arg1 : FVec F S2048x5632 .bf16) (main_arg2 : FVec F S2048x2048 .bf16) : IVec S2 1 :=
  let main_c : IVec S_ 32 := constantI S_ 32 0#32
  let main_v0 : IVec S2 32 := broadcastInDim S2 ![] bcast_S_S2 main_c
  let main_v1 : IVec S2 1 := cmpi .sge main_arg0 main_v0
  let main_v2 : IVec S2 32 := iotaInDim S2 32 0
  let main_c_0 : IVec S_ 32 := constantI S_ 32 2#32
  let main_v3 : IVec S2 32 := broadcastInDim S2 ![] bcast_S_S2 main_c_0
  let main_v4 : IVec S2 32 := muli main_v3 main_v2
  let main_c_1 : IVec S_ 32 := constantI S_ 32 4#32
  let main_v5 : IVec S2 32 := broadcastInDim S2 ![] bcast_S_S2 main_c_1
  let main_v6 : IVec S2 32 := subi main_v5 main_v4
  let main_v7 : IVec S2 1 := cmpi .slt main_arg0 main_v6
  let main_v8 : IVec S2 1 := andi main_v1 main_v7
  main_v8
-- ==== Conv.lean ====
abbrev S2048x1024 : Shape := ⟨2, ![2048, 1024]⟩
abbrev S2048x8192 : Shape := ⟨2, ![2048, 8192]⟩
abbrev S3x1024 : Shape := ⟨2, ![3, 1024]⟩
abbrev S1024 : Shape := ⟨1, ![1024]⟩
abbrev S_ : Shape := ⟨0, ![]⟩
abbrev S8x1024 : Shape := ⟨2, ![8, 1024]⟩
abbrev S1x1024 : Shape := ⟨2, ![1, 1024]⟩
abbrev S2048x256 : Shape := ⟨2, ![2048, 256]⟩
abbrev S8x256 : Shape := ⟨2, ![8, 256]⟩
abbrev S1x256 : Shape := ⟨2, ![1, 256]⟩
abbrev S256 : Shape := ⟨1, ![256]⟩

abbrev nBuf : Space → Nat
  | .hbm => 13
  | .vmem => 22
  | .smem => 0
  | _ => 0

abbrev bufTy : (tb : Table) → Fin (tcTables nBuf tb) → BufTy
  | .hbm, ⟨0, _⟩ => ⟨S2048x1024, .f32⟩
  | .hbm, ⟨1, _⟩ => ⟨S2048x8192, .f32⟩
  | .hbm, ⟨2, _⟩ => ⟨S3x1024, .f32⟩
  | .hbm, ⟨3, _⟩ => ⟨S1024, .f32⟩
  | .hbm, ⟨4, _⟩ => ⟨S_, .i32⟩
  | .hbm, ⟨5, _⟩ => ⟨S_, .f32⟩
  | .hbm, ⟨6, _⟩ => ⟨S8x1024, .f32⟩
  | .hbm, ⟨7, _⟩ => ⟨S1x1024, .f32⟩
  | .hbm, ⟨8, _⟩ => ⟨S2048x1024, .bf16⟩
  | .hbm, ⟨9, _⟩ => ⟨S2048x1024, .bf16⟩
  | .hbm, ⟨10, _⟩ => ⟨S2048x1024, .bf16⟩
  | .hbm, ⟨11, _⟩ => ⟨S8x1024, .f32⟩
  | .hbm, ⟨12, _⟩ => ⟨S1x1024, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S8x256, .f32⟩
  | .local _ .vmem, ⟨9, _⟩ => ⟨S8x256, .f32⟩
  | .local _ .vmem, ⟨10, _⟩ => ⟨S1x256, .f32⟩
  | .local _ .vmem, ⟨11, _⟩ => ⟨S1x256, .f32⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S8x256, .f32⟩
  | .local _ .vmem, ⟨19, _⟩ => ⟨S8x256, .f32⟩
  | .local _ .vmem, ⟨20, _⟩ => ⟨S1x256, .f32⟩
  | .local _ .vmem, ⟨21, _⟩ => ⟨S1x256, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ConvRefIdeal.lean ====
abbrev S2048x1024 : Shape := ⟨2, ![2048, 1024]⟩
abbrev S2048x8192 : Shape := ⟨2, ![2048, 8192]⟩
abbrev S3x1024 : Shape := ⟨2, ![3, 1024]⟩
abbrev S1024 : Shape := ⟨1, ![1024]⟩
abbrev S2048x4096 : Shape := ⟨2, ![2048, 4096]⟩
abbrev S_ : Shape := ⟨0, ![]⟩
abbrev S2x1024 : Shape := ⟨2, ![2, 1024]⟩
abbrev S2050x1024 : Shape := ⟨2, ![2050, 1024]⟩
abbrev S1x1024 : Shape := ⟨2, ![1, 1024]⟩
abbrev S8x1024 : Shape := ⟨2, ![8, 1024]⟩

abbrev nBuf : Space → Nat
  | .hbm => 103
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x8192, .f32⟩
  | .hbm, ⟨2, _⟩ => ⟨S3x1024, .f32⟩
  | .hbm, ⟨3, _⟩ => ⟨S1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x4096, .f32⟩
  | .hbm, ⟨9, _⟩ => ⟨S2048x1024, .f32⟩
  | .hbm, ⟨10, _⟩ => ⟨S_, .f32⟩
  | .hbm, ⟨11, _⟩ => ⟨S2x1024, .f32⟩
  | .hbm, ⟨12, _⟩ => ⟨S2050x1024, .f32⟩
  | .hbm, ⟨13, _⟩ => ⟨S_, .f32⟩
  | .hbm, ⟨14, _⟩ => ⟨S2x1024, .f32⟩
  | .hbm, ⟨15, _⟩ => ⟨S1x1024, .f32⟩
  | .hbm, ⟨16, _⟩ => ⟨S1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S1x1024, .f32⟩
  | .hbm, ⟨25, _⟩ => ⟨S1024, .f32⟩
  | .hbm, ⟨26, _⟩ => ⟨S2048x1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S1x1024, .f32⟩
  | .hbm, ⟨32, _⟩ => ⟨S1024, .f32⟩
  | .hbm, ⟨33, _⟩ => ⟨S2048x1024, .f32⟩
  | .hbm, ⟨34, _⟩ => ⟨S1x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S1x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S_, .f32⟩
  | .hbm, ⟨48, _⟩ => ⟨S1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S_, .f32⟩
  | .hbm, ⟨56, _⟩ => ⟨S1024, .f32⟩
  | .hbm, ⟨57, _⟩ => ⟨S_, .f32⟩
  | .hbm, ⟨58, _⟩ => ⟨S2050x1024, .f32⟩
  | .hbm, ⟨59, _⟩ => ⟨S1x1024, .f32⟩
  | .hbm, ⟨60, _⟩ => ⟨S_, .f32⟩
  | .hbm, ⟨61, _⟩ => ⟨S3x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S_, .f32⟩
  | .hbm, ⟨69, _⟩ => ⟨S1024, .f32⟩
  | .hbm, ⟨70, _⟩ => ⟨S_, .f32⟩
  | .hbm, ⟨71, _⟩ => ⟨S2050x1024, .f32⟩
  | .hbm, ⟨72, _⟩ => ⟨S2050x1024, .f32⟩
  | .hbm, ⟨73, _⟩ => ⟨S1x1024, .f32⟩
  | .hbm, ⟨74, _⟩ => ⟨S_, .f32⟩
  | .hbm, ⟨75, _⟩ => ⟨S3x1024, .f32⟩
  | .hbm, ⟨76, _⟩ => ⟨S3x1024, .f32⟩
  | .hbm, ⟨77, _⟩ => ⟨S2048x1024, .f32⟩
  | .hbm, ⟨78, _⟩ => ⟨S2048x1024, .f32⟩
  | .hbm, ⟨79, _⟩ => ⟨S2048x1024, .f32⟩
  | .hbm, ⟨80, _⟩ => ⟨S_, .f32⟩
  | .hbm, ⟨81, _⟩ => ⟨S1024, .f32⟩
  | .hbm, ⟨82, _⟩ => ⟨S1x1024, .f32⟩
  | .hbm, ⟨83, _⟩ => ⟨S_, .f32⟩
  | .hbm, ⟨84, _⟩ => ⟨S1024, .f32⟩
  | .hbm, ⟨85, _⟩ => ⟨S_, .f32⟩
  | .hbm, ⟨86, _⟩ => ⟨S2050x1024, .f32⟩
  | .hbm, ⟨87, _⟩ => ⟨S2050x1024, .f32⟩
  | .hbm, ⟨88, _⟩ => ⟨S1x1024, .f32⟩
  | .hbm, ⟨89, _⟩ => ⟨S_, .f32⟩
  | .hbm, ⟨90, _⟩ => ⟨S3x1024, .f32⟩
  | .hbm, ⟨91, _⟩ => ⟨S3x1024, .f32⟩
  | .hbm, ⟨92, _⟩ => ⟨S2x1024, .f32⟩
  | .hbm, ⟨93, _⟩ => ⟨S2048x1024, .f32⟩
  | .hbm, ⟨94, _⟩ => ⟨S2048x1024, .f32⟩
  | .hbm, ⟨95, _⟩ => ⟨S2048x1024, .f32⟩
  | .hbm, ⟨96, _⟩ => ⟨S_, .i32⟩
  | .hbm, ⟨97, _⟩ => ⟨S_, .f32⟩
  | .hbm, ⟨98, _⟩ => ⟨S8x1024, .f32⟩
  | .hbm, ⟨99, _⟩ => ⟨S2048x1024, .bf16⟩
  | .hbm, ⟨100, _⟩ => ⟨S2048x1024, .bf16⟩
  | .hbm, ⟨101, _⟩ => ⟨S2048x1024, .bf16⟩
  | .hbm, ⟨102, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_2 : Ref sig .tc := ⟨.hbm, 44, rfl⟩
abbrev main_v37 : Ref sig .tc := ⟨.hbm, 45, rfl⟩
abbrev main_v38 : Ref sig .tc := ⟨.hbm, 46, rfl⟩
abbrev main_cst_3 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_4 : Ref sig .tc := ⟨.hbm, 52, rfl⟩
abbrev main_v43 : Ref sig .tc := ⟨.hbm, 53, rfl⟩
abbrev main_v44 : Ref sig .tc := ⟨.hbm, 54, rfl⟩
abbrev main_cst_5 : Ref sig .tc := ⟨.hbm, 55, rfl⟩
abbrev main_v45 : Ref sig .tc := ⟨.hbm, 56, rfl⟩
abbrev main_cst_6 : Ref sig .tc := ⟨.hbm, 57, rfl⟩
abbrev main_v46 : Ref sig .tc := ⟨.hbm, 58, rfl⟩
abbrev main_v47 : Ref sig .tc := ⟨.hbm, 59, rfl⟩
abbrev main_cst_7 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_8 : Ref sig .tc := ⟨.hbm, 65, rfl⟩
abbrev main_v52 : Ref sig .tc := ⟨.hbm, 66, rfl⟩
abbrev main_v53 : Ref sig .tc := ⟨.hbm, 67, rfl⟩
abbrev main_cst_9 : Ref sig .tc := ⟨.hbm, 68, rfl⟩
abbrev main_v54 : Ref sig .tc := ⟨.hbm, 69, rfl⟩
abbrev main_cst_10 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_11 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_12 : Ref sig .tc := ⟨.hbm, 80, rfl⟩
abbrev main_v63 : Ref sig .tc := ⟨.hbm, 81, rfl⟩
abbrev main_v64 : Ref sig .tc := ⟨.hbm, 82, rfl⟩
abbrev main_cst_13 : Ref sig .tc := ⟨.hbm, 83, rfl⟩
abbrev main_v65 : Ref sig .tc := ⟨.hbm, 84, rfl⟩
abbrev main_cst_14 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_15 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_c : Ref sig .tc := ⟨.hbm, 96, rfl⟩
abbrev main_call0_v0 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩

abbrev nD : Nat := 1
abbrev τ : Topo := Topo.v7x

variable {F : FTy → Type} [FloatOps F]
-- ==== Down.lean ====
abbrev S2048x2048 : Shape := ⟨2, ![2048, 2048]⟩
abbrev S2048x5632 : Shape := ⟨2, ![2048, 5632]⟩
abbrev S5632x2048 : Shape := ⟨2, ![5632, 2048]⟩
abbrev S_ : Shape := ⟨0, ![]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 20
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048x2048, .f32⟩
  | .hbm, ⟨5, _⟩ => ⟨S2048x5632, .f32⟩
  | .hbm, ⟨6, _⟩ => ⟨S2048x5632, .f32⟩
  | .hbm, ⟨7, _⟩ => ⟨S2048x5632, .f32⟩
  | .hbm, ⟨8, _⟩ => ⟨S_, .f32⟩
  | .hbm, ⟨9, _⟩ => ⟨S2048x5632, .f32⟩
  | .hbm, ⟨10, _⟩ => ⟨S2048x5632, .f32⟩
  | .hbm, ⟨11, _⟩ => ⟨S_, .f32⟩
  | .hbm, ⟨12, _⟩ => ⟨S2048x5632, .f32⟩
  | .hbm, ⟨13, _⟩ => ⟨S2048x5632, .f32⟩
  | .hbm, ⟨14, _⟩ => ⟨S2048x5632, .f32⟩
  | .hbm, ⟨15, _⟩ => ⟨S2048x5632, .f32⟩
  | .hbm, ⟨16, _⟩ => ⟨S2048x5632, .f32⟩
  | .hbm, ⟨17, _⟩ => ⟨S2048x5632, .bf16⟩
  | .hbm, ⟨18, _⟩ => ⟨S5632x2048, .bf16⟩
  | .hbm, ⟨19, _⟩ => ⟨S2048x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownRefIdeal.lean ====
abbrev S2048x2048 : Shape := ⟨2, ![2048, 2048]⟩
abbrev S2048x5632 : Shape := ⟨2, ![2048, 5632]⟩
abbrev S5632x2048 : Shape := ⟨2, ![5632, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048x2048, .f32⟩
  | .hbm, ⟨5, _⟩ => ⟨S2048x5632, .f32⟩
  | .hbm, ⟨6, _⟩ => ⟨S2048x5632, .f32⟩
  | .hbm, ⟨7, _⟩ => ⟨S2048x5632, .f32⟩
  | .hbm, ⟨8, _⟩ => ⟨S_, .f32⟩
  | .hbm, ⟨9, _⟩ => ⟨S2048x5632, .f32⟩
  | .hbm, ⟨10, _⟩ => ⟨S2048x5632, .f32⟩
  | .hbm, ⟨11, _⟩ => ⟨S_, .f32⟩
  | .hbm, ⟨12, _⟩ => ⟨S2048x5632, .f32⟩
  | .hbm, ⟨13, _⟩ => ⟨S2048x5632, .f32⟩
  | .hbm, ⟨14, _⟩ => ⟨S2048x5632, .f32⟩
  | .hbm, ⟨15, _⟩ => ⟨S2048x5632, .f32⟩
  | .hbm, ⟨16, _⟩ => ⟨S2048x5632, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩

abbrev nD : Nat := 1
abbrev τ : Topo := Topo.v7x

variable {F : FTy → Type} [FloatOps F]
-- ==== Du.lean ====
abbrev S2048x2048 : Shape := ⟨2, ![2048, 2048]⟩
abbrev S2048x5632 : Shape := ⟨2, ![2048, 5632]⟩
abbrev S5632x2048 : Shape := ⟨2, ![5632, 2048]⟩
abbrev S_ : Shape := ⟨0, ![]⟩
abbrev S512x2816 : Shape := ⟨2, ![512, 2816]⟩
abbrev S2816x1024 : Shape := ⟨2, ![2816, 1024]⟩
abbrev S512x1024 : Shape := ⟨2, ![512, 1024]⟩

abbrev nBuf : Space → Nat
  | .hbm => 42
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048x2048, .f32⟩
  | .hbm, ⟨5, _⟩ => ⟨S2048x5632, .f32⟩
  | .hbm, ⟨6, _⟩ => ⟨S2048x5632, .f32⟩
  | .hbm, ⟨7, _⟩ => ⟨S2048x5632, .f32⟩
  | .hbm, ⟨8, _⟩ => ⟨S2048x5632, .f32⟩
  | .hbm, ⟨9, _⟩ => ⟨S_, .f32⟩
  | .hbm, ⟨10, _⟩ => ⟨S2048x5632, .f32⟩
  | .hbm, ⟨11, _⟩ => ⟨S2048x5632, .f32⟩
  | .hbm, ⟨12, _⟩ => ⟨S_, .f32⟩
  | .hbm, ⟨13, _⟩ => ⟨S2048x5632, .f32⟩
  | .hbm, ⟨14, _⟩ => ⟨S2048x5632, .f32⟩
  | .hbm, ⟨15, _⟩ => ⟨S_, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S2048x5632, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S2048x5632, .f32⟩
  | .hbm, ⟨29, _⟩ => ⟨S2048x5632, .f32⟩
  | .hbm, ⟨30, _⟩ => ⟨S2048x5632, .f32⟩
  | .hbm, ⟨31, _⟩ => ⟨S2048x5632, .f32⟩
  | .hbm, ⟨32, _⟩ => ⟨S2048x5632, .f32⟩
  | .hbm, ⟨33, _⟩ => ⟨S2048x5632, .f32⟩
  | .hbm, ⟨34, _⟩ => ⟨S2048x5632, .f32⟩
  | .hbm, ⟨35, _⟩ => ⟨S2048x5632, .bf16⟩
  | .hbm, ⟨36, _⟩ => ⟨S2048x5632, .bf16⟩
  | .hbm, ⟨37, _⟩ => ⟨S5632x2048, .f32⟩
  | .hbm, ⟨38, _⟩ => ⟨S5632x2048, .bf16⟩
  | .hbm, ⟨39, _⟩ => ⟨S5632x2048, .f32⟩
  | .hbm, ⟨40, _⟩ => ⟨S5632x2048, .bf16⟩
  | .hbm, ⟨41, _⟩ => ⟨S2048x2048, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S2816x1024, .bf16⟩
  | .local _ .vmem, ⟨4, _⟩ => ⟨S512x2816, .bf16⟩
  | .local _ .vmem, ⟨5, _⟩ => ⟨S512x2816, .bf16⟩
  | .local _ .vmem, ⟨6, _⟩ => ⟨S2816x1024, .bf16⟩
  | .local _ .vmem, ⟨7, _⟩ => ⟨S2816x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v17 : BitVec 1 := Scalar.cmpi .eq arg2 c1_i32
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2816x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== DuRefIdeal.lean ====
abbrev S2048x2048 : Shape := ⟨2, ![2048, 2048]⟩
abbrev S2048x5632 : Shape := ⟨2, ![2048, 5632]⟩
abbrev S5632x2048 : Shape := ⟨2, ![5632, 2048]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048x2048, .f32⟩
  | .hbm, ⟨5, _⟩ => ⟨S2048x5632, .f32⟩
  | .hbm, ⟨6, _⟩ => ⟨S2048x5632, .f32⟩
  | .hbm, ⟨7, _⟩ => ⟨S2048x5632, .f32⟩
  | .hbm, ⟨8, _⟩ => ⟨S_, .f32⟩
  | .hbm, ⟨9, _⟩ => ⟨S2048x5632, .f32⟩
  | .hbm, ⟨10, _⟩ => ⟨S2048x5632, .f32⟩
  | .hbm, ⟨11, _⟩ => ⟨S_, .f32⟩
  | .hbm, ⟨12, _⟩ => ⟨S2048x5632, .f32⟩
  | .hbm, ⟨13, _⟩ => ⟨S2048x5632, .f32⟩
  | .hbm, ⟨14, _⟩ => ⟨S_, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S2048x5632, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S2048x5632, .f32⟩
  | .hbm, ⟨29, _⟩ => ⟨S2048x5632, .f32⟩
  | .hbm, ⟨30, _⟩ => ⟨S2048x5632, .f32⟩
  | .hbm, ⟨31, _⟩ => ⟨S2048x2048, .f32⟩
  | .hbm, ⟨32, _⟩ => ⟨S2048x5632, .f32⟩
  | .hbm, ⟨33, _⟩ => ⟨S2048x5632, .f32⟩
  | .hbm, ⟨34, _⟩ => ⟨S2048x5632, .f32⟩
  | .hbm, ⟨35, _⟩ => ⟨S2048x5632, .f32⟩
  | .hbm, ⟨36, _⟩ => ⟨S2048x2048, .f32⟩
  | .hbm, ⟨37, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩

abbrev nD : Nat := 1
abbrev τ : Topo := Topo.v7x

variable {F : FTy → Type} [FloatOps F]
-- ==== Proj.lean ====
abbrev S2048x2048 : Shape := ⟨2, ![2048, 2048]⟩
abbrev S2048x8192 : Shape := ⟨2, ![2048, 8192]⟩
abbrev S2048x4x2048 : Shape := ⟨3, ![2048, 4, 2048]⟩
abbrev S4x2048x2048 : Shape := ⟨3, ![4, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 7
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x4x2048, .f32⟩
  | .hbm, ⟨3, _⟩ => ⟨S4x2048x2048, .f32⟩
  | .hbm, ⟨4, _⟩ => ⟨S4x2048x2048, .bf16⟩
  | .hbm, ⟨5, _⟩ => ⟨S2048x2048, .bf16⟩
  | .hbm, ⟨6, _⟩ => ⟨S2048x8192, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S2048x2048 : Shape := ⟨2, ![2048, 2048]⟩
abbrev S2048x8192 : Shape := ⟨2, ![2048, 8192]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x8192, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== ProjDw.lean ====
abbrev S2048x2048 : Shape := ⟨2, ![2048, 2048]⟩
abbrev S2048x8192 : Shape := ⟨2, ![2048, 8192]⟩
abbrev S4x2048x2048 : Shape := ⟨3, ![4, 2048, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x2048, .bf16⟩
  | .hbm, ⟨3, _⟩ => ⟨S2048x8192, .bf16⟩
  | .hbm, ⟨4, _⟩ => ⟨S4x2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjDwRefIdeal.lean ====
abbrev S2048x2048 : Shape := ⟨2, ![2048, 2048]⟩
abbrev S2048x8192 : Shape := ⟨2, ![2048, 8192]⟩
abbrev S_ : Shape := ⟨0, ![]⟩
abbrev S8192x2048 : Shape := ⟨2, ![8192, 2048]⟩
abbrev S2048x4x2048 : Shape := ⟨3, ![2048, 4, 2048]⟩
abbrev S4x2048x2048 : Shape := ⟨3, ![4, 2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S_, .f32⟩
  | .hbm, ⟨3, _⟩ => ⟨S2048x8192, .f32⟩
  | .hbm, ⟨4, _⟩ => ⟨S2048x8192, .f32⟩
  | .hbm, ⟨5, _⟩ => ⟨S8192x2048, .f32⟩
  | .hbm, ⟨6, _⟩ => ⟨S2048x8192, .f32⟩
  | .hbm, ⟨7, _⟩ => ⟨S2048x4x2048, .f32⟩
  | .hbm, ⟨8, _⟩ => ⟨S4x2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ProjB.lean ====
abbrev S2048x8192 : Shape := ⟨2, ![2048, 8192]⟩
abbrev S2048x4x2048 : Shape := ⟨3, ![2048, 4, 2048]⟩
abbrev S4x2048x2048 : Shape := ⟨3, ![4, 2048, 2048]⟩
abbrev S2048x2048 : Shape := ⟨2, ![2048, 2048]⟩
abbrev S512x2048 : Shape := ⟨2, ![512, 2048]⟩
abbrev S1x2048x2048 : Shape := ⟨3, ![1, 2048, 2048]⟩

abbrev nBuf : Space → Nat
  | .hbm => 7
  | .vmem => 7
  | .smem => 0
  | _ => 0

abbrev bufTy : (tb : Table) → Fin (tcTables nBuf tb) → BufTy
  | .hbm, ⟨0, _⟩ => ⟨S2048x8192, .f32⟩
  | .hbm, ⟨1, _⟩ => ⟨S2048x8192, .f32⟩
  | .hbm, ⟨2, _⟩ => ⟨S2048x4x2048, .f32⟩
  | .hbm, ⟨3, _⟩ => ⟨S4x2048x2048, .f32⟩
  | .hbm, ⟨4, _⟩ => ⟨S4x2048x2048, .bf16⟩
  | .hbm, ⟨5, _⟩ => ⟨S2048x8192, .bf16⟩
  | .hbm, ⟨6, _⟩ => ⟨S2048x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ProjBRefIdeal.lean ====
abbrev S2048x8192 : Shape := ⟨2, ![2048, 8192]⟩
abbrev S_ : Shape := ⟨0, ![]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S2048x8192, .f32⟩
  | .hbm, ⟨2, _⟩ => ⟨S_, .f32⟩
  | .hbm, ⟨3, _⟩ => ⟨S2048x2048, .f32⟩
  | .hbm, ⟨4, _⟩ => ⟨S2048x8192, .f32⟩
  | .hbm, ⟨5, _⟩ => ⟨S2048x2048, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== GateUp.lean ====
abbrev S2048x2048 : Shape := ⟨2, ![2048, 2048]⟩
abbrev S2048x5632 : Shape := ⟨2, ![2048, 5632]⟩
abbrev S5632x2048 : Shape := ⟨2, ![5632, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 11
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S2048x2048, .bf16⟩
  | .hbm, ⟨4, _⟩ => ⟨S5632x2048, .f32⟩
  | .hbm, ⟨5, _⟩ => ⟨S5632x2048, .bf16⟩
  | .hbm, ⟨6, _⟩ => ⟨S5632x2048, .f32⟩
  | .hbm, ⟨7, _⟩ => ⟨S5632x2048, .bf16⟩
  | .hbm, ⟨8, _⟩ => ⟨S2048x5632, .bf16⟩
  | .hbm, ⟨9, _⟩ => ⟨S2048x5632, .bf16⟩
  | .hbm, ⟨10, _⟩ => ⟨S2048x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![11, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateUpRefIdeal.lean ====
abbrev S2048x2048 : Shape := ⟨2, ![2048, 2048]⟩
abbrev S2048x5632 : Shape := ⟨2, ![2048, 5632]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S2048x5632, .f32⟩
  | .hbm, ⟨4, _⟩ => ⟨S2048x5632, .f32⟩
  | .hbm, ⟨5, _⟩ => ⟨S2048x5632, .f32⟩
  | .hbm, ⟨6, _⟩ => ⟨S2048x5632, .f32⟩
  | .hbm, ⟨7, _⟩ => ⟨S_, .f32⟩
  | .hbm, ⟨8, _⟩ => ⟨S2048x5632, .f32⟩
  | .hbm, ⟨9, _⟩ => ⟨S2048x5632, .f32⟩
  | .hbm, ⟨10, _⟩ => ⟨S_, .f32⟩
  | .hbm, ⟨11, _⟩ => ⟨S2048x5632, .f32⟩
  | .hbm, ⟨12, _⟩ => ⟨S2048x5632, .f32⟩
  | .hbm, ⟨13, _⟩ => ⟨S_, .f32⟩
  | .hbm, ⟨14, _⟩ => ⟨S2048x5632, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S_, .f32⟩
  | .hbm, ⟨20, _⟩ => ⟨S2048x5632, .f32⟩
  | .hbm, ⟨21, _⟩ => ⟨S2048x5632, .f32⟩
  | .hbm, ⟨22, _⟩ => ⟨S2048x5632, .f32⟩
  | .hbm, ⟨23, _⟩ => ⟨S2048x5632, .f32⟩
  | .hbm, ⟨24, _⟩ => ⟨S2048x5632, .f32⟩
  | .hbm, ⟨25, _⟩ => ⟨S2048x5632, .f32⟩
  | .hbm, ⟨26, _⟩ => ⟨S2048x5632, .f32⟩
  | .hbm, ⟨27, _⟩ => ⟨S2048x5632, .bf16⟩
  | .hbm, ⟨28, _⟩ => ⟨S2048x5632, .bf16⟩
  | .hbm, ⟨29, _⟩ => ⟨S2048x5632, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== Dhid.lean ====
abbrev S2048x2048 : Shape := ⟨2, ![2048, 2048]⟩
abbrev S2048x5632 : Shape := ⟨2, ![2048, 5632]⟩
abbrev S5632x2048 : Shape := ⟨2, ![5632, 2048]⟩
abbrev S_ : Shape := ⟨0, ![]⟩
abbrev S512x2048 : Shape := ⟨2, ![512, 2048]⟩
abbrev S2048x512 : Shape := ⟨2, ![2048, 512]⟩

abbrev nBuf : Space → Nat
  | .hbm => 36
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048x2048, .f32⟩
  | .hbm, ⟨5, _⟩ => ⟨S2048x5632, .f32⟩
  | .hbm, ⟨6, _⟩ => ⟨S2048x5632, .f32⟩
  | .hbm, ⟨7, _⟩ => ⟨S2048x5632, .f32⟩
  | .hbm, ⟨8, _⟩ => ⟨S2048x5632, .f32⟩
  | .hbm, ⟨9, _⟩ => ⟨S_, .f32⟩
  | .hbm, ⟨10, _⟩ => ⟨S2048x5632, .f32⟩
  | .hbm, ⟨11, _⟩ => ⟨S2048x5632, .f32⟩
  | .hbm, ⟨12, _⟩ => ⟨S_, .f32⟩
  | .hbm, ⟨13, _⟩ => ⟨S2048x5632, .f32⟩
  | .hbm, ⟨14, _⟩ => ⟨S2048x5632, .f32⟩
  | .hbm, ⟨15, _⟩ => ⟨S_, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S2048x5632, .f32⟩
  | .hbm, ⟨21, _⟩ => ⟨S_, .f32⟩
  | .hbm, ⟨22, _⟩ => ⟨S2048x5632, .f32⟩
  | .hbm, ⟨23, _⟩ => ⟨S2048x5632, .f32⟩
  | .hbm, ⟨24, _⟩ => ⟨S2048x5632, .f32⟩
  | .hbm, ⟨25, _⟩ => ⟨S2048x5632, .f32⟩
  | .hbm, ⟨26, _⟩ => ⟨S2048x5632, .f32⟩
  | .hbm, ⟨27, _⟩ => ⟨S2048x5632, .f32⟩
  | .hbm, ⟨28, _⟩ => ⟨S2048x5632, .f32⟩
  | .hbm, ⟨29, _⟩ => ⟨S2048x5632, .bf16⟩
  | .hbm, ⟨30, _⟩ => ⟨S2048x5632, .bf16⟩
  | .hbm, ⟨31, _⟩ => ⟨S2048x5632, .bf16⟩
  | .hbm, ⟨32, _⟩ => ⟨S2048x2048, .bf16⟩
  | .hbm, ⟨33, _⟩ => ⟨S5632x2048, .bf16⟩
  | .hbm, ⟨34, _⟩ => ⟨S2048x5632, .bf16⟩
  | .hbm, ⟨35, _⟩ => ⟨S2048x5632, .bf16⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13_0 : Ref sig .tc := ⟨.hbm, 34, rfl⟩
abbrev main_v13_1 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DhidRefIdeal.lean ====
abbrev S2048x2048 : Shape := ⟨2, ![2048, 2048]⟩
abbrev S2048x5632 : Shape := ⟨2, ![2048, 5632]⟩
abbrev S5632x2048 : Shape := ⟨2, ![5632, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048x2048, .f32⟩
  | .hbm, ⟨5, _⟩ => ⟨S2048x5632, .f32⟩
  | .hbm, ⟨6, _⟩ => ⟨S2048x5632, .f32⟩
  | .hbm, ⟨7, _⟩ => ⟨S2048x5632, .f32⟩
  | .hbm, ⟨8, _⟩ => ⟨S2048x5632, .f32⟩
  | .hbm, ⟨9, _⟩ => ⟨S_, .f32⟩
  | .hbm, ⟨10, _⟩ => ⟨S2048x5632, .f32⟩
  | .hbm, ⟨11, _⟩ => ⟨S2048x5632, .f32⟩
  | .hbm, ⟨12, _⟩ => ⟨S_, .f32⟩
  | .hbm, ⟨13, _⟩ => ⟨S2048x5632, .f32⟩
  | .hbm, ⟨14, _⟩ => ⟨S2048x5632, .f32⟩
  | .hbm, ⟨15, _⟩ => ⟨S_, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S2048x5632, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S2048x5632, .f32⟩
  | .hbm, ⟨29, _⟩ => ⟨S2048x5632, .f32⟩
  | .hbm, ⟨30, _⟩ => ⟨S2048x5632, .f32⟩
  | .hbm, ⟨31, _⟩ => ⟨S2048x5632, .f32⟩
  | .hbm, ⟨32, _⟩ => ⟨S2048x5632, .f32⟩
  | .hbm, ⟨33, _⟩ => ⟨S2048x5632, .f32⟩
  | .hbm, ⟨34, _⟩ => ⟨S2048x5632, .f32⟩
  | .hbm, ⟨35, _⟩ => ⟨S2048x5632, .bf16⟩
  | .hbm, ⟨36, _⟩ => ⟨S2048x5632, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩

abbrev nD : Nat := 1
abbrev τ : Topo := Topo.v7x

variable {F : FTy → Type} [FloatOps F]
-- ==== MixOut.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MixOutRefIdeal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== MixOutB.lean ====
abbrev S2048x2048 : Shape := ⟨2, ![2048, 2048]⟩
abbrev S_ : Shape := ⟨0, ![]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 51
  | .vmem => 20
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | .hbm, ⟨7, _⟩ => ⟨S2048x2048, .bf16⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S_, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S2048x2048, .bf16⟩
  | .hbm, ⟨44, _⟩ => ⟨S2048x2048, .bf16⟩
  | .hbm, ⟨45, _⟩ => ⟨S2048x2048, .bf16⟩
  | .hbm, ⟨46, _⟩ => ⟨S2048x2048, .bf16⟩
  | .hbm, ⟨47, _⟩ => ⟨S2048x2048, .bf16⟩
  | .hbm, ⟨48, _⟩ => ⟨S2048x2048, .bf16⟩
  | .hbm, ⟨49, _⟩ => ⟨S2048x2048, .bf16⟩
  | .hbm, ⟨50, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34_0 : Ref sig .tc := ⟨.hbm, 47, rfl⟩
abbrev main_v34_1 : Ref sig .tc := ⟨.hbm, 48, rfl⟩
abbrev main_v34_2 : Ref sig .tc := ⟨.hbm, 49, rfl⟩
abbrev main_v34_3 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MixOutBRefIdeal.lean ====
abbrev S2048x2048 : Shape := ⟨2, ![2048, 2048]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S_, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .bf16⟩
  | .hbm, ⟨42, _⟩ => ⟨S2048x2048, .bf16⟩
  | .hbm, ⟨43, _⟩ => ⟨S2048x2048, .bf16⟩
  | .hbm, ⟨44, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== MixOutDw.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MixOutDwRefIdeal.lean ====
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== SOut.lean ====
abbrev S2048x1024 : Shape := ⟨2, ![2048, 1024]⟩
abbrev S1024x2048 : Shape := ⟨2, ![1024, 2048]⟩
abbrev S1024x4x512 : Shape := ⟨3, ![1024, 4, 512]⟩
abbrev S4x1024x512 : Shape := ⟨3, ![4, 1024, 512]⟩
abbrev S2048x2048 : Shape := ⟨2, ![2048, 2048]⟩
abbrev S1024x1024 : Shape := ⟨2, ![1024, 1024]⟩
abbrev S1x1024x512 : Shape := ⟨3, ![1, 1024, 512]⟩
abbrev S1024x512 : Shape := ⟨2, ![1024, 512]⟩

abbrev nBuf : Space → Nat
  | .hbm => 7
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x1024, .bf16⟩
  | .hbm, ⟨3, _⟩ => ⟨S1024x4x512, .f32⟩
  | .hbm, ⟨4, _⟩ => ⟨S4x1024x512, .f32⟩
  | .hbm, ⟨5, _⟩ => ⟨S4x1024x512, .bf16⟩
  | .hbm, ⟨6, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x512, .f32⟩
  | .local _ .vmem, ⟨5, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SOutRefIdeal.lean ====
abbrev S2048x1024 : Shape := ⟨2, ![2048, 1024]⟩
abbrev S1024x2048 : Shape := ⟨2, ![1024, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SOutB.lean ====
abbrev S2048x1024 : Shape := ⟨2, ![2048, 1024]⟩
abbrev S1024x1024 : Shape := ⟨2, ![1024, 1024]⟩
abbrev S1024 : Shape := ⟨1, ![1024]⟩
abbrev S1024x2048 : Shape := ⟨2, ![1024, 2048]⟩
abbrev S2048x2048 : Shape := ⟨2, ![2048, 2048]⟩
abbrev S_ : Shape := ⟨0, ![]⟩
abbrev S1x1024 : Shape := ⟨2, ![1, 1024]⟩
abbrev S1024x4x512 : Shape := ⟨3, ![1024, 4, 512]⟩
abbrev S4x1024x512 : Shape := ⟨3, ![4, 1024, 512]⟩
abbrev S1024x512 : Shape := ⟨2, ![1024, 512]⟩
abbrev S1x1024x512 : Shape := ⟨3, ![1, 1024, 512]⟩

abbrev nBuf : Space → Nat
  | .hbm => 32
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S1024, .f32⟩
  | .hbm, ⟨3, _⟩ => ⟨S1024x2048, .f32⟩
  | .hbm, ⟨4, _⟩ => ⟨S2048x2048, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S1024x4x512, .f32⟩
  | .hbm, ⟨27, _⟩ => ⟨S4x1024x512, .f32⟩
  | .hbm, ⟨28, _⟩ => ⟨S4x1024x512, .bf16⟩
  | .hbm, ⟨29, _⟩ => ⟨S2048x2048, .bf16⟩
  | .hbm, ⟨30, _⟩ => ⟨S2048x1024, .f32⟩
  | .hbm, ⟨31, _⟩ => ⟨S2048x1024, .bf16⟩
  | .local _ .vmem, ⟨0, _⟩ => ⟨S1024x512, .bf16⟩
  | .local _ .vmem, ⟨1, _⟩ => ⟨S1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== SOutBRefIdeal.lean ====
abbrev S2048x1024 : Shape := ⟨2, ![2048, 1024]⟩
abbrev S1024x1024 : Shape := ⟨2, ![1024, 1024]⟩
abbrev S1024 : Shape := ⟨1, ![1024]⟩
abbrev S1024x2048 : Shape := ⟨2, ![1024, 2048]⟩
abbrev S2048x2048 : Shape := ⟨2, ![2048, 2048]⟩
abbrev S_ : Shape := ⟨0, ![]⟩
abbrev S1x1024 : Shape := ⟨2, ![1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S1024, .f32⟩
  | .hbm, ⟨3, _⟩ => ⟨S1024x2048, .f32⟩
  | .hbm, ⟨4, _⟩ => ⟨S2048x2048, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x2048, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== ConvOut.lean ====
abbrev S2048x1024 : Shape := ⟨2, ![2048, 1024]⟩
abbrev S1024x2048 : Shape := ⟨2, ![1024, 2048]⟩
abbrev S2048x2048 : Shape := ⟨2, ![2048, 2048]⟩
abbrev S2048x8192 : Shape := ⟨2, ![2048, 8192]⟩
abbrev S1024x4x512 : Shape := ⟨3, ![1024, 4, 512]⟩
abbrev S4x1024x512 : Shape := ⟨3, ![4, 1024, 512]⟩
abbrev S1024x1024 : Shape := ⟨2, ![1024, 1024]⟩
abbrev S1x1024x512 : Shape := ⟨3, ![1, 1024, 512]⟩
abbrev S1024x512 : Shape := ⟨2, ![1024, 512]⟩

abbrev nBuf : Space → Nat
  | .hbm => 13
  | .vmem => 20
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x2048, .f32⟩
  | .hbm, ⟨3, _⟩ => ⟨S2048x8192, .f32⟩
  | .hbm, ⟨4, _⟩ => ⟨S2048x1024, .bf16⟩
  | .hbm, ⟨5, _⟩ => ⟨S1024x4x512, .f32⟩
  | .hbm, ⟨6, _⟩ => ⟨S4x1024x512, .f32⟩
  | .hbm, ⟨7, _⟩ => ⟨S4x1024x512, .bf16⟩
  | .hbm, ⟨8, _⟩ => ⟨S2048x2048, .bf16⟩
  | .hbm, ⟨9, _⟩ => ⟨S2048x2048, .bf16⟩
  | .hbm, ⟨10, _⟩ => ⟨S2048x2048, .bf16⟩
  | .hbm, ⟨11, _⟩ => ⟨S2048x2048, .bf16⟩
  | .hbm, ⟨12, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v4_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ConvOutRefIdeal.lean ====
abbrev S2048x1024 : Shape := ⟨2, ![2048, 1024]⟩
abbrev S1024x2048 : Shape := ⟨2, ![1024, 2048]⟩
abbrev S2048x2048 : Shape := ⟨2, ![2048, 2048]⟩
abbrev S2048x8192 : Shape := ⟨2, ![2048, 8192]⟩
abbrev S_ : Shape := ⟨0, ![]⟩

abbrev nBuf : Space → Nat
  | .hbm => 66
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x2048, .f32⟩
  | .hbm, ⟨3, _⟩ => ⟨S2048x8192, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S_, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S_, .f32⟩
  | .hbm, ⟨42, _⟩ => ⟨S2048x2048, .f32⟩
  | .hbm, ⟨43, _⟩ => ⟨S2048x2048, .f32⟩
  | .hbm, ⟨44, _⟩ => ⟨S_, .f32⟩
  | .hbm, ⟨45, _⟩ => ⟨S2048x2048, .f32⟩
  | .hbm, ⟨46, _⟩ => ⟨S2048x2048, .f32⟩
  | .hbm, ⟨47, _⟩ => ⟨S_, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S_, .f32⟩
  | .hbm, ⟨54, _⟩ => ⟨S2048x2048, .f32⟩
  | .hbm, ⟨55, _⟩ => ⟨S2048x2048, .f32⟩
  | .hbm, ⟨56, _⟩ => ⟨S2048x2048, .f32⟩
  | .hbm, ⟨57, _⟩ => ⟨S2048x2048, .f32⟩
  | .hbm, ⟨58, _⟩ => ⟨S2048x2048, .f32⟩
  | .hbm, ⟨59, _⟩ => ⟨S2048x2048, .f32⟩
  | .hbm, ⟨60, _⟩ => ⟨S2048x2048, .f32⟩
  | .hbm, ⟨61, _⟩ => ⟨S2048x2048, .bf16⟩
  | .hbm, ⟨62, _⟩ => ⟨S2048x2048, .bf16⟩
  | .hbm, ⟨63, _⟩ => ⟨S2048x2048, .bf16⟩
  | .hbm, ⟨64, _⟩ => ⟨S2048x2048, .bf16⟩
  | .hbm, ⟨65, _⟩ => ⟨S2048x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩

abbrev nD : Nat := 1
abbrev τ : Topo := Topo.v7x

variable {F : FTy → Type} [FloatOps F]
-- ==== ConvOutB.lean ====
abbrev S1024x2048 : Shape := ⟨2, ![1024, 2048]⟩
abbrev S2048x2048 : Shape := ⟨2, ![2048, 2048]⟩
abbrev S1024x4x512 : Shape := ⟨3, ![1024, 4, 512]⟩
abbrev S4x1024x512 : Shape := ⟨3, ![4, 1024, 512]⟩
abbrev S2048x1024 : Shape := ⟨2, ![2048, 1024]⟩
abbrev S1024x512 : Shape := ⟨2, ![1024, 512]⟩
abbrev S1x1024x512 : Shape := ⟨3, ![1, 1024, 512]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1024x2048, .f32⟩
  | .hbm, ⟨1, _⟩ => ⟨S2048x2048, .f32⟩
  | .hbm, ⟨2, _⟩ => ⟨S1024x4x512, .f32⟩
  | .hbm, ⟨3, _⟩ => ⟨S4x1024x512, .f32⟩
  | .hbm, ⟨4, _⟩ => ⟨S4x1024x512, .bf16⟩
  | .hbm, ⟨5, _⟩ => ⟨S2048x2048, .bf16⟩
  | .hbm, ⟨6, _⟩ => ⟨S2048x1024, .f32⟩
  | .local _ .vmem, ⟨0, _⟩ => ⟨S1024x512, .bf16⟩
  | .local _ .vmem, ⟨1, _⟩ => ⟨S1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ConvOutBRefIdeal.lean ====
abbrev S1024x2048 : Shape := ⟨2, ![1024, 2048]⟩
abbrev S2048x2048 : Shape := ⟨2, ![2048, 2048]⟩
abbrev S_ : Shape := ⟨0, ![]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048x2048, .f32⟩
  | .hbm, ⟨2, _⟩ => ⟨S_, .f32⟩
  | .hbm, ⟨3, _⟩ => ⟨S2048x1024, .f32⟩
  | .hbm, ⟨4, _⟩ => ⟨S2048x2048, .f32⟩
  | .hbm, ⟨5, _⟩ => ⟨S2048x1024, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutDw.lean ====
abbrev S2048x1024 : Shape := ⟨2, ![2048, 1024]⟩
abbrev S2048x2048 : Shape := ⟨2, ![2048, 2048]⟩
abbrev S4x1024x512 : Shape := ⟨3, ![4, 1024, 512]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S2048x1024, .bf16⟩
  | .hbm, ⟨3, _⟩ => ⟨S2048x2048, .bf16⟩
  | .hbm, ⟨4, _⟩ => ⟨S4x1024x512, .f32⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1x1024x512, .f32⟩
  | .local _ .vmem, ⟨4, _⟩ => ⟨S1x1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== OutDwRefIdeal.lean ====
abbrev S2048x1024 : Shape := ⟨2, ![2048, 1024]⟩
abbrev S2048x2048 : Shape := ⟨2, ![2048, 2048]⟩
abbrev S_ : Shape := ⟨0, ![]⟩
abbrev S1024x2048 : Shape := ⟨2, ![1024, 2048]⟩
abbrev S1024x4x512 : Shape := ⟨3, ![1024, 4, 512]⟩
abbrev S4x1024x512 : Shape := ⟨3, ![4, 1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S_, .f32⟩
  | .hbm, ⟨3, _⟩ => ⟨S1024x2048, .f32⟩
  | .hbm, ⟨4, _⟩ => ⟨S2048x2048, .f32⟩
  | .hbm, ⟨5, _⟩ => ⟨S2048x1024, .f32⟩
  | .hbm, ⟨6, _⟩ => ⟨S1024x2048, .f32⟩
  | .hbm, ⟨7, _⟩ => ⟨S1024x4x512, .f32⟩
  | .hbm, ⟨8, _⟩ => ⟨S4x1024x512, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Glu.lean ====
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩

abbrev nBuf : Space → Nat
  | .hbm => 7
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S1024, .f32⟩
  | .hbm, ⟨3, _⟩ => ⟨S1024x1024, .bf16⟩
  | .hbm, ⟨4, _⟩ => ⟨S1x1024, .f32⟩
  | .hbm, ⟨5, _⟩ => ⟨S2048x1024, .f32⟩
  | .hbm, ⟨6, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GluRefIdeal.lean ====
abbrev S2048x1024 : Shape := ⟨2, ![2048, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== GluDw.lean ====
abbrev S2048x1024 : Shape := ⟨2, ![2048, 1024]⟩
abbrev S1024x1024 : Shape := ⟨2, ![1024, 1024]⟩
abbrev S2048x256 : Shape := ⟨2, ![2048, 256]⟩
abbrev S256x1024 : Shape := ⟨2, ![256, 1024]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .hbm, ⟨3, _⟩ => ⟨S1024x1024, .f32⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S256x1024, .f32⟩
  | .local _ .vmem, ⟨4, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GluDwRefIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S1024x1024, .f32⟩
  | .hbm, ⟨23, _⟩ => ⟨S1024x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Dw.lean ====
abbrev S2 : Shape := ⟨1, ![2]⟩
abbrev S2048x5632 : Shape := ⟨2, ![2048, 5632]⟩
abbrev S2048x2048 : Shape := ⟨2, ![2048, 2048]⟩
abbrev S4x704x2048 : Shape := ⟨3, ![4, 704, 2048]⟩
abbrev S2048x1408 : Shape := ⟨2, ![2048, 1408]⟩
abbrev S2048x1024 : Shape := ⟨2, ![2048, 1024]⟩
abbrev S1x704x1024 : Shape := ⟨3, ![1, 704, 1024]⟩
abbrev S1408x1024 : Shape := ⟨2, ![1408, 1024]⟩
abbrev S1 : Shape := ⟨1, ![1]⟩
abbrev S704x1024 : Shape := ⟨2, ![704, 1024]⟩

abbrev nBuf : Space → Nat
  | .hbm => 4
  | .vmem => 8
  | .smem => 1
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S4x704x2048, .f32⟩
  | .hbm, ⟨3, _⟩ => ⟨S4x704x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x704x1024, .f32⟩
  | .local _ .vmem, ⟨5, _⟩ => ⟨S1x704x1024, .f32⟩
  | .local _ .vmem, ⟨6, _⟩ => ⟨S1x704x1024, .bf16⟩
  | .local _ .vmem, ⟨7, _⟩ => ⟨S1x704x1024, .bf16⟩
  | .local _ .smem, ⟨0, _⟩ => ⟨S2, .i32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0_0 : Ref sig .tc := ⟨.hbm, 2, rfl⟩
abbrev main_v0_1 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (v5 : BitVec 32) : BitVec 1 :=
  let c0_i32 : BitVec 32 := 0#32
  let v6 : BitVec 1 := Scalar.cmpi .eq v5 c0_i32
  let v7 : BitVec 32 := Scalar.extui v6
  let c0_i32_4 : BitVec 32 := 0#32
  let v8 : BitVec 1 := Scalar.cmpi .ne v7 c0_i32_4
  v8

def k0_cond2 (v9 : BitVec 32) : BitVec 1 :=
  let c1_i32 : BitVec 32 := 1#32
  let v10 : BitVec 1 := Scalar.cmpi .eq v9 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DwRefIdeal.lean ====
abbrev S2 : Shape := ⟨1, ![2]⟩
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩
abbrev S4x2x704x2048 : Shape := ⟨4, ![4, 2, 704, 2048]⟩
abbrev S1 : Shape := ⟨1, ![1]⟩
abbrev S4x1x704x2048 : Shape := ⟨4, ![4, 1, 704, 2048]⟩
abbrev S4x704x2048 : Shape := ⟨3, ![4, 704, 2048]⟩

abbrev nBuf : Space → Nat
  | .hbm => 27
  | .vmem => 0
  | .smem => 0
  | _ => 0

abbrev bufTy : (tb : Table) → Fin (tcTables nBuf tb) → BufTy
  | .hbm, ⟨0, _⟩ => ⟨S2, .i32⟩
  | .hbm, ⟨1, _⟩ => ⟨S2048x5632, .bf16⟩
  | .hbm, ⟨2, _⟩ => ⟨S2048x2048, .bf16⟩
  | .hbm, ⟨3, _⟩ => ⟨S2048x5632, .f32⟩
  | .hbm, ⟨4, _⟩ => ⟨S2048x2048, .f32⟩
  | .hbm, ⟨5, _⟩ => ⟨S_, .f32⟩
  | .hbm, ⟨6, _⟩ => ⟨S2048x5632, .f32⟩
  | .hbm, ⟨7, _⟩ => ⟨S2048x5632, .f32⟩
  | .hbm, ⟨8, _⟩ => ⟨S5632x2048, .f32⟩
  | .hbm, ⟨9, _⟩ => ⟨S2048x5632, .f32⟩
  | .hbm, ⟨10, _⟩ => ⟨S5632x2048, .f32⟩
  | .hbm, ⟨11, _⟩ => ⟨S4x2x704x2048, .f32⟩
  | .hbm, ⟨12, _⟩ => ⟨S1, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S4x1x704x2048, .f32⟩
  | .hbm, ⟨17, _⟩ => ⟨S4x704x2048, .f32⟩
  | .hbm, ⟨18, _⟩ => ⟨S4x1x704x2048, .f32⟩
  | .hbm, ⟨19, _⟩ => ⟨S4x704x2048, .f32⟩
  | .hbm, ⟨20, _⟩ => ⟨S4x704x2048, .f32⟩
  | .hbm, ⟨21, _⟩ => ⟨S4x1x704x2048, .f32⟩
  | .hbm, ⟨22, _⟩ => ⟨S4x704x2048, .f32⟩
  | .hbm, ⟨23, _⟩ => ⟨S4x1x704x2048, .f32⟩
  | .hbm, ⟨24, _⟩ => ⟨S4x704x2048, .f32⟩
  | .hbm, ⟨25, _⟩ => ⟨S4x704x2048, .f32⟩
  | .hbm, ⟨26, _⟩ => ⟨S4x704x2048, .bf16⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]
-- ==== DwD.lean ====
abbrev S2 : Shape := ⟨1, ![2]⟩
abbrev S2048x5632 : Shape := ⟨2, ![2048, 5632]⟩
abbrev S2048x2048 : Shape := ⟨2, ![2048, 2048]⟩
abbrev S4x704x2048 : Shape := ⟨3, ![4, 704, 2048]⟩
abbrev S2048x1408 : Shape := ⟨2, ![2048, 1408]⟩
abbrev S2048x1024 : Shape := ⟨2, ![2048, 1024]⟩
abbrev S1x704x1024 : Shape := ⟨3, ![1, 704, 1024]⟩
abbrev S1408x1024 : Shape := ⟨2, ![1408, 1024]⟩
abbrev S1 : Shape := ⟨1, ![1]⟩
abbrev S704x1024 : Shape := ⟨2, ![704, 1024]⟩

abbrev nBuf : Space → Nat
  | .hbm => 4
  | .vmem => 8
  | .smem => 1
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S4x704x2048, .f32⟩
  | .hbm, ⟨3, _⟩ => ⟨S4x704x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x704x1024, .f32⟩
  | .local _ .vmem, ⟨5, _⟩ => ⟨S1x704x1024, .f32⟩
  | .local _ .vmem, ⟨6, _⟩ => ⟨S1x704x1024, .bf16⟩
  | .local _ .vmem, ⟨7, _⟩ => ⟨S1x704x1024, .bf16⟩
  | .local _ .smem, ⟨0, _⟩ => ⟨S2, .i32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0_0 : Ref sig .tc := ⟨.hbm, 2, rfl⟩
abbrev main_v0_1 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (v5 : BitVec 32) : BitVec 1 :=
  let c0_i32 : BitVec 32 := 0#32
  let v6 : BitVec 1 := Scalar.cmpi .eq v5 c0_i32
  let v7 : BitVec 32 := Scalar.extui v6
  let c0_i32_4 : BitVec 32 := 0#32
  let v8 : BitVec 1 := Scalar.cmpi .ne v7 c0_i32_4
  v8

def k0_cond2 (v9 : BitVec 32) : BitVec 1 :=
  let c1_i32 : BitVec 32 := 1#32
  let v10 : BitVec 1 := Scalar.cmpi .eq v9 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DwDRefIdeal.lean ====
abbrev S2 : Shape := ⟨1, ![2]⟩
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩
abbrev S4x2x704x2048 : Shape := ⟨4, ![4, 2, 704, 2048]⟩
abbrev S1 : Shape := ⟨1, ![1]⟩
abbrev S4x1x704x2048 : Shape := ⟨4, ![4, 1, 704, 2048]⟩
abbrev S4x704x2048 : Shape := ⟨3, ![4, 704, 2048]⟩

abbrev nBuf : Space → Nat
  | .hbm => 32
  | .vmem => 0
  | .smem => 0
  | _ => 0

abbrev bufTy : (tb : Table) → Fin (tcTables nBuf tb) → BufTy
  | .hbm, ⟨0, _⟩ => ⟨S2, .i32⟩
  | .hbm, ⟨1, _⟩ => ⟨S2048x5632, .bf16⟩
  | .hbm, ⟨2, _⟩ => ⟨S2048x2048, .bf16⟩
  | .hbm, ⟨3, _⟩ => ⟨S2048x5632, .f32⟩
  | .hbm, ⟨4, _⟩ => ⟨S2048x2048, .f32⟩
  | .hbm, ⟨5, _⟩ => ⟨S_, .f32⟩
  | .hbm, ⟨6, _⟩ => ⟨S5632x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x5632, .f32⟩
  | .hbm, ⟨15, _⟩ => ⟨S5632x2048, .f32⟩
  | .hbm, ⟨16, _⟩ => ⟨S4x2x704x2048, .f32⟩
  | .hbm, ⟨17, _⟩ => ⟨S1, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S4x1x704x2048, .f32⟩
  | .hbm, ⟨22, _⟩ => ⟨S4x704x2048, .f32⟩
  | .hbm, ⟨23, _⟩ => ⟨S4x1x704x2048, .f32⟩
  | .hbm, ⟨24, _⟩ => ⟨S4x704x2048, .f32⟩
  | .hbm, ⟨25, _⟩ => ⟨S4x704x2048, .f32⟩
  | .hbm, ⟨26, _⟩ => ⟨S4x1x704x2048, .f32⟩
  | .hbm, ⟨27, _⟩ => ⟨S4x704x2048, .f32⟩
  | .hbm, ⟨28, _⟩ => ⟨S4x1x704x2048, .f32⟩
  | .hbm, ⟨29, _⟩ => ⟨S4x704x2048, .f32⟩
  | .hbm, ⟨30, _⟩ => ⟨S4x704x2048, .f32⟩
  | .hbm, ⟨31, _⟩ => ⟨S4x704x2048, .bf16⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Norm.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S1x2048, .f32⟩
  | .hbm, ⟨3, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S1x2048, .f32⟩
  | .hbm, ⟨16, _⟩ => ⟨S2048x2048, .f32⟩
  | .hbm, ⟨17, _⟩ => ⟨S2048x2048, .f32⟩
  | .hbm, ⟨18, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormB.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S2048x2048, .f32⟩
  | .hbm, ⟨6, _⟩ => ⟨S2048x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v34 : BitVec 1 := Scalar.cmpi .eq arg0 c0_i32
  let v35 : BitVec 32 := Scalar.extui v34
  let c0_i32_16 : BitVec 32 := 0#32
  let v36 : BitVec 1 := Scalar.cmpi .ne v35 c0_i32_16
  v36

def k0_cond2 (i : grid0.Coords) : BitVec 1 :=
  let arg0 : BitVec 32 := BitVec.ofNat 32 (i 0).val
  let c0_i32 : BitVec 32 := 0#32
  let v34 : BitVec 1 := Scalar.cmpi .eq arg0 c0_i32
  let v_true : BitVec 1 := 1#1
  let v37 : BitVec 1 := Scalar.xori v34 v_true
  let v38 : BitVec 32 := Scalar.extui v37
  let c0_i32_17 : BitVec 32 := 0#32
  let v39 : BitVec 1 := Scalar.cmpi .ne v38 c0_i32_17
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormBRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x2048, .f32⟩
  | .hbm, ⟨37, _⟩ => ⟨S2048x2048, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .bf16⟩
  | .hbm, ⟨52, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Final.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S1x2048, .f32⟩
  | .local _ .vmem, ⟨10, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v42 : BitVec 1 := Scalar.cmpi .eq arg0 c0_i32
  let v43 : BitVec 32 := Scalar.extui v42
  let c0_i32_17 : BitVec 32 := 0#32
  let v44 : BitVec 1 := Scalar.cmpi .ne v43 c0_i32_17
  v44

def k0_cond2 (i : grid0.Coords) : BitVec 1 :=
  let arg0 : BitVec 32 := BitVec.ofNat 32 (i 0).val
  let c0_i32 : BitVec 32 := 0#32
  let v42 : BitVec 1 := Scalar.cmpi .eq arg0 c0_i32
  let v_true : BitVec 1 := 1#1
  let v45 : BitVec 1 := Scalar.xori v42 v_true
  let v46 : BitVec 32 := Scalar.extui v45
  let c0_i32_18 : BitVec 32 := 0#32
  let v47 : BitVec 1 := Scalar.cmpi .ne v46 c0_i32_18
  v47

def k0_cond3 (i : grid0.Coords) : BitVec 1 :=
  let arg0 : BitVec 32 := BitVec.ofNat 32 (i 0).val
  let c0_i32 : BitVec 32 := 0#32
  let v42 : BitVec 1 := Scalar.cmpi .eq arg0 c0_i32
  let v48 : BitVec 32 := Scalar.extui v42
  let c0_i32_19 : BitVec 32 := 0#32
  let v49 : BitVec 1 := Scalar.cmpi .ne v48 c0_i32_19
  v49

def k0_cond4 (i : grid0.Coords) : BitVec 1 :=
  let arg0 : BitVec 32 := BitVec.ofNat 32 (i 0).val
  let c0_i32 : BitVec 32 := 0#32
  let v42 : BitVec 1 := Scalar.cmpi .eq arg0 c0_i32
  let true_20 : BitVec 1 := 1#1
  let v50 : BitVec 1 := Scalar.xori v42 true_20
  let v51 : BitVec 32 := Scalar.extui v50
  let c0_i32_21 : BitVec 32 := 0#32
  let v52 : BitVec 1 := Scalar.cmpi .ne v51 c0_i32_21
  v52

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== FinalRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 100
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x2048, .f32⟩
  | .hbm, ⟨19, _⟩ => ⟨S2048x2048, .f32⟩
  | .hbm, ⟨20, _⟩ => ⟨S1x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2048, .f32⟩
  | .hbm, ⟨41, _⟩ => ⟨S_, .f32⟩
  | .hbm, ⟨42, _⟩ => ⟨S2048, .f32⟩
  | .hbm, ⟨43, _⟩ => ⟨S2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S2048x2048, .f32⟩
  | .hbm, ⟨51, _⟩ => ⟨S2048x2048, .f32⟩
  | .hbm, ⟨52, _⟩ => ⟨S_, .f32⟩
  | .hbm, ⟨53, _⟩ => ⟨S2048, .f32⟩
  | .hbm, ⟨54, _⟩ => ⟨S2048x2048, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S2048x2048, .f32⟩
  | .hbm, ⟨59, _⟩ => ⟨S2048x2048, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S_, .f32⟩
  | .hbm, ⟨65, _⟩ => ⟨S2048, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S_, .f32⟩
  | .hbm, ⟨73, _⟩ => ⟨S2048, .f32⟩
  | .hbm, ⟨74, _⟩ => ⟨S2048x1, .f32⟩
  | .hbm, ⟨75, _⟩ => ⟨S_, .f32⟩
  | .hbm, ⟨76, _⟩ => ⟨S2048x1, .f32⟩
  | .hbm, ⟨77, _⟩ => ⟨S2048x1, .f32⟩
  | .hbm, ⟨78, _⟩ => ⟨S_, .f32⟩
  | .hbm, ⟨79, _⟩ => ⟨S2048x1, .f32⟩
  | .hbm, ⟨80, _⟩ => ⟨S2048x1, .f32⟩
  | .hbm, ⟨81, _⟩ => ⟨S2048x1, .f32⟩
  | .hbm, ⟨82, _⟩ => ⟨S2048x2048, .f32⟩
  | .hbm, ⟨83, _⟩ => ⟨S2048x2048, .f32⟩
  | .hbm, ⟨84, _⟩ => ⟨S1x2048, .f32⟩
  | .hbm, ⟨85, _⟩ => ⟨S2048x2048, .f32⟩
  | .hbm, ⟨86, _⟩ => ⟨S2048x2048, .f32⟩
  | .hbm, ⟨87, _⟩ => ⟨S2048x2048, .f32⟩
  | .hbm, ⟨88, _⟩ => ⟨S2048x2048, .f32⟩
  | .hbm, ⟨89, _⟩ => ⟨S2048x2048, .bf16⟩
  | .hbm, ⟨90, _⟩ => ⟨S_, .f32⟩
  | .hbm, ⟨91, _⟩ => ⟨S2048, .f32⟩
  | .hbm, ⟨92, _⟩ => ⟨S_, .f32⟩
  | .hbm, ⟨93, _⟩ => ⟨S2048, .f32⟩
  | .hbm, ⟨94, _⟩ => ⟨S2048, .f32⟩
  | .hbm, ⟨95, _⟩ => ⟨S_, .f32⟩
  | .hbm, ⟨96, _⟩ => ⟨S2048, .f32⟩
  | .hbm, ⟨97, _⟩ => ⟨S2048, .f32⟩
  | .hbm, ⟨98, _⟩ => ⟨S1x2048, .f32⟩
  | .hbm, ⟨99, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_16 : Ref sig .tc := ⟨.hbm, 72, rfl⟩
abbrev main_v52 : Ref sig .tc := ⟨.hbm, 73, rfl⟩
abbrev main_v53 : Ref sig .tc := ⟨.hbm, 74, rfl⟩
abbrev main_cst_17 : Ref sig .tc := ⟨.hbm, 75, rfl⟩
abbrev main_v54 : Ref sig .tc := ⟨.hbm, 76, rfl⟩
abbrev main_v55 : Ref sig .tc := ⟨.hbm, 77, rfl⟩
abbrev main_cst_18 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_19 : Ref sig .tc := ⟨.hbm, 90, rfl⟩
abbrev main_v67 : Ref sig .tc := ⟨.hbm, 91, rfl⟩
abbrev main_cst_20 : Ref sig .tc := ⟨.hbm, 92, rfl⟩
abbrev main_v68 : Ref sig .tc := ⟨.hbm, 93, rfl⟩
abbrev main_v69 : Ref sig .tc := ⟨.hbm, 94, rfl⟩
abbrev main_cst_21 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩

abbrev nD : Nat := 1
abbrev τ : Topo := Topo.v7x

variable {F : FTy → Type} [FloatOps F]
-- ==== SumSmall.lean ====
abbrev S8x2304x128 : Shape := ⟨3, ![8, 2304, 128]⟩
abbrev S2304x128 : Shape := ⟨2, ![2304, 128]⟩
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x2304x128, .f32⟩
  | .hbm, ⟨1, _⟩ => ⟨S2304x128, .f32⟩
  | .local _ .vmem, ⟨0, _⟩ => ⟨S8x256x128, .f32⟩
  | .local _ .vmem, ⟨1, _⟩ => ⟨S8x256x128, .f32⟩
  | .local _ .vmem, ⟨2, _⟩ => ⟨S256x128, .f32⟩
  | .local _ .vmem, ⟨3, _⟩ => ⟨S256x128, .f32⟩
  | _, _ => ⟨S8x2304x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![9], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumSmallRefIdeal.lean ====
abbrev S8x2304x128 : Shape := ⟨3, ![8, 2304, 128]⟩
abbrev S_ : Shape := ⟨0, ![]⟩
abbrev S2304x128 : Shape := ⟨2, ![2304, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x2304x128, .f32⟩
  | .hbm, ⟨1, _⟩ => ⟨S_, .f32⟩
  | .hbm, ⟨2, _⟩ => ⟨S2304x128, .f32⟩
  | _, _ => ⟨S8x2304x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== ConvF.lean ====
abbrev S2048x8192 : Shape := ⟨2, ![2048, 8192]⟩
abbrev S3x1024 : Shape := ⟨2, ![3, 1024]⟩
abbrev S1024 : Shape := ⟨1, ![1024]⟩
abbrev S_ : Shape := ⟨0, ![]⟩
abbrev S8x1024 : Shape := ⟨2, ![8, 1024]⟩
abbrev S1x1024 : Shape := ⟨2, ![1, 1024]⟩
abbrev S2048x1024 : Shape := ⟨2, ![2048, 1024]⟩
abbrev S2048x256 : Shape := ⟨2, ![2048, 256]⟩
abbrev S8x256 : Shape := ⟨2, ![8, 256]⟩
abbrev S1x256 : Shape := ⟨2, ![1, 256]⟩

abbrev nBuf : Space → Nat
  | .hbm => 8
  | .vmem => 12
  | .smem => 0
  | _ => 0

abbrev bufTy : (tb : Table) → Fin (tcTables nBuf tb) → BufTy
  | .hbm, ⟨0, _⟩ => ⟨S2048x8192, .f32⟩
  | .hbm, ⟨1, _⟩ => ⟨S3x1024, .f32⟩
  | .hbm, ⟨2, _⟩ => ⟨S1024, .f32⟩
  | .hbm, ⟨3, _⟩ => ⟨S_, .i32⟩
  | .hbm, ⟨4, _⟩ => ⟨S_, .f32⟩
  | .hbm, ⟨5, _⟩ => ⟨S8x1024, .f32⟩
  | .hbm, ⟨6, _⟩ => ⟨S1x1024, .f32⟩
  | .hbm, ⟨7, _⟩ => ⟨S2048x1024, .bf16⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S8x256, .f32⟩
  | .local _ .vmem, ⟨7, _⟩ => ⟨S8x256, .f32⟩
  | .local _ .vmem, ⟨8, _⟩ => ⟨S1x256, .f32⟩
  | .local _ .vmem, ⟨9, _⟩ => ⟨S1x256, .f32⟩
  | .local _ .vmem, ⟨10, _⟩ => ⟨S2048x256, .bf16⟩
  | .local _ .vmem, ⟨11, _⟩ => ⟨S2048x256, .bf16⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ConvFRefIdeal.lean ====
abbrev S2048x8192 : Shape := ⟨2, ![2048, 8192]⟩
abbrev S3x1024 : Shape := ⟨2, ![3, 1024]⟩
abbrev S1024 : Shape := ⟨1, ![1024]⟩
abbrev S2048x1024 : Shape := ⟨2, ![2048, 1024]⟩
abbrev S2048x4096 : Shape := ⟨2, ![2048, 4096]⟩
abbrev S_ : Shape := ⟨0, ![]⟩
abbrev S2x1024 : Shape := ⟨2, ![2, 1024]⟩
abbrev S2050x1024 : Shape := ⟨2, ![2050, 1024]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S3x1024, .f32⟩
  | .hbm, ⟨2, _⟩ => ⟨S1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x4096, .f32⟩
  | .hbm, ⟨8, _⟩ => ⟨S2048x1024, .f32⟩
  | .hbm, ⟨9, _⟩ => ⟨S_, .f32⟩
  | .hbm, ⟨10, _⟩ => ⟨S2x1024, .f32⟩
  | .hbm, ⟨11, _⟩ => ⟨S2050x1024, .f32⟩
  | .hbm, ⟨12, _⟩ => ⟨S1x1024, .f32⟩
  | .hbm, ⟨13, _⟩ => ⟨S1024, .f32⟩
  | .hbm, ⟨14, _⟩ => ⟨S2048x1024, .f32⟩
  | .hbm, ⟨15, _⟩ => ⟨S1x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S1x1024, .f32⟩
  | .hbm, ⟨22, _⟩ => ⟨S1024, .f32⟩
  | .hbm, ⟨23, _⟩ => ⟨S2048x1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S1x1024, .f32⟩
  | .hbm, ⟨29, _⟩ => ⟨S1024, .f32⟩
  | .hbm, ⟨30, _⟩ => ⟨S2048x1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S1x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .bf16⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩

abbrev nD : Nat := 1
abbrev τ : Topo := Topo.v7x

variable {F : FTy → Type} [FloatOps F]
-- ==== VecG.lean ====
abbrev S2048x1024 : Shape := ⟨2, ![2048, 1024]⟩
abbrev S2048x8192 : Shape := ⟨2, ![2048, 8192]⟩
abbrev S1x1024 : Shape := ⟨2, ![1, 1024]⟩
abbrev S256x1024 : Shape := ⟨2, ![256, 1024]⟩
abbrev S1024 : Shape := ⟨1, ![1024]⟩

abbrev nBuf : Space → Nat
  | .hbm => 6
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x8192, .f32⟩
  | .hbm, ⟨3, _⟩ => ⟨S2048x1024, .bf16⟩
  | .hbm, ⟨4, _⟩ => ⟨S1x1024, .f32⟩
  | .hbm, ⟨5, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v10 : BitVec 1 := Scalar.cmpi .eq arg0 c0_i32
  let v11 : BitVec 32 := Scalar.extui v10
  let c0_i32_6 : BitVec 32 := 0#32
  let v12 : BitVec 1 := Scalar.cmpi .ne v11 c0_i32_6
  v12

def k0_cond2 (i : grid0.Coords) : BitVec 1 :=
  let arg0 : BitVec 32 := BitVec.ofNat 32 (i 0).val
  let c0_i32 : BitVec 32 := 0#32
  let v10 : BitVec 1 := Scalar.cmpi .eq arg0 c0_i32
  let v_true : BitVec 1 := 1#1
  let v13 : BitVec 1 := Scalar.xori v10 v_true
  let v14 : BitVec 32 := Scalar.extui v13
  let c0_i32_7 : BitVec 32 := 0#32
  let v15 : BitVec 1 := Scalar.cmpi .ne v14 c0_i32_7
  v15

def k0_cond3 (i : grid0.Coords) : BitVec 1 :=
  let arg0 : BitVec 32 := BitVec.ofNat 32 (i 0).val
  let c0_i32 : BitVec 32 := 0#32
  let v10 : BitVec 1 := Scalar.cmpi .eq arg0 c0_i32
  let v16 : BitVec 32 := Scalar.extui v10
  let c0_i32_8 : BitVec 32 := 0#32
  let v17 : BitVec 1 := Scalar.cmpi .ne v16 c0_i32_8
  v17

def k0_cond4 (i : grid0.Coords) : BitVec 1 :=
  let arg0 : BitVec 32 := BitVec.ofNat 32 (i 0).val
  let c0_i32 : BitVec 32 := 0#32
  let v10 : BitVec 1 := Scalar.cmpi .eq arg0 c0_i32
  let true_9 : BitVec 1 := 1#1
  let v18 : BitVec 1 := Scalar.xori v10 true_9
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== VecGRefIdeal.lean ====
abbrev S2048x1024 : Shape := ⟨2, ![2048, 1024]⟩
abbrev S2048x8192 : Shape := ⟨2, ![2048, 8192]⟩
abbrev S_ : Shape := ⟨0, ![]⟩
abbrev S1024 : Shape := ⟨1, ![1024]⟩
abbrev S1x1024 : Shape := ⟨2, ![1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x8192, .f32⟩
  | .hbm, ⟨3, _⟩ => ⟨S2048x1024, .f32⟩
  | .hbm, ⟨4, _⟩ => ⟨S_, .f32⟩
  | .hbm, ⟨5, _⟩ => ⟨S1024, .f32⟩
  | .hbm, ⟨6, _⟩ => ⟨S_, .f32⟩
  | .hbm, ⟨7, _⟩ => ⟨S2048x1024, .f32⟩
  | .hbm, ⟨8, _⟩ => ⟨S1x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S1024, .f32⟩
  | .hbm, ⟨13, _⟩ => ⟨S1x1024, .f32⟩
  | .hbm, ⟨14, _⟩ => ⟨S_, .f32⟩
  | .hbm, ⟨15, _⟩ => ⟨S1024, .f32⟩
  | .hbm, ⟨16, _⟩ => ⟨S_, .f32⟩
  | .hbm, ⟨17, _⟩ => ⟨S1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S1024, .f32⟩
  | .hbm, ⟨24, _⟩ => ⟨S1x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Disc.lean ====
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S64x1 : Shape := ⟨2, ![64, 1]⟩
abbrev S64x1x64 : Shape := ⟨3, ![64, 1, 64]⟩

abbrev nBuf : Space → Nat
  | .hbm => 12
  | .vmem => 9
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64x16x64, .f32⟩
  | .hbm, ⟨6, _⟩ => ⟨S64x16x64, .f32⟩
  | .hbm, ⟨7, _⟩ => ⟨S64x1, .f32⟩
  | .hbm, ⟨8, _⟩ => ⟨S64x64, .f32⟩
  | .hbm, ⟨9, _⟩ => ⟨S64x64, .f32⟩
  | .hbm, ⟨10, _⟩ => ⟨S64x16x64, .f32⟩
  | .hbm, ⟨11, _⟩ => ⟨S64x16x64, .f32⟩
  | .local _ .vmem, ⟨0, _⟩ => ⟨S64x64, .f32⟩
  | .local _ .vmem, ⟨1, _⟩ => ⟨S64x64, .f32⟩
  | .local _ .vmem, ⟨2, _⟩ => ⟨S64x1, .f32⟩
  | .local _ .vmem, ⟨3, _⟩ => ⟨S64x16x64, .f32⟩
  | .local _ .vmem, ⟨4, _⟩ => ⟨S64x16x64, .f32⟩
  | .local _ .vmem, ⟨5, _⟩ => ⟨S64x64, .f32⟩
  | .local _ .vmem, ⟨6, _⟩ => ⟨S64x64, .f32⟩
  | .local _ .vmem, ⟨7, _⟩ => ⟨S64x16x64, .f32⟩
  | .local _ .vmem, ⟨8, _⟩ => ⟨S64x16x64, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== DiscRefIdeal.lean ====
abbrev S64x64 : Shape := ⟨2, ![64, 64]⟩
abbrev S64 : Shape := ⟨1, ![64]⟩
abbrev S64x64x16 : Shape := ⟨3, ![64, 64, 16]⟩
abbrev S_ : Shape := ⟨0, ![]⟩
abbrev S64x1 : Shape := ⟨2, ![64, 1]⟩
abbrev S64x64x1 : Shape := ⟨3, ![64, 64, 1]⟩
abbrev S64x16x64 : Shape := ⟨3, ![64, 16, 64]⟩

abbrev nBuf : Space → Nat
  | .hbm => 49
  | .vmem => 0
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S_, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x1, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S_, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S64x64, .f32⟩
  | .hbm, ⟨35, _⟩ => ⟨S64x64x1, .f32⟩
  | .hbm, ⟨36, _⟩ => ⟨S64x64x1, .f32⟩
  | .hbm, ⟨37, _⟩ => ⟨S64x64x16, .f32⟩
  | .hbm, ⟨38, _⟩ => ⟨S64x64x16, .f32⟩
  | .hbm, ⟨39, _⟩ => ⟨S64x64x16, .f32⟩
  | .hbm, ⟨40, _⟩ => ⟨S64x64x16, .f32⟩
  | .hbm, ⟨41, _⟩ => ⟨S64x64x16, .f32⟩
  | .hbm, ⟨42, _⟩ => ⟨S64x64x16, .f32⟩
  | .hbm, ⟨43, _⟩ => ⟨S64x64x16, .f32⟩
  | .hbm, ⟨44, _⟩ => ⟨S64x64x16, .f32⟩
  | .hbm, ⟨45, _⟩ => ⟨S64x64x16, .f32⟩
  | .hbm, ⟨46, _⟩ => ⟨S64x64x16, .f32⟩
  | .hbm, ⟨47, _⟩ => ⟨S64x16x64, .f32⟩
  | .hbm, ⟨48, _⟩ => ⟨S64x16x64, .f32⟩
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩

abbrev nD : Nat := 1
abbrev τ : Topo := Topo.v7x

variable {F : FTy → Type} [FloatOps F]
-- ==== DiscB.lean ====
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S64x1 : Shape := ⟨2, ![64, 1]⟩
abbrev S64x1x64 : Shape := ⟨3, ![64, 1, 64]⟩

abbrev nBuf : Space → Nat
  | .hbm => 17
  | .vmem => 14
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64x64, .f32⟩
  | .hbm, ⟨6, _⟩ => ⟨S64x64, .f32⟩
  | .hbm, ⟨7, _⟩ => ⟨S64x16x64, .f32⟩
  | .hbm, ⟨8, _⟩ => ⟨S64x16x64, .f32⟩
  | .hbm, ⟨9, _⟩ => ⟨S64x16x64, .f32⟩
  | .hbm, ⟨10, _⟩ => ⟨S64x16x64, .f32⟩
  | .hbm, ⟨11, _⟩ => ⟨S64x1, .f32⟩
  | .hbm, ⟨12, _⟩ => ⟨S64x64, .f32⟩
  | .hbm, ⟨13, _⟩ => ⟨S64x64, .f32⟩
  | .hbm, ⟨14, _⟩ => ⟨S64x1, .f32⟩
  | .hbm, ⟨15, _⟩ => ⟨S64x16x64, .f32⟩
  | .hbm, ⟨16, _⟩ => ⟨S64x16x64, .f32⟩
  | .local _ .vmem, ⟨0, _⟩ => ⟨S64x64, .f32⟩
  | .local _ .vmem, ⟨1, _⟩ => ⟨S64x64, .f32⟩
  | .local _ .vmem, ⟨2, _⟩ => ⟨S64x1, .f32⟩
  | .local _ .vmem, ⟨3, _⟩ => ⟨S64x16x64, .f32⟩
  | .local _ .vmem, ⟨4, _⟩ => ⟨S64x16x64, .f32⟩
  | .local _ .vmem, ⟨5, _⟩ => ⟨S64x64, .f32⟩
  | .local _ .vmem, ⟨6, _⟩ => ⟨S64x64, .f32⟩
  | .local _ .vmem, ⟨7, _⟩ => ⟨S64x16x64, .f32⟩
  | .local _ .vmem, ⟨8, _⟩ => ⟨S64x16x64, .f32⟩
  | .local _ .vmem, ⟨9, _⟩ => ⟨S64x64, .f32⟩
  | .local _ .vmem, ⟨10, _⟩ => ⟨S64x64, .f32⟩
  | .local _ .vmem, ⟨11, _⟩ => ⟨S64x1, .f32⟩
  | .local _ .vmem, ⟨12, _⟩ => ⟨S64x16x64, .f32⟩
  | .local _ .vmem, ⟨13, _⟩ => ⟨S64x16x64, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev main_v3_4 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S64x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S64x16x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S64x16x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== DiscBRefIdeal.lean ====
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S_ : Shape := ⟨0, ![]⟩
abbrev S64x1 : Shape := ⟨2, ![64, 1]⟩
abbrev S64x64x1 : Shape := ⟨3, ![64, 64, 1]⟩

abbrev nBuf : Space → Nat
  | .hbm => 181
  | .vmem => 0
  | .smem => 0
  | _ => 0

abbrev hbmTy0_0 (i : Nat) : BufTy := match i % 128 with
  | 0 => ⟨S64x64, .f32⟩
  | 1 => ⟨S64x64, .f32⟩
  | 2 => ⟨S64, .f32⟩
  | 3 => ⟨S64x64x16, .f32⟩
  | 4 => ⟨S64x64x16, .f32⟩
  | 5 => ⟨S64x64, .f32⟩
  | 6 => ⟨S64x64, .f32⟩
  | 7 => ⟨S64x16x64, .f32⟩
  | 8 => ⟨S64x16x64, .f32⟩
  | 9 => ⟨S64x64x16, .f32⟩
  | 10 => ⟨S64x64x16, .f32⟩
  | 11 => ⟨S_, .f32⟩
  | 12 => ⟨S64x64, .f32⟩
  | 13 => ⟨S64x64, .f32⟩
  | 14 => ⟨S_, .f32⟩
  | 15 => ⟨S64x64, .f32⟩
  | 16 => ⟨S64x64, .i1⟩
  | 17 => ⟨S_, .f32⟩
  | 18 => ⟨S64x64, .f32⟩
  | 19 => ⟨S64x64, .i1⟩
  | 20 => ⟨S_, .f32⟩
  | 21 => ⟨S64x64, .f32⟩
  | 22 => ⟨S_, .f32⟩
  | 23 => ⟨S64x64, .f32⟩
  | 24 => ⟨S_, .f32⟩
  | 25 => ⟨S64x64, .f32⟩
  | 26 => ⟨S64x64, .f32⟩
  | 27 => ⟨S64x64, .f32⟩
  | 28 => ⟨S64, .f32⟩
  | 29 => ⟨S64x1, .f32⟩
  | 30 => ⟨S64x64, .f32⟩
  | 31 => ⟨S64x64, .f32⟩
  | 32 => ⟨S64x64, .f32⟩
  | 33 => ⟨S64x64, .f32⟩
  | 34 => ⟨S64x64, .f32⟩
  | 35 => ⟨S64x64, .f32⟩
  | 36 => ⟨S64x64, .f32⟩
  | 37 => ⟨S64x64, .f32⟩
  | 38 => ⟨S64x64, .f32⟩
  | 39 => ⟨S64x64, .f32⟩
  | 40 => ⟨S64x64, .f32⟩
  | 41 => ⟨S64x64, .f32⟩
  | 42 => ⟨S64x64, .f32⟩
  | 43 => ⟨S64x64, .f32⟩
  | 44 => ⟨S64x64, .f32⟩
  | 45 => ⟨S64x64, .f32⟩
  | 46 => ⟨S_, .f32⟩
  | 47 => ⟨S64x64, .f32⟩
  | 48 => ⟨S64x64, .f32⟩
  | 49 => ⟨S64x64, .f32⟩
  | 50 => ⟨S64x64, .f32⟩
  | 51 => ⟨S64x64, .f32⟩
  | 52 => ⟨S64x64, .f32⟩
  | 53 => ⟨S64x64, .f32⟩
  | 54 => ⟨S_, .f32⟩
  | 55 => ⟨S64x64, .f32⟩
  | 56 => ⟨S64x64, .f32⟩
  | 57 => ⟨S64x64, .f32⟩
  | 58 => ⟨S64x64, .f32⟩
  | 59 => ⟨S64x64, .f32⟩
  | 60 => ⟨S64x64, .f32⟩
  | 61 => ⟨S64x64, .f32⟩
  | 62 => ⟨S_, .f32⟩
  | 63 => ⟨S64x64, .f32⟩
  | 64 => ⟨S64x64, .f32⟩
  | 65 => ⟨S64x64x1, .f32⟩
  | 66 => ⟨S64x64x1, .f32⟩
  | 67 => ⟨S64x64x16, .f32⟩
  | 68 => ⟨S64x64x16, .f32⟩
  | 69 => ⟨S64x64x16, .f32⟩
  | 70 => ⟨S64x64x16, .f32⟩
  | 71 => ⟨S64x64x16, .f32⟩
  | 72 => ⟨S64x64x16, .f32⟩
  | 73 => ⟨S64x64x16, .f32⟩
  | 74 => ⟨S64x64x16, .f32⟩
  | 75 => ⟨S64x64x16, .f32⟩
  | 76 => ⟨S64x64x16, .f32⟩
  | 77 => ⟨S64x64x16, .f32⟩
  | 78 => ⟨S64x64x16, .f32⟩
  | 79 => ⟨S64x64x16, .f32⟩
  | 80 => ⟨S_, .f32⟩
  | 81 => ⟨S64x64, .f32⟩
  | 82 => ⟨S64x64x1, .f32⟩
  | 83 => ⟨S64x64x16, .f32⟩
  | 84 => ⟨S64x64x16, .f32⟩
  | 85 => ⟨S64x64x16, .f32⟩
  | 86 => ⟨S_, .f32⟩
  | 87 => ⟨S64x64, .f32⟩
  | 88 => ⟨S64x64x1, .f32⟩
  | 89 => ⟨S64x64x16, .f32⟩
  | 90 => ⟨S64x64x16, .f32⟩
  | 91 => ⟨S64x64x16, .f32⟩
  | 92 => ⟨S64x64x16, .f32⟩
  | 93 => ⟨S64x64x16, .f32⟩
  | 94 => ⟨S_, .f32⟩
  | 95 => ⟨S64x64, .f32⟩
  | 96 => ⟨S64x64x1, .f32⟩
  | 97 => ⟨S64x64x1, .f32⟩
  | 98 => ⟨S64x64x16, .f32⟩
  | 99 => ⟨S64x64x16, .f32⟩
  | 100 => ⟨S64x64x16, .f32⟩
  | 101 => ⟨S64x64x16, .f32⟩
  | 102 => ⟨S_, .f32⟩
  | 103 => ⟨S64x64, .f32⟩
  | 104 => ⟨S64x64x1, .f32⟩
  | 105 => ⟨S64x64x1, .f32⟩
  | 106 => ⟨S_, .f32⟩
  | 107 => ⟨S64x64, .f32⟩
  | 108 => ⟨S_, .f32⟩
  | 109 => ⟨S64x64, .f32⟩
  | 110 => ⟨S64x64, .f32⟩
  | 111 => ⟨S64x64, .f32⟩
  | 112 => ⟨S64x64, .f32⟩
  | 113 => ⟨S64x64, .f32⟩
  | 114 => ⟨S64x64, .f32⟩
  | 115 => ⟨S64x64, .f32⟩
  | 116 => ⟨S64x64, .f32⟩
  | 117 => ⟨S64x64, .f32⟩
  | 118 => ⟨S64x64, .f32⟩
  | 119 => ⟨S64x64, .f32⟩
  | 120 => ⟨S64x64, .f32⟩
  | 121 => ⟨S64x64, .f32⟩
  | 122 => ⟨S64x64, .f32⟩
  | 123 => ⟨S64x64, .f32⟩
  | 124 => ⟨S64x64, .f32⟩
  | 125 => ⟨S64x64, .f32⟩
  | 126 => ⟨S64x64, .f32⟩
  | 127 => ⟨S64x64, .f32⟩
  | _ => ⟨S64x64, .f32⟩

abbrev hbmTy0_1 (i : Nat) : BufTy := match i % 128 with
  | 0 => ⟨S64x64, .f32⟩
  | 1 => ⟨S64x64, .f32⟩
  | 2 => ⟨S64x64, .f32⟩
  | 3 => ⟨S64x64, .f32⟩
  | 4 => ⟨S64x64, .f32⟩
  | 5 => ⟨S64x64, .f32⟩
  | 6 => ⟨S64x64, .f32⟩
  | 7 => ⟨S64x64, .f32⟩
  | 8 => ⟨S64x64, .f32⟩
  | 9 => ⟨S64x64, .f32⟩
  | 10 => ⟨S64x64, .f32⟩
  | 11 => ⟨S64x64, .f32⟩
  | 12 => ⟨S64x64, .f32⟩
  | 13 => ⟨S64x64, .f32⟩
  | 14 => ⟨S64x64, .f32⟩
  | 15 => ⟨S64x64, .f32⟩
  | 16 => ⟨S64x64, .f32⟩
  | 17 => ⟨S64x64, .f32⟩
  | 18 => ⟨S_, .f32⟩
  | 19 => ⟨S64, .f32⟩
  | 20 => ⟨S64x1, .f32⟩
  | 21 => ⟨S64x64, .f32⟩
  | 22 => ⟨S64x64, .f32⟩
  | 23 => ⟨S64x64, .f32⟩
  | 24 => ⟨S64x64, .f32⟩
  | 25 => ⟨S64x64, .f32⟩
  | 26 => ⟨S64x64, .f32⟩
  | 27 => ⟨S64x64, .f32⟩
  | 28 => ⟨S64x64, .f32⟩
  | 29 => ⟨S64x64, .f32⟩
  | 30 => ⟨S_, .f32⟩
  | 31 => ⟨S64, .f32⟩
  | 32 => ⟨S64x1, .f32⟩
  | 33 => ⟨S64x1, .f32⟩
  | 34 => ⟨S64x64, .f32⟩
  | 35 => ⟨S64x64, .f32⟩
  | 36 => ⟨S64x64, .f32⟩
  | 37 => ⟨S64x64, .f32⟩
  | 38 => ⟨S64x64, .f32⟩
  | 39 => ⟨S_, .f32⟩
  | 40 => ⟨S64, .f32⟩
  | 41 => ⟨S64x1, .f32⟩
  | 42 => ⟨S64x1, .f32⟩
  | 43 => ⟨S64x64, .f32⟩
  | 44 => ⟨S64x64, .f32⟩
  | 45 => ⟨S64x64, .f32⟩
  | 46 => ⟨S_, .f32⟩
  | 47 => ⟨S64, .f32⟩
  | 48 => ⟨S64, .f32⟩
  | 49 => ⟨S64x64, .f32⟩
  | 50 => ⟨S64x1, .f32⟩
  | 51 => ⟨S64x16x64, .f32⟩
  | 52 => ⟨S64x16x64, .f32⟩
  | _ => ⟨S64x64, .f32⟩

abbrev hbmTy (i : Nat) : BufTy := match i / 128 with
  | 0 => hbmTy0_0 i
  | 1 => hbmTy0_1 i
  | _ => ⟨S64x64, .f32⟩

abbrev bufTy : (tb : Table) → Fin (tcTables nBuf tb) → BufTy
  | .hbm, ⟨i, _⟩ => hbmTy i
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_cst_4 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_8 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_9 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_10 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_11 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_cst_12 : Ref sig .tc := ⟨.hbm, 106, rfl⟩
abbrev main_v84 : Ref sig .tc := ⟨.hbm, 107, rfl⟩
abbrev main_cst_13 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_cst_14 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_cst_15 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_cst_16 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_cst_17 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩

abbrev nD : Nat := 1
abbrev τ : Topo := Topo.v7x

variable {F : FTy → Type} [FloatOps F]
-- ==== AdamIn.lean ====
abbrev S2048x2048 : Shape := ⟨2, ![2048, 2048]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamInIdeal.lean ====
abbrev S2048x2048 : Shape := ⟨2, ![2048, 2048]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "inv_m" => some ((8388608 / 5463681 : ℝ) : EReal)
  | "inv_v" => some ((268435456 / 2672307 : ℝ) : EReal)
  | _ => none

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamInRefIdeal.lean ====
abbrev S2048x2048 : Shape := ⟨2, ![2048, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamO.lean ====
abbrev S512x2048 : Shape := ⟨2, ![512, 2048]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamOIdeal.lean ====
abbrev S512x2048 : Shape := ⟨2, ![512, 2048]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "inv_m" => some ((8388608 / 5463681 : ℝ) : EReal)
  | "inv_v" => some ((268435456 / 2672307 : ℝ) : EReal)
  | _ => none

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamORefIdeal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S1024x512 : Shape := ⟨2, ![1024, 512]⟩
abbrev S256x512 : Shape := ⟨2, ![256, 512]⟩

abbrev nBuf : Space → Nat
  | .hbm => 8
  | .vmem => 16
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamOutIdeal.lean ====
abbrev S1024x512 : Shape := ⟨2, ![1024, 512]⟩
abbrev S256x512 : Shape := ⟨2, ![256, 512]⟩

abbrev nBuf : Space → Nat
  | .hbm => 8
  | .vmem => 16
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "inv_m" => some ((8388608 / 5463681 : ℝ) : EReal)
  | "inv_v" => some ((268435456 / 2672307 : ℝ) : EReal)
  | _ => none

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamOutRefIdeal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGlu.lean ====
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamGluIdeal.lean ====
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "inv_m" => some ((8388608 / 5463681 : ℝ) : EReal)
  | "inv_v" => some ((268435456 / 2672307 : ℝ) : EReal)
  | _ => none

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamGluRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFfn.lean ====
abbrev S1376x2048 : Shape := ⟨2, ![1376, 2048]⟩
abbrev S4x344x2048 : Shape := ⟨3, ![4, 344, 2048]⟩
abbrev S_ : Shape := ⟨0, ![]⟩
abbrev S4x8x2048 : Shape := ⟨3, ![4, 8, 2048]⟩
abbrev S4x352x2048 : Shape := ⟨3, ![4, 352, 2048]⟩
abbrev S1408x2048 : Shape := ⟨2, ![1408, 2048]⟩
abbrev S344x1024 : Shape := ⟨2, ![344, 1024]⟩
abbrev S352x1024 : Shape := ⟨2, ![352, 1024]⟩

abbrev nBuf : Space → Nat
  | .hbm => 13
  | .vmem => 16
  | .smem => 0
  | _ => 0

abbrev bufTy : (tb : Table) → Fin (tcTables nBuf tb) → BufTy
  | .hbm, ⟨0, _⟩ => ⟨S1376x2048, .f32⟩
  | .hbm, ⟨1, _⟩ => ⟨S1376x2048, .f32⟩
  | .hbm, ⟨2, _⟩ => ⟨S1376x2048, .f32⟩
  | .hbm, ⟨3, _⟩ => ⟨S1376x2048, .f32⟩
  | .hbm, ⟨4, _⟩ => ⟨S4x344x2048, .f32⟩
  | .hbm, ⟨5, _⟩ => ⟨S_, .f32⟩
  | .hbm, ⟨6, _⟩ => ⟨S4x8x2048, .f32⟩
  | .hbm, ⟨7, _⟩ => ⟨S4x352x2048, .f32⟩
  | .hbm, ⟨8, _⟩ => ⟨S1408x2048, .f32⟩
  | .hbm, ⟨9, _⟩ => ⟨S1376x2048, .f32⟩
  | .hbm, ⟨10, _⟩ => ⟨S1376x2048, .f32⟩
  | .hbm, ⟨11, _⟩ => ⟨S1376x2048, .f32⟩
  | .hbm, ⟨12, _⟩ => ⟨S1376x2048, .f32⟩
  | .local _ .vmem, ⟨0, _⟩ => ⟨S344x1024, .f32⟩
  | .local _ .vmem, ⟨1, _⟩ => ⟨S344x1024, .f32⟩
  | .local _ .vmem, ⟨2, _⟩ => ⟨S352x1024, .f32⟩
  | .local _ .vmem, ⟨3, _⟩ => ⟨S352x1024, .f32⟩
  | .local _ .vmem, ⟨4, _⟩ => ⟨S344x1024, .f32⟩
  | .local _ .vmem, ⟨5, _⟩ => ⟨S344x1024, .f32⟩
  | .local _ .vmem, ⟨6, _⟩ => ⟨S344x1024, .f32⟩
  | .local _ .vmem, ⟨7, _⟩ => ⟨S344x1024, .f32⟩
  | .local _ .vmem, ⟨8, _⟩ => ⟨S344x1024, .f32⟩
  | .local _ .vmem, ⟨9, _⟩ => ⟨S344x1024, .f32⟩
  | .local _ .vmem, ⟨10, _⟩ => ⟨S344x1024, .f32⟩
  | .local _ .vmem, ⟨11, _⟩ => ⟨S344x1024, .f32⟩
  | .local _ .vmem, ⟨12, _⟩ => ⟨S344x1024, .f32⟩
  | .local _ .vmem, ⟨13, _⟩ => ⟨S344x1024, .f32⟩
  | .local _ .vmem, ⟨14, _⟩ => ⟨S344x1024, .f32⟩
  | .local _ .vmem, ⟨15, _⟩ => ⟨S344x1024, .f32⟩
  | _, _ => ⟨S1376x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S344x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S344x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S344x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S344x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S344x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S344x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S344x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamFfnIdeal.lean ====
variable {F : FTy → Type} [FloatOps F] [Named F]
def κ : String → Option EReal := fun
  | "inv_m" => some ((8388608 / 5463681 : ℝ) : EReal)
  | "inv_v" => some ((268435456 / 2672307 : ℝ) : EReal)
  | _ => none
-- ==== AdamFfnRefIdeal.lean ====
abbrev S1376x2048 : Shape := ⟨2, ![1376, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1376x2048, .f32⟩
  | .hbm, ⟨1, _⟩ => ⟨S1376x2048, .f32⟩
  | .hbm, ⟨2, _⟩ => ⟨S1376x2048, .f32⟩
  | .hbm, ⟨3, _⟩ => ⟨S1376x2048, .f32⟩
  | .hbm, ⟨4, _⟩ => ⟨S_, .f32⟩
  | .hbm, ⟨5, _⟩ => ⟨S1376x2048, .f32⟩
  | .hbm, ⟨6, _⟩ => ⟨S1376x2048, .f32⟩
  | .hbm, ⟨7, _⟩ => ⟨S_, .f32⟩
  | .hbm, ⟨8, _⟩ => ⟨S1376x2048, .f32⟩
  | .hbm, ⟨9, _⟩ => ⟨S1376x2048, .f32⟩
  | .hbm, ⟨10, _⟩ => ⟨S1376x2048, .f32⟩
  | .hbm, ⟨11, _⟩ => ⟨S_, .f32⟩
  | .hbm, ⟨12, _⟩ => ⟨S1376x2048, .f32⟩
  | .hbm, ⟨13, _⟩ => ⟨S1376x2048, .f32⟩
  | .hbm, ⟨14, _⟩ => ⟨S1376x2048, .f32⟩
  | .hbm, ⟨15, _⟩ => ⟨S_, .f32⟩
  | .hbm, ⟨16, _⟩ => ⟨S1376x2048, .f32⟩
  | .hbm, ⟨17, _⟩ => ⟨S1376x2048, .f32⟩
  | .hbm, ⟨18, _⟩ => ⟨S1376x2048, .f32⟩
  | .hbm, ⟨19, _⟩ => ⟨S_, .f32⟩
  | .hbm, ⟨20, _⟩ => ⟨S1376x2048, .f32⟩
  | .hbm, ⟨21, _⟩ => ⟨S1376x2048, .f32⟩
  | .hbm, ⟨22, _⟩ => ⟨S_, .f32⟩
  | .hbm, ⟨23, _⟩ => ⟨S1376x2048, .f32⟩
  | .hbm, ⟨24, _⟩ => ⟨S1376x2048, .f32⟩
  | .hbm, ⟨25, _⟩ => ⟨S1376x2048, .f32⟩
  | .hbm, ⟨26, _⟩ => ⟨S_, .f32⟩
  | .hbm, ⟨27, _⟩ => ⟨S1376x2048, .f32⟩
  | .hbm, ⟨28, _⟩ => ⟨S1376x2048, .f32⟩
  | .hbm, ⟨29, _⟩ => ⟨S1376x2048, .f32⟩
  | .hbm, ⟨30, _⟩ => ⟨S_, .f32⟩
  | .hbm, ⟨31, _⟩ => ⟨S1376x2048, .f32⟩
  | .hbm, ⟨32, _⟩ => ⟨S1376x2048, .f32⟩
  | .hbm, ⟨33, _⟩ => ⟨S1376x2048, .f32⟩
  | .hbm, ⟨34, _⟩ => ⟨S_, .f32⟩
  | .hbm, ⟨35, _⟩ => ⟨S1376x2048, .f32⟩
  | .hbm, ⟨36, _⟩ => ⟨S1376x2048, .f32⟩
  | _, _ => ⟨S1376x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFfnT.lean ====
abbrev S2048x1376 : Shape := ⟨2, ![2048, 1376]⟩
abbrev S1376x2048 : Shape := ⟨2, ![1376, 2048]⟩
abbrev S4x344x2048 : Shape := ⟨3, ![4, 344, 2048]⟩
abbrev S_ : Shape := ⟨0, ![]⟩
abbrev S4x8x2048 : Shape := ⟨3, ![4, 8, 2048]⟩
abbrev S4x352x2048 : Shape := ⟨3, ![4, 352, 2048]⟩
abbrev S1408x2048 : Shape := ⟨2, ![1408, 2048]⟩
abbrev S344x1024 : Shape := ⟨2, ![344, 1024]⟩
abbrev S352x1024 : Shape := ⟨2, ![352, 1024]⟩

abbrev nBuf : Space → Nat
  | .hbm => 17
  | .vmem => 16
  | .smem => 0
  | _ => 0

abbrev bufTy : (tb : Table) → Fin (tcTables nBuf tb) → BufTy
  | .hbm, ⟨0, _⟩ => ⟨S2048x1376, .f32⟩
  | .hbm, ⟨1, _⟩ => ⟨S2048x1376, .f32⟩
  | .hbm, ⟨2, _⟩ => ⟨S2048x1376, .f32⟩
  | .hbm, ⟨3, _⟩ => ⟨S2048x1376, .f32⟩
  | .hbm, ⟨4, _⟩ => ⟨S1376x2048, .f32⟩
  | .hbm, ⟨5, _⟩ => ⟨S1376x2048, .f32⟩
  | .hbm, ⟨6, _⟩ => ⟨S1376x2048, .f32⟩
  | .hbm, ⟨7, _⟩ => ⟨S1376x2048, .f32⟩
  | .hbm, ⟨8, _⟩ => ⟨S4x344x2048, .f32⟩
  | .hbm, ⟨9, _⟩ => ⟨S_, .f32⟩
  | .hbm, ⟨10, _⟩ => ⟨S4x8x2048, .f32⟩
  | .hbm, ⟨11, _⟩ => ⟨S4x352x2048, .f32⟩
  | .hbm, ⟨12, _⟩ => ⟨S1408x2048, .f32⟩
  | .hbm, ⟨13, _⟩ => ⟨S1376x2048, .f32⟩
  | .hbm, ⟨14, _⟩ => ⟨S1376x2048, .f32⟩
  | .hbm, ⟨15, _⟩ => ⟨S1376x2048, .f32⟩
  | .hbm, ⟨16, _⟩ => ⟨S1376x2048, .f32⟩
  | .local _ .vmem, ⟨0, _⟩ => ⟨S344x1024, .f32⟩
  | .local _ .vmem, ⟨1, _⟩ => ⟨S344x1024, .f32⟩
  | .local _ .vmem, ⟨2, _⟩ => ⟨S352x1024, .f32⟩
  | .local _ .vmem, ⟨3, _⟩ => ⟨S352x1024, .f32⟩
  | .local _ .vmem, ⟨4, _⟩ => ⟨S344x1024, .f32⟩
  | .local _ .vmem, ⟨5, _⟩ => ⟨S344x1024, .f32⟩
  | .local _ .vmem, ⟨6, _⟩ => ⟨S344x1024, .f32⟩
  | .local _ .vmem, ⟨7, _⟩ => ⟨S344x1024, .f32⟩
  | .local _ .vmem, ⟨8, _⟩ => ⟨S344x1024, .f32⟩
  | .local _ .vmem, ⟨9, _⟩ => ⟨S344x1024, .f32⟩
  | .local _ .vmem, ⟨10, _⟩ => ⟨S344x1024, .f32⟩
  | .local _ .vmem, ⟨11, _⟩ => ⟨S344x1024, .f32⟩
  | .local _ .vmem, ⟨12, _⟩ => ⟨S344x1024, .f32⟩
  | .local _ .vmem, ⟨13, _⟩ => ⟨S344x1024, .f32⟩
  | .local _ .vmem, ⟨14, _⟩ => ⟨S344x1024, .f32⟩
  | .local _ .vmem, ⟨15, _⟩ => ⟨S344x1024, .f32⟩
  | _, _ => ⟨S2048x1376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S344x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S344x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S344x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S344x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S344x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S344x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S344x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamFfnTIdeal.lean ====
variable {F : FTy → Type} [FloatOps F] [Named F]
def κ : String → Option EReal := fun
  | "inv_m" => some ((8388608 / 5463681 : ℝ) : EReal)
  | "inv_v" => some ((268435456 / 2672307 : ℝ) : EReal)
  | _ => none
-- ==== AdamFfnTRefIdeal.lean ====
abbrev S2048x1376 : Shape := ⟨2, ![2048, 1376]⟩
abbrev S_ : Shape := ⟨0, ![]⟩
abbrev S1376x2048 : Shape := ⟨2, ![1376, 2048]⟩

abbrev nBuf : Space → Nat
  | .hbm => 41
  | .vmem => 0
  | .smem => 0
  | _ => 0

abbrev bufTy : (tb : Table) → Fin (tcTables nBuf tb) → BufTy
  | .hbm, ⟨0, _⟩ => ⟨S2048x1376, .f32⟩
  | .hbm, ⟨1, _⟩ => ⟨S2048x1376, .f32⟩
  | .hbm, ⟨2, _⟩ => ⟨S2048x1376, .f32⟩
  | .hbm, ⟨3, _⟩ => ⟨S2048x1376, .f32⟩
  | .hbm, ⟨4, _⟩ => ⟨S_, .f32⟩
  | .hbm, ⟨5, _⟩ => ⟨S2048x1376, .f32⟩
  | .hbm, ⟨6, _⟩ => ⟨S2048x1376, .f32⟩
  | .hbm, ⟨7, _⟩ => ⟨S_, .f32⟩
  | .hbm, ⟨8, _⟩ => ⟨S2048x1376, .f32⟩
  | .hbm, ⟨9, _⟩ => ⟨S2048x1376, .f32⟩
  | .hbm, ⟨10, _⟩ => ⟨S2048x1376, .f32⟩
  | .hbm, ⟨11, _⟩ => ⟨S_, .f32⟩
  | .hbm, ⟨12, _⟩ => ⟨S2048x1376, .f32⟩
  | .hbm, ⟨13, _⟩ => ⟨S2048x1376, .f32⟩
  | .hbm, ⟨14, _⟩ => ⟨S2048x1376, .f32⟩
  | .hbm, ⟨15, _⟩ => ⟨S_, .f32⟩
  | .hbm, ⟨16, _⟩ => ⟨S2048x1376, .f32⟩
  | .hbm, ⟨17, _⟩ => ⟨S2048x1376, .f32⟩
  | .hbm, ⟨18, _⟩ => ⟨S2048x1376, .f32⟩
  | .hbm, ⟨19, _⟩ => ⟨S_, .f32⟩
  | .hbm, ⟨20, _⟩ => ⟨S2048x1376, .f32⟩
  | .hbm, ⟨21, _⟩ => ⟨S2048x1376, .f32⟩
  | .hbm, ⟨22, _⟩ => ⟨S_, .f32⟩
  | .hbm, ⟨23, _⟩ => ⟨S2048x1376, .f32⟩
  | .hbm, ⟨24, _⟩ => ⟨S2048x1376, .f32⟩
  | .hbm, ⟨25, _⟩ => ⟨S2048x1376, .f32⟩
  | .hbm, ⟨26, _⟩ => ⟨S_, .f32⟩
  | .hbm, ⟨27, _⟩ => ⟨S2048x1376, .f32⟩
  | .hbm, ⟨28, _⟩ => ⟨S2048x1376, .f32⟩
  | .hbm, ⟨29, _⟩ => ⟨S2048x1376, .f32⟩
  | .hbm, ⟨30, _⟩ => ⟨S_, .f32⟩
  | .hbm, ⟨31, _⟩ => ⟨S2048x1376, .f32⟩
  | .hbm, ⟨32, _⟩ => ⟨S2048x1376, .f32⟩
  | .hbm, ⟨33, _⟩ => ⟨S2048x1376, .f32⟩
  | .hbm, ⟨34, _⟩ => ⟨S_, .f32⟩
  | .hbm, ⟨35, _⟩ => ⟨S2048x1376, .f32⟩
  | .hbm, ⟨36, _⟩ => ⟨S2048x1376, .f32⟩
  | .hbm, ⟨37, _⟩ => ⟨S1376x2048, .f32⟩
  | .hbm, ⟨38, _⟩ => ⟨S1376x2048, .f32⟩
  | .hbm, ⟨39, _⟩ => ⟨S1376x2048, .f32⟩
  | .hbm, ⟨40, _⟩ => ⟨S1376x2048, .f32⟩
  | _, _ => ⟨S2048x1376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamSmall.lean ====
abbrev S2304x128 : Shape := ⟨2, ![2304, 128]⟩
abbrev S256x128 : Shape := ⟨2, ![256, 128]⟩

abbrev nBuf : Space → Nat
  | .hbm => 8
  | .vmem => 16
  | .smem => 0
  | _ => 0

abbrev bufTy : (tb : Table) → Fin (tcTables nBuf tb) → BufTy
  | .hbm, ⟨0, _⟩ => ⟨S2304x128, .f32⟩
  | .hbm, ⟨1, _⟩ => ⟨S2304x128, .f32⟩
  | .hbm, ⟨2, _⟩ => ⟨S2304x128, .f32⟩
  | .hbm, ⟨3, _⟩ => ⟨S2304x128, .f32⟩
  | .hbm, ⟨4, _⟩ => ⟨S2304x128, .f32⟩
  | .hbm, ⟨5, _⟩ => ⟨S2304x128, .f32⟩
  | .hbm, ⟨6, _⟩ => ⟨S2304x128, .f32⟩
  | .hbm, ⟨7, _⟩ => ⟨S2304x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S2304x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![9, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamSmallIdeal.lean ====
variable {F : FTy → Type} [FloatOps F] [Named F]
def κ : String → Option EReal := fun
  | "inv_m" => some ((8388608 / 5463681 : ℝ) : EReal)
  | "inv_v" => some ((268435456 / 2672307 : ℝ) : EReal)
  | _ => none
-- ==== AdamSmallRefIdeal.lean ====
abbrev S2304x128 : Shape := ⟨2, ![2304, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2304x128, .f32⟩
  | .hbm, ⟨1, _⟩ => ⟨S2304x128, .f32⟩
  | .hbm, ⟨2, _⟩ => ⟨S2304x128, .f32⟩
  | .hbm, ⟨3, _⟩ => ⟨S2304x128, .f32⟩
  | .hbm, ⟨4, _⟩ => ⟨S_, .f32⟩
  | .hbm, ⟨5, _⟩ => ⟨S2304x128, .f32⟩
  | .hbm, ⟨6, _⟩ => ⟨S2304x128, .f32⟩
  | .hbm, ⟨7, _⟩ => ⟨S_, .f32⟩
  | .hbm, ⟨8, _⟩ => ⟨S2304x128, .f32⟩
  | .hbm, ⟨9, _⟩ => ⟨S2304x128, .f32⟩
  | .hbm, ⟨10, _⟩ => ⟨S2304x128, .f32⟩
  | .hbm, ⟨11, _⟩ => ⟨S_, .f32⟩
  | .hbm, ⟨12, _⟩ => ⟨S2304x128, .f32⟩
  | .hbm, ⟨13, _⟩ => ⟨S2304x128, .f32⟩
  | .hbm, ⟨14, _⟩ => ⟨S2304x128, .f32⟩
  | .hbm, ⟨15, _⟩ => ⟨S_, .f32⟩
  | .hbm, ⟨16, _⟩ => ⟨S2304x128, .f32⟩
  | .hbm, ⟨17, _⟩ => ⟨S2304x128, .f32⟩
  | .hbm, ⟨18, _⟩ => ⟨S2304x128, .f32⟩
  | .hbm, ⟨19, _⟩ => ⟨S_, .f32⟩
  | .hbm, ⟨20, _⟩ => ⟨S2304x128, .f32⟩
  | .hbm, ⟨21, _⟩ => ⟨S2304x128, .f32⟩
  | .hbm, ⟨22, _⟩ => ⟨S_, .f32⟩
  | .hbm, ⟨23, _⟩ => ⟨S2304x128, .f32⟩
  | .hbm, ⟨24, _⟩ => ⟨S2304x128, .f32⟩
  | .hbm, ⟨25, _⟩ => ⟨S2304x128, .f32⟩
  | .hbm, ⟨26, _⟩ => ⟨S_, .f32⟩
  | .hbm, ⟨27, _⟩ => ⟨S2304x128, .f32⟩
  | .hbm, ⟨28, _⟩ => ⟨S2304x128, .f32⟩
  | .hbm, ⟨29, _⟩ => ⟨S2304x128, .f32⟩
  | .hbm, ⟨30, _⟩ => ⟨S_, .f32⟩
  | .hbm, ⟨31, _⟩ => ⟨S2304x128, .f32⟩
  | .hbm, ⟨32, _⟩ => ⟨S2304x128, .f32⟩
  | .hbm, ⟨33, _⟩ => ⟨S2304x128, .f32⟩
  | .hbm, ⟨34, _⟩ => ⟨S_, .f32⟩
  | .hbm, ⟨35, _⟩ => ⟨S2304x128, .f32⟩
  | .hbm, ⟨36, _⟩ => ⟨S2304x128, .f32⟩
  | _, _ => ⟨S2304x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.FfnPure.lean ====
/- The gated unit `silu g * up` of the feed-forward half over the extended reals: its derivative in the gate, written in the
   kernel's order and in the reference's, and what the finiteness of arrays says of their entries and products. -/
module

public import Idealize.ShloMosaic.Lib.Pointwise

@[expose] public section

noncomputable section

namespace Cert.Proof.Ffn

open Idealize.ShloMosaic

/-- The derivative of `silu g * a` in `g`, the kernel's expression. -/
def slope (g a : EReal) : EReal := a * (Ideal.logistic g * (1 + g * (1 - Ideal.logistic g)))

/-- The gradient of `silu g * a` in `g` for the cotangent that makes `c` of the factor `a`, the reference's expression. -/
def grad (g c : EReal) : EReal := c * Ideal.logistic g + g * c * (Ideal.logistic g * (1 - Ideal.logistic g))

/-- For a finite cotangent and a finite `a` the gradient is the cotangent times the derivative, also at an infinite gate: there
    the logistic or one minus it is zero. -/
theorem grad_eq (g : EReal) (d a : ℝ) : grad g (d * a) = d * slope g a := by
  unfold slope grad
  induction g using EReal.rec with
  | bot => simp
  | coe r =>
    rw [Ideal.logistic_coe]
    norm_cast
    ring
  | top =>
    have e : (1 : EReal) - 1 = 0 := by rw [← EReal.coe_one, ← EReal.coe_sub, sub_self, EReal.coe_zero]
    simp [e]

/-- The case of the cotangent one. -/
theorem grad_one (g : EReal) (a : ℝ) : grad g a = slope g a := by
  have h := grad_eq g 1 a
  rwa [EReal.coe_one, one_mul, one_mul] at h

/-- An entry of an array whose absolute values compare below infinity is a real number. -/
theorem real_of_lt {x : EReal} (h : Ideal.cmp .olt (max x (-x)) (Ideal.ofBits .f32 0x7F800000#32) = 1#1) : ∃ a : ℝ, x = a := by
  have e : Ideal.ofBits .f32 0x7F800000#32 = ⊤ := by simp [Ideal.ofBits, Ideal.ieee]
  rw [e] at h
  induction x using EReal.rec with
  | bot => simp [Ideal.cmp] at h
  | coe r => exact ⟨r, rfl⟩
  | top => simp [Ideal.cmp] at h

/-- The product of two real numbers is a real number. -/
theorem real_mul {x y : EReal} (hx : ∃ a : ℝ, x = a) (hy : ∃ a : ℝ, y = a) : ∃ a : ℝ, x * y = a := by
  obtain ⟨a, rfl⟩ := hx
  obtain ⟨b, rfl⟩ := hy
  exact ⟨a * b, (EReal.coe_mul a b).symm⟩

/-- A finite sum of real numbers is a real number. -/
theorem real_sum {n : Nat} (f : Fin n → EReal) (hf : ∀ k, ∃ a : ℝ, f k = a) : ∃ a : ℝ, ∑ k, f k = a := by
  refine Finset.sum_induction f (fun x => ∃ a : ℝ, x = a) ?_ ⟨0, rfl⟩ fun k _ => hf k
  rintro _ _ ⟨a, rfl⟩ ⟨b, rfl⟩
  exact ⟨a + b, (EReal.coe_add a b).symm⟩

/-- The constant one half. -/
def half : EReal := Ideal.ofBits .f32 0x3F000000#32

theorem half_eq : half = ((1 / 2 : ℝ) : EReal) := by
  unfold half
  simp only [Ideal.ofBits, Ideal.ieee]
  simp
  rw [← EReal.coe_mul]
  norm_num

/-- The divisors of the optimiser's two moments, as quotients. -/
theorem literal_m : Ideal.ofBits .f32 0x3F26BD02#32 = ((5463681 / 8388608 : ℝ) : EReal) := by
  simp [Ideal.ofBits, Ideal.ieee, -EReal.coe_mul]; norm_num

theorem literal_v : Ideal.ofBits .f32 0x3C231ACC#32 = ((2672307 / 268435456 : ℝ) : EReal) := by
  simp [Ideal.ofBits, Ideal.ieee, -EReal.coe_mul]; norm_num

/-- One half may be multiplied into every term of a sum, whatever its terms are. -/
theorem half_sum {n : Nat} (f : Fin n → EReal) : half * ∑ k, f k = ∑ k, half * f k := by
  let φ : EReal →+ EReal :=
    { toFun := fun x => half * x
      map_zero' := mul_zero half
      map_add' := fun x y => EReal.left_distrib_of_nonneg_of_ne_top (by rw [half_eq]; exact_mod_cast (by norm_num : (0 : ℝ) ≤ 1 / 2))
        (by rw [half_eq]; exact EReal.coe_ne_top _) x y }
  exact map_sum φ f Finset.univ

end Cert.Proof.Ffn

end
-- ==== Proof.AdamPure.lean ====
/- The AdamW step of one element over the extended reals: the two moments, the step from the corrected moments, and the two
   corrections, which the reference does by a division and the kernel by a product with the divisor's reciprocal. -/
module

public import proofs.«01_k».proof.Proof.FfnPure
public import Idealize.ShloMosaic.Lib.Pointwise

@[expose] public section

noncomputable section

namespace Cert.Proof.Adam

open Idealize.ShloMosaic

/-- The new first moment for the gradient `g` and the first moment `m`. -/
def newM (g m : EReal) : EReal := Ideal.ofBits .f32 0x3F666666#32 * m + Ideal.ofBits .f32 0x3DCCCCCD#32 * g

/-- The new second moment for the gradient `g` and the second moment `v`. -/
def newV (g v : EReal) : EReal := Ideal.ofBits .f32 0x3F7FBE77#32 * v + Ideal.ofBits .f32 0x3A83126F#32 * (g * g)

/-- The step of the weight `w` from the corrected moments `x` and `y`. -/
def step (w x y : EReal) : EReal :=
  Ideal.ofBits .f32 0xBA83126F#32 * (Ideal.div x (Ideal.sqrt y + Ideal.ofBits .f32 0x322BCC77#32) + Ideal.ofBits .f32 0x3C23D70A#32 * w)

/-- The reciprocals that the kernel multiplies with. -/
def invM : EReal := ((8388608 / 5463681 : ℝ) : EReal)
def invV : EReal := ((268435456 / 2672307 : ℝ) : EReal)

/-- The step of the weight `w` for the gradient `g` and the moments `m` and `v`. -/
def delta (w g m v : EReal) : EReal := step w (newM g m * invM) (newV g v * invV)

/-- The correction of the first moment, as a division. -/
theorem div_m (s : EReal) : Ideal.div s (Ideal.ofBits .f32 0x3F26BD02#32) = s * invM := by
  rw [Ffn.literal_m, Ideal.div_coe (by norm_num), invM]
  norm_num

/-- The correction of the second moment, as a division. -/
theorem div_v (s : EReal) : Ideal.div s (Ideal.ofBits .f32 0x3C231ACC#32) = s * invV := by
  rw [Ffn.literal_v, Ideal.div_coe (by norm_num), invV]
  norm_num

end Cert.Proof.Adam

end
-- ==== Proof.AdamFfn.lean ====
/- The optimiser's call for a feed-forward half's down weight, whose gradient lies in four blocks of 344 rows that are padded to 352: at every
   point of the grid of 4 × 2 the new moments and the step of one block of 344 rows and 1024 columns. The reference divides by the
   moments' corrections; the kernel multiplies with their reciprocals. -/
module

public import proofs.«01_k».proof.Defs
public import proofs.«01_k».proof.Proof.AdamPure
public import proofs.«01_k».proof.Proof.Gen.AdamFfnIdeal.Value
public import proofs.«01_k».proof.Proof.Gen.AdamFfnRefIdeal.Run
public import proofs.«01_k».proof.Proof.Gen.AdamFfnRefIdeal.Read
public import Idealize.ShloMosaic.Lib.Pointwise
public import Idealize.ShloMosaic.Lib.Pipeline.ValueKit
public import Idealize.ShloMosaic.Lib.Claim

@[expose] public section

set_option maxRecDepth 16384

noncomputable section

namespace Cert.Proof.AdamFfn

open Cert.AdamFfnIdeal Cert.AdamFfnIdeal.Gen Idealize.ShloMosaic Idealize.ShloMosaic.TcCoe Idealize.SL.Sem

theorem inv_m : Named.named (F := Ideal) κ "inv_m" (φ := .f32) 0x3FC48605#32 = Adam.invM :=
  IdealRules.named_const.ideal_named_scalar _ _ _ _ rfl

theorem inv_v : Named.named (F := Ideal) κ "inv_v" (φ := .f32) 0x42C8E6D3#32 = Adam.invV :=
  IdealRules.named_const.ideal_named_scalar _ _ _ _ rfl

/-- The two constants that the idealisation names are the reciprocals. -/
theorem preserves : Cert.preserves_AdamFfn_AdamFfnIdeal :=
  ⟨IdealRules.named_const.statement κ "inv_m" .f32 0x3FC48605#32 ((8388608 / 5463681 : ℝ) : EReal) rfl,
    IdealRules.named_const.statement κ "inv_v" .f32 0x42C8E6D3#32 ((268435456 / 2672307 : ℝ) : EReal) rfl⟩

section Block
variable (w : Vec Ideal S344x1024 .f32) (g : Vec Ideal S352x1024 .f32) (m v : Vec Ideal S344x1024 .f32) (r : Fin 344) (l : Fin 1024)

/-- The row of the padded block. -/
def under (r : Fin 344) : Fin 352 := ⟨r.val, by omega⟩

theorem payload1 : k0_pay1 g (ix2 r l) = g (ix2 (under r) l) := by
  pointwise [k0_pay1, under]

theorem payload2 : k0_pay2 g m (ix2 r l) = Adam.newM (g (ix2 (under r) l)) (m (ix2 r l)) := by
  unfold Adam.newM
  simp only [← payload1]
  pointwise [k0_pay2]

theorem payload3 : k0_pay3 g v (ix2 r l) = Adam.newV (g (ix2 (under r) l)) (v (ix2 r l)) := by
  unfold Adam.newV
  simp only [← payload1]
  pointwise [k0_pay3]

theorem payload4 : k0_pay4 w g m v (ix2 r l) = Adam.delta (w (ix2 r l)) (g (ix2 (under r) l)) (m (ix2 r l)) (v (ix2 r l)) := by
  unfold Adam.delta Adam.step
  rw [← payload2, ← payload3, ← inv_m, ← inv_v]
  pointwise [k0_pay4]

end Block

section Reference
open Cert.AdamFfnRefIdeal.Read
variable (w g m v : FVec Ideal S1376x2048 .f32) (y : S1376x2048.Idx)

theorem ref_m : val_main_v4 (F := Ideal) g m y = Adam.newM (g y) (m y) := rfl

theorem ref_v : val_main_v10 (F := Ideal) g v y = Adam.newV (g y) (v y) := rfl

theorem ref_delta : val_main_v23 (F := Ideal) w g m v y = Adam.delta (w y) (g y) (m y) (v y) := by
  unfold Adam.delta
  rw [← Adam.div_m, ← Adam.div_v]
  rfl

end Reference

variable (m : (ℓ : Loc nD τ sig) → Buf (Elt Ideal) ℓ)

theorem idx : ∀ t : Fin cfg0.N, win0_0.index t = ![t.val / 2, t.val % 2]
    ∧ win0_1.index t = ![t.val / 2, t.val % 2]
    ∧ win0_2.index t = ![t.val / 2, t.val % 2]
    ∧ win0_3.index t = ![t.val / 2, t.val % 2]
    ∧ win0_4.index t = ![t.val / 2, t.val % 2]
    ∧ win0_5.index t = ![t.val / 2, t.val % 2]
    ∧ win0_6.index t = ![t.val / 2, t.val % 2]
    ∧ win0_7.index t = ![t.val / 2, t.val % 2] :=
  (by decide +kernel : ∀ t : Fin grid0.N, _)

theorem lt8 (t : Fin cfg0.N) : t.val < 8 := t.isLt

/-- The row and the column of the whole arrays under row `r` and column `l` of point `t`'s block. -/
def row (t : Fin cfg0.N) (r : Fin 344) : Fin 1376 := ⟨t.val / 2 * 344 + r.val, by have := lt8 t; omega⟩
def col (t : Fin cfg0.N) (l : Fin 1024) : Fin 2048 := ⟨t.val % 2 * 1024 + l.val, by omega⟩

abbrev W (c : Dev nD) : FVec Ideal S1376x2048 .f32 := m (c, Proc.tc.devRef main_arg0)
abbrev G (c : Dev nD) : FVec Ideal S1376x2048 .f32 := m (c, Proc.tc.devRef main_arg1)
abbrev M (c : Dev nD) : FVec Ideal S1376x2048 .f32 := m (c, Proc.tc.devRef main_arg2)
abbrev U (c : Dev nD) : FVec Ideal S1376x2048 .f32 := m (c, Proc.tc.devRef main_arg3)

/-- The gradient as the kernel's host code lays it out: four blocks of 344 rows, to each of which eight rows of zeros are joined. -/
def joined (a : FVec Ideal S4x344x2048 .f32) (z : FVec Ideal S4x8x2048 .f32) : FVec Ideal S1408x2048 .f32 :=
  shapeCast S1408x2048 (concatenate S4x352x2048 1 [⟨S4x344x2048, a⟩, ⟨S4x8x2048, z⟩] concatenates_S4x344x2048_S4x8x2048_S4x352x2048_d1)
    shapeCasts_S4x352x2048_S1408x2048

def padded (g : FVec Ideal S1376x2048 .f32) : FVec Ideal S1408x2048 .f32 :=
  joined (shapeCast S4x344x2048 g shapeCasts_S1376x2048_S4x344x2048)
    (broadcastInDim S4x8x2048 ![] bcast_S_S4x8x2048 (constant S_ .f32 0x00000000#32))

/-- The row of the padded gradient under row `r` of the blocks of a point. -/
def prow (t : Fin cfg0.N) (r : Fin 344) : Fin 1408 := ⟨t.val / 2 * 352 + r.val, by have := lt8 t; omega⟩

theorem padded_apply (g : FVec Ideal S1376x2048 .f32) (t : Fin cfg0.N) (r : Fin 344) (l : Fin 2048) :
    padded g (ix2 (prow t r) l) = g (ix2 (row t r) l) := by
  pointwise [padded, joined, prow, row]
  rw [dif_pos (by omega)]
  exact congrArg (fun k => g (ix2 k l)) (Fin.ext (by dsimp only; omega))

open StableHlo in
theorem V_G (c : Dev nD) : V m c main_v3 = padded (G m c) := by
  show StableHlo.after _ _ _ = _
  after_results_simp
  refine congrArg₂ joined ?_ ?_ <;> after_results_simp <;> rfl

section
variable (c : Dev nD) (t : Fin cfg0.N) (r : Fin 344) (l : Fin 1024)

theorem blk0 : iblk m c 0 t (ix2 r l) = W m c (ix2 (row t r) (col t l)) := by blk_ext [iblk, idx t, row, col]

theorem blk1 : iblk m c 1 t (ix2 (under r) l) = G m c (ix2 (row t r) (col t l)) := by
  have e : iblk m c 1 t (ix2 (under r) l) = V m c main_v3 (ix2 (prow t r) (col t l)) := by blk_ext [iblk, idx t, prow, under, col]
  rw [e, V_G, padded_apply]

theorem blk2 : iblk m c 2 t (ix2 r l) = M m c (ix2 (row t r) (col t l)) := by blk_ext [iblk, idx t, row, col]

theorem blk3 : iblk m c 3 t (ix2 r l) = U m c (ix2 (row t r) (col t l)) := by blk_ext [iblk, idx t, row, col]

end

theorem ix2_of (y : S344x1024.Idx) : ∃ (r : Fin 344) (l : Fin 1024), y = ix2 r l := ⟨y 0, y 1, by funext i; fin_cases i <;> rfl⟩

/-- The first result is the gradient. -/
theorem gradient (c : Dev nD) : (dats m 0 c).arrAt 4 cfg0.N
    = G m c := by
  refine (dats m 0 c).arrAt_eq_of_covers 4 _ (by decide +kernel) fun t hf y => ?_
  blk_simp
  rw [after0_4]
  frame_out
  obtain ⟨r, l, rfl⟩ := ix2_of y
  have e : ((View.whole main_v4_0).slice (win0_4.rect t)).emb (ix2 r l) = (ix2 (row t r) (col t l)) := by blk_ext [idx t, row, col]
  rw [e]
  exact (payload1 _ r l).trans (blk1 m c t r l)

/-- The weight's step. -/
theorem delta (c : Dev nD) : (dats m 0 c).arrAt 5 cfg0.N
    = Cert.AdamFfnRefIdeal.Read.val_main_v23 (F := Ideal) (W m c) (G m c) (M m c) (U m c) := by
  refine (dats m 0 c).arrAt_eq_of_covers 5 _ (by decide +kernel) fun t hf y => ?_
  blk_simp
  rw [after0_5]
  frame_out
  obtain ⟨r, l, rfl⟩ := ix2_of y
  have e : ((View.whole main_v4_1).slice (win0_5.rect t)).emb (ix2 r l) = (ix2 (row t r) (col t l)) := by blk_ext [idx t, row, col]
  rw [e]
  refine Eq.trans (payload4 _ _ _ _ r l) (Eq.trans ?_ (ref_delta _ _ _ _ _).symm)
  rw [blk0 m c t r l, blk1 m c t r l, blk2 m c t r l, blk3 m c t r l]

/-- The new first moment. -/
theorem moment1 (c : Dev nD) : (dats m 0 c).arrAt 6 cfg0.N
    = Cert.AdamFfnRefIdeal.Read.val_main_v4 (F := Ideal) (G m c) (M m c) := by
  refine (dats m 0 c).arrAt_eq_of_covers 6 _ (by decide +kernel) fun t hf y => ?_
  blk_simp
  rw [after0_6]
  frame_out
  obtain ⟨r, l, rfl⟩ := ix2_of y
  have e : ((View.whole main_v4_2).slice (win0_6.rect t)).emb (ix2 r l) = (ix2 (row t r) (col t l)) := by blk_ext [idx t, row, col]
  rw [e]
  refine Eq.trans (payload2 _ _ r l) (Eq.trans ?_ (ref_m _ _ _).symm)
  rw [blk1 m c t r l, blk2 m c t r l]

/-- The new second moment. -/
theorem moment2 (c : Dev nD) : (dats m 0 c).arrAt 7 cfg0.N
    = Cert.AdamFfnRefIdeal.Read.val_main_v10 (F := Ideal) (G m c) (U m c) := by
  refine (dats m 0 c).arrAt_eq_of_covers 7 _ (by decide +kernel) fun t hf y => ?_
  blk_simp
  rw [after0_7]
  frame_out
  obtain ⟨r, l, rfl⟩ := ix2_of y
  have e : ((View.whole main_v4_3).slice (win0_7.rect t)).emb (ix2 r l) = (ix2 (row t r) (col t l)) := by blk_ext [idx t, row, col]
  rw [e]
  refine Eq.trans (payload3 _ _ r l) (Eq.trans ?_ (ref_v _ _ _).symm)
  rw [blk1 m c t r l, blk3 m c t r l]

/-- The reference never faults and leaves its arguments. -/
theorem frame_ref : Cert.quiescent_AdamFfnRefIdeal (hAdamFfnRefIdeal := Cert.AdamFfnRefIdeal.Gen.facts) := by
  intro m ρ _
  exact (θ_run _ _ _).mono (fun r h => ⟨fun c => (h c).2.2.2.2, sem_eq_zero_of_no_sems (by decide) _⟩) (Cert.AdamFfnRefIdeal.Value.run m ρ)

/-- From equal arguments the call and its reference end with equal results. -/
theorem algebraic : Cert.algebraic_AdamFfnIdeal_AdamFfnRefIdeal (hAdamFfnIdeal := Cert.AdamFfnIdeal.Gen.facts)
    (hAdamFfnRefIdeal := Cert.AdamFfnRefIdeal.Gen.facts) := by
  pair_intro
  · run_from Cert.AdamFfnIdeal.Value.run_blocks (F := Ideal) m g
  · run_from Cert.AdamFfnRefIdeal.Value.run (F := Ideal) m' g'
    · rw [gradient]
    · rw [delta]
      exact Cert.AdamFfnRefIdeal.Read.val_main_v23_eq (F := Ideal) _ _ _ _
    · rw [moment1]
      exact Cert.AdamFfnRefIdeal.Read.val_main_v4_eq (F := Ideal) _ _
    · rw [moment2]
      exact Cert.AdamFfnRefIdeal.Read.val_main_v10_eq (F := Ideal) _ _

end Cert.Proof.AdamFfn

end
-- ==== Proof.AdamFfnT.lean ====
/- The optimiser's call for a feed-forward half's gate or up weight, on the transposed arrays; the gradient lies in four blocks of 344 rows that are
   padded to 352. Every point of the grid of 4 × 2 computes the new moments and the step of one block of 344 rows and 1024 columns.
   The reference divides by the moments' corrections; the kernel multiplies with their reciprocals. -/
module

public import proofs.«01_k».proof.Defs
public import proofs.«01_k».proof.Proof.AdamPure
public import proofs.«01_k».proof.Proof.Gen.AdamFfnTIdeal.Value
public import proofs.«01_k».proof.Proof.Gen.AdamFfnTRefIdeal.Run
public import proofs.«01_k».proof.Proof.Gen.AdamFfnTRefIdeal.Read
public import Idealize.ShloMosaic.Lib.Pointwise
public import Idealize.ShloMosaic.Lib.Pipeline.ValueKit
public import Idealize.ShloMosaic.Lib.Claim

@[expose] public section

set_option maxRecDepth 16384

noncomputable section

namespace Cert.Proof.AdamFfnT

open Cert.AdamFfnTIdeal Cert.AdamFfnTIdeal.Gen Idealize.ShloMosaic Idealize.ShloMosaic.TcCoe Idealize.SL.Sem

theorem inv_m : Named.named (F := Ideal) κ "inv_m" (φ := .f32) 0x3FC48605#32 = Adam.invM :=
  IdealRules.named_const.ideal_named_scalar _ _ _ _ rfl

theorem inv_v : Named.named (F := Ideal) κ "inv_v" (φ := .f32) 0x42C8E6D3#32 = Adam.invV :=
  IdealRules.named_const.ideal_named_scalar _ _ _ _ rfl

/-- The two constants that the idealisation names are the reciprocals. -/
theorem preserves : Cert.preserves_AdamFfnT_AdamFfnTIdeal :=
  ⟨IdealRules.named_const.statement κ "inv_m" .f32 0x3FC48605#32 ((8388608 / 5463681 : ℝ) : EReal) rfl,
    IdealRules.named_const.statement κ "inv_v" .f32 0x42C8E6D3#32 ((268435456 / 2672307 : ℝ) : EReal) rfl⟩

section Block
variable (w : Vec Ideal S344x1024 .f32) (g : Vec Ideal S352x1024 .f32) (m v : Vec Ideal S344x1024 .f32) (r : Fin 344) (l : Fin 1024)

/-- The row of the padded block. -/
def under (r : Fin 344) : Fin 352 := ⟨r.val, by omega⟩

theorem payload1 : k0_pay1 g (ix2 r l) = g (ix2 (under r) l) := by
  pointwise [k0_pay1, under]

theorem payload2 : k0_pay2 g m (ix2 r l) = Adam.newM (g (ix2 (under r) l)) (m (ix2 r l)) := by
  unfold Adam.newM
  simp only [← payload1]
  pointwise [k0_pay2]

theorem payload3 : k0_pay3 g v (ix2 r l) = Adam.newV (g (ix2 (under r) l)) (v (ix2 r l)) := by
  unfold Adam.newV
  simp only [← payload1]
  pointwise [k0_pay3]

theorem payload4 : k0_pay4 w g m v (ix2 r l) = Adam.delta (w (ix2 r l)) (g (ix2 (under r) l)) (m (ix2 r l)) (v (ix2 r l)) := by
  unfold Adam.delta Adam.step
  rw [← payload2, ← payload3, ← inv_m, ← inv_v]
  pointwise [k0_pay4]

end Block

section Reference
open Cert.AdamFfnTRefIdeal.Read
variable (w g m v : FVec Ideal S2048x1376 .f32) (y : S2048x1376.Idx)

theorem ref_m : val_main_v4 (F := Ideal) g m y = Adam.newM (g y) (m y) := rfl

theorem ref_v : val_main_v10 (F := Ideal) g v y = Adam.newV (g y) (v y) := rfl

theorem ref_delta : val_main_v23 (F := Ideal) w g m v y = Adam.delta (w y) (g y) (m y) (v y) := by
  unfold Adam.delta
  rw [← Adam.div_m, ← Adam.div_v]
  rfl

variable (r : Fin 1376) (l : Fin 2048)

theorem turned_g : val_main_v24 (F := Ideal) g (ix2 r l) = g (ix2 l r) := by
  simp only [val_main_v24]
  pointwise

theorem turned_delta : val_main_v25 (F := Ideal) w g m v (ix2 r l)
    = Adam.delta (w (ix2 l r)) (g (ix2 l r)) (m (ix2 l r)) (v (ix2 l r)) := by
  rw [← ref_delta]
  simp only [val_main_v25]
  generalize val_main_v23 (F := Ideal) w g m v = x
  pointwise

theorem turned_m : val_main_v26 (F := Ideal) g m (ix2 r l) = Adam.newM (g (ix2 l r)) (m (ix2 l r)) := by
  rw [← ref_m]
  simp only [val_main_v26]
  generalize val_main_v4 (F := Ideal) g m = x
  pointwise

theorem turned_v : val_main_v27 (F := Ideal) g v (ix2 r l) = Adam.newV (g (ix2 l r)) (v (ix2 l r)) := by
  rw [← ref_v]
  simp only [val_main_v27]
  generalize val_main_v10 (F := Ideal) g v = x
  pointwise

end Reference

variable (m : (ℓ : Loc nD τ sig) → Buf (Elt Ideal) ℓ)

theorem idx : ∀ t : Fin cfg0.N, win0_0.index t = ![t.val / 2, t.val % 2]
    ∧ win0_1.index t = ![t.val / 2, t.val % 2]
    ∧ win0_2.index t = ![t.val / 2, t.val % 2]
    ∧ win0_3.index t = ![t.val / 2, t.val % 2]
    ∧ win0_4.index t = ![t.val / 2, t.val % 2]
    ∧ win0_5.index t = ![t.val / 2, t.val % 2]
    ∧ win0_6.index t = ![t.val / 2, t.val % 2]
    ∧ win0_7.index t = ![t.val / 2, t.val % 2] :=
  (by decide +kernel : ∀ t : Fin grid0.N, _)

theorem lt8 (t : Fin cfg0.N) : t.val < 8 := t.isLt

/-- The row and the column of the whole arrays under row `r` and column `l` of point `t`'s block. -/
def row (t : Fin cfg0.N) (r : Fin 344) : Fin 1376 := ⟨t.val / 2 * 344 + r.val, by have := lt8 t; omega⟩
def col (t : Fin cfg0.N) (l : Fin 1024) : Fin 2048 := ⟨t.val % 2 * 1024 + l.val, by omega⟩

abbrev W (c : Dev nD) : FVec Ideal S2048x1376 .f32 := m (c, Proc.tc.devRef main_arg0)
abbrev G (c : Dev nD) : FVec Ideal S2048x1376 .f32 := m (c, Proc.tc.devRef main_arg1)
abbrev M (c : Dev nD) : FVec Ideal S2048x1376 .f32 := m (c, Proc.tc.devRef main_arg2)
abbrev U (c : Dev nD) : FVec Ideal S2048x1376 .f32 := m (c, Proc.tc.devRef main_arg3)

/-- An array with rows and columns exchanged. -/
def turned (x : FVec Ideal S2048x1376 .f32) : FVec Ideal S1376x2048 .f32 := transpose S1376x2048 [1, 0] x transposes_S2048x1376_S1376x2048_1_0

theorem turned_apply (x : FVec Ideal S2048x1376 .f32) (r : Fin 1376) (l : Fin 2048) : turned x (ix2 r l) = x (ix2 l r) := by
  pointwise [turned]

/-- The gradient as the kernel's host code lays it out: four blocks of 344 rows, to each of which eight rows of zeros are joined. -/
def joined (a : FVec Ideal S4x344x2048 .f32) (z : FVec Ideal S4x8x2048 .f32) : FVec Ideal S1408x2048 .f32 :=
  shapeCast S1408x2048 (concatenate S4x352x2048 1 [⟨S4x344x2048, a⟩, ⟨S4x8x2048, z⟩] concatenates_S4x344x2048_S4x8x2048_S4x352x2048_d1)
    shapeCasts_S4x352x2048_S1408x2048

def padded (g : FVec Ideal S1376x2048 .f32) : FVec Ideal S1408x2048 .f32 :=
  joined (shapeCast S4x344x2048 g shapeCasts_S1376x2048_S4x344x2048)
    (broadcastInDim S4x8x2048 ![] bcast_S_S4x8x2048 (constant S_ .f32 0x00000000#32))

/-- The row of the padded gradient under row `r` of the blocks of a point. -/
def prow (t : Fin cfg0.N) (r : Fin 344) : Fin 1408 := ⟨t.val / 2 * 352 + r.val, by have := lt8 t; omega⟩

theorem padded_apply (g : FVec Ideal S1376x2048 .f32) (t : Fin cfg0.N) (r : Fin 344) (l : Fin 2048) :
    padded g (ix2 (prow t r) l) = g (ix2 (row t r) l) := by
  pointwise [padded, joined, prow, row]
  rw [dif_pos (by omega)]
  exact congrArg (fun k => g (ix2 k l)) (Fin.ext (by dsimp only; omega))

open StableHlo in
theorem V_W (c : Dev nD) : V m c main_v0 = turned (W m c) := by
  show StableHlo.after _ _ _ = _
  after_results_simp <;> rfl

open StableHlo in
theorem V_M (c : Dev nD) : V m c main_v2 = turned (M m c) := by
  show StableHlo.after _ _ _ = _
  after_results_simp <;> rfl

open StableHlo in
theorem V_U (c : Dev nD) : V m c main_v3 = turned (U m c) := by
  show StableHlo.after _ _ _ = _
  after_results_simp <;> rfl

open StableHlo in
theorem V_G (c : Dev nD) : V m c main_v7 = padded (turned (G m c)) := by
  show StableHlo.after _ _ _ = _
  after_results_simp
  refine congrArg₂ joined ?_ ?_ <;> after_results_simp <;> rfl

section
variable (c : Dev nD) (t : Fin cfg0.N) (r : Fin 344) (l : Fin 1024)

theorem blk0 : iblk m c 0 t (ix2 r l) = W m c (ix2 (col t l) (row t r)) := by
  have e : iblk m c 0 t (ix2 r l) = V m c main_v0 (ix2 (row t r) (col t l)) := by blk_ext [iblk, idx t, row, col]
  rw [e, V_W, turned_apply]

theorem blk1 : iblk m c 1 t (ix2 (under r) l) = G m c (ix2 (col t l) (row t r)) := by
  have e : iblk m c 1 t (ix2 (under r) l) = V m c main_v7 (ix2 (prow t r) (col t l)) := by blk_ext [iblk, idx t, prow, under, col]
  rw [e, V_G, padded_apply, turned_apply]

theorem blk2 : iblk m c 2 t (ix2 r l) = M m c (ix2 (col t l) (row t r)) := by
  have e : iblk m c 2 t (ix2 r l) = V m c main_v2 (ix2 (row t r) (col t l)) := by blk_ext [iblk, idx t, row, col]
  rw [e, V_M, turned_apply]

theorem blk3 : iblk m c 3 t (ix2 r l) = U m c (ix2 (col t l) (row t r)) := by
  have e : iblk m c 3 t (ix2 r l) = V m c main_v3 (ix2 (row t r) (col t l)) := by blk_ext [iblk, idx t, row, col]
  rw [e, V_U, turned_apply]

end

theorem ix2_of (y : S344x1024.Idx) : ∃ (r : Fin 344) (l : Fin 1024), y = ix2 r l := ⟨y 0, y 1, by funext i; fin_cases i <;> rfl⟩

/-- The first result is the gradient. -/
theorem gradient (c : Dev nD) : (dats m 0 c).arrAt 4 cfg0.N
    = Cert.AdamFfnTRefIdeal.Read.val_main_v24 (F := Ideal) (G m c) := by
  refine (dats m 0 c).arrAt_eq_of_covers 4 _ (by decide +kernel) fun t hf y => ?_
  blk_simp
  rw [after0_4]
  frame_out
  obtain ⟨r, l, rfl⟩ := ix2_of y
  have e : ((View.whole main_v8_0).slice (win0_4.rect t)).emb (ix2 r l) = (ix2 (row t r) (col t l)) := by blk_ext [idx t, row, col]
  rw [e]
  refine Eq.trans (payload1 _ r l) (Eq.trans ?_ (turned_g _ _ _).symm)
  rw [blk1 m c t r l]

/-- The weight's step. -/
theorem delta (c : Dev nD) : (dats m 0 c).arrAt 5 cfg0.N
    = Cert.AdamFfnTRefIdeal.Read.val_main_v25 (F := Ideal) (W m c) (G m c) (M m c) (U m c) := by
  refine (dats m 0 c).arrAt_eq_of_covers 5 _ (by decide +kernel) fun t hf y => ?_
  blk_simp
  rw [after0_5]
  frame_out
  obtain ⟨r, l, rfl⟩ := ix2_of y
  have e : ((View.whole main_v8_1).slice (win0_5.rect t)).emb (ix2 r l) = (ix2 (row t r) (col t l)) := by blk_ext [idx t, row, col]
  rw [e]
  refine Eq.trans (payload4 _ _ _ _ r l) (Eq.trans ?_ (turned_delta _ _ _ _ _ _).symm)
  rw [blk0 m c t r l, blk1 m c t r l, blk2 m c t r l, blk3 m c t r l]

/-- The new first moment. -/
theorem moment1 (c : Dev nD) : (dats m 0 c).arrAt 6 cfg0.N
    = Cert.AdamFfnTRefIdeal.Read.val_main_v26 (F := Ideal) (G m c) (M m c) := by
  refine (dats m 0 c).arrAt_eq_of_covers 6 _ (by decide +kernel) fun t hf y => ?_
  blk_simp
  rw [after0_6]
  frame_out
  obtain ⟨r, l, rfl⟩ := ix2_of y
  have e : ((View.whole main_v8_2).slice (win0_6.rect t)).emb (ix2 r l) = (ix2 (row t r) (col t l)) := by blk_ext [idx t, row, col]
  rw [e]
  refine Eq.trans (payload2 _ _ r l) (Eq.trans ?_ (turned_m _ _ _ _).symm)
  rw [blk1 m c t r l, blk2 m c t r l]

/-- The new second moment. -/
theorem moment2 (c : Dev nD) : (dats m 0 c).arrAt 7 cfg0.N
    = Cert.AdamFfnTRefIdeal.Read.val_main_v27 (F := Ideal) (G m c) (U m c) := by
  refine (dats m 0 c).arrAt_eq_of_covers 7 _ (by decide +kernel) fun t hf y => ?_
  blk_simp
  rw [after0_7]
  frame_out
  obtain ⟨r, l, rfl⟩ := ix2_of y
  have e : ((View.whole main_v8_3).slice (win0_7.rect t)).emb (ix2 r l) = (ix2 (row t r) (col t l)) := by blk_ext [idx t, row, col]
  rw [e]
  refine Eq.trans (payload3 _ _ r l) (Eq.trans ?_ (turned_v _ _ _ _).symm)
  rw [blk1 m c t r l, blk3 m c t r l]

/-- The reference never faults and leaves its arguments. -/
theorem frame_ref : Cert.quiescent_AdamFfnTRefIdeal (hAdamFfnTRefIdeal := Cert.AdamFfnTRefIdeal.Gen.facts) := by
  intro m ρ _
  exact (θ_run _ _ _).mono (fun r h => ⟨fun c => (h c).2.2.2.2, sem_eq_zero_of_no_sems (by decide) _⟩) (Cert.AdamFfnTRefIdeal.Value.run m ρ)

/-- From equal arguments the call and its reference end with equal results. -/
theorem algebraic : Cert.algebraic_AdamFfnTIdeal_AdamFfnTRefIdeal (hAdamFfnTIdeal := Cert.AdamFfnTIdeal.Gen.facts)
    (hAdamFfnTRefIdeal := Cert.AdamFfnTRefIdeal.Gen.facts) := by
  pair_intro
  · run_from Cert.AdamFfnTIdeal.Value.run_blocks (F := Ideal) m g
  · run_from Cert.AdamFfnTRefIdeal.Value.run (F := Ideal) m' g'
    · rw [gradient]
      exact Cert.AdamFfnTRefIdeal.Read.val_main_v24_eq (F := Ideal) _
    · rw [delta]
      exact Cert.AdamFfnTRefIdeal.Read.val_main_v25_eq (F := Ideal) _ _ _ _
    · rw [moment1]
      exact Cert.AdamFfnTRefIdeal.Read.val_main_v26_eq (F := Ideal) _ _
    · rw [moment2]
      exact Cert.AdamFfnTRefIdeal.Read.val_main_v27_eq (F := Ideal) _ _

end Cert.Proof.AdamFfnT

end
-- ==== Proof.AdamGlu.lean ====
/- The optimiser's call for the S5 branch's gate weight: at every point of its 1 × 1 grid the new moments and the step of one block of 256 rows and 1024
   columns. The reference divides by the moments' corrections; the kernel multiplies with their reciprocals. -/
module

public import proofs.«01_k».proof.Defs
public import proofs.«01_k».proof.Proof.AdamPure
public import proofs.«01_k».proof.Proof.Gen.AdamGluIdeal.Value
public import proofs.«01_k».proof.Proof.Gen.AdamGluRefIdeal.Run
public import proofs.«01_k».proof.Proof.Gen.AdamGluRefIdeal.Read
public import Idealize.ShloMosaic.Lib.Pointwise
public import Idealize.ShloMosaic.Lib.Pipeline.ValueKit
public import Idealize.ShloMosaic.Lib.Claim

@[expose] public section

set_option maxRecDepth 16384

noncomputable section

namespace Cert.Proof.AdamGlu

open Cert.AdamGluIdeal Cert.AdamGluIdeal.Gen Idealize.ShloMosaic Idealize.ShloMosaic.TcCoe Idealize.SL.Sem

theorem inv_m : Named.named (F := Ideal) κ "inv_m" (φ := .f32) 0x3FC48605#32 = Adam.invM :=
  IdealRules.named_const.ideal_named_scalar _ _ _ _ rfl

theorem inv_v : Named.named (F := Ideal) κ "inv_v" (φ := .f32) 0x42C8E6D3#32 = Adam.invV :=
  IdealRules.named_const.ideal_named_scalar _ _ _ _ rfl

/-- The two constants that the idealisation names are the reciprocals. -/
theorem preserves : Cert.preserves_AdamGlu_AdamGluIdeal :=
  ⟨IdealRules.named_const.statement κ "inv_m" .f32 0x3FC48605#32 ((8388608 / 5463681 : ℝ) : EReal) rfl,
    IdealRules.named_const.statement κ "inv_v" .f32 0x42C8E6D3#32 ((268435456 / 2672307 : ℝ) : EReal) rfl⟩

section Block
variable (w g m v : Vec Ideal S256x1024 .f32) (y : S256x1024.Idx)

theorem payload1 : k0_pay1 g m y = Adam.newM (g y) (m y) := rfl

theorem payload2 : k0_pay2 g v y = Adam.newV (g y) (v y) := rfl

theorem payload3 : k0_pay3 w g m v y = Adam.delta (w y) (g y) (m y) (v y) := by
  unfold Adam.delta
  rw [← inv_m, ← inv_v]
  rfl

end Block

section Reference
open Cert.AdamGluRefIdeal.Read
variable (w g m v : FVec Ideal S256x1024 .f32) (y : S256x1024.Idx)

theorem ref_m : val_main_v4 (F := Ideal) g m y = Adam.newM (g y) (m y) := rfl

theorem ref_v : val_main_v10 (F := Ideal) g v y = Adam.newV (g y) (v y) := rfl

theorem ref_delta : val_main_v23 (F := Ideal) w g m v y = Adam.delta (w y) (g y) (m y) (v y) := by
  unfold Adam.delta
  rw [← Adam.div_m, ← Adam.div_v]
  rfl

end Reference

variable (m : (ℓ : Loc nD τ sig) → Buf (Elt Ideal) ℓ)

theorem idx : ∀ t : Fin cfg0.N, win0_0.index t = ![t.val / 1, t.val % 1]
    ∧ win0_1.index t = ![t.val / 1, t.val % 1]
    ∧ win0_2.index t = ![t.val / 1, t.val % 1]
    ∧ win0_3.index t = ![t.val / 1, t.val % 1]
    ∧ win0_4.index t = ![t.val / 1, t.val % 1]
    ∧ win0_5.index t = ![t.val / 1, t.val % 1]
    ∧ win0_6.index t = ![t.val / 1, t.val % 1]
    ∧ win0_7.index t = ![t.val / 1, t.val % 1] :=
  (by decide +kernel : ∀ t : Fin grid0.N, _)

theorem lt1 (t : Fin cfg0.N) : t.val < 1 := t.isLt

/-- The row and the column of the whole arrays under row `r` and column `l` of point `t`'s block. -/
def row (t : Fin cfg0.N) (r : Fin 256) : Fin 256 := ⟨t.val / 1 * 256 + r.val, by have := lt1 t; omega⟩
def col (t : Fin cfg0.N) (l : Fin 1024) : Fin 1024 := ⟨t.val % 1 * 1024 + l.val, by omega⟩

abbrev W (c : Dev nD) : FVec Ideal S256x1024 .f32 := m (c, Proc.tc.devRef main_arg0)
abbrev G (c : Dev nD) : FVec Ideal S256x1024 .f32 := m (c, Proc.tc.devRef main_arg1)
abbrev M (c : Dev nD) : FVec Ideal S256x1024 .f32 := m (c, Proc.tc.devRef main_arg2)
abbrev U (c : Dev nD) : FVec Ideal S256x1024 .f32 := m (c, Proc.tc.devRef main_arg3)

section
variable (c : Dev nD) (t : Fin cfg0.N) (r : Fin 256) (l : Fin 1024)

theorem blk0 : iblk m c 0 t (ix2 r l) = W m c (ix2 (row t r) (col t l)) := by blk_ext [iblk, idx t, row, col]

theorem blk1 : iblk m c 1 t (ix2 r l) = G m c (ix2 (row t r) (col t l)) := by blk_ext [iblk, idx t, row, col]

theorem blk2 : iblk m c 2 t (ix2 r l) = M m c (ix2 (row t r) (col t l)) := by blk_ext [iblk, idx t, row, col]

theorem blk3 : iblk m c 3 t (ix2 r l) = U m c (ix2 (row t r) (col t l)) := by blk_ext [iblk, idx t, row, col]

end

theorem ix2_of (y : S256x1024.Idx) : ∃ (r : Fin 256) (l : Fin 1024), y = ix2 r l := ⟨y 0, y 1, by funext i; fin_cases i <;> rfl⟩

/-- The first result is the gradient. -/
theorem gradient (c : Dev nD) : (dats m 0 c).arrAt 4 cfg0.N
    = G m c := by
  refine (dats m 0 c).arrAt_eq_of_covers 4 _ (by decide +kernel) fun t hf y => ?_
  blk_simp
  rw [after0_4]
  frame_out
  obtain ⟨r, l, rfl⟩ := ix2_of y
  have e : ((View.whole main_v0_0).slice (win0_4.rect t)).emb (ix2 r l) = (ix2 (row t r) (col t l)) := by blk_ext [idx t, row, col]
  rw [e]
  exact blk1 m c t r l

/-- The weight's step. -/
theorem delta (c : Dev nD) : (dats m 0 c).arrAt 5 cfg0.N
    = Cert.AdamGluRefIdeal.Read.val_main_v23 (F := Ideal) (W m c) (G m c) (M m c) (U m c) := by
  refine (dats m 0 c).arrAt_eq_of_covers 5 _ (by decide +kernel) fun t hf y => ?_
  blk_simp
  rw [after0_5]
  frame_out
  obtain ⟨r, l, rfl⟩ := ix2_of y
  have e : ((View.whole main_v0_1).slice (win0_5.rect t)).emb (ix2 r l) = (ix2 (row t r) (col t l)) := by blk_ext [idx t, row, col]
  rw [e]
  refine Eq.trans (payload3 _ _ _ _ _) (Eq.trans ?_ (ref_delta _ _ _ _ _).symm)
  rw [blk0 m c t r l, blk1 m c t r l, blk2 m c t r l, blk3 m c t r l]

/-- The new first moment. -/
theorem moment1 (c : Dev nD) : (dats m 0 c).arrAt 6 cfg0.N
    = Cert.AdamGluRefIdeal.Read.val_main_v4 (F := Ideal) (G m c) (M m c) := by
  refine (dats m 0 c).arrAt_eq_of_covers 6 _ (by decide +kernel) fun t hf y => ?_
  blk_simp
  rw [after0_6]
  frame_out
  obtain ⟨r, l, rfl⟩ := ix2_of y
  have e : ((View.whole main_v0_2).slice (win0_6.rect t)).emb (ix2 r l) = (ix2 (row t r) (col t l)) := by blk_ext [idx t, row, col]
  rw [e]
  refine Eq.trans (payload1 _ _ _) (Eq.trans ?_ (ref_m _ _ _).symm)
  rw [blk1 m c t r l, blk2 m c t r l]

/-- The new second moment. -/
theorem moment2 (c : Dev nD) : (dats m 0 c).arrAt 7 cfg0.N
    = Cert.AdamGluRefIdeal.Read.val_main_v10 (F := Ideal) (G m c) (U m c) := by
  refine (dats m 0 c).arrAt_eq_of_covers 7 _ (by decide +kernel) fun t hf y => ?_
  blk_simp
  rw [after0_7]
  frame_out
  obtain ⟨r, l, rfl⟩ := ix2_of y
  have e : ((View.whole main_v0_3).slice (win0_7.rect t)).emb (ix2 r l) = (ix2 (row t r) (col t l)) := by blk_ext [idx t, row, col]
  rw [e]
  refine Eq.trans (payload2 _ _ _) (Eq.trans ?_ (ref_v _ _ _).symm)
  rw [blk1 m c t r l, blk3 m c t r l]

/-- The reference never faults and leaves its arguments. -/
theorem frame_ref : Cert.quiescent_AdamGluRefIdeal (hAdamGluRefIdeal := Cert.AdamGluRefIdeal.Gen.facts) := by
  intro m ρ _
  exact (θ_run _ _ _).mono (fun r h => ⟨fun c => (h c).2.2.2.2, sem_eq_zero_of_no_sems (by decide) _⟩) (Cert.AdamGluRefIdeal.Value.run m ρ)

/-- From equal arguments the call and its reference end with equal results. -/
theorem algebraic : Cert.algebraic_AdamGluIdeal_AdamGluRefIdeal (hAdamGluIdeal := Cert.AdamGluIdeal.Gen.facts)
    (hAdamGluRefIdeal := Cert.AdamGluRefIdeal.Gen.facts) := by
  pair_intro
  · run_from Cert.AdamGluIdeal.Value.run_blocks (F := Ideal) m g
  · run_from Cert.AdamGluRefIdeal.Value.run (F := Ideal) m' g'
    · rw [gradient]
    · rw [delta]
      exact Cert.AdamGluRefIdeal.Read.val_main_v23_eq (F := Ideal) _ _ _ _
    · rw [moment1]
      exact Cert.AdamGluRefIdeal.Read.val_main_v4_eq (F := Ideal) _ _
    · rw [moment2]
      exact Cert.AdamGluRefIdeal.Read.val_main_v10_eq (F := Ideal) _ _

end Cert.Proof.AdamGlu

end
-- ==== Proof.AdamIn.lean ====
/- The optimiser's call for the convolution and S5 branches' input weight: at every point of its 8 × 2 grid the new moments and the step of one block of 256 rows and 1024
   columns. The reference divides by the moments' corrections; the kernel multiplies with their reciprocals. -/
module

public import proofs.«01_k».proof.Defs
public import proofs.«01_k».proof.Proof.AdamPure
public import proofs.«01_k».proof.Proof.Gen.AdamInIdeal.Value
public import proofs.«01_k».proof.Proof.Gen.AdamInRefIdeal.Run
public import proofs.«01_k».proof.Proof.Gen.AdamInRefIdeal.Read
public import Idealize.ShloMosaic.Lib.Pointwise
public import Idealize.ShloMosaic.Lib.Pipeline.ValueKit
public import Idealize.ShloMosaic.Lib.Claim

@[expose] public section

set_option maxRecDepth 16384

noncomputable section

namespace Cert.Proof.AdamIn

open Cert.AdamInIdeal Cert.AdamInIdeal.Gen Idealize.ShloMosaic Idealize.ShloMosaic.TcCoe Idealize.SL.Sem

theorem inv_m : Named.named (F := Ideal) κ "inv_m" (φ := .f32) 0x3FC48605#32 = Adam.invM :=
  IdealRules.named_const.ideal_named_scalar _ _ _ _ rfl

theorem inv_v : Named.named (F := Ideal) κ "inv_v" (φ := .f32) 0x42C8E6D3#32 = Adam.invV :=
  IdealRules.named_const.ideal_named_scalar _ _ _ _ rfl

/-- The two constants that the idealisation names are the reciprocals. -/
theorem preserves : Cert.preserves_AdamIn_AdamInIdeal :=
  ⟨IdealRules.named_const.statement κ "inv_m" .f32 0x3FC48605#32 ((8388608 / 5463681 : ℝ) : EReal) rfl,
    IdealRules.named_const.statement κ "inv_v" .f32 0x42C8E6D3#32 ((268435456 / 2672307 : ℝ) : EReal) rfl⟩

section Block
variable (w g m v : Vec Ideal S256x1024 .f32) (y : S256x1024.Idx)

theorem payload1 : k0_pay1 g m y = Adam.newM (g y) (m y) := rfl

theorem payload2 : k0_pay2 g v y = Adam.newV (g y) (v y) := rfl

theorem payload3 : k0_pay3 w g m v y = Adam.delta (w y) (g y) (m y) (v y) := by
  unfold Adam.delta
  rw [← inv_m, ← inv_v]
  rfl

end Block

section Reference
open Cert.AdamInRefIdeal.Read
variable (w g m v : FVec Ideal S2048x2048 .f32) (y : S2048x2048.Idx)

theorem ref_m : val_main_v4 (F := Ideal) g m y = Adam.newM (g y) (m y) := rfl

theorem ref_v : val_main_v10 (F := Ideal) g v y = Adam.newV (g y) (v y) := rfl

theorem ref_delta : val_main_v23 (F := Ideal) w g m v y = Adam.delta (w y) (g y) (m y) (v y) := by
  unfold Adam.delta
  rw [← Adam.div_m, ← Adam.div_v]
  rfl

end Reference

variable (m : (ℓ : Loc nD τ sig) → Buf (Elt Ideal) ℓ)

theorem idx : ∀ t : Fin cfg0.N, win0_0.index t = ![t.val / 2, t.val % 2]
    ∧ win0_1.index t = ![t.val / 2, t.val % 2]
    ∧ win0_2.index t = ![t.val / 2, t.val % 2]
    ∧ win0_3.index t = ![t.val / 2, t.val % 2]
    ∧ win0_4.index t = ![t.val / 2, t.val % 2]
    ∧ win0_5.index t = ![t.val / 2, t.val % 2]
    ∧ win0_6.index t = ![t.val / 2, t.val % 2]
    ∧ win0_7.index t = ![t.val / 2, t.val % 2] :=
  (by decide +kernel : ∀ t : Fin grid0.N, _)

theorem lt16 (t : Fin cfg0.N) : t.val < 16 := t.isLt

/-- The row and the column of the whole arrays under row `r` and column `l` of point `t`'s block. -/
def row (t : Fin cfg0.N) (r : Fin 256) : Fin 2048 := ⟨t.val / 2 * 256 + r.val, by have := lt16 t; omega⟩
def col (t : Fin cfg0.N) (l : Fin 1024) : Fin 2048 := ⟨t.val % 2 * 1024 + l.val, by omega⟩

abbrev W (c : Dev nD) : FVec Ideal S2048x2048 .f32 := m (c, Proc.tc.devRef main_arg0)
abbrev G (c : Dev nD) : FVec Ideal S2048x2048 .f32 := m (c, Proc.tc.devRef main_arg1)
abbrev M (c : Dev nD) : FVec Ideal S2048x2048 .f32 := m (c, Proc.tc.devRef main_arg2)
abbrev U (c : Dev nD) : FVec Ideal S2048x2048 .f32 := m (c, Proc.tc.devRef main_arg3)

section
variable (c : Dev nD) (t : Fin cfg0.N) (r : Fin 256) (l : Fin 1024)

theorem blk0 : iblk m c 0 t (ix2 r l) = W m c (ix2 (row t r) (col t l)) := by blk_ext [iblk, idx t, row, col]

theorem blk1 : iblk m c 1 t (ix2 r l) = G m c (ix2 (row t r) (col t l)) := by blk_ext [iblk, idx t, row, col]

theorem blk2 : iblk m c 2 t (ix2 r l) = M m c (ix2 (row t r) (col t l)) := by blk_ext [iblk, idx t, row, col]

theorem blk3 : iblk m c 3 t (ix2 r l) = U m c (ix2 (row t r) (col t l)) := by blk_ext [iblk, idx t, row, col]

end

theorem ix2_of (y : S256x1024.Idx) : ∃ (r : Fin 256) (l : Fin 1024), y = ix2 r l := ⟨y 0, y 1, by funext i; fin_cases i <;> rfl⟩

/-- The first result is the gradient. -/
theorem gradient (c : Dev nD) : (dats m 0 c).arrAt 4 cfg0.N
    = G m c := by
  refine (dats m 0 c).arrAt_eq_of_covers 4 _ (by decide +kernel) fun t hf y => ?_
  blk_simp
  rw [after0_4]
  frame_out
  obtain ⟨r, l, rfl⟩ := ix2_of y
  have e : ((View.whole main_v0_0).slice (win0_4.rect t)).emb (ix2 r l) = (ix2 (row t r) (col t l)) := by blk_ext [idx t, row, col]
  rw [e]
  exact blk1 m c t r l

/-- The weight's step. -/
theorem delta (c : Dev nD) : (dats m 0 c).arrAt 5 cfg0.N
    = Cert.AdamInRefIdeal.Read.val_main_v23 (F := Ideal) (W m c) (G m c) (M m c) (U m c) := by
  refine (dats m 0 c).arrAt_eq_of_covers 5 _ (by decide +kernel) fun t hf y => ?_
  blk_simp
  rw [after0_5]
  frame_out
  obtain ⟨r, l, rfl⟩ := ix2_of y
  have e : ((View.whole main_v0_1).slice (win0_5.rect t)).emb (ix2 r l) = (ix2 (row t r) (col t l)) := by blk_ext [idx t, row, col]
  rw [e]
  refine Eq.trans (payload3 _ _ _ _ _) (Eq.trans ?_ (ref_delta _ _ _ _ _).symm)
  rw [blk0 m c t r l, blk1 m c t r l, blk2 m c t r l, blk3 m c t r l]

/-- The new first moment. -/
theorem moment1 (c : Dev nD) : (dats m 0 c).arrAt 6 cfg0.N
    = Cert.AdamInRefIdeal.Read.val_main_v4 (F := Ideal) (G m c) (M m c) := by
  refine (dats m 0 c).arrAt_eq_of_covers 6 _ (by decide +kernel) fun t hf y => ?_
  blk_simp
  rw [after0_6]
  frame_out
  obtain ⟨r, l, rfl⟩ := ix2_of y
  have e : ((View.whole main_v0_2).slice (win0_6.rect t)).emb (ix2 r l) = (ix2 (row t r) (col t l)) := by blk_ext [idx t, row, col]
  rw [e]
  refine Eq.trans (payload1 _ _ _) (Eq.trans ?_ (ref_m _ _ _).symm)
  rw [blk1 m c t r l, blk2 m c t r l]

/-- The new second moment. -/
theorem moment2 (c : Dev nD) : (dats m 0 c).arrAt 7 cfg0.N
    = Cert.AdamInRefIdeal.Read.val_main_v10 (F := Ideal) (G m c) (U m c) := by
  refine (dats m 0 c).arrAt_eq_of_covers 7 _ (by decide +kernel) fun t hf y => ?_
  blk_simp
  rw [after0_7]
  frame_out
  obtain ⟨r, l, rfl⟩ := ix2_of y
  have e : ((View.whole main_v0_3).slice (win0_7.rect t)).emb (ix2 r l) = (ix2 (row t r) (col t l)) := by blk_ext [idx t, row, col]
  rw [e]
  refine Eq.trans (payload2 _ _ _) (Eq.trans ?_ (ref_v _ _ _).symm)
  rw [blk1 m c t r l, blk3 m c t r l]

/-- The reference never faults and leaves its arguments. -/
theorem frame_ref : Cert.quiescent_AdamInRefIdeal (hAdamInRefIdeal := Cert.AdamInRefIdeal.Gen.facts) := by
  intro m ρ _
  exact (θ_run _ _ _).mono (fun r h => ⟨fun c => (h c).2.2.2.2, sem_eq_zero_of_no_sems (by decide) _⟩) (Cert.AdamInRefIdeal.Value.run m ρ)

/-- From equal arguments the call and its reference end with equal results. -/
theorem algebraic : Cert.algebraic_AdamInIdeal_AdamInRefIdeal (hAdamInIdeal := Cert.AdamInIdeal.Gen.facts)
    (hAdamInRefIdeal := Cert.AdamInRefIdeal.Gen.facts) := by
  pair_intro
  · run_from Cert.AdamInIdeal.Value.run_blocks (F := Ideal) m g
  · run_from Cert.AdamInRefIdeal.Value.run (F := Ideal) m' g'
    · rw [gradient]
    · rw [delta]
      exact Cert.AdamInRefIdeal.Read.val_main_v23_eq (F := Ideal) _ _ _ _
    · rw [moment1]
      exact Cert.AdamInRefIdeal.Read.val_main_v4_eq (F := Ideal) _ _
    · rw [moment2]
      exact Cert.AdamInRefIdeal.Read.val_main_v10_eq (F := Ideal) _ _

end Cert.Proof.AdamIn

end
-- ==== Proof.AdamO.lean ====
/- The optimiser's call for the mixer's output weight: at every point of its 2 × 2 grid the new moments and the step of one block of 256 rows and 1024
   columns. The reference divides by the moments' corrections; the kernel multiplies with their reciprocals. -/
module

public import proofs.«01_k».proof.Defs
public import proofs.«01_k».proof.Proof.AdamPure
public import proofs.«01_k».proof.Proof.Gen.AdamOIdeal.Value
public import proofs.«01_k».proof.Proof.Gen.AdamORefIdeal.Run
public import proofs.«01_k».proof.Proof.Gen.AdamORefIdeal.Read
public import Idealize.ShloMosaic.Lib.Pointwise
public import Idealize.ShloMosaic.Lib.Pipeline.ValueKit
public import Idealize.ShloMosaic.Lib.Claim

@[expose] public section

set_option maxRecDepth 16384

noncomputable section

namespace Cert.Proof.AdamO

open Cert.AdamOIdeal Cert.AdamOIdeal.Gen Idealize.ShloMosaic Idealize.ShloMosaic.TcCoe Idealize.SL.Sem

theorem inv_m : Named.named (F := Ideal) κ "inv_m" (φ := .f32) 0x3FC48605#32 = Adam.invM :=
  IdealRules.named_const.ideal_named_scalar _ _ _ _ rfl

theorem inv_v : Named.named (F := Ideal) κ "inv_v" (φ := .f32) 0x42C8E6D3#32 = Adam.invV :=
  IdealRules.named_const.ideal_named_scalar _ _ _ _ rfl

/-- The two constants that the idealisation names are the reciprocals. -/
theorem preserves : Cert.preserves_AdamO_AdamOIdeal :=
  ⟨IdealRules.named_const.statement κ "inv_m" .f32 0x3FC48605#32 ((8388608 / 5463681 : ℝ) : EReal) rfl,
    IdealRules.named_const.statement κ "inv_v" .f32 0x42C8E6D3#32 ((268435456 / 2672307 : ℝ) : EReal) rfl⟩

section Block
variable (w g m v : Vec Ideal S256x1024 .f32) (y : S256x1024.Idx)

theorem payload1 : k0_pay1 g m y = Adam.newM (g y) (m y) := rfl

theorem payload2 : k0_pay2 g v y = Adam.newV (g y) (v y) := rfl

theorem payload3 : k0_pay3 w g m v y = Adam.delta (w y) (g y) (m y) (v y) := by
  unfold Adam.delta
  rw [← inv_m, ← inv_v]
  rfl

end Block

section Reference
open Cert.AdamORefIdeal.Read
variable (w g m v : FVec Ideal S512x2048 .f32) (y : S512x2048.Idx)

theorem ref_m : val_main_v4 (F := Ideal) g m y = Adam.newM (g y) (m y) := rfl

theorem ref_v : val_main_v10 (F := Ideal) g v y = Adam.newV (g y) (v y) := rfl

theorem ref_delta : val_main_v23 (F := Ideal) w g m v y = Adam.delta (w y) (g y) (m y) (v y) := by
  unfold Adam.delta
  rw [← Adam.div_m, ← Adam.div_v]
  rfl

end Reference

variable (m : (ℓ : Loc nD τ sig) → Buf (Elt Ideal) ℓ)

theorem idx : ∀ t : Fin cfg0.N, win0_0.index t = ![t.val / 2, t.val % 2]
    ∧ win0_1.index t = ![t.val / 2, t.val % 2]
    ∧ win0_2.index t = ![t.val / 2, t.val % 2]
    ∧ win0_3.index t = ![t.val / 2, t.val % 2]
    ∧ win0_4.index t = ![t.val / 2, t.val % 2]
    ∧ win0_5.index t = ![t.val / 2, t.val % 2]
    ∧ win0_6.index t = ![t.val / 2, t.val % 2]
    ∧ win0_7.index t = ![t.val / 2, t.val % 2] :=
  (by decide +kernel : ∀ t : Fin grid0.N, _)

theorem lt4 (t : Fin cfg0.N) : t.val < 4 := t.isLt

/-- The row and the column of the whole arrays under row `r` and column `l` of point `t`'s block. -/
def row (t : Fin cfg0.N) (r : Fin 256) : Fin 512 := ⟨t.val / 2 * 256 + r.val, by have := lt4 t; omega⟩
def col (t : Fin cfg0.N) (l : Fin 1024) : Fin 2048 := ⟨t.val % 2 * 1024 + l.val, by omega⟩

abbrev W (c : Dev nD) : FVec Ideal S512x2048 .f32 := m (c, Proc.tc.devRef main_arg0)
abbrev G (c : Dev nD) : FVec Ideal S512x2048 .f32 := m (c, Proc.tc.devRef main_arg1)
abbrev M (c : Dev nD) : FVec Ideal S512x2048 .f32 := m (c, Proc.tc.devRef main_arg2)
abbrev U (c : Dev nD) : FVec Ideal S512x2048 .f32 := m (c, Proc.tc.devRef main_arg3)

section
variable (c : Dev nD) (t : Fin cfg0.N) (r : Fin 256) (l : Fin 1024)

theorem blk0 : iblk m c 0 t (ix2 r l) = W m c (ix2 (row t r) (col t l)) := by blk_ext [iblk, idx t, row, col]

theorem blk1 : iblk m c 1 t (ix2 r l) = G m c (ix2 (row t r) (col t l)) := by blk_ext [iblk, idx t, row, col]

theorem blk2 : iblk m c 2 t (ix2 r l) = M m c (ix2 (row t r) (col t l)) := by blk_ext [iblk, idx t, row, col]

theorem blk3 : iblk m c 3 t (ix2 r l) = U m c (ix2 (row t r) (col t l)) := by blk_ext [iblk, idx t, row, col]

end

theorem ix2_of (y : S256x1024.Idx) : ∃ (r : Fin 256) (l : Fin 1024), y = ix2 r l := ⟨y 0, y 1, by funext i; fin_cases i <;> rfl⟩

/-- The first result is the gradient. -/
theorem gradient (c : Dev nD) : (dats m 0 c).arrAt 4 cfg0.N
    = G m c := by
  refine (dats m 0 c).arrAt_eq_of_covers 4 _ (by decide +kernel) fun t hf y => ?_
  blk_simp
  rw [after0_4]
  frame_out
  obtain ⟨r, l, rfl⟩ := ix2_of y
  have e : ((View.whole main_v0_0).slice (win0_4.rect t)).emb (ix2 r l) = (ix2 (row t r) (col t l)) := by blk_ext [idx t, row, col]
  rw [e]
  exact blk1 m c t r l

/-- The weight's step. -/
theorem delta (c : Dev nD) : (dats m 0 c).arrAt 5 cfg0.N
    = Cert.AdamORefIdeal.Read.val_main_v23 (F := Ideal) (W m c) (G m c) (M m c) (U m c) := by
  refine (dats m 0 c).arrAt_eq_of_covers 5 _ (by decide +kernel) fun t hf y => ?_
  blk_simp
  rw [after0_5]
  frame_out
  obtain ⟨r, l, rfl⟩ := ix2_of y
  have e : ((View.whole main_v0_1).slice (win0_5.rect t)).emb (ix2 r l) = (ix2 (row t r) (col t l)) := by blk_ext [idx t, row, col]
  rw [e]
  refine Eq.trans (payload3 _ _ _ _ _) (Eq.trans ?_ (ref_delta _ _ _ _ _).symm)
  rw [blk0 m c t r l, blk1 m c t r l, blk2 m c t r l, blk3 m c t r l]

/-- The new first moment. -/
theorem moment1 (c : Dev nD) : (dats m 0 c).arrAt 6 cfg0.N
    = Cert.AdamORefIdeal.Read.val_main_v4 (F := Ideal) (G m c) (M m c) := by
  refine (dats m 0 c).arrAt_eq_of_covers 6 _ (by decide +kernel) fun t hf y => ?_
  blk_simp
  rw [after0_6]
  frame_out
  obtain ⟨r, l, rfl⟩ := ix2_of y
  have e : ((View.whole main_v0_2).slice (win0_6.rect t)).emb (ix2 r l) = (ix2 (row t r) (col t l)) := by blk_ext [idx t, row, col]
  rw [e]
  refine Eq.trans (payload1 _ _ _) (Eq.trans ?_ (ref_m _ _ _).symm)
  rw [blk1 m c t r l, blk2 m c t r l]

/-- The new second moment. -/
theorem moment2 (c : Dev nD) : (dats m 0 c).arrAt 7 cfg0.N
    = Cert.AdamORefIdeal.Read.val_main_v10 (F := Ideal) (G m c) (U m c) := by
  refine (dats m 0 c).arrAt_eq_of_covers 7 _ (by decide +kernel) fun t hf y => ?_
  blk_simp
  rw [after0_7]
  frame_out
  obtain ⟨r, l, rfl⟩ := ix2_of y
  have e : ((View.whole main_v0_3).slice (win0_7.rect t)).emb (ix2 r l) = (ix2 (row t r) (col t l)) := by blk_ext [idx t, row, col]
  rw [e]
  refine Eq.trans (payload2 _ _ _) (Eq.trans ?_ (ref_v _ _ _).symm)
  rw [blk1 m c t r l, blk3 m c t r l]

/-- The reference never faults and leaves its arguments. -/
theorem frame_ref : Cert.quiescent_AdamORefIdeal (hAdamORefIdeal := Cert.AdamORefIdeal.Gen.facts) := by
  intro m ρ _
  exact (θ_run _ _ _).mono (fun r h => ⟨fun c => (h c).2.2.2.2, sem_eq_zero_of_no_sems (by decide) _⟩) (Cert.AdamORefIdeal.Value.run m ρ)

/-- From equal arguments the call and its reference end with equal results. -/
theorem algebraic : Cert.algebraic_AdamOIdeal_AdamORefIdeal (hAdamOIdeal := Cert.AdamOIdeal.Gen.facts)
    (hAdamORefIdeal := Cert.AdamORefIdeal.Gen.facts) := by
  pair_intro
  · run_from Cert.AdamOIdeal.Value.run_blocks (F := Ideal) m g
  · run_from Cert.AdamORefIdeal.Value.run (F := Ideal) m' g'
    · rw [gradient]
    · rw [delta]
      exact Cert.AdamORefIdeal.Read.val_main_v23_eq (F := Ideal) _ _ _ _
    · rw [moment1]
      exact Cert.AdamORefIdeal.Read.val_main_v4_eq (F := Ideal) _ _
    · rw [moment2]
      exact Cert.AdamORefIdeal.Read.val_main_v10_eq (F := Ideal) _ _

end Cert.Proof.AdamO

end
-- ==== Proof.AdamOut.lean ====
/- The optimiser's call for the two branches' output weights: at every point of its 4 × 1 grid the new moments and the step of one block of 256 rows and 512
   columns. The reference divides by the moments' corrections; the kernel multiplies with their reciprocals. -/
module

public import proofs.«01_k».proof.Defs
public import proofs.«01_k».proof.Proof.AdamPure
public import proofs.«01_k».proof.Proof.Gen.AdamOutIdeal.Value
public import proofs.«01_k».proof.Proof.Gen.AdamOutRefIdeal.Run
public import proofs.«01_k».proof.Proof.Gen.AdamOutRefIdeal.Read
public import Idealize.ShloMosaic.Lib.Pointwise
public import Idealize.ShloMosaic.Lib.Pipeline.ValueKit
public import Idealize.ShloMosaic.Lib.Claim

@[expose] public section

set_option maxRecDepth 16384

noncomputable section

namespace Cert.Proof.AdamOut

open Cert.AdamOutIdeal Cert.AdamOutIdeal.Gen Idealize.ShloMosaic Idealize.ShloMosaic.TcCoe Idealize.SL.Sem

theorem inv_m : Named.named (F := Ideal) κ "inv_m" (φ := .f32) 0x3FC48605#32 = Adam.invM :=
  IdealRules.named_const.ideal_named_scalar _ _ _ _ rfl

theorem inv_v : Named.named (F := Ideal) κ "inv_v" (φ := .f32) 0x42C8E6D3#32 = Adam.invV :=
  IdealRules.named_const.ideal_named_scalar _ _ _ _ rfl

/-- The two constants that the idealisation names are the reciprocals. -/
theorem preserves : Cert.preserves_AdamOut_AdamOutIdeal :=
  ⟨IdealRules.named_const.statement κ "inv_m" .f32 0x3FC48605#32 ((8388608 / 5463681 : ℝ) : EReal) rfl,
    IdealRules.named_const.statement κ "inv_v" .f32 0x42C8E6D3#32 ((268435456 / 2672307 : ℝ) : EReal) rfl⟩

section Block
variable (w g m v : Vec Ideal S256x512 .f32) (y : S256x512.Idx)

theorem payload1 : k0_pay1 g m y = Adam.newM (g y) (m y) := rfl

theorem payload2 : k0_pay2 g v y = Adam.newV (g y) (v y) := rfl

theorem payload3 : k0_pay3 w g m v y = Adam.delta (w y) (g y) (m y) (v y) := by
  unfold Adam.delta
  rw [← inv_m, ← inv_v]
  rfl

end Block

section Reference
open Cert.AdamOutRefIdeal.Read
variable (w g m v : FVec Ideal S1024x512 .f32) (y : S1024x512.Idx)

theorem ref_m : val_main_v4 (F := Ideal) g m y = Adam.newM (g y) (m y) := rfl

theorem ref_v : val_main_v10 (F := Ideal) g v y = Adam.newV (g y) (v y) := rfl

theorem ref_delta : val_main_v23 (F := Ideal) w g m v y = Adam.delta (w y) (g y) (m y) (v y) := by
  unfold Adam.delta
  rw [← Adam.div_m, ← Adam.div_v]
  rfl

end Reference

variable (m : (ℓ : Loc nD τ sig) → Buf (Elt Ideal) ℓ)

theorem idx : ∀ t : Fin cfg0.N, win0_0.index t = ![t.val / 1, t.val % 1]
    ∧ win0_1.index t = ![t.val / 1, t.val % 1]
    ∧ win0_2.index t = ![t.val / 1, t.val % 1]
    ∧ win0_3.index t = ![t.val / 1, t.val % 1]
    ∧ win0_4.index t = ![t.val / 1, t.val % 1]
    ∧ win0_5.index t = ![t.val / 1, t.val % 1]
    ∧ win0_6.index t = ![t.val / 1, t.val % 1]
    ∧ win0_7.index t = ![t.val / 1, t.val % 1] :=
  (by decide +kernel : ∀ t : Fin grid0.N, _)

theorem lt4 (t : Fin cfg0.N) : t.val < 4 := t.isLt

/-- The row and the column of the whole arrays under row `r` and column `l` of point `t`'s block. -/
def row (t : Fin cfg0.N) (r : Fin 256) : Fin 1024 := ⟨t.val / 1 * 256 + r.val, by have := lt4 t; omega⟩
def col (t : Fin cfg0.N) (l : Fin 512) : Fin 512 := ⟨t.val % 1 * 512 + l.val, by omega⟩

abbrev W (c : Dev nD) : FVec Ideal S1024x512 .f32 := m (c, Proc.tc.devRef main_arg0)
abbrev G (c : Dev nD) : FVec Ideal S1024x512 .f32 := m (c, Proc.tc.devRef main_arg1)
abbrev M (c : Dev nD) : FVec Ideal S1024x512 .f32 := m (c, Proc.tc.devRef main_arg2)
abbrev U (c : Dev nD) : FVec Ideal S1024x512 .f32 := m (c, Proc.tc.devRef main_arg3)

section
variable (c : Dev nD) (t : Fin cfg0.N) (r : Fin 256) (l : Fin 512)

theorem blk0 : iblk m c 0 t (ix2 r l) = W m c (ix2 (row t r) (col t l)) := by blk_ext [iblk, idx t, row, col]

theorem blk1 : iblk m c 1 t (ix2 r l) = G m c (ix2 (row t r) (col t l)) := by blk_ext [iblk, idx t, row, col]

theorem blk2 : iblk m c 2 t (ix2 r l) = M m c (ix2 (row t r) (col t l)) := by blk_ext [iblk, idx t, row, col]

theorem blk3 : iblk m c 3 t (ix2 r l) = U m c (ix2 (row t r) (col t l)) := by blk_ext [iblk, idx t, row, col]

end

theorem ix2_of (y : S256x512.Idx) : ∃ (r : Fin 256) (l : Fin 512), y = ix2 r l := ⟨y 0, y 1, by funext i; fin_cases i <;> rfl⟩

/-- The first result is the gradient. -/
theorem gradient (c : Dev nD) : (dats m 0 c).arrAt 4 cfg0.N
    = G m c := by
  refine (dats m 0 c).arrAt_eq_of_covers 4 _ (by decide +kernel) fun t hf y => ?_
  blk_simp
  rw [after0_4]
  frame_out
  obtain ⟨r, l, rfl⟩ := ix2_of y
  have e : ((View.whole main_v0_0).slice (win0_4.rect t)).emb (ix2 r l) = (ix2 (row t r) (col t l)) := by blk_ext [idx t, row, col]
  rw [e]
  exact blk1 m c t r l

/-- The weight's step. -/
theorem delta (c : Dev nD) : (dats m 0 c).arrAt 5 cfg0.N
    = Cert.AdamOutRefIdeal.Read.val_main_v23 (F := Ideal) (W m c) (G m c) (M m c) (U m c) := by
  refine (dats m 0 c).arrAt_eq_of_covers 5 _ (by decide +kernel) fun t hf y => ?_
  blk_simp
  rw [after0_5]
  frame_out
  obtain ⟨r, l, rfl⟩ := ix2_of y
  have e : ((View.whole main_v0_1).slice (win0_5.rect t)).emb (ix2 r l) = (ix2 (row t r) (col t l)) := by blk_ext [idx t, row, col]
  rw [e]
  refine Eq.trans (payload3 _ _ _ _ _) (Eq.trans ?_ (ref_delta _ _ _ _ _).symm)
  rw [blk0 m c t r l, blk1 m c t r l, blk2 m c t r l, blk3 m c t r l]

/-- The new first moment. -/
theorem moment1 (c : Dev nD) : (dats m 0 c).arrAt 6 cfg0.N
    = Cert.AdamOutRefIdeal.Read.val_main_v4 (F := Ideal) (G m c) (M m c) := by
  refine (dats m 0 c).arrAt_eq_of_covers 6 _ (by decide +kernel) fun t hf y => ?_
  blk_simp
  rw [after0_6]
  frame_out
  obtain ⟨r, l, rfl⟩ := ix2_of y
  have e : ((View.whole main_v0_2).slice (win0_6.rect t)).emb (ix2 r l) = (ix2 (row t r) (col t l)) := by blk_ext [idx t, row, col]
  rw [e]
  refine Eq.trans (payload1 _ _ _) (Eq.trans ?_ (ref_m _ _ _).symm)
  rw [blk1 m c t r l, blk2 m c t r l]

/-- The new second moment. -/
theorem moment2 (c : Dev nD) : (dats m 0 c).arrAt 7 cfg0.N
    = Cert.AdamOutRefIdeal.Read.val_main_v10 (F := Ideal) (G m c) (U m c) := by
  refine (dats m 0 c).arrAt_eq_of_covers 7 _ (by decide +kernel) fun t hf y => ?_
  blk_simp
  rw [after0_7]
  frame_out
  obtain ⟨r, l, rfl⟩ := ix2_of y
  have e : ((View.whole main_v0_3).slice (win0_7.rect t)).emb (ix2 r l) = (ix2 (row t r) (col t l)) := by blk_ext [idx t, row, col]
  rw [e]
  refine Eq.trans (payload2 _ _ _) (Eq.trans ?_ (ref_v _ _ _).symm)
  rw [blk1 m c t r l, blk3 m c t r l]

/-- The reference never faults and leaves its arguments. -/
theorem frame_ref : Cert.quiescent_AdamOutRefIdeal (hAdamOutRefIdeal := Cert.AdamOutRefIdeal.Gen.facts) := by
  intro m ρ _
  exact (θ_run _ _ _).mono (fun r h => ⟨fun c => (h c).2.2.2.2, sem_eq_zero_of_no_sems (by decide) _⟩) (Cert.AdamOutRefIdeal.Value.run m ρ)

/-- From equal arguments the call and its reference end with equal results. -/
theorem algebraic : Cert.algebraic_AdamOutIdeal_AdamOutRefIdeal (hAdamOutIdeal := Cert.AdamOutIdeal.Gen.facts)
    (hAdamOutRefIdeal := Cert.AdamOutRefIdeal.Gen.facts) := by
  pair_intro
  · run_from Cert.AdamOutIdeal.Value.run_blocks (F := Ideal) m g
  · run_from Cert.AdamOutRefIdeal.Value.run (F := Ideal) m' g'
    · rw [gradient]
    · rw [delta]
      exact Cert.AdamOutRefIdeal.Read.val_main_v23_eq (F := Ideal) _ _ _ _
    · rw [moment1]
      exact Cert.AdamOutRefIdeal.Read.val_main_v4_eq (F := Ideal) _ _
    · rw [moment2]
      exact Cert.AdamOutRefIdeal.Read.val_main_v10_eq (F := Ideal) _ _

end Cert.Proof.AdamOut

end
-- ==== Proof.AdamSmall.lean ====
/- The optimiser's call for the fifteen small weights, which lie one after another in a packed array: at every point of its 9 × 1 grid the new moments and the step of one block of 256 rows and 128
   columns. The reference divides by the moments' corrections; the kernel multiplies with their reciprocals. -/
module

public import proofs.«01_k».proof.Defs
public import proofs.«01_k».proof.Proof.AdamPure
public import proofs.«01_k».proof.Proof.Gen.AdamSmallIdeal.Value
public import proofs.«01_k».proof.Proof.Gen.AdamSmallRefIdeal.Run
public import proofs.«01_k».proof.Proof.Gen.AdamSmallRefIdeal.Read
public import Idealize.ShloMosaic.Lib.Pointwise
public import Idealize.ShloMosaic.Lib.Pipeline.ValueKit
public import Idealize.ShloMosaic.Lib.Claim

@[expose] public section

set_option maxRecDepth 16384

noncomputable section

namespace Cert.Proof.AdamSmall

open Cert.AdamSmallIdeal Cert.AdamSmallIdeal.Gen Idealize.ShloMosaic Idealize.ShloMosaic.TcCoe Idealize.SL.Sem

theorem inv_m : Named.named (F := Ideal) κ "inv_m" (φ := .f32) 0x3FC48605#32 = Adam.invM :=
  IdealRules.named_const.ideal_named_scalar _ _ _ _ rfl

theorem inv_v : Named.named (F := Ideal) κ "inv_v" (φ := .f32) 0x42C8E6D3#32 = Adam.invV :=
  IdealRules.named_const.ideal_named_scalar _ _ _ _ rfl

/-- The two constants that the idealisation names are the reciprocals. -/
theorem preserves : Cert.preserves_AdamSmall_AdamSmallIdeal :=
  ⟨IdealRules.named_const.statement κ "inv_m" .f32 0x3FC48605#32 ((8388608 / 5463681 : ℝ) : EReal) rfl,
    IdealRules.named_const.statement κ "inv_v" .f32 0x42C8E6D3#32 ((268435456 / 2672307 : ℝ) : EReal) rfl⟩

section Block
variable (w g m v : Vec Ideal S256x128 .f32) (y : S256x128.Idx)

theorem payload1 : k0_pay1 g m y = Adam.newM (g y) (m y) := rfl

theorem payload2 : k0_pay2 g v y = Adam.newV (g y) (v y) := rfl

theorem payload3 : k0_pay3 w g m v y = Adam.delta (w y) (g y) (m y) (v y) := by
  unfold Adam.delta
  rw [← inv_m, ← inv_v]
  rfl

end Block

section Reference
open Cert.AdamSmallRefIdeal.Read
variable (w g m v : FVec Ideal S2304x128 .f32) (y : S2304x128.Idx)

theorem ref_m : val_main_v4 (F := Ideal) g m y = Adam.newM (g y) (m y) := rfl

theorem ref_v : val_main_v10 (F := Ideal) g v y = Adam.newV (g y) (v y) := rfl

theorem ref_delta : val_main_v23 (F := Ideal) w g m v y = Adam.delta (w y) (g y) (m y) (v y) := by
  unfold Adam.delta
  rw [← Adam.div_m, ← Adam.div_v]
  rfl

end Reference

variable (m : (ℓ : Loc nD τ sig) → Buf (Elt Ideal) ℓ)

theorem idx : ∀ t : Fin cfg0.N, win0_0.index t = ![t.val / 1, t.val % 1]
    ∧ win0_1.index t = ![t.val / 1, t.val % 1]
    ∧ win0_2.index t = ![t.val / 1, t.val % 1]
    ∧ win0_3.index t = ![t.val / 1, t.val % 1]
    ∧ win0_4.index t = ![t.val / 1, t.val % 1]
    ∧ win0_5.index t = ![t.val / 1, t.val % 1]
    ∧ win0_6.index t = ![t.val / 1, t.val % 1]
    ∧ win0_7.index t = ![t.val / 1, t.val % 1] :=
  (by decide +kernel : ∀ t : Fin grid0.N, _)

theorem lt9 (t : Fin cfg0.N) : t.val < 9 := t.isLt

/-- The row and the column of the whole arrays under row `r` and column `l` of point `t`'s block. -/
def row (t : Fin cfg0.N) (r : Fin 256) : Fin 2304 := ⟨t.val / 1 * 256 + r.val, by have := lt9 t; omega⟩
def col (t : Fin cfg0.N) (l : Fin 128) : Fin 128 := ⟨t.val % 1 * 128 + l.val, by omega⟩

abbrev W (c : Dev nD) : FVec Ideal S2304x128 .f32 := m (c, Proc.tc.devRef main_arg0)
abbrev G (c : Dev nD) : FVec Ideal S2304x128 .f32 := m (c, Proc.tc.devRef main_arg1)
abbrev M (c : Dev nD) : FVec Ideal S2304x128 .f32 := m (c, Proc.tc.devRef main_arg2)
abbrev U (c : Dev nD) : FVec Ideal S2304x128 .f32 := m (c, Proc.tc.devRef main_arg3)

section
variable (c : Dev nD) (t : Fin cfg0.N) (r : Fin 256) (l : Fin 128)

theorem blk0 : iblk m c 0 t (ix2 r l) = W m c (ix2 (row t r) (col t l)) := by blk_ext [iblk, idx t, row, col]

theorem blk1 : iblk m c 1 t (ix2 r l) = G m c (ix2 (row t r) (col t l)) := by blk_ext [iblk, idx t, row, col]

theorem blk2 : iblk m c 2 t (ix2 r l) = M m c (ix2 (row t r) (col t l)) := by blk_ext [iblk, idx t, row, col]

theorem blk3 : iblk m c 3 t (ix2 r l) = U m c (ix2 (row t r) (col t l)) := by blk_ext [iblk, idx t, row, col]

end

theorem ix2_of (y : S256x128.Idx) : ∃ (r : Fin 256) (l : Fin 128), y = ix2 r l := ⟨y 0, y 1, by funext i; fin_cases i <;> rfl⟩

/-- The first result is the gradient. -/
theorem gradient (c : Dev nD) : (dats m 0 c).arrAt 4 cfg0.N
    = G m c := by
  refine (dats m 0 c).arrAt_eq_of_covers 4 _ (by decide +kernel) fun t hf y => ?_
  blk_simp
  rw [after0_4]
  frame_out
  obtain ⟨r, l, rfl⟩ := ix2_of y
  have e : ((View.whole main_v0_0).slice (win0_4.rect t)).emb (ix2 r l) = (ix2 (row t r) (col t l)) := by blk_ext [idx t, row, col]
  rw [e]
  exact blk1 m c t r l

/-- The weight's step. -/
theorem delta (c : Dev nD) : (dats m 0 c).arrAt 5 cfg0.N
    = Cert.AdamSmallRefIdeal.Read.val_main_v23 (F := Ideal) (W m c) (G m c) (M m c) (U m c) := by
  refine (dats m 0 c).arrAt_eq_of_covers 5 _ (by decide +kernel) fun t hf y => ?_
  blk_simp
  rw [after0_5]
  frame_out
  obtain ⟨r, l, rfl⟩ := ix2_of y
  have e : ((View.whole main_v0_1).slice (win0_5.rect t)).emb (ix2 r l) = (ix2 (row t r) (col t l)) := by blk_ext [idx t, row, col]
  rw [e]
  refine Eq.trans (payload3 _ _ _ _ _) (Eq.trans ?_ (ref_delta _ _ _ _ _).symm)
  rw [blk0 m c t r l, blk1 m c t r l, blk2 m c t r l, blk3 m c t r l]

/-- The new first moment. -/
theorem moment1 (c : Dev nD) : (dats m 0 c).arrAt 6 cfg0.N
    = Cert.AdamSmallRefIdeal.Read.val_main_v4 (F := Ideal) (G m c) (M m c) := by
  refine (dats m 0 c).arrAt_eq_of_covers 6 _ (by decide +kernel) fun t hf y => ?_
  blk_simp
  rw [after0_6]
  frame_out
  obtain ⟨r, l, rfl⟩ := ix2_of y
  have e : ((View.whole main_v0_2).slice (win0_6.rect t)).emb (ix2 r l) = (ix2 (row t r) (col t l)) := by blk_ext [idx t, row, col]
  rw [e]
  refine Eq.trans (payload1 _ _ _) (Eq.trans ?_ (ref_m _ _ _).symm)
  rw [blk1 m c t r l, blk2 m c t r l]

/-- The new second moment. -/
theorem moment2 (c : Dev nD) : (dats m 0 c).arrAt 7 cfg0.N
    = Cert.AdamSmallRefIdeal.Read.val_main_v10 (F := Ideal) (G m c) (U m c) := by
  refine (dats m 0 c).arrAt_eq_of_covers 7 _ (by decide +kernel) fun t hf y => ?_
  blk_simp
  rw [after0_7]
  frame_out
  obtain ⟨r, l, rfl⟩ := ix2_of y
  have e : ((View.whole main_v0_3).slice (win0_7.rect t)).emb (ix2 r l) = (ix2 (row t r) (col t l)) := by blk_ext [idx t, row, col]
  rw [e]
  refine Eq.trans (payload2 _ _ _) (Eq.trans ?_ (ref_v _ _ _).symm)
  rw [blk1 m c t r l, blk3 m c t r l]

/-- The reference never faults and leaves its arguments. -/
theorem frame_ref : Cert.quiescent_AdamSmallRefIdeal (hAdamSmallRefIdeal := Cert.AdamSmallRefIdeal.Gen.facts) := by
  intro m ρ _
  exact (θ_run _ _ _).mono (fun r h => ⟨fun c => (h c).2.2.2.2, sem_eq_zero_of_no_sems (by decide) _⟩) (Cert.AdamSmallRefIdeal.Value.run m ρ)

/-- From equal arguments the call and its reference end with equal results. -/
theorem algebraic : Cert.algebraic_AdamSmallIdeal_AdamSmallRefIdeal (hAdamSmallIdeal := Cert.AdamSmallIdeal.Gen.facts)
    (hAdamSmallRefIdeal := Cert.AdamSmallRefIdeal.Gen.facts) := by
  pair_intro
  · run_from Cert.AdamSmallIdeal.Value.run_blocks (F := Ideal) m g
  · run_from Cert.AdamSmallRefIdeal.Value.run (F := Ideal) m' g'
    · rw [gradient]
    · rw [delta]
      exact Cert.AdamSmallRefIdeal.Read.val_main_v23_eq (F := Ideal) _ _ _ _
    · rw [moment1]
      exact Cert.AdamSmallRefIdeal.Read.val_main_v4_eq (F := Ideal) _ _
    · rw [moment2]
      exact Cert.AdamSmallRefIdeal.Read.val_main_v10_eq (F := Ideal) _ _

end Cert.Proof.AdamSmall

end
-- ==== Proof.ConvPure.lean ====
/- The short convolution's backward call and its reference, each read at one index. Both are written over two shifts of a
   column of 2048 numbers: `down k f` moves `f` down by `k` rows and puts zeros above, `up k f` moves it up and puts zeros
   below. The kernel makes them by a rotation and a mask, the reference by zeros laid in front and slices (or, in its
   gradient, by zero padding); this module shows that each of the two is the shift. -/
module

public import proofs.«01_k».proof.Proof.Gen.ConvIdeal.Skeleton
public import proofs.«01_k».proof.Proof.Gen.ConvRefIdeal.Read
public import Idealize.ShloMosaic.Lib.Pointwise

@[expose] public section

set_option maxRecDepth 16384

noncomputable section

namespace Cert.Proof.Conv

open Cert.ConvIdeal Cert.ConvIdeal.Gen Idealize.ShloMosaic

/-- A column moved down by `k` rows, zeros above. -/
def down (k : Nat) (f : Fin 2048 → EReal) (r : Fin 2048) : EReal := if k ≤ r.val then f ⟨r.val - k, by omega⟩ else 0
/-- A column moved up by `k` rows, zeros below. -/
def up (k : Nat) (f : Fin 2048 → EReal) (r : Fin 2048) : EReal := if h : r.val + k < 2048 then f ⟨r.val + k, h⟩ else 0

/-- The columns of the projection that belong to column `n` of the branch: its gate's, its input's gate's and its value's. -/
def bgc (n : Fin 1024) : Fin 8192 := ⟨1024 + n.val, by omega⟩
def cgc (n : Fin 1024) : Fin 8192 := ⟨2048 + n.val, by omega⟩
def valc (n : Fin 1024) : Fin 8192 := ⟨3072 + n.val, by omega⟩
/-- The row of the eight that holds tap `k`. -/
def tap (k : Fin 3) : Fin 8 := ⟨k.val, by omega⟩

/-! ## The masks' comparisons of a row number with a constant -/

theorem sge1 : ∀ r : Fin 2048, IntOp.cmpi .sge (BitVec.ofNat 32 r.val) 1#32 = if 1 ≤ r.val then 1#1 else 0#1 := by decide +kernel
theorem sge2 : ∀ r : Fin 2048, IntOp.cmpi .sge (BitVec.ofNat 32 r.val) 2#32 = if 2 ≤ r.val then 1#1 else 0#1 := by decide +kernel
theorem slt1 : ∀ r : Fin 2048, IntOp.cmpi .slt (BitVec.ofNat 32 r.val) 2047#32 = if r.val + 1 < 2048 then 1#1 else 0#1 := by decide +kernel
theorem slt2 : ∀ r : Fin 2048, IntOp.cmpi .slt (BitVec.ofNat 32 r.val) 2046#32 = if r.val + 2 < 2048 then 1#1 else 0#1 := by decide +kernel
theorem eqc : ∀ r : Fin 8, ∀ k : Fin 3, IntOp.cmpi .eq (BitVec.ofNat 32 r.val) (BitVec.ofNat 32 k.val) = if r.val = k.val then 1#1 else 0#1 := by decide +kernel

theorem select_if {α : Type} (p : Prop) [Decidable p] (a b : α) :
    Scalar.select (if p then (1#1 : BitVec 1) else 0#1) a b = if p then a else b := by
  by_cases h : p <;> simp [h, Scalar.select]

/-! ## The kernel's values -/

section Kernel
variable (dy bg cg val : Vec Ideal S2048x256 .f32) (wt : Vec Ideal S8x256 .f32) (cb : Vec Ideal S1x256 .f32)
  (r : Fin 2048) (l : Fin 256)

/-- The column of products of the gate and the value. -/
theorem pay4_apply : k0_pay4 cg val (ix2 r l) = cg (ix2 r l) * val (ix2 r l) := by pointwise [k0_pay4]

theorem pay5_apply : k0_pay5 cg val (ix2 r l) = down 1 (fun i => cg (ix2 i l) * val (ix2 i l)) r := by
  pointwise [k0_pay5, k0_pay4]
  rw [sge1, select_if]
  unfold down
  split_ifs with h
  · have e : (r.val + 2048 - 1) % 2048 = r.val - 1 := by omega
    simp only [e]
  · rfl

theorem pay6_apply : k0_pay6 cg val (ix2 r l) = down 2 (fun i => cg (ix2 i l) * val (ix2 i l)) r := by
  pointwise [k0_pay6, k0_pay4]
  rw [sge2, select_if]
  unfold down
  split_ifs with h
  · have e : (r.val + 2048 - 2) % 2048 = r.val - 2 := by omega
    simp only [e]
  · rfl

theorem pay10_apply : k0_pay10 cg val wt cb (ix2 r l)
    = cb (ix2 0 l) + wt (ix2 0 l) * down 2 (fun i => cg (ix2 i l) * val (ix2 i l)) r
      + wt (ix2 1 l) * down 1 (fun i => cg (ix2 i l) * val (ix2 i l)) r + wt (ix2 2 l) * (cg (ix2 r l) * val (ix2 r l)) := by
  rw [← pay5_apply, ← pay6_apply, ← pay4_apply]
  pointwise [k0_pay10, k0_pay7, k0_pay8, k0_pay9, k0_pay3]

/-- The gradient of the branch for the product of gate and value. -/
theorem pay14_apply : k0_pay14 (k0_pay7 wt) (k0_pay8 wt) (k0_pay11 dy bg) (k0_pay12 dy bg wt) k0_pay13 (ix2 r l)
    = wt (ix2 2 l) * (dy (ix2 r l) * bg (ix2 r l)) + wt (ix2 1 l) * up 1 (fun i => dy (ix2 i l) * bg (ix2 i l)) r
      + wt (ix2 0 l) * up 2 (fun i => dy (ix2 i l) * bg (ix2 i l)) r := by
  pointwise [k0_pay14, k0_pay7, k0_pay8, k0_pay9, k0_pay11, k0_pay12, k0_pay13, k0_pay3]
  rw [slt1, slt2, select_if, select_if]
  congr 1
  · congr 1
    unfold up
    split_ifs with h
    · have e : (r.val + 2048 - 2047) % 2048 = r.val + 1 := by omega
      simp only [e]
    · rw [mul_zero]
  · unfold up
    split_ifs with h
    · have e : (r.val + 2048 - 2046) % 2048 = r.val + 2 := by omega
      simp only [e]
    · rw [mul_zero]

/-- The taps' gradient: three rows of sums over the rows, then zeros. -/
theorem pay15_apply (k : Fin 8) : k0_pay15 (k0_pay4 cg val) (k0_pay5 cg val) (k0_pay6 cg val) (k0_pay11 dy bg) (ix2 k l)
    = if k.val = 0 then ∑ x : Fin 2048, dy (ix2 x l) * bg (ix2 x l) * down 2 (fun i => cg (ix2 i l) * val (ix2 i l)) x
      else if k.val = 1 then ∑ x : Fin 2048, dy (ix2 x l) * bg (ix2 x l) * down 1 (fun i => cg (ix2 i l) * val (ix2 i l)) x
      else if k.val = 2 then ∑ x : Fin 2048, dy (ix2 x l) * bg (ix2 x l) * (cg (ix2 x l) * val (ix2 x l)) else 0 := by
  simp only [← pay5_apply, ← pay6_apply]
  pointwise [k0_pay15, k0_pay11, k0_pay4]
  have e0 := eqc k 0
  have e1 := eqc k 1
  have e2 := eqc k 2
  simp only [Fin.val_zero, Fin.val_one, Fin.val_two] at e0 e1 e2
  rw [e0, e1, e2, select_if, select_if, select_if]

theorem pay18_apply : k0_pay18 (k0_pay11 dy bg) (ix2 0 l) = ∑ x : Fin 2048, dy (ix2 x l) * bg (ix2 x l) := by
  pointwise [k0_pay18, k0_pay11]

end Kernel

/-! ## The reference's values: `x0` the cotangent, `x1` the projection, `x2` the taps, `x3` the bias -/

section Reference
open Cert.ConvRefIdeal Cert.ConvRefIdeal.Read
variable (x0 : FVec Ideal Cert.ConvRefIdeal.S2048x1024 .f32) (x1 : FVec Ideal Cert.ConvRefIdeal.S2048x8192 .f32)
  (x2 : FVec Ideal Cert.ConvRefIdeal.S3x1024 .f32) (x3 : FVec Ideal Cert.ConvRefIdeal.S1024 .f32) (r : Fin 2048) (l : Fin 1024)

/-- The branch's input, the product of its gate and its value, as a column. -/
def z (l : Fin 1024) (i : Fin 2048) : EReal := x1 (ix2 i (cgc l)) * x1 (ix2 i (valc l))
/-- The gradient of the convolution's result, as a column. -/
def d (l : Fin 1024) (i : Fin 2048) : EReal := x0 (ix2 i l) * x1 (ix2 i (bgc l))

theorem v35_apply : val_main_v35 (F := Ideal) x0 x1 (ix2 r l) = d x0 x1 l r := by
  unfold val_main_v35 val_main_v1 d bgc
  pointwise!

theorem v26_apply : val_main_v26 (F := Ideal) x1 (ix2 r l) = z x1 l r := by
  unfold val_main_v26 val_main_v7 val_main_v5 val_main_v2 val_main_v3 z cgc valc
  simp only [Value.fn_main_v7]
  pointwise

theorem v19_apply : val_main_v19 (F := Ideal) x1 (ix2 r l) = down 1 (z x1 l) r := by
  unfold val_main_v19 val_main_v7 val_main_v5 val_main_v2 val_main_v3 val_main_v6 val_main_cst down z cgc valc
  simp only [Value.fn_main_v7]
  pointwise
  by_cases h : 1 ≤ r.val
  · have e : 1 + r.val - 2 = r.val - 1 := by omega
    rw [dif_neg (by omega), if_pos h]
    simp only [e]
  · rw [dif_pos (by omega), if_neg h]

theorem v11_apply : val_main_v11 (F := Ideal) x1 (ix2 r l) = down 2 (z x1 l) r := by
  unfold val_main_v11 val_main_v7 val_main_v5 val_main_v2 val_main_v3 val_main_v6 val_main_cst down z cgc valc
  simp only [Value.fn_main_v7]
  pointwise
  by_cases h : 2 ≤ r.val
  · rw [dif_neg (by omega), if_pos h]
  · rw [dif_pos (by omega), if_neg h]

theorem v76_apply : val_main_v76 (F := Ideal) x0 x1 x2 x3 (ix2 r l)
    = x0 (ix2 r l) * (x3 (ix1 l) + x2 (ix2 0 l) * down 2 (z x1 l) r + x2 (ix2 1 l) * down 1 (z x1 l) r + x2 (ix2 2 l) * z x1 l r) := by
  rw [← v11_apply, ← v19_apply, ← v26_apply]
  simp only [val_main_v76, val_main_v36, val_main_v33, val_main_v32, val_main_v31, val_main_v30, val_main_v29, val_main_v28, val_main_v27,
    val_main_v25, val_main_v24, val_main_v23, val_main_v22, val_main_v21, val_main_v20, val_main_v18, val_main_v17, val_main_v16, val_main_v15,
    val_main_cst_1, val_main_v14, val_main_v13, val_main_v12, val_main_v10, val_main_v9]
  pointwise
  simp only [add_assoc]

theorem v72_apply : val_main_v72 (F := Ideal) x0 x1 x2 (ix2 r l)
    = x2 (ix2 2 l) * d x0 x1 l r + x2 (ix2 1 l) * up 1 (d x0 x1 l) r + x2 (ix2 0 l) * up 2 (d x0 x1 l) r := by
  simp only [val_main_v72, val_main_v67, val_main_v66, val_main_v61, val_main_v60, val_main_v56, val_main_v55, val_main_v50, val_main_v49,
    val_main_v46, val_main_v41, val_main_v40, val_main_cst_6, val_main_cst_10, val_main_cst_14, val_main_v27, val_main_v20, val_main_v12,
    val_main_v25, val_main_v24, val_main_v18, val_main_v17, val_main_v10, val_main_v9]
  pointwise
  simp only [v35_apply]
  congr 1
  · congr 1
    unfold up
    by_cases h : r.val + 1 < 2048
    · have e : 2 + r.val - 1 = r.val + 1 := by omega
      rw [dif_pos (by omega), dif_pos h]
      simp only [e]
    · rw [dif_neg (by omega), dif_neg h, mul_zero]
  · unfold up
    by_cases h : r.val + 2 < 2048
    · have e : 2 + r.val = r.val + 2 := by omega
      rw [dif_pos (by omega), dif_pos h]
      simp only [e]
    · rw [dif_neg (by omega), dif_neg h, mul_zero]

theorem v77_apply : val_main_v77 (F := Ideal) x0 x1 x2 (ix2 r l) = val_main_v72 (F := Ideal) x0 x1 x2 (ix2 r l) * x1 (ix2 r (valc l)) := by
  simp only [val_main_v77, val_main_v74, val_main_v3, val_main_v73, valc]
  pointwise!

theorem v78_apply : val_main_v78 (F := Ideal) x0 x1 x2 (ix2 r l) = val_main_v72 (F := Ideal) x0 x1 x2 (ix2 r l) * x1 (ix2 r (cgc l)) := by
  simp only [val_main_v78, val_main_v73, val_main_v2, cgc]
  pointwise!

theorem v75_apply (k : Fin 8) : val_main_v75 (F := Ideal) x0 x1 (ix2 k l)
    = if k.val = 0 then ∑ x : Fin 2048, d x0 x1 l x * down 2 (z x1 l) x
      else if k.val = 1 then ∑ x : Fin 2048, d x0 x1 l x * down 1 (z x1 l) x
      else if k.val = 2 then ∑ x : Fin 2048, d x0 x1 l x * z x1 l x else 0 := by
  simp only [← v11_apply, ← v19_apply, ← v26_apply, ← v35_apply]
  simp only [val_main_v75, val_main_v70, val_main_v69, val_main_v68, val_main_v65, val_main_v64, val_main_v63, val_main_v62, val_main_v59,
    val_main_v58, val_main_v57, val_main_v54, val_main_v53, val_main_v52, val_main_v51, val_main_v48, val_main_v47, val_main_v45, val_main_v44,
    val_main_v43, val_main_v42, val_main_cst_3, val_main_cst_4, val_main_cst_5, val_main_cst_7, val_main_cst_8, val_main_cst_9, val_main_cst_11,
    val_main_cst_12, val_main_cst_13, val_main_cst_15, val_main_call0_v0, val_main_c]
  pointwise
  have hz : (FloatOps.sitofp FTy.f32 0#32 : Ideal .f32) = 0 := by
    show (((0#32 : BitVec 32).toInt : ℝ) : EReal) = 0
    simp
  rw [hz]
  simp only [Finset.univ_unique, Finset.sum_singleton]
  fin_vals k with hk <;> simp only [hk] <;> norm_num

theorem v79_apply : val_main_v79 (F := Ideal) x0 x1 (ix2 0 l) = ∑ x : Fin 2048, d x0 x1 l x := by
  simp only [← v35_apply]
  simp only [val_main_v79, val_main_v38, val_main_v37, val_main_v39, val_main_cst_2, val_main_cst_3]
  pointwise
  simp only [Finset.univ_unique, Finset.sum_singleton]

end Reference

/-! ## The blocks: columns `l` of the kernel's blocks and `n` of the arrays -/

section Block
open Cert.ConvRefIdeal.Read
variable (dy bg cg val : Vec Ideal S2048x256 .f32) (wt : Vec Ideal S8x256 .f32) (cb : Vec Ideal S1x256 .f32)
  (x0 : FVec Ideal Cert.ConvRefIdeal.S2048x1024 .f32) (x1 : FVec Ideal Cert.ConvRefIdeal.S2048x8192 .f32)
  (x2 : FVec Ideal Cert.ConvRefIdeal.S3x1024 .f32) (x3 : FVec Ideal Cert.ConvRefIdeal.S1024 .f32)
  (r : Fin 2048) (l : Fin 256) (n : Fin 1024)
  (h0 : ∀ i : Fin 2048, dy (ix2 i l) = x0 (ix2 i n))
  (h1 : ∀ i : Fin 2048, bg (ix2 i l) = x1 (ix2 i (bgc n)))
  (h2 : ∀ i : Fin 2048, cg (ix2 i l) = x1 (ix2 i (cgc n)))
  (h3 : ∀ i : Fin 2048, val (ix2 i l) = x1 (ix2 i (valc n)))
  (h4 : ∀ k : Fin 3, wt (ix2 (tap k) l) = x2 (ix2 k n))
  (h5 : cb (ix2 0 l) = x3 (ix1 n))

include h0 h2 h3 h4 h5 in
theorem block6 : k0_pay19 dy (k0_pay10 cg val wt cb) (ix2 r l) = val_main_v76 (F := Ideal) x0 x1 x2 x3 (ix2 r n) := by
  have e : ∀ v : FVec Ideal S2048x256 .f32, k0_pay19 dy v (ix2 r l) = dy (ix2 r l) * v (ix2 r l) := fun v => by
    pointwise [k0_pay19]
  have w0 := h4 0
  have w1 := h4 1
  have w2 := h4 2
  simp only [tap, Fin.val_zero, Fin.val_one, Fin.val_two, Fin.mk_zero, Fin.mk_one, Fin.reduceFinMk] at w0 w1 w2
  rw [v76_apply, e, pay10_apply, h0, h5]
  simp only [h2, h3, w0, w1, w2]
  rfl

include h0 h1 h4 in
/-- The gradient for the branch's input. -/
theorem block_dz : k0_pay14 (k0_pay7 wt) (k0_pay8 wt) (k0_pay11 dy bg) (k0_pay12 dy bg wt) k0_pay13 (ix2 r l)
    = val_main_v72 (F := Ideal) x0 x1 x2 (ix2 r n) := by
  have w0 := h4 0
  have w1 := h4 1
  have w2 := h4 2
  simp only [tap, Fin.val_zero, Fin.val_one, Fin.val_two, Fin.mk_zero, Fin.mk_one, Fin.reduceFinMk] at w0 w1 w2
  rw [v72_apply, pay14_apply]
  simp only [h0, h1, w0, w1, w2]
  rfl

include h0 h1 h3 h4 in
theorem block7 : k0_pay1 (k0_pay16 val (k0_pay7 wt) (k0_pay8 wt) (k0_pay11 dy bg) (k0_pay12 dy bg wt) k0_pay13) (ix2 r l)
    = val_main_v77 (F := Ideal) x0 x1 x2 (ix2 r n) := by
  rw [v77_apply, ← block_dz dy bg wt x0 x1 x2 r l n h0 h1 h4, ← h3]
  unfold k0_pay1 k0_pay16
  pointwise

include h0 h1 h2 h4 in
theorem block8 : k0_pay2 (k0_pay17 cg (k0_pay7 wt) (k0_pay8 wt) (k0_pay11 dy bg) (k0_pay12 dy bg wt) k0_pay13) (ix2 r l)
    = val_main_v78 (F := Ideal) x0 x1 x2 (ix2 r n) := by
  rw [v78_apply, ← block_dz dy bg wt x0 x1 x2 r l n h0 h1 h4, ← h2]
  unfold k0_pay2 k0_pay17
  pointwise

include h0 h1 h2 h3 in
theorem block9 (k : Fin 8) : k0_pay15 (k0_pay4 cg val) (k0_pay5 cg val) (k0_pay6 cg val) (k0_pay11 dy bg) (ix2 k l)
    = val_main_v75 (F := Ideal) x0 x1 (ix2 k n) := by
  rw [v75_apply, pay15_apply]
  simp only [h0, h1, h2, h3]
  rfl

include h0 h1 in
theorem block10 : k0_pay18 (k0_pay11 dy bg) (ix2 0 l) = val_main_v79 (F := Ideal) x0 x1 (ix2 0 n) := by
  rw [v79_apply, pay18_apply]
  simp only [h0, h1]
  rfl

end Block

end Cert.Proof.Conv

end
-- ==== Proof.ConvValue.lean ====
/- The backward call of the short convolution leaves, in each of its five output arrays, what the reference computes. The grid
   has four points; point `t` has the columns `256 t … 256 t + 255` of every array, whole columns, so each output block is the
   reference's array at those columns (`out6` … `out10`). -/
module

public import proofs.«01_k».proof.Proof.Gen.ConvIdeal.Value
public import proofs.«01_k».proof.Proof.ConvPure
public import Idealize.ShloMosaic.Lib.Pointwise
public import Idealize.ShloMosaic.Lib.Pipeline.ValueKit

@[expose] public section

set_option maxRecDepth 16384

noncomputable section

namespace Cert.Proof.Conv

open Cert.ConvIdeal Cert.ConvIdeal.Gen Idealize.ShloMosaic Idealize.ShloMosaic.TcCoe Idealize.SL.Sem

variable (m : (ℓ : Loc nD τ sig) → Buf (Elt Ideal) ℓ)

/-- The block of columns that each window reads or writes at point `t`, on the array that it cuts. -/
theorem idx : ∀ t : Fin cfg0.N, win0_0.index t = ![0, t.val] ∧ win0_1.index t = ![0, 4 + t.val] ∧ win0_2.index t = ![0, 8 + t.val]
    ∧ win0_3.index t = ![0, 12 + t.val] ∧ win0_4.index t = ![0, t.val] ∧ win0_5.index t = ![0, t.val] ∧ win0_6.index t = ![0, t.val]
    ∧ win0_7.index t = ![0, t.val] ∧ win0_8.index t = ![0, t.val] ∧ win0_9.index t = ![0, t.val] ∧ win0_10.index t = ![0, t.val] :=
  (by decide +kernel : ∀ t : Fin grid0.N, _)

theorem lt4 (t : Fin cfg0.N) : t.val < 4 := t.isLt

/-- The array's column under column `l` of the block that point `t` has. -/
def col (t : Fin cfg0.N) (l : Fin 256) : Fin 1024 := ⟨t.val * 256 + l.val, by have := lt4 t; omega⟩

/-! ## The arrays the call is given -/

open StableHlo in
/-- The taps with five rows of zeros under them. -/
def padded (w : FVec Ideal S3x1024 .f32) : FVec Ideal S8x1024 .f32 :=
  pad S8x1024 ![0, 0] ![5, 0] ![0, 0] w (sitofp (F := Ideal) .f32 (constantI S_ 32 0#32)) pads_S3x1024_S8x1024_050_000 h_S_

/-- The bias as one row. -/
def row (b : FVec Ideal S1024 .f32) : FVec Ideal S1x1024 .f32 := shapeCast S1x1024 b shapeCasts_S1024_S1x1024

open StableHlo in
theorem V_v0 (c : Dev nD) : V m c main_v0 = padded (m (c, Proc.tc.devRef main_arg2)) := by
  show StableHlo.after _ _ _ = _
  simp only [hostOps0, hostOps0_1, hostOps0_2, List.flatten_cons, List.flatten_nil, List.append_nil, List.cons_append,
      List.nil_append, TRef.binary, TRef.unary, TRef.toBuf, TRef.ofBuf, cast_eq]
  after_results_simp <;> rfl

open StableHlo in
theorem V_v1 (c : Dev nD) : V m c main_v1 = row (m (c, Proc.tc.devRef main_arg3)) := by
  show StableHlo.after _ _ _ = _
  simp only [hostOps0, hostOps0_1, hostOps0_2, List.flatten_cons, List.flatten_nil, List.append_nil, List.cons_append,
      List.nil_append, TRef.binary, TRef.unary, TRef.toBuf, TRef.ofBuf, cast_eq]
  after_results_simp <;> rfl

theorem padded_apply (w : FVec Ideal S3x1024 .f32) (k : Fin 3) (l : Fin 1024) :
    padded w (ix2 (tap k) l) = w (ix2 k l) := by
  unfold padded tap
  pointwise

theorem row_apply (b : FVec Ideal S1024 .f32) (l : Fin 1024) : row b (ix2 0 l) = b (ix1 l) := by
  unfold row
  pointwise

/-! ## The input blocks -/

section Blocks
variable (c : Dev nD) (t : Fin cfg0.N) (r : Fin 2048) (l : Fin 256)

theorem blk0 : iblk m c 0 t (ix2 r l) = m (c, Proc.tc.devRef main_arg0) (ix2 r (col t l)) := by
  blk_ext [iblk, V, idx t, col, bgc, cgc, valc]
theorem blk1 : iblk m c 1 t (ix2 r l) = m (c, Proc.tc.devRef main_arg1) (ix2 r (bgc (col t l))) := by
  blk_ext [iblk, V, idx t, col, bgc, cgc, valc]
theorem blk2 : iblk m c 2 t (ix2 r l) = m (c, Proc.tc.devRef main_arg1) (ix2 r (cgc (col t l))) := by
  blk_ext [iblk, V, idx t, col, bgc, cgc, valc]
theorem blk3 : iblk m c 3 t (ix2 r l) = m (c, Proc.tc.devRef main_arg1) (ix2 r (valc (col t l))) := by
  blk_ext [iblk, V, idx t, col, bgc, cgc, valc]
theorem blk4v (k : Fin 8) : iblk m c 4 t (ix2 k l) = V m c main_v0 (ix2 k (col t l)) := by
  blk_ext [iblk, idx t, col]
theorem blk5v : iblk m c 5 t (ix2 0 l) = V m c main_v1 (ix2 0 (col t l)) := by
  blk_ext [iblk, idx t, col]
theorem blk4 (k : Fin 3) : iblk m c 4 t (ix2 (tap k) l) = m (c, Proc.tc.devRef main_arg2) (ix2 k (col t l)) := by
  rw [blk4v, V_v0, padded_apply]
theorem blk5 : iblk m c 5 t (ix2 0 l) = m (c, Proc.tc.devRef main_arg3) (ix1 (col t l)) := by
  rw [blk5v, V_v1, row_apply]

end Blocks

/-! ## The output arrays -/

/-- The four arguments' contents. -/
abbrev A0 (c : Dev nD) := m (c, Proc.tc.devRef main_arg0)
abbrev A1 (c : Dev nD) := m (c, Proc.tc.devRef main_arg1)
abbrev A2 (c : Dev nD) := m (c, Proc.tc.devRef main_arg2)
abbrev A3 (c : Dev nD) := m (c, Proc.tc.devRef main_arg3)

theorem out6 (c : Dev nD) : (dats m 0 c).arrAt 6 cfg0.N = Cert.ConvRefIdeal.Read.val_main_v76 (F := Ideal) (A0 m c) (A1 m c) (A2 m c) (A3 m c) := by
  refine (dats m 0 c).arrAt_eq_of_covers 6 _ (by decide +kernel) fun t hf y => ?_
  blk_simp
  rw [after0_6]
  frame_out [k0_pay20, k0_pay21, k0_pay22, k0_pay23, k0_pay24]
  obtain ⟨r, l, rfl⟩ : ∃ (r : Fin 2048) (l : Fin 256), y = ix2 r l := ⟨y 0, y 1, by funext i; fin_cases i <;> rfl⟩
  have e : ((View.whole main_v2_0).slice (win0_6.rect t)).emb (ix2 r l) = ix2 r (col t l) := by
    blk_ext [idx t, col]
  rw [e]
  exact block6 _ _ _ _ _ _ _ _ _ r l (col t l) (fun i => blk0 m c t i l) (fun i => blk2 m c t i l) (fun i => blk3 m c t i l) (blk4 m c t l) (blk5 m c t l)

theorem out7 (c : Dev nD) : (dats m 0 c).arrAt 7 cfg0.N = Cert.ConvRefIdeal.Read.val_main_v77 (F := Ideal) (A0 m c) (A1 m c) (A2 m c) := by
  refine (dats m 0 c).arrAt_eq_of_covers 7 _ (by decide +kernel) fun t hf y => ?_
  blk_simp
  rw [after0_7]
  frame_out [k0_pay20, k0_pay21, k0_pay22, k0_pay23, k0_pay24]
  obtain ⟨r, l, rfl⟩ : ∃ (r : Fin 2048) (l : Fin 256), y = ix2 r l := ⟨y 0, y 1, by funext i; fin_cases i <;> rfl⟩
  have e : ((View.whole main_v2_1).slice (win0_7.rect t)).emb (ix2 r l) = ix2 r (col t l) := by
    blk_ext [idx t, col]
  rw [e]
  exact block7 _ _ _ _ _ _ _ r l (col t l) (fun i => blk0 m c t i l) (fun i => blk1 m c t i l) (fun i => blk3 m c t i l) (blk4 m c t l)

theorem out8 (c : Dev nD) : (dats m 0 c).arrAt 8 cfg0.N = Cert.ConvRefIdeal.Read.val_main_v78 (F := Ideal) (A0 m c) (A1 m c) (A2 m c) := by
  refine (dats m 0 c).arrAt_eq_of_covers 8 _ (by decide +kernel) fun t hf y => ?_
  blk_simp
  rw [after0_8]
  frame_out [k0_pay20, k0_pay21, k0_pay22, k0_pay23, k0_pay24]
  obtain ⟨r, l, rfl⟩ : ∃ (r : Fin 2048) (l : Fin 256), y = ix2 r l := ⟨y 0, y 1, by funext i; fin_cases i <;> rfl⟩
  have e : ((View.whole main_v2_2).slice (win0_8.rect t)).emb (ix2 r l) = ix2 r (col t l) := by
    blk_ext [idx t, col]
  rw [e]
  exact block8 _ _ _ _ _ _ _ r l (col t l) (fun i => blk0 m c t i l) (fun i => blk1 m c t i l) (fun i => blk2 m c t i l) (blk4 m c t l)

theorem out9 (c : Dev nD) : (dats m 0 c).arrAt 9 cfg0.N = Cert.ConvRefIdeal.Read.val_main_v75 (F := Ideal) (A0 m c) (A1 m c) := by
  refine (dats m 0 c).arrAt_eq_of_covers 9 _ (by decide +kernel) fun t hf y => ?_
  blk_simp
  rw [after0_9]
  frame_out [k0_pay20, k0_pay21, k0_pay22, k0_pay23, k0_pay24]
  obtain ⟨r, l, rfl⟩ : ∃ (r : Fin 8) (l : Fin 256), y = ix2 r l := ⟨y 0, y 1, by funext i; fin_cases i <;> rfl⟩
  have e : ((View.whole main_v2_3).slice (win0_9.rect t)).emb (ix2 r l) = ix2 r (col t l) := by
    blk_ext [idx t, col]
  rw [e]
  exact block9 _ _ _ _ _ _ l (col t l) (fun i => blk0 m c t i l) (fun i => blk1 m c t i l) (fun i => blk2 m c t i l) (fun i => blk3 m c t i l) r

theorem out10 (c : Dev nD) : (dats m 0 c).arrAt 10 cfg0.N = Cert.ConvRefIdeal.Read.val_main_v79 (F := Ideal) (A0 m c) (A1 m c) := by
  refine (dats m 0 c).arrAt_eq_of_covers 10 _ (by decide +kernel) fun t hf y => ?_
  blk_simp
  rw [after0_10]
  frame_out [k0_pay20, k0_pay21, k0_pay22, k0_pay23, k0_pay24]
  obtain ⟨r, l, rfl⟩ : ∃ (r : Fin 1) (l : Fin 256), y = ix2 r l := ⟨y 0, y 1, by funext i; fin_cases i <;> rfl⟩
  have e : ((View.whole main_v2_4).slice (win0_10.rect t)).emb (ix2 r l) = ix2 r (col t l) := by
    blk_ext [idx t, col]
  rw [e]
  rw [Subsingleton.elim r 0]
  exact block10 _ _ _ _ l (col t l) (fun i => blk0 m c t i l) (fun i => blk1 m c t i l)

end Cert.Proof.Conv

end
-- ==== Proof.ConvClaim.lean ====
/- The claims about the short convolution's backward call (`Conv`, `ConvIdeal`) and its reference (`ConvRefIdeal`). -/
module

public import proofs.«01_k».proof.Defs
public import proofs.«01_k».proof.Proof.ConvValue
public import proofs.«01_k».proof.Proof.Gen.ConvRefIdeal.Run
public import Idealize.ShloMosaic.Lib.Claim

@[expose] public section

set_option maxRecDepth 16384

noncomputable section

namespace Cert.Proof.Conv

open Idealize.ShloMosaic Idealize.ShloMosaic.TcCoe Idealize.SL.Sem

/-- The reference never faults and leaves its arguments. -/
theorem frame_ref : Cert.quiescent_ConvRefIdeal (hConvRefIdeal := Cert.ConvRefIdeal.Gen.facts) := by
  intro m ρ _
  exact (θ_run _ _ _).mono (fun r h => ⟨fun c => ⟨(h c).2.2.2.2.2.1, (h c).2.2.2.2.2.2.1, (h c).2.2.2.2.2.2.2.1, (h c).2.2.2.2.2.2.2.2⟩, sem_eq_zero_of_no_sems (by decide) _⟩) (Cert.ConvRefIdeal.Value.run m ρ)

/-- From equal arguments the call and its reference end with equal results. -/
theorem algebraic : Cert.algebraic_ConvIdeal_ConvRefIdeal (hConvIdeal := Cert.ConvIdeal.Gen.facts) (hConvRefIdeal := Cert.ConvRefIdeal.Gen.facts) := by
  pair_intro
  · run_from Cert.ConvIdeal.Value.run_blocks (F := Ideal) m g
  · run_from Cert.ConvRefIdeal.Value.run (F := Ideal) m' g'
    all_goals obtain ⟨h0, h1, h2, h3⟩ := hagree c
    · rw [out6, A0, A1, A2, A3, ← h0, ← h1, ← h2, ← h3]
      exact Cert.ConvRefIdeal.Read.val_main_v76_eq _ _ _ _
    · rw [out7, A0, A1, A2, ← h0, ← h1, ← h2]
      exact Cert.ConvRefIdeal.Read.val_main_v77_eq _ _ _
    · rw [out8, A0, A1, A2, ← h0, ← h1, ← h2]
      exact Cert.ConvRefIdeal.Read.val_main_v78_eq _ _ _
    · rw [out9, A0, A1, ← h0, ← h1]
      exact Cert.ConvRefIdeal.Read.val_main_v75_eq _ _
    · rw [out10, A0, A1, ← h0, ← h1]
      exact Cert.ConvRefIdeal.Read.val_main_v79_eq _ _

end Cert.Proof.Conv

end
-- ==== Proof.ConvF.lean ====
/- The short convolution's forward call and its reference: in every column, the gate times the sum of the bias and of the three
   taps' products with the column of inputs, that column moved down by one row and by two. The kernel moves a column by a rotation
   and a mask, the reference by two rows of zeros laid in front and a slice. A point of the grid of four has whole columns, and
   every column of the result is written once. -/
module

public import proofs.«01_k».proof.Defs
public import proofs.«01_k».proof.Proof.Gen.ConvFIdeal.Value
public import proofs.«01_k».proof.Proof.Gen.ConvFRefIdeal.Read
public import Idealize.ShloMosaic.Lib.Claim
public import Idealize.ShloMosaic.Lib.Pointwise
public import Idealize.ShloMosaic.Lib.Pipeline.ValueKit

@[expose] public section

set_option maxRecDepth 16384

noncomputable section

namespace Cert.Proof.ConvF

open Cert.ConvFIdeal Cert.ConvFIdeal.Gen Idealize.ShloMosaic Idealize.ShloMosaic.TcCoe Idealize.SL.Sem

/-- A column moved down by `k` rows, zeros above. -/
def down (k : Nat) (f : Fin 2048 → EReal) (r : Fin 2048) : EReal := if k ≤ r.val then f ⟨r.val - k, by omega⟩ else 0

/-- The columns of the projection that belong to column `n` of the branch: its gate's, its input's gate's and its value's. -/
def bgc (n : Fin 1024) : Fin 8192 := ⟨1024 + n.val, by omega⟩
def cgc (n : Fin 1024) : Fin 8192 := ⟨2048 + n.val, by omega⟩
def valc (n : Fin 1024) : Fin 8192 := ⟨3072 + n.val, by omega⟩
/-- The row of the eight that holds tap `k`. -/
def tap (k : Fin 3) : Fin 8 := ⟨k.val, by omega⟩

/-! ## The masks' comparisons of a row number with a constant -/

theorem sge1 : ∀ r : Fin 2048, IntOp.cmpi .sge (BitVec.ofNat 32 r.val) 1#32 = if 1 ≤ r.val then 1#1 else 0#1 := by decide +kernel
theorem sge2 : ∀ r : Fin 2048, IntOp.cmpi .sge (BitVec.ofNat 32 r.val) 2#32 = if 2 ≤ r.val then 1#1 else 0#1 := by decide +kernel

theorem select_if {α : Type} (p : Prop) [Decidable p] (a b : α) :
    Scalar.select (if p then (1#1 : BitVec 1) else 0#1) a b = if p then a else b := by
  by_cases h : p <;> simp [h, Scalar.select]

/-- The branch's value in row `r`, from its gate there, the bias, the three taps and the column of inputs. -/
def branch (gate bias w0 w1 w2 : EReal) (f : Fin 2048 → EReal) (r : Fin 2048) : EReal :=
  gate * (bias + w0 * down 2 f r + w1 * down 1 f r + w2 * f r)

/-- The kernel's value. -/
theorem payload (cg val bg : Vec Ideal S2048x256 .f32) (wt : Vec Ideal S8x256 .f32) (cb : Vec Ideal S1x256 .f32)
    (r : Fin 2048) (l : Fin 256) : k0_pay1 cg val bg wt cb (ix2 r l)
    = branch (bg (ix2 r l)) (cb (ix2 0 l)) (wt (ix2 0 l)) (wt (ix2 1 l)) (wt (ix2 2 l)) (fun i => cg (ix2 i l) * val (ix2 i l)) r := by
  pointwise [k0_pay1]
  rw [sge1, sge2, select_if, select_if]
  unfold branch down
  have e1 : ∀ h : 1 ≤ r.val, (r.val + 2048 - 1) % 2048 = r.val - 1 := fun h => by omega
  have e2 : ∀ h : 2 ≤ r.val, (r.val + 2048 - 2) % 2048 = r.val - 2 := fun h => by omega
  by_cases h2 : 2 ≤ r.val
  · have h1 : 1 ≤ r.val := by omega
    simp only [h1, h2, if_true, e1 h1, e2 h2]
  · by_cases h1 : 1 ≤ r.val
    · simp only [h1, h2, if_true, if_false, e1 h1, mul_zero]
    · simp only [h1, h2, if_false, mul_zero]

/-- The same of a block whose entries are those of a column of the whole arrays. -/
theorem block (cg val bg : Vec Ideal S2048x256 .f32) (wt : Vec Ideal S8x256 .f32) (cb : Vec Ideal S1x256 .f32)
    (r : Fin 2048) (l : Fin 256) (f : Fin 2048 → EReal) (gate bias w0 w1 w2 : EReal) (hf : ∀ i, cg (ix2 i l) * val (ix2 i l) = f i)
    (hg : bg (ix2 r l) = gate) (hb : cb (ix2 0 l) = bias) (h0 : wt (ix2 (tap 0) l) = w0) (h1 : wt (ix2 (tap 1) l) = w1)
    (h2 : wt (ix2 (tap 2) l) = w2) : k0_pay1 cg val bg wt cb (ix2 r l) = branch gate bias w0 w1 w2 f r := by
  subst hg hb h0 h1 h2
  rw [payload, funext hf]
  rfl

/-! ## The reference's values: `x0` the projection, `x1` the taps, `x2` the bias -/

section Reference
open Cert.ConvFRefIdeal Cert.ConvFRefIdeal.Read
variable (x0 : FVec Ideal Cert.ConvFRefIdeal.S2048x8192 .f32) (x1 : FVec Ideal Cert.ConvFRefIdeal.S3x1024 .f32)
  (x2 : FVec Ideal Cert.ConvFRefIdeal.S1024 .f32) (r : Fin 2048) (l : Fin 1024)

/-- The branch's input, the product of its gate and its value, as a column. -/
def z (l : Fin 1024) (i : Fin 2048) : EReal := x0 (ix2 i (cgc l)) * x0 (ix2 i (valc l))

theorem ref_shift0 : val_main_v25 (F := Ideal) x0 (ix2 r l) = z x0 l r := by
  unfold val_main_v25 val_main_v7 val_main_v5 val_main_v2 val_main_v3 z cgc valc
  pointwise

theorem ref_shift1 : val_main_v18 (F := Ideal) x0 (ix2 r l) = down 1 (z x0 l) r := by
  unfold val_main_v18 val_main_v7 val_main_v5 val_main_v2 val_main_v3 val_main_v6 val_main_cst down z cgc valc
  pointwise
  by_cases h : 1 ≤ r.val
  · have e : 1 + r.val - 2 = r.val - 1 := by omega
    rw [dif_neg (by omega), if_pos h]
    simp only [e]
  · rw [dif_pos (by omega), if_neg h]

theorem ref_shift2 : val_main_v10 (F := Ideal) x0 (ix2 r l) = down 2 (z x0 l) r := by
  unfold val_main_v10 val_main_v7 val_main_v5 val_main_v2 val_main_v3 val_main_v6 val_main_cst down z cgc valc
  pointwise
  by_cases h : 2 ≤ r.val
  · rw [dif_neg (by omega), if_pos h]
  · rw [dif_pos (by omega), if_neg h]

/-- The reference's value. -/
theorem ref_apply : val_main_v34 (F := Ideal) x0 x1 x2 (ix2 r l)
    = branch (x0 (ix2 r (bgc l))) (x2 (ix1 l)) (x1 (ix2 0 l)) (x1 (ix2 1 l)) (x1 (ix2 2 l)) (z x0 l) r := by
  unfold branch
  rw [← ref_shift2, ← ref_shift1, ← ref_shift0]
  simp only [val_main_v34, val_main_v33, val_main_v32, val_main_v31, val_main_v30, val_main_v29, val_main_v28, val_main_v27, val_main_v26,
    val_main_v24, val_main_v23, val_main_v22, val_main_v21, val_main_v20, val_main_v19, val_main_v17, val_main_v16, val_main_v15, val_main_v14,
    val_main_cst_0, val_main_v13, val_main_v12, val_main_v11, val_main_v9, val_main_v8, val_main_v1, bgc]
  pointwise
  simp only [add_assoc]

end Reference

variable (m : (ℓ : Loc nD τ sig) → Buf (Elt Ideal) ℓ)

/-- The block of columns that each window reads or writes at point `t`, on the array that it cuts. -/
theorem idx : ∀ t : Fin cfg0.N, win0_0.index t = ![0, 8 + t.val] ∧ win0_1.index t = ![0, 12 + t.val] ∧ win0_2.index t = ![0, 4 + t.val]
    ∧ win0_3.index t = ![0, t.val] ∧ win0_4.index t = ![0, t.val] ∧ win0_5.index t = ![0, t.val] :=
  (by decide +kernel : ∀ t : Fin grid0.N, _)

theorem lt4 (t : Fin cfg0.N) : t.val < 4 := t.isLt

/-- The array's column under column `l` of the block that point `t` has. -/
def col (t : Fin cfg0.N) (l : Fin 256) : Fin 1024 := ⟨t.val * 256 + l.val, by have := lt4 t; omega⟩

/-! ## The arrays the call is given -/

/-- The three arguments' contents. -/
abbrev A0 (c : Dev nD) : FVec Ideal S2048x8192 .f32 := m (c, Proc.tc.devRef main_arg0)
abbrev A1 (c : Dev nD) : FVec Ideal S3x1024 .f32 := m (c, Proc.tc.devRef main_arg1)
abbrev A2 (c : Dev nD) : FVec Ideal S1024 .f32 := m (c, Proc.tc.devRef main_arg2)

open StableHlo in
/-- The taps with five rows of zeros under them. -/
def padded (w : FVec Ideal S3x1024 .f32) : FVec Ideal S8x1024 .f32 :=
  pad S8x1024 ![0, 0] ![5, 0] ![0, 0] w (sitofp (F := Ideal) .f32 (constantI S_ 32 0#32)) pads_S3x1024_S8x1024_050_000 h_S_

/-- The bias as one row. -/
def row (b : FVec Ideal S1024 .f32) : FVec Ideal S1x1024 .f32 := shapeCast S1x1024 b shapeCasts_S1024_S1x1024

open StableHlo in
theorem V_v0 (c : Dev nD) : V m c main_v0 = padded (A1 m c) := by
  show StableHlo.after _ _ _ = _
  simp only [hostOps0, hostOps0_1, hostOps0_2, List.flatten_cons, List.flatten_nil, List.append_nil, List.cons_append,
      List.nil_append, TRef.binary, TRef.unary, TRef.toBuf, TRef.ofBuf, cast_eq]
  after_results_simp <;> rfl

open StableHlo in
theorem V_v1 (c : Dev nD) : V m c main_v1 = row (A2 m c) := by
  show StableHlo.after _ _ _ = _
  simp only [hostOps0, hostOps0_1, hostOps0_2, List.flatten_cons, List.flatten_nil, List.append_nil, List.cons_append,
      List.nil_append, TRef.binary, TRef.unary, TRef.toBuf, TRef.ofBuf, cast_eq]
  after_results_simp <;> rfl

theorem padded_apply (w : FVec Ideal S3x1024 .f32) (k : Fin 3) (l : Fin 1024) : padded w (ix2 (tap k) l) = w (ix2 k l) := by
  unfold padded tap
  pointwise

theorem row_apply (b : FVec Ideal S1024 .f32) (l : Fin 1024) : row b (ix2 0 l) = b (ix1 l) := by
  unfold row
  pointwise

/-! ## The input blocks -/

section Blocks
variable (c : Dev nD) (t : Fin cfg0.N) (r : Fin 2048) (l : Fin 256)

theorem blk0 : iblk m c 0 t (ix2 r l) = A0 m c (ix2 r (cgc (col t l))) := by
  blk_ext [iblk, V, idx t, col, bgc, cgc, valc]
theorem blk1 : iblk m c 1 t (ix2 r l) = A0 m c (ix2 r (valc (col t l))) := by
  blk_ext [iblk, V, idx t, col, bgc, cgc, valc]
theorem blk2 : iblk m c 2 t (ix2 r l) = A0 m c (ix2 r (bgc (col t l))) := by
  blk_ext [iblk, V, idx t, col, bgc, cgc, valc]
theorem blk3 (k : Fin 3) : iblk m c 3 t (ix2 (tap k) l) = A1 m c (ix2 k (col t l)) := by
  have e : iblk m c 3 t (ix2 (tap k) l) = V m c main_v0 (ix2 (tap k) (col t l)) := by blk_ext [iblk, idx t, col]
  rw [e, V_v0, padded_apply]
theorem blk4 : iblk m c 4 t (ix2 0 l) = A2 m c (ix1 (col t l)) := by
  have e : iblk m c 4 t (ix2 0 l) = V m c main_v1 (ix2 0 (col t l)) := by blk_ext [iblk, idx t, col]
  rw [e, V_v1, row_apply]

end Blocks

/-- The branch's values. -/
theorem result (c : Dev nD) : (dats m 0 c).arrAt 5 cfg0.N = Cert.ConvFRefIdeal.Read.val_main_v34 (F := Ideal) (A0 m c) (A1 m c) (A2 m c) := by
  refine (dats m 0 c).arrAt_eq_of_covers 5 _ (by decide +kernel) fun t hf y => ?_
  blk_simp
  rw [after0_5]
  frame_out
  obtain ⟨r, l, rfl⟩ : ∃ (r : Fin 2048) (l : Fin 256), y = ix2 r l := ⟨y 0, y 1, by funext i; fin_cases i <;> rfl⟩
  have e : ((View.whole main_v2).slice (win0_5.rect t)).emb (ix2 r l) = ix2 r (col t l) := by blk_ext [idx t, col]
  rw [e, ref_apply]
  exact block _ _ _ _ _ r l _ _ _ _ _ _ (fun i => congrArg₂ (fun a b : EReal => a * b) (blk0 m c t i l) (blk1 m c t i l))
    (blk2 m c t r l) (blk4 m c t l) (blk3 m c t l 0) (blk3 m c t l 1) (blk3 m c t l 2)

/-- The reference never faults and leaves its arguments. -/
theorem frame_ref : Cert.quiescent_ConvFRefIdeal (hConvFRefIdeal := Cert.ConvFRefIdeal.Gen.facts) := by
  intro m ρ _
  exact (θ_run _ _ _).mono (fun r h => ⟨fun c => (h c).2, sem_eq_zero_of_no_sems (by decide) _⟩) (Cert.ConvFRefIdeal.Value.run m ρ)

/-- From equal arguments the call and its reference end with equal results. -/
theorem algebraic : Cert.algebraic_ConvFIdeal_ConvFRefIdeal (hConvFIdeal := Cert.ConvFIdeal.Gen.facts)
    (hConvFRefIdeal := Cert.ConvFRefIdeal.Gen.facts) := by
  pair_intro
  · run_from Cert.ConvFIdeal.Value.run_blocks (F := Ideal) m g
  · run_from Cert.ConvFRefIdeal.Value.run (F := Ideal) m' g'
    all_goals obtain ⟨h0, h1, h2⟩ := hagree c
    · rw [result, A0, A1, A2, ← h0, ← h1, ← h2]
      exact Cert.ConvFRefIdeal.Read.val_main_v34_eq (F := Ideal) _ _ _

end Cert.Proof.ConvF

end
-- ==== Proof.SOut.lean ====
/- The S5 branch's output product. The grid has 4 × 2 points; point `2 j + i` has rows `1024 i …` of the branch and the block `j`
   of the weight's columns, so each block is the reference's product there (`product`). -/
module

public import proofs.«01_k».proof.Defs
public import proofs.«01_k».proof.Proof.Gen.SOutIdeal.Value
public import proofs.«01_k».proof.Proof.Gen.SOutRefIdeal.Run
public import proofs.«01_k».proof.Proof.Gen.SOutRefIdeal.Read
public import Idealize.ShloMosaic.Lib.Pointwise
public import Idealize.ShloMosaic.Lib.Pipeline.ValueKit
public import Idealize.ShloMosaic.Lib.Claim

@[expose] public section

set_option maxRecDepth 16384

noncomputable section

namespace Cert.Proof.SOut

open Cert.SOutIdeal Cert.SOutIdeal.Gen Idealize.ShloMosaic Idealize.ShloMosaic.TcCoe Idealize.SL.Sem

/-- The output weight in its four blocks of columns, as the host lays them out. -/
def blocks (w : FVec Ideal S1024x2048 .f32) : FVec Ideal S4x1024x512 .bf16 :=
  truncf .bf16 (transpose S4x1024x512 [1, 0, 2] (shapeCast S1024x4x512 w shapeCasts_S1024x2048_S1024x4x512)
    transposes_S1024x4x512_S4x1024x512_1_0_2) bitsLt_bf16_f32

/-- The column of the whole weight under column `l` of block `b`. -/
def wcol (b : Fin 4) (l : Fin 512) : Fin 2048 := ⟨b.val * 512 + l.val, by omega⟩

theorem blocks_apply (w : FVec Ideal S1024x2048 .f32) (b : Fin 4) (k : Fin 1024) (l : Fin 512) :
    blocks w (ix3 b k l) = w (ix2 k (wcol b l)) := by
  simp only [blocks]
  pointwise [wcol]

/-- The product at row `r` and column `l`. -/
def dot (y : FVec Ideal S2048x1024 .f32) (w : FVec Ideal S1024x2048 .f32) (r l : Fin 2048) : EReal :=
  ∑ k : Fin 1024, y (ix2 r k) * w (ix2 k l)

/-- One block, read at an index. -/
theorem payload (x : Vec Ideal S1024x1024 .bf16) (w : Vec Ideal S1x1024x512 .bf16) (r : Fin 1024) (l : Fin 512) :
    k0_pay1 x w (ix2 r l) = ∑ k : Fin 1024, x (ix2 r k) * w (ix3 0 k l) := by
  pointwise [k0_pay1]

/-- The reference's product, read at an index. -/
theorem ref_apply (y : FVec Ideal S2048x1024 .f32) (w : FVec Ideal S1024x2048 .f32) (r l : Fin 2048) :
    Cert.SOutRefIdeal.Read.val_main_v0 (F := Ideal) y w (ix2 r l) = dot y w r l := by
  unfold dot
  simp only [Cert.SOutRefIdeal.Read.val_main_v0]
  pointwise

variable (m : (ℓ : Loc nD τ sig) → Buf (Elt Ideal) ℓ)

theorem idx : ∀ t : Fin cfg0.N, win0_0.index t = ![t.val % 2, 0]
    ∧ win0_1.index t = ![t.val / 2, 0, 0]
    ∧ win0_2.index t = ![t.val % 2, t.val / 2] :=
  (by decide +kernel : ∀ t : Fin grid0.N, _)

theorem lt8 (t : Fin cfg0.N) : t.val < 8 := t.isLt

/-- The row of the whole arrays under row `r` of point `t`'s block, and the block of the weight that the point has. -/
def row (t : Fin cfg0.N) (r : Fin 1024) : Fin 2048 := ⟨t.val % 2 * 1024 + r.val, by omega⟩
def block (t : Fin cfg0.N) : Fin 4 := ⟨t.val / 2, by have := lt8 t; omega⟩

abbrev Y (c : Dev nD) : FVec Ideal S2048x1024 .f32 := m (c, Proc.tc.devRef main_arg0)
abbrev W (c : Dev nD) : FVec Ideal S1024x2048 .f32 := m (c, Proc.tc.devRef main_arg1)

open StableHlo in
theorem V_v0 (c : Dev nD) : V m c main_v0 = Y m c := by
  show StableHlo.after _ _ _ = _
  after_results_simp <;> rfl

open StableHlo in
theorem V_v3 (c : Dev nD) : V m c main_v3 = blocks (W m c) := by
  show StableHlo.after _ _ _ = _
  after_results_simp <;> rfl

theorem blk0 (c : Dev nD) (t : Fin cfg0.N) (r k : Fin 1024) : iblk m c 0 t (ix2 r k) = Y m c (ix2 (row t r) k) := by
  have e : iblk m c 0 t (ix2 r k) = V m c main_v0 (ix2 (row t r) k) := by blk_ext [iblk, idx t, row]
  rw [e, V_v0]

theorem blk1 (c : Dev nD) (t : Fin cfg0.N) (k : Fin 1024) (l : Fin 512) : iblk m c 1 t (ix3 0 k l) = W m c (ix2 k (wcol (block t) l)) := by
  have e : iblk m c 1 t (ix3 0 k l) = V m c main_v3 (ix3 (block t) k l) := by blk_ext [iblk, idx t, block]
  rw [e, V_v3, blocks_apply]

/-- A block whose operands are these rows and columns is the reference's product there. -/
theorem block_eq (y : FVec Ideal S2048x1024 .f32) (w : FVec Ideal S1024x2048 .f32) (yb : Vec Ideal S1024x1024 .bf16)
    (wb : Vec Ideal S1x1024x512 .bf16) (r : Fin 1024) (l : Fin 512) (R L : Fin 2048)
    (hy : ∀ k : Fin 1024, yb (ix2 r k) = y (ix2 R k)) (hw : ∀ k : Fin 1024, wb (ix3 0 k l) = w (ix2 k L)) :
    k0_pay1 yb wb (ix2 r l) = Cert.SOutRefIdeal.Read.val_main_v0 (F := Ideal) y w (ix2 R L) := by
  rw [payload, ref_apply, dot]
  exact Finset.sum_congr rfl fun k _ => by rw [hy, hw]

theorem ix2_of (y : S1024x512.Idx) : ∃ (r : Fin 1024) (l : Fin 512), y = ix2 r l := ⟨y 0, y 1, by funext i; fin_cases i <;> rfl⟩

/-- The S5 branch's output. -/
theorem product (c : Dev nD) : (dats m 0 c).arrAt 2 cfg0.N = Cert.SOutRefIdeal.Read.val_main_v0 (F := Ideal) (Y m c) (W m c) := by
  refine (dats m 0 c).arrAt_eq_of_covers 2 _ (by decide +kernel) fun t hf y => ?_
  blk_simp
  rw [after0_2]
  frame_out
  obtain ⟨r, l, rfl⟩ := ix2_of y
  have e : ((View.whole main_v4).slice (win0_2.rect t)).emb (ix2 r l) = ix2 (row t r) (wcol (block t) l) := by blk_ext [idx t, row, wcol, block]
  rw [e]
  exact block_eq (Y m c) (W m c) _ _ r l (row t r) (wcol (block t) l) (fun k => blk0 m c t r k) (fun k => blk1 m c t k l)

/-- The reference never faults and leaves its arguments. -/
theorem frame_ref : Cert.quiescent_SOutRefIdeal (hSOutRefIdeal := Cert.SOutRefIdeal.Gen.facts) := by
  intro m ρ _
  exact (θ_run _ _ _).mono (fun r h => ⟨fun c => (h c).2, sem_eq_zero_of_no_sems (by decide) _⟩) (Cert.SOutRefIdeal.Value.run m ρ)

/-- From equal arguments the call and its reference end with equal results. -/
theorem algebraic : Cert.algebraic_SOutIdeal_SOutRefIdeal (hSOutIdeal := Cert.SOutIdeal.Gen.facts)
    (hSOutRefIdeal := Cert.SOutRefIdeal.Gen.facts) := by
  pair_intro
  · run_from Cert.SOutIdeal.Value.run_blocks (F := Ideal) m g
  · run_from Cert.SOutRefIdeal.Value.run (F := Ideal) m' g'
    obtain ⟨h0, h1⟩ := hagree c
    rw [product, Y, W, ← h0, ← h1]
    exact Cert.SOutRefIdeal.Read.val_main_v0_eq (F := Ideal) _ _

end Cert.Proof.SOut

end
-- ==== Proof.ConvOut.lean ====
/- The convolution branch's output product, with the merge of the two branches and the merge's derivatives in its epilogue. The
   grid has 4 × 2 points; point `2 j + i` has rows `1024 i …` and the block `j` of the weight's columns; the gates of the two branches
   lie from column 4096 and from column 6144 of the input projection's result. Each block of the five results is the reference's. -/
module

public import proofs.«01_k».proof.Defs
public import proofs.«01_k».proof.Proof.SOut
public import proofs.«01_k».proof.Proof.Gen.ConvOutIdeal.Value
public import proofs.«01_k».proof.Proof.Gen.ConvOutRefIdeal.Run
public import proofs.«01_k».proof.Proof.Gen.ConvOutRefIdeal.Read
public import Idealize.ShloMosaic.Lib.Pointwise
public import Idealize.ShloMosaic.Lib.Pipeline.ValueKit
public import Idealize.ShloMosaic.Lib.Claim

@[expose] public section

set_option maxRecDepth 16384

noncomputable section

namespace Cert.Proof.ConvOut

open Cert.ConvOutIdeal Cert.ConvOutIdeal.Gen Idealize.ShloMosaic Idealize.ShloMosaic.TcCoe Idealize.SL.Sem

/-- The product at row `r` and column `l`. -/
def dot (y : FVec Ideal S2048x1024 .f32) (w : FVec Ideal S1024x2048 .f32) (r l : Fin 2048) : EReal :=
  ∑ k : Fin 1024, y (ix2 r k) * w (ix2 k l)

/-- The derivative of the logistic function. -/
def slope (x : EReal) : EReal := Ideal.logistic x * (1 - Ideal.logistic x)

/-- The columns of the two gates in the input projection's result. -/
def gcol (l : Fin 2048) : Fin 8192 := ⟨4096 + l.val, by omega⟩
def hcol (l : Fin 2048) : Fin 8192 := ⟨6144 + l.val, by omega⟩

section Block
variable (x : Vec Ideal S1024x1024 .bf16) (w : Vec Ideal S1x1024x512 .bf16) (g h z : Vec Ideal S1024x512 .f32)
  (r : Fin 1024) (l : Fin 512)

/-- The product that a block has. -/
def part : EReal := ∑ k : Fin 1024, x (ix2 r k) * w (ix3 0 k l)

theorem payload4 : k0_pay4 x w g h z (ix2 r l)
    = Ideal.logistic (g (ix2 r l)) * z (ix2 r l) + Ideal.logistic (h (ix2 r l)) * part x w r l := by
  unfold part
  pointwise [k0_pay4, k0_pay3, k0_pay2, k0_pay1]

theorem payload5 : k0_pay5 g (ix2 r l) = Ideal.logistic (g (ix2 r l)) := by
  pointwise [k0_pay5, k0_pay2]

theorem payload6 : k0_pay6 h (ix2 r l) = Ideal.logistic (h (ix2 r l)) := by
  pointwise [k0_pay6, k0_pay3]

theorem payload7 : k0_pay7 g z (ix2 r l) = z (ix2 r l) * slope (g (ix2 r l)) := by
  unfold slope
  pointwise [k0_pay7, k0_pay2]

theorem payload8 : k0_pay8 x w h (ix2 r l) = part x w r l * slope (h (ix2 r l)) := by
  unfold part slope
  pointwise [k0_pay8, k0_pay3, k0_pay1]

end Block

section Reference
open Cert.ConvOutRefIdeal.Read
variable (y : FVec Ideal S2048x1024 .f32) (w : FVec Ideal S1024x2048 .f32) (z : FVec Ideal S2048x2048 .f32)
  (p : FVec Ideal S2048x8192 .f32) (r l : Fin 2048)

theorem ref46_apply : val_main_v46 (F := Ideal) y w z p (ix2 r l)
    = Ideal.logistic (p (ix2 r (gcol l))) * z (ix2 r l) + Ideal.logistic (p (ix2 r (hcol l))) * dot y w r l := by
  unfold dot Ideal.logistic
  simp only [val_main_v46, val_main_v17, val_main_v16, val_main_v9, val_main_v2, val_main_v8, val_main_v7, val_main_v6, val_main_v5, val_main_v4, val_main_v3, val_main_v0, val_main_cst, val_main_cst_0,
    val_main_v15, val_main_v14, val_main_v13, val_main_v12, val_main_v11, val_main_v10, val_main_v1, val_main_cst_1, val_main_cst_2]
  pointwise [gcol, hcol]

theorem ref47_apply : val_main_v47 (F := Ideal) p (ix2 r l) = Ideal.logistic (p (ix2 r (gcol l))) := by
  unfold Ideal.logistic
  simp only [val_main_v47, val_main_v43, val_main_v39, val_main_cst_9, val_main_v23, val_main_v22, val_main_v21, val_main_v20, val_main_v19, val_main_v18, val_main_v0, val_main_cst_3,
    val_main_cst_4]
  pointwise [gcol]

theorem ref48_apply : val_main_v48 (F := Ideal) p (ix2 r l) = Ideal.logistic (p (ix2 r (hcol l))) := by
  unfold Ideal.logistic
  simp only [val_main_v48, val_main_v40, val_main_v39, val_main_cst_9, val_main_v33, val_main_v32, val_main_v31, val_main_v30, val_main_v29, val_main_v28, val_main_v1, val_main_cst_6,
    val_main_cst_7]
  pointwise [hcol]

theorem ref49_apply : val_main_v49 (F := Ideal) z p (ix2 r l) = z (ix2 r l) * slope (p (ix2 r (gcol l))) := by
  unfold slope Ideal.logistic
  simp only [val_main_v49, val_main_v45, val_main_v44, val_main_v39, val_main_v26, val_main_v25, val_main_v24, val_main_cst_5,
    val_main_cst_9, val_main_v23, val_main_v22, val_main_v21, val_main_v20, val_main_v19, val_main_v18, val_main_v0, val_main_cst_3,
    val_main_cst_4]
  pointwise [gcol]

theorem ref50_apply : val_main_v50 (F := Ideal) y w p (ix2 r l) = dot y w r l * slope (p (ix2 r (hcol l))) := by
  unfold dot slope Ideal.logistic
  simp only [val_main_v50, val_main_v42, val_main_v41, val_main_v39, val_main_v36, val_main_v35, val_main_v34, val_main_v2,
    val_main_cst_8, val_main_cst_9, val_main_v33, val_main_v32, val_main_v31, val_main_v30, val_main_v29, val_main_v28, val_main_v1, val_main_cst_6,
    val_main_cst_7]
  pointwise [hcol]

end Reference

variable (m : (ℓ : Loc nD τ sig) → Buf (Elt Ideal) ℓ)

theorem idx : ∀ t : Fin cfg0.N, win0_0.index t = ![t.val % 2, 0]
    ∧ win0_1.index t = ![t.val / 2, 0, 0]
    ∧ win0_2.index t = ![t.val % 2, 8 + t.val / 2]
    ∧ win0_3.index t = ![t.val % 2, 12 + t.val / 2]
    ∧ win0_4.index t = ![t.val % 2, t.val / 2]
    ∧ win0_5.index t = ![t.val % 2, t.val / 2]
    ∧ win0_6.index t = ![t.val % 2, t.val / 2]
    ∧ win0_7.index t = ![t.val % 2, t.val / 2]
    ∧ win0_8.index t = ![t.val % 2, t.val / 2]
    ∧ win0_9.index t = ![t.val % 2, t.val / 2] :=
  (by decide +kernel : ∀ t : Fin grid0.N, _)

theorem lt8 (t : Fin cfg0.N) : t.val < 8 := t.isLt

/-- The row of the whole arrays under row `r` of point `t`'s block, the block of the weight that the point has, and the column of
    the whole arrays under column `l` of the block. -/
def row (t : Fin cfg0.N) (r : Fin 1024) : Fin 2048 := ⟨t.val % 2 * 1024 + r.val, by omega⟩
def block (t : Fin cfg0.N) : Fin 4 := ⟨t.val / 2, by have := lt8 t; omega⟩
abbrev col (t : Fin cfg0.N) (l : Fin 512) : Fin 2048 := SOut.wcol (block t) l

abbrev Y (c : Dev nD) : FVec Ideal S2048x1024 .f32 := m (c, Proc.tc.devRef main_arg0)
abbrev W (c : Dev nD) : FVec Ideal S1024x2048 .f32 := m (c, Proc.tc.devRef main_arg1)
abbrev Z (c : Dev nD) : FVec Ideal S2048x2048 .f32 := m (c, Proc.tc.devRef main_arg2)
abbrev Pr (c : Dev nD) : FVec Ideal S2048x8192 .f32 := m (c, Proc.tc.devRef main_arg3)

open StableHlo in
theorem V_v0 (c : Dev nD) : V m c main_v0 = Y m c := by
  show StableHlo.after _ _ _ = _
  after_results_simp <;> rfl

open StableHlo in
theorem V_v3 (c : Dev nD) : V m c main_v3 = SOut.blocks (W m c) := by
  show StableHlo.after _ _ _ = _
  after_results_simp <;> rfl

theorem blk0 (c : Dev nD) (t : Fin cfg0.N) (r k : Fin 1024) : iblk m c 0 t (ix2 r k) = Y m c (ix2 (row t r) k) := by
  have e : iblk m c 0 t (ix2 r k) = V m c main_v0 (ix2 (row t r) k) := by blk_ext [iblk, idx t, row]
  rw [e, V_v0]

theorem blk1 (c : Dev nD) (t : Fin cfg0.N) (k : Fin 1024) (l : Fin 512) : iblk m c 1 t (ix3 0 k l) = W m c (ix2 k (col t l)) := by
  have e : iblk m c 1 t (ix3 0 k l) = V m c main_v3 (ix3 (block t) k l) := by blk_ext [iblk, idx t, block]
  rw [e, V_v3, SOut.blocks_apply]

theorem blk2 (c : Dev nD) (t : Fin cfg0.N) (r : Fin 1024) (l : Fin 512) : iblk m c 2 t (ix2 r l) = Pr m c (ix2 (row t r) (gcol (col t l))) := by blk_ext [iblk, idx t, row, col, gcol, SOut.wcol, block]

theorem blk3 (c : Dev nD) (t : Fin cfg0.N) (r : Fin 1024) (l : Fin 512) : iblk m c 3 t (ix2 r l) = Pr m c (ix2 (row t r) (hcol (col t l))) := by blk_ext [iblk, idx t, row, col, hcol, SOut.wcol, block]

theorem blk4 (c : Dev nD) (t : Fin cfg0.N) (r : Fin 1024) (l : Fin 512) : iblk m c 4 t (ix2 r l) = Z m c (ix2 (row t r) (col t l)) := by blk_ext [iblk, idx t, row, col, SOut.wcol, block]

/-- The product of these rows and columns is the whole product there. -/
theorem part_eq (y : FVec Ideal S2048x1024 .f32) (w : FVec Ideal S1024x2048 .f32) (yb : Vec Ideal S1024x1024 .bf16)
    (wb : Vec Ideal S1x1024x512 .bf16) (r : Fin 1024) (l : Fin 512) (R L : Fin 2048)
    (hy : ∀ k : Fin 1024, yb (ix2 r k) = y (ix2 R k)) (hw : ∀ k : Fin 1024, wb (ix3 0 k l) = w (ix2 k L)) :
    part yb wb r l = dot y w R L :=
  Finset.sum_congr rfl fun k _ => by rw [hy, hw]

theorem part_at (c : Dev nD) (t : Fin cfg0.N) (r : Fin 1024) (l : Fin 512) :
    part (iblk m c 0 t) (iblk m c 1 t) r l = dot (Y m c) (W m c) (row t r) (col t l) :=
  part_eq (Y m c) (W m c) _ _ r l _ _ (fun k => blk0 m c t r k) (fun k => blk1 m c t k l)

theorem ix2_of (y : S1024x512.Idx) : ∃ (r : Fin 1024) (l : Fin 512), y = ix2 r l := ⟨y 0, y 1, by funext i; fin_cases i <;> rfl⟩

/-- The merged branches. -/
theorem merged (c : Dev nD) : (dats m 0 c).arrAt 5 cfg0.N = Cert.ConvOutRefIdeal.Read.val_main_v46 (F := Ideal) (Y m c) (W m c) (Z m c) (Pr m c) := by
  refine (dats m 0 c).arrAt_eq_of_covers 5 _ (by decide +kernel) fun t hf y => ?_
  blk_simp
  rw [after0_5]
  frame_out
  obtain ⟨r, l, rfl⟩ := ix2_of y
  have e : ((View.whole main_v4_0).slice (win0_5.rect t)).emb (ix2 r l) = ix2 (row t r) (col t l) := by blk_ext [idx t, row, col, SOut.wcol, block]
  rw [e]
  refine Eq.trans (payload4 _ _ _ _ _ r l) ?_
  rw [part_at m c t r l, blk2 m c t r l, blk3 m c t r l, blk4 m c t r l, ref46_apply]

/-- The merge's derivative in the S5 branch. -/
theorem factor_a (c : Dev nD) : (dats m 0 c).arrAt 6 cfg0.N = Cert.ConvOutRefIdeal.Read.val_main_v47 (F := Ideal) (Pr m c) := by
  refine (dats m 0 c).arrAt_eq_of_covers 6 _ (by decide +kernel) fun t hf y => ?_
  blk_simp
  rw [after0_6]
  frame_out
  obtain ⟨r, l, rfl⟩ := ix2_of y
  have e : ((View.whole main_v4_1).slice (win0_6.rect t)).emb (ix2 r l) = ix2 (row t r) (col t l) := by blk_ext [idx t, row, col, SOut.wcol, block]
  rw [e]
  refine Eq.trans (payload5 _ r l) ?_
  rw [blk2 m c t r l, ref47_apply]

/-- The merge's derivative in the convolution branch. -/
theorem factor_b (c : Dev nD) : (dats m 0 c).arrAt 7 cfg0.N = Cert.ConvOutRefIdeal.Read.val_main_v48 (F := Ideal) (Pr m c) := by
  refine (dats m 0 c).arrAt_eq_of_covers 7 _ (by decide +kernel) fun t hf y => ?_
  blk_simp
  rw [after0_7]
  frame_out
  obtain ⟨r, l, rfl⟩ := ix2_of y
  have e : ((View.whole main_v4_2).slice (win0_7.rect t)).emb (ix2 r l) = ix2 (row t r) (col t l) := by blk_ext [idx t, row, col, SOut.wcol, block]
  rw [e]
  refine Eq.trans (payload6 _ r l) ?_
  rw [blk3 m c t r l, ref48_apply]

/-- The merge's derivative in the S5 branch's gate. -/
theorem gate_a (c : Dev nD) : (dats m 0 c).arrAt 8 cfg0.N = Cert.ConvOutRefIdeal.Read.val_main_v49 (F := Ideal) (Z m c) (Pr m c) := by
  refine (dats m 0 c).arrAt_eq_of_covers 8 _ (by decide +kernel) fun t hf y => ?_
  blk_simp
  rw [after0_8]
  frame_out
  obtain ⟨r, l, rfl⟩ := ix2_of y
  have e : ((View.whole main_v4_3).slice (win0_8.rect t)).emb (ix2 r l) = ix2 (row t r) (col t l) := by blk_ext [idx t, row, col, SOut.wcol, block]
  rw [e]
  refine Eq.trans (payload7 _ _ r l) ?_
  rw [blk2 m c t r l, blk4 m c t r l, ref49_apply]

/-- The merge's derivative in the convolution branch's gate. -/
theorem gate_b (c : Dev nD) : (dats m 0 c).arrAt 9 cfg0.N = Cert.ConvOutRefIdeal.Read.val_main_v50 (F := Ideal) (Y m c) (W m c) (Pr m c) := by
  refine (dats m 0 c).arrAt_eq_of_covers 9 _ (by decide +kernel) fun t hf y => ?_
  blk_simp
  rw [after0_9]
  frame_out
  obtain ⟨r, l, rfl⟩ := ix2_of y
  have e : ((View.whole main_v4_4).slice (win0_9.rect t)).emb (ix2 r l) = ix2 (row t r) (col t l) := by blk_ext [idx t, row, col, SOut.wcol, block]
  rw [e]
  refine Eq.trans (payload8 _ _ _ r l) ?_
  rw [part_at m c t r l, blk3 m c t r l, ref50_apply]

/-- The reference never faults and leaves its arguments. -/
theorem frame_ref : Cert.quiescent_ConvOutRefIdeal (hConvOutRefIdeal := Cert.ConvOutRefIdeal.Gen.facts) := by
  intro m ρ _
  exact (θ_run _ _ _).mono (fun r h => ⟨fun c => (h c).2.2.2.2.2, sem_eq_zero_of_no_sems (by decide) _⟩) (Cert.ConvOutRefIdeal.Value.run m ρ)

/-- From equal arguments the call and its reference end with equal results. -/
theorem algebraic : Cert.algebraic_ConvOutIdeal_ConvOutRefIdeal (hConvOutIdeal := Cert.ConvOutIdeal.Gen.facts)
    (hConvOutRefIdeal := Cert.ConvOutRefIdeal.Gen.facts) := by
  pair_intro
  · run_from Cert.ConvOutIdeal.Value.run_blocks (F := Ideal) m g
  · run_from Cert.ConvOutRefIdeal.Value.run (F := Ideal) m' g'
    · rw [merged]
      exact Cert.ConvOutRefIdeal.Read.val_main_v46_eq (F := Ideal) _ _ _ _
    · rw [factor_a]
      exact Cert.ConvOutRefIdeal.Read.val_main_v47_eq (F := Ideal) _
    · rw [factor_b]
      exact Cert.ConvOutRefIdeal.Read.val_main_v48_eq (F := Ideal) _
    · rw [gate_a]
      exact Cert.ConvOutRefIdeal.Read.val_main_v49_eq (F := Ideal) _ _
    · rw [gate_b]
      exact Cert.ConvOutRefIdeal.Read.val_main_v50_eq (F := Ideal) _ _ _

end Cert.Proof.ConvOut

end
-- ==== Proof.ConvOutB.lean ====
/- The gradient in the convolution branch's activations. The grid has 2 × 4 points; point `4 i + j` adds, into a block of rows
   `1024 i …` that the four points of one `i` share, the product of the cotangent's columns `512 j …` with the block `j` of the
   weight's columns. After the last of the four the sum runs over all 2048 columns (`cotangent`). -/
module

public import proofs.«01_k».proof.Defs
public import proofs.«01_k».proof.Proof.SOut
public import proofs.«01_k».proof.Proof.Gen.ConvOutBIdeal.Value
public import proofs.«01_k».proof.Proof.Gen.ConvOutBRefIdeal.Run
public import proofs.«01_k».proof.Proof.Gen.ConvOutBRefIdeal.Read
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.Proof.ConvOutB

open Cert.ConvOutBIdeal Cert.ConvOutBIdeal.Gen Idealize.ShloMosaic Idealize.ShloMosaic.TcCoe Idealize.SL.Sem

/-- The product of one block of the cotangent with one block of the weight, at row `r` and column `l`. -/
def part (z : Vec Ideal S1024x512 .bf16) (w : Vec Ideal S1x1024x512 .bf16) (r l : Fin 1024) : EReal :=
  ∑ k : Fin 512, z (ix2 r k) * w (ix3 0 l k)

theorem first (z : Vec Ideal S1024x512 .bf16) (w : Vec Ideal S1x1024x512 .bf16) (y : S1024x1024.Idx) :
    k0_pay2 z w y = 0 + part z w (y 0) (y 1) := by
  simp only [part, zero_add]
  pointwise [k0_pay2, k0_pay1]

theorem later (z : Vec Ideal S1024x512 .bf16) (w : Vec Ideal S1x1024x512 .bf16) (acc : Vec Ideal S1024x1024 .f32) (y : S1024x1024.Idx) :
    k0_pay3 z w acc y = acc y + part z w (y 0) (y 1) := by
  simp only [part]
  pointwise [k0_pay3, k0_pay1]

/-- The whole product at row `r` and column `l`. -/
def dot (w : FVec Ideal S1024x2048 .f32) (z : FVec Ideal S2048x2048 .f32) (r : Fin 2048) (l : Fin 1024) : EReal :=
  ∑ k : Fin 2048, z (ix2 r k) * w (ix2 l k)

/-- The reference's product, read at an index. -/
theorem ref_apply (w : FVec Ideal S1024x2048 .f32) (z : FVec Ideal S2048x2048 .f32) (r : Fin 2048) (l : Fin 1024) :
    Cert.ConvOutBRefIdeal.Read.val_main_v2 (F := Ideal) w z (ix2 r l) = dot w z r l := by
  unfold dot
  simp only [Cert.ConvOutBRefIdeal.Read.val_main_v2]
  pointwise

variable (m : (ℓ : Loc nD τ sig) → Buf (Elt Ideal) ℓ)

theorem idx : ∀ t : Fin cfg0.N, win0_0.index t = ![t.val / 4, t.val % 4]
    ∧ win0_1.index t = ![t.val % 4, 0, 0]
    ∧ win0_2.index t = ![t.val / 4, 0] :=
  (by decide +kernel : ∀ t : Fin grid0.N, _)

theorem lt8 (t : Fin cfg0.N) : t.val < 8 := t.isLt

/-- The row of the whole arrays under row `r` of point `t`'s block, and the block of the weight that the point has. -/
def row (t : Fin cfg0.N) (r : Fin 1024) : Fin 2048 := ⟨t.val / 4 * 1024 + r.val, by have := lt8 t; omega⟩
def block (t : Fin cfg0.N) : Fin 4 := ⟨t.val % 4, by omega⟩

abbrev W (c : Dev nD) : FVec Ideal S1024x2048 .f32 := m (c, Proc.tc.devRef main_arg0)
abbrev Z (c : Dev nD) : FVec Ideal S2048x2048 .f32 := m (c, Proc.tc.devRef main_arg1)

open StableHlo in
theorem V_v2 (c : Dev nD) : V m c main_v2 = SOut.blocks (W m c) := by
  show StableHlo.after _ _ _ = _
  after_results_simp <;> rfl

open StableHlo in
theorem V_v3 (c : Dev nD) : V m c main_v3 = Z m c := by
  show StableHlo.after _ _ _ = _
  after_results_simp <;> rfl

theorem blk0 (c : Dev nD) (t : Fin cfg0.N) (r : Fin 1024) (k : Fin 512) : iblk m c 0 t (ix2 r k) = Z m c (ix2 (row t r) (SOut.wcol (block t) k)) := by
  have e : iblk m c 0 t (ix2 r k) = V m c main_v3 (ix2 (row t r) (SOut.wcol (block t) k)) := by blk_ext [iblk, idx t, row, SOut.wcol, block]
  rw [e, V_v3]

theorem blk1 (c : Dev nD) (t : Fin cfg0.N) (l : Fin 1024) (k : Fin 512) : iblk m c 1 t (ix3 0 l k) = W m c (ix2 l (SOut.wcol (block t) k)) := by
  have e : iblk m c 1 t (ix3 0 l k) = V m c main_v2 (ix3 (block t) l k) := by blk_ext [iblk, idx t, block]
  rw [e, V_v2, SOut.blocks_apply]

/-- What the accumulator holds after the last of the four points: the sum of their products. -/
theorem acc_eq (c : Dev nD) (t : Fin cfg0.N) (h : t.val % 4 = 4 - 1) (y : S1024x1024.Idx) :
    (outsAt0 m c t.val t.isLt).2 y = (fun _ => (0 : EReal)) y
      + ∑ s : Fin 4, part (iblk m c 0 ⟨4 * (t.val / 4) + s.val, Pipeline.run_point_lt_of_flush t h s⟩)
          (iblk m c 1 ⟨4 * (t.val / 4) + s.val, Pipeline.run_point_lt_of_flush t h s⟩) (y 0) (y 1) := by
  rw [Pipeline.eq_sum_fin_of_reset_step_apply_of_flush (fun n h => (outsAt0 m c n h).2) 4 (fun _ => (0 : EReal))
    (fun t y => part (iblk m c 0 t) (iblk m c 1 t) (y 0) (y 1)) ?_ ?_ t h y]
  · intro t h y
    rw [outsAt0_A m c t h (by omega) (by omega)]
    frame_out
    exact first _ _ y
  · intro t h y
    by_cases h2 : t.val % 4 = 3
    · rw [outsAt0_C m c t h (by omega) h2]
      frame_out
      simp only [read_unread_whole]
      exact later _ _ _ y
    · rw [outsAt0_B m c t h (by omega) h2]
      frame_out
      simp only [read_unread_whole]
      exact later _ _ _ y

/-- The four points' products of these rows and columns sum to the whole product. -/
theorem sum_eq (w : FVec Ideal S1024x2048 .f32) (z : FVec Ideal S2048x2048 .f32) (zb : Fin 4 → Vec Ideal S1024x512 .bf16)
    (wb : Fin 4 → Vec Ideal S1x1024x512 .bf16) (r l : Fin 1024) (R : Fin 2048)
    (hz : ∀ (s : Fin 4) (k : Fin 512), zb s (ix2 r k) = z (ix2 R (SOut.wcol s k)))
    (hw : ∀ (s : Fin 4) (k : Fin 512), wb s (ix3 0 l k) = w (ix2 l (SOut.wcol s k))) :
    (0 : EReal) + ∑ s : Fin 4, part (zb s) (wb s) r l = dot w z R l := by
  rw [dot, zero_add]
  refine Fin.sum_mul_add_congr fun s k hl => ?_
  rw [hz, hw]
  rfl

theorem acc_dot (c : Dev nD) (t : Fin cfg0.N) (h3 : t.val % 4 = 3) (r l : Fin 1024) :
    (outsAt0 m c t.val t.isLt).2 (ix2 r l) = dot (W m c) (Z m c) (row t r) l := by
  rw [acc_eq m c t h3]
  have hp (s : Fin 4) : row ⟨4 * (t.val / 4) + s.val, Pipeline.run_point_lt_of_flush t h3 s⟩ r = row t r :=
    Fin.ext (by simp only [row]; omega)
  have hb (s : Fin 4) : block ⟨4 * (t.val / 4) + s.val, Pipeline.run_point_lt_of_flush t h3 s⟩ = s :=
    Fin.ext (by simp only [block]; omega)
  refine sum_eq (W m c) (Z m c) _ _ r l (row t r) (fun s k => ?_) (fun s k => ?_)
  · rw [blk0, hp, hb]
  · rw [blk1, hb]

/-- The last of the four points writes the accumulator back. -/
theorem out_eq (c : Dev nD) (t : Fin cfg0.N) (h : t.val % 4 = 3) : (outsAt0 m c t.val t.isLt).1 = (outsAt0 m c t.val t.isLt).2 := by
  rw [outsAt0_C m c t (by omega) (by omega) h]
  frame_out

theorem ix2_of (y : S1024x1024.Idx) : ∃ (r : Fin 1024) (l : Fin 1024), y = ix2 r l := ⟨y 0, y 1, by funext i; fin_cases i <;> rfl⟩

/-- The gradient in the branch's activations. -/
theorem cotangent (c : Dev nD) : (dats m 0 c).arrAt 2 cfg0.N = Cert.ConvOutBRefIdeal.Read.val_main_v2 (F := Ideal) (W m c) (Z m c) := by
  refine (dats m 0 c).arrAt_eq_of_covers 2 _ (by decide +kernel) fun t hf y => ?_
  have h3 : t.val % 4 = 3 := (flush0_2 t).mp hf
  blk_simp
  rw [after0_2, out_eq m c t h3]
  obtain ⟨r, l, rfl⟩ := ix2_of y
  have e : ((View.whole main_v4).slice (win0_2.rect t)).emb (ix2 r l) = ix2 (row t r) l := by blk_ext [idx t, row]
  rw [e, acc_dot m c t h3, ref_apply]

/-- The reference never faults and leaves its arguments. -/
theorem frame_ref : Cert.quiescent_ConvOutBRefIdeal (hConvOutBRefIdeal := Cert.ConvOutBRefIdeal.Gen.facts) := by
  intro m ρ _
  exact (θ_run _ _ _).mono (fun r h => ⟨fun c => (h c).2, sem_eq_zero_of_no_sems (by decide) _⟩) (Cert.ConvOutBRefIdeal.Value.run m ρ)

/-- From equal arguments the call and its reference end with equal results. -/
theorem algebraic : Cert.algebraic_ConvOutBIdeal_ConvOutBRefIdeal (hConvOutBIdeal := Cert.ConvOutBIdeal.Gen.facts)
    (hConvOutBRefIdeal := Cert.ConvOutBRefIdeal.Gen.facts) := by
  pair_intro
  · run_from Cert.ConvOutBIdeal.Value.run_blocks (F := Ideal) m g
  · run_from Cert.ConvOutBRefIdeal.Value.run (F := Ideal) m' g'
    obtain ⟨h0, h1⟩ := hagree c
    rw [cotangent, W, Z, ← h0, ← h1]
    exact Cert.ConvOutBRefIdeal.Read.val_main_v2_eq (F := Ideal) _ _

end Cert.Proof.ConvOutB

end
-- ==== Proof.GateUp.lean ====
/- The feed-forward half's first two products with the gated unit in their epilogue. The grid has 11 × 2 points; point `2 n + i`
   has rows `1024 i …` of the activations and columns `512 n …` of both weights. Each point writes three blocks: the derivative of
   the unit in its gate (`slope`), the unit's factor `silu` (`act`) and the unit (`unit`). The last two are the reference's without
   a condition; of the first the reference has the gradient in the gate as a sum of two terms, equal to it where the second product
   is finite (`Ffn.grad_one`). -/
module

public import proofs.«01_k».proof.Defs
public import proofs.«01_k».proof.Proof.FfnPure
public import proofs.«01_k».proof.Proof.Gen.Pre_finite_up
public import proofs.«01_k».proof.Proof.Gen.GateUpIdeal.Value
public import proofs.«01_k».proof.Proof.Gen.GateUpRefIdeal.Run
public import proofs.«01_k».proof.Proof.Gen.GateUpRefIdeal.Read
public import Idealize.ShloMosaic.Lib.Pointwise
public import Idealize.ShloMosaic.Lib.Pipeline.ValueKit
public import Idealize.ShloMosaic.Lib.Claim

@[expose] public section

set_option maxRecDepth 16384

noncomputable section

namespace Cert.Proof.GateUp

open Cert.GateUpIdeal Cert.GateUpIdeal.Gen Idealize.ShloMosaic Idealize.ShloMosaic.TcCoe Idealize.SL.Sem

/-- The product of the activations and a weight at one index. -/
def dot (u : FVec Ideal S2048x2048 .f32) (w : FVec Ideal S2048x5632 .f32) (r : Fin 2048) (l : Fin 5632) : EReal :=
  ∑ k : Fin 2048, u (ix2 r k) * w (ix2 k l)

section Block
variable (h : Vec Ideal S1024x2048 .bf16) (wg wu : Vec Ideal S512x2048 .bf16) (r : Fin 1024) (l : Fin 512)

/-- The product of a block of the activations and a block of a weight, its columns stored as rows. -/
def bdot (w : Vec Ideal S512x2048 .bf16) : EReal := ∑ k : Fin 2048, h (ix2 r k) * w (ix2 l k)

theorem payload5 : k0_pay5 h wg h wu (ix2 r l) = Ffn.slope (bdot h r l wg) (bdot h r l wu) := by
  unfold Ffn.slope bdot
  pointwise [k0_pay5, k0_pay3, k0_pay2, k0_pay1]

theorem payload6 : k0_pay6 h wg (ix2 r l) = bdot h r l wg * Ideal.logistic (bdot h r l wg) := by
  unfold bdot
  pointwise [k0_pay6, k0_pay4, k0_pay3, k0_pay1]

theorem payload7 : k0_pay7 h wg h wu (ix2 r l) = bdot h r l wg * Ideal.logistic (bdot h r l wg) * bdot h r l wu := by
  unfold bdot
  pointwise [k0_pay7, k0_pay4, k0_pay3, k0_pay2, k0_pay1]

end Block

section Reference
open Cert.GateUpRefIdeal.Read
variable (u : FVec Ideal S2048x2048 .f32) (wg wu : FVec Ideal S2048x5632 .f32) (r : Fin 2048) (l : Fin 5632)

theorem ref8_apply : val_main_v8 (F := Ideal) u wg wu (ix2 r l) = Ffn.grad (dot u wg r l) (dot u wu r l) := by
  unfold Ffn.grad dot Ideal.logistic
  simp only [val_main_v8, val_main_v7, val_main_v6, val_main_v4, val_main_v2_1, val_main_v2_2, val_main_v1, val_main_v0,
    val_main_call1_v0, val_main_call1_v1, val_main_call1_v2, val_main_call0_v0, val_main_call0_v1, val_main_call0_v2,
    val_main_call0_v3, val_main_call0_v4, val_main_call0_v6, val_main_call0_v7, val_main_call0_cst, val_main_call0_cst_0,
    val_main_call0_cst_1, val_main_cst]
  pointwise

theorem ref9_apply : val_main_v9 (F := Ideal) u wg (ix2 r l) = dot u wg r l * Ideal.logistic (dot u wg r l) := by
  unfold dot Ideal.logistic
  simp only [val_main_v9, val_main_v5, val_main_v4, val_main_v2_0, val_main_v2_2, val_main_v0, val_main_call0_v0, val_main_call0_v1,
    val_main_call0_v2, val_main_call0_v3, val_main_call0_v4, val_main_call0_cst, val_main_call0_cst_0, val_main_cst]
  pointwise

theorem ref10_apply : val_main_v10 (F := Ideal) u wg wu (ix2 r l)
    = dot u wg r l * Ideal.logistic (dot u wg r l) * dot u wu r l := by
  unfold dot Ideal.logistic
  simp only [val_main_v10, val_main_v3, val_main_v2_0, val_main_v2_2, val_main_v1, val_main_v0, val_main_call0_v0,
    val_main_call0_v1, val_main_call0_v2, val_main_call0_v3, val_main_call0_v4, val_main_call0_cst, val_main_call0_cst_0]
  pointwise

end Reference

variable (m : (ℓ : Loc nD τ sig) → Buf (Elt Ideal) ℓ)

theorem idx : ∀ t : Fin cfg0.N, win0_0.index t = ![t.val % 2, 0] ∧ win0_1.index t = ![t.val / 2, 0]
    ∧ win0_2.index t = ![t.val / 2, 0] ∧ win0_3.index t = ![t.val % 2, t.val / 2] ∧ win0_4.index t = ![t.val % 2, t.val / 2]
    ∧ win0_5.index t = ![t.val % 2, t.val / 2] :=
  (by decide +kernel : ∀ t : Fin grid0.N, _)

theorem lt22 (t : Fin cfg0.N) : t.val < 22 := t.isLt

/-- The rows and columns that point `t` has. -/
def row (t : Fin cfg0.N) (r : Fin 1024) : Fin 2048 := ⟨t.val % 2 * 1024 + r.val, by omega⟩
def col (t : Fin cfg0.N) (l : Fin 512) : Fin 5632 := ⟨t.val / 2 * 512 + l.val, by have := lt22 t; omega⟩

abbrev U (c : Dev nD) : FVec Ideal S2048x2048 .f32 := m (c, Proc.tc.devRef main_arg0)
abbrev Wg (c : Dev nD) : FVec Ideal S2048x5632 .f32 := m (c, Proc.tc.devRef main_arg1)
abbrev Wu (c : Dev nD) : FVec Ideal S2048x5632 .f32 := m (c, Proc.tc.devRef main_arg2)

/-- A weight as the call has it: its columns as rows. -/
def stored (w : FVec Ideal S2048x5632 .f32) : FVec Ideal S5632x2048 .bf16 :=
  truncf .bf16 (transpose S5632x2048 [1, 0] w transposes_S2048x5632_S5632x2048_1_0) bitsLt_bf16_f32

theorem stored_apply (w : FVec Ideal S2048x5632 .f32) (l : Fin 5632) (k : Fin 2048) : stored w (ix2 l k) = w (ix2 k l) := by
  pointwise [stored]

open StableHlo in
theorem V_v0 (c : Dev nD) : V m c main_v0 = U m c := by
  show StableHlo.after _ _ _ = _
  after_results_simp <;> rfl

open StableHlo in
theorem V_v2 (c : Dev nD) : V m c main_v2 = stored (Wg m c) := by
  show StableHlo.after _ _ _ = _
  after_results_simp <;> rfl

open StableHlo in
theorem V_v4 (c : Dev nD) : V m c main_v4 = stored (Wu m c) := by
  show StableHlo.after _ _ _ = _
  after_results_simp <;> rfl

theorem blk0 (c : Dev nD) (t : Fin cfg0.N) (r : Fin 1024) (k : Fin 2048) : iblk m c 0 t (ix2 r k) = U m c (ix2 (row t r) k) := by
  have e : iblk m c 0 t (ix2 r k) = V m c main_v0 (ix2 (row t r) k) := by blk_ext [iblk, idx t, row]
  rw [e, V_v0]

theorem blk1 (c : Dev nD) (t : Fin cfg0.N) (l : Fin 512) (k : Fin 2048) : iblk m c 1 t (ix2 l k) = Wg m c (ix2 k (col t l)) := by
  have e : iblk m c 1 t (ix2 l k) = V m c main_v2 (ix2 (col t l) k) := by blk_ext [iblk, idx t, col]
  rw [e, V_v2, stored_apply]

theorem blk2 (c : Dev nD) (t : Fin cfg0.N) (l : Fin 512) (k : Fin 2048) : iblk m c 2 t (ix2 l k) = Wu m c (ix2 k (col t l)) := by
  have e : iblk m c 2 t (ix2 l k) = V m c main_v4 (ix2 (col t l) k) := by blk_ext [iblk, idx t, col]
  rw [e, V_v4, stored_apply]

/-- A block's product is the whole product at its rows and columns. -/
theorem bdot_eq (u : FVec Ideal S2048x2048 .f32) (w : FVec Ideal S2048x5632 .f32) (hb : Vec Ideal S1024x2048 .bf16)
    (wb : Vec Ideal S512x2048 .bf16) (r : Fin 1024) (l : Fin 512) (R : Fin 2048) (L : Fin 5632)
    (hh : ∀ k : Fin 2048, hb (ix2 r k) = u (ix2 R k)) (hw : ∀ k : Fin 2048, wb (ix2 l k) = w (ix2 k L)) :
    bdot hb r l wb = dot u w R L :=
  Finset.sum_congr rfl fun k _ => by rw [hh, hw]

theorem gate (c : Dev nD) (t : Fin cfg0.N) (r : Fin 1024) (l : Fin 512) :
    bdot (iblk m c 0 t) r l (iblk m c 1 t) = dot (U m c) (Wg m c) (row t r) (col t l) :=
  bdot_eq _ _ _ _ r l _ _ (fun k => blk0 m c t r k) fun k => blk1 m c t l k

theorem second (c : Dev nD) (t : Fin cfg0.N) (r : Fin 1024) (l : Fin 512) :
    bdot (iblk m c 0 t) r l (iblk m c 2 t) = dot (U m c) (Wu m c) (row t r) (col t l) :=
  bdot_eq _ _ _ _ r l _ _ (fun k => blk0 m c t r k) fun k => blk2 m c t l k

theorem ix2_of (y : S1024x512.Idx) : ∃ (r : Fin 1024) (l : Fin 512), y = ix2 r l := ⟨y 0, y 1, by funext i; fin_cases i <;> rfl⟩

/-- The derivative in the gate, where the second product is finite. -/
theorem slope (c : Dev nD) (hfin : ∀ r l, ∃ a : ℝ, dot (U m c) (Wu m c) r l = a) : (dats m 0 c).arrAt 3 cfg0.N
    = Cert.GateUpRefIdeal.Read.val_main_v8 (F := Ideal) (U m c) (Wg m c) (Wu m c) := by
  refine (dats m 0 c).arrAt_eq_of_covers 3 _ (by decide +kernel) fun t hf y => ?_
  blk_simp
  rw [after0_3]
  frame_out
  obtain ⟨r, l, rfl⟩ := ix2_of y
  have e : ((View.whole main_v5_0).slice (win0_3.rect t)).emb (ix2 r l) = ix2 (row t r) (col t l) := by blk_ext [idx t, row, col]
  obtain ⟨a, ha⟩ := hfin (row t r) (col t l)
  rw [e]
  refine Eq.trans (payload5 _ _ _ r l) ?_
  rw [ref8_apply, gate m c t r l, second m c t r l, ha, Ffn.grad_one]

/-- The unit's factor. -/
theorem act (c : Dev nD) : (dats m 0 c).arrAt 4 cfg0.N = Cert.GateUpRefIdeal.Read.val_main_v9 (F := Ideal) (U m c) (Wg m c) := by
  refine (dats m 0 c).arrAt_eq_of_covers 4 _ (by decide +kernel) fun t hf y => ?_
  blk_simp
  rw [after0_4]
  frame_out
  obtain ⟨r, l, rfl⟩ := ix2_of y
  have e : ((View.whole main_v5_1).slice (win0_4.rect t)).emb (ix2 r l) = ix2 (row t r) (col t l) := by blk_ext [idx t, row, col]
  rw [e]
  refine Eq.trans (payload6 _ _ r l) ?_
  rw [ref9_apply, gate m c t r l]

/-- The unit. -/
theorem unit (c : Dev nD) : (dats m 0 c).arrAt 5 cfg0.N
    = Cert.GateUpRefIdeal.Read.val_main_v10 (F := Ideal) (U m c) (Wg m c) (Wu m c) := by
  refine (dats m 0 c).arrAt_eq_of_covers 5 _ (by decide +kernel) fun t hf y => ?_
  blk_simp
  rw [after0_5]
  frame_out
  obtain ⟨r, l, rfl⟩ := ix2_of y
  have e : ((View.whole main_v5_2).slice (win0_5.rect t)).emb (ix2 r l) = ix2 (row t r) (col t l) := by blk_ext [idx t, row, col]
  rw [e]
  refine Eq.trans (payload7 _ _ _ r l) ?_
  rw [ref10_apply, gate m c t r l, second m c t r l]

/-- What the precondition says: the second product's entries are real numbers. -/
theorem finite (hpre : Cert.Pre_GateUpIdeal_finite_up m) (c : Dev nD) (r : Fin 2048) (l : Fin 5632) :
    ∃ a : ℝ, dot (U m c) (Wu m c) r l = a := by
  obtain ⟨hu, hw⟩ := hpre c
  refine Ffn.real_sum _ fun k => Ffn.real_mul (Ffn.real_of_lt ?_) (Ffn.real_of_lt ?_)
  · exact congrFun hu (ix2 r k)
  · exact congrFun hw (ix2 k l)

/-- The reference never faults and leaves its arguments. -/
theorem frame_ref : Cert.quiescent_GateUpRefIdeal (hGateUpRefIdeal := Cert.GateUpRefIdeal.Gen.facts) := by
  intro m ρ _
  exact (θ_run _ _ _).mono (fun r h => ⟨fun c => (h c).2.2.2, sem_eq_zero_of_no_sems (by decide) _⟩)
    (Cert.GateUpRefIdeal.Value.run m ρ)

/-- From equal arguments the call and its reference end with equal results, where the activations and the second weight are
    finite. -/
theorem algebraic : Cert.algebraic_GateUpIdeal_GateUpRefIdeal_pre_finite_up (hGateUpIdeal := Cert.GateUpIdeal.Gen.facts)
    (hGateUpRefIdeal := Cert.GateUpRefIdeal.Gen.facts) (hPre_finite_up := Cert.Pre_finite_up.Gen.facts) := by
  pair_intro
  · run_from Cert.GateUpIdeal.Value.run_blocks (F := Ideal) m g
  · run_from Cert.GateUpRefIdeal.Value.run (F := Ideal) m' g'
    · rw [slope m c (finite m hpre c)]
      exact Cert.GateUpRefIdeal.Read.val_main_v8_eq (F := Ideal) _ _ _
    · rw [act]
      exact Cert.GateUpRefIdeal.Read.val_main_v9_eq (F := Ideal) _ _
    · rw [unit]
      exact Cert.GateUpRefIdeal.Read.val_main_v10_eq (F := Ideal) _ _ _

end Cert.Proof.GateUp

end
-- ==== Proof.Dhid.lean ====
/- The backward call of the feed-forward half's last product, with the gradients of the gated unit in its epilogue. Point `n` of
   the 11 has rows `512 n …` of the weight and those columns of the two factors that the forward call wrote and of both results. A
   block is one half of the product times a factor. The reference multiplies the half into the cotangent first (`Ffn.half_sum`) and
   writes the gradient in the gate as a sum of two terms, which is the product times the factor where the product and the unit's
   second product are finite (`Ffn.grad_eq`). -/
module

public import proofs.«01_k».proof.Defs
public import proofs.«01_k».proof.Proof.FfnPure
public import proofs.«01_k».proof.Proof.GateUp
public import proofs.«01_k».proof.Proof.Gen.Pre_finite_hidden
public import proofs.«01_k».proof.Proof.Gen.DhidIdeal.Value
public import proofs.«01_k».proof.Proof.Gen.DhidRefIdeal.Run
public import proofs.«01_k».proof.Proof.Gen.DhidRefIdeal.Read
public import Idealize.ShloMosaic.Lib.Pointwise
public import Idealize.ShloMosaic.Lib.Pipeline.ValueKit
public import Idealize.ShloMosaic.Lib.Claim

@[expose] public section

set_option maxRecDepth 16384

noncomputable section

namespace Cert.Proof.Dhid

open Cert.DhidIdeal Cert.DhidIdeal.Gen Idealize.ShloMosaic Idealize.ShloMosaic.TcCoe Idealize.SL.Sem

/-- The gradient of the hidden units at one index, the half multiplied in last. -/
def hid (dh : FVec Ideal S2048x2048 .f32) (wd : FVec Ideal S5632x2048 .f32) (r : Fin 2048) (l : Fin 5632) : EReal :=
  Ffn.half * ∑ k : Fin 2048, dh (ix2 r k) * wd (ix2 l k)

section Block
variable (h : Vec Ideal S2048x2048 .bf16) (w : Vec Ideal S512x2048 .bf16) (f : Vec Ideal S2048x512 .bf16) (r : Fin 2048) (l : Fin 512)

theorem payload2 : k0_pay2 h w f (ix2 r l) = Ffn.half * (∑ k : Fin 2048, h (ix2 r k) * w (ix2 l k)) * f (ix2 r l) := by
  unfold Ffn.half
  pointwise [k0_pay2, k0_pay1]

theorem payload3 : k0_pay3 h w f (ix2 r l) = Ffn.half * (∑ k : Fin 2048, h (ix2 r k) * w (ix2 l k)) * f (ix2 r l) := by
  unfold Ffn.half
  pointwise [k0_pay3, k0_pay1]

end Block

/-- The two factors that the forward call writes. -/
abbrev slopes (u : FVec Ideal S2048x2048 .f32) (wg wu : FVec Ideal S2048x5632 .f32) : FVec Ideal S2048x5632 .bf16 :=
  Cert.GateUpRefIdeal.Read.val_main_v8 (F := Ideal) u wg wu
abbrev acts (u : FVec Ideal S2048x2048 .f32) (wg : FVec Ideal S2048x5632 .f32) : FVec Ideal S2048x5632 .bf16 :=
  Cert.GateUpRefIdeal.Read.val_main_v9 (F := Ideal) u wg

section Reference
open Cert.DhidRefIdeal.Read
variable (u : FVec Ideal S2048x2048 .f32) (wg wu : FVec Ideal S2048x5632 .f32) (wd : FVec Ideal S5632x2048 .f32)
  (dh : FVec Ideal S2048x2048 .f32) (r : Fin 2048) (l : Fin 5632)

theorem ref_hid : val_main_v9 (F := Ideal) wd dh (ix2 r l) = hid dh wd r l := by
  unfold hid
  rw [Ffn.half_sum]
  unfold Ffn.half
  simp only [val_main_v9, val_main_v8, val_main_v7, val_main_cst_0]
  pointwise
  simp only [mul_assoc]

theorem ref13_apply : val_main_v13 (F := Ideal) u wg wu wd dh (ix2 r l)
    = Ffn.grad (GateUp.dot u wg r l) (hid dh wd r l * GateUp.dot u wu r l) := by
  rw [← ref_hid]
  unfold Ffn.grad GateUp.dot Ideal.logistic
  simp only [val_main_v13, val_main_v12, val_main_v11, val_main_v2_1, val_main_v2_2, val_main_v1, val_main_v0,
    val_main_call1_v0, val_main_call1_v1, val_main_call1_v2, val_main_call0_v0, val_main_call0_v1, val_main_call0_v2,
    val_main_call0_v3, val_main_call0_v4, val_main_call0_v6, val_main_call0_v7, val_main_call0_cst, val_main_call0_cst_0,
    val_main_call0_cst_1]
  pointwise

theorem ref14_apply : val_main_v14 (F := Ideal) u wg wd dh (ix2 r l) = hid dh wd r l * acts u wg (ix2 r l) := by
  rw [← ref_hid, acts, GateUp.ref9_apply, mul_comm]
  unfold GateUp.dot Ideal.logistic
  simp only [val_main_v14, val_main_v10, val_main_v2_0, val_main_v2_2, val_main_v0, val_main_call0_v0, val_main_call0_v1,
    val_main_call0_v2, val_main_call0_v3, val_main_call0_v4, val_main_call0_cst, val_main_call0_cst_0]
  pointwise

end Reference

variable (m : (ℓ : Loc nD τ sig) → Buf (Elt Ideal) ℓ)

theorem idx : ∀ t : Fin cfg0.N, win0_0.index t = ![0, 0] ∧ win0_1.index t = ![t.val, 0] ∧ win0_2.index t = ![0, t.val]
    ∧ win0_3.index t = ![0, t.val] ∧ win0_4.index t = ![0, t.val] ∧ win0_5.index t = ![0, t.val] :=
  (by decide +kernel : ∀ t : Fin grid0.N, _)

theorem lt11 (t : Fin cfg0.N) : t.val < 11 := t.isLt

/-- The columns that point `t` has. -/
def col (t : Fin cfg0.N) (l : Fin 512) : Fin 5632 := ⟨t.val * 512 + l.val, by have := lt11 t; omega⟩

abbrev U (c : Dev nD) : FVec Ideal S2048x2048 .f32 := m (c, Proc.tc.devRef main_arg0)
abbrev Wg (c : Dev nD) : FVec Ideal S2048x5632 .f32 := m (c, Proc.tc.devRef main_arg1)
abbrev Wu (c : Dev nD) : FVec Ideal S2048x5632 .f32 := m (c, Proc.tc.devRef main_arg2)
abbrev Wd (c : Dev nD) : FVec Ideal S5632x2048 .f32 := m (c, Proc.tc.devRef main_arg3)
abbrev Dh (c : Dev nD) : FVec Ideal S2048x2048 .f32 := m (c, Proc.tc.devRef main_arg4)

open StableHlo in
theorem V_v8 (c : Dev nD) : V m c main_v8 = slopes (U m c) (Wg m c) (Wu m c) := by
  show StableHlo.after _ _ _ = _
  simp only [hostOps0, hostOps0_1, hostOps0_2, hostOps0_3, hostOps0_4, List.flatten_cons, List.flatten_nil, List.append_nil,
    List.cons_append, List.nil_append, TRef.binary, TRef.unary, TRef.toBuf, TRef.ofBuf, cast_eq]
  after_results_simp <;> rfl

open StableHlo in
theorem V_v9 (c : Dev nD) : V m c main_v9 = acts (U m c) (Wg m c) := by
  show StableHlo.after _ _ _ = _
  simp only [hostOps0, hostOps0_1, hostOps0_2, hostOps0_3, hostOps0_4, List.flatten_cons, List.flatten_nil, List.append_nil,
    List.cons_append, List.nil_append, TRef.binary, TRef.unary, TRef.toBuf, TRef.ofBuf, cast_eq]
  after_results_simp <;> rfl

open StableHlo in
theorem V_v11 (c : Dev nD) : V m c main_v11 = Dh m c := by
  show StableHlo.after _ _ _ = _
  simp only [hostOps0, hostOps0_1, hostOps0_2, hostOps0_3, hostOps0_4, List.flatten_cons, List.flatten_nil, List.append_nil,
    List.cons_append, List.nil_append, TRef.binary, TRef.unary, TRef.toBuf, TRef.ofBuf, cast_eq]
  after_results_simp <;> rfl

open StableHlo in
theorem V_v12 (c : Dev nD) : V m c main_v12 = Wd m c := by
  show StableHlo.after _ _ _ = _
  simp only [hostOps0, hostOps0_1, hostOps0_2, hostOps0_3, hostOps0_4, List.flatten_cons, List.flatten_nil, List.append_nil,
    List.cons_append, List.nil_append, TRef.binary, TRef.unary, TRef.toBuf, TRef.ofBuf, cast_eq]
  after_results_simp <;> rfl

theorem blk0 (c : Dev nD) (t : Fin cfg0.N) (r k : Fin 2048) : iblk m c 0 t (ix2 r k) = Dh m c (ix2 r k) := by
  have e : iblk m c 0 t (ix2 r k) = V m c main_v11 (ix2 r k) := by blk_ext [iblk, idx t]
  rw [e, V_v11]

theorem blk1 (c : Dev nD) (t : Fin cfg0.N) (l : Fin 512) (k : Fin 2048) : iblk m c 1 t (ix2 l k) = Wd m c (ix2 (col t l) k) := by
  have e : iblk m c 1 t (ix2 l k) = V m c main_v12 (ix2 (col t l) k) := by blk_ext [iblk, idx t, col]
  rw [e, V_v12]

theorem blk2 (c : Dev nD) (t : Fin cfg0.N) (r : Fin 2048) (l : Fin 512) :
    iblk m c 2 t (ix2 r l) = slopes (U m c) (Wg m c) (Wu m c) (ix2 r (col t l)) := by
  have e : iblk m c 2 t (ix2 r l) = V m c main_v8 (ix2 r (col t l)) := by blk_ext [iblk, idx t, col]
  rw [e, V_v8]

theorem blk3 (c : Dev nD) (t : Fin cfg0.N) (r : Fin 2048) (l : Fin 512) :
    iblk m c 3 t (ix2 r l) = acts (U m c) (Wg m c) (ix2 r (col t l)) := by
  have e : iblk m c 3 t (ix2 r l) = V m c main_v9 (ix2 r (col t l)) := by blk_ext [iblk, idx t, col]
  rw [e, V_v9]

/-- One half of a block's product is the gradient of the hidden units at its columns. -/
theorem bhid_eq (dh : FVec Ideal S2048x2048 .f32) (wd : FVec Ideal S5632x2048 .f32) (hb : Vec Ideal S2048x2048 .bf16)
    (wb : Vec Ideal S512x2048 .bf16) (r : Fin 2048) (l : Fin 512) (L : Fin 5632)
    (hh : ∀ k : Fin 2048, hb (ix2 r k) = dh (ix2 r k)) (hw : ∀ k : Fin 2048, wb (ix2 l k) = wd (ix2 L k)) :
    Ffn.half * (∑ k : Fin 2048, hb (ix2 r k) * wb (ix2 l k)) = hid dh wd r L := by
  rw [hid, Finset.sum_congr rfl fun k _ => by rw [hh, hw]]

theorem ix2_of (y : S2048x512.Idx) : ∃ (r : Fin 2048) (l : Fin 512), y = ix2 r l := ⟨y 0, y 1, by funext i; fin_cases i <;> rfl⟩

/-- A block of the gate's gradient is the reference there, the two products being finite. -/
theorem gate_block (u : FVec Ideal S2048x2048 .f32) (wg wu : FVec Ideal S2048x5632 .f32) (wd : FVec Ideal S5632x2048 .f32)
    (dh : FVec Ideal S2048x2048 .f32) (hb : Vec Ideal S2048x2048 .bf16) (wb : Vec Ideal S512x2048 .bf16)
    (fb : Vec Ideal S2048x512 .bf16) (r : Fin 2048) (l : Fin 512) (L : Fin 5632)
    (hh : ∀ k : Fin 2048, hb (ix2 r k) = dh (ix2 r k)) (hw : ∀ k : Fin 2048, wb (ix2 l k) = wd (ix2 L k))
    (hf : fb (ix2 r l) = slopes u wg wu (ix2 r L)) (hd : ∃ d : ℝ, hid dh wd r L = d) (ha : ∃ a : ℝ, GateUp.dot u wu r L = a) :
    k0_pay2 hb wb fb (ix2 r l) = Cert.DhidRefIdeal.Read.val_main_v13 (F := Ideal) u wg wu wd dh (ix2 r L) := by
  obtain ⟨d, hd⟩ := hd
  obtain ⟨a, ha⟩ := ha
  rw [payload2, bhid_eq dh wd hb wb r l L hh hw, hf, slopes, GateUp.ref8_apply, ref13_apply, hd, ha, Ffn.grad_one, Ffn.grad_eq]

/-- A block of the second gradient is the reference there. -/
theorem up_block (u : FVec Ideal S2048x2048 .f32) (wg : FVec Ideal S2048x5632 .f32) (wd : FVec Ideal S5632x2048 .f32)
    (dh : FVec Ideal S2048x2048 .f32) (hb : Vec Ideal S2048x2048 .bf16) (wb : Vec Ideal S512x2048 .bf16)
    (fb : Vec Ideal S2048x512 .bf16) (r : Fin 2048) (l : Fin 512) (L : Fin 5632)
    (hh : ∀ k : Fin 2048, hb (ix2 r k) = dh (ix2 r k)) (hw : ∀ k : Fin 2048, wb (ix2 l k) = wd (ix2 L k))
    (hf : fb (ix2 r l) = acts u wg (ix2 r L)) :
    k0_pay3 hb wb fb (ix2 r l) = Cert.DhidRefIdeal.Read.val_main_v14 (F := Ideal) u wg wd dh (ix2 r L) := by
  rw [payload3, bhid_eq dh wd hb wb r l L hh hw, hf, ref14_apply]

/-- The gradient in the gate. -/
theorem dgate (c : Dev nD) (hd : ∀ r l, ∃ d : ℝ, hid (Dh m c) (Wd m c) r l = d)
    (ha : ∀ r l, ∃ a : ℝ, GateUp.dot (U m c) (Wu m c) r l = a) : (dats m 0 c).arrAt 4 cfg0.N
    = Cert.DhidRefIdeal.Read.val_main_v13 (F := Ideal) (U m c) (Wg m c) (Wu m c) (Wd m c) (Dh m c) := by
  refine (dats m 0 c).arrAt_eq_of_covers 4 _ (by decide +kernel) fun t hf y => ?_
  blk_simp
  rw [after0_4]
  frame_out
  obtain ⟨r, l, rfl⟩ := ix2_of y
  have e : ((View.whole main_v13_0).slice (win0_4.rect t)).emb (ix2 r l) = ix2 r (col t l) := by blk_ext [idx t, col]
  rw [e]
  exact gate_block (U m c) (Wg m c) (Wu m c) (Wd m c) (Dh m c) _ _ _ r l (col t l) (fun k => blk0 m c t r k)
    (fun k => blk1 m c t l k) (blk2 m c t r l) (hd _ _) (ha _ _)

/-- The gradient in the unit's second product. -/
theorem dsecond (c : Dev nD) : (dats m 0 c).arrAt 5 cfg0.N
    = Cert.DhidRefIdeal.Read.val_main_v14 (F := Ideal) (U m c) (Wg m c) (Wd m c) (Dh m c) := by
  refine (dats m 0 c).arrAt_eq_of_covers 5 _ (by decide +kernel) fun t hf y => ?_
  blk_simp
  rw [after0_5]
  frame_out
  obtain ⟨r, l, rfl⟩ := ix2_of y
  have e : ((View.whole main_v13_1).slice (win0_5.rect t)).emb (ix2 r l) = ix2 r (col t l) := by blk_ext [idx t, col]
  rw [e]
  exact up_block (U m c) (Wg m c) (Wd m c) (Dh m c) _ _ _ r l (col t l) (fun k => blk0 m c t r k)
    (fun k => blk1 m c t l k) (blk3 m c t r l)

/-- What the precondition says of the two products: their entries are real numbers. -/
theorem finite_hid (hpre : Cert.Pre_DhidIdeal_finite_hidden m) (c : Dev nD) (r : Fin 2048) (l : Fin 5632) :
    ∃ d : ℝ, hid (Dh m c) (Wd m c) r l = d := by
  obtain ⟨_, _, hw, hd⟩ := hpre c
  refine Ffn.real_mul ⟨_, Ffn.half_eq⟩ (Ffn.real_sum _ fun k => Ffn.real_mul (Ffn.real_of_lt ?_) (Ffn.real_of_lt ?_))
  · exact congrFun hd (ix2 r k)
  · exact congrFun hw (ix2 l k)

theorem finite_second (hpre : Cert.Pre_DhidIdeal_finite_hidden m) (c : Dev nD) (r : Fin 2048) (l : Fin 5632) :
    ∃ a : ℝ, GateUp.dot (U m c) (Wu m c) r l = a := by
  obtain ⟨hu, hw, _, _⟩ := hpre c
  refine Ffn.real_sum _ fun k => Ffn.real_mul (Ffn.real_of_lt ?_) (Ffn.real_of_lt ?_)
  · exact congrFun hu (ix2 r k)
  · exact congrFun hw (ix2 k l)

/-- The reference never faults and leaves its arguments. -/
theorem frame_ref : Cert.quiescent_DhidRefIdeal (hDhidRefIdeal := Cert.DhidRefIdeal.Gen.facts) := by
  intro m ρ _
  exact (θ_run _ _ _).mono (fun r h => ⟨fun c => (h c).2.2, sem_eq_zero_of_no_sems (by decide) _⟩)
    (Cert.DhidRefIdeal.Value.run m ρ)

/-- From equal arguments the call and its reference end with equal results, where the arrays that make the two products are
    finite. -/
theorem algebraic : Cert.algebraic_DhidIdeal_DhidRefIdeal_pre_finite_hidden (hDhidIdeal := Cert.DhidIdeal.Gen.facts)
    (hDhidRefIdeal := Cert.DhidRefIdeal.Gen.facts) (hPre_finite_hidden := Cert.Pre_finite_hidden.Gen.facts) := by
  pair_intro
  · run_from Cert.DhidIdeal.Value.run_blocks (F := Ideal) m g
  · run_from Cert.DhidRefIdeal.Value.run (F := Ideal) m' g'
    · rw [dgate m c (finite_hid m hpre c) (finite_second m hpre c)]
      exact Cert.DhidRefIdeal.Read.val_main_v13_eq (F := Ideal) _ _ _ _ _
    · rw [dsecond]
      exact Cert.DhidRefIdeal.Read.val_main_v14_eq (F := Ideal) _ _ _ _

end Cert.Proof.Dhid

end
-- ==== Proof.Disc.lean ====
/- The S5 branch's discretisation and its reference: the two parts of the discrete eigenvalues, and of the discrete input weights. The
   call does the reference's operations on the same arrays, with the weights' last two axes swapped, so its values are followed stage
   by stage. -/
module

public import proofs.«01_k».proof.Defs
public import proofs.«01_k».proof.Proof.Gen.DiscIdeal.Value
public import proofs.«01_k».proof.Proof.Gen.DiscRefIdeal.Read
public import Idealize.ShloMosaic.Lib.Claim
public import Idealize.ShloMosaic.Lib.Pointwise
public import Idealize.ShloMosaic.Lib.Pipeline.ValueKit

@[expose] public section

set_option maxRecDepth 16384

noncomputable section

namespace Cert.Proof.Disc

open Cert.DiscIdeal Cert.DiscIdeal.Gen Idealize.ShloMosaic Idealize.ShloMosaic.TcCoe Idealize.SL.Sem
open Cert.DiscRefIdeal.Read

/-- The steps as one column, and a weight with its last two axes swapped: what the host gives the call. -/
def col (x : FVec Ideal S64 .f32) : FVec Ideal S64x1 .f32 := shapeCast S64x1 x shapeCasts_S64_S64x1
def swap (x : FVec Ideal S64x64x16 .f32) : FVec Ideal S64x16x64 .f32 := transpose S64x16x64 [0, 2, 1] x transposes_S64x64x16_S64x16x64_0_2_1

theorem col_apply (x : FVec Ideal S64 .f32) (g : Fin 64) : col x (ix2 g 0) = x (ix1 g) := by
  unfold col
  pointwise

theorem swap_apply (x : FVec Ideal S64x64x16 .f32) (g : Fin 64) (k : Fin 16) (n : Fin 64) : swap x (ix3 g k n) = x (ix3 g n k) := by
  unfold swap
  pointwise

/-! ## The stages: `x0`, `x1` the eigenvalues' parts, `x2` the logarithms of the steps, `x3`, `x4` the weights' parts -/

section Stages
variable (x0 x1 : FVec Ideal S64x64 .f32) (x2 : FVec Ideal S64 .f32) (x3 x4 : FVec Ideal S64x64x16 .f32)

/-- The real part, held below zero. -/
theorem clip : k0_pay4 (F := Ideal) x0 = val_main_v1 (F := Ideal) x0 := rfl

/-- The step, along a row. -/
theorem step : broadcastTo S64x64 (k0_pay5 (F := Ideal) (col x2)) broadcasts_S64x1_S64x64 = val_main_v4 (F := Ideal) x2 := by
  funext i
  obtain ⟨g, n, rfl⟩ : ∃ (g n : Fin 64), i = ix2 g n := ⟨i 0, i 1, by funext a; fin_cases a <;> rfl⟩
  unfold val_main_v4 val_main_v3 val_main_v2 k0_pay5 col
  pointwise

theorem size : k0_pay6 (F := Ideal) x0 (col x2) = val_main_v6 (F := Ideal) x0 x2 := by
  unfold k0_pay6
  rw [step, clip]
  rfl

theorem eig_re : k0_pay7 (F := Ideal) x0 x1 (col x2) = val_main_v10 (F := Ideal) x0 x1 x2 := by
  unfold k0_pay7
  rw [step, size]
  rfl

theorem eig_im : k0_pay8 (F := Ideal) x0 x1 (col x2) = val_main_v14 (F := Ideal) x0 x1 x2 := by
  unfold k0_pay8
  rw [step, size]
  rfl

theorem den : k0_pay9 (F := Ideal) x0 x1 = val_main_v17 (F := Ideal) x0 x1 := by
  unfold k0_pay9
  rw [clip]
  rfl

theorem less_one : k0_pay10 (F := Ideal) x0 x1 (col x2) = val_main_v19 (F := Ideal) x0 x1 x2 := by
  unfold k0_pay10
  rw [eig_re]
  rfl

/-- The factor's real part. -/
theorem fac_re : k0_pay11 (F := Ideal) x0 x1 (col x2) = shapeCast S64x1x64 (val_main_v23 (F := Ideal) x0 x1 x2) shapeCasts_S64x64_S64x1x64 := by
  unfold k0_pay11
  rw [less_one, eig_im, den, clip]
  rfl

/-- The factor's imaginary part. -/
theorem fac_im : k0_pay12 (F := Ideal) x0 x1 (col x2) = shapeCast S64x1x64 (val_main_v27 (F := Ideal) x0 x1 x2) shapeCasts_S64x64_S64x1x64 := by
  unfold k0_pay12
  rw [less_one, eig_im, den, clip]
  rfl

/-- The weight's real part. -/
theorem wei_re : k0_pay13 (F := Ideal) x0 x1 (col x2) (swap x3) (swap x4) = val_main_v40 (F := Ideal) x0 x1 x2 x3 x4 := by
  funext i
  obtain ⟨g, k, n, rfl⟩ : ∃ (g : Fin 64) (k : Fin 16) (n : Fin 64), i = ix3 g k n := ⟨i 0, i 1, i 2, by funext a; fin_cases a <;> rfl⟩
  unfold k0_pay13 k0_pay2 k0_pay3 val_main_v40 val_main_v34 val_main_v33 val_main_v32 val_main_v31 val_main_v30 val_main_v29 val_main_v28 swap
  rw [fac_re, fac_im]
  generalize val_main_v23 (F := Ideal) x0 x1 x2 = p
  generalize val_main_v27 (F := Ideal) x0 x1 x2 = q
  pointwise

/-- The weight's imaginary part. -/
theorem wei_im : k0_pay1 (F := Ideal) (k0_pay14 (F := Ideal) x0 x1 (col x2) (swap x4)) (k0_pay15 (F := Ideal) x0 x1 (col x2) (swap x3)) = val_main_v41 (F := Ideal) x0 x1 x2 x3 x4 := by
  funext i
  obtain ⟨g, k, n, rfl⟩ : ∃ (g : Fin 64) (k : Fin 16) (n : Fin 64), i = ix3 g k n := ⟨i 0, i 1, i 2, by funext a; fin_cases a <;> rfl⟩
  unfold k0_pay1 k0_pay14 k0_pay15 k0_pay2 k0_pay3 val_main_v41 val_main_v39 val_main_v38 val_main_v37 val_main_v36 val_main_v35 val_main_v29 val_main_v28 swap
  rw [fac_re, fac_im]
  generalize val_main_v23 (F := Ideal) x0 x1 x2 = p
  generalize val_main_v27 (F := Ideal) x0 x1 x2 = q
  pointwise

end Stages

/-! ## The arrays the call is given, each one block -/

variable (m : (ℓ : Loc nD τ sig) → Buf (Elt Ideal) ℓ)

/-- The five arguments' contents. -/
abbrev A0 (c : Dev nD) : FVec Ideal S64x64 .f32 := m (c, Proc.tc.devRef main_arg0)
abbrev A1 (c : Dev nD) : FVec Ideal S64x64 .f32 := m (c, Proc.tc.devRef main_arg1)
abbrev A2 (c : Dev nD) : FVec Ideal S64 .f32 := m (c, Proc.tc.devRef main_arg2)
abbrev A3 (c : Dev nD) : FVec Ideal S64x64x16 .f32 := m (c, Proc.tc.devRef main_arg3)
abbrev A4 (c : Dev nD) : FVec Ideal S64x64x16 .f32 := m (c, Proc.tc.devRef main_arg4)

open StableHlo in
theorem V_v0 (c : Dev nD) : V m c main_v0 = swap (A3 m c) := by
  show StableHlo.after _ _ _ = _
  after_results_simp <;> rfl

open StableHlo in
theorem V_v1 (c : Dev nD) : V m c main_v1 = swap (A4 m c) := by
  show StableHlo.after _ _ _ = _
  after_results_simp <;> rfl

open StableHlo in
theorem V_v2 (c : Dev nD) : V m c main_v2 = col (A2 m c) := by
  show StableHlo.after _ _ _ = _
  after_results_simp <;> rfl

theorem idx : ∀ t : Fin cfg0.N, win0_0.index t = ![0, 0] ∧ win0_1.index t = ![0, 0] ∧ win0_2.index t = ![0, 0]
    ∧ win0_3.index t = ![0, 0, 0] ∧ win0_4.index t = ![0, 0, 0] ∧ win0_5.index t = ![0, 0] ∧ win0_6.index t = ![0, 0]
    ∧ win0_7.index t = ![0, 0, 0] ∧ win0_8.index t = ![0, 0, 0] :=
  (by decide +kernel : ∀ t : Fin grid0.N, _)

section Blocks
variable (c : Dev nD) (t : Fin cfg0.N)

theorem blk0 : iblk m c 0 t = A0 m c := by
  funext i
  obtain ⟨g, n, rfl⟩ : ∃ (g n : Fin 64), i = ix2 g n := ⟨i 0, i 1, by funext a; fin_cases a <;> rfl⟩
  blk_ext [iblk, V, idx t]
theorem blk1 : iblk m c 1 t = A1 m c := by
  funext i
  obtain ⟨g, n, rfl⟩ : ∃ (g n : Fin 64), i = ix2 g n := ⟨i 0, i 1, by funext a; fin_cases a <;> rfl⟩
  blk_ext [iblk, V, idx t]
theorem blk2 : iblk m c 2 t = col (A2 m c) := by
  rw [← V_v2]
  funext i
  obtain ⟨g, n, rfl⟩ : ∃ (g : Fin 64) (n : Fin 1), i = ix2 g n := ⟨i 0, i 1, by funext a; fin_cases a <;> rfl⟩
  blk_ext [iblk, idx t]
theorem blk3 : iblk m c 3 t = swap (A3 m c) := by
  rw [← V_v0]
  funext i
  obtain ⟨g, k, n, rfl⟩ : ∃ (g : Fin 64) (k : Fin 16) (n : Fin 64), i = ix3 g k n := ⟨i 0, i 1, i 2, by funext a; fin_cases a <;> rfl⟩
  blk_ext [iblk, idx t]
theorem blk4 : iblk m c 4 t = swap (A4 m c) := by
  rw [← V_v1]
  funext i
  obtain ⟨g, k, n, rfl⟩ : ∃ (g : Fin 64) (k : Fin 16) (n : Fin 64), i = ix3 g k n := ⟨i 0, i 1, i 2, by funext a; fin_cases a <;> rfl⟩
  blk_ext [iblk, idx t]

end Blocks

/-! ## The results -/

theorem result5 (c : Dev nD) : (dats m 0 c).arrAt 5 cfg0.N = val_main_v10 (F := Ideal) (A0 m c) (A1 m c) (A2 m c) := by
  refine (dats m 0 c).arrAt_eq_of_covers 5 _ (by decide +kernel) fun t hf y => ?_
  blk_simp
  rw [after0_5, blk0, blk1, blk2, blk3, blk4]
  frame_out
  obtain ⟨g, n, rfl⟩ : ∃ (g n : Fin 64), y = ix2 g n := ⟨y 0, y 1, by funext a; fin_cases a <;> rfl⟩
  have e : ((View.whole main_v3_0).slice (win0_5.rect t)).emb (ix2 g n) = ix2 g n := by blk_ext [idx t]
  rw [e]
  exact congrFun (eig_re _ _ _) _

theorem result6 (c : Dev nD) : (dats m 0 c).arrAt 6 cfg0.N = val_main_v14 (F := Ideal) (A0 m c) (A1 m c) (A2 m c) := by
  refine (dats m 0 c).arrAt_eq_of_covers 6 _ (by decide +kernel) fun t hf y => ?_
  blk_simp
  rw [after0_6, blk0, blk1, blk2, blk3, blk4]
  frame_out
  obtain ⟨g, n, rfl⟩ : ∃ (g n : Fin 64), y = ix2 g n := ⟨y 0, y 1, by funext a; fin_cases a <;> rfl⟩
  have e : ((View.whole main_v3_1).slice (win0_6.rect t)).emb (ix2 g n) = ix2 g n := by blk_ext [idx t]
  rw [e]
  exact congrFun (eig_im _ _ _) _

theorem result7 (c : Dev nD) : (dats m 0 c).arrAt 7 cfg0.N = val_main_v40 (F := Ideal) (A0 m c) (A1 m c) (A2 m c) (A3 m c) (A4 m c) := by
  refine (dats m 0 c).arrAt_eq_of_covers 7 _ (by decide +kernel) fun t hf y => ?_
  blk_simp
  rw [after0_7, blk0, blk1, blk2, blk3, blk4]
  frame_out
  obtain ⟨g, k, n, rfl⟩ : ∃ (g : Fin 64) (k : Fin 16) (n : Fin 64), y = ix3 g k n := ⟨y 0, y 1, y 2, by funext a; fin_cases a <;> rfl⟩
  have e : ((View.whole main_v3_2).slice (win0_7.rect t)).emb (ix3 g k n) = ix3 g k n := by blk_ext [idx t]
  rw [e]
  exact congrFun (wei_re _ _ _ _ _) _

theorem result8 (c : Dev nD) : (dats m 0 c).arrAt 8 cfg0.N = val_main_v41 (F := Ideal) (A0 m c) (A1 m c) (A2 m c) (A3 m c) (A4 m c) := by
  refine (dats m 0 c).arrAt_eq_of_covers 8 _ (by decide +kernel) fun t hf y => ?_
  blk_simp
  rw [after0_8, blk0, blk1, blk2, blk3, blk4]
  frame_out
  obtain ⟨g, k, n, rfl⟩ : ∃ (g : Fin 64) (k : Fin 16) (n : Fin 64), y = ix3 g k n := ⟨y 0, y 1, y 2, by funext a; fin_cases a <;> rfl⟩
  have e : ((View.whole main_v3_3).slice (win0_8.rect t)).emb (ix3 g k n) = ix3 g k n := by blk_ext [idx t]
  rw [e]
  exact congrFun (wei_im _ _ _ _ _) _

/-- The reference never faults and leaves its arguments. -/
theorem frame_ref : Cert.quiescent_DiscRefIdeal (hDiscRefIdeal := Cert.DiscRefIdeal.Gen.facts) := by
  intro m ρ _
  exact (θ_run _ _ _).mono (fun r h => ⟨fun c => (h c).2.2.2.2, sem_eq_zero_of_no_sems (by decide) _⟩) (Cert.DiscRefIdeal.Value.run m ρ)

/-- From equal arguments the call and its reference end with equal results. -/
theorem algebraic : Cert.algebraic_DiscIdeal_DiscRefIdeal (hDiscIdeal := Cert.DiscIdeal.Gen.facts)
    (hDiscRefIdeal := Cert.DiscRefIdeal.Gen.facts) := by
  pair_intro
  · run_from Cert.DiscIdeal.Value.run_blocks (F := Ideal) m g
  · run_from Cert.DiscRefIdeal.Value.run (F := Ideal) m' g'
    · rw [result5]
      exact val_main_v10_eq (F := Ideal) _ _ _
    · rw [result6]
      exact val_main_v14_eq (F := Ideal) _ _ _
    · rw [result7]
      exact val_main_v40_eq (F := Ideal) _ _ _ _ _
    · rw [result8]
      exact val_main_v41_eq (F := Ideal) _ _ _ _ _

end Cert.Proof.Disc

end
-- ==== Proof.DiscB.lean ====
/- The gradient of the S5 branch's discretisation: from the gradients of its four values, those of its five parameters. The call does
   the operations of the reference's gradient on the same arrays, with the weights' last two axes swapped, so its values are followed
   stage by stage; the sums over the inputs of a group run over another axis, and a sum over a single entry is that entry. -/
module

public import proofs.«01_k».proof.Defs
public import proofs.«01_k».proof.Proof.Gen.DiscBIdeal.Frame
public import proofs.«01_k».proof.Proof.Gen.DiscBRefIdeal.Read
public import Idealize.ShloMosaic.Lib.Claim
public import Idealize.ShloMosaic.Lib.Pointwise
public import Idealize.ShloMosaic.Lib.Pipeline.ValueKit
public import Idealize.ShloMosaic.Lib.Pipeline.Value

@[expose] public section

set_option maxRecDepth 16384

noncomputable section

namespace Cert.Proof.DiscB

open Cert.DiscBIdeal Cert.DiscBIdeal.Gen Idealize.ShloMosaic Idealize.ShloMosaic.TcCoe Idealize.SL.Sem
open Cert.DiscBRefIdeal.Read

/-- The steps as one column, and a weight with its last two axes swapped: what the host gives the call. -/
def col (x : FVec Ideal S64 .f32) : FVec Ideal S64x1 .f32 := shapeCast S64x1 x shapeCasts_S64_S64x1
def swap (x : FVec Ideal S64x64x16 .f32) : FVec Ideal S64x16x64 .f32 := transpose S64x16x64 [0, 2, 1] x transposes_S64x64x16_S64x16x64_0_2_1

/-! ## Three rules -/

/-- Zero less a value is its negative. -/
theorem minus (y : FVec Ideal S64x64 .f32) : subf (broadcast S64x64 (Scalar.ofBits (F := Ideal) .f32 0x00000000#32)) y = Host.negf y := by
  funext i
  pointwise
  exact zero_sub (G := EReal) _

/-- The sum along a row. -/
theorem row_sum (y : FVec Ideal S64x64 .f32) : multiReduction .add [1] S64 y 0x00000000#32 reduces_S64x64_S64 (.inl rfl) rfl
    = Host.reduceAdd y (val_main_cst_14 (F := Ideal)) Cert.DiscBRefIdeal.Gen.reducesTo_S64x64_S64_d1 Cert.DiscBRefIdeal.Gen.h_S_ := by
  funext i
  obtain ⟨g, rfl⟩ : ∃ g : Fin 64, i = ix1 g := ⟨i 0, by funext a; fin_cases a; rfl⟩
  unfold val_main_cst_14
  pointwise

/-- The sum over a group's inputs, which are the middle axis here and the last one in the reference. -/
theorem input_sum (y : FVec Ideal S64x16x64 .f32) (z : FVec Ideal S64x64x16 .f32) (h : ∀ (g : Fin 64) (k : Fin 16) (n : Fin 64), y (ix3 g k n) = z (ix3 g n k)) :
    multiReduction .add [1] S64x64 y 0x00000000#32 reduces_S64x16x64_S64x64 (.inl rfl) rfl
      = Host.reduceAdd z (val_main_cst_8 (F := Ideal)) Cert.DiscBRefIdeal.Gen.reducesTo_S64x64x16_S64x64_d2 Cert.DiscBRefIdeal.Gen.h_S_ := by
  obtain rfl : y = fun i => z (ix3 (i 0) (i 2) (i 1)) := by
    funext i
    obtain ⟨g, k, n, rfl⟩ : ∃ (g : Fin 64) (k : Fin 16) (n : Fin 64), i = ix3 g k n := ⟨i 0, i 1, i 2, by funext a; fin_cases a <;> rfl⟩
    exact h g k n
  funext i
  obtain ⟨g, n, rfl⟩ : ∃ (g n : Fin 64), i = ix2 g n := ⟨i 0, i 1, by funext a; fin_cases a <;> rfl⟩
  unfold val_main_cst_8
  pointwise

/-! ## The stages: `x0`, `x1` the eigenvalues' parts, `x2` the logarithms of the steps, `x3`, `x4` the weights' parts, `x5` to `x8` the
gradients of the four values -/

section Stages
variable (x0 x1 : FVec Ideal S64x64 .f32) (x2 : FVec Ideal S64 .f32) (x3 x4 : FVec Ideal S64x64x16 .f32) (x5 x6 : FVec Ideal S64x64 .f32)
  (x7 x8 : FVec Ideal S64x16x64 .f32)

/-- The step, along a row. -/
theorem step : broadcastTo S64x64 (k0_pay10 (F := Ideal) (col x2)) broadcasts_S64x1_S64x64 = val_main_v15 (F := Ideal) x2 := by
  funext i
  obtain ⟨g, n, rfl⟩ : ∃ (g n : Fin 64), i = ix2 g n := ⟨i 0, i 1, by funext a; fin_cases a <;> rfl⟩
  unfold val_main_v15 val_main_v14 val_main_v13 k0_pay10 col
  pointwise

/-- The real part, held below zero. -/
theorem f8 : k0_pay8 (F := Ideal) x0 = val_main_v3 (F := Ideal) x0 := rfl

/-- The derivative of the clip. -/
theorem f9 :
    k0_pay9 (F := Ideal) x0
      = val_main_v12 (F := Ideal) x0 := by
  rfl

/-- The size of the eigenvalue. -/
theorem f11 :
    k0_pay11 (F := Ideal) x0 (col x2)
      = val_main_v17 (F := Ideal) x0 x2 := by
  unfold k0_pay11
  rw [step, f8]
  rfl

theorem f13 :
    k0_pay13 (F := Ideal) x1 (col x2)
      = val_main_v20 (F := Ideal) x1 x2 := by
  unfold k0_pay13 k0_pay12
  rw [step]
  rfl

theorem f14 :
    k0_pay14 (F := Ideal) x1 (col x2)
      = val_main_v21 (F := Ideal) x1 x2 := by
  unfold k0_pay14 k0_pay12
  rw [step]
  rfl

theorem f16 :
    k0_pay16 (F := Ideal) x1 (col x2)
      = val_main_v25 (F := Ideal) x1 x2 := by
  unfold k0_pay16 k0_pay15
  rw [step]
  rfl

theorem f17 :
    k0_pay17 (F := Ideal) x1 (col x2)
      = val_main_v26 (F := Ideal) x1 x2 := by
  unfold k0_pay17 k0_pay15
  rw [step]
  rfl

/-- The eigenvalue's imaginary part, and below its real part less one. -/
theorem f18 :
    k0_pay18 (F := Ideal) x0 x1 (col x2)
      = val_main_v27 (F := Ideal) x0 x1 x2 := by
  unfold k0_pay18
  rw [f11, f16]
  rfl

theorem f19 :
    k0_pay19 (F := Ideal) x0 x1
      = val_main_v30 (F := Ideal) x0 x1 := by
  unfold k0_pay19
  rw [f8]
  rfl

theorem f20 :
    k0_pay20 (F := Ideal) x0 x1 (col x2)
      = val_main_v32 (F := Ideal) x0 x1 x2 := by
  unfold k0_pay20
  rw [f11, f13]
  rfl

theorem f21 :
    k0_pay21 (F := Ideal) x0 x1 (col x2)
      = val_main_v35 (F := Ideal) x0 x1 x2 := by
  unfold k0_pay21
  rw [f20, f18, f8]
  rfl

theorem f22 :
    k0_pay22 (F := Ideal) (val_main_v30 (F := Ideal) x0 x1)
      = val_main_v39 (F := Ideal) x0 x1 := by
  unfold k0_pay22
  rfl

theorem f24 :
    k0_pay24 (F := Ideal) x1 (val_main_v3 (F := Ideal) x0) (val_main_v27 (F := Ideal) x0 x1 x2) (val_main_v32 (F := Ideal) x0 x1 x2)
      = val_main_v42 (F := Ideal) x0 x1 x2 := by
  unfold k0_pay24
  rfl

theorem f25 :
    k0_pay25 (F := Ideal) (val_main_v30 (F := Ideal) x0 x1)
      = val_main_v46 (F := Ideal) x0 x1 := by
  unfold k0_pay25
  rfl

/-- The factor of the weights, its real part, and below its imaginary part. -/
theorem f23 :
    k0_pay23 (F := Ideal) (val_main_v30 (F := Ideal) x0 x1) (val_main_v35 (F := Ideal) x0 x1 x2)
      = shapeCast S64x1x64 (val_main_v36 (F := Ideal) x0 x1 x2) shapeCasts_S64x64_S64x1x64 := by
  unfold k0_pay23
  rfl

theorem f26 :
    k0_pay26 (F := Ideal) x1 (val_main_v3 (F := Ideal) x0) (val_main_v27 (F := Ideal) x0 x1 x2) (val_main_v30 (F := Ideal) x0 x1) (val_main_v32 (F := Ideal) x0 x1 x2)
      = shapeCast S64x1x64 (val_main_v43 (F := Ideal) x0 x1 x2) shapeCasts_S64x64_S64x1x64 := by
  unfold k0_pay26
  rw [f24]
  rfl

/-- The gradient of the weight's real part. -/
theorem grad34 :
    k0_pay34 (F := Ideal) x1 (val_main_v3 (F := Ideal) x0) (val_main_v27 (F := Ideal) x0 x1 x2) (val_main_v30 (F := Ideal) x0 x1) (val_main_v32 (F := Ideal) x0 x1 x2) (val_main_v35 (F := Ideal) x0 x1 x2) x7 x8
      = val_main_v151 (F := Ideal) x0 x1 x2 x7 x8 := by
  funext i
  obtain ⟨g, k, n, rfl⟩ : ∃ (g : Fin 64) (k : Fin 16) (n : Fin 64), i = ix3 g k n := ⟨i 0, i 1, i 2, by funext a; fin_cases a <;> rfl⟩
  unfold k0_pay34
  rw [f23, f26]
  unfold k0_pay28 k0_pay30 val_main_v151 val_main_v79 val_main_v60 val_main_v59 val_main_v48 val_main_v78 val_main_v77 val_main_v47 val_main_v0 val_main_v1
  generalize val_main_v36 (F := Ideal) x0 x1 x2 = p
  generalize val_main_v43 (F := Ideal) x0 x1 x2 = q
  pointwise

/-- The gradient of the weight's imaginary part. -/
theorem grad32 :
    k0_pay32 (F := Ideal) x1 (val_main_v3 (F := Ideal) x0) (val_main_v27 (F := Ideal) x0 x1 x2) (val_main_v30 (F := Ideal) x0 x1) (val_main_v32 (F := Ideal) x0 x1 x2) (val_main_v35 (F := Ideal) x0 x1 x2) x7 x8
      = val_main_v152 (F := Ideal) x0 x1 x2 x7 x8 := by
  funext i
  obtain ⟨g, k, n, rfl⟩ : ∃ (g : Fin 64) (k : Fin 16) (n : Fin 64), i = ix3 g k n := ⟨i 0, i 1, i 2, by funext a; fin_cases a <;> rfl⟩
  unfold k0_pay32
  rw [f23, f26]
  unfold k0_pay27 k0_pay31 val_main_v152 val_main_v72 val_main_v65 val_main_v64 val_main_v71 val_main_v70 val_main_v69 val_main_v47 val_main_v48 val_main_v0 val_main_v1
  generalize val_main_v36 (F := Ideal) x0 x1 x2 = p
  generalize val_main_v43 (F := Ideal) x0 x1 x2 = q
  pointwise
  exact congrArg (_ + _ * ·) (zero_sub (G := EReal) _)

/-! The gradients of the factor's two parts, summed over a group's inputs. -/

theorem s29 : k0_pay29 (F := Ideal) (k0_pay7 (swap x4)) x8 = shapeCast S64x1x64 (val_main_v67 (F := Ideal) x4 x8) shapeCasts_S64x64_S64x1x64 := by
  unfold k0_pay29
  exact congrArg (fun z => shapeCast S64x1x64 z shapeCasts_S64x64_S64x1x64) (input_sum _ (val_main_v66 (F := Ideal) x4 x8) fun g k n => by
    unfold k0_pay27 k0_pay7 val_main_v66 val_main_v1 swap
    pointwise)

theorem s83 : multiReduction .add [1] S64x64 (k0_pay35 (F := Ideal) (k0_pay6 (swap x3)) x7) 0x00000000#32 reduces_S64x16x64_S64x64 (.inl rfl) rfl
    = val_main_v81 (F := Ideal) x3 x7 := by
  exact input_sum _ (val_main_v80 (F := Ideal) x3 x7) fun g k n => by
    unfold k0_pay35 k0_pay30 k0_pay6 val_main_v80 val_main_v0 swap
    pointwise

theorem s33 : k0_pay33 (F := Ideal) (k0_pay6 (swap x3)) (k0_pay7 (swap x4)) x7 x8
    = addf (shapeCast S64x1x64 (val_main_v62 (F := Ideal) x3 x8) shapeCasts_S64x64_S64x1x64) (shapeCast S64x1x64 (val_main_v74 (F := Ideal) x4 x7) shapeCasts_S64x64_S64x1x64) := by
  unfold k0_pay33
  exact congrArg₂ addf
    (congrArg (fun z => shapeCast S64x1x64 z shapeCasts_S64x64_S64x1x64) (input_sum _ (val_main_v61 (F := Ideal) x3 x8) fun g k n => by
      unfold k0_pay28 k0_pay6 val_main_v61 val_main_v1 swap
      pointwise))
    (congrArg (fun z => shapeCast S64x1x64 z shapeCasts_S64x64_S64x1x64) (input_sum _ (val_main_v73 (F := Ideal) x4 x7) fun g k n => by
      unfold k0_pay31 k0_pay7 val_main_v73 val_main_v69 val_main_v0 swap
      pointwise
      exact congrArg (· * x4 (ix3 g n k)) (zero_sub (G := EReal) _)))

theorem hq : k0_pay36 (F := Ideal) (k0_pay33 (F := Ideal) (k0_pay6 (swap x3)) (k0_pay7 (swap x4)) x7 x8) = val_main_v84 (F := Ideal) x3 x4 x7 x8 := by
  rw [s33]
  unfold k0_pay36 val_main_v84 val_main_v76 val_main_v63 val_main_v75 val_main_cst_12
  generalize val_main_v62 (F := Ideal) x3 x8 = a
  generalize val_main_v74 (F := Ideal) x4 x7 = b
  funext i
  obtain ⟨g, n, rfl⟩ : ∃ (g n : Fin 64), i = ix2 g n := ⟨i 0, i 1, by funext a; fin_cases a <;> rfl⟩
  pointwise

theorem hw : k0_pay39 (F := Ideal) (k0_pay29 (F := Ideal) (k0_pay7 (swap x4)) x8) (k0_pay35 (F := Ideal) (k0_pay6 (swap x3)) x7)
    = val_main_v85 (F := Ideal) x3 x4 x7 x8 := by
  unfold k0_pay39
  rw [s29, s83]
  unfold val_main_v85 val_main_v83 val_main_v68 val_main_v82 val_main_cst_13
  generalize val_main_v67 (F := Ideal) x4 x8 = a
  generalize val_main_v81 (F := Ideal) x3 x7 = b
  funext i
  obtain ⟨g, n, rfl⟩ : ∃ (g n : Fin 64), i = ix2 g n := ⟨i 0, i 1, by funext a; fin_cases a <;> rfl⟩
  pointwise

/-! From these the gradients run back through the factor and the eigenvalue. `b37` and the next ones say of the call's value of that number,
taken at the reference's values of the stages before it, which value of the reference it is; `f9` and the next ones said it of the values
before the gradients. -/

section Back
variable (p q : FVec Ideal S64x1x64 .f32) (w : FVec Ideal S64x16x64 .f32)

theorem b37 (hq : k0_pay36 (F := Ideal) q = val_main_v84 (F := Ideal) x3 x4 x7 x8) (hw : k0_pay39 (F := Ideal) p w = val_main_v85 (F := Ideal) x3 x4 x7 x8) :
    k0_pay37 (F := Ideal) (val_main_v30 (F := Ideal) x0 x1) q
      = val_main_v89 (F := Ideal) x0 x1 x3 x4 x7 x8 := by
  unfold k0_pay37
  rw [hq]
  rfl

theorem b38 (hq : k0_pay36 (F := Ideal) q = val_main_v84 (F := Ideal) x3 x4 x7 x8) (hw : k0_pay39 (F := Ideal) p w = val_main_v85 (F := Ideal) x3 x4 x7 x8) :
    k0_pay38 (F := Ideal) (val_main_v30 (F := Ideal) x0 x1) q
      = val_main_v90 (F := Ideal) x0 x1 x3 x4 x7 x8 := by
  unfold k0_pay38
  rw [b37 (hq := hq) (hw := hw)]
  exact minus _

theorem b40 (hq : k0_pay36 (F := Ideal) q = val_main_v84 (F := Ideal) x3 x4 x7 x8) (hw : k0_pay39 (F := Ideal) p w = val_main_v85 (F := Ideal) x3 x4 x7 x8) :
    k0_pay40 (F := Ideal) (val_main_v35 (F := Ideal) x0 x1 x2) (val_main_v39 (F := Ideal) x0 x1) (val_main_v42 (F := Ideal) x0 x1 x2) (val_main_v46 (F := Ideal) x0 x1) p q w
      = val_main_v100 (F := Ideal) x0 x1 x2 x3 x4 x7 x8 := by
  unfold k0_pay40
  rw [hq, hw]
  exact congrArg₂ addf (minus _) (minus _)

theorem b41 (hq : k0_pay36 (F := Ideal) q = val_main_v84 (F := Ideal) x3 x4 x7 x8) (hw : k0_pay39 (F := Ideal) p w = val_main_v85 (F := Ideal) x3 x4 x7 x8) :
    k0_pay41 (F := Ideal) (val_main_v30 (F := Ideal) x0 x1) p w
      = val_main_v101 (F := Ideal) x0 x1 x3 x4 x7 x8 := by
  unfold k0_pay41
  rw [hw]
  rfl

theorem b42 (hq : k0_pay36 (F := Ideal) q = val_main_v84 (F := Ideal) x3 x4 x7 x8) (hw : k0_pay39 (F := Ideal) p w = val_main_v85 (F := Ideal) x3 x4 x7 x8) :
    k0_pay42 (F := Ideal) x1 (val_main_v3 (F := Ideal) x0) (val_main_v30 (F := Ideal) x0 x1) x6 p q w
      = val_main_v105 (F := Ideal) x0 x1 x3 x4 x6 x7 x8 := by
  unfold k0_pay42
  rw [b37 (hq := hq) (hw := hw), b41 (hq := hq) (hw := hw)]
  rfl

theorem b43 (hq : k0_pay36 (F := Ideal) q = val_main_v84 (F := Ideal) x3 x4 x7 x8) (hw : k0_pay39 (F := Ideal) p w = val_main_v85 (F := Ideal) x3 x4 x7 x8) :
    k0_pay43 (F := Ideal) x1 (val_main_v3 (F := Ideal) x0) (val_main_v30 (F := Ideal) x0 x1) x5 p q w
      = val_main_v109 (F := Ideal) x0 x1 x3 x4 x5 x7 x8 := by
  unfold k0_pay43
  rw [b38 (hq := hq) (hw := hw), b41 (hq := hq) (hw := hw)]
  rfl

theorem b44 (hq : k0_pay36 (F := Ideal) q = val_main_v84 (F := Ideal) x3 x4 x7 x8) (hw : k0_pay39 (F := Ideal) p w = val_main_v85 (F := Ideal) x3 x4 x7 x8) :
    k0_pay44 (F := Ideal) (val_main_v3 (F := Ideal) x0) (val_main_v27 (F := Ideal) x0 x1 x2) (val_main_v30 (F := Ideal) x0 x1) (val_main_v32 (F := Ideal) x0 x1 x2) (val_main_v35 (F := Ideal) x0 x1 x2) (val_main_v39 (F := Ideal) x0 x1) (val_main_v42 (F := Ideal) x0 x1 x2) (val_main_v46 (F := Ideal) x0 x1) p q w
      = val_main_v117 (F := Ideal) x0 x1 x2 x3 x4 x7 x8 := by
  unfold k0_pay44
  rw [b37 (hq := hq) (hw := hw), b41 (hq := hq) (hw := hw), b40 (hq := hq) (hw := hw)]
  rfl

theorem b45 (hq : k0_pay36 (F := Ideal) q = val_main_v84 (F := Ideal) x3 x4 x7 x8) (hw : k0_pay39 (F := Ideal) p w = val_main_v85 (F := Ideal) x3 x4 x7 x8) :
    k0_pay45 (F := Ideal) x1 (val_main_v3 (F := Ideal) x0) (val_main_v17 (F := Ideal) x0 x2) (val_main_v26 (F := Ideal) x1 x2) (val_main_v30 (F := Ideal) x0 x1) x6 p q w
      = val_main_v120 (F := Ideal) x0 x1 x2 x3 x4 x6 x7 x8 := by
  unfold k0_pay45
  rw [b42 (hq := hq) (hw := hw)]
  rfl

theorem b46 (hq : k0_pay36 (F := Ideal) q = val_main_v84 (F := Ideal) x3 x4 x7 x8) (hw : k0_pay39 (F := Ideal) p w = val_main_v85 (F := Ideal) x3 x4 x7 x8) :
    k0_pay46 (F := Ideal) x1 (val_main_v3 (F := Ideal) x0) (val_main_v17 (F := Ideal) x0 x2) (val_main_v26 (F := Ideal) x1 x2) (val_main_v30 (F := Ideal) x0 x1) x6 p q w
      = val_main_v123 (F := Ideal) x0 x1 x2 x3 x4 x6 x7 x8 := by
  unfold k0_pay46
  rw [b45 (hq := hq) (hw := hw)]
  exact congrArg (fun z => shapeCast S64x1 z shapeCasts_S64_S64x1) (row_sum _)

theorem b47 (hq : k0_pay36 (F := Ideal) q = val_main_v84 (F := Ideal) x3 x4 x7 x8) (hw : k0_pay39 (F := Ideal) p w = val_main_v85 (F := Ideal) x3 x4 x7 x8) :
    k0_pay47 (F := Ideal) x1 (val_main_v3 (F := Ideal) x0) (k0_pay10 (F := Ideal) (col x2)) (val_main_v17 (F := Ideal) x0 x2) (val_main_v26 (F := Ideal) x1 x2) (val_main_v27 (F := Ideal) x0 x1 x2) (val_main_v30 (F := Ideal) x0 x1) (val_main_v32 (F := Ideal) x0 x1 x2) (val_main_v35 (F := Ideal) x0 x1 x2) (val_main_v39 (F := Ideal) x0 x1) (val_main_v42 (F := Ideal) x0 x1 x2) (val_main_v46 (F := Ideal) x0 x1) x6 p q w
      = val_main_v126 (F := Ideal) x0 x1 x2 x3 x4 x6 x7 x8 := by
  unfold k0_pay47
  rw [b38 (hq := hq) (hw := hw), b41 (hq := hq) (hw := hw), b40 (hq := hq) (hw := hw), b45 (hq := hq) (hw := hw), step]
  rfl

theorem b48 (hq : k0_pay36 (F := Ideal) q = val_main_v84 (F := Ideal) x3 x4 x7 x8) (hw : k0_pay39 (F := Ideal) p w = val_main_v85 (F := Ideal) x3 x4 x7 x8) :
    k0_pay48 (F := Ideal) x1 (val_main_v3 (F := Ideal) x0) (val_main_v17 (F := Ideal) x0 x2) (val_main_v30 (F := Ideal) x0 x1) x5 p q w
      = val_main_v127 (F := Ideal) x0 x1 x2 x3 x4 x5 x7 x8 := by
  unfold k0_pay48
  rw [b43 (hq := hq) (hw := hw)]
  rfl

theorem b49 (hq : k0_pay36 (F := Ideal) q = val_main_v84 (F := Ideal) x3 x4 x7 x8) (hw : k0_pay39 (F := Ideal) p w = val_main_v85 (F := Ideal) x3 x4 x7 x8) :
    k0_pay49 (F := Ideal) x1 (val_main_v3 (F := Ideal) x0) (val_main_v20 (F := Ideal) x1 x2) (val_main_v25 (F := Ideal) x1 x2) (val_main_v30 (F := Ideal) x0 x1) x5 x6 p q w
      = val_main_v129 (F := Ideal) x0 x1 x2 x3 x4 x5 x6 x7 x8 := by
  unfold k0_pay49
  rw [b42 (hq := hq) (hw := hw), b43 (hq := hq) (hw := hw)]
  rfl

end Back

theorem b1 :
    k0_pay1 (F := Ideal) (val_main_v21 (F := Ideal) x1 x2) (val_main_v127 (F := Ideal) x0 x1 x2 x3 x4 x5 x7 x8) (k0_pay50 (F := Ideal))
      = val_main_v131 (F := Ideal) x0 x1 x2 x3 x4 x5 x7 x8 := by
  exact congrArg (fun z => mulf z (val_main_v21 (F := Ideal) x1 x2)) (minus _)

theorem b3 :
    k0_pay3 (F := Ideal) (val_main_v17 (F := Ideal) x0 x2) (val_main_v129 (F := Ideal) x0 x1 x2 x3 x4 x5 x6 x7 x8)
      = val_main_v139 (F := Ideal) x0 x1 x2 x3 x4 x5 x6 x7 x8 := by
  rfl

/-- The gradient of the eigenvalue's real part, and below of its imaginary part and of the step's logarithm. -/
theorem grad9 :
    k0_pay5 (F := Ideal) (val_main_v12 (F := Ideal) x0) (k0_pay10 (F := Ideal) (col x2)) (val_main_v17 (F := Ideal) x0 x2) (val_main_v117 (F := Ideal) x0 x1 x2 x3 x4 x7 x8) (val_main_v129 (F := Ideal) x0 x1 x2 x3 x4 x5 x6 x7 x8)
      = val_main_v149 (F := Ideal) x0 x1 x2 x3 x4 x5 x6 x7 x8 := by
  unfold k0_pay5
  rw [b3, step]
  rfl

theorem grad10 :
    k0_pay2 (F := Ideal) (k0_pay10 (F := Ideal) (col x2)) (val_main_v21 (F := Ideal) x1 x2) (val_main_v126 (F := Ideal) x0 x1 x2 x3 x4 x6 x7 x8) (val_main_v127 (F := Ideal) x0 x1 x2 x3 x4 x5 x7 x8) (k0_pay50 (F := Ideal))
      = val_main_v138 (F := Ideal) x0 x1 x2 x3 x4 x5 x6 x7 x8 := by
  unfold k0_pay2
  rw [b1, step]
  rfl

theorem grad11 :
    k0_pay4 (F := Ideal) x1 (val_main_v3 (F := Ideal) x0) (k0_pay10 (F := Ideal) (col x2)) (val_main_v17 (F := Ideal) x0 x2) (val_main_v21 (F := Ideal) x1 x2) (val_main_v123 (F := Ideal) x0 x1 x2 x3 x4 x6 x7 x8) (val_main_v127 (F := Ideal) x0 x1 x2 x3 x4 x5 x7 x8) (val_main_v129 (F := Ideal) x0 x1 x2 x3 x4 x5 x6 x7 x8) (k0_pay50 (F := Ideal))
      = val_main_v150 (F := Ideal) x0 x1 x2 x3 x4 x5 x6 x7 x8 := by
  have e : k0_pay4 (F := Ideal) x1 (val_main_v3 (F := Ideal) x0) (k0_pay10 (F := Ideal) (col x2)) (val_main_v17 (F := Ideal) x0 x2) (val_main_v21 (F := Ideal) x1 x2) (val_main_v123 (F := Ideal) x0 x1 x2 x3 x4 x6 x7 x8) (val_main_v127 (F := Ideal) x0 x1 x2 x3 x4 x5 x7 x8) (val_main_v129 (F := Ideal) x0 x1 x2 x3 x4 x5 x6 x7 x8) (k0_pay50 (F := Ideal))
      = mulf (val_main_v143 (F := Ideal) x0 x1 x2 x3 x4 x5 x6 x7 x8) (k0_pay10 (F := Ideal) (col x2)) := by
    unfold k0_pay4
    rw [b1, b3]
    exact congrArg (fun z => mulf z (k0_pay10 (F := Ideal) (col x2))) (congrArg₂ addf (congrArg (addf (val_main_v123 (F := Ideal) x0 x1 x2 x3 x4 x6 x7 x8)) (congrArg (fun z => shapeCast S64x1 z shapeCasts_S64_S64x1) (row_sum _)))
      (congrArg (fun z => shapeCast S64x1 z shapeCasts_S64_S64x1) (row_sum _)))
  rw [e]
  unfold val_main_v150 val_main_v148 val_main_v147 val_main_v13 k0_pay10 col
  generalize val_main_v143 (F := Ideal) x0 x1 x2 x3 x4 x5 x6 x7 x8 = y
  funext i
  obtain ⟨g, n, rfl⟩ : ∃ (g : Fin 64) (n : Fin 1), i = ix2 g n := ⟨i 0, i 1, by funext a; fin_cases a <;> rfl⟩
  obtain rfl : n = 0 := Subsingleton.elim _ _
  simp only [val_main_cst_17]
  pointwise
  rw [Fin.sum_univ_one]

/-! What the call writes. -/

theorem out9 :
    out0_9 (F := Ideal) x0 x1 (col x2) (swap x3) (swap x4) x5 x6 x7 x8
      = val_main_v149 (F := Ideal) x0 x1 x2 x3 x4 x5 x6 x7 x8 := by
  funext i
  unfold_out out0_9
  frame_out
  simp only [f8, f9, f11, f13, f14, f16, f17, f18, f19, f20, f21, f22, f24, f25]
  rw [b44 (hq := hq x3 x4 x7 x8) (hw := hw x3 x4 x7 x8), b49 (hq := hq x3 x4 x7 x8) (hw := hw x3 x4 x7 x8), grad9]

theorem out10 :
    out0_10 (F := Ideal) x0 x1 (col x2) (swap x3) (swap x4) x5 x6 x7 x8
      = val_main_v138 (F := Ideal) x0 x1 x2 x3 x4 x5 x6 x7 x8 := by
  funext i
  unfold_out out0_10
  frame_out
  simp only [f8, f9, f11, f13, f14, f16, f17, f18, f19, f20, f21, f22, f24, f25]
  rw [b47 (hq := hq x3 x4 x7 x8) (hw := hw x3 x4 x7 x8), b48 (hq := hq x3 x4 x7 x8) (hw := hw x3 x4 x7 x8), grad10]

theorem out11 :
    out0_11 (F := Ideal) x0 x1 (col x2) (swap x3) (swap x4) x5 x6 x7 x8
      = val_main_v150 (F := Ideal) x0 x1 x2 x3 x4 x5 x6 x7 x8 := by
  funext i
  unfold_out out0_11
  frame_out
  simp only [f8, f9, f11, f13, f14, f16, f17, f18, f19, f20, f21, f22, f24, f25]
  rw [b46 (hq := hq x3 x4 x7 x8) (hw := hw x3 x4 x7 x8), b48 (hq := hq x3 x4 x7 x8) (hw := hw x3 x4 x7 x8), b49 (hq := hq x3 x4 x7 x8) (hw := hw x3 x4 x7 x8), grad11]

theorem out12 :
    out0_12 (F := Ideal) x0 x1 (col x2) (swap x3) (swap x4) x5 x6 x7 x8
      = val_main_v151 (F := Ideal) x0 x1 x2 x7 x8 := by
  funext i
  unfold_out out0_12
  frame_out
  simp only [f8, f18, f19, f20, f21]
  rw [grad34]

theorem out13 :
    out0_13 (F := Ideal) x0 x1 (col x2) (swap x3) (swap x4) x5 x6 x7 x8
      = val_main_v152 (F := Ideal) x0 x1 x2 x7 x8 := by
  funext i
  unfold_out out0_13
  frame_out
  simp only [f8, f18, f19, f20, f21]
  rw [grad32]

end Stages

/-! ## The arrays the call is given, each one block -/

variable (m : (ℓ : Loc nD τ sig) → Buf (Elt Ideal) ℓ)

/-- The nine arguments' contents. -/
abbrev A0 (c : Dev nD) : FVec Ideal S64x64 .f32 := m (c, Proc.tc.devRef main_arg0)
abbrev A1 (c : Dev nD) : FVec Ideal S64x64 .f32 := m (c, Proc.tc.devRef main_arg1)
abbrev A2 (c : Dev nD) : FVec Ideal S64 .f32 := m (c, Proc.tc.devRef main_arg2)
abbrev A3 (c : Dev nD) : FVec Ideal S64x64x16 .f32 := m (c, Proc.tc.devRef main_arg3)
abbrev A4 (c : Dev nD) : FVec Ideal S64x64x16 .f32 := m (c, Proc.tc.devRef main_arg4)
abbrev A5 (c : Dev nD) : FVec Ideal S64x64 .f32 := m (c, Proc.tc.devRef main_arg5)
abbrev A6 (c : Dev nD) : FVec Ideal S64x64 .f32 := m (c, Proc.tc.devRef main_arg6)
abbrev A7 (c : Dev nD) : FVec Ideal S64x16x64 .f32 := m (c, Proc.tc.devRef main_arg7)
abbrev A8 (c : Dev nD) : FVec Ideal S64x16x64 .f32 := m (c, Proc.tc.devRef main_arg8)

open StableHlo in
theorem V_v0 (c : Dev nD) : V m c main_v0 = swap (A3 m c) := by
  show StableHlo.after _ _ _ = _
  after_results_simp <;> rfl

open StableHlo in
theorem V_v1 (c : Dev nD) : V m c main_v1 = swap (A4 m c) := by
  show StableHlo.after _ _ _ = _
  after_results_simp <;> rfl

open StableHlo in
theorem V_v2 (c : Dev nD) : V m c main_v2 = col (A2 m c) := by
  show StableHlo.after _ _ _ = _
  after_results_simp <;> rfl

theorem idx : ∀ t : Fin cfg0.N, win0_0.index t = ![0, 0] ∧ win0_1.index t = ![0, 0] ∧ win0_2.index t = ![0, 0]
    ∧ win0_3.index t = ![0, 0, 0] ∧ win0_4.index t = ![0, 0, 0] ∧ win0_5.index t = ![0, 0] ∧ win0_6.index t = ![0, 0]
    ∧ win0_7.index t = ![0, 0, 0] ∧ win0_8.index t = ![0, 0, 0] ∧ win0_9.index t = ![0, 0] ∧ win0_10.index t = ![0, 0]
    ∧ win0_11.index t = ![0, 0] ∧ win0_12.index t = ![0, 0, 0] ∧ win0_13.index t = ![0, 0, 0] :=
  (by decide +kernel : ∀ t : Fin grid0.N, _)

section Blocks
variable (c : Dev nD) (t : Fin cfg0.N)

theorem blk0 : iblk m c 0 t = A0 m c := by
  funext i
  obtain ⟨g, n, rfl⟩ : ∃ (g : Fin 64) (n : Fin 64), i = ix2 g n := ⟨i 0, i 1, by funext a; fin_cases a <;> rfl⟩
  blk_ext [iblk, V, idx t]
theorem blk1 : iblk m c 1 t = A1 m c := by
  funext i
  obtain ⟨g, n, rfl⟩ : ∃ (g : Fin 64) (n : Fin 64), i = ix2 g n := ⟨i 0, i 1, by funext a; fin_cases a <;> rfl⟩
  blk_ext [iblk, V, idx t]
theorem blk2 : iblk m c 2 t = col (A2 m c) := by
  rw [← V_v2]
  funext i
  obtain ⟨g, n, rfl⟩ : ∃ (g : Fin 64) (n : Fin 1), i = ix2 g n := ⟨i 0, i 1, by funext a; fin_cases a <;> rfl⟩
  blk_ext [iblk, idx t]
theorem blk3 : iblk m c 3 t = swap (A3 m c) := by
  rw [← V_v0]
  funext i
  obtain ⟨g, k, n, rfl⟩ : ∃ (g : Fin 64) (k : Fin 16) (n : Fin 64), i = ix3 g k n := ⟨i 0, i 1, i 2, by funext a; fin_cases a <;> rfl⟩
  blk_ext [iblk, idx t]
theorem blk4 : iblk m c 4 t = swap (A4 m c) := by
  rw [← V_v1]
  funext i
  obtain ⟨g, k, n, rfl⟩ : ∃ (g : Fin 64) (k : Fin 16) (n : Fin 64), i = ix3 g k n := ⟨i 0, i 1, i 2, by funext a; fin_cases a <;> rfl⟩
  blk_ext [iblk, idx t]
theorem blk5 : iblk m c 5 t = A5 m c := by
  funext i
  obtain ⟨g, n, rfl⟩ : ∃ (g : Fin 64) (n : Fin 64), i = ix2 g n := ⟨i 0, i 1, by funext a; fin_cases a <;> rfl⟩
  blk_ext [iblk, V, idx t]
theorem blk6 : iblk m c 6 t = A6 m c := by
  funext i
  obtain ⟨g, n, rfl⟩ : ∃ (g : Fin 64) (n : Fin 64), i = ix2 g n := ⟨i 0, i 1, by funext a; fin_cases a <;> rfl⟩
  blk_ext [iblk, V, idx t]
theorem blk7 : iblk m c 7 t = A7 m c := by
  funext i
  obtain ⟨g, k, n, rfl⟩ : ∃ (g : Fin 64) (k : Fin 16) (n : Fin 64), i = ix3 g k n := ⟨i 0, i 1, i 2, by funext a; fin_cases a <;> rfl⟩
  blk_ext [iblk, V, idx t]
theorem blk8 : iblk m c 8 t = A8 m c := by
  funext i
  obtain ⟨g, k, n, rfl⟩ : ∃ (g : Fin 64) (k : Fin 16) (n : Fin 64), i = ix3 g k n := ⟨i 0, i 1, i 2, by funext a; fin_cases a <;> rfl⟩
  blk_ext [iblk, V, idx t]

end Blocks

/-! ## The results -/

theorem result9 (c : Dev nD) :
    (dats m 0 c).arrAt 9 cfg0.N = val_main_v149 (F := Ideal) (A0 m c) (A1 m c) (A2 m c) (A3 m c) (A4 m c) (A5 m c) (A6 m c) (A7 m c) (A8 m c) := by
  refine (dats m 0 c).arrAt_eq_of_covers 9 _ (by decide +kernel) fun t hf y => ?_
  blk_simp
  rw [after0_9, blk0, blk1, blk2, blk3, blk4, blk5, blk6, blk7, blk8, out9]
  obtain ⟨g, n, rfl⟩ : ∃ (g : Fin 64) (n : Fin 64), y = ix2 g n := ⟨y 0, y 1, by funext a; fin_cases a <;> rfl⟩
  have e : ((View.whole main_v3_0).slice (win0_9.rect t)).emb (ix2 g n) = ix2 g n := by blk_ext [idx t]
  rw [e]

theorem result10 (c : Dev nD) :
    (dats m 0 c).arrAt 10 cfg0.N = val_main_v138 (F := Ideal) (A0 m c) (A1 m c) (A2 m c) (A3 m c) (A4 m c) (A5 m c) (A6 m c) (A7 m c) (A8 m c) := by
  refine (dats m 0 c).arrAt_eq_of_covers 10 _ (by decide +kernel) fun t hf y => ?_
  blk_simp
  rw [after0_10, blk0, blk1, blk2, blk3, blk4, blk5, blk6, blk7, blk8, out10]
  obtain ⟨g, n, rfl⟩ : ∃ (g : Fin 64) (n : Fin 64), y = ix2 g n := ⟨y 0, y 1, by funext a; fin_cases a <;> rfl⟩
  have e : ((View.whole main_v3_1).slice (win0_10.rect t)).emb (ix2 g n) = ix2 g n := by blk_ext [idx t]
  rw [e]

theorem result11 (c : Dev nD) :
    (dats m 0 c).arrAt 11 cfg0.N = val_main_v150 (F := Ideal) (A0 m c) (A1 m c) (A2 m c) (A3 m c) (A4 m c) (A5 m c) (A6 m c) (A7 m c) (A8 m c) := by
  refine (dats m 0 c).arrAt_eq_of_covers 11 _ (by decide +kernel) fun t hf y => ?_
  blk_simp
  rw [after0_11, blk0, blk1, blk2, blk3, blk4, blk5, blk6, blk7, blk8, out11]
  obtain ⟨g, n, rfl⟩ : ∃ (g : Fin 64) (n : Fin 1), y = ix2 g n := ⟨y 0, y 1, by funext a; fin_cases a <;> rfl⟩
  have e : ((View.whole main_v3_2).slice (win0_11.rect t)).emb (ix2 g n) = ix2 g n := by blk_ext [idx t]
  rw [e]

theorem result12 (c : Dev nD) :
    (dats m 0 c).arrAt 12 cfg0.N = val_main_v151 (F := Ideal) (A0 m c) (A1 m c) (A2 m c) (A7 m c) (A8 m c) := by
  refine (dats m 0 c).arrAt_eq_of_covers 12 _ (by decide +kernel) fun t hf y => ?_
  blk_simp
  rw [after0_12, blk0, blk1, blk2, blk3, blk4, blk5, blk6, blk7, blk8, out12]
  obtain ⟨g, k, n, rfl⟩ : ∃ (g : Fin 64) (k : Fin 16) (n : Fin 64), y = ix3 g k n := ⟨y 0, y 1, y 2, by funext a; fin_cases a <;> rfl⟩
  have e : ((View.whole main_v3_3).slice (win0_12.rect t)).emb (ix3 g k n) = ix3 g k n := by blk_ext [idx t]
  rw [e]

theorem result13 (c : Dev nD) :
    (dats m 0 c).arrAt 13 cfg0.N = val_main_v152 (F := Ideal) (A0 m c) (A1 m c) (A2 m c) (A7 m c) (A8 m c) := by
  refine (dats m 0 c).arrAt_eq_of_covers 13 _ (by decide +kernel) fun t hf y => ?_
  blk_simp
  rw [after0_13, blk0, blk1, blk2, blk3, blk4, blk5, blk6, blk7, blk8, out13]
  obtain ⟨g, k, n, rfl⟩ : ∃ (g : Fin 64) (k : Fin 16) (n : Fin 64), y = ix3 g k n := ⟨y 0, y 1, y 2, by funext a; fin_cases a <;> rfl⟩
  have e : ((View.whole main_v3_4).slice (win0_13.rect t)).emb (ix3 g k n) = ix3 g k n := by blk_ext [idx t]
  rw [e]

/-- The run of the call, with what each result's array holds at its end named, and the arguments as they were. -/
theorem run_named (ρ : Dev nD → PrngReg) : θ_run defs (onTc (τ := τ) (main (F := Ideal))) ⟨m, fun _ => 0, ρ⟩ fun r => ∀ c : Dev nD,
      r.2.mem ((c : Thread nD τ).loc main_v3_0) = (dats m 0 c).arrAt 9 cfg0.N
      ∧ r.2.mem ((c : Thread nD τ).loc main_v3_1) = (dats m 0 c).arrAt 10 cfg0.N
      ∧ r.2.mem ((c : Thread nD τ).loc main_v3_2) = (dats m 0 c).arrAt 11 cfg0.N
      ∧ r.2.mem ((c : Thread nD τ).loc main_v3_3) = (dats m 0 c).arrAt 12 cfg0.N
      ∧ r.2.mem ((c : Thread nD τ).loc main_v3_4) = (dats m 0 c).arrAt 13 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1 9,
      (h c).1 10,
      (h c).1 11,
      (h c).1 12,
      (h c).1 13,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c)))⟩)
    (run_main m ρ)

/-- The reference never faults and leaves its arguments. -/
theorem frame_ref : Cert.quiescent_DiscBRefIdeal (hDiscBRefIdeal := Cert.DiscBRefIdeal.Gen.facts) := by
  intro m ρ _
  exact (θ_run _ _ _).mono (fun r h => ⟨fun c => (h c).2.2.2.2.2, sem_eq_zero_of_no_sems (by decide) _⟩) (Cert.DiscBRefIdeal.Value.run m ρ)

/-- From equal arguments the call and its reference end with equal results. -/
theorem algebraic : Cert.algebraic_DiscBIdeal_DiscBRefIdeal (hDiscBIdeal := Cert.DiscBIdeal.Gen.facts)
    (hDiscBRefIdeal := Cert.DiscBRefIdeal.Gen.facts) := by
  pair_intro
  · run_from run_named m g
  · run_from Cert.DiscBRefIdeal.Value.run (F := Ideal) m' g'
    · obtain ⟨h0, h1, h2, h3, h4, h5, h6, h7, h8⟩ := hagree c
      rw [result9, A0, A1, A2, A3, A4, A5, A6, A7, A8, ← h0, ← h1, ← h2, ← h3, ← h4, ← h5, ← h6, ← h7, ← h8]
      exact val_main_v149_eq (F := Ideal) m' c
    · obtain ⟨h0, h1, h2, h3, h4, h5, h6, h7, h8⟩ := hagree c
      rw [result10, A0, A1, A2, A3, A4, A5, A6, A7, A8, ← h0, ← h1, ← h2, ← h3, ← h4, ← h5, ← h6, ← h7, ← h8]
      exact val_main_v138_eq (F := Ideal) m' c
    · obtain ⟨h0, h1, h2, h3, h4, h5, h6, h7, h8⟩ := hagree c
      rw [result11, A0, A1, A2, A3, A4, A5, A6, A7, A8, ← h0, ← h1, ← h2, ← h3, ← h4, ← h5, ← h6, ← h7, ← h8]
      exact val_main_v150_eq (F := Ideal) m' c
    · rw [result12]
      exact val_main_v151_eq (F := Ideal) _ _ _ _ _
    · rw [result13]
      exact val_main_v152_eq (F := Ideal) _ _ _ _ _

end Cert.Proof.DiscB

end
-- ==== Proof.Down.lean ====
/- The feed-forward half's last product with its residual. The grid has 4 × 2 points; point `2 n + i` has rows `1024 i …` of the
   hidden units, of the residual and of the result, and columns `512 n …` of the weights. Each output block is the residual plus half
   of the product, which is the reference at those rows and columns (`product`). -/
module

public import proofs.«01_k».proof.Defs
public import proofs.«01_k».proof.Proof.Gen.DownIdeal.Value
public import proofs.«01_k».proof.Proof.Gen.DownRefIdeal.Run
public import proofs.«01_k».proof.Proof.Gen.DownRefIdeal.Read
public import Idealize.ShloMosaic.Lib.Pointwise
public import Idealize.ShloMosaic.Lib.Pipeline.ValueKit
public import Idealize.ShloMosaic.Lib.Claim

@[expose] public section

set_option maxRecDepth 16384

noncomputable section

namespace Cert.Proof.Down

open Cert.DownIdeal Cert.DownIdeal.Gen Idealize.ShloMosaic Idealize.ShloMosaic.TcCoe Idealize.SL.Sem

/-- One block, read at an index: the residual plus half of the product. -/
theorem payload (h : Vec Ideal S1024x5632 .bf16) (w : Vec Ideal S5632x512 .bf16) (x : Vec Ideal S1024x512 .f32) (r : Fin 1024)
    (l : Fin 512) :
    k0_pay1 h w x (ix2 r l)
      = x (ix2 r l) + Ideal.ofBits .f32 0x3F000000#32 * ∑ k : Fin 5632, h (ix2 r k) * w (ix2 k l) := by
  pointwise [k0_pay1]

/-- The hidden units, from the activations and the two weights. -/
abbrev hidden (u : FVec Ideal S2048x2048 .f32) (wg wu : FVec Ideal S2048x5632 .f32) : FVec Ideal S2048x5632 .f32 :=
  Cert.DownRefIdeal.Read.val_main_v3 (F := Ideal) u wg wu

/-- The reference, read at an index. -/
theorem ref_apply (u : FVec Ideal S2048x2048 .f32) (wg wu : FVec Ideal S2048x5632 .f32) (wd : FVec Ideal S5632x2048 .f32)
    (x : FVec Ideal S2048x2048 .f32) (r l : Fin 2048) :
    Cert.DownRefIdeal.Read.val_main_v7 (F := Ideal) u wg wu wd x (ix2 r l)
      = x (ix2 r l) + Ideal.ofBits .f32 0x3F000000#32 * ∑ k : Fin 5632, hidden u wg wu (ix2 r k) * wd (ix2 k l) := by
  simp only [Cert.DownRefIdeal.Read.val_main_v7, Cert.DownRefIdeal.Read.val_main_v6, Cert.DownRefIdeal.Read.val_main_v5,
    Cert.DownRefIdeal.Read.val_main_v4, Cert.DownRefIdeal.Read.val_main_cst]
  pointwise

variable (m : (ℓ : Loc nD τ sig) → Buf (Elt Ideal) ℓ)

theorem idx : ∀ t : Fin cfg0.N, win0_0.index t = ![t.val % 2, 0] ∧ win0_1.index t = ![0, t.val / 2]
    ∧ win0_2.index t = ![t.val % 2, t.val / 2] ∧ win0_3.index t = ![t.val % 2, t.val / 2] :=
  (by decide +kernel : ∀ t : Fin grid0.N, _)

theorem lt8 (t : Fin cfg0.N) : t.val < 8 := t.isLt

/-- The rows and columns that point `t` has. -/
def row (t : Fin cfg0.N) (r : Fin 1024) : Fin 2048 := ⟨t.val % 2 * 1024 + r.val, by omega⟩
def col (t : Fin cfg0.N) (l : Fin 512) : Fin 2048 := ⟨t.val / 2 * 512 + l.val, by have := lt8 t; omega⟩

abbrev U (c : Dev nD) := m (c, Proc.tc.devRef main_arg0)
abbrev Wg (c : Dev nD) := m (c, Proc.tc.devRef main_arg1)
abbrev Wu (c : Dev nD) := m (c, Proc.tc.devRef main_arg2)
abbrev Wd (c : Dev nD) := m (c, Proc.tc.devRef main_arg3)
abbrev X (c : Dev nD) := m (c, Proc.tc.devRef main_arg4)

open StableHlo in
theorem V_v4 (c : Dev nD) : V m c main_v4 = hidden (U m c) (Wg m c) (Wu m c) := by
  show StableHlo.after _ _ _ = _
  simp only [hostOps0, hostOps0_1, hostOps0_2, List.flatten_cons, List.flatten_nil, List.append_nil, List.cons_append,
    List.nil_append, TRef.binary, TRef.unary, TRef.toBuf, TRef.ofBuf, cast_eq]
  after_results_simp <;> rfl

open StableHlo in
theorem V_v5 (c : Dev nD) : V m c main_v5 = Wd m c := by
  show StableHlo.after _ _ _ = _
  simp only [hostOps0, hostOps0_1, hostOps0_2, List.flatten_cons, List.flatten_nil, List.append_nil, List.cons_append,
    List.nil_append, TRef.binary, TRef.unary, TRef.toBuf, TRef.ofBuf, cast_eq]
  after_results_simp <;> rfl

open StableHlo in
theorem V_arg4 (c : Dev nD) : V m c main_arg4 = X m c := by
  show StableHlo.after _ _ _ = _
  simp only [hostOps0, hostOps0_1, hostOps0_2, List.flatten_cons, List.flatten_nil, List.append_nil, List.cons_append,
    List.nil_append, TRef.binary, TRef.unary, TRef.toBuf, TRef.ofBuf, cast_eq]
  after_results_simp <;> rfl

theorem blk0 (c : Dev nD) (t : Fin cfg0.N) (r : Fin 1024) (k : Fin 5632) :
    iblk m c 0 t (ix2 r k) = hidden (U m c) (Wg m c) (Wu m c) (ix2 (row t r) k) := by
  have e : iblk m c 0 t (ix2 r k) = V m c main_v4 (ix2 (row t r) k) := by blk_ext [iblk, idx t, row]
  rw [e, V_v4]

theorem blk1 (c : Dev nD) (t : Fin cfg0.N) (k : Fin 5632) (l : Fin 512) : iblk m c 1 t (ix2 k l) = Wd m c (ix2 k (col t l)) := by
  have e : iblk m c 1 t (ix2 k l) = V m c main_v5 (ix2 k (col t l)) := by blk_ext [iblk, idx t, col]
  rw [e, V_v5]

theorem blk2 (c : Dev nD) (t : Fin cfg0.N) (r : Fin 1024) (l : Fin 512) :
    iblk m c 2 t (ix2 r l) = X m c (ix2 (row t r) (col t l)) := by
  have e : iblk m c 2 t (ix2 r l) = V m c main_arg4 (ix2 (row t r) (col t l)) := by blk_ext [iblk, idx t, row, col]
  rw [e, V_arg4]

/-- A block whose operands are these rows and columns is the reference there. -/
theorem block_eq (u : FVec Ideal S2048x2048 .f32) (wg wu : FVec Ideal S2048x5632 .f32) (wd : FVec Ideal S5632x2048 .f32)
    (x : FVec Ideal S2048x2048 .f32) (hb : Vec Ideal S1024x5632 .bf16) (wb : Vec Ideal S5632x512 .bf16)
    (xb : Vec Ideal S1024x512 .f32) (r : Fin 1024) (l : Fin 512) (R L : Fin 2048)
    (hh : ∀ k : Fin 5632, hb (ix2 r k) = hidden u wg wu (ix2 R k)) (hw : ∀ k : Fin 5632, wb (ix2 k l) = wd (ix2 k L))
    (hx : xb (ix2 r l) = x (ix2 R L)) :
    k0_pay1 hb wb xb (ix2 r l) = Cert.DownRefIdeal.Read.val_main_v7 (F := Ideal) u wg wu wd x (ix2 R L) := by
  rw [payload, ref_apply, hx, Finset.sum_congr rfl fun k _ => by rw [hh, hw]]

theorem product (c : Dev nD) : (dats m 0 c).arrAt 3 cfg0.N
    = Cert.DownRefIdeal.Read.val_main_v7 (F := Ideal) (U m c) (Wg m c) (Wu m c) (Wd m c) (X m c) := by
  refine (dats m 0 c).arrAt_eq_of_covers 3 _ (by decide +kernel) fun t hf y => ?_
  blk_simp
  rw [after0_3]
  frame_out
  obtain ⟨r, l, rfl⟩ : ∃ (r : Fin 1024) (l : Fin 512), y = ix2 r l := ⟨y 0, y 1, by funext i; fin_cases i <;> rfl⟩
  have e : ((View.whole main_v6).slice (win0_3.rect t)).emb (ix2 r l) = ix2 (row t r) (col t l) := by blk_ext [idx t, row, col]
  rw [e]
  exact block_eq (U m c) (Wg m c) (Wu m c) (Wd m c) (X m c) _ _ _ r l (row t r) (col t l) (fun k => blk0 m c t r k)
    (fun k => blk1 m c t k l) (blk2 m c t r l)

/-- The reference never faults and leaves its arguments. -/
theorem frame_ref : Cert.quiescent_DownRefIdeal (hDownRefIdeal := Cert.DownRefIdeal.Gen.facts) := by
  intro m ρ _
  exact (θ_run _ _ _).mono (fun r h => ⟨fun c => (h c).2, sem_eq_zero_of_no_sems (by decide) _⟩) (Cert.DownRefIdeal.Value.run m ρ)

/-- From equal arguments the call and its reference end with equal results. -/
theorem algebraic : Cert.algebraic_DownIdeal_DownRefIdeal (hDownIdeal := Cert.DownIdeal.Gen.facts) (hDownRefIdeal := Cert.DownRefIdeal.Gen.facts) := by
  pair_intro
  · run_from Cert.DownIdeal.Value.run_blocks (F := Ideal) m g
  · run_from Cert.DownRefIdeal.Value.run (F := Ideal) m' g'
    obtain ⟨h0, h1, h2, h3, h4⟩ := hagree c
    rw [product, U, Wg, Wu, Wd, X, ← h0, ← h1, ← h2, ← h3, ← h4]
    exact Cert.DownRefIdeal.Read.val_main_v7_eq (F := Ideal) _ _ _ _ _

end Cert.Proof.Down

end
-- ==== Proof.Du.lean ====
/- The gradient of a feed-forward half with respect to its activations. The grid has 4 × 2 × 2 points; point `4 i + 2 n + j` adds, into
   a block of rows `512 i …` and columns `1024 n …` that the two points of one `i` and `n` share, the two products of the hidden
   gradients' columns `2816 j …` with those rows of the two transposed weights. After the second point both sums run over all 5632
   hidden units, and their sum is the reference's gradient (`gradient`). -/
module

public import proofs.«01_k».proof.Defs
public import proofs.«01_k».proof.Proof.Gen.DuIdeal.Value
public import proofs.«01_k».proof.Proof.Gen.DuRefIdeal.Run
public import proofs.«01_k».proof.Proof.Gen.DuRefIdeal.Read
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.Proof.Du

open Cert.DuIdeal Cert.DuIdeal.Gen Idealize.ShloMosaic Idealize.ShloMosaic.TcCoe Idealize.SL.Sem

/-- The two products of one point, at row `r` and column `l`. -/
def part (g : Vec Ideal S512x2816 .bf16) (wg : Vec Ideal S2816x1024 .bf16) (p : Vec Ideal S512x2816 .bf16)
    (wu : Vec Ideal S2816x1024 .bf16) (r : Fin 512) (l : Fin 1024) : EReal :=
  ∑ k : Fin 2816, g (ix2 r k) * wg (ix2 k l) + ∑ k : Fin 2816, p (ix2 r k) * wu (ix2 k l)

theorem first (g : Vec Ideal S512x2816 .bf16) (wg : Vec Ideal S2816x1024 .bf16) (p : Vec Ideal S512x2816 .bf16)
    (wu : Vec Ideal S2816x1024 .bf16) (y : S512x1024.Idx) : k0_pay2 g wg p wu y = 0 + part g wg p wu (y 0) (y 1) := by
  simp only [part, zero_add]
  pointwise [k0_pay2, k0_pay1]

theorem later (g : Vec Ideal S512x2816 .bf16) (wg : Vec Ideal S2816x1024 .bf16) (p : Vec Ideal S512x2816 .bf16)
    (wu : Vec Ideal S2816x1024 .bf16) (acc : Vec Ideal S512x1024 .f32) (y : S512x1024.Idx) :
    k0_pay3 g wg p wu acc y = acc y + part g wg p wu (y 0) (y 1) := by
  simp only [part]
  pointwise [k0_pay3, k0_pay1]

/-- The gradient of the gate's product and of the up product, as the reference has them. -/
abbrev dgate (u : FVec Ideal S2048x2048 .f32) (wg wu : FVec Ideal S2048x5632 .f32) (wd : FVec Ideal S5632x2048 .f32)
    (dh : FVec Ideal S2048x2048 .f32) : FVec Ideal S2048x5632 .f32 :=
  Cert.DuRefIdeal.Read.val_main_v13 (F := Ideal) u wg wu wd dh
abbrev dup (u : FVec Ideal S2048x2048 .f32) (wg : FVec Ideal S2048x5632 .f32) (wd : FVec Ideal S5632x2048 .f32)
    (dh : FVec Ideal S2048x2048 .f32) : FVec Ideal S2048x5632 .f32 :=
  Cert.DuRefIdeal.Read.val_main_v10 (F := Ideal) u wg wd dh

/-- The reference's gradient, read at an index. -/
theorem ref_apply (u : FVec Ideal S2048x2048 .f32) (wg wu : FVec Ideal S2048x5632 .f32) (wd : FVec Ideal S5632x2048 .f32)
    (dh : FVec Ideal S2048x2048 .f32) (r l : Fin 2048) :
    Cert.DuRefIdeal.Read.val_main_v15 (F := Ideal) u wg wu wd dh (ix2 r l)
      = ∑ k : Fin 5632, dup u wg wd dh (ix2 r k) * wu (ix2 l k) + ∑ k : Fin 5632, dgate u wg wu wd dh (ix2 r k) * wg (ix2 l k) := by
  simp only [Cert.DuRefIdeal.Read.val_main_v15, Cert.DuRefIdeal.Read.val_main_v14, Cert.DuRefIdeal.Read.val_main_v12]
  pointwise

variable (m : (ℓ : Loc nD τ sig) → Buf (Elt Ideal) ℓ)

theorem idx : ∀ t : Fin cfg0.N, win0_0.index t = ![t.val / 4, t.val % 2] ∧ win0_1.index t = ![t.val % 2, t.val / 2 % 2]
    ∧ win0_2.index t = ![t.val / 4, t.val % 2] ∧ win0_3.index t = ![t.val % 2, t.val / 2 % 2]
    ∧ win0_4.index t = ![t.val / 4, t.val / 2 % 2] :=
  (by decide +kernel : ∀ t : Fin grid0.N, _)

theorem lt16 (t : Fin cfg0.N) : t.val < 16 := t.isLt

/-- The rows, the columns and the hidden units that point `t` has. -/
def row (t : Fin cfg0.N) (r : Fin 512) : Fin 2048 := ⟨t.val / 4 * 512 + r.val, by have := lt16 t; omega⟩
def col (t : Fin cfg0.N) (l : Fin 1024) : Fin 2048 := ⟨t.val / 2 % 2 * 1024 + l.val, by omega⟩
def unit (t : Fin cfg0.N) (k : Fin 2816) : Fin 5632 := ⟨t.val % 2 * 2816 + k.val, by omega⟩

abbrev U (c : Dev nD) := m (c, Proc.tc.devRef main_arg0)
abbrev Wg (c : Dev nD) := m (c, Proc.tc.devRef main_arg1)
abbrev Wu (c : Dev nD) := m (c, Proc.tc.devRef main_arg2)
abbrev Wd (c : Dev nD) := m (c, Proc.tc.devRef main_arg3)
abbrev Dh (c : Dev nD) := m (c, Proc.tc.devRef main_arg4)

/-- A weight with its two axes exchanged. -/
def swapped (w : FVec Ideal S2048x5632 .f32) : FVec Ideal S5632x2048 .bf16 :=
  truncf .bf16 (transpose S5632x2048 [1, 0] w transposes_S2048x5632_S5632x2048_1_0) bitsLt_bf16_f32

theorem swapped_apply (w : FVec Ideal S2048x5632 .f32) (k : Fin 5632) (l : Fin 2048) : swapped w (ix2 k l) = w (ix2 l k) := by
  simp only [swapped]
  pointwise

open StableHlo in
theorem V_v13 (c : Dev nD) : V m c main_v13 = dgate (U m c) (Wg m c) (Wu m c) (Wd m c) (Dh m c) := by
  show StableHlo.after _ _ _ = _
  simp only [hostOps0, hostOps0_1, hostOps0_2, hostOps0_3, hostOps0_4, List.flatten_cons, List.flatten_nil, List.append_nil, List.cons_append,
    List.nil_append, TRef.binary, TRef.unary, TRef.toBuf, TRef.ofBuf, cast_eq]
  after_results_simp <;> rfl

open StableHlo in
theorem V_v14 (c : Dev nD) : V m c main_v14 = dup (U m c) (Wg m c) (Wd m c) (Dh m c) := by
  show StableHlo.after _ _ _ = _
  simp only [hostOps0, hostOps0_1, hostOps0_2, hostOps0_3, hostOps0_4, List.flatten_cons, List.flatten_nil, List.append_nil, List.cons_append,
    List.nil_append, TRef.binary, TRef.unary, TRef.toBuf, TRef.ofBuf, cast_eq]
  after_results_simp <;> rfl

open StableHlo in
theorem V_v16 (c : Dev nD) : V m c main_v16 = swapped (Wg m c) := by
  show StableHlo.after _ _ _ = _
  simp only [hostOps0, hostOps0_1, hostOps0_2, hostOps0_3, hostOps0_4, List.flatten_cons, List.flatten_nil, List.append_nil, List.cons_append,
    List.nil_append, TRef.binary, TRef.unary, TRef.toBuf, TRef.ofBuf, cast_eq]
  after_results_simp <;> rfl

open StableHlo in
theorem V_v18 (c : Dev nD) : V m c main_v18 = swapped (Wu m c) := by
  show StableHlo.after _ _ _ = _
  simp only [hostOps0, hostOps0_1, hostOps0_2, hostOps0_3, hostOps0_4, List.flatten_cons, List.flatten_nil, List.append_nil, List.cons_append,
    List.nil_append, TRef.binary, TRef.unary, TRef.toBuf, TRef.ofBuf, cast_eq]
  after_results_simp <;> rfl

theorem blk0 (c : Dev nD) (t : Fin cfg0.N) (r : Fin 512) (k : Fin 2816) :
    iblk m c 0 t (ix2 r k) = dgate (U m c) (Wg m c) (Wu m c) (Wd m c) (Dh m c) (ix2 (row t r) (unit t k)) := by
  have e : iblk m c 0 t (ix2 r k) = V m c main_v13 (ix2 (row t r) (unit t k)) := by blk_ext [iblk, idx t, row, unit]
  rw [e, V_v13]

theorem blk1 (c : Dev nD) (t : Fin cfg0.N) (k : Fin 2816) (l : Fin 1024) :
    iblk m c 1 t (ix2 k l) = Wg m c (ix2 (col t l) (unit t k)) := by
  have e : iblk m c 1 t (ix2 k l) = V m c main_v16 (ix2 (unit t k) (col t l)) := by blk_ext [iblk, idx t, col, unit]
  rw [e, V_v16, swapped_apply]

theorem blk2 (c : Dev nD) (t : Fin cfg0.N) (r : Fin 512) (k : Fin 2816) :
    iblk m c 2 t (ix2 r k) = dup (U m c) (Wg m c) (Wd m c) (Dh m c) (ix2 (row t r) (unit t k)) := by
  have e : iblk m c 2 t (ix2 r k) = V m c main_v14 (ix2 (row t r) (unit t k)) := by blk_ext [iblk, idx t, row, unit]
  rw [e, V_v14]

theorem blk3 (c : Dev nD) (t : Fin cfg0.N) (k : Fin 2816) (l : Fin 1024) :
    iblk m c 3 t (ix2 k l) = Wu m c (ix2 (col t l) (unit t k)) := by
  have e : iblk m c 3 t (ix2 k l) = V m c main_v18 (ix2 (unit t k) (col t l)) := by blk_ext [iblk, idx t, col, unit]
  rw [e, V_v18, swapped_apply]

/-- What the accumulator holds after the second of the two points: the sum of their products. -/
theorem acc_eq (c : Dev nD) (t : Fin cfg0.N) (h : t.val % 2 = 2 - 1) (y : S512x1024.Idx) :
    (outsAt0 m c t.val t.isLt).2 y = (fun _ => (0 : EReal)) y
      + ∑ s : Fin 2, part (iblk m c 0 ⟨2 * (t.val / 2) + s.val, Pipeline.run_point_lt_of_flush t h s⟩)
          (iblk m c 1 ⟨2 * (t.val / 2) + s.val, Pipeline.run_point_lt_of_flush t h s⟩)
          (iblk m c 2 ⟨2 * (t.val / 2) + s.val, Pipeline.run_point_lt_of_flush t h s⟩)
          (iblk m c 3 ⟨2 * (t.val / 2) + s.val, Pipeline.run_point_lt_of_flush t h s⟩) (y 0) (y 1) := by
  rw [Pipeline.eq_sum_fin_of_reset_step_apply_of_flush (fun n h => (outsAt0 m c n h).2) 2 (fun _ => (0 : EReal))
    (fun t y => part (iblk m c 0 t) (iblk m c 1 t) (iblk m c 2 t) (iblk m c 3 t) (y 0) (y 1)) ?_ ?_ t h y]
  · intro t h y
    rw [outsAt0_A m c t h (by omega) (by omega)]
    frame_out
    exact first _ _ _ _ y
  · intro t h y
    rw [outsAt0_B m c t h (by omega) (by omega)]
    frame_out
    simp only [read_unread_whole]
    exact later _ _ _ _ _ y

/-- The second of the two points writes the accumulator back. -/
theorem out_eq (c : Dev nD) (t : Fin cfg0.N) (h : t.val % 2 = 1) : (outsAt0 m c t.val t.isLt).1 = (outsAt0 m c t.val t.isLt).2 := by
  rw [outsAt0_B m c t (by omega) (by omega) h]
  frame_out

/-- The two points' products of these rows and columns sum to the reference's gradient. -/
theorem block_eq (u : FVec Ideal S2048x2048 .f32) (wg wu : FVec Ideal S2048x5632 .f32) (wd : FVec Ideal S5632x2048 .f32)
    (dh : FVec Ideal S2048x2048 .f32) (g p : Fin 2 → Vec Ideal S512x2816 .bf16) (a b : Fin 2 → Vec Ideal S2816x1024 .bf16)
    (r : Fin 512) (l : Fin 1024) (R L : Fin 2048) (K : Fin 2 → Fin 2816 → Fin 5632) (hK : ∀ s k, (K s k).val = s.val * 2816 + k.val)
    (hg : ∀ (s : Fin 2) (k : Fin 2816), g s (ix2 r k) = dgate u wg wu wd dh (ix2 R (K s k)))
    (ha : ∀ (s : Fin 2) (k : Fin 2816), a s (ix2 k l) = wg (ix2 L (K s k)))
    (hp : ∀ (s : Fin 2) (k : Fin 2816), p s (ix2 r k) = dup u wg wd dh (ix2 R (K s k)))
    (hb : ∀ (s : Fin 2) (k : Fin 2816), b s (ix2 k l) = wu (ix2 L (K s k))) :
    (0 : EReal) + ∑ s : Fin 2, part (g s) (a s) (p s) (b s) r l
      = Cert.DuRefIdeal.Read.val_main_v15 (F := Ideal) u wg wu wd dh (ix2 R L) := by
  simp only [part]
  rw [ref_apply, zero_add, Finset.sum_add_distrib, add_comm]
  refine congrArg₂ _ (Fin.sum_mul_add_congr fun s k hl => ?_) (Fin.sum_mul_add_congr fun s k hl => ?_)
  · rw [hp, hb, show K s k = ⟨s.val * 2816 + k.val, hl⟩ from Fin.ext (hK s k)]
  · rw [hg, ha, show K s k = ⟨s.val * 2816 + k.val, hl⟩ from Fin.ext (hK s k)]

theorem gradient (c : Dev nD) : (dats m 0 c).arrAt 4 cfg0.N
    = Cert.DuRefIdeal.Read.val_main_v15 (F := Ideal) (U m c) (Wg m c) (Wu m c) (Wd m c) (Dh m c) := by
  refine (dats m 0 c).arrAt_eq_of_covers 4 _ (by decide +kernel) fun t hf y => ?_
  have h1 : t.val % 2 = 1 := (flush0_4 t).mp hf
  blk_simp
  rw [after0_4, out_eq m c t h1]
  obtain ⟨r, l, rfl⟩ : ∃ (r : Fin 512) (l : Fin 1024), y = ix2 r l := ⟨y 0, y 1, by funext i; fin_cases i <;> rfl⟩
  have e : ((View.whole main_v19).slice (win0_4.rect t)).emb (ix2 r l) = ix2 (row t r) (col t l) := by blk_ext [idx t, row, col]
  rw [e, acc_eq m c t h1]
  have hr (s : Fin 2) : row ⟨2 * (t.val / 2) + s.val, Pipeline.run_point_lt_of_flush t h1 s⟩ r = row t r :=
    Fin.ext (by simp only [row]; omega)
  have hc (s : Fin 2) : col ⟨2 * (t.val / 2) + s.val, Pipeline.run_point_lt_of_flush t h1 s⟩ l = col t l :=
    Fin.ext (by simp only [col]; omega)
  refine block_eq (U m c) (Wg m c) (Wu m c) (Wd m c) (Dh m c) _ _ _ _ r l (row t r) (col t l)
    (fun s k => unit ⟨2 * (t.val / 2) + s.val, Pipeline.run_point_lt_of_flush t h1 s⟩ k)
    (fun s k => by simp only [unit]; omega) (fun s k => ?_) (fun s k => ?_) (fun s k => ?_) (fun s k => ?_)
  · rw [blk0, hr]
  · rw [blk1, hc]
  · rw [blk2, hr]
  · rw [blk3, hc]

/-- The reference never faults and leaves its arguments. -/
theorem frame_ref : Cert.quiescent_DuRefIdeal (hDuRefIdeal := Cert.DuRefIdeal.Gen.facts) := by
  intro m ρ _
  exact (θ_run _ _ _).mono (fun r h => ⟨fun c => (h c).2, sem_eq_zero_of_no_sems (by decide) _⟩) (Cert.DuRefIdeal.Value.run m ρ)

/-- From equal arguments the call and its reference end with equal results. -/
theorem algebraic : Cert.algebraic_DuIdeal_DuRefIdeal (hDuIdeal := Cert.DuIdeal.Gen.facts) (hDuRefIdeal := Cert.DuRefIdeal.Gen.facts) := by
  pair_intro
  · run_from Cert.DuIdeal.Value.run_blocks (F := Ideal) m g
  · run_from Cert.DuRefIdeal.Value.run (F := Ideal) m' g'
    obtain ⟨h0, h1, h2, h3, h4⟩ := hagree c
    rw [gradient, U, Wg, Wu, Wd, Dh, ← h0, ← h1, ← h2, ← h3, ← h4]
    exact Cert.DuRefIdeal.Read.val_main_v15_eq (F := Ideal) _ _ _ _ _

end Cert.Proof.Du

end
-- ==== Proof.DwPure.lean ====
/- What the weight gradients of the feed-forward halves share: which words `on_a_device` admits, and which half of a chip's
   1408 columns each core keeps. Core 0 keeps the first 704 and sends the others away; core 1 keeps the last 704. -/
module

public import proofs.«01_k».proof.Proof.Gen.Pre_on_a_device
public import Idealize.ShloMosaic.Lib.Pointwise
public import Idealize.ShloMosaic.Lib.Pipeline.ValueKit

@[expose] public section

noncomputable section

namespace Cert.Proof.FfnDw

open Cert.Pre_on_a_device Idealize.ShloMosaic Idealize.ShloMosaic.TcCoe

/-- The two words of device `ch`: its chip and its core. -/
def words (ch : Fin 8) : S2.Idx → BitVec 32 := fun x =>
  if (x 0).val < 1 then IntOp.divsi .host (BitVec.ofNat 32 ch.val) 2#32
  else IntOp.subi (BitVec.ofNat 32 ch.val) (IntOp.muli 2#32 (IntOp.divsi .host (BitVec.ofNat 32 ch.val) 2#32))

theorem words_of : ∀ (a : Fin 4) (b : Fin 2),
    IntOp.divsi .host (BitVec.ofNat 32 (2 * a.val + b.val)) 2#32 = BitVec.ofNat 32 a.val
    ∧ IntOp.subi (BitVec.ofNat 32 (2 * a.val + b.val)) (IntOp.muli 2#32 (IntOp.divsi .host (BitVec.ofNat 32 (2 * a.val + b.val)) 2#32))
        = BitVec.ofNat 32 b.val := by decide +kernel

/-- Of a conjunction of two bits, both are one. -/
theorem ofBool_and (p q : Bool) (h : IntOp.andi (BitVec.ofBool p) (BitVec.ofBool q) = 1#1) : p = true ∧ q = true := by
  revert p q; decide

/-- A word between 0 and a small number is that number's word. -/
theorem word_lt (w : BitVec 32) (n : Nat) (hn : n < 8) (h0 : (0#32).sle w = true) (h1 : w.slt (BitVec.ofNat 32 n) = true) : w.toNat < n := by
  simp only [BitVec.sle, BitVec.slt, decide_eq_true_eq, BitVec.toInt, BitVec.toNat_ofNat] at h0 h1
  omega

/-- What `on_a_device` says of the first and of the second word. -/
theorem bounds {F : FTy → Type} [FloatOps F] (T : IVec S2 32) (z : FVec F S2048x5632 .bf16) (b : FVec F S2048x2048 .bf16)
    (h : fn T z b = fun _ => 1#1) : (T (ix1 0)).toNat < 4 ∧ (T (ix1 1)).toNat < 2 := by
  refine ⟨?_, ?_⟩
  · obtain ⟨h0, h1⟩ := ofBool_and _ _ (congrFun h (ix1 0))
    exact word_lt _ 4 (by omega) h0 h1
  · obtain ⟨h0, h1⟩ := ofBool_and _ _ (congrFun h (ix1 1))
    exact word_lt _ 2 (by omega) h0 h1

/-- `on_a_device` admits the words of the eight devices only. -/
theorem words_of_pre {F : FTy → Type} [FloatOps F] (T : IVec S2 32) (z : FVec F S2048x5632 .bf16) (b : FVec F S2048x2048 .bf16)
    (h : fn T z b = fun _ => 1#1) : ∃ ch, T = words ch := by
  obtain ⟨h0, h1⟩ := bounds T z b h
  refine ⟨⟨2 * (T (ix1 0)).toNat + (T (ix1 1)).toNat, by omega⟩, ?_⟩
  obtain ⟨e0, e1⟩ := words_of ⟨(T (ix1 0)).toNat, h0⟩ ⟨(T (ix1 1)).toNat, h1⟩
  funext x
  obtain ⟨i, rfl⟩ : ∃ i : Fin 2, x = ix1 i := ⟨x 0, by funext a; fin_cases a; rfl⟩
  match i with
  | 0 => exact ((BitVec.ofNat_toNat (32 : Nat) (T (ix1 0))).trans (BitVec.setWidth_eq _)).symm.trans e0.symm
  | 1 => exact ((BitVec.ofNat_toNat (32 : Nat) (T (ix1 1))).trans (BitVec.setWidth_eq _)).symm.trans e1.symm

/-- The core a device is. -/
def core (ch : Fin 8) : Fin 2 := ⟨ch.val % 2, by omega⟩

theorem words_core : ∀ ch : Fin 8, words ch (ix1 1) = BitVec.ofNat 32 (core ch).val := by decide +kernel

/-- Row `r` of half `h` of a chip's 1408 columns, there and among all 5632. -/
def within (h : Fin 2) (r : Fin 704) : Fin 1408 := ⟨h.val * 704 + r.val, by omega⟩
def column (n : Fin 4) (h : Fin 2) (r : Fin 704) : Fin 5632 := ⟨n.val * 1408 + h.val * 704 + r.val, by omega⟩

/-- The other core. -/
def other (h : Fin 2) : Fin 2 := 1 - h

/-- The product of the transpose of one block with another, and of one whole array with another, at row `r` of half `h`. -/
def part (z : Vec Ideal ⟨2, ![2048, 1408]⟩ .bf16) (b : Vec Ideal ⟨2, ![2048, 1024]⟩ .bf16) (h : Fin 2) (r : Fin 704) (l : Fin 1024) : EReal :=
  ∑ k : Fin 2048, z (ix2 k (within h r)) * b (ix2 k l)

def whole (z : FVec Ideal S2048x5632 .bf16) (b : FVec Ideal S2048x2048 .bf16) (n : Fin 4) (h : Fin 2) (r : Fin 704) (l : Fin 2048) : EReal :=
  ∑ k : Fin 2048, z (ix2 k (column n h r)) * b (ix2 k l)

/-- The block's product is the whole arrays' where the block's entries are theirs. -/
theorem part_eq (z : FVec Ideal S2048x5632 .bf16) (b : FVec Ideal S2048x2048 .bf16) (zb : Vec Ideal ⟨2, ![2048, 1408]⟩ .bf16)
    (bb : Vec Ideal ⟨2, ![2048, 1024]⟩ .bf16) (n : Fin 4) (h : Fin 2) (r : Fin 704) (l : Fin 1024) (L : Fin 2048)
    (hz : ∀ k : Fin 2048, zb (ix2 k (within h r)) = z (ix2 k (column n h r))) (hb : ∀ k : Fin 2048, bb (ix2 k l) = b (ix2 k L)) :
    part zb bb h r l = whole z b n h r L :=
  Finset.sum_congr rfl fun k _ => congrArg₂ (· * ·) (hz k) (hb k)

/-- Offsets of zero, however many. -/
theorem zeros2 : (![0, 0] : Fin 2 → Nat) = fun _ => 0 := funext fun a => by fin_cases a <;> rfl
theorem zeros3 : (![0, 0, 0] : Fin 3 → Nat) = fun _ => 0 := funext fun a => by fin_cases a <;> rfl

end Cert.Proof.FfnDw

end
-- ==== Proof.Dw.lean ====
/- The gradient of a feed-forward half's gate (or up) weight. The grid has 4 × 2 points; point `2 n + i` has the 1408 columns of
   the cotangent that chip `n` owns and columns `1024 i …` of the activations. It computes their product, 1408 × 1024, and the
   core's own word decides which half of its rows goes to the array that stays and which to the array that is sent. -/
module

public import proofs.«01_k».proof.Defs
public import proofs.«01_k».proof.Proof.DwPure
public import proofs.«01_k».proof.Proof.Gen.Dw.Flash
public import proofs.«01_k».proof.Proof.Gen.DwIdeal.Flash
public import proofs.«01_k».proof.Proof.Gen.DwRefIdeal.Run
public import proofs.«01_k».proof.Proof.Gen.DwRefIdeal.Read
public import Idealize.ShloMosaic.Lib.Pointwise
public import Idealize.ShloMosaic.Lib.Pipeline.ValueKit
public import Idealize.ShloMosaic.Lib.Claim

@[expose] public section

set_option maxRecDepth 16384

noncomputable section

namespace Cert.Proof.Dw

open Idealize.ShloMosaic Idealize.ShloMosaic.TcCoe Idealize.SL.Sem Cert.Proof.FfnDw

/-- The call as it is written never faults and leaves its arguments. -/
theorem frame : Cert.quiescent_Dw (hDw := Cert.Dw.Gen.facts) (hPre_on_a_device := Cert.Pre_on_a_device.Gen.facts) := by
  intro m ρ h
  obtain ⟨ch, hch⟩ := words_of_pre _ _ _ (h 0)
  exact Cert.Dw.Gen.frame ch m ρ fun c => by rw [Subsingleton.elim c 0]; exact hch

open Cert.DwIdeal Cert.DwIdeal.Gen

theorem pinned_of_pre (m : (ℓ : Loc nD τ sig) → Buf (Elt Ideal) ℓ)
    (h : Cert.Pre_DwIdeal (hPre_on_a_device := Cert.Pre_on_a_device.Gen.facts) m) : ∃ ch, Pinned ch m := by
  obtain ⟨ch, hch⟩ := words_of_pre _ _ _ (h 0)
  exact ⟨ch, fun c => by rw [Subsingleton.elim c 0]; exact hch⟩

/-- So does its idealisation. -/
theorem frame_ideal : Cert.quiescent_DwIdeal (hDwIdeal := Cert.DwIdeal.Gen.facts) (hPre_on_a_device := Cert.Pre_on_a_device.Gen.facts) :=
  fun m ρ h => (pinned_of_pre m h).elim fun ch hp => Cert.DwIdeal.Gen.frame ch m ρ hp

/-- One block's product, read at an index: of the first half of its rows, of the last, and again rounded. -/
theorem low (z : Vec Ideal S2048x1408 .bf16) (b : Vec Ideal S2048x1024 .bf16) (r : Fin 704) (l : Fin 1024) :
    k0_pay2 z b (ix3 0 r l) = part z b 0 r l := by
  pointwise [k0_pay2, k0_pay1, part, within]

theorem high (z : Vec Ideal S2048x1408 .bf16) (b : Vec Ideal S2048x1024 .bf16) (r : Fin 704) (l : Fin 1024) :
    k0_pay4 z b (ix3 0 r l) = part z b 1 r l := by
  pointwise [k0_pay4, k0_pay1, part, within]

theorem high_sent (z : Vec Ideal S2048x1408 .bf16) (b : Vec Ideal S2048x1024 .bf16) (r : Fin 704) (l : Fin 1024) :
    k0_pay3 z b (ix3 0 r l) = part z b 1 r l := by
  pointwise [k0_pay3, k0_pay1, part, within]

theorem low_sent (z : Vec Ideal S2048x1408 .bf16) (b : Vec Ideal S2048x1024 .bf16) (r : Fin 704) (l : Fin 1024) :
    k0_pay5 z b (ix3 0 r l) = part z b 0 r l := by
  pointwise [k0_pay5, k0_pay1, part, within]

/-- The reference's two halves of every chip's rows, read at an index. -/
theorem ref_half0 (z : FVec Ideal S2048x5632 .bf16) (b : FVec Ideal S2048x2048 .bf16) (n : Fin 4) (r : Fin 704) (l : Fin 2048) :
    Cert.DwRefIdeal.Read.val_main_v12 (F := Ideal) z b (ix3 n r l) = whole z b n 0 r l := by
  simp only [Cert.DwRefIdeal.Read.val_main_v12, Cert.DwRefIdeal.Read.val_main_v11, Cert.DwRefIdeal.Read.val_main_v7,
    Cert.DwRefIdeal.Read.val_main_v6, Cert.DwRefIdeal.Read.val_main_v5, Cert.DwRefIdeal.Read.val_main_v4,
    Cert.DwRefIdeal.Read.val_main_v1, Cert.DwRefIdeal.Read.val_main_v0]
  pointwise [whole, column]

theorem ref_half1 (z : FVec Ideal S2048x5632 .bf16) (b : FVec Ideal S2048x2048 .bf16) (n : Fin 4) (r : Fin 704) (l : Fin 2048) :
    Cert.DwRefIdeal.Read.val_main_v14 (F := Ideal) z b (ix3 n r l) = whole z b n 1 r l := by
  simp only [Cert.DwRefIdeal.Read.val_main_v14, Cert.DwRefIdeal.Read.val_main_v13, Cert.DwRefIdeal.Read.val_main_v7,
    Cert.DwRefIdeal.Read.val_main_v6, Cert.DwRefIdeal.Read.val_main_v5, Cert.DwRefIdeal.Read.val_main_v4,
    Cert.DwRefIdeal.Read.val_main_v1, Cert.DwRefIdeal.Read.val_main_v0]
  pointwise [whole, column]

/-- The reference asks whether the second word is zero. -/
theorem asks (T : IVec S2 32) : Cert.DwRefIdeal.Read.val_main_v10 (F := Ideal) T ix0 = BitVec.ofBool (T (ix1 1) == 0#32) := by
  simp only [Cert.DwRefIdeal.Read.val_main_v10, Cert.DwRefIdeal.Read.val_main_v9, Cert.DwRefIdeal.Read.val_main_v8, Cert.DwRefIdeal.Read.val_main_c]
  pointwise
  rfl

/-- What core `h` keeps of the reference's gradient, and what it sends. -/
theorem ref_kept (T : IVec S2 32) (z : FVec Ideal S2048x5632 .bf16) (b : FVec Ideal S2048x2048 .bf16) (h : Fin 2)
    (hT : T (ix1 1) = BitVec.ofNat 32 h.val) (n : Fin 4) (r : Fin 704) (l : Fin 2048) :
    Cert.DwRefIdeal.Read.val_main_v15 (F := Ideal) T z b (ix3 n r l) = whole z b n h r l := by
  simp only [Cert.DwRefIdeal.Read.val_main_v15]
  pointwise
  rw [asks, hT]
  match h with
  | 0 => exact ref_half0 z b n r l
  | 1 => exact ref_half1 z b n r l

theorem ref_sent (T : IVec S2 32) (z : FVec Ideal S2048x5632 .bf16) (b : FVec Ideal S2048x2048 .bf16) (h : Fin 2)
    (hT : T (ix1 1) = BitVec.ofNat 32 h.val) (n : Fin 4) (r : Fin 704) (l : Fin 2048) :
    Cert.DwRefIdeal.Read.val_main_v21 (F := Ideal) T z b (ix3 n r l)
      = whole z b n (other h) r l := by
  simp only [Cert.DwRefIdeal.Read.val_main_v21, Cert.DwRefIdeal.Read.val_main_v20]
  pointwise
  rw [asks, hT]
  match h with
  | 0 => exact ref_half1 z b n r l
  | 1 => exact ref_half0 z b n r l

/-! What a point leaves in its two blocks, for a core that is the first and for one that is the second. -/

section

variable (c : Dev nD) (i : grid0.Coords) (a3 : Memref sig .tc .vmem S2048x1408 .bf16) (h3 : a3.IsWhole)
  (a4 : Memref sig .tc .vmem S2048x1024 .bf16) (h4 : a4.IsWhole) (a5 : Memref sig .tc .vmem S1x704x1024 .f32) (h5 : a5.IsWhole)
  (a6 : Memref sig .tc .vmem S1x704x1024 .bf16) (h6 : a6.IsWhole) (T : S2.Idx → Elt Ideal .i32)
  (z : Vec Ideal S2048x1408 .bf16) (b : Vec Ideal S2048x1024 .bf16)

theorem loaded_z : View.readAt (Elt Ideal) a3.view (Rect.unit (s := S2048x1408) ![0, 0] S2048x1408.size inb_S2048x1408_S2048x1408_0_0).toLoadRect
    (a3.view.rep z) = z := by
  rw [View.readAt_eq_ld, View.read_rep, View.ld_unit_zero zeros2]

theorem loaded_b : View.readAt (Elt Ideal) a4.view (Rect.unit (s := S2048x1024) ![0, 0] S2048x1024.size inb_S2048x1024_S2048x1024_0_0).toLoadRect
    (a4.view.rep b) = b := by
  rw [View.readAt_eq_ld, View.read_rep, View.ld_unit_zero zeros2]

theorem first_kept (h1 h2) : out0_A_2 c i a3 h3 a4 h4 a5 h5 a6 h6 T z b h1 h2 = k0_pay2 z b := by
  unfold out0_A_2
  rw [View.read_writes_eq_canon _ _ _ (cover0_A_2 c i a3 h3 a4 h4 a5 h5 a6 h6 T z b h1 h2)]
  unfold kernelRun0_A kernelRun0_A.sl.HO2_1
  rw [View.canon_unit_zero zeros3, loaded_z, loaded_b]

theorem first_sent (h1 h2) : out0_A_3 c i a3 h3 a4 h4 a5 h5 a6 h6 T z b h1 h2 = k0_pay3 z b := by
  unfold out0_A_3
  rw [View.read_writes_eq_canon _ _ _ (cover0_A_3 c i a3 h3 a4 h4 a5 h5 a6 h6 T z b h1 h2)]
  unfold kernelRun0_A kernelRun0_A.sl.HO3_1
  rw [View.canon_unit_zero zeros3, loaded_z, loaded_b]

theorem second_kept (h1 h2) : out0_B_2 c i a3 h3 a4 h4 a5 h5 a6 h6 T z b h1 h2 = k0_pay4 z b := by
  unfold out0_B_2
  rw [View.read_writes_eq_canon _ _ _ (cover0_B_2 c i a3 h3 a4 h4 a5 h5 a6 h6 T z b h1 h2)]
  unfold kernelRun0_B kernelRun0_B.sl.HO2_1
  rw [View.canon_unit_zero zeros3, loaded_z, loaded_b]

theorem second_sent (h1 h2) : out0_B_3 c i a3 h3 a4 h4 a5 h5 a6 h6 T z b h1 h2 = k0_pay5 z b := by
  unfold out0_B_3
  rw [View.read_writes_eq_canon _ _ _ (cover0_B_3 c i a3 h3 a4 h4 a5 h5 a6 h6 T z b h1 h2)]
  unfold kernelRun0_B kernelRun0_B.sl.HO3_1
  rw [View.canon_unit_zero zeros3, loaded_z, loaded_b]

end

/-! The arrays that device `ch` ends with. -/

variable (ch : Fin 8) (m : (ℓ : Loc nD τ sig) → Buf (Elt Ideal) ℓ) (ρ : Dev nD → PrngReg) (c : Dev nD)

theorem points : ∀ ch : Fin 8, (cfgA ch).N = 8 := by decide +kernel

theorem lt8 {ch : Fin 8} (t : Fin (cfgA ch).N) : t.val < 8 := lt_of_lt_of_eq t.isLt (points ch)

theorem idx : ∀ (ch : Fin 8) (t : Fin (cfgA ch).N), ((cfgA ch).win (0 : Fin 4)).index t = ![0, t.val / 2]
    ∧ ((cfgA ch).win (1 : Fin 4)).index t = ![0, t.val % 2] ∧ ((cfgA ch).win (2 : Fin 4)).index t = ![t.val / 2, 0, t.val % 2]
    ∧ ((cfgA ch).win (3 : Fin 4)).index t = ![t.val / 2, 0, t.val % 2] := by decide +kernel

/-- Every point of the first core takes the first branch, every point of the second the other. -/
theorem branch : ∀ (ch : Fin 8) (t : Fin (cfgA ch).N), P0_0 ch t ↔ core ch = 0 := by decide +kernel

/-- The chip and the columns that point `t` has. -/
def chip (t : Fin (cfgA ch).N) : Fin 4 := ⟨t.val / 2, by have := lt8 t; omega⟩
def col (t : Fin (cfgA ch).N) (l : Fin 1024) : Fin 2048 := ⟨t.val % 2 * 1024 + l.val, by omega⟩

abbrev Z := m ((c : Thread nD τ).loc main_arg1)
abbrev B := m ((c : Thread nD τ).loc main_arg2)

theorem blk0 (t : Fin (cfgA ch).N) (h : Fin 2) (k : Fin 2048) (r : Fin 704) :
    iblk ch m ρ c (0 : Fin 4) t (ix2 k (within h r)) = Z m c (ix2 k (column (chip ch t) h r)) := by
  blk_ext [iblk, idx ch t, within, column, chip]

theorem blk1 (t : Fin (cfgA ch).N) (k : Fin 2048) (l : Fin 1024) :
    iblk ch m ρ c (1 : Fin 4) t (ix2 k l) = B m c (ix2 k (col ch t l)) := by
  blk_ext [iblk, idx ch t, col]

/-- A block's product is the whole arrays', at the columns that the point has. -/
theorem point_eq (t : Fin (cfgA ch).N) (h : Fin 2) (r : Fin 704) (l : Fin 1024) :
    part (iblk ch m ρ c (0 : Fin 4) t) (iblk ch m ρ c (1 : Fin 4) t) h r l = whole (Z m c) (B m c) (chip ch t) h r (col ch t l) :=
  part_eq (Z m c) (B m c) _ _ (chip ch t) h r l (col ch t l) (fun k => blk0 ch m ρ c t h k r) fun k => blk1 ch m ρ c t k l

theorem block_kept (t : Fin (cfgA ch).N) (r : Fin 704) (l : Fin 1024) : (traj0 ch m ρ c t.val t.isLt).1 (ix3 0 r l)
    = whole (Z m c) (B m c) (chip ch t) (core ch) r (col ch t l) := by
  rw [traj0_eq]
  by_cases q : P0_0 ch t
  · rw [step0_A ch m ρ c t _ q, first_kept, (branch ch t).mp q]
    exact (low _ _ r l).trans (point_eq ch m ρ c t 0 r l)
  · rw [step0_B ch m ρ c t _ q, second_kept, show core ch = 1 by have := mt (branch ch t).mpr q; omega]
    exact (high _ _ r l).trans (point_eq ch m ρ c t 1 r l)

theorem block_sent (t : Fin (cfgA ch).N) (r : Fin 704) (l : Fin 1024) : (traj0 ch m ρ c t.val t.isLt).2 (ix3 0 r l)
    = whole (Z m c) (B m c) (chip ch t) (other (core ch)) r (col ch t l) := by
  rw [traj0_eq]
  by_cases q : P0_0 ch t
  · rw [step0_A ch m ρ c t _ q, first_sent, (branch ch t).mp q]
    exact (high_sent _ _ r l).trans (point_eq ch m ρ c t 1 r l)
  · rw [step0_B ch m ρ c t _ q, second_sent, show core ch = 1 by have := mt (branch ch t).mpr q; omega]
    exact (low_sent _ _ r l).trans (point_eq ch m ρ c t 0 r l)

theorem covers : ∀ ch : Fin 8, ((cfgA ch).win (2 : Fin 4)).Covers ∧ ((cfgA ch).win (3 : Fin 4)).Covers := by decide +kernel

theorem gradient_kept (T : IVec S2 32) (hT : T (ix1 1) = BitVec.ofNat 32 (core ch).val) :
    (dats ch m ρ 0 c).arrAt (2 : Fin 4) (cfgA ch).N = Cert.DwRefIdeal.Read.val_main_v15 (F := Ideal) T (Z m c) (B m c) := by
  refine (dats ch m ρ 0 c).arrAt_eq_of_covers (2 : Fin 4) _ (covers ch).1 fun t hf y => ?_
  blk_simp
  rw [after0_2]
  obtain ⟨r, l, rfl⟩ : ∃ (r : Fin 704) (l : Fin 1024), y = ix3 0 r l :=
    ⟨y 1, y 2, by funext i; fin_cases i; exacts [Subsingleton.elim (α := Fin 1) _ _, rfl, rfl]⟩
  have e : (((cfgA ch).win (2 : Fin 4)).blk t).view.emb (ix3 0 r l) = ix3 (chip ch t) r (col ch t l) := by
    blk_ext [idx ch t, chip, col]
  rw [e]
  exact (block_kept ch m ρ c t r l).trans (ref_kept T (Z m c) (B m c) (core ch) hT (chip ch t) r (col ch t l)).symm

theorem gradient_sent (T : IVec S2 32) (hT : T (ix1 1) = BitVec.ofNat 32 (core ch).val) :
    (dats ch m ρ 0 c).arrAt (3 : Fin 4) (cfgA ch).N = Cert.DwRefIdeal.Read.val_main_v21 (F := Ideal) T (Z m c) (B m c) := by
  refine (dats ch m ρ 0 c).arrAt_eq_of_covers (3 : Fin 4) _ (covers ch).2 fun t hf y => ?_
  blk_simp
  rw [after0_3]
  obtain ⟨r, l, rfl⟩ : ∃ (r : Fin 704) (l : Fin 1024), y = ix3 0 r l :=
    ⟨y 1, y 2, by funext i; fin_cases i; exacts [Subsingleton.elim (α := Fin 1) _ _, rfl, rfl]⟩
  have e : (((cfgA ch).win (3 : Fin 4)).blk t).view.emb (ix3 0 r l) = ix3 (chip ch t) r (col ch t l) := by
    blk_ext [idx ch t, chip, col]
  rw [e]
  exact (block_sent ch m ρ c t r l).trans (ref_sent T (Z m c) (B m c) (core ch) hT (chip ch t) r (col ch t l)).symm

/-- A run of the call ends with the reference's two arrays, read at the words, the cotangent and the activations it began with. -/
theorem run (h : Cert.Pre_DwIdeal (hPre_on_a_device := Cert.Pre_on_a_device.Gen.facts) m) :
    θ_run defs (onTc (τ := τ) (main (F := Ideal))) ⟨m, fun _ => 0, ρ⟩ fun r => ∀ c : Dev nD,
      r.2.mem ((c : Thread nD τ).loc main_v0_0) = Cert.DwRefIdeal.Read.val_main_v15 (F := Ideal) (m ((c : Thread nD τ).loc main_arg0)) (Z m c) (B m c)
      ∧ r.2.mem ((c : Thread nD τ).loc main_v0_1) = Cert.DwRefIdeal.Read.val_main_v21 (F := Ideal) (m ((c : Thread nD τ).loc main_arg0)) (Z m c) (B m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  obtain ⟨ch, hp⟩ := pinned_of_pre m h
  have hT (c : Dev nD) : m ((c : Thread nD τ).loc main_arg0) (ix1 1) = BitVec.ofNat 32 (core ch).val :=
    (congrFun (hp c) (ix1 1)).trans (words_core ch)
  exact (θ_run defs _ _).mono (fun _ hr c =>
    ⟨((hr c).1 (2 : Fin 4)).trans (gradient_kept ch m ρ c _ (hT c)), ((hr c).1 (3 : Fin 4)).trans (gradient_sent ch m ρ c _ (hT c)),
      ((hr c).2 0).trans (hp c).symm, ((hr c).1 (0 : Fin 4)).trans ((dats ch m ρ 0 c).arrAt_in (0 : Fin 4) rfl _),
      ((hr c).1 (1 : Fin 4)).trans ((dats ch m ρ 0 c).arrAt_in (1 : Fin 4) rfl _)⟩) (run_main ch m ρ hp)

/-- The reference never faults and leaves its arguments. -/
theorem frame_ref : Cert.quiescent_DwRefIdeal (hDwRefIdeal := Cert.DwRefIdeal.Gen.facts) := by
  intro m ρ _
  exact (θ_run _ _ _).mono (fun r h => ⟨fun c => (h c).2.2, sem_eq_zero_of_no_sems (by decide) _⟩) (Cert.DwRefIdeal.Value.run m ρ)

/-- From equal arguments, with words that `on_a_device` admits, the call and its reference end with equal results. -/
theorem algebraic : Cert.algebraic_DwIdeal_DwRefIdeal (hDwIdeal := Cert.DwIdeal.Gen.facts) (hDwRefIdeal := Cert.DwRefIdeal.Gen.facts)
    (hPre_on_a_device := Cert.Pre_on_a_device.Gen.facts) := by
  intro m g m' g' hpre hagree
  refine ⟨_, _, run m g hpre, (θ_run _ _ _).mono (fun _ h c => ?_) (Cert.DwRefIdeal.Value.run (F := Ideal) m' g')⟩
  obtain ⟨h0, h1, h2⟩ := hagree c
  refine ⟨?_, ?_, (h c).2.2⟩
  · rw [Z, B, ← h0, ← h1, ← h2]; exact (h c).1
  · rw [Z, B, ← h0, ← h1, ← h2]; exact (h c).2.1

end Cert.Proof.Dw

end
-- ==== Proof.DwD.lean ====
/- The gradient of a feed-forward half's down weight, whose value the forward pass halves. The points are those of `Dw`: the 1408
   columns of the hidden activations that a chip owns against 1024 columns of the cotangent. The block is one half of the product;
   the reference multiplies the half into the cotangent first (`Ffn.half_sum`). -/
module

public import proofs.«01_k».proof.Defs
public import proofs.«01_k».proof.Proof.Dw
public import proofs.«01_k».proof.Proof.Gen.DwD.Flash
public import proofs.«01_k».proof.Proof.Gen.DwDIdeal.Flash
public import proofs.«01_k».proof.Proof.Gen.DwDRefIdeal.Run
public import proofs.«01_k».proof.Proof.Gen.DwDRefIdeal.Read
public import proofs.«01_k».proof.Proof.FfnPure
public import Idealize.ShloMosaic.Lib.Pointwise
public import Idealize.ShloMosaic.Lib.Pipeline.ValueKit
public import Idealize.ShloMosaic.Lib.Claim

@[expose] public section

set_option maxRecDepth 16384

noncomputable section

namespace Cert.Proof.DwD

open Idealize.ShloMosaic Idealize.ShloMosaic.TcCoe Idealize.SL.Sem Cert.Proof.FfnDw

/-- The call as it is written never faults and leaves its arguments. -/
theorem frame : Cert.quiescent_DwD (hDwD := Cert.DwD.Gen.facts) (hPre_on_a_device := Cert.Pre_on_a_device.Gen.facts) := by
  intro m ρ h
  obtain ⟨ch, hch⟩ := words_of_pre _ _ _ (h 0)
  exact Cert.DwD.Gen.frame ch m ρ fun c => by rw [Subsingleton.elim c 0]; exact hch

open Cert.DwDIdeal Cert.DwDIdeal.Gen

theorem pinned_of_pre (m : (ℓ : Loc nD τ sig) → Buf (Elt Ideal) ℓ)
    (h : Cert.Pre_DwDIdeal (hPre_on_a_device := Cert.Pre_on_a_device.Gen.facts) m) : ∃ ch, Pinned ch m := by
  obtain ⟨ch, hch⟩ := words_of_pre _ _ _ (h 0)
  exact ⟨ch, fun c => by rw [Subsingleton.elim c 0]; exact hch⟩

/-- So does its idealisation. -/
theorem frame_ideal : Cert.quiescent_DwDIdeal (hDwDIdeal := Cert.DwDIdeal.Gen.facts) (hPre_on_a_device := Cert.Pre_on_a_device.Gen.facts) :=
  fun m ρ h => (pinned_of_pre m h).elim fun ch hp => Cert.DwDIdeal.Gen.frame ch m ρ hp

/-- One block's product, read at an index: of the first half of its rows, of the last, and again rounded. -/
theorem low (z : Vec Ideal S2048x1408 .bf16) (b : Vec Ideal S2048x1024 .bf16) (r : Fin 704) (l : Fin 1024) :
    k0_pay2 z b (ix3 0 r l) = Ffn.half * part z b 0 r l := by
  unfold part Ffn.half
  pointwise [k0_pay2, k0_pay1, within]

theorem high (z : Vec Ideal S2048x1408 .bf16) (b : Vec Ideal S2048x1024 .bf16) (r : Fin 704) (l : Fin 1024) :
    k0_pay4 z b (ix3 0 r l) = Ffn.half * part z b 1 r l := by
  unfold part Ffn.half
  pointwise [k0_pay4, k0_pay1, within]

theorem high_sent (z : Vec Ideal S2048x1408 .bf16) (b : Vec Ideal S2048x1024 .bf16) (r : Fin 704) (l : Fin 1024) :
    k0_pay3 z b (ix3 0 r l) = Ffn.half * part z b 1 r l := by
  unfold part Ffn.half
  pointwise [k0_pay3, k0_pay1, within]

theorem low_sent (z : Vec Ideal S2048x1408 .bf16) (b : Vec Ideal S2048x1024 .bf16) (r : Fin 704) (l : Fin 1024) :
    k0_pay5 z b (ix3 0 r l) = Ffn.half * part z b 0 r l := by
  unfold part Ffn.half
  pointwise [k0_pay5, k0_pay1, within]

/-- The reference's two halves of every chip's rows, read at an index. -/
theorem ref_half0 (z : FVec Ideal S2048x5632 .bf16) (b : FVec Ideal S2048x2048 .bf16) (n : Fin 4) (r : Fin 704) (l : Fin 2048) :
    Cert.DwDRefIdeal.Read.val_main_v15 (F := Ideal) z b (ix3 n r l) = Ffn.half * whole z b n 0 r l := by
  rw [whole, Ffn.half_sum]
  unfold Ffn.half
  simp only [Cert.DwDRefIdeal.Read.val_main_v15, Cert.DwDRefIdeal.Read.val_main_v14, Cert.DwDRefIdeal.Read.val_main_v10, Cert.DwDRefIdeal.Read.val_main_v9, Cert.DwDRefIdeal.Read.val_main_v8,
    Cert.DwDRefIdeal.Read.val_main_v7, Cert.DwDRefIdeal.Read.val_main_v6,
    Cert.DwDRefIdeal.Read.val_main_cst_1, Cert.DwDRefIdeal.Read.val_main_v1, Cert.DwDRefIdeal.Read.val_main_v0]
  pointwise [column]
  exact Finset.sum_congr rfl fun k _ => by rw [mul_assoc, mul_comm (b _)]

theorem ref_half1 (z : FVec Ideal S2048x5632 .bf16) (b : FVec Ideal S2048x2048 .bf16) (n : Fin 4) (r : Fin 704) (l : Fin 2048) :
    Cert.DwDRefIdeal.Read.val_main_v17 (F := Ideal) z b (ix3 n r l) = Ffn.half * whole z b n 1 r l := by
  rw [whole, Ffn.half_sum]
  unfold Ffn.half
  simp only [Cert.DwDRefIdeal.Read.val_main_v17, Cert.DwDRefIdeal.Read.val_main_v16, Cert.DwDRefIdeal.Read.val_main_v10, Cert.DwDRefIdeal.Read.val_main_v9, Cert.DwDRefIdeal.Read.val_main_v8,
    Cert.DwDRefIdeal.Read.val_main_v7, Cert.DwDRefIdeal.Read.val_main_v6,
    Cert.DwDRefIdeal.Read.val_main_cst_1, Cert.DwDRefIdeal.Read.val_main_v1, Cert.DwDRefIdeal.Read.val_main_v0]
  pointwise [column]
  exact Finset.sum_congr rfl fun k _ => by rw [mul_assoc, mul_comm (b _)]

/-- The reference asks whether the second word is zero. -/
theorem asks (T : IVec S2 32) : Cert.DwDRefIdeal.Read.val_main_v13 (F := Ideal) T ix0 = BitVec.ofBool (T (ix1 1) == 0#32) := by
  simp only [Cert.DwDRefIdeal.Read.val_main_v13, Cert.DwDRefIdeal.Read.val_main_v12, Cert.DwDRefIdeal.Read.val_main_v11, Cert.DwDRefIdeal.Read.val_main_c]
  pointwise
  rfl

/-- What core `h` keeps of the reference's gradient, and what it sends. -/
theorem ref_kept (T : IVec S2 32) (z : FVec Ideal S2048x5632 .bf16) (b : FVec Ideal S2048x2048 .bf16) (h : Fin 2)
    (hT : T (ix1 1) = BitVec.ofNat 32 h.val) (n : Fin 4) (r : Fin 704) (l : Fin 2048) :
    Cert.DwDRefIdeal.Read.val_main_v18 (F := Ideal) T z b (ix3 n r l) = Ffn.half * whole z b n h r l := by
  simp only [Cert.DwDRefIdeal.Read.val_main_v18]
  pointwise
  rw [asks, hT]
  match h with
  | 0 => exact ref_half0 z b n r l
  | 1 => exact ref_half1 z b n r l

theorem ref_sent (T : IVec S2 32) (z : FVec Ideal S2048x5632 .bf16) (b : FVec Ideal S2048x2048 .bf16) (h : Fin 2)
    (hT : T (ix1 1) = BitVec.ofNat 32 h.val) (n : Fin 4) (r : Fin 704) (l : Fin 2048) :
    Cert.DwDRefIdeal.Read.val_main_v24 (F := Ideal) T z b (ix3 n r l)
      = Ffn.half * whole z b n (other h) r l := by
  simp only [Cert.DwDRefIdeal.Read.val_main_v24, Cert.DwDRefIdeal.Read.val_main_v23]
  pointwise
  rw [asks, hT]
  match h with
  | 0 => exact ref_half1 z b n r l
  | 1 => exact ref_half0 z b n r l

/-! What a point leaves in its two blocks, for a core that is the first and for one that is the second. -/

section

variable (c : Dev nD) (i : grid0.Coords) (a3 : Memref sig .tc .vmem S2048x1408 .bf16) (h3 : a3.IsWhole)
  (a4 : Memref sig .tc .vmem S2048x1024 .bf16) (h4 : a4.IsWhole) (a5 : Memref sig .tc .vmem S1x704x1024 .f32) (h5 : a5.IsWhole)
  (a6 : Memref sig .tc .vmem S1x704x1024 .bf16) (h6 : a6.IsWhole) (T : S2.Idx → Elt Ideal .i32)
  (z : Vec Ideal S2048x1408 .bf16) (b : Vec Ideal S2048x1024 .bf16)

theorem loaded_z : View.readAt (Elt Ideal) a3.view (Rect.unit (s := S2048x1408) ![0, 0] S2048x1408.size inb_S2048x1408_S2048x1408_0_0).toLoadRect
    (a3.view.rep z) = z := by
  rw [View.readAt_eq_ld, View.read_rep, View.ld_unit_zero zeros2]

theorem loaded_b : View.readAt (Elt Ideal) a4.view (Rect.unit (s := S2048x1024) ![0, 0] S2048x1024.size inb_S2048x1024_S2048x1024_0_0).toLoadRect
    (a4.view.rep b) = b := by
  rw [View.readAt_eq_ld, View.read_rep, View.ld_unit_zero zeros2]

theorem first_kept (h1 h2) : out0_A_2 c i a3 h3 a4 h4 a5 h5 a6 h6 T z b h1 h2 = k0_pay2 z b := by
  unfold out0_A_2
  rw [View.read_writes_eq_canon _ _ _ (cover0_A_2 c i a3 h3 a4 h4 a5 h5 a6 h6 T z b h1 h2)]
  unfold kernelRun0_A kernelRun0_A.sl.HO2_1
  rw [View.canon_unit_zero zeros3, loaded_z, loaded_b]

theorem first_sent (h1 h2) : out0_A_3 c i a3 h3 a4 h4 a5 h5 a6 h6 T z b h1 h2 = k0_pay3 z b := by
  unfold out0_A_3
  rw [View.read_writes_eq_canon _ _ _ (cover0_A_3 c i a3 h3 a4 h4 a5 h5 a6 h6 T z b h1 h2)]
  unfold kernelRun0_A kernelRun0_A.sl.HO3_1
  rw [View.canon_unit_zero zeros3, loaded_z, loaded_b]

theorem second_kept (h1 h2) : out0_B_2 c i a3 h3 a4 h4 a5 h5 a6 h6 T z b h1 h2 = k0_pay4 z b := by
  unfold out0_B_2
  rw [View.read_writes_eq_canon _ _ _ (cover0_B_2 c i a3 h3 a4 h4 a5 h5 a6 h6 T z b h1 h2)]
  unfold kernelRun0_B kernelRun0_B.sl.HO2_1
  rw [View.canon_unit_zero zeros3, loaded_z, loaded_b]

theorem second_sent (h1 h2) : out0_B_3 c i a3 h3 a4 h4 a5 h5 a6 h6 T z b h1 h2 = k0_pay5 z b := by
  unfold out0_B_3
  rw [View.read_writes_eq_canon _ _ _ (cover0_B_3 c i a3 h3 a4 h4 a5 h5 a6 h6 T z b h1 h2)]
  unfold kernelRun0_B kernelRun0_B.sl.HO3_1
  rw [View.canon_unit_zero zeros3, loaded_z, loaded_b]

end

/-! The arrays that device `ch` ends with. -/

variable (ch : Fin 8) (m : (ℓ : Loc nD τ sig) → Buf (Elt Ideal) ℓ) (ρ : Dev nD → PrngReg) (c : Dev nD)

theorem points : ∀ ch : Fin 8, (cfgA ch).N = 8 := by decide +kernel

theorem lt8 {ch : Fin 8} (t : Fin (cfgA ch).N) : t.val < 8 := lt_of_lt_of_eq t.isLt (points ch)

theorem idx : ∀ (ch : Fin 8) (t : Fin (cfgA ch).N), ((cfgA ch).win (0 : Fin 4)).index t = ![0, t.val / 2]
    ∧ ((cfgA ch).win (1 : Fin 4)).index t = ![0, t.val % 2] ∧ ((cfgA ch).win (2 : Fin 4)).index t = ![t.val / 2, 0, t.val % 2]
    ∧ ((cfgA ch).win (3 : Fin 4)).index t = ![t.val / 2, 0, t.val % 2] := by decide +kernel

/-- Every point of the first core takes the first branch, every point of the second the other. -/
theorem branch : ∀ (ch : Fin 8) (t : Fin (cfgA ch).N), P0_0 ch t ↔ core ch = 0 := by decide +kernel

/-- The chip and the columns that point `t` has. -/
def chip (t : Fin (cfgA ch).N) : Fin 4 := ⟨t.val / 2, by have := lt8 t; omega⟩
def col (t : Fin (cfgA ch).N) (l : Fin 1024) : Fin 2048 := ⟨t.val % 2 * 1024 + l.val, by omega⟩

abbrev Z := m ((c : Thread nD τ).loc main_arg1)
abbrev B := m ((c : Thread nD τ).loc main_arg2)

theorem blk0 (t : Fin (cfgA ch).N) (h : Fin 2) (k : Fin 2048) (r : Fin 704) :
    iblk ch m ρ c (0 : Fin 4) t (ix2 k (within h r)) = Z m c (ix2 k (column (chip ch t) h r)) := by
  blk_ext [iblk, idx ch t, within, column, chip]

theorem blk1 (t : Fin (cfgA ch).N) (k : Fin 2048) (l : Fin 1024) :
    iblk ch m ρ c (1 : Fin 4) t (ix2 k l) = B m c (ix2 k (col ch t l)) := by
  blk_ext [iblk, idx ch t, col]

/-- A block's product is the whole arrays', at the columns that the point has. -/
theorem point_eq (t : Fin (cfgA ch).N) (h : Fin 2) (r : Fin 704) (l : Fin 1024) :
    part (iblk ch m ρ c (0 : Fin 4) t) (iblk ch m ρ c (1 : Fin 4) t) h r l = whole (Z m c) (B m c) (chip ch t) h r (col ch t l) :=
  part_eq (Z m c) (B m c) _ _ (chip ch t) h r l (col ch t l) (fun k => blk0 ch m ρ c t h k r) fun k => blk1 ch m ρ c t k l

theorem block_kept (t : Fin (cfgA ch).N) (r : Fin 704) (l : Fin 1024) : (traj0 ch m ρ c t.val t.isLt).1 (ix3 0 r l)
    = Ffn.half * whole (Z m c) (B m c) (chip ch t) (core ch) r (col ch t l) := by
  rw [traj0_eq]
  by_cases q : P0_0 ch t
  · rw [step0_A ch m ρ c t _ q, first_kept, (branch ch t).mp q]
    exact (low _ _ r l).trans (congrArg (Ffn.half * ·) (point_eq ch m ρ c t 0 r l))
  · rw [step0_B ch m ρ c t _ q, second_kept, show core ch = 1 by have := mt (branch ch t).mpr q; omega]
    exact (high _ _ r l).trans (congrArg (Ffn.half * ·) (point_eq ch m ρ c t 1 r l))

theorem block_sent (t : Fin (cfgA ch).N) (r : Fin 704) (l : Fin 1024) : (traj0 ch m ρ c t.val t.isLt).2 (ix3 0 r l)
    = Ffn.half * whole (Z m c) (B m c) (chip ch t) (other (core ch)) r (col ch t l) := by
  rw [traj0_eq]
  by_cases q : P0_0 ch t
  · rw [step0_A ch m ρ c t _ q, first_sent, (branch ch t).mp q]
    exact (high_sent _ _ r l).trans (congrArg (Ffn.half * ·) (point_eq ch m ρ c t 1 r l))
  · rw [step0_B ch m ρ c t _ q, second_sent, show core ch = 1 by have := mt (branch ch t).mpr q; omega]
    exact (low_sent _ _ r l).trans (congrArg (Ffn.half * ·) (point_eq ch m ρ c t 0 r l))

theorem covers : ∀ ch : Fin 8, ((cfgA ch).win (2 : Fin 4)).Covers ∧ ((cfgA ch).win (3 : Fin 4)).Covers := by decide +kernel

theorem gradient_kept (T : IVec S2 32) (hT : T (ix1 1) = BitVec.ofNat 32 (core ch).val) :
    (dats ch m ρ 0 c).arrAt (2 : Fin 4) (cfgA ch).N = Cert.DwDRefIdeal.Read.val_main_v18 (F := Ideal) T (Z m c) (B m c) := by
  refine (dats ch m ρ 0 c).arrAt_eq_of_covers (2 : Fin 4) _ (covers ch).1 fun t hf y => ?_
  blk_simp
  rw [after0_2]
  obtain ⟨r, l, rfl⟩ : ∃ (r : Fin 704) (l : Fin 1024), y = ix3 0 r l :=
    ⟨y 1, y 2, by funext i; fin_cases i; exacts [Subsingleton.elim (α := Fin 1) _ _, rfl, rfl]⟩
  have e : (((cfgA ch).win (2 : Fin 4)).blk t).view.emb (ix3 0 r l) = ix3 (chip ch t) r (col ch t l) := by
    blk_ext [idx ch t, chip, col]
  rw [e]
  exact (block_kept ch m ρ c t r l).trans (ref_kept T (Z m c) (B m c) (core ch) hT (chip ch t) r (col ch t l)).symm

theorem gradient_sent (T : IVec S2 32) (hT : T (ix1 1) = BitVec.ofNat 32 (core ch).val) :
    (dats ch m ρ 0 c).arrAt (3 : Fin 4) (cfgA ch).N = Cert.DwDRefIdeal.Read.val_main_v24 (F := Ideal) T (Z m c) (B m c) := by
  refine (dats ch m ρ 0 c).arrAt_eq_of_covers (3 : Fin 4) _ (covers ch).2 fun t hf y => ?_
  blk_simp
  rw [after0_3]
  obtain ⟨r, l, rfl⟩ : ∃ (r : Fin 704) (l : Fin 1024), y = ix3 0 r l :=
    ⟨y 1, y 2, by funext i; fin_cases i; exacts [Subsingleton.elim (α := Fin 1) _ _, rfl, rfl]⟩
  have e : (((cfgA ch).win (3 : Fin 4)).blk t).view.emb (ix3 0 r l) = ix3 (chip ch t) r (col ch t l) := by
    blk_ext [idx ch t, chip, col]
  rw [e]
  exact (block_sent ch m ρ c t r l).trans (ref_sent T (Z m c) (B m c) (core ch) hT (chip ch t) r (col ch t l)).symm

/-- A run of the call ends with the reference's two arrays, read at the words, the hidden activations and the cotangent it began with. -/
theorem run (h : Cert.Pre_DwDIdeal (hPre_on_a_device := Cert.Pre_on_a_device.Gen.facts) m) :
    θ_run defs (onTc (τ := τ) (main (F := Ideal))) ⟨m, fun _ => 0, ρ⟩ fun r => ∀ c : Dev nD,
      r.2.mem ((c : Thread nD τ).loc main_v0_0) = Cert.DwDRefIdeal.Read.val_main_v18 (F := Ideal) (m ((c : Thread nD τ).loc main_arg0)) (Z m c) (B m c)
      ∧ r.2.mem ((c : Thread nD τ).loc main_v0_1) = Cert.DwDRefIdeal.Read.val_main_v24 (F := Ideal) (m ((c : Thread nD τ).loc main_arg0)) (Z m c) (B m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  obtain ⟨ch, hp⟩ := pinned_of_pre m h
  have hT (c : Dev nD) : m ((c : Thread nD τ).loc main_arg0) (ix1 1) = BitVec.ofNat 32 (core ch).val :=
    (congrFun (hp c) (ix1 1)).trans (words_core ch)
  exact (θ_run defs _ _).mono (fun _ hr c =>
    ⟨((hr c).1 (2 : Fin 4)).trans (gradient_kept ch m ρ c _ (hT c)), ((hr c).1 (3 : Fin 4)).trans (gradient_sent ch m ρ c _ (hT c)),
      ((hr c).2 0).trans (hp c).symm, ((hr c).1 (0 : Fin 4)).trans ((dats ch m ρ 0 c).arrAt_in (0 : Fin 4) rfl _),
      ((hr c).1 (1 : Fin 4)).trans ((dats ch m ρ 0 c).arrAt_in (1 : Fin 4) rfl _)⟩) (run_main ch m ρ hp)

/-- The reference never faults and leaves its arguments. -/
theorem frame_ref : Cert.quiescent_DwDRefIdeal (hDwDRefIdeal := Cert.DwDRefIdeal.Gen.facts) := by
  intro m ρ _
  exact (θ_run _ _ _).mono (fun r h => ⟨fun c => (h c).2.2, sem_eq_zero_of_no_sems (by decide) _⟩) (Cert.DwDRefIdeal.Value.run m ρ)

/-- From equal arguments, with words that `on_a_device` admits, the call and its reference end with equal results. -/
theorem algebraic : Cert.algebraic_DwDIdeal_DwDRefIdeal (hDwDIdeal := Cert.DwDIdeal.Gen.facts) (hDwDRefIdeal := Cert.DwDRefIdeal.Gen.facts)
    (hPre_on_a_device := Cert.Pre_on_a_device.Gen.facts) := by
  intro m g m' g' hpre hagree
  refine ⟨_, _, run m g hpre, (θ_run _ _ _).mono (fun _ h c => ?_) (Cert.DwDRefIdeal.Value.run (F := Ideal) m' g')⟩
  obtain ⟨h0, h1, h2⟩ := hagree c
  refine ⟨?_, ?_, (h c).2.2⟩
  · rw [Z, B, ← h0, ← h1, ← h2]; exact (h c).1
  · rw [Z, B, ← h0, ← h1, ← h2]; exact (h c).2.1

end Cert.Proof.DwD

end
-- ==== Proof.NormPure.lean ====
/- The root-mean-square norm of one row over the extended reals, and its gradient for the row, in the kernel's form and in the one
   that differentiating the norm gives. The two agree for every row and every cotangent: the norm's factor is a positive real number
   for a finite row, and such a factor may be multiplied into a sum of any terms; and it is zero for a row with an infinite entry,
   where both gradients are zero. -/
module

public import Idealize.ShloMosaic.Lib.Pointwise

@[expose] public section

noncomputable section

namespace Cert.Proof.Norm

open Idealize.ShloMosaic

/-- The width of a row, and what the norm adds to the mean of the squares. -/
def width : EReal := Ideal.ofBits .f32 0x45000000#32
def eps : EReal := Ideal.ofBits .f32 0x358637BD#32

theorem width_eq : width = ((2048 : ℝ) : EReal) := by
  unfold width
  simp [Ideal.ofBits, Ideal.ieee, -EReal.coe_mul]
  norm_num

theorem eps_eq : ∃ e : ℝ, 0 < e ∧ eps = e := by
  refine ⟨_, ?_, by unfold eps; simp only [Ideal.ofBits, Ideal.ieee]; simp [-EReal.coe_mul]; rfl⟩
  norm_num

/-- The mean of the squares with `eps`, and the norm's factor. -/
def var (x : Fin 2048 → EReal) : EReal := Ideal.div (∑ k, x k * x k) width + eps
def inv (x : Fin 2048 → EReal) : EReal := Ideal.rsqrt (var x)

/-- The normed row. -/
def unit (x : Fin 2048 → EReal) (l : Fin 2048) : EReal := x l * inv x

/-- The gradient for the row, from the cotangent `a` of the normed row: the kernel's expression. -/
def kern (x a : Fin 2048 → EReal) (l : Fin 2048) : EReal :=
  inv x * (a l - unit x l * Ideal.div (∑ k, a k * unit x k) width)

/-- The gradient for the mean of the squares, over the width; and the gradient for the row: the reference's expressions. -/
def coef (x a : Fin 2048 → EReal) : EReal :=
  Ideal.div ((∑ k, x k * a k) * (Ideal.ofBits .f32 0xBF000000#32 * Ideal.div (inv x) (var x))) width
def grad (x a : Fin 2048 → EReal) (l : Fin 2048) : EReal := a l * inv x + x l * coef x a + coef x a * x l

/-- A nonnegative real factor may be multiplied into every term of a sum, whatever its terms are. -/
theorem scale_sum {n : Nat} (c : ℝ) (hc : 0 ≤ c) (f : Fin n → EReal) : (c : EReal) * ∑ k, f k = ∑ k, (c : EReal) * f k := by
  let φ : EReal →+ EReal :=
    { toFun := fun x => (c : EReal) * x
      map_zero' := mul_zero _
      map_add' := fun x y => EReal.left_distrib_of_nonneg_of_ne_top (by exact_mod_cast hc) (EReal.coe_ne_top _) x y }
  exact map_sum φ f Finset.univ

theorem twice (z : EReal) : z + z = ((2 : ℝ) : EReal) * z := by
  induction z using EReal.rec with
  | bot => rw [EReal.coe_mul_bot_of_pos (by norm_num)]; rfl
  | coe r => norm_cast; ring
  | top => rw [EReal.coe_mul_top_of_pos (by norm_num)]; rfl

theorem square_nonneg (z : EReal) : 0 ≤ z * z := by
  induction z using EReal.rec with
  | bot => simp
  | coe r => exact_mod_cast mul_self_nonneg r
  | top => simp

theorem div_width (z : EReal) : Ideal.div z width = z * ((1 / 2048 : ℝ) : EReal) := by
  rw [width_eq, Ideal.div_coe (by norm_num)]

theorem minus_half : Ideal.ofBits .f32 0xBF000000#32 = ((-(1 / 2) : ℝ) : EReal) := by
  simp [Ideal.ofBits, Ideal.ieee, -EReal.coe_mul]
  norm_num

/-- A finite sum of real numbers, taken among the extended reals. -/
theorem coe_sum {n : Nat} (f : Fin n → ℝ) : ∑ k, (f k : EReal) = ((∑ k, f k : ℝ) : EReal) := by
  let φ : ℝ →+ EReal := { toFun := fun x => (x : EReal), map_zero' := rfl, map_add' := fun x y => EReal.coe_add x y }
  exact (map_sum φ f Finset.univ).symm

/-- A finite row: the norm's factor is a positive real number whose square is the reciprocal of the mean. -/
theorem inv_real (X : Fin 2048 → ℝ) : ∃ v ρ : ℝ, 0 < ρ ∧ v ≠ 0 ∧ ρ * ρ = 1 / v ∧ var (fun k => (X k : EReal)) = v ∧ inv (fun k => (X k : EReal)) = ρ := by
  obtain ⟨e, he, hE⟩ := eps_eq
  have hs : (0 : ℝ) ≤ ∑ k, X k * X k := Finset.sum_nonneg fun k _ => mul_self_nonneg _
  have hv : var (fun k => (X k : EReal)) = (((∑ k, X k * X k) * (1 / 2048) + e : ℝ) : EReal) := by
    rw [var, div_width, hE, EReal.coe_add]
    simp only [← EReal.coe_mul]
    rw [coe_sum, EReal.coe_mul]
  have hp : 0 < (∑ k, X k * X k) * (1 / 2048) + e := by positivity
  refine ⟨(∑ k, X k * X k) * (1 / 2048) + e, (Real.sqrt ((∑ k, X k * X k) * (1 / 2048) + e))⁻¹, inv_pos.mpr (Real.sqrt_pos.mpr hp), hp.ne', ?_, hv, ?_⟩
  · rw [← mul_inv, Real.mul_self_sqrt hp.le]
    exact (one_div _).symm
  · rw [inv, hv, Ideal.rsqrt_coe, if_neg hp.not_gt, if_neg hp.ne']

/-- A row with an infinite entry: the mean is infinite and the norm's factor is zero. -/
theorem var_top (x : Fin 2048 → EReal) (k : Fin 2048) (h : x k * x k = ⊤) : var x = ⊤ := by
  obtain ⟨e, he, hE⟩ := eps_eq
  have hs : ∑ k, x k * x k = ⊤ := top_le_iff.mp (h ▸ Finset.single_le_sum (f := fun k => x k * x k) (fun k _ => square_nonneg (x k)) (Finset.mem_univ k))
  rw [var, hs, div_width, EReal.top_mul_coe_of_pos (by norm_num), hE, EReal.top_add_coe]

theorem kern_eq_real (X : Fin 2048 → ℝ) (a : Fin 2048 → EReal) (l : Fin 2048) : kern (fun k => (X k : EReal)) a l = grad (fun k => (X k : EReal)) a l := by
  obtain ⟨v, ρ, hρ, hv, hs, hvar, hinv⟩ := inv_real X
  have hS : ∑ k, a k * unit (fun k => (X k : EReal)) k = (ρ : EReal) * ∑ k, (X k : EReal) * a k := by
    rw [scale_sum ρ hρ.le]
    exact Finset.sum_congr rfl fun k _ => by rw [unit, hinv]; ac_rfl
  have hc : coef (fun k => (X k : EReal)) a = ((-(1 / 2) * (ρ * (1 / v)) * (1 / 2048) : ℝ) : EReal) * ∑ k, (X k : EReal) * a k := by
    rw [coef, div_width, hvar, hinv, Ideal.div_coe hv, minus_half, ← EReal.coe_mul, ← EReal.coe_mul, mul_assoc, ← EReal.coe_mul, mul_comm]
  rw [kern, grad, hS, hc, div_width, unit, hinv]
  generalize ∑ k, (X k : EReal) * a k = S
  rw [add_assoc, mul_comm (_ * S) (X l : EReal), twice, sub_eq_add_neg,
    EReal.left_distrib_of_nonneg_of_ne_top (by exact_mod_cast hρ.le) (EReal.coe_ne_top _), mul_comm (ρ : EReal) (a l)]
  congr 1
  have e1 : (X l : EReal) * ρ * (ρ * S * ((1 / 2048 : ℝ) : EReal)) = ((X l * ρ * (ρ * (1 / 2048)) : ℝ) : EReal) * S := by
    push_cast
    ac_rfl
  have e2 : ((2 : ℝ) : EReal) * ((X l : EReal) * (((-(1 / 2) * (ρ * (1 / v)) * (1 / 2048) : ℝ) : EReal) * S))
      = ((2 * X l * (-(1 / 2) * (ρ * (1 / v)) * (1 / 2048)) : ℝ) : EReal) * S := by
    push_cast
    ac_rfl
  rw [e1, e2, ← EReal.neg_mul, ← EReal.coe_neg, ← mul_assoc, ← EReal.coe_mul]
  congr 2
  linear_combination (-(X l * ρ) / 2048) * hs

/-- The two gradients are equal. -/
theorem kern_eq (x a : Fin 2048 → EReal) (l : Fin 2048) : kern x a l = grad x a l := by
  by_cases h : ∃ k, x k * x k = ⊤
  · obtain ⟨k, hk⟩ := h
    have hv := var_top x k hk
    have hi : inv x = 0 := by rw [inv, hv, Ideal.rsqrt_top]
    have hz : Ideal.div 0 ⊤ = 0 := by rw [Ideal.div, if_neg EReal.top_ne_zero, zero_mul]
    have hc : coef x a = 0 := by rw [coef, hi, hv, hz, mul_zero, mul_zero, div_width, zero_mul]
    rw [kern, grad, hi, hc, zero_mul, mul_zero, mul_zero, zero_mul, add_zero, add_zero]
  · have hX : ∀ k, ∃ r : ℝ, x k = r := fun k => by
      cases hk : x k using EReal.rec with
      | bot => exact absurd ⟨k, by rw [hk]; rfl⟩ h
      | coe r => exact ⟨r, rfl⟩
      | top => exact absurd ⟨k, by rw [hk]; rfl⟩ h
    choose X hX using hX
    obtain rfl : x = fun k => (X k : EReal) := funext hX
    exact kern_eq_real X a l

end Cert.Proof.Norm

end
-- ==== Proof.Final.lean ====
/- The final norm with the loss: at every point of the grid of 8 the gradient of a block of 256 rows (`Norm.kern_eq`), and the block's
   parts of the loss's columns and of the gradient of the norm's weight, which the points sum. -/
module

public import proofs.«01_k».proof.Defs
public import proofs.«01_k».proof.Proof.NormPure
public import proofs.«01_k».proof.Proof.Gen.FinalIdeal.Value
public import proofs.«01_k».proof.Proof.Gen.FinalRefIdeal.Run
public import proofs.«01_k».proof.Proof.Gen.FinalRefIdeal.Read
public import Idealize.ShloMosaic.Lib.Pointwise
public import Idealize.ShloMosaic.Lib.Pipeline.ValueKit
public import Idealize.ShloMosaic.Lib.Claim

@[expose] public section

set_option maxRecDepth 16384

noncomputable section

namespace Cert.Proof.Final

open Cert.FinalIdeal Cert.FinalIdeal.Gen Idealize.ShloMosaic Idealize.ShloMosaic.TcCoe Idealize.SL.Sem

/-- The column of an index of a single row. -/
def col (y : S1x2048.Idx) : Fin 2048 := y 1

theorem of_col (y : S1x2048.Idx) : y = ix2 0 (col y) := by
  funext i
  fin_cases i
  · exact Subsingleton.elim (α := Fin 1) _ _
  · rfl

theorem col_ix2 (l : Fin 2048) : col (ix2 0 l) = l := rfl

/-- The normed entry times its weight, less its target. -/
def err (x : Fin 2048 → EReal) (g t : EReal) (l : Fin 2048) : EReal := Norm.unit x l * g - t

/-- The loss's gradient there, the error over the width. -/
def slope (e : EReal) : EReal := e * Ideal.ofBits .f32 0x3A000000#32

/-- The entry's part of the loss. -/
def half_square (e : EReal) : EReal := ((1 / 4096 : ℝ) : EReal) * (e * e)

theorem scale_eq : Ideal.ofBits .f32 0x3A000000#32 = ((1 / 2048 : ℝ) : EReal) := by
  simp [Ideal.ofBits, Ideal.ieee, -EReal.coe_mul]
  norm_num

theorem fourth_eq : Ideal.ofBits .f32 0x39800000#32 = ((1 / 4096 : ℝ) : EReal) := by
  simp [Ideal.ofBits, Ideal.ieee, -EReal.coe_mul]
  norm_num

theorem half_eq : Ideal.ofBits .f32 0x3F000000#32 = ((1 / 2 : ℝ) : EReal) := by
  simp [Ideal.ofBits, Ideal.ieee, -EReal.coe_mul]
  norm_num

theorem one_eq : Ideal.ofBits .f32 0x3F800000#32 = ((1 : ℝ) : EReal) := by
  simp [Ideal.ofBits, Ideal.ieee, -EReal.coe_mul]
  norm_num

theorem two_eq : Ideal.ofBits .f32 0x40000000#32 = ((2 : ℝ) : EReal) := by
  simp [Ideal.ofBits, Ideal.ieee, -EReal.coe_mul]
  norm_num

/-- The reference's gradient: a half over the width, times twice the error. -/
theorem slope_eq (e : EReal) : Ideal.div (Ideal.ofBits .f32 0x3F000000#32 * Ideal.ofBits .f32 0x3F800000#32) Norm.width
    * (Ideal.ofBits .f32 0x40000000#32 * e) = slope e := by
  rw [slope, Norm.div_width, half_eq, one_eq, two_eq, scale_eq, ← mul_assoc, ← EReal.coe_mul, ← EReal.coe_mul, ← EReal.coe_mul, mul_comm]
  congr 2
  norm_num

/-- A column's loss is the sum of its entries' parts. -/
theorem loss_sum (e : Fin 2048 → EReal) : Ideal.ofBits .f32 0x3F000000#32 * Ideal.div (∑ k, e k * e k) Norm.width = ∑ k, half_square (e k) := by
  unfold half_square
  rw [← Norm.scale_sum (1 / 4096) (by norm_num), Norm.div_width, half_eq, mul_comm _ ((1 / 2048 : ℝ) : EReal), ← mul_assoc, ← EReal.coe_mul]
  congr 2
  norm_num

theorem block_sum (e : Fin 256 → EReal) : (∑ k, e k * e k) * Ideal.ofBits .f32 0x39800000#32 = ∑ k, half_square (e k) := by
  unfold half_square
  rw [← Norm.scale_sum (1 / 4096) (by norm_num), fourth_eq, mul_comm]

section Pay
variable (x : Vec Ideal S256x2048 .f32) (g : Vec Ideal S1x2048 .f32) (t : Vec Ideal S256x2048 .f32) (r : Fin 256) (l : Fin 2048)

/-- The error in row `r` of a block, the gradient that enters the norm there, and the block's parts of the two sums over the rows. -/
def errAt (r : Fin 256) (l : Fin 2048) : EReal := err (fun k => x (ix2 r k)) (g (ix2 0 l)) (t (ix2 r l)) l
def ct (r : Fin 256) (k : Fin 2048) : EReal := slope (errAt x g t r k) * g (ix2 0 k)
def lossPart (y : S1x2048.Idx) : EReal := ∑ r : Fin 256, half_square (errAt x g t r (col y))
def part (y : S1x2048.Idx) : EReal := ∑ r : Fin 256, slope (errAt x g t r (col y)) * Norm.unit (fun k => x (ix2 r k)) (col y)

theorem factor : k0_pay4 x (ix2 r 0) = Norm.inv (fun k => x (ix2 r k)) := by
  unfold Norm.inv Norm.var Norm.width Norm.eps
  pointwise [k0_pay4]

theorem normed : k0_pay5 x (ix2 r l) = Norm.unit (fun k => x (ix2 r k)) l := by
  unfold Norm.unit
  rw [← factor]
  pointwise [k0_pay5]

theorem payload6 : k0_pay6 x g t (ix2 r l) = errAt x g t r l := by
  unfold errAt err
  rw [← normed]
  pointwise [k0_pay6, k0_pay3]

theorem payload7 : k0_pay7 x g t (ix2 r l) = slope (errAt x g t r l) := by
  unfold slope
  rw [← payload6]
  pointwise [k0_pay7]

theorem payload8 : k0_pay8 x g t (ix2 r l) = Norm.kern (fun k => x (ix2 r k)) (ct x g t r) l := by
  unfold Norm.kern Norm.width ct
  rw [← factor]
  simp only [← normed, ← payload7]
  pointwise [k0_pay8, k0_pay3]

theorem payload11 : k0_pay11 x g t (ix2 r l) = Norm.kern (fun k => x (ix2 r k)) (ct x g t r) l := by
  rw [← payload8]
  pointwise [k0_pay11]

theorem payload9 (y : S1x2048.Idx) : k0_pay9 x g t y = lossPart x g t y := by
  rw [of_col y]
  unfold lossPart
  rw [col_ix2, ← block_sum]
  simp only [← payload6]
  pointwise [k0_pay9]

theorem payload10 (y : S1x2048.Idx) : k0_pay10 x g t y = part x g t y := by
  rw [of_col y]
  unfold part
  rw [col_ix2]
  simp only [← payload7, ← normed]
  pointwise [k0_pay10]

theorem payload1 (acc : Vec Ideal S1x2048 .f32) (y : S1x2048.Idx) : k0_pay1 (k0_pay9 x g t) acc y = acc y + lossPart x g t y := by
  rw [← payload9]
  pointwise [k0_pay1]

theorem payload2 (acc : Vec Ideal S1x2048 .f32) (y : S1x2048.Idx) : k0_pay2 (k0_pay10 x g t) acc y = acc y + part x g t y := by
  rw [← payload10]
  pointwise [k0_pay2]

end Pay

section Reference
open Cert.FinalRefIdeal.Read
variable (x : FVec Ideal S2048x2048 .f32) (g : FVec Ideal S2048 .f32) (t : FVec Ideal S2048x2048 .f32) (r l : Fin 2048)

/-- The error in row `r` of the whole arrays, and the gradient that enters the norm there. -/
def wholeErr (r l : Fin 2048) : EReal := err (fun k => x (ix2 r k)) (g (ix1 l)) (t (ix2 r l)) l
def wholeCt (r k : Fin 2048) : EReal := slope (wholeErr x g t r k) * g (ix1 k)

theorem ref_var : val_main_v6 (F := Ideal) x (ix2 r 0) = Norm.var (fun k => x (ix2 r k)) := by
  unfold Norm.var Norm.width Norm.eps
  simp only [val_main_v6, val_main_v5, val_main_cst_1, val_main_v4, val_main_v3, val_main_cst_0, val_main_v2, val_main_v1, val_main_cst, val_main_v0]
  pointwise

theorem ref_inv : val_main_v7 (F := Ideal) x (ix2 r 0) = Norm.inv (fun k => x (ix2 r k)) := by
  unfold Norm.inv
  rw [← ref_var]
  rfl

theorem ref_unit : val_main_v12 (F := Ideal) x (ix2 r l) = Norm.unit (fun k => x (ix2 r k)) l := by
  unfold Norm.unit
  rw [← ref_inv]
  simp only [val_main_v12, val_main_v11]
  pointwise

theorem ref_err : val_main_v16 (F := Ideal) x g t (ix2 r l) = wholeErr x g t r l := by
  unfold wholeErr err
  rw [← ref_unit]
  simp only [val_main_v16, val_main_v15, val_main_v14, val_main_v13]
  pointwise

/-- The reference's second copy of the error is the first. -/
theorem ref_copy : val_main_v64 (F := Ideal) x g t = val_main_v16 (F := Ideal) x g t := rfl

theorem ref_slope : val_main_v30 (F := Ideal) x g t (ix2 r l) = slope (wholeErr x g t r l) := by
  rw [← slope_eq, ← ref_err]
  unfold Norm.width
  simp only [val_main_v30, val_main_v29, val_main_v28, val_main_v27, val_main_v26, val_main_v25, val_main_v19, val_main_v18, val_main_cst_3,
    val_main_cst_8, val_main_cst_9, val_main_cst_10]
  pointwise

theorem ref_ct : val_main_v35 (F := Ideal) x g t (ix2 r l) = wholeCt x g t r l := by
  unfold wholeCt
  rw [← ref_slope]
  simp only [val_main_v35, val_main_v34, val_main_v13]
  pointwise

theorem ref_coef : val_main_v45 (F := Ideal) x g t (ix1 r) = Norm.coef (fun k => x (ix2 r k)) (wholeCt x g t r) := by
  unfold Norm.coef Norm.width
  rw [← ref_inv, ← ref_var]
  simp only [← ref_ct]
  simp only [val_main_v45, val_main_v44, val_main_v43, val_main_v42, val_main_v39, val_main_v38, val_main_v37, val_main_v10, val_main_v9,
    val_main_v8, val_main_cst_2, val_main_cst_13, val_main_cst_14, val_main_cst_15]
  pointwise
  exact Fin.sum_univ_one _

theorem ref_grad : val_main_v50 (F := Ideal) x g t (ix2 r l) = Norm.grad (fun k => x (ix2 r k)) (wholeCt x g t r) l := by
  unfold Norm.grad
  rw [← ref_inv, ← ref_coef]
  simp only [← ref_ct]
  simp only [val_main_v50, val_main_v49, val_main_v48, val_main_v47, val_main_v46, val_main_v41, val_main_v40]
  pointwise

theorem ref_rounded : val_main_v66 (F := Ideal) x g t (ix2 r l) = Norm.grad (fun k => x (ix2 r k)) (wholeCt x g t r) l := by
  rw [← ref_grad]
  rfl

theorem ref_loss (y : S1x2048.Idx) : val_main_v72 (F := Ideal) x g t y = ∑ r : Fin 2048, half_square (wholeErr x g t r (col y)) := by
  rw [of_col y, col_ix2, ← loss_sum]
  unfold Norm.width
  simp only [← ref_err, ← ref_copy]
  simp only [val_main_v72, val_main_v71, val_main_v70, val_main_v69, val_main_v68, val_main_v67, val_main_v65, val_main_cst_19, val_main_cst_20,
    val_main_cst_21]
  generalize val_main_v64 (F := Ideal) x g t = z
  pointwise

theorem ref_weight (y : S1x2048.Idx) : val_main_v73 (F := Ideal) x g t y
    = ∑ r : Fin 2048, slope (wholeErr x g t r (col y)) * Norm.unit (fun k => x (ix2 r k)) (col y) := by
  rw [of_col y, col_ix2]
  simp only [← ref_unit, ← ref_slope]
  simp only [val_main_v73, val_main_v36, val_main_v33, val_main_v32, val_main_v31, val_main_cst_11, val_main_cst_12]
  generalize val_main_v12 (F := Ideal) x = z
  generalize val_main_v30 (F := Ideal) x g t = w
  pointwise
  exact (Fin.sum_univ_one _).trans (Finset.sum_congr rfl fun k _ => mul_comm (G := EReal) _ _)

end Reference

variable (m : (ℓ : Loc nD τ sig) → Buf (Elt Ideal) ℓ)

theorem idx : ∀ t : Fin cfg0.N, win0_0.index t = ![t.val, 0]
    ∧ win0_1.index t = ![0, 0]
    ∧ win0_2.index t = ![t.val, 0]
    ∧ win0_3.index t = ![t.val, 0]
    ∧ win0_4.index t = ![t.val, 0]
    ∧ win0_5.index t = ![0, 0]
    ∧ win0_6.index t = ![0, 0] :=
  (by decide +kernel : ∀ t : Fin grid0.N, _)

theorem lt8 (t : Fin cfg0.N) : t.val < 8 := t.isLt

/-- The row of the whole arrays under row `r` of point `t`'s block. -/
def row (t : Fin cfg0.N) (r : Fin 256) : Fin 2048 := ⟨t.val * 256 + r.val, by have := lt8 t; omega⟩

abbrev X (c : Dev nD) : FVec Ideal S2048x2048 .f32 := m (c, Proc.tc.devRef main_arg0)
abbrev G (c : Dev nD) : FVec Ideal S2048 .f32 := m (c, Proc.tc.devRef main_arg1)
abbrev T (c : Dev nD) : FVec Ideal S2048x2048 .f32 := m (c, Proc.tc.devRef main_arg2)

/-- The weight of the norm as one row. -/
def gain (g : FVec Ideal S2048 .f32) : FVec Ideal S1x2048 .f32 := shapeCast S1x2048 g shapeCasts_S2048_S1x2048

theorem gain_apply (g : FVec Ideal S2048 .f32) (l : Fin 2048) : gain g (ix2 0 l) = g (ix1 l) := by
  unfold gain
  pointwise

open StableHlo in
theorem V_v0 (c : Dev nD) : V m c main_v0 = gain (G m c) := by
  show StableHlo.after _ _ _ = _
  after_results_simp <;> rfl

section
variable (c : Dev nD) (t : Fin cfg0.N) (r : Fin 256) (l : Fin 2048)

theorem blk0 : iblk m c 0 t (ix2 r l) = X m c (ix2 (row t r) l) := by blk_ext [iblk, idx t, row]

theorem blk1 : iblk m c 1 t (ix2 0 l) = G m c (ix1 l) := by
  have e : iblk m c 1 t (ix2 0 l) = V m c main_v0 (ix2 0 l) := by blk_ext [iblk, idx t]
  rw [e, V_v0, gain_apply]

theorem blk2 : iblk m c 2 t (ix2 r l) = T m c (ix2 (row t r) l) := by blk_ext [iblk, idx t, row]

theorem blk_row : (fun k => iblk m c 0 t (ix2 r k)) = fun k => X m c (ix2 (row t r) k) := funext fun k => blk0 m c t r k

theorem blk_err : errAt (iblk m c 0 t) (iblk m c 1 t) (iblk m c 2 t) r l = wholeErr (X m c) (G m c) (T m c) (row t r) l := by
  unfold errAt wholeErr
  exact (congrArg (fun f => err f _ _ l) (blk_row m c t r)).trans (congrArg₂ (fun a b => err _ a b l) (blk1 m c t l) (blk2 m c t r l))

theorem blk_ct : ct (iblk m c 0 t) (iblk m c 1 t) (iblk m c 2 t) r = wholeCt (X m c) (G m c) (T m c) (row t r) :=
  funext fun k => congrArg₂ (fun a b : EReal => slope a * b) (blk_err m c t r k) (blk1 m c t k)

/-- A block's gradient is the reference's. -/
theorem block_eq : Norm.kern (fun k => iblk m c 0 t (ix2 r k)) (ct (iblk m c 0 t) (iblk m c 1 t) (iblk m c 2 t) r) l
    = Norm.grad (fun k => X m c (ix2 (row t r) k)) (wholeCt (X m c) (G m c) (T m c) (row t r)) l := by
  rw [Norm.kern_eq, blk_row, blk_ct]

/-- Over the eight points the rows of the blocks are all rows. -/
theorem row_of (t : Fin cfg0.N) (h : t.val % 8 = 7) (s : Fin 8) (r : Fin 256) (hl : s.val * 256 + r.val < 2048) :
    row ⟨8 * (t.val / 8) + s.val, Pipeline.run_point_lt_of_flush t h s⟩ r = ⟨s.val * 256 + r.val, hl⟩ :=
  Fin.ext (by have := lt8 t; simp only [row]; omega)

end

/-- What the third result's block holds after the last of the eight points: the sum of their parts. -/
theorem loss_acc (c : Dev nD) (t : Fin cfg0.N) (h : t.val % 8 = 8 - 1) (y : S1x2048.Idx) :
    (outsAt0 m c t.val t.isLt).2.2.1 y = (fun _ => (0 : EReal)) y
      + ∑ s : Fin 8, lossPart (iblk m c 0 ⟨8 * (t.val / 8) + s.val, Pipeline.run_point_lt_of_flush t h s⟩)
          (iblk m c 1 ⟨8 * (t.val / 8) + s.val, Pipeline.run_point_lt_of_flush t h s⟩)
          (iblk m c 2 ⟨8 * (t.val / 8) + s.val, Pipeline.run_point_lt_of_flush t h s⟩) y := by
  rw [Pipeline.eq_sum_fin_of_reset_step_apply_of_flush (fun n h => (outsAt0 m c n h).2.2.1) 8 (fun _ => (0 : EReal))
    (fun t y => lossPart (iblk m c 0 t) (iblk m c 1 t) (iblk m c 2 t) y) ?_ ?_ t h y]
  · intro t h y
    have hN := lt8 t
    rw [outsAt0_A m c t h (by omega) h (by omega)]
    frame_out
    exact ((payload9 _ _ _ y).trans (zero_add _).symm)
  · intro t h y
    rw [outsAt0_B m c t h (by omega) h (by omega)]
    frame_out
    exact payload1 _ _ _ _ y

/-- What the fourth result's block holds after the last of the eight points. -/
theorem acc_eq (c : Dev nD) (t : Fin cfg0.N) (h : t.val % 8 = 8 - 1) (y : S1x2048.Idx) :
    (outsAt0 m c t.val t.isLt).2.2.2 y = (fun _ => (0 : EReal)) y
      + ∑ s : Fin 8, part (iblk m c 0 ⟨8 * (t.val / 8) + s.val, Pipeline.run_point_lt_of_flush t h s⟩)
          (iblk m c 1 ⟨8 * (t.val / 8) + s.val, Pipeline.run_point_lt_of_flush t h s⟩)
          (iblk m c 2 ⟨8 * (t.val / 8) + s.val, Pipeline.run_point_lt_of_flush t h s⟩) y := by
  rw [Pipeline.eq_sum_fin_of_reset_step_apply_of_flush (fun n h => (outsAt0 m c n h).2.2.2) 8 (fun _ => (0 : EReal))
    (fun t y => part (iblk m c 0 t) (iblk m c 1 t) (iblk m c 2 t) y) ?_ ?_ t h y]
  · intro t h y
    have hN := lt8 t
    rw [outsAt0_A m c t h (by omega) h (by omega)]
    frame_out
    exact ((payload10 _ _ _ y).trans (zero_add _).symm)
  · intro t h y
    rw [outsAt0_B m c t h (by omega) h (by omega)]
    frame_out
    exact payload2 _ _ _ _ y

theorem ix2_of (y : S256x2048.Idx) : ∃ (r : Fin 256) (l : Fin 2048), y = ix2 r l := ⟨y 0, y 1, by funext i; fin_cases i <;> rfl⟩

/-- The gradient for the rows. -/
theorem gradient (c : Dev nD) : (dats m 0 c).arrAt 3 cfg0.N = Cert.FinalRefIdeal.Read.val_main_v50 (F := Ideal) (X m c) (G m c) (T m c) := by
  refine (dats m 0 c).arrAt_eq_of_covers 3 _ (by decide +kernel) fun t hf y => ?_
  blk_simp
  rw [after0_3]
  obtain ⟨r, l, rfl⟩ := ix2_of y
  have e : ((View.whole main_v1_0).slice (win0_3.rect t)).emb (ix2 r l) = ix2 (row t r) l := by blk_ext [idx t, row]
  have hN := lt8 t
  rw [e, ref_grad, ← block_eq m c t r l]
  by_cases h0 : t.val % 8 = 0
  · rw [outsAt0_A m c t h0 (by omega) h0 (by omega)]
    frame_out
    exact payload8 _ _ _ r l
  · rw [outsAt0_B m c t h0 (by omega) h0 (by omega)]
    frame_out
    exact payload8 _ _ _ r l

/-- The same, rounded. -/
theorem rounded (c : Dev nD) : (dats m 0 c).arrAt 4 cfg0.N = Cert.FinalRefIdeal.Read.val_main_v66 (F := Ideal) (X m c) (G m c) (T m c) := by
  refine (dats m 0 c).arrAt_eq_of_covers 4 _ (by decide +kernel) fun t hf y => ?_
  blk_simp
  rw [after0_4]
  obtain ⟨r, l, rfl⟩ := ix2_of y
  have e : ((View.whole main_v1_1).slice (win0_4.rect t)).emb (ix2 r l) = ix2 (row t r) l := by blk_ext [idx t, row]
  have hN := lt8 t
  rw [e, ref_rounded, ← block_eq m c t r l]
  by_cases h0 : t.val % 8 = 0
  · rw [outsAt0_A m c t h0 (by omega) h0 (by omega)]
    frame_out
    exact payload11 _ _ _ r l
  · rw [outsAt0_B m c t h0 (by omega) h0 (by omega)]
    frame_out
    exact payload11 _ _ _ r l

/-- The columns' parts of the loss. -/
theorem losses (c : Dev nD) : (dats m 0 c).arrAt 5 cfg0.N = Cert.FinalRefIdeal.Read.val_main_v72 (F := Ideal) (X m c) (G m c) (T m c) := by
  refine (dats m 0 c).arrAt_eq_of_covers 5 _ (by decide +kernel) fun t hf y => ?_
  have h7 : t.val % 8 = 7 := (flush0_5 t).mp hf
  blk_simp
  rw [after0_5, loss_acc m c t h7, zero_add]
  have e : ((View.whole main_v1_2).slice (win0_5.rect t)).emb y = y := by blk_ext [idx t]
  rw [e, ref_loss]
  unfold lossPart
  refine Fin.sum_mul_add_congr fun s r hl => ?_
  rw [← row_of t h7 s r hl]
  exact congrArg half_square (blk_err m c _ r (col y))

/-- The gradient of the norm's weight. -/
theorem weight (c : Dev nD) : (dats m 0 c).arrAt 6 cfg0.N = Cert.FinalRefIdeal.Read.val_main_v73 (F := Ideal) (X m c) (G m c) (T m c) := by
  refine (dats m 0 c).arrAt_eq_of_covers 6 _ (by decide +kernel) fun t hf y => ?_
  have h7 : t.val % 8 = 7 := (flush0_6 t).mp hf
  blk_simp
  rw [after0_6, acc_eq m c t h7, zero_add]
  have e : ((View.whole main_v1_3).slice (win0_6.rect t)).emb y = y := by blk_ext [idx t]
  rw [e, ref_weight]
  unfold part
  refine Fin.sum_mul_add_congr fun s r hl => ?_
  rw [← row_of t h7 s r hl]
  exact congrArg₂ (fun a b : EReal => slope a * b) (blk_err m c _ r (col y)) (congrArg (fun f => Norm.unit f (col y)) (blk_row m c _ r))

/-- The reference never faults and leaves its arguments. -/
theorem frame_ref : Cert.quiescent_FinalRefIdeal (hFinalRefIdeal := Cert.FinalRefIdeal.Gen.facts) := by
  intro m ρ _
  exact (θ_run _ _ _).mono (fun r h => ⟨fun c => (h c).2.2.2.2, sem_eq_zero_of_no_sems (by decide) _⟩) (Cert.FinalRefIdeal.Value.run m ρ)

/-- From equal arguments the call and its reference end with equal results. -/
theorem algebraic : Cert.algebraic_FinalIdeal_FinalRefIdeal (hFinalIdeal := Cert.FinalIdeal.Gen.facts)
    (hFinalRefIdeal := Cert.FinalRefIdeal.Gen.facts) := by
  pair_intro
  · run_from Cert.FinalIdeal.Value.run_blocks (F := Ideal) m g
  · run_from Cert.FinalRefIdeal.Value.run (F := Ideal) m' g'
    · rw [gradient]
      obtain ⟨h0, h1, h2⟩ := hagree c
      exact (Cert.FinalRefIdeal.Read.val_main_v50_eq (F := Ideal) m' c).trans
        (congr (congr (congrArg (Cert.FinalRefIdeal.Read.val_main_v50 (F := Ideal)) h0) h1) h2)
    · rw [rounded]
      obtain ⟨h0, h1, h2⟩ := hagree c
      exact (Cert.FinalRefIdeal.Read.val_main_v66_eq (F := Ideal) m' c).trans
        (congr (congr (congrArg (Cert.FinalRefIdeal.Read.val_main_v66 (F := Ideal)) h0) h1) h2)
    · rw [losses]
      exact Cert.FinalRefIdeal.Read.val_main_v72_eq (F := Ideal) _ _ _
    · rw [weight]
      exact Cert.FinalRefIdeal.Read.val_main_v73_eq (F := Ideal) _ _ _

end Cert.Proof.Final

end
-- ==== Proof.Glu.lean ====
/- The gated unit of the S5 branch. Point `i` of the eight has rows `256 i …`; it takes the gelu of the scan's output, multiplies it
   into the gate's weight, adds the bias (`argument`), and gates the gelu's value by the logistic of that (`unit`). The kernel
   multiplies the gelu's half into the number first (`gelu_eq`). -/
module

public import proofs.«01_k».proof.Defs
public import proofs.«01_k».proof.Proof.Gen.GluIdeal.Value
public import proofs.«01_k».proof.Proof.Gen.GluRefIdeal.Run
public import proofs.«01_k».proof.Proof.Gen.GluRefIdeal.Read
public import Idealize.ShloMosaic.Lib.Pointwise
public import Idealize.ShloMosaic.Lib.Pipeline.ValueKit
public import Idealize.ShloMosaic.Lib.Claim

@[expose] public section

set_option maxRecDepth 16384

noncomputable section

namespace Cert.Proof.Glu

open Cert.GluIdeal Cert.GluIdeal.Gen Idealize.ShloMosaic Idealize.ShloMosaic.TcCoe Idealize.SL.Sem

/-- The gelu of one number, by the tanh. -/
def gelu (x : EReal) : EReal :=
  x * (Ideal.ofBits .f32 0x3F000000#32
    * (1 + Ideal.tanh (Ideal.ofBits .f32 0x3F4C422A#32 * (x + Ideal.ofBits .f32 0x3D372713#32 * (x * x * x)))))

/-- The kernel multiplies the half into the number first. -/
theorem gelu_eq (x : EReal) : Ideal.ofBits .f32 0x3F000000#32 * x
    * (1 + Ideal.tanh (Ideal.ofBits .f32 0x3F4C422A#32 * (x + Ideal.ofBits .f32 0x3D372713#32 * (x * x * x)))) = gelu x := by
  rw [gelu, mul_comm (Ideal.ofBits .f32 0x3F000000#32) x]
  exact mul_assoc _ _ _

/-- The gate's argument at row `r` and column `l`. -/
def gate (y : FVec Ideal S2048x1024 .f32) (w : FVec Ideal S1024x1024 .f32) (b : FVec Ideal S1024 .f32) (r : Fin 2048) (l : Fin 1024) : EReal :=
  (∑ k : Fin 1024, gelu (y (ix2 r k)) * w (ix2 k l)) + b (ix1 l)

section Block
variable (y : Vec Ideal S256x1024 .f32) (w : Vec Ideal S1024x1024 .bf16) (y' : Vec Ideal S256x1024 .f32) (b : Vec Ideal S1x1024 .f32)
  (r : Fin 256) (l : Fin 1024)

theorem payload2 : k0_pay2 y w b (ix2 r l) = (∑ k : Fin 1024, gelu (y (ix2 r k)) * w (ix2 k l)) + b (ix2 0 l) := by
  simp only [← gelu_eq]
  pointwise [k0_pay2]

theorem payload3 : k0_pay1 (k0_pay3 y w y' b) (ix2 r l) = gelu (y' (ix2 r l)) * Ideal.logistic (k0_pay2 y w b (ix2 r l)) := by
  simp only [← gelu_eq]
  pointwise [k0_pay1, k0_pay3]

end Block

section Reference
open Cert.GluRefIdeal.Read
variable (y : FVec Ideal S2048x1024 .f32) (w : FVec Ideal S1024x1024 .f32) (b : FVec Ideal S1024 .f32) (r : Fin 2048) (l : Fin 1024)

theorem ref12_apply : val_main_v12 (F := Ideal) y (ix2 r l) = gelu (y (ix2 r l)) := by
  unfold gelu
  simp only [val_main_v12, val_main_v11, val_main_v10, val_main_v9, val_main_v8, val_main_v7, val_main_v6, val_main_v5, val_main_v4, val_main_v3, val_main_v2, val_main_v1, val_main_v0,
    val_main_cst, val_main_cst_0, val_main_cst_1, val_main_cst_2]
  pointwise

theorem ref16_apply : val_main_v16 (F := Ideal) y w b (ix2 r l) = gate y w b r l := by
  unfold gate
  simp only [← ref12_apply, val_main_v16, val_main_v15, val_main_v14, val_main_v13]
  pointwise

theorem ref24_apply : val_main_v24 (F := Ideal) y w b (ix2 r l) = gelu (y (ix2 r l)) * Ideal.logistic (gate y w b r l) := by
  unfold Ideal.logistic
  rw [← ref12_apply, ← ref16_apply]
  simp only [val_main_v24, val_main_v23, val_main_v22, val_main_v21, val_main_v20, val_main_v19, val_main_v18, val_main_v17,
    val_main_cst_3, val_main_cst_4]
  pointwise

end Reference

variable (m : (ℓ : Loc nD τ sig) → Buf (Elt Ideal) ℓ)

theorem idx : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![t.val, 0] :=
  (by decide +kernel : ∀ t : Fin grid0.N, _)

theorem lt8 (t : Fin cfg0.N) : t.val < 8 := t.isLt

/-- The row of the whole arrays under row `r` of point `t`'s block. -/
def row (t : Fin cfg0.N) (r : Fin 256) : Fin 2048 := ⟨t.val * 256 + r.val, by have := lt8 t; omega⟩

abbrev Y (c : Dev nD) : FVec Ideal S2048x1024 .f32 := m (c, Proc.tc.devRef main_arg0)
abbrev W (c : Dev nD) : FVec Ideal S1024x1024 .f32 := m (c, Proc.tc.devRef main_arg1)
abbrev B (c : Dev nD) : FVec Ideal S1024 .f32 := m (c, Proc.tc.devRef main_arg2)

/-- The bias as one row. -/
def biasRow (b : FVec Ideal S1024 .f32) : FVec Ideal S1x1024 .f32 := shapeCast S1x1024 b shapeCasts_S1024_S1x1024

theorem biasRow_apply (b : FVec Ideal S1024 .f32) (l : Fin 1024) : biasRow b (ix2 0 l) = b (ix1 l) := by
  pointwise [biasRow]

open StableHlo in
theorem V_v0 (c : Dev nD) : V m c main_v0 = W m c := by
  show StableHlo.after _ _ _ = _
  after_results_simp <;> rfl

open StableHlo in
theorem V_v1 (c : Dev nD) : V m c main_v1 = biasRow (B m c) := by
  show StableHlo.after _ _ _ = _
  after_results_simp <;> rfl

theorem blk0 (c : Dev nD) (t : Fin cfg0.N) (r : Fin 256) (k : Fin 1024) : iblk m c 0 t (ix2 r k) = Y m c (ix2 (row t r) k) := by blk_ext [iblk, idx t, row]

theorem blk1 (c : Dev nD) (t : Fin cfg0.N) (k l : Fin 1024) : iblk m c 1 t (ix2 k l) = W m c (ix2 k l) := by
  have e : iblk m c 1 t (ix2 k l) = V m c main_v0 (ix2 k l) := by blk_ext [iblk, idx t]
  rw [e, V_v0]

theorem blk2 (c : Dev nD) (t : Fin cfg0.N) (r : Fin 256) (k : Fin 1024) : iblk m c 2 t (ix2 r k) = Y m c (ix2 (row t r) k) := by blk_ext [iblk, idx t, row]

theorem blk3 (c : Dev nD) (t : Fin cfg0.N) (l : Fin 1024) : iblk m c 3 t (ix2 0 l) = B m c (ix1 l) := by
  have e : iblk m c 3 t (ix2 0 l) = V m c main_v1 (ix2 0 l) := by blk_ext [iblk, idx t]
  rw [e, V_v1, biasRow_apply]

/-- A block of the gate's argument, whose operands are these rows, is the whole one there. -/
theorem block_eq (y : FVec Ideal S2048x1024 .f32) (w : FVec Ideal S1024x1024 .f32) (b : FVec Ideal S1024 .f32)
    (yb : Vec Ideal S256x1024 .f32) (wb : Vec Ideal S1024x1024 .bf16) (bb : Vec Ideal S1x1024 .f32) (r : Fin 256) (l : Fin 1024)
    (R : Fin 2048) (hy : ∀ k : Fin 1024, yb (ix2 r k) = y (ix2 R k)) (hw : ∀ k : Fin 1024, wb (ix2 k l) = w (ix2 k l))
    (hb : bb (ix2 0 l) = b (ix1 l)) : k0_pay2 yb wb bb (ix2 r l) = gate y w b R l := by
  rw [payload2, gate, hb, Finset.sum_congr rfl fun k _ => by rw [hy, hw]]

theorem gate_at (c : Dev nD) (t : Fin cfg0.N) (r : Fin 256) (l : Fin 1024) :
    k0_pay2 (iblk m c 0 t) (iblk m c 1 t) (iblk m c 3 t) (ix2 r l) = gate (Y m c) (W m c) (B m c) (row t r) l :=
  block_eq (Y m c) (W m c) (B m c) _ _ _ r l _ (fun k => blk0 m c t r k) (fun k => blk1 m c t k l) (blk3 m c t l)

theorem ix2_of (y : S256x1024.Idx) : ∃ (r : Fin 256) (l : Fin 1024), y = ix2 r l := ⟨y 0, y 1, by funext i; fin_cases i <;> rfl⟩

/-- The gate's argument. -/
theorem argument (c : Dev nD) : (dats m 0 c).arrAt 4 cfg0.N = Cert.GluRefIdeal.Read.val_main_v16 (F := Ideal) (Y m c) (W m c) (B m c) := by
  refine (dats m 0 c).arrAt_eq_of_covers 4 _ (by decide +kernel) fun t hf y => ?_
  blk_simp
  rw [after0_4]
  frame_out
  obtain ⟨r, l, rfl⟩ := ix2_of y
  have e : ((View.whole main_v2_0).slice (win0_4.rect t)).emb (ix2 r l) = ix2 (row t r) l := by blk_ext [idx t, row]
  rw [e]
  exact (gate_at m c t r l).trans (ref16_apply _ _ _ _ _).symm

/-- The gated unit's value. -/
theorem unit (c : Dev nD) : (dats m 0 c).arrAt 5 cfg0.N = Cert.GluRefIdeal.Read.val_main_v24 (F := Ideal) (Y m c) (W m c) (B m c) := by
  refine (dats m 0 c).arrAt_eq_of_covers 5 _ (by decide +kernel) fun t hf y => ?_
  blk_simp
  rw [after0_5]
  frame_out
  obtain ⟨r, l, rfl⟩ := ix2_of y
  have e : ((View.whole main_v2_1).slice (win0_5.rect t)).emb (ix2 r l) = ix2 (row t r) l := by blk_ext [idx t, row]
  rw [e]
  refine Eq.trans (payload3 _ _ _ _ r l) ?_
  rw [gate_at m c t r l, blk2 m c t r l, ref24_apply]

/-- The reference never faults and leaves its arguments. -/
theorem frame_ref : Cert.quiescent_GluRefIdeal (hGluRefIdeal := Cert.GluRefIdeal.Gen.facts) := by
  intro m ρ _
  exact (θ_run _ _ _).mono (fun r h => ⟨fun c => (h c).2.2, sem_eq_zero_of_no_sems (by decide) _⟩) (Cert.GluRefIdeal.Value.run m ρ)

/-- From equal arguments the call and its reference end with equal results. -/
theorem algebraic : Cert.algebraic_GluIdeal_GluRefIdeal (hGluIdeal := Cert.GluIdeal.Gen.facts)
    (hGluRefIdeal := Cert.GluRefIdeal.Gen.facts) := by
  pair_intro
  · run_from Cert.GluIdeal.Value.run_blocks (F := Ideal) m g
  · run_from Cert.GluRefIdeal.Value.run (F := Ideal) m' g'
    · rw [argument]
      exact Cert.GluRefIdeal.Read.val_main_v16_eq (F := Ideal) _ _ _
    · rw [unit]
      exact Cert.GluRefIdeal.Read.val_main_v24_eq (F := Ideal) _ _ _

end Cert.Proof.Glu

end
-- ==== Proof.GluDw.lean ====
/- The gradient of the S5 gate's weight. Point `i` of the four has columns `256 i …` of the scan's output, takes their gelu, and
   multiplies it with the cotangent (`gradient`). -/
module

public import proofs.«01_k».proof.Defs
public import proofs.«01_k».proof.Proof.Gen.GluDwIdeal.Value
public import proofs.«01_k».proof.Proof.Gen.GluDwRefIdeal.Run
public import proofs.«01_k».proof.Proof.Gen.GluDwRefIdeal.Read
public import Idealize.ShloMosaic.Lib.Pointwise
public import Idealize.ShloMosaic.Lib.Pipeline.ValueKit
public import Idealize.ShloMosaic.Lib.Claim

@[expose] public section

set_option maxRecDepth 16384

noncomputable section

namespace Cert.Proof.GluDw

open Cert.GluDwIdeal Cert.GluDwIdeal.Gen Idealize.ShloMosaic Idealize.ShloMosaic.TcCoe Idealize.SL.Sem

/-- The gelu of one number, by the tanh. -/
def gelu (x : EReal) : EReal :=
  x * (Ideal.ofBits .f32 0x3F000000#32
    * (1 + Ideal.tanh (Ideal.ofBits .f32 0x3F4C422A#32 * (x + Ideal.ofBits .f32 0x3D372713#32 * (x * x * x)))))

/-- The kernel multiplies the half into the number first. -/
theorem gelu_eq (x : EReal) : Ideal.ofBits .f32 0x3F000000#32 * x
    * (1 + Ideal.tanh (Ideal.ofBits .f32 0x3F4C422A#32 * (x + Ideal.ofBits .f32 0x3D372713#32 * (x * x * x)))) = gelu x := by
  rw [gelu, mul_comm (Ideal.ofBits .f32 0x3F000000#32) x]
  exact mul_assoc _ _ _

/-- One block of the gradient, read at an index. -/
theorem payload (y : Vec Ideal S2048x256 .f32) (q : Vec Ideal S2048x1024 .bf16) (r : Fin 256) (l : Fin 1024) :
    k0_pay1 y q (ix2 r l) = ∑ k : Fin 2048, gelu (y (ix2 k r)) * q (ix2 k l) := by
  simp only [← gelu_eq]
  pointwise [k0_pay1]

section Reference
open Cert.GluDwRefIdeal.Read

theorem ref13_apply (y : FVec Ideal S2048x1024 .f32) (k : Fin 2048) (r : Fin 1024) : val_main_v13 (F := Ideal) y (ix2 k r) = gelu (y (ix2 k r)) := by
  unfold gelu
  simp only [val_main_v13, val_main_v12, val_main_v11, val_main_v10, val_main_v9, val_main_v8, val_main_v7, val_main_v6, val_main_v5, val_main_v4, val_main_v3, val_main_v2, val_main_v1,
    val_main_cst_0, val_main_cst_1, val_main_cst_2, val_main_cst_3]
  pointwise

/-- The reference's gradient, read at an index. -/
theorem ref_apply (y q : FVec Ideal S2048x1024 .f32) (r l : Fin 1024) :
    val_main_v16 (F := Ideal) y q (ix2 r l) = ∑ k : Fin 2048, gelu (y (ix2 k r)) * q (ix2 k l) := by
  simp only [← ref13_apply, val_main_v16, val_main_v15]
  pointwise
  exact Finset.sum_congr rfl fun k _ => mul_comm _ _

end Reference

variable (m : (ℓ : Loc nD τ sig) → Buf (Elt Ideal) ℓ)

theorem idx : ∀ t : Fin cfg0.N, win0_0.index t = ![0, t.val]
    ∧ win0_1.index t = ![0, 0]
    ∧ win0_2.index t = ![t.val, 0] :=
  (by decide +kernel : ∀ t : Fin grid0.N, _)

theorem lt4 (t : Fin cfg0.N) : t.val < 4 := t.isLt

/-- The row of the gradient under row `r` of point `t`'s block. -/
def row (t : Fin cfg0.N) (r : Fin 256) : Fin 1024 := ⟨t.val * 256 + r.val, by have := lt4 t; omega⟩

abbrev Y (c : Dev nD) : FVec Ideal S2048x1024 .f32 := m (c, Proc.tc.devRef main_arg0)
abbrev Q (c : Dev nD) : FVec Ideal S2048x1024 .f32 := m (c, Proc.tc.devRef main_arg1)

open StableHlo in
theorem V_v0 (c : Dev nD) : V m c main_v0 = Q m c := by
  show StableHlo.after _ _ _ = _
  after_results_simp <;> rfl

theorem blk0 (c : Dev nD) (t : Fin cfg0.N) (k : Fin 2048) (r : Fin 256) : iblk m c 0 t (ix2 k r) = Y m c (ix2 k (row t r)) := by blk_ext [iblk, idx t, row]

theorem blk1 (c : Dev nD) (t : Fin cfg0.N) (k : Fin 2048) (l : Fin 1024) : iblk m c 1 t (ix2 k l) = Q m c (ix2 k l) := by
  have e : iblk m c 1 t (ix2 k l) = V m c main_v0 (ix2 k l) := by blk_ext [iblk, idx t]
  rw [e, V_v0]

/-- A block whose operands are these columns is the reference's gradient there. -/
theorem block_eq (y q : FVec Ideal S2048x1024 .f32) (yb : Vec Ideal S2048x256 .f32) (qb : Vec Ideal S2048x1024 .bf16)
    (r : Fin 256) (l : Fin 1024) (R : Fin 1024) (hy : ∀ k : Fin 2048, yb (ix2 k r) = y (ix2 k R))
    (hq : ∀ k : Fin 2048, qb (ix2 k l) = q (ix2 k l)) :
    k0_pay1 yb qb (ix2 r l) = Cert.GluDwRefIdeal.Read.val_main_v16 (F := Ideal) y q (ix2 R l) := by
  rw [payload, ref_apply]
  exact Finset.sum_congr rfl fun k _ => by rw [hy, hq]

theorem ix2_of (y : S256x1024.Idx) : ∃ (r : Fin 256) (l : Fin 1024), y = ix2 r l := ⟨y 0, y 1, by funext i; fin_cases i <;> rfl⟩

/-- The gradient of the gate's weight. -/
theorem gradient (c : Dev nD) : (dats m 0 c).arrAt 2 cfg0.N = Cert.GluDwRefIdeal.Read.val_main_v16 (F := Ideal) (Y m c) (Q m c) := by
  refine (dats m 0 c).arrAt_eq_of_covers 2 _ (by decide +kernel) fun t hf y => ?_
  blk_simp
  rw [after0_2]
  frame_out
  obtain ⟨r, l, rfl⟩ := ix2_of y
  have e : ((View.whole main_v1).slice (win0_2.rect t)).emb (ix2 r l) = ix2 (row t r) l := by blk_ext [idx t, row]
  rw [e]
  exact block_eq (Y m c) (Q m c) _ _ r l (row t r) (fun k => blk0 m c t k r) (fun k => blk1 m c t k l)

/-- The reference never faults and leaves its arguments. -/
theorem frame_ref : Cert.quiescent_GluDwRefIdeal (hGluDwRefIdeal := Cert.GluDwRefIdeal.Gen.facts) := by
  intro m ρ _
  exact (θ_run _ _ _).mono (fun r h => ⟨fun c => (h c).2, sem_eq_zero_of_no_sems (by decide) _⟩) (Cert.GluDwRefIdeal.Value.run m ρ)

/-- From equal arguments the call and its reference end with equal results. -/
theorem algebraic : Cert.algebraic_GluDwIdeal_GluDwRefIdeal (hGluDwIdeal := Cert.GluDwIdeal.Gen.facts)
    (hGluDwRefIdeal := Cert.GluDwRefIdeal.Gen.facts) := by
  pair_intro
  · run_from Cert.GluDwIdeal.Value.run_blocks (F := Ideal) m g
  · run_from Cert.GluDwRefIdeal.Value.run (F := Ideal) m' g'
    obtain ⟨h0, h1⟩ := hagree c
    rw [gradient, Y, Q, ← h0, ← h1]
    exact Cert.GluDwRefIdeal.Read.val_main_v16_eq (F := Ideal) _ _

end Cert.Proof.GluDw

end
-- ==== Proof.MixOut.lean ====
/- The mixer's output product, with the residual stream added in its epilogue. The grid has 2 × 2 points; point `2 i + n`
   has rows `1024 i …` of the merged branches and columns `1024 n …` of the weight, so each block is the reference's there
   (`added`). -/
module

public import proofs.«01_k».proof.Defs
public import proofs.«01_k».proof.Proof.Gen.MixOutIdeal.Value
public import proofs.«01_k».proof.Proof.Gen.MixOutRefIdeal.Run
public import proofs.«01_k».proof.Proof.Gen.MixOutRefIdeal.Read
public import Idealize.ShloMosaic.Lib.Pointwise
public import Idealize.ShloMosaic.Lib.Pipeline.ValueKit
public import Idealize.ShloMosaic.Lib.Claim

@[expose] public section

set_option maxRecDepth 16384

noncomputable section

namespace Cert.Proof.MixOut

open Cert.MixOutIdeal Cert.MixOutIdeal.Gen Idealize.ShloMosaic Idealize.ShloMosaic.TcCoe Idealize.SL.Sem

/-- The product of the merged branches with the output weight, at row `r` and column `l`. -/
def dot (x w : FVec Ideal S2048x2048 .f32) (r l : Fin 2048) : EReal := ∑ k : Fin 2048, x (ix2 r k) * w (ix2 k l)

/-- One block, read at an index. -/
theorem payload (x : Vec Ideal S1024x2048 .bf16) (w : Vec Ideal S2048x1024 .bf16) (h : Vec Ideal S1024x1024 .f32) (r l : Fin 1024) :
    k0_pay1 x w h (ix2 r l) = h (ix2 r l) + ∑ k : Fin 2048, x (ix2 r k) * w (ix2 k l) := by
  pointwise [k0_pay1]

/-- The reference's result, read at an index. -/
theorem ref_apply (h x w : FVec Ideal S2048x2048 .f32) (r l : Fin 2048) :
    Cert.MixOutRefIdeal.Read.val_main_v1 (F := Ideal) h x w (ix2 r l) = h (ix2 r l) + dot x w r l := by
  unfold dot
  simp only [Cert.MixOutRefIdeal.Read.val_main_v1, Cert.MixOutRefIdeal.Read.val_main_v0]
  pointwise

variable (m : (ℓ : Loc nD τ sig) → Buf (Elt Ideal) ℓ)

theorem idx : ∀ t : Fin cfg0.N, win0_0.index t = ![t.val / 2, 0]
    ∧ win0_1.index t = ![0, t.val % 2]
    ∧ win0_2.index t = ![t.val / 2, t.val % 2]
    ∧ win0_3.index t = ![t.val / 2, t.val % 2] :=
  (by decide +kernel : ∀ t : Fin grid0.N, _)

theorem lt4 (t : Fin cfg0.N) : t.val < 4 := t.isLt

/-- The rows and columns of the whole arrays under point `t`'s block. -/
def row (t : Fin cfg0.N) (r : Fin 1024) : Fin 2048 := ⟨t.val / 2 * 1024 + r.val, by have := lt4 t; omega⟩
def col (t : Fin cfg0.N) (l : Fin 1024) : Fin 2048 := ⟨t.val % 2 * 1024 + l.val, by omega⟩

abbrev H (c : Dev nD) : FVec Ideal S2048x2048 .f32 := m (c, Proc.tc.devRef main_arg0)
abbrev X (c : Dev nD) : FVec Ideal S2048x2048 .f32 := m (c, Proc.tc.devRef main_arg1)
abbrev W (c : Dev nD) : FVec Ideal S2048x2048 .f32 := m (c, Proc.tc.devRef main_arg2)

open StableHlo in
theorem V_v0 (c : Dev nD) : V m c main_v0 = X m c := by
  show StableHlo.after _ _ _ = _
  after_results_simp <;> rfl

open StableHlo in
theorem V_v1 (c : Dev nD) : V m c main_v1 = W m c := by
  show StableHlo.after _ _ _ = _
  after_results_simp <;> rfl

theorem blk0 (c : Dev nD) (t : Fin cfg0.N) (r : Fin 1024) (k : Fin 2048) : iblk m c 0 t (ix2 r k) = X m c (ix2 (row t r) k) := by
  have e : iblk m c 0 t (ix2 r k) = V m c main_v0 (ix2 (row t r) k) := by blk_ext [iblk, idx t, row]
  rw [e, V_v0]

theorem blk1 (c : Dev nD) (t : Fin cfg0.N) (k : Fin 2048) (l : Fin 1024) : iblk m c 1 t (ix2 k l) = W m c (ix2 k (col t l)) := by
  have e : iblk m c 1 t (ix2 k l) = V m c main_v1 (ix2 k (col t l)) := by blk_ext [iblk, idx t, col]
  rw [e, V_v1]

theorem blk2 (c : Dev nD) (t : Fin cfg0.N) (r l : Fin 1024) : iblk m c 2 t (ix2 r l) = H m c (ix2 (row t r) (col t l)) := by blk_ext [iblk, idx t, row, col]

/-- A block whose operands are these rows and columns is the reference's result there. -/
theorem block_eq (h x w : FVec Ideal S2048x2048 .f32) (xb : Vec Ideal S1024x2048 .bf16) (wb : Vec Ideal S2048x1024 .bf16)
    (hb : Vec Ideal S1024x1024 .f32) (r l : Fin 1024) (R L : Fin 2048) (hx : ∀ k : Fin 2048, xb (ix2 r k) = x (ix2 R k))
    (hw : ∀ k : Fin 2048, wb (ix2 k l) = w (ix2 k L)) (hh : hb (ix2 r l) = h (ix2 R L)) :
    k0_pay1 xb wb hb (ix2 r l) = Cert.MixOutRefIdeal.Read.val_main_v1 (F := Ideal) h x w (ix2 R L) := by
  rw [payload, ref_apply, dot, hh]
  exact congrArg _ (Finset.sum_congr rfl fun k _ => by rw [hx, hw])

theorem ix2_of (y : S1024x1024.Idx) : ∃ (r : Fin 1024) (l : Fin 1024), y = ix2 r l := ⟨y 0, y 1, by funext i; fin_cases i <;> rfl⟩

/-- The residual stream with the mixer's output added. -/
theorem added (c : Dev nD) : (dats m 0 c).arrAt 3 cfg0.N = Cert.MixOutRefIdeal.Read.val_main_v1 (F := Ideal) (H m c) (X m c) (W m c) := by
  refine (dats m 0 c).arrAt_eq_of_covers 3 _ (by decide +kernel) fun t hf y => ?_
  blk_simp
  rw [after0_3]
  frame_out
  obtain ⟨r, l, rfl⟩ := ix2_of y
  have e : ((View.whole main_v2).slice (win0_3.rect t)).emb (ix2 r l) = ix2 (row t r) (col t l) := by blk_ext [idx t, row, col]
  rw [e]
  exact block_eq (H m c) (X m c) (W m c) _ _ _ r l (row t r) (col t l) (fun k => blk0 m c t r k) (fun k => blk1 m c t k l)
    (blk2 m c t r l)

/-- The reference never faults and leaves its arguments. -/
theorem frame_ref : Cert.quiescent_MixOutRefIdeal (hMixOutRefIdeal := Cert.MixOutRefIdeal.Gen.facts) := by
  intro m ρ _
  exact (θ_run _ _ _).mono (fun r h => ⟨fun c => (h c).2, sem_eq_zero_of_no_sems (by decide) _⟩) (Cert.MixOutRefIdeal.Value.run m ρ)

/-- From equal arguments the call and its reference end with equal results. -/
theorem algebraic : Cert.algebraic_MixOutIdeal_MixOutRefIdeal (hMixOutIdeal := Cert.MixOutIdeal.Gen.facts)
    (hMixOutRefIdeal := Cert.MixOutRefIdeal.Gen.facts) := by
  pair_intro
  · run_from Cert.MixOutIdeal.Value.run_blocks (F := Ideal) m g
  · run_from Cert.MixOutRefIdeal.Value.run (F := Ideal) m' g'
    obtain ⟨h0, h1, h2⟩ := hagree c
    rw [added, H, X, W, ← h0, ← h1, ← h2]
    exact Cert.MixOutRefIdeal.Read.val_main_v1_eq (F := Ideal) _ _ _

end Cert.Proof.MixOut

end
-- ==== Proof.MixOutB.lean ====
/- The backward call of the mixer's output product, with the gradients of the merge in its epilogue. The grid has 2 × 4 points;
   point `4 i + n` has rows `1024 i …` of the cotangent and rows `512 n …` of the weight, and multiplies the block's product into
   that block of each of the four derivatives of the merge. The reference multiplies the same numbers in another order. -/
module

public import proofs.«01_k».proof.Defs
public import proofs.«01_k».proof.Proof.Gen.MixOutBIdeal.Value
public import proofs.«01_k».proof.Proof.Gen.MixOutBRefIdeal.Run
public import proofs.«01_k».proof.Proof.Gen.MixOutBRefIdeal.Read
public import Idealize.ShloMosaic.Lib.Pointwise
public import Idealize.ShloMosaic.Lib.Pipeline.ValueKit
public import Idealize.ShloMosaic.Lib.Claim

@[expose] public section

set_option maxRecDepth 16384

noncomputable section

namespace Cert.Proof.MixOutB

open Cert.MixOutBIdeal Cert.MixOutBIdeal.Gen Idealize.ShloMosaic Idealize.ShloMosaic.TcCoe Idealize.SL.Sem

/-- The cotangent of the merged branches at one index. -/
def dot (w dh : FVec Ideal S2048x2048 .f32) (r l : Fin 2048) : EReal := ∑ k : Fin 2048, dh (ix2 r k) * w (ix2 l k)

section Block
variable (h : Vec Ideal S1024x2048 .bf16) (w : Vec Ideal S512x2048 .bf16) (f : Vec Ideal S1024x512 .bf16) (r : Fin 1024) (l : Fin 512)

/-- The product that a block multiplies its factor into. -/
def part : EReal := ∑ k : Fin 2048, h (ix2 r k) * w (ix2 l k)

theorem payload2 : k0_pay2 h w f (ix2 r l) = part h w r l * f (ix2 r l) := by
  unfold part
  pointwise [k0_pay2, k0_pay1]

theorem payload3 : k0_pay3 h w f (ix2 r l) = part h w r l * f (ix2 r l) := by
  unfold part
  pointwise [k0_pay3, k0_pay1]

theorem payload4 : k0_pay4 h w f (ix2 r l) = part h w r l * f (ix2 r l) := by
  unfold part
  pointwise [k0_pay4, k0_pay1]

theorem payload5 : k0_pay5 h w f (ix2 r l) = part h w r l * f (ix2 r l) := by
  unfold part
  pointwise [k0_pay5, k0_pay1]

end Block

open Cert.MixOutBRefIdeal.Read

/-- The merge's derivatives that the forward pass keeps: in a branch, and in the gate of the branch `z`. -/
def branchFactor (g : FVec Ideal S2048x2048 .f32) : FVec Ideal S2048x2048 .bf16 :=
  truncf .bf16 (mulf (val_main_v5 (F := Ideal) g) (constant S2048x2048 .f32 0x3F800000#32)) bitsLt_bf16_f32
def gateFactor (z g : FVec Ideal S2048x2048 .f32) : FVec Ideal S2048x2048 .bf16 :=
  truncf .bf16 (mulf (mulf (constant S2048x2048 .f32 0x3F800000#32) z) (val_main_v8 (F := Ideal) g)) bitsLt_bf16_f32

/-- The derivative of the logistic function. -/
def slope (x : EReal) : EReal := Ideal.logistic x * (1 - Ideal.logistic x)

section Reference
variable (z g w dh : FVec Ideal S2048x2048 .f32) (r l : Fin 2048)

theorem branch_apply : branchFactor g (ix2 r l) = Ideal.logistic (g (ix2 r l)) := by
  unfold Ideal.logistic
  simp only [branchFactor, val_main_v5, val_main_v4, val_main_v3, val_main_v2, val_main_v1, val_main_v0, val_main_cst, val_main_cst_0]
  pointwise

theorem gate_apply : gateFactor z g (ix2 r l) = z (ix2 r l) * slope (g (ix2 r l)) := by
  unfold slope Ideal.logistic
  simp only [gateFactor, val_main_v8, val_main_v7, val_main_v6, val_main_v5, val_main_v4, val_main_v3, val_main_v2, val_main_v1,
    val_main_v0, val_main_cst, val_main_cst_0, val_main_cst_1]
  pointwise

theorem ref29_apply : val_main_v29 (F := Ideal) g w dh (ix2 r l) = Ideal.logistic (g (ix2 r l)) * dot w dh r l := by
  unfold dot Ideal.logistic
  simp only [val_main_v29, val_main_v26, val_main_v22, val_main_v5, val_main_v4, val_main_v3, val_main_v2, val_main_v1, val_main_v0,
    val_main_cst, val_main_cst_0]
  pointwise

theorem ref30_apply : val_main_v30 (F := Ideal) g w dh (ix2 r l) = Ideal.logistic (g (ix2 r l)) * dot w dh r l := by
  unfold dot Ideal.logistic
  simp only [val_main_v30, val_main_v23, val_main_v22, val_main_v15, val_main_v14, val_main_v13, val_main_v12, val_main_v11,
    val_main_v10, val_main_cst_2, val_main_cst_3]
  pointwise

theorem ref31_apply : val_main_v31 (F := Ideal) z g w dh (ix2 r l) = dot w dh r l * z (ix2 r l) * slope (g (ix2 r l)) := by
  unfold dot slope Ideal.logistic
  simp only [val_main_v31, val_main_v28, val_main_v27, val_main_v22, val_main_v8, val_main_v7, val_main_v6, val_main_v5, val_main_v4,
    val_main_v3, val_main_v2, val_main_v1, val_main_v0, val_main_cst, val_main_cst_0, val_main_cst_1]
  pointwise

theorem ref32_apply : val_main_v32 (F := Ideal) z g w dh (ix2 r l) = dot w dh r l * z (ix2 r l) * slope (g (ix2 r l)) := by
  unfold dot slope Ideal.logistic
  simp only [val_main_v32, val_main_v25, val_main_v24, val_main_v22, val_main_v18, val_main_v17, val_main_v16, val_main_v15,
    val_main_v14, val_main_v13, val_main_v12, val_main_v11, val_main_v10, val_main_cst_2, val_main_cst_3, val_main_cst_4]
  pointwise

end Reference

variable (m : (ℓ : Loc nD τ sig) → Buf (Elt Ideal) ℓ)

theorem idx : ∀ t : Fin cfg0.N, win0_0.index t = ![t.val / 4, 0]
    ∧ win0_1.index t = ![t.val % 4, 0]
    ∧ win0_2.index t = ![t.val / 4, t.val % 4]
    ∧ win0_3.index t = ![t.val / 4, t.val % 4]
    ∧ win0_4.index t = ![t.val / 4, t.val % 4]
    ∧ win0_5.index t = ![t.val / 4, t.val % 4]
    ∧ win0_6.index t = ![t.val / 4, t.val % 4]
    ∧ win0_7.index t = ![t.val / 4, t.val % 4]
    ∧ win0_8.index t = ![t.val / 4, t.val % 4]
    ∧ win0_9.index t = ![t.val / 4, t.val % 4] :=
  (by decide +kernel : ∀ t : Fin grid0.N, _)

theorem lt8 (t : Fin cfg0.N) : t.val < 8 := t.isLt

/-- The rows and columns of the whole arrays under point `t`'s block. -/
def row (t : Fin cfg0.N) (r : Fin 1024) : Fin 2048 := ⟨t.val / 4 * 1024 + r.val, by have := lt8 t; omega⟩
def col (t : Fin cfg0.N) (l : Fin 512) : Fin 2048 := ⟨t.val % 4 * 512 + l.val, by omega⟩

abbrev Za (c : Dev nD) : FVec Ideal S2048x2048 .f32 := m (c, Proc.tc.devRef main_arg0)
abbrev Zb (c : Dev nD) : FVec Ideal S2048x2048 .f32 := m (c, Proc.tc.devRef main_arg1)
abbrev Ga (c : Dev nD) : FVec Ideal S2048x2048 .f32 := m (c, Proc.tc.devRef main_arg2)
abbrev Gb (c : Dev nD) : FVec Ideal S2048x2048 .f32 := m (c, Proc.tc.devRef main_arg3)
abbrev W (c : Dev nD) : FVec Ideal S2048x2048 .f32 := m (c, Proc.tc.devRef main_arg4)
abbrev Dh (c : Dev nD) : FVec Ideal S2048x2048 .f32 := m (c, Proc.tc.devRef main_arg5)

open StableHlo in
theorem V_v0 (c : Dev nD) : V m c main_v0 = Dh m c := by
  show StableHlo.after _ _ _ = _
  after_results_simp <;> rfl

open StableHlo in
theorem V_v1 (c : Dev nD) : V m c main_v1 = W m c := by
  show StableHlo.after _ _ _ = _
  after_results_simp <;> rfl

open StableHlo in
theorem V_v30 (c : Dev nD) : V m c main_v30 = branchFactor (Ga m c) := by
  show StableHlo.after _ _ _ = _
  after_results_simp <;> rfl

open StableHlo in
theorem V_v31 (c : Dev nD) : V m c main_v31 = branchFactor (Gb m c) := by
  show StableHlo.after _ _ _ = _
  after_results_simp <;> rfl

open StableHlo in
theorem V_v32 (c : Dev nD) : V m c main_v32 = gateFactor (Za m c) (Ga m c) := by
  show StableHlo.after _ _ _ = _
  after_results_simp <;> rfl

open StableHlo in
theorem V_v33 (c : Dev nD) : V m c main_v33 = gateFactor (Zb m c) (Gb m c) := by
  show StableHlo.after _ _ _ = _
  after_results_simp <;> rfl

theorem blk0 (c : Dev nD) (t : Fin cfg0.N) (r : Fin 1024) (k : Fin 2048) : iblk m c 0 t (ix2 r k) = Dh m c (ix2 (row t r) k) := by
  have e : iblk m c 0 t (ix2 r k) = V m c main_v0 (ix2 (row t r) k) := by blk_ext [iblk, idx t, row]
  rw [e, V_v0]

theorem blk1 (c : Dev nD) (t : Fin cfg0.N) (l : Fin 512) (k : Fin 2048) : iblk m c 1 t (ix2 l k) = W m c (ix2 (col t l) k) := by
  have e : iblk m c 1 t (ix2 l k) = V m c main_v1 (ix2 (col t l) k) := by blk_ext [iblk, idx t, col]
  rw [e, V_v1]

theorem blk2 (c : Dev nD) (t : Fin cfg0.N) (r : Fin 1024) (l : Fin 512) : iblk m c 2 t (ix2 r l) = branchFactor (Ga m c) (ix2 (row t r) (col t l)) := by
  have e : iblk m c 2 t (ix2 r l) = V m c main_v30 (ix2 (row t r) (col t l)) := by blk_ext [iblk, idx t, row, col]
  rw [e, V_v30]

theorem blk3 (c : Dev nD) (t : Fin cfg0.N) (r : Fin 1024) (l : Fin 512) : iblk m c 3 t (ix2 r l) = branchFactor (Gb m c) (ix2 (row t r) (col t l)) := by
  have e : iblk m c 3 t (ix2 r l) = V m c main_v31 (ix2 (row t r) (col t l)) := by blk_ext [iblk, idx t, row, col]
  rw [e, V_v31]

theorem blk4 (c : Dev nD) (t : Fin cfg0.N) (r : Fin 1024) (l : Fin 512) : iblk m c 4 t (ix2 r l) = gateFactor (Za m c) (Ga m c) (ix2 (row t r) (col t l)) := by
  have e : iblk m c 4 t (ix2 r l) = V m c main_v32 (ix2 (row t r) (col t l)) := by blk_ext [iblk, idx t, row, col]
  rw [e, V_v32]

theorem blk5 (c : Dev nD) (t : Fin cfg0.N) (r : Fin 1024) (l : Fin 512) : iblk m c 5 t (ix2 r l) = gateFactor (Zb m c) (Gb m c) (ix2 (row t r) (col t l)) := by
  have e : iblk m c 5 t (ix2 r l) = V m c main_v33 (ix2 (row t r) (col t l)) := by blk_ext [iblk, idx t, row, col]
  rw [e, V_v33]

/-- The product of these rows of the cotangent and of the weight is the cotangent of the merged branches there. -/
theorem part_eq (w dh : FVec Ideal S2048x2048 .f32) (hb : Vec Ideal S1024x2048 .bf16) (wb : Vec Ideal S512x2048 .bf16)
    (r : Fin 1024) (l : Fin 512) (R L : Fin 2048) (hh : ∀ k : Fin 2048, hb (ix2 r k) = dh (ix2 R k))
    (hw : ∀ k : Fin 2048, wb (ix2 l k) = w (ix2 L k)) : part hb wb r l = dot w dh R L :=
  Finset.sum_congr rfl fun k _ => by rw [hh, hw]

theorem part_at (c : Dev nD) (t : Fin cfg0.N) (r : Fin 1024) (l : Fin 512) :
    part (iblk m c 0 t) (iblk m c 1 t) r l = dot (W m c) (Dh m c) (row t r) (col t l) :=
  part_eq (W m c) (Dh m c) _ _ r l _ _ (fun k => blk0 m c t r k) (fun k => blk1 m c t l k)

theorem ix2_of (y : S1024x512.Idx) : ∃ (r : Fin 1024) (l : Fin 512), y = ix2 r l := ⟨y 0, y 1, by funext i; fin_cases i <;> rfl⟩

/-- The gradient in the S5 branch. -/
theorem dbranch_a (c : Dev nD) : (dats m 0 c).arrAt 6 cfg0.N = Cert.MixOutBRefIdeal.Read.val_main_v29 (F := Ideal) (Ga m c) (W m c) (Dh m c) := by
  refine (dats m 0 c).arrAt_eq_of_covers 6 _ (by decide +kernel) fun t hf y => ?_
  blk_simp
  rw [after0_6]
  frame_out
  obtain ⟨r, l, rfl⟩ := ix2_of y
  have e : ((View.whole main_v34_0).slice (win0_6.rect t)).emb (ix2 r l) = ix2 (row t r) (col t l) := by blk_ext [idx t, row, col]
  rw [e]
  refine Eq.trans (payload2 _ _ _ r l) ?_
  rw [part_at m c t r l, blk2 m c t r l, branch_apply, ref29_apply, mul_comm]

/-- The gradient in the convolution branch. -/
theorem dbranch_b (c : Dev nD) : (dats m 0 c).arrAt 7 cfg0.N = Cert.MixOutBRefIdeal.Read.val_main_v30 (F := Ideal) (Gb m c) (W m c) (Dh m c) := by
  refine (dats m 0 c).arrAt_eq_of_covers 7 _ (by decide +kernel) fun t hf y => ?_
  blk_simp
  rw [after0_7]
  frame_out
  obtain ⟨r, l, rfl⟩ := ix2_of y
  have e : ((View.whole main_v34_1).slice (win0_7.rect t)).emb (ix2 r l) = ix2 (row t r) (col t l) := by blk_ext [idx t, row, col]
  rw [e]
  refine Eq.trans (payload3 _ _ _ r l) ?_
  rw [part_at m c t r l, blk3 m c t r l, branch_apply, ref30_apply, mul_comm]

/-- The gradient in the S5 branch's gate. -/
theorem dgate_a (c : Dev nD) : (dats m 0 c).arrAt 8 cfg0.N = Cert.MixOutBRefIdeal.Read.val_main_v31 (F := Ideal) (Za m c) (Ga m c) (W m c) (Dh m c) := by
  refine (dats m 0 c).arrAt_eq_of_covers 8 _ (by decide +kernel) fun t hf y => ?_
  blk_simp
  rw [after0_8]
  frame_out
  obtain ⟨r, l, rfl⟩ := ix2_of y
  have e : ((View.whole main_v34_2).slice (win0_8.rect t)).emb (ix2 r l) = ix2 (row t r) (col t l) := by blk_ext [idx t, row, col]
  rw [e]
  refine Eq.trans (payload4 _ _ _ r l) ?_
  rw [part_at m c t r l, blk4 m c t r l, gate_apply, ref31_apply, mul_assoc]

/-- The gradient in the convolution branch's gate. -/
theorem dgate_b (c : Dev nD) : (dats m 0 c).arrAt 9 cfg0.N = Cert.MixOutBRefIdeal.Read.val_main_v32 (F := Ideal) (Zb m c) (Gb m c) (W m c) (Dh m c) := by
  refine (dats m 0 c).arrAt_eq_of_covers 9 _ (by decide +kernel) fun t hf y => ?_
  blk_simp
  rw [after0_9]
  frame_out
  obtain ⟨r, l, rfl⟩ := ix2_of y
  have e : ((View.whole main_v34_3).slice (win0_9.rect t)).emb (ix2 r l) = ix2 (row t r) (col t l) := by blk_ext [idx t, row, col]
  rw [e]
  refine Eq.trans (payload5 _ _ _ r l) ?_
  rw [part_at m c t r l, blk5 m c t r l, gate_apply, ref32_apply, mul_assoc]

/-- The reference never faults and leaves its arguments. -/
theorem frame_ref : Cert.quiescent_MixOutBRefIdeal (hMixOutBRefIdeal := Cert.MixOutBRefIdeal.Gen.facts) := by
  intro m ρ _
  exact (θ_run _ _ _).mono (fun r h => ⟨fun c => (h c).2.2.2.2, sem_eq_zero_of_no_sems (by decide) _⟩) (Cert.MixOutBRefIdeal.Value.run m ρ)

/-- From equal arguments the call and its reference end with equal results. -/
theorem algebraic : Cert.algebraic_MixOutBIdeal_MixOutBRefIdeal (hMixOutBIdeal := Cert.MixOutBIdeal.Gen.facts)
    (hMixOutBRefIdeal := Cert.MixOutBRefIdeal.Gen.facts) := by
  pair_intro
  · run_from Cert.MixOutBIdeal.Value.run_blocks (F := Ideal) m g
  · run_from Cert.MixOutBRefIdeal.Value.run (F := Ideal) m' g'
    · rw [dbranch_a]
      exact Cert.MixOutBRefIdeal.Read.val_main_v29_eq (F := Ideal) _ _ _
    · rw [dbranch_b]
      exact Cert.MixOutBRefIdeal.Read.val_main_v30_eq (F := Ideal) _ _ _
    · rw [dgate_a]
      exact Cert.MixOutBRefIdeal.Read.val_main_v31_eq (F := Ideal) _ _ _ _
    · rw [dgate_b]
      exact Cert.MixOutBRefIdeal.Read.val_main_v32_eq (F := Ideal) _ _ _ _

end Cert.Proof.MixOutB

end
-- ==== Proof.MixOutDw.lean ====
/- The gradient of the mixer's output weight. The grid has 2 × 2 points; point `2 i + n` has columns `1024 i …` of the merged
   branches and columns `1024 n …` of the cotangent, and writes that block of the gradient (`gradient`). -/
module

public import proofs.«01_k».proof.Defs
public import proofs.«01_k».proof.Proof.Gen.MixOutDwIdeal.Value
public import proofs.«01_k».proof.Proof.Gen.MixOutDwRefIdeal.Run
public import proofs.«01_k».proof.Proof.Gen.MixOutDwRefIdeal.Read
public import Idealize.ShloMosaic.Lib.Pointwise
public import Idealize.ShloMosaic.Lib.Pipeline.ValueKit
public import Idealize.ShloMosaic.Lib.Claim

@[expose] public section

set_option maxRecDepth 16384

noncomputable section

namespace Cert.Proof.MixOutDw

open Cert.MixOutDwIdeal Cert.MixOutDwIdeal.Gen Idealize.ShloMosaic Idealize.ShloMosaic.TcCoe Idealize.SL.Sem

/-- One block of the gradient, read at an index. -/
theorem payload (x z : Vec Ideal S2048x1024 .bf16) (r l : Fin 1024) :
    k0_pay1 x z (ix2 r l) = ∑ k : Fin 2048, x (ix2 k r) * z (ix2 k l) := by
  pointwise [k0_pay1]

/-- The reference's gradient, read at an index. -/
theorem ref_apply (x z : FVec Ideal S2048x2048 .f32) (r l : Fin 2048) :
    Cert.MixOutDwRefIdeal.Read.val_main_v3 (F := Ideal) x z (ix2 r l) = ∑ k : Fin 2048, x (ix2 k r) * z (ix2 k l) := by
  simp only [Cert.MixOutDwRefIdeal.Read.val_main_v3, Cert.MixOutDwRefIdeal.Read.val_main_v2]
  pointwise
  exact Finset.sum_congr rfl fun k _ => mul_comm _ _

variable (m : (ℓ : Loc nD τ sig) → Buf (Elt Ideal) ℓ)

theorem idx : ∀ t : Fin cfg0.N, win0_0.index t = ![0, t.val / 2]
    ∧ win0_1.index t = ![0, t.val % 2]
    ∧ win0_2.index t = ![t.val / 2, t.val % 2] :=
  (by decide +kernel : ∀ t : Fin grid0.N, _)

theorem lt4 (t : Fin cfg0.N) : t.val < 4 := t.isLt

/-- The rows and columns of the gradient under point `t`'s block. -/
def row (t : Fin cfg0.N) (r : Fin 1024) : Fin 2048 := ⟨t.val / 2 * 1024 + r.val, by have := lt4 t; omega⟩
def col (t : Fin cfg0.N) (l : Fin 1024) : Fin 2048 := ⟨t.val % 2 * 1024 + l.val, by omega⟩

abbrev X (c : Dev nD) : FVec Ideal S2048x2048 .f32 := m (c, Proc.tc.devRef main_arg0)
abbrev Z (c : Dev nD) : FVec Ideal S2048x2048 .f32 := m (c, Proc.tc.devRef main_arg1)

open StableHlo in
theorem V_v0 (c : Dev nD) : V m c main_v0 = X m c := by
  show StableHlo.after _ _ _ = _
  after_results_simp <;> rfl

open StableHlo in
theorem V_v1 (c : Dev nD) : V m c main_v1 = Z m c := by
  show StableHlo.after _ _ _ = _
  after_results_simp <;> rfl

theorem blk0 (c : Dev nD) (t : Fin cfg0.N) (k : Fin 2048) (r : Fin 1024) : iblk m c 0 t (ix2 k r) = X m c (ix2 k (row t r)) := by
  have e : iblk m c 0 t (ix2 k r) = V m c main_v0 (ix2 k (row t r)) := by blk_ext [iblk, idx t, row]
  rw [e, V_v0]

theorem blk1 (c : Dev nD) (t : Fin cfg0.N) (k : Fin 2048) (l : Fin 1024) : iblk m c 1 t (ix2 k l) = Z m c (ix2 k (col t l)) := by
  have e : iblk m c 1 t (ix2 k l) = V m c main_v1 (ix2 k (col t l)) := by blk_ext [iblk, idx t, col]
  rw [e, V_v1]

/-- A block whose operands are these columns is the reference's gradient there. -/
theorem block_eq (x z : FVec Ideal S2048x2048 .f32) (xb zb : Vec Ideal S2048x1024 .bf16) (r l : Fin 1024) (R L : Fin 2048)
    (hx : ∀ k : Fin 2048, xb (ix2 k r) = x (ix2 k R)) (hz : ∀ k : Fin 2048, zb (ix2 k l) = z (ix2 k L)) :
    k0_pay1 xb zb (ix2 r l) = Cert.MixOutDwRefIdeal.Read.val_main_v3 (F := Ideal) x z (ix2 R L) := by
  rw [payload, ref_apply]
  exact Finset.sum_congr rfl fun k _ => by rw [hx, hz]

theorem ix2_of (y : S1024x1024.Idx) : ∃ (r : Fin 1024) (l : Fin 1024), y = ix2 r l := ⟨y 0, y 1, by funext i; fin_cases i <;> rfl⟩

/-- The gradient of the output weight. -/
theorem gradient (c : Dev nD) : (dats m 0 c).arrAt 2 cfg0.N = Cert.MixOutDwRefIdeal.Read.val_main_v3 (F := Ideal) (X m c) (Z m c) := by
  refine (dats m 0 c).arrAt_eq_of_covers 2 _ (by decide +kernel) fun t hf y => ?_
  blk_simp
  rw [after0_2]
  frame_out
  obtain ⟨r, l, rfl⟩ := ix2_of y
  have e : ((View.whole main_v2).slice (win0_2.rect t)).emb (ix2 r l) = ix2 (row t r) (col t l) := by blk_ext [idx t, row, col]
  rw [e]
  exact block_eq (X m c) (Z m c) _ _ r l (row t r) (col t l) (fun k => blk0 m c t k r) (fun k => blk1 m c t k l)

/-- The reference never faults and leaves its arguments. -/
theorem frame_ref : Cert.quiescent_MixOutDwRefIdeal (hMixOutDwRefIdeal := Cert.MixOutDwRefIdeal.Gen.facts) := by
  intro m ρ _
  exact (θ_run _ _ _).mono (fun r h => ⟨fun c => (h c).2, sem_eq_zero_of_no_sems (by decide) _⟩) (Cert.MixOutDwRefIdeal.Value.run m ρ)

/-- From equal arguments the call and its reference end with equal results. -/
theorem algebraic : Cert.algebraic_MixOutDwIdeal_MixOutDwRefIdeal (hMixOutDwIdeal := Cert.MixOutDwIdeal.Gen.facts)
    (hMixOutDwRefIdeal := Cert.MixOutDwRefIdeal.Gen.facts) := by
  pair_intro
  · run_from Cert.MixOutDwIdeal.Value.run_blocks (F := Ideal) m g
  · run_from Cert.MixOutDwRefIdeal.Value.run (F := Ideal) m' g'
    obtain ⟨h0, h1⟩ := hagree c
    rw [gradient, X, Z, ← h0, ← h1]
    exact Cert.MixOutDwRefIdeal.Read.val_main_v3_eq (F := Ideal) _ _

end Cert.Proof.MixOutDw

end
-- ==== Proof.Norm.lean ====
/- The forward call of the root-mean-square norm: at every point of the grid of 8 the normed block of 256 rows. -/
module

public import proofs.«01_k».proof.Defs
public import proofs.«01_k».proof.Proof.NormPure
public import proofs.«01_k».proof.Proof.Gen.NormIdeal.Value
public import proofs.«01_k».proof.Proof.Gen.NormRefIdeal.Run
public import proofs.«01_k».proof.Proof.Gen.NormRefIdeal.Read
public import Idealize.ShloMosaic.Lib.Pointwise
public import Idealize.ShloMosaic.Lib.Pipeline.ValueKit
public import Idealize.ShloMosaic.Lib.Claim

@[expose] public section

set_option maxRecDepth 16384

noncomputable section

namespace Cert.Proof.Norm

open Cert.NormIdeal Cert.NormIdeal.Gen Idealize.ShloMosaic Idealize.ShloMosaic.TcCoe Idealize.SL.Sem

section Pay
variable (x : Vec Ideal S256x2048 .f32) (g : Vec Ideal S1x2048 .f32) (r : Fin 256) (l : Fin 2048)

theorem payload1 : k0_pay1 x g (ix2 r l) = Norm.unit (fun k => x (ix2 r k)) l * g (ix2 0 l) := by
  unfold Norm.unit Norm.inv Norm.var Norm.width Norm.eps
  pointwise [k0_pay1]

end Pay

section Reference
open Cert.NormRefIdeal.Read

theorem ref_apply (x : FVec Ideal S2048x2048 .f32) (g : FVec Ideal S2048 .f32) (r l : Fin 2048) :
    val_main_v13 (F := Ideal) x g (ix2 r l) = Norm.unit (fun k => x (ix2 r k)) l * g (ix1 l) := by
  unfold Norm.unit Norm.inv Norm.var Norm.width Norm.eps
  simp only [val_main_v13, val_main_v12, val_main_v11, val_main_v10, val_main_v9, val_main_v8, val_main_v7, val_main_v6, val_main_v5, val_main_cst_1, val_main_v4, val_main_v3, val_main_cst_0, val_main_v2, val_main_v1, val_main_cst, val_main_v0]
  pointwise

end Reference

variable (m : (ℓ : Loc nD τ sig) → Buf (Elt Ideal) ℓ)

theorem idx : ∀ t : Fin cfg0.N, win0_0.index t = ![t.val, 0]
    ∧ win0_1.index t = ![0, 0]
    ∧ win0_2.index t = ![t.val, 0] :=
  (by decide +kernel : ∀ t : Fin grid0.N, _)

theorem lt8 (t : Fin cfg0.N) : t.val < 8 := t.isLt

/-- The row of the whole arrays under row `r` of point `t`'s block. -/
def row (t : Fin cfg0.N) (r : Fin 256) : Fin 2048 := ⟨t.val * 256 + r.val, by have := lt8 t; omega⟩

abbrev X (c : Dev nD) : FVec Ideal S2048x2048 .f32 := m (c, Proc.tc.devRef main_arg0)
abbrev G (c : Dev nD) : FVec Ideal S2048 .f32 := m (c, Proc.tc.devRef main_arg1)

/-- The weight of the norm as one row. -/
def gain (g : FVec Ideal S2048 .f32) : FVec Ideal S1x2048 .f32 := shapeCast S1x2048 g shapeCasts_S2048_S1x2048

theorem gain_apply (g : FVec Ideal S2048 .f32) (l : Fin 2048) : gain g (ix2 0 l) = g (ix1 l) := by
  unfold gain
  pointwise

open StableHlo in
theorem V_v0 (c : Dev nD) : V m c main_v0 = gain (G m c) := by
  show StableHlo.after _ _ _ = _
  after_results_simp <;> rfl

section
variable (c : Dev nD) (t : Fin cfg0.N) (r : Fin 256) (l : Fin 2048)

theorem blk0 : iblk m c 0 t (ix2 r l) = X m c (ix2 (row t r) l) := by blk_ext [iblk, idx t, row]

theorem blk1 : iblk m c 1 t (ix2 0 l) = G m c (ix1 l) := by
  have e : iblk m c 1 t (ix2 0 l) = V m c main_v0 (ix2 0 l) := by blk_ext [iblk, idx t]
  rw [e, V_v0, gain_apply]

end

theorem ix2_of (y : S256x2048.Idx) : ∃ (r : Fin 256) (l : Fin 2048), y = ix2 r l := ⟨y 0, y 1, by funext i; fin_cases i <;> rfl⟩

/-- The normed rows. -/
theorem normed (c : Dev nD) : (dats m 0 c).arrAt 2 cfg0.N = Cert.NormRefIdeal.Read.val_main_v13 (F := Ideal) (X m c) (G m c) := by
  refine (dats m 0 c).arrAt_eq_of_covers 2 _ (by decide +kernel) fun t hf y => ?_
  blk_simp
  rw [after0_2]
  frame_out
  obtain ⟨r, l, rfl⟩ := ix2_of y
  have e : ((View.whole main_v1).slice (win0_2.rect t)).emb (ix2 r l) = ix2 (row t r) l := by blk_ext [idx t, row]
  rw [e]
  refine (payload1 _ _ r l).trans (Eq.trans ?_ (ref_apply _ _ _ l).symm)
  rw [blk1 m c t l, funext fun k => blk0 m c t r k]

/-- The reference never faults and leaves its arguments. -/
theorem frame_ref : Cert.quiescent_NormRefIdeal (hNormRefIdeal := Cert.NormRefIdeal.Gen.facts) := by
  intro m ρ _
  exact (θ_run _ _ _).mono (fun r h => ⟨fun c => (h c).2, sem_eq_zero_of_no_sems (by decide) _⟩) (Cert.NormRefIdeal.Value.run m ρ)

/-- From equal arguments the call and its reference end with equal results. -/
theorem algebraic : Cert.algebraic_NormIdeal_NormRefIdeal (hNormIdeal := Cert.NormIdeal.Gen.facts)
    (hNormRefIdeal := Cert.NormRefIdeal.Gen.facts) := by
  pair_intro
  · run_from Cert.NormIdeal.Value.run_blocks (F := Ideal) m g
  · run_from Cert.NormRefIdeal.Value.run (F := Ideal) m' g'
    obtain ⟨h0, h1⟩ := hagree c
    rw [normed, X, G, ← h0, ← h1]
    exact Cert.NormRefIdeal.Read.val_main_v13_eq (F := Ideal) _ _

end Cert.Proof.Norm

end
-- ==== Proof.NormB.lean ====
/- The backward call of the root-mean-square norm, with the residual's gradient added: at every point of the grid of 8 the gradient of a
   block of 256 rows (`Norm.kern_eq`), and the block's part of the gradient of the norm's weight, which the points sum. -/
module

public import proofs.«01_k».proof.Defs
public import proofs.«01_k».proof.Proof.NormPure
public import proofs.«01_k».proof.Proof.Gen.NormBIdeal.Value
public import proofs.«01_k».proof.Proof.Gen.NormBRefIdeal.Run
public import proofs.«01_k».proof.Proof.Gen.NormBRefIdeal.Read
public import Idealize.ShloMosaic.Lib.Pointwise
public import Idealize.ShloMosaic.Lib.Pipeline.ValueKit
public import Idealize.ShloMosaic.Lib.Claim

@[expose] public section

set_option maxRecDepth 16384

noncomputable section

namespace Cert.Proof.NormB

open Cert.NormBIdeal Cert.NormBIdeal.Gen Idealize.ShloMosaic Idealize.ShloMosaic.TcCoe Idealize.SL.Sem

/-- The column of an index of a single row. -/
def col (y : S1x2048.Idx) : Fin 2048 := y 1

theorem of_col (y : S1x2048.Idx) : y = ix2 0 (col y) := by
  funext i
  fin_cases i
  · exact Subsingleton.elim (α := Fin 1) _ _
  · rfl

theorem col_ix2 (l : Fin 2048) : col (ix2 0 l) = l := rfl

/-- One block's part of the gradient of the norm's weight. -/
def part (x du : Vec Ideal S256x2048 .f32) (y : S1x2048.Idx) : EReal :=
  ∑ r : Fin 256, du (ix2 r (col y)) * Norm.unit (fun k => x (ix2 r k)) (col y)

/-- The gradient that enters the norm, in row `r` of a block. -/
def ct (du : Vec Ideal S256x2048 .f32) (g : Vec Ideal S1x2048 .f32) (r : Fin 256) (k : Fin 2048) : EReal := du (ix2 r k) * g (ix2 0 k)

section Pay
variable (x : Vec Ideal S256x2048 .f32) (g : Vec Ideal S1x2048 .f32) (du dres : Vec Ideal S256x2048 .f32) (r : Fin 256) (l : Fin 2048)

theorem factor : k0_pay2 x (ix2 r 0) = Norm.inv (fun k => x (ix2 r k)) := by
  unfold Norm.inv Norm.var Norm.width Norm.eps
  pointwise [k0_pay2]

theorem normed : k0_pay3 x (ix2 r l) = Norm.unit (fun k => x (ix2 r k)) l := by
  unfold Norm.unit
  rw [← factor]
  pointwise [k0_pay3]

theorem payload4 : k0_pay4 x g du dres (ix2 r l)
    = dres (ix2 r l) + Norm.kern (fun k => x (ix2 r k)) (ct du g r) l := by
  unfold Norm.kern Norm.width ct
  rw [← factor]
  simp only [← normed]
  pointwise [k0_pay4]

theorem payload6 : k0_pay6 x g du dres (ix2 r l)
    = dres (ix2 r l) + Norm.kern (fun k => x (ix2 r k)) (ct du g r) l := by
  rw [← payload4]
  pointwise [k0_pay6]

theorem payload5 (y : S1x2048.Idx) : k0_pay5 x du y = part x du y := by
  rw [of_col y]
  unfold part
  rw [col_ix2]
  simp only [← normed]
  pointwise [k0_pay5]

theorem payload1 (acc : Vec Ideal S1x2048 .f32) (y : S1x2048.Idx) : k0_pay1 (k0_pay5 x du) acc y = acc y + part x du y := by
  rw [← payload5]
  pointwise [k0_pay1]

end Pay

section Reference
open Cert.NormBRefIdeal.Read
variable (x : FVec Ideal S2048x2048 .f32) (g : FVec Ideal S2048 .f32) (du dres : FVec Ideal S2048x2048 .f32) (r l : Fin 2048)

theorem ref_var : val_main_v6 (F := Ideal) x (ix2 r 0) = Norm.var (fun k => x (ix2 r k)) := by
  unfold Norm.var Norm.width Norm.eps
  simp only [val_main_v6, val_main_v5, val_main_cst_1, val_main_v4, val_main_v3, val_main_cst_0, val_main_v2, val_main_v1, val_main_cst, val_main_v0]
  pointwise

theorem ref_inv : val_main_v7 (F := Ideal) x (ix2 r 0) = Norm.inv (fun k => x (ix2 r k)) := by
  unfold Norm.inv
  rw [← ref_var]
  rfl

theorem ref_ct : val_main_v20 (F := Ideal) g du (ix2 r l) = du (ix2 r l) * g (ix1 l) := by
  simp only [val_main_v20, val_main_v19, val_main_v13]
  pointwise

theorem ref_coef : val_main_v30 (F := Ideal) x g du (ix1 r) = Norm.coef (fun k => x (ix2 r k)) (fun k => du (ix2 r k) * g (ix1 k)) := by
  unfold Norm.coef Norm.width
  rw [← ref_inv, ← ref_var]
  simp only [← ref_ct]
  simp only [val_main_v30, val_main_v29, val_main_v28, val_main_v27, val_main_v24, val_main_v23, val_main_v22, val_main_v10, val_main_v9,
    val_main_v8, val_main_cst_2, val_main_cst_5, val_main_cst_6, val_main_cst_7]
  pointwise
  exact Fin.sum_univ_one _

theorem ref_grad : val_main_v36 (F := Ideal) x g du dres (ix2 r l)
    = dres (ix2 r l) + Norm.grad (fun k => x (ix2 r k)) (fun k => du (ix2 r k) * g (ix1 k)) l := by
  unfold Norm.grad
  rw [← ref_inv, ← ref_coef]
  simp only [← ref_ct]
  simp only [val_main_v36, val_main_v35, val_main_v34, val_main_v33, val_main_v32, val_main_v31, val_main_v26, val_main_v25]
  pointwise

theorem ref_rounded : val_main_v38 (F := Ideal) x g du dres (ix2 r l)
    = dres (ix2 r l) + Norm.grad (fun k => x (ix2 r k)) (fun k => du (ix2 r k) * g (ix1 k)) l := by
  rw [← ref_grad]
  rfl

theorem ref_weight (y : S1x2048.Idx) : val_main_v39 (F := Ideal) x du y
    = ∑ r : Fin 2048, du (ix2 r (col y)) * Norm.unit (fun k => x (ix2 r k)) (col y) := by
  rw [of_col y, col_ix2]
  unfold Norm.unit
  simp only [← ref_inv]
  simp only [val_main_v39, val_main_v21, val_main_v18, val_main_v17, val_main_v16, val_main_v12, val_main_v11, val_main_cst_3, val_main_cst_4]
  generalize val_main_v7 (F := Ideal) x = z
  pointwise
  exact (Fin.sum_univ_one _).trans (Finset.sum_congr rfl fun k _ => mul_comm (G := EReal) _ _)

end Reference

variable (m : (ℓ : Loc nD τ sig) → Buf (Elt Ideal) ℓ)

theorem idx : ∀ t : Fin cfg0.N, win0_0.index t = ![t.val, 0]
    ∧ win0_1.index t = ![0, 0]
    ∧ win0_2.index t = ![t.val, 0]
    ∧ win0_3.index t = ![t.val, 0]
    ∧ win0_4.index t = ![t.val, 0]
    ∧ win0_5.index t = ![t.val, 0]
    ∧ win0_6.index t = ![0, 0] :=
  (by decide +kernel : ∀ t : Fin grid0.N, _)

theorem lt8 (t : Fin cfg0.N) : t.val < 8 := t.isLt

/-- The row of the whole arrays under row `r` of point `t`'s block. -/
def row (t : Fin cfg0.N) (r : Fin 256) : Fin 2048 := ⟨t.val * 256 + r.val, by have := lt8 t; omega⟩

abbrev X (c : Dev nD) : FVec Ideal S2048x2048 .f32 := m (c, Proc.tc.devRef main_arg0)
abbrev G (c : Dev nD) : FVec Ideal S2048 .f32 := m (c, Proc.tc.devRef main_arg1)
abbrev Du (c : Dev nD) : FVec Ideal S2048x2048 .f32 := m (c, Proc.tc.devRef main_arg2)
abbrev Dr (c : Dev nD) : FVec Ideal S2048x2048 .f32 := m (c, Proc.tc.devRef main_arg3)

/-- The weight of the norm as one row. -/
def gain (g : FVec Ideal S2048 .f32) : FVec Ideal S1x2048 .f32 := shapeCast S1x2048 g shapeCasts_S2048_S1x2048

theorem gain_apply (g : FVec Ideal S2048 .f32) (l : Fin 2048) : gain g (ix2 0 l) = g (ix1 l) := by
  unfold gain
  pointwise

open StableHlo in
theorem V_v0 (c : Dev nD) : V m c main_v0 = gain (G m c) := by
  show StableHlo.after _ _ _ = _
  after_results_simp <;> rfl

section
variable (c : Dev nD) (t : Fin cfg0.N) (r : Fin 256) (l : Fin 2048)

theorem blk0 : iblk m c 0 t (ix2 r l) = X m c (ix2 (row t r) l) := by blk_ext [iblk, idx t, row]

theorem blk1 : iblk m c 1 t (ix2 0 l) = G m c (ix1 l) := by
  have e : iblk m c 1 t (ix2 0 l) = V m c main_v0 (ix2 0 l) := by blk_ext [iblk, idx t]
  rw [e, V_v0, gain_apply]

theorem blk2 : iblk m c 2 t (ix2 r l) = Du m c (ix2 (row t r) l) := by blk_ext [iblk, idx t, row]

theorem blk3 : iblk m c 3 t (ix2 r l) = Dr m c (ix2 (row t r) l) := by blk_ext [iblk, idx t, row]

theorem blk_ct : ct (iblk m c 2 t) (iblk m c 1 t) r = fun k => Du m c (ix2 (row t r) k) * G m c (ix1 k) :=
  funext fun k => congrArg₂ (fun a b : EReal => a * b) (blk2 m c t r k) (blk1 m c t k)

/-- A block's gradient is the reference's. -/
theorem block_eq : Dr m c (ix2 (row t r) l) + Norm.kern (fun k => iblk m c 0 t (ix2 r k)) (ct (iblk m c 2 t) (iblk m c 1 t) r) l
    = Dr m c (ix2 (row t r) l) + Norm.grad (fun k => X m c (ix2 (row t r) k)) (fun k => Du m c (ix2 (row t r) k) * G m c (ix1 k)) l := by
  rw [Norm.kern_eq, funext fun k => blk0 m c t r k, blk_ct]

end

/-- What the third result's block holds after the last of the eight points: the sum of their parts. -/
theorem acc_eq (c : Dev nD) (t : Fin cfg0.N) (h : t.val % 8 = 8 - 1) (y : S1x2048.Idx) :
    (outsAt0 m c t.val t.isLt).2.2 y = (fun _ => (0 : EReal)) y
      + ∑ s : Fin 8, part (iblk m c 0 ⟨8 * (t.val / 8) + s.val, Pipeline.run_point_lt_of_flush t h s⟩)
          (iblk m c 2 ⟨8 * (t.val / 8) + s.val, Pipeline.run_point_lt_of_flush t h s⟩) y := by
  rw [Pipeline.eq_sum_fin_of_reset_step_apply_of_flush (fun n h => (outsAt0 m c n h).2.2) 8 (fun _ => (0 : EReal))
    (fun t y => part (iblk m c 0 t) (iblk m c 2 t) y) ?_ ?_ t h y]
  · intro t h y
    have hN := lt8 t
    rw [outsAt0_A m c t h (by omega)]
    frame_out
    exact ((payload5 _ _ y).trans (zero_add _).symm)
  · intro t h y
    rw [outsAt0_B m c t h (by omega)]
    frame_out
    exact payload1 _ _ _ y

theorem ix2_of (y : S256x2048.Idx) : ∃ (r : Fin 256) (l : Fin 2048), y = ix2 r l := ⟨y 0, y 1, by funext i; fin_cases i <;> rfl⟩

/-- The gradient for the rows, with the residual's. -/
theorem gradient (c : Dev nD) : (dats m 0 c).arrAt 4 cfg0.N = Cert.NormBRefIdeal.Read.val_main_v36 (F := Ideal) (X m c) (G m c) (Du m c) (Dr m c) := by
  refine (dats m 0 c).arrAt_eq_of_covers 4 _ (by decide +kernel) fun t hf y => ?_
  blk_simp
  rw [after0_4]
  obtain ⟨r, l, rfl⟩ := ix2_of y
  have e : ((View.whole main_v1_0).slice (win0_4.rect t)).emb (ix2 r l) = ix2 (row t r) l := by blk_ext [idx t, row]
  have hN := lt8 t
  rw [e, ref_grad, ← block_eq m c t r l, ← blk3 m c t r l]
  by_cases h0 : t.val % 8 = 0
  · rw [outsAt0_A m c t h0 (by omega)]
    frame_out
    exact payload4 _ _ _ _ r l
  · rw [outsAt0_B m c t h0 (by omega)]
    frame_out
    exact payload4 _ _ _ _ r l

/-- The same, rounded. -/
theorem rounded (c : Dev nD) : (dats m 0 c).arrAt 5 cfg0.N = Cert.NormBRefIdeal.Read.val_main_v38 (F := Ideal) (X m c) (G m c) (Du m c) (Dr m c) := by
  refine (dats m 0 c).arrAt_eq_of_covers 5 _ (by decide +kernel) fun t hf y => ?_
  blk_simp
  rw [after0_5]
  obtain ⟨r, l, rfl⟩ := ix2_of y
  have e : ((View.whole main_v1_1).slice (win0_5.rect t)).emb (ix2 r l) = ix2 (row t r) l := by blk_ext [idx t, row]
  have hN := lt8 t
  rw [e, ref_rounded, ← block_eq m c t r l, ← blk3 m c t r l]
  by_cases h0 : t.val % 8 = 0
  · rw [outsAt0_A m c t h0 (by omega)]
    frame_out
    exact payload6 _ _ _ _ r l
  · rw [outsAt0_B m c t h0 (by omega)]
    frame_out
    exact payload6 _ _ _ _ r l

/-- The gradient of the norm's weight. -/
theorem weight (c : Dev nD) : (dats m 0 c).arrAt 6 cfg0.N = Cert.NormBRefIdeal.Read.val_main_v39 (F := Ideal) (X m c) (Du m c) := by
  refine (dats m 0 c).arrAt_eq_of_covers 6 _ (by decide +kernel) fun t hf y => ?_
  have h7 : t.val % 8 = 7 := (flush0_6 t).mp hf
  blk_simp
  rw [after0_6, acc_eq m c t h7, zero_add]
  have e : ((View.whole main_v1_2).slice (win0_6.rect t)).emb y = y := by blk_ext [idx t]
  rw [e, ref_weight]
  unfold part
  refine Fin.sum_mul_add_congr fun s r hl => ?_
  have hr : row ⟨8 * (t.val / 8) + s.val, Pipeline.run_point_lt_of_flush t h7 s⟩ r = ⟨s.val * 256 + r.val, hl⟩ :=
    Fin.ext (by have := lt8 t; simp only [row]; omega)
  rw [← hr]
  exact congrArg₂ (fun a b : EReal => a * b) (blk2 m c _ r (col y)) (congrArg (fun f => Norm.unit f (col y)) (funext fun k => blk0 m c _ r k))

/-- The reference never faults and leaves its arguments. -/
theorem frame_ref : Cert.quiescent_NormBRefIdeal (hNormBRefIdeal := Cert.NormBRefIdeal.Gen.facts) := by
  intro m ρ _
  exact (θ_run _ _ _).mono (fun r h => ⟨fun c => (h c).2.2.2, sem_eq_zero_of_no_sems (by decide) _⟩) (Cert.NormBRefIdeal.Value.run m ρ)

/-- From equal arguments the call and its reference end with equal results. -/
theorem algebraic : Cert.algebraic_NormBIdeal_NormBRefIdeal (hNormBIdeal := Cert.NormBIdeal.Gen.facts)
    (hNormBRefIdeal := Cert.NormBRefIdeal.Gen.facts) := by
  pair_intro
  · run_from Cert.NormBIdeal.Value.run_blocks (F := Ideal) m g
  · run_from Cert.NormBRefIdeal.Value.run (F := Ideal) m' g'
    · rw [gradient]
      exact Cert.NormBRefIdeal.Read.val_main_v36_eq (F := Ideal) _ _ _ _
    · rw [rounded]
      exact Cert.NormBRefIdeal.Read.val_main_v38_eq (F := Ideal) _ _ _ _
    · rw [weight]
      exact Cert.NormBRefIdeal.Read.val_main_v39_eq (F := Ideal) _ _

end Cert.Proof.NormB

end
-- ==== Proof.OutDw.lean ====
/- The gradient of a branch's output weight. Point `j` of the four has the branch's activations and columns `512 j …` of the
   cotangent, and writes the block `j` of the gradient's columns (`gradient`). -/
module

public import proofs.«01_k».proof.Defs
public import proofs.«01_k».proof.Proof.Gen.OutDwIdeal.Value
public import proofs.«01_k».proof.Proof.Gen.OutDwRefIdeal.Run
public import proofs.«01_k».proof.Proof.Gen.OutDwRefIdeal.Read
public import Idealize.ShloMosaic.Lib.Pointwise
public import Idealize.ShloMosaic.Lib.Pipeline.ValueKit
public import Idealize.ShloMosaic.Lib.Claim

@[expose] public section

set_option maxRecDepth 16384

noncomputable section

namespace Cert.Proof.OutDw

open Cert.OutDwIdeal Cert.OutDwIdeal.Gen Idealize.ShloMosaic Idealize.ShloMosaic.TcCoe Idealize.SL.Sem

/-- The column of the whole cotangent under column `l` of block `b`. -/
def wcol (b : Fin 4) (l : Fin 512) : Fin 2048 := ⟨b.val * 512 + l.val, by omega⟩

/-- One block of the gradient, read at an index. -/
theorem payload (y : Vec Ideal S2048x1024 .bf16) (z : Vec Ideal S2048x512 .bf16) (r : Fin 1024) (l : Fin 512) :
    k0_pay1 y z (ix3 0 r l) = ∑ k : Fin 2048, y (ix2 k r) * z (ix2 k l) := by
  pointwise [k0_pay1]

/-- The reference's gradient, read at an index. -/
theorem ref_apply (y : FVec Ideal S2048x1024 .f32) (z : FVec Ideal S2048x2048 .f32) (b : Fin 4) (r : Fin 1024) (l : Fin 512) :
    Cert.OutDwRefIdeal.Read.val_main_v5 (F := Ideal) y z (ix3 b r l) = ∑ k : Fin 2048, y (ix2 k r) * z (ix2 k (wcol b l)) := by
  simp only [Cert.OutDwRefIdeal.Read.val_main_v5, Cert.OutDwRefIdeal.Read.val_main_v4, Cert.OutDwRefIdeal.Read.val_main_v3,
    Cert.OutDwRefIdeal.Read.val_main_v2]
  pointwise [wcol]
  exact Finset.sum_congr rfl fun k _ => mul_comm _ _

variable (m : (ℓ : Loc nD τ sig) → Buf (Elt Ideal) ℓ)

theorem idx : ∀ t : Fin cfg0.N, win0_0.index t = ![0, 0]
    ∧ win0_1.index t = ![0, t.val]
    ∧ win0_2.index t = ![t.val, 0, 0] :=
  (by decide +kernel : ∀ t : Fin grid0.N, _)

theorem lt4 (t : Fin cfg0.N) : t.val < 4 := t.isLt

/-- The block of the gradient that point `t` has. -/
def block (t : Fin cfg0.N) : Fin 4 := ⟨t.val, lt4 t⟩

abbrev Y (c : Dev nD) : FVec Ideal S2048x1024 .f32 := m (c, Proc.tc.devRef main_arg0)
abbrev Z (c : Dev nD) : FVec Ideal S2048x2048 .f32 := m (c, Proc.tc.devRef main_arg1)

open StableHlo in
theorem V_v0 (c : Dev nD) : V m c main_v0 = Y m c := by
  show StableHlo.after _ _ _ = _
  after_results_simp <;> rfl

open StableHlo in
theorem V_v1 (c : Dev nD) : V m c main_v1 = Z m c := by
  show StableHlo.after _ _ _ = _
  after_results_simp <;> rfl

theorem blk0 (c : Dev nD) (t : Fin cfg0.N) (k : Fin 2048) (r : Fin 1024) : iblk m c 0 t (ix2 k r) = Y m c (ix2 k r) := by
  have e : iblk m c 0 t (ix2 k r) = V m c main_v0 (ix2 k r) := by blk_ext [iblk, idx t]
  rw [e, V_v0]

theorem blk1 (c : Dev nD) (t : Fin cfg0.N) (k : Fin 2048) (l : Fin 512) : iblk m c 1 t (ix2 k l) = Z m c (ix2 k (wcol (block t) l)) := by
  have e : iblk m c 1 t (ix2 k l) = V m c main_v1 (ix2 k (wcol (block t) l)) := by blk_ext [iblk, idx t, wcol, block]
  rw [e, V_v1]

/-- A block whose operands are these columns is the reference's gradient there. -/
theorem block_eq (y : FVec Ideal S2048x1024 .f32) (z : FVec Ideal S2048x2048 .f32) (yb : Vec Ideal S2048x1024 .bf16)
    (zb : Vec Ideal S2048x512 .bf16) (b : Fin 4) (r : Fin 1024) (l : Fin 512)
    (hy : ∀ k : Fin 2048, yb (ix2 k r) = y (ix2 k r)) (hz : ∀ k : Fin 2048, zb (ix2 k l) = z (ix2 k (wcol b l))) :
    k0_pay1 yb zb (ix3 0 r l) = Cert.OutDwRefIdeal.Read.val_main_v5 (F := Ideal) y z (ix3 b r l) := by
  rw [payload, ref_apply]
  exact Finset.sum_congr rfl fun k _ => by rw [hy, hz]

/-- The gradient of the output weight, in its four blocks of columns. -/
theorem gradient (c : Dev nD) : (dats m 0 c).arrAt 2 cfg0.N = Cert.OutDwRefIdeal.Read.val_main_v5 (F := Ideal) (Y m c) (Z m c) := by
  refine (dats m 0 c).arrAt_eq_of_covers 2 _ (by decide +kernel) fun t hf y => ?_
  blk_simp
  rw [after0_2]
  frame_out
  obtain ⟨r, l, rfl⟩ : ∃ (r : Fin 1024) (l : Fin 512), y = ix3 0 r l :=
    ⟨y 1, y 2, by funext i; fin_cases i; exacts [Subsingleton.elim (α := Fin 1) _ _, rfl, rfl]⟩
  have e : ((View.whole main_v2).slice (win0_2.rect t)).emb (ix3 0 r l) = ix3 (block t) r l := by blk_ext [idx t, block]
  rw [e]
  exact block_eq (Y m c) (Z m c) _ _ (block t) r l (fun k => blk0 m c t k r) (fun k => blk1 m c t k l)

/-- The reference never faults and leaves its arguments. -/
theorem frame_ref : Cert.quiescent_OutDwRefIdeal (hOutDwRefIdeal := Cert.OutDwRefIdeal.Gen.facts) := by
  intro m ρ _
  exact (θ_run _ _ _).mono (fun r h => ⟨fun c => (h c).2, sem_eq_zero_of_no_sems (by decide) _⟩) (Cert.OutDwRefIdeal.Value.run m ρ)

/-- From equal arguments the call and its reference end with equal results. -/
theorem algebraic : Cert.algebraic_OutDwIdeal_OutDwRefIdeal (hOutDwIdeal := Cert.OutDwIdeal.Gen.facts)
    (hOutDwRefIdeal := Cert.OutDwRefIdeal.Gen.facts) := by
  pair_intro
  · run_from Cert.OutDwIdeal.Value.run_blocks (F := Ideal) m g
  · run_from Cert.OutDwRefIdeal.Value.run (F := Ideal) m' g'
    obtain ⟨h0, h1⟩ := hagree c
    rw [gradient, Y, Z, ← h0, ← h1]
    exact Cert.OutDwRefIdeal.Read.val_main_v5_eq (F := Ideal) _ _

end Cert.Proof.OutDw

end
-- ==== Proof.Proj.lean ====
/- The input projection's forward product. The grid has 8 × 2 points; point `2 n + i` has rows `1024 i …` of the activations and
   columns `1024 n …` of the product, whose weights lie in block `n / 2`, half `n % 2`, of the four gathered blocks. Each output
   block is the reference's product at those rows and columns, so the array is (`product`); the claims follow. -/
module

public import proofs.«01_k».proof.Defs
public import proofs.«01_k».proof.Proof.Gen.ProjIdeal.Value
public import proofs.«01_k».proof.Proof.Gen.ProjRefIdeal.Run
public import proofs.«01_k».proof.Proof.Gen.ProjRefIdeal.Read
public import Idealize.ShloMosaic.Lib.Pointwise
public import Idealize.ShloMosaic.Lib.Pipeline.ValueKit
public import Idealize.ShloMosaic.Lib.Claim

@[expose] public section

set_option maxRecDepth 16384

noncomputable section

namespace Cert.Proof.Proj

open Cert.ProjIdeal Cert.ProjIdeal.Gen Idealize.ShloMosaic Idealize.ShloMosaic.TcCoe Idealize.SL.Sem

/-- The four gathered blocks of the weights, as the host lays them out. -/
def blocks (w : FVec Ideal S2048x8192 .f32) : FVec Ideal S4x2048x2048 .bf16 :=
  truncf .bf16 (transpose S4x2048x2048 [1, 0, 2] (shapeCast S2048x4x2048 w shapeCasts_S2048x8192_S2048x4x2048)
    transposes_S2048x4x2048_S4x2048x2048_1_0_2) bitsLt_bf16_f32

/-- The column of the whole weights under column `l` of block `b`. -/
def wcol (b : Fin 4) (l : Fin 2048) : Fin 8192 := ⟨b.val * 2048 + l.val, by omega⟩

theorem blocks_apply (w : FVec Ideal S2048x8192 .f32) (b : Fin 4) (k l : Fin 2048) : blocks w (ix3 b k l) = w (ix2 k (wcol b l)) := by
  simp only [blocks]
  pointwise [wcol]

/-- One block of the product, read at an index. -/
theorem payload (x : Vec Ideal S1024x2048 .bf16) (w : Vec Ideal S1x2048x1024 .bf16) (r l : Fin 1024) :
    k0_pay1 x w (ix2 r l) = ∑ k : Fin 2048, x (ix2 r k) * w (ix3 0 k l) := by
  pointwise [k0_pay1]

/-- The reference's product, read at an index. -/
theorem ref_apply (x : FVec Ideal S2048x2048 .f32) (w : FVec Ideal S2048x8192 .f32) (r : Fin 2048) (l : Fin 8192) :
    Cert.ProjRefIdeal.Read.val_main_v0 (F := Ideal) x w (ix2 r l) = ∑ k : Fin 2048, x (ix2 r k) * w (ix2 k l) := by
  simp only [Cert.ProjRefIdeal.Read.val_main_v0]
  pointwise

variable (m : (ℓ : Loc nD τ sig) → Buf (Elt Ideal) ℓ)

theorem idx : ∀ t : Fin cfg0.N, win0_0.index t = ![t.val % 2, 0] ∧ win0_1.index t = ![t.val / 4, 0, t.val / 2 % 2]
    ∧ win0_2.index t = ![t.val % 2, t.val / 2] :=
  (by decide +kernel : ∀ t : Fin grid0.N, _)

theorem lt16 (t : Fin cfg0.N) : t.val < 16 := t.isLt

/-- The rows and columns that point `t` has. -/
def row (t : Fin cfg0.N) (r : Fin 1024) : Fin 2048 := ⟨t.val % 2 * 1024 + r.val, by omega⟩
def col (t : Fin cfg0.N) (l : Fin 1024) : Fin 8192 := ⟨t.val / 2 * 1024 + l.val, by have := lt16 t; omega⟩
def block (t : Fin cfg0.N) : Fin 4 := ⟨t.val / 4, by have := lt16 t; omega⟩
def half (t : Fin cfg0.N) (l : Fin 1024) : Fin 2048 := ⟨t.val / 2 % 2 * 1024 + l.val, by omega⟩

theorem wcol_half (t : Fin cfg0.N) (l : Fin 1024) : wcol (block t) (half t l) = col t l :=
  Fin.ext (by simp only [wcol, block, half, col]; omega)

abbrev X (c : Dev nD) := m (c, Proc.tc.devRef main_arg0)
abbrev Win (c : Dev nD) := m (c, Proc.tc.devRef main_arg1)

open StableHlo in
theorem V_v2 (c : Dev nD) : V m c main_v2 = blocks (Win m c) := by
  show StableHlo.after _ _ _ = _
  after_results_simp <;> rfl

open StableHlo in
theorem V_v3 (c : Dev nD) : V m c main_v3 = X m c := by
  show StableHlo.after _ _ _ = _
  after_results_simp <;> rfl

theorem blk0 (c : Dev nD) (t : Fin cfg0.N) (r : Fin 1024) (k : Fin 2048) : iblk m c 0 t (ix2 r k) = X m c (ix2 (row t r) k) := by
  have e : iblk m c 0 t (ix2 r k) = V m c main_v3 (ix2 (row t r) k) := by blk_ext [iblk, idx t, row]
  rw [e, V_v3]

theorem blk1 (c : Dev nD) (t : Fin cfg0.N) (k : Fin 2048) (l : Fin 1024) : iblk m c 1 t (ix3 0 k l) = Win m c (ix2 k (col t l)) := by
  have e : iblk m c 1 t (ix3 0 k l) = V m c main_v2 (ix3 (block t) k (half t l)) := by blk_ext [iblk, idx t, block, half]
  rw [e, V_v2, blocks_apply, wcol_half]

/-- A block whose operands are these rows and columns is the reference's product there. -/
theorem block_eq (x : FVec Ideal S2048x2048 .f32) (w : FVec Ideal S2048x8192 .f32) (xb : Vec Ideal S1024x2048 .bf16)
    (wb : Vec Ideal S1x2048x1024 .bf16) (r l : Fin 1024) (R : Fin 2048) (L : Fin 8192)
    (hx : ∀ k : Fin 2048, xb (ix2 r k) = x (ix2 R k)) (hw : ∀ k : Fin 2048, wb (ix3 0 k l) = w (ix2 k L)) :
    k0_pay1 xb wb (ix2 r l) = Cert.ProjRefIdeal.Read.val_main_v0 (F := Ideal) x w (ix2 R L) := by
  rw [payload, ref_apply]
  exact Finset.sum_congr rfl fun k _ => by rw [hx, hw]

theorem product (c : Dev nD) : (dats m 0 c).arrAt 2 cfg0.N = Cert.ProjRefIdeal.Read.val_main_v0 (F := Ideal) (X m c) (Win m c) := by
  refine (dats m 0 c).arrAt_eq_of_covers 2 _ (by decide +kernel) fun t hf y => ?_
  blk_simp
  rw [after0_2]
  frame_out
  obtain ⟨r, l, rfl⟩ : ∃ (r : Fin 1024) (l : Fin 1024), y = ix2 r l := ⟨y 0, y 1, by funext i; fin_cases i <;> rfl⟩
  have e : ((View.whole main_v4).slice (win0_2.rect t)).emb (ix2 r l) = ix2 (row t r) (col t l) := by blk_ext [idx t, row, col]
  rw [e]
  exact block_eq (X m c) (Win m c) _ _ r l (row t r) (col t l) (fun k => blk0 m c t r k) (fun k => blk1 m c t k l)

/-- The reference never faults and leaves its arguments. -/
theorem frame_ref : Cert.quiescent_ProjRefIdeal (hProjRefIdeal := Cert.ProjRefIdeal.Gen.facts) := by
  intro m ρ _
  exact (θ_run _ _ _).mono (fun r h => ⟨fun c => (h c).2, sem_eq_zero_of_no_sems (by decide) _⟩) (Cert.ProjRefIdeal.Value.run m ρ)

/-- From equal arguments the call and its reference end with equal results. -/
theorem algebraic : Cert.algebraic_ProjIdeal_ProjRefIdeal (hProjIdeal := Cert.ProjIdeal.Gen.facts) (hProjRefIdeal := Cert.ProjRefIdeal.Gen.facts) := by
  pair_intro
  · run_from Cert.ProjIdeal.Value.run_blocks (F := Ideal) m g
  · run_from Cert.ProjRefIdeal.Value.run (F := Ideal) m' g'
    obtain ⟨h0, h1⟩ := hagree c
    rw [product, X, Win, ← h0, ← h1]
    exact Cert.ProjRefIdeal.Read.val_main_v0_eq (F := Ideal) _ _

end Cert.Proof.Proj

end
-- ==== Proof.ProjB.lean ====
/- The cotangent of the input projection's activations. The grid has 4 × 4 points; point `4 i + k` adds, into a block of rows
   `512 i …` that the four points of one `i` share, the product of the cotangent's columns in gathered block `k` with that block of
   the weights. After the last of the four the sum runs over all 8192 columns, which is the reference's product (`cotangent`). -/
module

public import proofs.«01_k».proof.Defs
public import proofs.«01_k».proof.Proof.Gen.ProjBIdeal.Value
public import proofs.«01_k».proof.Proof.Gen.ProjBRefIdeal.Run
public import proofs.«01_k».proof.Proof.Gen.ProjBRefIdeal.Read
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.Proof.ProjB

open Cert.ProjBIdeal Cert.ProjBIdeal.Gen Idealize.ShloMosaic Idealize.ShloMosaic.TcCoe Idealize.SL.Sem

/-- The four gathered blocks of the weights, as the host lays them out. -/
def blocks (w : FVec Ideal S2048x8192 .f32) : FVec Ideal S4x2048x2048 .bf16 :=
  truncf .bf16 (transpose S4x2048x2048 [1, 0, 2] (shapeCast S2048x4x2048 w shapeCasts_S2048x8192_S2048x4x2048)
    transposes_S2048x4x2048_S4x2048x2048_1_0_2) bitsLt_bf16_f32

/-- The column of the whole weights under column `l` of block `b`. -/
def wcol (b : Fin 4) (l : Fin 2048) : Fin 8192 := ⟨b.val * 2048 + l.val, by omega⟩

theorem blocks_apply (w : FVec Ideal S2048x8192 .f32) (b : Fin 4) (k l : Fin 2048) : blocks w (ix3 b k l) = w (ix2 k (wcol b l)) := by
  simp only [blocks]
  pointwise [wcol]

/-- The product of one block of the cotangent with one block of the weights, at row `r` and column `l`. -/
def part (z : Vec Ideal S512x2048 .bf16) (w : Vec Ideal S1x2048x2048 .bf16) (r : Fin 512) (l : Fin 2048) : EReal :=
  ∑ k : Fin 2048, z (ix2 r k) * w (ix3 0 l k)

theorem first (z : Vec Ideal S512x2048 .bf16) (w : Vec Ideal S1x2048x2048 .bf16) (y : S512x2048.Idx) :
    k0_pay2 z w y = 0 + part z w (y 0) (y 1) := by
  simp only [part, zero_add]
  pointwise [k0_pay2, k0_pay1]

theorem later (z : Vec Ideal S512x2048 .bf16) (w : Vec Ideal S1x2048x2048 .bf16) (acc : Vec Ideal S512x2048 .f32) (y : S512x2048.Idx) :
    k0_pay3 z w acc y = acc y + part z w (y 0) (y 1) := by
  simp only [part]
  pointwise [k0_pay3, k0_pay1]

/-- The reference's product, read at an index. -/
theorem ref_apply (w z : FVec Ideal S2048x8192 .f32) (r l : Fin 2048) :
    Cert.ProjBRefIdeal.Read.val_main_v2 (F := Ideal) w z (ix2 r l) = ∑ k : Fin 8192, z (ix2 r k) * w (ix2 l k) := by
  simp only [Cert.ProjBRefIdeal.Read.val_main_v2]
  pointwise

variable (m : (ℓ : Loc nD τ sig) → Buf (Elt Ideal) ℓ)

theorem idx : ∀ t : Fin cfg0.N, win0_0.index t = ![t.val / 4, t.val % 4] ∧ win0_1.index t = ![t.val % 4, 0, 0]
    ∧ win0_2.index t = ![t.val / 4, 0] :=
  (by decide +kernel : ∀ t : Fin grid0.N, _)

theorem lt16 (t : Fin cfg0.N) : t.val < 16 := t.isLt

/-- The row of the whole array under row `r` of point `t`'s block, and the gathered block that the point has. -/
def row (t : Fin cfg0.N) (r : Fin 512) : Fin 2048 := ⟨t.val / 4 * 512 + r.val, by have := lt16 t; omega⟩
def block (t : Fin cfg0.N) : Fin 4 := ⟨t.val % 4, by omega⟩

abbrev W (c : Dev nD) := m (c, Proc.tc.devRef main_arg0)
abbrev Z (c : Dev nD) := m (c, Proc.tc.devRef main_arg1)

open StableHlo in
theorem V_v2 (c : Dev nD) : V m c main_v2 = blocks (W m c) := by
  show StableHlo.after _ _ _ = _
  after_results_simp <;> rfl

open StableHlo in
theorem V_v3 (c : Dev nD) : V m c main_v3 = Z m c := by
  show StableHlo.after _ _ _ = _
  after_results_simp <;> rfl

theorem blk0 (c : Dev nD) (t : Fin cfg0.N) (r : Fin 512) (k : Fin 2048) :
    iblk m c 0 t (ix2 r k) = Z m c (ix2 (row t r) (wcol (block t) k)) := by
  have e : iblk m c 0 t (ix2 r k) = V m c main_v3 (ix2 (row t r) (wcol (block t) k)) := by blk_ext [iblk, idx t, row, wcol, block]
  rw [e, V_v3]

theorem blk1 (c : Dev nD) (t : Fin cfg0.N) (l k : Fin 2048) : iblk m c 1 t (ix3 0 l k) = W m c (ix2 l (wcol (block t) k)) := by
  have e : iblk m c 1 t (ix3 0 l k) = V m c main_v2 (ix3 (block t) l k) := by blk_ext [iblk, idx t, block]
  rw [e, V_v2, blocks_apply]

/-- What the accumulator holds after the last of the four points: the sum of their products. -/
theorem acc_eq (c : Dev nD) (t : Fin cfg0.N) (h : t.val % 4 = 4 - 1) (y : S512x2048.Idx) :
    (outsAt0 m c t.val t.isLt).2 y = (fun _ => (0 : EReal)) y
      + ∑ s : Fin 4, part (iblk m c 0 ⟨4 * (t.val / 4) + s.val, Pipeline.run_point_lt_of_flush t h s⟩)
          (iblk m c 1 ⟨4 * (t.val / 4) + s.val, Pipeline.run_point_lt_of_flush t h s⟩) (y 0) (y 1) := by
  rw [Pipeline.eq_sum_fin_of_reset_step_apply_of_flush (fun n h => (outsAt0 m c n h).2) 4 (fun _ => (0 : EReal))
    (fun t y => part (iblk m c 0 t) (iblk m c 1 t) (y 0) (y 1)) ?_ ?_ t h y]
  · intro t h y
    rw [outsAt0_A m c t h (by omega) (by omega)]
    frame_out
    exact first _ _ y
  · intro t h y
    by_cases h2 : t.val % 4 = 3
    · rw [outsAt0_C m c t h (by omega) h2]
      frame_out
      simp only [read_unread_whole]
      exact later _ _ _ y
    · rw [outsAt0_B m c t h (by omega) h2]
      frame_out
      simp only [read_unread_whole]
      exact later _ _ _ y

/-- The last of the four points writes the accumulator back. -/
theorem out_eq (c : Dev nD) (t : Fin cfg0.N) (h : t.val % 4 = 3) : (outsAt0 m c t.val t.isLt).1 = (outsAt0 m c t.val t.isLt).2 := by
  rw [outsAt0_C m c t (by omega) (by omega) h]
  frame_out

/-- The four points' products of these rows and columns sum to the reference's product. -/
theorem block_eq (w z : FVec Ideal S2048x8192 .f32) (zb : Fin 4 → Vec Ideal S512x2048 .bf16)
    (wb : Fin 4 → Vec Ideal S1x2048x2048 .bf16) (r : Fin 512) (l : Fin 2048) (R : Fin 2048)
    (hz : ∀ (s : Fin 4) (k : Fin 2048), zb s (ix2 r k) = z (ix2 R (wcol s k)))
    (hw : ∀ (s : Fin 4) (k : Fin 2048), wb s (ix3 0 l k) = w (ix2 l (wcol s k))) :
    (0 : EReal) + ∑ s : Fin 4, part (zb s) (wb s) r l = Cert.ProjBRefIdeal.Read.val_main_v2 (F := Ideal) w z (ix2 R l) := by
  rw [ref_apply, zero_add]
  refine Fin.sum_mul_add_congr fun s k hl => ?_
  rw [hz, hw]
  rfl

theorem cotangent (c : Dev nD) : (dats m 0 c).arrAt 2 cfg0.N = Cert.ProjBRefIdeal.Read.val_main_v2 (F := Ideal) (W m c) (Z m c) := by
  refine (dats m 0 c).arrAt_eq_of_covers 2 _ (by decide +kernel) fun t hf y => ?_
  have h3 : t.val % 4 = 3 := (flush0_2 t).mp hf
  blk_simp
  rw [after0_2, out_eq m c t h3]
  obtain ⟨r, l, rfl⟩ : ∃ (r : Fin 512) (l : Fin 2048), y = ix2 r l := ⟨y 0, y 1, by funext i; fin_cases i <;> rfl⟩
  have e : ((View.whole main_v4).slice (win0_2.rect t)).emb (ix2 r l) = ix2 (row t r) l := by blk_ext [idx t, row]
  rw [e, acc_eq m c t h3]
  have hp (s : Fin 4) : row ⟨4 * (t.val / 4) + s.val, Pipeline.run_point_lt_of_flush t h3 s⟩ r = row t r :=
    Fin.ext (by simp only [row]; omega)
  have hb (s : Fin 4) : block ⟨4 * (t.val / 4) + s.val, Pipeline.run_point_lt_of_flush t h3 s⟩ = s :=
    Fin.ext (by simp only [block]; omega)
  refine block_eq (W m c) (Z m c) _ _ r l (row t r) (fun s k => ?_) (fun s k => ?_)
  · rw [blk0, hp, hb]
  · rw [blk1, hb]

/-- The reference never faults and leaves its arguments. -/
theorem frame_ref : Cert.quiescent_ProjBRefIdeal (hProjBRefIdeal := Cert.ProjBRefIdeal.Gen.facts) := by
  intro m ρ _
  exact (θ_run _ _ _).mono (fun r h => ⟨fun c => (h c).2, sem_eq_zero_of_no_sems (by decide) _⟩) (Cert.ProjBRefIdeal.Value.run m ρ)

/-- From equal arguments the call and its reference end with equal results. -/
theorem algebraic : Cert.algebraic_ProjBIdeal_ProjBRefIdeal (hProjBIdeal := Cert.ProjBIdeal.Gen.facts) (hProjBRefIdeal := Cert.ProjBRefIdeal.Gen.facts) := by
  pair_intro
  · run_from Cert.ProjBIdeal.Value.run_blocks (F := Ideal) m g
  · run_from Cert.ProjBRefIdeal.Value.run (F := Ideal) m' g'
    obtain ⟨h0, h1⟩ := hagree c
    rw [cotangent, W, Z, ← h0, ← h1]
    exact Cert.ProjBRefIdeal.Read.val_main_v2_eq (F := Ideal) _ _

end Cert.Proof.ProjB

end
-- ==== Proof.ProjDw.lean ====
/- The gradient of the input projection's weights. The grid has 8 × 2 points; point `2 n + i` has columns `1024 i …` of the
   activations and columns `1024 n …` of the cotangent, and writes the block of the gradient that lies in the gathered block
   `n / 2`, rows `1024 i …`, half `n % 2`. Each output block is the reference's gradient there, so the array is (`gradient`). -/
module

public import proofs.«01_k».proof.Defs
public import proofs.«01_k».proof.Proof.Gen.ProjDwIdeal.Value
public import proofs.«01_k».proof.Proof.Gen.ProjDwRefIdeal.Run
public import proofs.«01_k».proof.Proof.Gen.ProjDwRefIdeal.Read
public import Idealize.ShloMosaic.Lib.Pointwise
public import Idealize.ShloMosaic.Lib.Pipeline.ValueKit
public import Idealize.ShloMosaic.Lib.Claim

@[expose] public section

set_option maxRecDepth 16384

noncomputable section

namespace Cert.Proof.ProjDw

open Cert.ProjDwIdeal Cert.ProjDwIdeal.Gen Idealize.ShloMosaic Idealize.ShloMosaic.TcCoe Idealize.SL.Sem

/-- The column of the whole cotangent under column `l` of gathered block `b`. -/
def wcol (b : Fin 4) (l : Fin 2048) : Fin 8192 := ⟨b.val * 2048 + l.val, by omega⟩

/-- One block of the gradient, read at an index. -/
theorem payload (x z : Vec Ideal S2048x1024 .bf16) (r l : Fin 1024) :
    k0_pay1 x z (ix3 0 r l) = ∑ k : Fin 2048, x (ix2 k r) * z (ix2 k l) := by
  pointwise [k0_pay1]

/-- The reference's gradient, read at an index. -/
theorem ref_apply (x : FVec Ideal S2048x2048 .f32) (z : FVec Ideal S2048x8192 .f32) (b : Fin 4) (r l : Fin 2048) :
    Cert.ProjDwRefIdeal.Read.val_main_v5 (F := Ideal) x z (ix3 b r l) = ∑ k : Fin 2048, x (ix2 k r) * z (ix2 k (wcol b l)) := by
  simp only [Cert.ProjDwRefIdeal.Read.val_main_v5, Cert.ProjDwRefIdeal.Read.val_main_v4, Cert.ProjDwRefIdeal.Read.val_main_v3,
    Cert.ProjDwRefIdeal.Read.val_main_v2]
  pointwise [wcol]
  exact Finset.sum_congr rfl fun k _ => mul_comm _ _

variable (m : (ℓ : Loc nD τ sig) → Buf (Elt Ideal) ℓ)

theorem idx : ∀ t : Fin cfg0.N, win0_0.index t = ![0, t.val % 2] ∧ win0_1.index t = ![0, t.val / 2]
    ∧ win0_2.index t = ![t.val / 4, t.val % 2, t.val / 2 % 2] :=
  (by decide +kernel : ∀ t : Fin grid0.N, _)

theorem lt16 (t : Fin cfg0.N) : t.val < 16 := t.isLt

/-- The rows and columns that point `t` has. -/
def row (t : Fin cfg0.N) (r : Fin 1024) : Fin 2048 := ⟨t.val % 2 * 1024 + r.val, by omega⟩
def col (t : Fin cfg0.N) (l : Fin 1024) : Fin 8192 := ⟨t.val / 2 * 1024 + l.val, by have := lt16 t; omega⟩
def block (t : Fin cfg0.N) : Fin 4 := ⟨t.val / 4, by have := lt16 t; omega⟩
def half (t : Fin cfg0.N) (l : Fin 1024) : Fin 2048 := ⟨t.val / 2 % 2 * 1024 + l.val, by omega⟩

theorem wcol_half (t : Fin cfg0.N) (l : Fin 1024) : wcol (block t) (half t l) = col t l :=
  Fin.ext (by simp only [wcol, block, half, col]; omega)

abbrev X (c : Dev nD) := m (c, Proc.tc.devRef main_arg0)
abbrev Z (c : Dev nD) := m (c, Proc.tc.devRef main_arg1)

open StableHlo in
theorem V_v0 (c : Dev nD) : V m c main_v0 = X m c := by
  show StableHlo.after _ _ _ = _
  after_results_simp <;> rfl

open StableHlo in
theorem V_v1 (c : Dev nD) : V m c main_v1 = Z m c := by
  show StableHlo.after _ _ _ = _
  after_results_simp <;> rfl

theorem blk0 (c : Dev nD) (t : Fin cfg0.N) (k : Fin 2048) (r : Fin 1024) : iblk m c 0 t (ix2 k r) = X m c (ix2 k (row t r)) := by
  have e : iblk m c 0 t (ix2 k r) = V m c main_v0 (ix2 k (row t r)) := by blk_ext [iblk, idx t, row]
  rw [e, V_v0]

theorem blk1 (c : Dev nD) (t : Fin cfg0.N) (k : Fin 2048) (l : Fin 1024) : iblk m c 1 t (ix2 k l) = Z m c (ix2 k (col t l)) := by
  have e : iblk m c 1 t (ix2 k l) = V m c main_v1 (ix2 k (col t l)) := by blk_ext [iblk, idx t, col]
  rw [e, V_v1]

/-- A block whose operands are these columns is the reference's gradient there. -/
theorem block_eq (x : FVec Ideal S2048x2048 .f32) (z : FVec Ideal S2048x8192 .f32) (xb zb : Vec Ideal S2048x1024 .bf16)
    (r l : Fin 1024) (R : Fin 2048) (b : Fin 4) (L : Fin 2048)
    (hx : ∀ k : Fin 2048, xb (ix2 k r) = x (ix2 k R)) (hz : ∀ k : Fin 2048, zb (ix2 k l) = z (ix2 k (wcol b L))) :
    k0_pay1 xb zb (ix3 0 r l) = Cert.ProjDwRefIdeal.Read.val_main_v5 (F := Ideal) x z (ix3 b R L) := by
  rw [payload, ref_apply]
  exact Finset.sum_congr rfl fun k _ => by rw [hx, hz]

theorem gradient (c : Dev nD) : (dats m 0 c).arrAt 2 cfg0.N = Cert.ProjDwRefIdeal.Read.val_main_v5 (F := Ideal) (X m c) (Z m c) := by
  refine (dats m 0 c).arrAt_eq_of_covers 2 _ (by decide +kernel) fun t hf y => ?_
  blk_simp
  rw [after0_2]
  frame_out
  obtain ⟨r, l, rfl⟩ : ∃ (r : Fin 1024) (l : Fin 1024), y = ix3 0 r l :=
    ⟨y 1, y 2, by funext i; fin_cases i; exacts [Subsingleton.elim (α := Fin 1) _ _, rfl, rfl]⟩
  have e : ((View.whole main_v2).slice (win0_2.rect t)).emb (ix3 0 r l) = ix3 (block t) (row t r) (half t l) := by
    blk_ext [idx t, row, block, half]
  rw [e]
  exact block_eq (X m c) (Z m c) _ _ r l (row t r) (block t) (half t l) (fun k => blk0 m c t k r)
    (fun k => by rw [wcol_half]; exact blk1 m c t k l)

/-- The reference never faults and leaves its arguments. -/
theorem frame_ref : Cert.quiescent_ProjDwRefIdeal (hProjDwRefIdeal := Cert.ProjDwRefIdeal.Gen.facts) := by
  intro m ρ _
  exact (θ_run _ _ _).mono (fun r h => ⟨fun c => (h c).2, sem_eq_zero_of_no_sems (by decide) _⟩) (Cert.ProjDwRefIdeal.Value.run m ρ)

/-- From equal arguments the call and its reference end with equal results. -/
theorem algebraic : Cert.algebraic_ProjDwIdeal_ProjDwRefIdeal (hProjDwIdeal := Cert.ProjDwIdeal.Gen.facts) (hProjDwRefIdeal := Cert.ProjDwRefIdeal.Gen.facts) := by
  pair_intro
  · run_from Cert.ProjDwIdeal.Value.run_blocks (F := Ideal) m g
  · run_from Cert.ProjDwRefIdeal.Value.run (F := Ideal) m' g'
    obtain ⟨h0, h1⟩ := hagree c
    rw [gradient, X, Z, ← h0, ← h1]
    exact Cert.ProjDwRefIdeal.Read.val_main_v5_eq (F := Ideal) _ _

end Cert.Proof.ProjDw

end
-- ==== Proof.SOutB.lean ====
/- The backward call of the S5 branch's output product, with the gradients of the gated unit in its epilogue. The grid has 2 × 4
   points; point `4 i + j` adds, into a block of rows `1024 i …` that the four points of one `i` share, the product of the
   cotangent's columns `512 j …` with the block `j` of the weight's columns. The last of the four multiplies the sum by the gate and,
   for the second result, by the gelu's value and the gate's derivative. The reference multiplies the same numbers in another order. -/
module

public import proofs.«01_k».proof.Defs
public import proofs.«01_k».proof.Proof.SOut
public import proofs.«01_k».proof.Proof.Gen.SOutBIdeal.Value
public import proofs.«01_k».proof.Proof.Gen.SOutBRefIdeal.Run
public import proofs.«01_k».proof.Proof.Gen.SOutBRefIdeal.Read
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.Proof.SOutB

open Cert.SOutBIdeal Cert.SOutBIdeal.Gen Idealize.ShloMosaic Idealize.ShloMosaic.TcCoe Idealize.SL.Sem

/-- The product of one block of the cotangent with one block of the weight, at row `r` and column `l`. -/
def part (z : Vec Ideal S1024x512 .bf16) (w : Vec Ideal S1x1024x512 .bf16) (r l : Fin 1024) : EReal :=
  ∑ k : Fin 512, z (ix2 r k) * w (ix3 0 l k)

theorem first (z : Vec Ideal S1024x512 .bf16) (w : Vec Ideal S1x1024x512 .bf16) (y : S1024x1024.Idx) :
    k0_pay2 z w y = 0 + part z w (y 0) (y 1) := by
  simp only [part, zero_add]
  pointwise [k0_pay2, k0_pay1]

theorem later (z : Vec Ideal S1024x512 .bf16) (w : Vec Ideal S1x1024x512 .bf16) (acc : Vec Ideal S1024x1024 .f32) (y : S1024x1024.Idx) :
    k0_pay3 z w acc y = acc y + part z w (y 0) (y 1) := by
  simp only [part]
  pointwise [k0_pay3, k0_pay1]

/-- The whole product at row `r` and column `l`. -/
def dot (w : FVec Ideal S1024x2048 .f32) (z : FVec Ideal S2048x2048 .f32) (r : Fin 2048) (l : Fin 1024) : EReal :=
  ∑ k : Fin 2048, z (ix2 r k) * w (ix2 l k)

/-- The gelu of one number, by the tanh. -/
def gelu (x : EReal) : EReal :=
  x * (Ideal.ofBits .f32 0x3F000000#32
    * (1 + Ideal.tanh (Ideal.ofBits .f32 0x3F4C422A#32 * (x + Ideal.ofBits .f32 0x3D372713#32 * (x * x * x)))))

/-- The derivative of the logistic function. -/
def slope (x : EReal) : EReal := Ideal.logistic x * (1 - Ideal.logistic x)

theorem payload5 (a q : Vec Ideal S1024x1024 .f32) (r l : Fin 1024) :
    k0_pay5 a q (ix2 r l) = a (ix2 r l) * Ideal.logistic (q (ix2 r l)) := by
  pointwise [k0_pay5, k0_pay4]

theorem payload6 (a y q : Vec Ideal S1024x1024 .f32) (r l : Fin 1024) :
    k0_pay6 a y q (ix2 r l) = gelu (y (ix2 r l)) * a (ix2 r l) * slope (q (ix2 r l)) := by
  unfold gelu slope
  pointwise [k0_pay6, k0_pay4]
  simp only [mul_comm, mul_left_comm, mul_assoc]

/-- The gate's argument, as the forward pass computes it. -/
abbrev gateArg (y : FVec Ideal S2048x1024 .f32) (wg : FVec Ideal S1024x1024 .f32) (bg : FVec Ideal S1024 .f32) : FVec Ideal S2048x1024 .f32 :=
  Cert.SOutBRefIdeal.Read.val_main_v16 (F := Ideal) y wg bg

section Reference
open Cert.SOutBRefIdeal.Read
variable (y : FVec Ideal S2048x1024 .f32) (wg : FVec Ideal S1024x1024 .f32) (bg : FVec Ideal S1024 .f32)
  (w : FVec Ideal S1024x2048 .f32) (z : FVec Ideal S2048x2048 .f32) (r : Fin 2048) (l : Fin 1024)

theorem ref30_apply : val_main_v30 (F := Ideal) y wg bg w z (ix2 r l) = dot w z r l * Ideal.logistic (gateArg y wg bg (ix2 r l)) := by
  unfold dot Ideal.logistic
  simp only [val_main_v30, val_main_v28, val_main_v22, val_main_v21, val_main_v20, val_main_v19, val_main_v18, val_main_v17, val_main_cst_3, val_main_cst_4]
  pointwise

theorem ref32_apply : val_main_v32 (F := Ideal) y wg bg w z (ix2 r l)
    = gelu (y (ix2 r l)) * dot w z r l * slope (gateArg y wg bg (ix2 r l)) := by
  unfold dot gelu slope Ideal.logistic
  simp only [val_main_v32, val_main_v31, val_main_v29, val_main_v28, val_main_v25, val_main_v24, val_main_v23, val_main_cst_5,
    val_main_v22, val_main_v21, val_main_v20, val_main_v19, val_main_v18, val_main_v17, val_main_cst_3, val_main_cst_4,
    val_main_v12, val_main_v11, val_main_v10, val_main_v9, val_main_v8, val_main_v7, val_main_v6, val_main_v5, val_main_v4, val_main_v3,
    val_main_v2, val_main_v1, val_main_v0, val_main_cst, val_main_cst_0, val_main_cst_1, val_main_cst_2]
  pointwise

end Reference

variable (m : (ℓ : Loc nD τ sig) → Buf (Elt Ideal) ℓ)

theorem idx : ∀ t : Fin cfg0.N, win0_0.index t = ![t.val / 4, t.val % 4]
    ∧ win0_1.index t = ![t.val % 4, 0, 0]
    ∧ win0_2.index t = ![t.val / 4, 0]
    ∧ win0_3.index t = ![t.val / 4, 0]
    ∧ win0_4.index t = ![t.val / 4, 0]
    ∧ win0_5.index t = ![t.val / 4, 0] :=
  (by decide +kernel : ∀ t : Fin grid0.N, _)

theorem lt8 (t : Fin cfg0.N) : t.val < 8 := t.isLt

/-- The row of the whole arrays under row `r` of point `t`'s block, and the block of the weight that the point has. -/
def row (t : Fin cfg0.N) (r : Fin 1024) : Fin 2048 := ⟨t.val / 4 * 1024 + r.val, by have := lt8 t; omega⟩
def block (t : Fin cfg0.N) : Fin 4 := ⟨t.val % 4, by omega⟩

abbrev Y (c : Dev nD) : FVec Ideal S2048x1024 .f32 := m (c, Proc.tc.devRef main_arg0)
abbrev Wg (c : Dev nD) : FVec Ideal S1024x1024 .f32 := m (c, Proc.tc.devRef main_arg1)
abbrev Bg (c : Dev nD) : FVec Ideal S1024 .f32 := m (c, Proc.tc.devRef main_arg2)
abbrev W (c : Dev nD) : FVec Ideal S1024x2048 .f32 := m (c, Proc.tc.devRef main_arg3)
abbrev Z (c : Dev nD) : FVec Ideal S2048x2048 .f32 := m (c, Proc.tc.devRef main_arg4)

open StableHlo in
theorem V_v16 (c : Dev nD) : V m c main_v16 = gateArg (Y m c) (Wg m c) (Bg m c) := by
  show StableHlo.after _ _ _ = _
  after_results_simp <;> rfl

open StableHlo in
theorem V_v19 (c : Dev nD) : V m c main_v19 = SOut.blocks (W m c) := by
  show StableHlo.after _ _ _ = _
  after_results_simp <;> rfl

open StableHlo in
theorem V_v20 (c : Dev nD) : V m c main_v20 = Z m c := by
  show StableHlo.after _ _ _ = _
  after_results_simp <;> rfl

theorem blk0 (c : Dev nD) (t : Fin cfg0.N) (r : Fin 1024) (k : Fin 512) : iblk m c 0 t (ix2 r k) = Z m c (ix2 (row t r) (SOut.wcol (block t) k)) := by
  have e : iblk m c 0 t (ix2 r k) = V m c main_v20 (ix2 (row t r) (SOut.wcol (block t) k)) := by blk_ext [iblk, idx t, row, SOut.wcol, block]
  rw [e, V_v20]

theorem blk1 (c : Dev nD) (t : Fin cfg0.N) (l : Fin 1024) (k : Fin 512) : iblk m c 1 t (ix3 0 l k) = W m c (ix2 l (SOut.wcol (block t) k)) := by
  have e : iblk m c 1 t (ix3 0 l k) = V m c main_v19 (ix3 (block t) l k) := by blk_ext [iblk, idx t, block]
  rw [e, V_v19, SOut.blocks_apply]

theorem blk2 (c : Dev nD) (t : Fin cfg0.N) (r l : Fin 1024) : iblk m c 2 t (ix2 r l) = Y m c (ix2 (row t r) l) := by blk_ext [iblk, idx t, row]

theorem blk3 (c : Dev nD) (t : Fin cfg0.N) (r l : Fin 1024) : iblk m c 3 t (ix2 r l) = gateArg (Y m c) (Wg m c) (Bg m c) (ix2 (row t r) l) := by
  have e : iblk m c 3 t (ix2 r l) = V m c main_v16 (ix2 (row t r) l) := by blk_ext [iblk, idx t, row]
  rw [e, V_v16]

/-- What the accumulator holds after the last of the four points: the sum of their products. -/
theorem acc_eq (c : Dev nD) (t : Fin cfg0.N) (h : t.val % 4 = 4 - 1) (y : S1024x1024.Idx) :
    (outsAt0 m c t.val t.isLt).2.2 y = (fun _ => (0 : EReal)) y
      + ∑ s : Fin 4, part (iblk m c 0 ⟨4 * (t.val / 4) + s.val, Pipeline.run_point_lt_of_flush t h s⟩)
          (iblk m c 1 ⟨4 * (t.val / 4) + s.val, Pipeline.run_point_lt_of_flush t h s⟩) (y 0) (y 1) := by
  rw [Pipeline.eq_sum_fin_of_reset_step_apply_of_flush (fun n h => (outsAt0 m c n h).2.2) 4 (fun _ => (0 : EReal))
    (fun t y => part (iblk m c 0 t) (iblk m c 1 t) (y 0) (y 1)) ?_ ?_ t h y]
  · intro t h y
    rw [outsAt0_A m c t h (by omega) (by omega)]
    frame_out
    exact first _ _ y
  · intro t h y
    by_cases h2 : t.val % 4 = 3
    · rw [outsAt0_C m c t h (by omega) h2]
      frame_out
      simp only [read_unread_whole]
      exact later _ _ _ y
    · rw [outsAt0_B m c t h (by omega) h2]
      frame_out
      simp only [read_unread_whole]
      exact later _ _ _ y

/-- The four points' products of these rows and columns sum to the whole product. -/
theorem sum_eq (w : FVec Ideal S1024x2048 .f32) (z : FVec Ideal S2048x2048 .f32) (zb : Fin 4 → Vec Ideal S1024x512 .bf16)
    (wb : Fin 4 → Vec Ideal S1x1024x512 .bf16) (r l : Fin 1024) (R : Fin 2048)
    (hz : ∀ (s : Fin 4) (k : Fin 512), zb s (ix2 r k) = z (ix2 R (SOut.wcol s k)))
    (hw : ∀ (s : Fin 4) (k : Fin 512), wb s (ix3 0 l k) = w (ix2 l (SOut.wcol s k))) :
    (0 : EReal) + ∑ s : Fin 4, part (zb s) (wb s) r l = dot w z R l := by
  rw [dot, zero_add]
  refine Fin.sum_mul_add_congr fun s k hl => ?_
  rw [hz, hw]
  rfl

theorem acc_dot (c : Dev nD) (t : Fin cfg0.N) (h3 : t.val % 4 = 3) (r l : Fin 1024) :
    (outsAt0 m c t.val t.isLt).2.2 (ix2 r l) = dot (W m c) (Z m c) (row t r) l := by
  rw [acc_eq m c t h3]
  have hp (s : Fin 4) : row ⟨4 * (t.val / 4) + s.val, Pipeline.run_point_lt_of_flush t h3 s⟩ r = row t r :=
    Fin.ext (by simp only [row]; omega)
  have hb (s : Fin 4) : block ⟨4 * (t.val / 4) + s.val, Pipeline.run_point_lt_of_flush t h3 s⟩ = s :=
    Fin.ext (by simp only [block]; omega)
  refine sum_eq (W m c) (Z m c) _ _ r l (row t r) (fun s k => ?_) (fun s k => ?_)
  · rw [blk0, hp, hb]
  · rw [blk1, hb]

/-- What the last of the four points writes into the two results. -/
theorem out4_eq (c : Dev nD) (t : Fin cfg0.N) (h : t.val % 4 = 3) :
    (outsAt0 m c t.val t.isLt).1 = k0_pay5 (outsAt0 m c t.val t.isLt).2.2 (iblk m c 3 t) := by
  rw [outsAt0_C m c t (by omega) (by omega) h]
  frame_out

theorem out5_eq (c : Dev nD) (t : Fin cfg0.N) (h : t.val % 4 = 3) :
    (outsAt0 m c t.val t.isLt).2.1 = k0_pay6 (outsAt0 m c t.val t.isLt).2.2 (iblk m c 2 t) (iblk m c 3 t) := by
  rw [outsAt0_C m c t (by omega) (by omega) h]
  frame_out

theorem ix2_of (y : S1024x1024.Idx) : ∃ (r : Fin 1024) (l : Fin 1024), y = ix2 r l := ⟨y 0, y 1, by funext i; fin_cases i <;> rfl⟩

/-- The gradient in the gelu's value. -/
theorem dvalue (c : Dev nD) : (dats m 0 c).arrAt 4 cfg0.N
    = Cert.SOutBRefIdeal.Read.val_main_v30 (F := Ideal) (Y m c) (Wg m c) (Bg m c) (W m c) (Z m c) := by
  refine (dats m 0 c).arrAt_eq_of_covers 4 _ (by decide +kernel) fun t hf y => ?_
  have h3 : t.val % 4 = 3 := (flush0_4 t).mp hf
  blk_simp
  rw [after0_4, out4_eq m c t h3]
  obtain ⟨r, l, rfl⟩ := ix2_of y
  have e : ((View.whole main_v21_0).slice (win0_4.rect t)).emb (ix2 r l) = ix2 (row t r) l := by blk_ext [idx t, row]
  rw [e, payload5, acc_dot m c t h3, blk3 m c t r l, ref30_apply]

/-- The gradient in the gate's argument. -/
theorem dgate (c : Dev nD) : (dats m 0 c).arrAt 5 cfg0.N
    = Cert.SOutBRefIdeal.Read.val_main_v32 (F := Ideal) (Y m c) (Wg m c) (Bg m c) (W m c) (Z m c) := by
  refine (dats m 0 c).arrAt_eq_of_covers 5 _ (by decide +kernel) fun t hf y => ?_
  have h3 : t.val % 4 = 3 := (flush0_5 t).mp hf
  blk_simp
  rw [after0_5, out5_eq m c t h3]
  obtain ⟨r, l, rfl⟩ := ix2_of y
  have e : ((View.whole main_v21_1).slice (win0_5.rect t)).emb (ix2 r l) = ix2 (row t r) l := by blk_ext [idx t, row]
  rw [e, payload6, acc_dot m c t h3, blk2 m c t r l, blk3 m c t r l, ref32_apply]

/-- The reference never faults and leaves its arguments. -/
theorem frame_ref : Cert.quiescent_SOutBRefIdeal (hSOutBRefIdeal := Cert.SOutBRefIdeal.Gen.facts) := by
  intro m ρ _
  exact (θ_run _ _ _).mono (fun r h => ⟨fun c => (h c).2.2, sem_eq_zero_of_no_sems (by decide) _⟩) (Cert.SOutBRefIdeal.Value.run m ρ)

/-- From equal arguments the call and its reference end with equal results. -/
theorem algebraic : Cert.algebraic_SOutBIdeal_SOutBRefIdeal (hSOutBIdeal := Cert.SOutBIdeal.Gen.facts)
    (hSOutBRefIdeal := Cert.SOutBRefIdeal.Gen.facts) := by
  pair_intro
  · run_from Cert.SOutBIdeal.Value.run_blocks (F := Ideal) m g
  · run_from Cert.SOutBRefIdeal.Value.run (F := Ideal) m' g'
    · rw [dvalue]
      exact Cert.SOutBRefIdeal.Read.val_main_v30_eq (F := Ideal) _ _ _ _ _
    · rw [dgate]
      exact Cert.SOutBRefIdeal.Read.val_main_v32_eq (F := Ideal) _ _ _ _ _

end Cert.Proof.SOutB

end
-- ==== Proof.SumSmall.lean ====
/- The sum of the eight devices' packed gradients of the small weights, with the loss in the last slot: at every point of the grid of 9 the
   sum of the eight parts' 256 rows. -/
module

public import proofs.«01_k».proof.Defs
public import proofs.«01_k».proof.Proof.Gen.SumSmallIdeal.Value
public import proofs.«01_k».proof.Proof.Gen.SumSmallRefIdeal.Run
public import proofs.«01_k».proof.Proof.Gen.SumSmallRefIdeal.Read
public import Idealize.ShloMosaic.Lib.Pointwise
public import Idealize.ShloMosaic.Lib.Pipeline.ValueKit
public import Idealize.ShloMosaic.Lib.Claim

@[expose] public section

set_option maxRecDepth 16384

noncomputable section

namespace Cert.Proof.SumSmall

open Cert.SumSmallIdeal Cert.SumSmallIdeal.Gen Idealize.ShloMosaic Idealize.ShloMosaic.TcCoe Idealize.SL.Sem

/-- The sum of the eight parts at one index. -/
def total (x : Fin 8 → EReal) : EReal := ∑ k, x k

theorem payload1 (x : Vec Ideal S8x256x128 .f32) (r : Fin 256) (l : Fin 128) : k0_pay1 x (ix2 r l) = total fun k => x (ix3 k r l) := by
  unfold total
  rw [Fin.sum_univ_eight]
  pointwise [k0_pay1]

theorem ref_apply (x : FVec Ideal S8x2304x128 .f32) (r : Fin 2304) (l : Fin 128) :
    Cert.SumSmallRefIdeal.Read.val_main_v0 (F := Ideal) x (ix2 r l) = total fun k => x (ix3 k r l) := by
  unfold total
  simp only [Cert.SumSmallRefIdeal.Read.val_main_v0, Cert.SumSmallRefIdeal.Read.val_main_cst]
  pointwise

variable (m : (ℓ : Loc nD τ sig) → Buf (Elt Ideal) ℓ)

theorem idx : ∀ t : Fin cfg0.N, win0_0.index t = ![0, t.val, 0]
    ∧ win0_1.index t = ![t.val, 0] :=
  (by decide +kernel : ∀ t : Fin grid0.N, _)

theorem lt9 (t : Fin cfg0.N) : t.val < 9 := t.isLt

/-- The row of the whole arrays under row `r` of point `t`'s block. -/
def row (t : Fin cfg0.N) (r : Fin 256) : Fin 2304 := ⟨t.val * 256 + r.val, by have := lt9 t; omega⟩

abbrev X (c : Dev nD) : FVec Ideal S8x2304x128 .f32 := m (c, Proc.tc.devRef main_arg0)

theorem blk0 (c : Dev nD) (t : Fin cfg0.N) (k : Fin 8) (r : Fin 256) (l : Fin 128) : iblk m c 0 t (ix3 k r l) = X m c (ix3 k (row t r) l) := by
  blk_ext [iblk, idx t, row]

theorem ix2_of (y : S256x128.Idx) : ∃ (r : Fin 256) (l : Fin 128), y = ix2 r l := ⟨y 0, y 1, by funext i; fin_cases i <;> rfl⟩

/-- The sum of the eight devices' parts. -/
theorem summed (c : Dev nD) : (dats m 0 c).arrAt 1 cfg0.N = Cert.SumSmallRefIdeal.Read.val_main_v0 (F := Ideal) (X m c) := by
  refine (dats m 0 c).arrAt_eq_of_covers 1 _ (by decide +kernel) fun t hf y => ?_
  blk_simp
  rw [after0_1]
  frame_out
  obtain ⟨r, l, rfl⟩ := ix2_of y
  have e : ((View.whole main_v0).slice (win0_1.rect t)).emb (ix2 r l) = ix2 (row t r) l := by blk_ext [idx t, row]
  rw [e]
  refine (payload1 _ r l).trans (Eq.trans ?_ (ref_apply _ _ l).symm)
  exact congrArg total (funext fun k => blk0 m c t k r l)

/-- The reference never faults and leaves its arguments. -/
theorem frame_ref : Cert.quiescent_SumSmallRefIdeal (hSumSmallRefIdeal := Cert.SumSmallRefIdeal.Gen.facts) := by
  intro m ρ _
  exact (θ_run _ _ _).mono (fun r h => ⟨fun c => (h c).2, sem_eq_zero_of_no_sems (by decide) _⟩) (Cert.SumSmallRefIdeal.Value.run m ρ)

/-- From equal arguments the call and its reference end with equal results. -/
theorem algebraic : Cert.algebraic_SumSmallIdeal_SumSmallRefIdeal (hSumSmallIdeal := Cert.SumSmallIdeal.Gen.facts)
    (hSumSmallRefIdeal := Cert.SumSmallRefIdeal.Gen.facts) := by
  pair_intro
  · run_from Cert.SumSmallIdeal.Value.run_blocks (F := Ideal) m g
  · refine θ_run_mono (Cert.SumSmallRefIdeal.Value.run (F := Ideal) m' g') fun r hr c => ⟨(hr c).1.trans ?_, (hr c).2⟩
    have h0 := hagree c
    rw [summed, X, ← h0]
    exact Cert.SumSmallRefIdeal.Read.val_main_v0_eq (F := Ideal) _

end Cert.Proof.SumSmall

end
-- ==== Proof.VecG.lean ====
/- The call that sums over the rows for two vectors of the S5 branch: the gradient of its gate's bias, the sum of the gate's
   argument's gradients, and the gradient of its skip weight, the sum of the products of the output's gradients and the inputs. The
   eight points of the grid have 256 rows each; each adds its block's sums to what the points before it left, and the sums of the
   eight blocks are the reference's sums over all 2048 rows. -/
module

public import proofs.«01_k».proof.Defs
public import proofs.«01_k».proof.Proof.Gen.VecGIdeal.Value
public import proofs.«01_k».proof.Proof.Gen.VecGRefIdeal.Read
public import Idealize.ShloMosaic.Lib.Claim
public import Idealize.ShloMosaic.Lib.Pointwise
public import Idealize.ShloMosaic.Lib.Pipeline.ValueKit

@[expose] public section

set_option maxRecDepth 16384

noncomputable section

namespace Cert.Proof.VecG

open Cert.VecGIdeal Cert.VecGIdeal.Gen Idealize.ShloMosaic Idealize.ShloMosaic.TcCoe Idealize.SL.Sem

/-- The column of an index of a single row. -/
def col (y : S1x1024.Idx) : Fin 1024 := y 1

theorem of_col (y : S1x1024.Idx) : y = ix2 0 (col y) := by
  funext i
  fin_cases i
  · exact Subsingleton.elim (α := Fin 1) _ _
  · rfl

theorem col_ix2 (l : Fin 1024) : col (ix2 0 l) = l := rfl

section Pay
variable (q : Vec Ideal S256x1024 .bf16) (d v : Vec Ideal S256x1024 .f32) (y : S1x1024.Idx)

/-- A block's parts of the two sums. -/
def biasPart (y : S1x1024.Idx) : EReal := ∑ r : Fin 256, q (ix2 r (col y))
def skipPart (y : S1x1024.Idx) : EReal := ∑ r : Fin 256, d (ix2 r (col y)) * v (ix2 r (col y))

theorem payload1 : k0_pay1 q y = biasPart q y := by
  rw [of_col y]
  unfold biasPart
  rw [col_ix2]
  pointwise [k0_pay1]

theorem payload2 : k0_pay2 d v y = skipPart d v y := by
  rw [of_col y]
  unfold skipPart
  rw [col_ix2]
  pointwise [k0_pay2]

theorem payload3 (acc : Vec Ideal S1x1024 .f32) : k0_pay3 q acc y = acc y + biasPart q y := by
  rw [← payload1]
  pointwise [k0_pay3]

theorem payload4 (acc : Vec Ideal S1x1024 .f32) : k0_pay4 d v acc y = acc y + skipPart d v y := by
  rw [← payload2]
  pointwise [k0_pay4]

end Pay

/-- The columns of the projection that are the branch's inputs. -/
def inc (n : Fin 1024) : Fin 8192 := ⟨n.val, by omega⟩

section Reference
open Cert.VecGRefIdeal.Read
variable (q d : FVec Ideal S2048x1024 .f32) (p : FVec Ideal S2048x8192 .f32) (y : S1x1024.Idx)

theorem ref_bias : val_main_v17 (F := Ideal) q y = ∑ r : Fin 2048, q (ix2 r (col y)) := by
  rw [of_col y, col_ix2]
  simp only [val_main_v17, val_main_v8, val_main_v7, val_main_v6, val_main_cst_1, val_main_cst_2]
  pointwise
  exact Fin.sum_univ_one _

theorem ref_skip : val_main_v18 (F := Ideal) d p y = ∑ r : Fin 2048, d (ix2 r (col y)) * p (ix2 r (inc (col y))) := by
  rw [of_col y, col_ix2]
  simp only [val_main_v18, val_main_v16, val_main_v15, val_main_v14, val_main_v13, val_main_v0, val_main_cst_4, val_main_cst_5, inc]
  pointwise
  simpa only [zero_add] using Fin.sum_univ_one _

end Reference

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![0, 0] :=
  (by decide +kernel : ∀ t : Fin grid0.N, _)

theorem lt8 (t : Fin cfg0.N) : t.val < 8 := t.isLt

/-- The row of the whole arrays under row `r` of point `t`'s block. -/
def row (t : Fin cfg0.N) (r : Fin 256) : Fin 2048 := ⟨t.val * 256 + r.val, by have := lt8 t; omega⟩

/-- The gradients of the gate's argument, of the output before the gate, and the projection. -/
abbrev Q (c : Dev nD) : FVec Ideal S2048x1024 .f32 := m (c, Proc.tc.devRef main_arg0)
abbrev D (c : Dev nD) : FVec Ideal S2048x1024 .f32 := m (c, Proc.tc.devRef main_arg1)
abbrev P (c : Dev nD) : FVec Ideal S2048x8192 .f32 := m (c, Proc.tc.devRef main_arg2)

open StableHlo in
theorem V_v0 (c : Dev nD) : V m c main_v0 = Q m c := by
  show StableHlo.after _ _ _ = _
  after_results_simp <;> rfl

section
variable (c : Dev nD) (t : Fin cfg0.N) (r : Fin 256) (l : Fin 1024)

theorem blk0 : iblk m c 0 t (ix2 r l) = Q m c (ix2 (row t r) l) := by
  have e : iblk m c 0 t (ix2 r l) = V m c main_v0 (ix2 (row t r) l) := by blk_ext [iblk, idx t, row]
  rw [e, V_v0]

theorem blk1 : iblk m c 1 t (ix2 r l) = D m c (ix2 (row t r) l) := by blk_ext [iblk, idx t, row]

theorem blk2 : iblk m c 2 t (ix2 r l) = P m c (ix2 (row t r) (inc l)) := by blk_ext [iblk, idx t, row, inc]

/-- Over the eight points the rows of the blocks are all rows. -/
theorem row_of (t : Fin cfg0.N) (h : t.val % 8 = 7) (s : Fin 8) (r : Fin 256) (hl : s.val * 256 + r.val < 2048) :
    row ⟨8 * (t.val / 8) + s.val, Pipeline.run_point_lt_of_flush t h s⟩ r = ⟨s.val * 256 + r.val, hl⟩ :=
  Fin.ext (by have := lt8 t; simp only [row]; omega)

end

/-- What the first result's block holds after the last of the eight points: the sum of their parts. -/
theorem bias_acc (c : Dev nD) (t : Fin cfg0.N) (h : t.val % 8 = 8 - 1) (y : S1x1024.Idx) :
    (outsAt0 m c t.val t.isLt).1 y = (fun _ => (0 : EReal)) y
      + ∑ s : Fin 8, biasPart (iblk m c 0 ⟨8 * (t.val / 8) + s.val, Pipeline.run_point_lt_of_flush t h s⟩) y := by
  rw [Pipeline.eq_sum_fin_of_reset_step_apply_of_flush (fun n h => (outsAt0 m c n h).1) 8 (fun _ => (0 : EReal))
    (fun t y => biasPart (iblk m c 0 t) y) ?_ ?_ t h y]
  · intro t h y
    have hN := lt8 t
    rw [outsAt0_A m c t h (by omega) h (by omega)]
    frame_out
    exact ((payload1 _ y).trans (zero_add _).symm)
  · intro t h y
    rw [outsAt0_B m c t h (by omega) h (by omega)]
    frame_out
    exact payload3 _ y _

/-- What the second result's block holds after the last of the eight points. -/
theorem skip_acc (c : Dev nD) (t : Fin cfg0.N) (h : t.val % 8 = 8 - 1) (y : S1x1024.Idx) :
    (outsAt0 m c t.val t.isLt).2 y = (fun _ => (0 : EReal)) y
      + ∑ s : Fin 8, skipPart (iblk m c 1 ⟨8 * (t.val / 8) + s.val, Pipeline.run_point_lt_of_flush t h s⟩)
          (iblk m c 2 ⟨8 * (t.val / 8) + s.val, Pipeline.run_point_lt_of_flush t h s⟩) y := by
  rw [Pipeline.eq_sum_fin_of_reset_step_apply_of_flush (fun n h => (outsAt0 m c n h).2) 8 (fun _ => (0 : EReal))
    (fun t y => skipPart (iblk m c 1 t) (iblk m c 2 t) y) ?_ ?_ t h y]
  · intro t h y
    have hN := lt8 t
    rw [outsAt0_A m c t h (by omega) h (by omega)]
    frame_out
    exact ((payload2 _ _ y).trans (zero_add _).symm)
  · intro t h y
    rw [outsAt0_B m c t h (by omega) h (by omega)]
    frame_out
    exact payload4 _ _ y _

/-- The gradient of the gate's bias. -/
theorem bias (c : Dev nD) : (dats m 0 c).arrAt 3 cfg0.N = Cert.VecGRefIdeal.Read.val_main_v17 (F := Ideal) (Q m c) := by
  refine (dats m 0 c).arrAt_eq_of_covers 3 _ (by decide +kernel) fun t hf y => ?_
  have h7 : t.val % 8 = 7 := (flush0_3 t).mp hf
  blk_simp
  rw [after0_3, bias_acc m c t h7, zero_add]
  have e : ((View.whole main_v1_0).slice (win0_3.rect t)).emb y = y := by blk_ext [idx t]
  rw [e, ref_bias]
  unfold biasPart
  refine Fin.sum_mul_add_congr fun s r hl => ?_
  rw [← row_of t h7 s r hl]
  exact blk0 m c _ r (col y)

/-- The gradient of the skip weight. -/
theorem skip (c : Dev nD) : (dats m 0 c).arrAt 4 cfg0.N = Cert.VecGRefIdeal.Read.val_main_v18 (F := Ideal) (D m c) (P m c) := by
  refine (dats m 0 c).arrAt_eq_of_covers 4 _ (by decide +kernel) fun t hf y => ?_
  have h7 : t.val % 8 = 7 := (flush0_4 t).mp hf
  blk_simp
  rw [after0_4, skip_acc m c t h7, zero_add]
  have e : ((View.whole main_v1_1).slice (win0_4.rect t)).emb y = y := by blk_ext [idx t]
  rw [e, ref_skip]
  unfold skipPart
  refine Fin.sum_mul_add_congr fun s r hl => ?_
  rw [← row_of t h7 s r hl]
  exact congrArg₂ (fun a b : EReal => a * b) (blk1 m c _ r (col y)) (blk2 m c _ r (col y))

/-- The reference never faults and leaves its arguments. -/
theorem frame_ref : Cert.quiescent_VecGRefIdeal (hVecGRefIdeal := Cert.VecGRefIdeal.Gen.facts) := by
  intro m ρ _
  exact (θ_run _ _ _).mono (fun r h => ⟨fun c => (h c).2.2, sem_eq_zero_of_no_sems (by decide) _⟩) (Cert.VecGRefIdeal.Value.run m ρ)

/-- From equal arguments the call and its reference end with equal results. -/
theorem algebraic : Cert.algebraic_VecGIdeal_VecGRefIdeal (hVecGIdeal := Cert.VecGIdeal.Gen.facts)
    (hVecGRefIdeal := Cert.VecGRefIdeal.Gen.facts) := by
  pair_intro
  · run_from Cert.VecGIdeal.Value.run_blocks (F := Ideal) m g
  · run_from Cert.VecGRefIdeal.Value.run (F := Ideal) m' g'
    all_goals obtain ⟨h0, h1, h2⟩ := hagree c
    · rw [bias, Q, ← h0]
      exact Cert.VecGRefIdeal.Read.val_main_v17_eq (F := Ideal) _
    · rw [skip, D, P, ← h1, ← h2]
      exact Cert.VecGRefIdeal.Read.val_main_v18_eq (F := Ideal) _ _

end Cert.Proof.VecG

end
-- ==== Proof.lean ====
module

public import proofs.«01_k».proof.Proof.AdamFfn
public import proofs.«01_k».proof.Proof.AdamFfnT
public import proofs.«01_k».proof.Proof.AdamGlu
public import proofs.«01_k».proof.Proof.AdamIn
public import proofs.«01_k».proof.Proof.AdamO
public import proofs.«01_k».proof.Proof.AdamOut
public import proofs.«01_k».proof.Proof.AdamSmall
public import proofs.«01_k».proof.Proof.ConvClaim
public import proofs.«01_k».proof.Proof.ConvF
public import proofs.«01_k».proof.Proof.ConvOut
public import proofs.«01_k».proof.Proof.ConvOutB
public import proofs.«01_k».proof.Proof.Dhid
public import proofs.«01_k».proof.Proof.Disc
public import proofs.«01_k».proof.Proof.DiscB
public import proofs.«01_k».proof.Proof.Down
public import proofs.«01_k».proof.Proof.Du
public import proofs.«01_k».proof.Proof.Dw
public import proofs.«01_k».proof.Proof.DwD
public import proofs.«01_k».proof.Proof.Final
public import proofs.«01_k».proof.Proof.GateUp
public import proofs.«01_k».proof.Proof.Gen.AdamFfn.Frame
public import proofs.«01_k».proof.Proof.Gen.AdamFfnIdeal.Frame
public import proofs.«01_k».proof.Proof.Gen.AdamFfnT.Frame
public import proofs.«01_k».proof.Proof.Gen.AdamFfnTIdeal.Frame
public import proofs.«01_k».proof.Proof.Gen.AdamGlu.Frame
public import proofs.«01_k».proof.Proof.Gen.AdamGluIdeal.Frame
public import proofs.«01_k».proof.Proof.Gen.AdamIn.Frame
public import proofs.«01_k».proof.Proof.Gen.AdamInIdeal.Frame
public import proofs.«01_k».proof.Proof.Gen.AdamO.Frame
public import proofs.«01_k».proof.Proof.Gen.AdamOIdeal.Frame
public import proofs.«01_k».proof.Proof.Gen.AdamOut.Frame
public import proofs.«01_k».proof.Proof.Gen.AdamOutIdeal.Frame
public import proofs.«01_k».proof.Proof.Gen.AdamSmall.Frame
public import proofs.«01_k».proof.Proof.Gen.AdamSmallIdeal.Frame
public import proofs.«01_k».proof.Proof.Gen.Conv.Frame
public import proofs.«01_k».proof.Proof.Gen.ConvF.Frame
public import proofs.«01_k».proof.Proof.Gen.ConvFIdeal.Frame
public import proofs.«01_k».proof.Proof.Gen.ConvIdeal.Frame
public import proofs.«01_k».proof.Proof.Gen.ConvOut.Frame
public import proofs.«01_k».proof.Proof.Gen.ConvOutB.Frame
public import proofs.«01_k».proof.Proof.Gen.ConvOutBIdeal.Frame
public import proofs.«01_k».proof.Proof.Gen.ConvOutIdeal.Frame
public import proofs.«01_k».proof.Proof.Gen.Dhid.Frame
public import proofs.«01_k».proof.Proof.Gen.DhidIdeal.Frame
public import proofs.«01_k».proof.Proof.Gen.Disc.Frame
public import proofs.«01_k».proof.Proof.Gen.DiscB.Frame
public import proofs.«01_k».proof.Proof.Gen.DiscBIdeal.Frame
public import proofs.«01_k».proof.Proof.Gen.DiscIdeal.Frame
public import proofs.«01_k».proof.Proof.Gen.Down.Frame
public import proofs.«01_k».proof.Proof.Gen.DownIdeal.Frame
public import proofs.«01_k».proof.Proof.Gen.Du.Frame
public import proofs.«01_k».proof.Proof.Gen.DuIdeal.Frame
public import proofs.«01_k».proof.Proof.Gen.Dw.Flash
public import proofs.«01_k».proof.Proof.Gen.DwD.Flash
public import proofs.«01_k».proof.Proof.Gen.DwDIdeal.Flash
public import proofs.«01_k».proof.Proof.Gen.DwIdeal.Flash
public import proofs.«01_k».proof.Proof.Gen.Final.Frame
public import proofs.«01_k».proof.Proof.Gen.FinalIdeal.Frame
public import proofs.«01_k».proof.Proof.Gen.GateUp.Frame
public import proofs.«01_k».proof.Proof.Gen.GateUpIdeal.Frame
public import proofs.«01_k».proof.Proof.Gen.Glu.Frame
public import proofs.«01_k».proof.Proof.Gen.GluDw.Frame
public import proofs.«01_k».proof.Proof.Gen.GluDwIdeal.Frame
public import proofs.«01_k».proof.Proof.Gen.GluIdeal.Frame
public import proofs.«01_k».proof.Proof.Gen.MixOut.Frame
public import proofs.«01_k».proof.Proof.Gen.MixOutB.Frame
public import proofs.«01_k».proof.Proof.Gen.MixOutBIdeal.Frame
public import proofs.«01_k».proof.Proof.Gen.MixOutDw.Frame
public import proofs.«01_k».proof.Proof.Gen.MixOutDwIdeal.Frame
public import proofs.«01_k».proof.Proof.Gen.MixOutIdeal.Frame
public import proofs.«01_k».proof.Proof.Gen.Norm.Frame
public import proofs.«01_k».proof.Proof.Gen.NormB.Frame
public import proofs.«01_k».proof.Proof.Gen.NormBIdeal.Frame
public import proofs.«01_k».proof.Proof.Gen.NormIdeal.Frame
public import proofs.«01_k».proof.Proof.Gen.OutDw.Frame
public import proofs.«01_k».proof.Proof.Gen.OutDwIdeal.Frame
public import proofs.«01_k».proof.Proof.Gen.Pre_finite_hidden
public import proofs.«01_k».proof.Proof.Gen.Pre_finite_up
public import proofs.«01_k».proof.Proof.Gen.Pre_on_a_device
public import proofs.«01_k».proof.Proof.Gen.Proj.Frame
public import proofs.«01_k».proof.Proof.Gen.ProjB.Frame
public import proofs.«01_k».proof.Proof.Gen.ProjBIdeal.Frame
public import proofs.«01_k».proof.Proof.Gen.ProjDw.Frame
public import proofs.«01_k».proof.Proof.Gen.ProjDwIdeal.Frame
public import proofs.«01_k».proof.Proof.Gen.ProjIdeal.Frame
public import proofs.«01_k».proof.Proof.Gen.SOut.Frame
public import proofs.«01_k».proof.Proof.Gen.SOutB.Frame
public import proofs.«01_k».proof.Proof.Gen.SOutBIdeal.Frame
public import proofs.«01_k».proof.Proof.Gen.SOutIdeal.Frame
public import proofs.«01_k».proof.Proof.Gen.SumSmall.Frame
public import proofs.«01_k».proof.Proof.Gen.SumSmallIdeal.Frame
public import proofs.«01_k».proof.Proof.Gen.VecG.Frame
public import proofs.«01_k».proof.Proof.Gen.VecGIdeal.Frame
public import proofs.«01_k».proof.Proof.Glu
public import proofs.«01_k».proof.Proof.GluDw
public import proofs.«01_k».proof.Proof.MixOut
public import proofs.«01_k».proof.Proof.MixOutB
public import proofs.«01_k».proof.Proof.MixOutDw
public import proofs.«01_k».proof.Proof.Norm
public import proofs.«01_k».proof.Proof.NormB
public import proofs.«01_k».proof.Proof.OutDw
public import proofs.«01_k».proof.Proof.Proj
public import proofs.«01_k».proof.Proof.ProjB
public import proofs.«01_k».proof.Proof.ProjDw
public import proofs.«01_k».proof.Proof.SOut
public import proofs.«01_k».proof.Proof.SOutB
public import proofs.«01_k».proof.Proof.SumSmall
public import proofs.«01_k».proof.Proof.VecG
public import Idealize.ShloMosaic.Adequacy
public import Idealize.ShloMosaic.Init

@[expose] public section

noncomputable section

namespace Cert.Proof

open Idealize.ShloMosaic Idealize.SL.Sem

theorem claim : Cert.Claim := ⟨
  Cert.Conv.Gen.facts, Cert.ConvIdeal.Gen.facts, Cert.ConvRefIdeal.Gen.facts,
  Cert.Down.Gen.facts, Cert.DownIdeal.Gen.facts, Cert.DownRefIdeal.Gen.facts,
  Cert.Du.Gen.facts, Cert.DuIdeal.Gen.facts, Cert.DuRefIdeal.Gen.facts,
  Cert.Proj.Gen.facts, Cert.ProjIdeal.Gen.facts, Cert.ProjRefIdeal.Gen.facts,
  Cert.ProjDw.Gen.facts, Cert.ProjDwIdeal.Gen.facts, Cert.ProjDwRefIdeal.Gen.facts,
  Cert.ProjB.Gen.facts, Cert.ProjBIdeal.Gen.facts, Cert.ProjBRefIdeal.Gen.facts,
  Cert.GateUp.Gen.facts, Cert.GateUpIdeal.Gen.facts, Cert.GateUpRefIdeal.Gen.facts,
  Cert.Dhid.Gen.facts, Cert.DhidIdeal.Gen.facts, Cert.DhidRefIdeal.Gen.facts,
  Cert.MixOut.Gen.facts, Cert.MixOutIdeal.Gen.facts, Cert.MixOutRefIdeal.Gen.facts,
  Cert.MixOutB.Gen.facts, Cert.MixOutBIdeal.Gen.facts, Cert.MixOutBRefIdeal.Gen.facts,
  Cert.MixOutDw.Gen.facts, Cert.MixOutDwIdeal.Gen.facts, Cert.MixOutDwRefIdeal.Gen.facts,
  Cert.SOut.Gen.facts, Cert.SOutIdeal.Gen.facts, Cert.SOutRefIdeal.Gen.facts,
  Cert.SOutB.Gen.facts, Cert.SOutBIdeal.Gen.facts, Cert.SOutBRefIdeal.Gen.facts,
  Cert.ConvOut.Gen.facts, Cert.ConvOutIdeal.Gen.facts, Cert.ConvOutRefIdeal.Gen.facts,
  Cert.ConvOutB.Gen.facts, Cert.ConvOutBIdeal.Gen.facts, Cert.ConvOutBRefIdeal.Gen.facts,
  Cert.OutDw.Gen.facts, Cert.OutDwIdeal.Gen.facts, Cert.OutDwRefIdeal.Gen.facts,
  Cert.Glu.Gen.facts, Cert.GluIdeal.Gen.facts, Cert.GluRefIdeal.Gen.facts,
  Cert.GluDw.Gen.facts, Cert.GluDwIdeal.Gen.facts, Cert.GluDwRefIdeal.Gen.facts,
  Cert.Dw.Gen.facts, Cert.DwIdeal.Gen.facts, Cert.DwRefIdeal.Gen.facts,
  Cert.DwD.Gen.facts, Cert.DwDIdeal.Gen.facts, Cert.DwDRefIdeal.Gen.facts,
  Cert.Norm.Gen.facts, Cert.NormIdeal.Gen.facts, Cert.NormRefIdeal.Gen.facts,
  Cert.NormB.Gen.facts, Cert.NormBIdeal.Gen.facts, Cert.NormBRefIdeal.Gen.facts,
  Cert.Final.Gen.facts, Cert.FinalIdeal.Gen.facts, Cert.FinalRefIdeal.Gen.facts,
  Cert.SumSmall.Gen.facts, Cert.SumSmallIdeal.Gen.facts, Cert.SumSmallRefIdeal.Gen.facts,
  Cert.ConvF.Gen.facts, Cert.ConvFIdeal.Gen.facts, Cert.ConvFRefIdeal.Gen.facts,
  Cert.VecG.Gen.facts, Cert.VecGIdeal.Gen.facts, Cert.VecGRefIdeal.Gen.facts,
  Cert.Disc.Gen.facts, Cert.DiscIdeal.Gen.facts, Cert.DiscRefIdeal.Gen.facts,
  Cert.DiscB.Gen.facts, Cert.DiscBIdeal.Gen.facts, Cert.DiscBRefIdeal.Gen.facts,
  Cert.AdamIn.Gen.facts, Cert.AdamInIdeal.Gen.facts, Cert.AdamInRefIdeal.Gen.facts,
  Cert.AdamO.Gen.facts, Cert.AdamOIdeal.Gen.facts, Cert.AdamORefIdeal.Gen.facts,
  Cert.AdamOut.Gen.facts, Cert.AdamOutIdeal.Gen.facts, Cert.AdamOutRefIdeal.Gen.facts,
  Cert.AdamGlu.Gen.facts, Cert.AdamGluIdeal.Gen.facts, Cert.AdamGluRefIdeal.Gen.facts,
  Cert.AdamFfn.Gen.facts, Cert.AdamFfnIdeal.Gen.facts, Cert.AdamFfnRefIdeal.Gen.facts,
  Cert.AdamFfnT.Gen.facts, Cert.AdamFfnTIdeal.Gen.facts, Cert.AdamFfnTRefIdeal.Gen.facts,
  Cert.AdamSmall.Gen.facts, Cert.AdamSmallIdeal.Gen.facts, Cert.AdamSmallRefIdeal.Gen.facts,
  Cert.Pre_finite_up.Gen.facts,
  Cert.Pre_finite_hidden.Gen.facts,
  Cert.Pre_on_a_device.Gen.facts,
  fun m ρ _ => Cert.Conv.Gen.frame m ρ, fun m ρ _ => Cert.ConvIdeal.Gen.frame m ρ, Proof.Conv.frame_ref,
  fun m ρ _ => Cert.Down.Gen.frame m ρ, fun m ρ _ => Cert.DownIdeal.Gen.frame m ρ, Proof.Down.frame_ref,
  fun m ρ _ => Cert.Du.Gen.frame m ρ, fun m ρ _ => Cert.DuIdeal.Gen.frame m ρ, Proof.Du.frame_ref,
  fun m ρ _ => Cert.Proj.Gen.frame m ρ, fun m ρ _ => Cert.ProjIdeal.Gen.frame m ρ, Proof.Proj.frame_ref,
  fun m ρ _ => Cert.ProjDw.Gen.frame m ρ, fun m ρ _ => Cert.ProjDwIdeal.Gen.frame m ρ, Proof.ProjDw.frame_ref,
  fun m ρ _ => Cert.ProjB.Gen.frame m ρ, fun m ρ _ => Cert.ProjBIdeal.Gen.frame m ρ, Proof.ProjB.frame_ref,
  fun m ρ _ => Cert.GateUp.Gen.frame m ρ, fun m ρ _ => Cert.GateUpIdeal.Gen.frame m ρ, fun m ρ _ => Cert.GateUpIdeal.Gen.frame m ρ, Proof.GateUp.frame_ref, fun m ρ _ => Proof.GateUp.frame_ref m ρ trivial,
  fun m ρ _ => Cert.Dhid.Gen.frame m ρ, fun m ρ _ => Cert.DhidIdeal.Gen.frame m ρ, fun m ρ _ => Cert.DhidIdeal.Gen.frame m ρ, Proof.Dhid.frame_ref, fun m ρ _ => Proof.Dhid.frame_ref m ρ trivial,
  fun m ρ _ => Cert.MixOut.Gen.frame m ρ, fun m ρ _ => Cert.MixOutIdeal.Gen.frame m ρ, Proof.MixOut.frame_ref,
  fun m ρ _ => Cert.MixOutB.Gen.frame m ρ, fun m ρ _ => Cert.MixOutBIdeal.Gen.frame m ρ, Proof.MixOutB.frame_ref,
  fun m ρ _ => Cert.MixOutDw.Gen.frame m ρ, fun m ρ _ => Cert.MixOutDwIdeal.Gen.frame m ρ, Proof.MixOutDw.frame_ref,
  fun m ρ _ => Cert.SOut.Gen.frame m ρ, fun m ρ _ => Cert.SOutIdeal.Gen.frame m ρ, Proof.SOut.frame_ref,
  fun m ρ _ => Cert.SOutB.Gen.frame m ρ, fun m ρ _ => Cert.SOutBIdeal.Gen.frame m ρ, Proof.SOutB.frame_ref,
  fun m ρ _ => Cert.ConvOut.Gen.frame m ρ, fun m ρ _ => Cert.ConvOutIdeal.Gen.frame m ρ, Proof.ConvOut.frame_ref,
  fun m ρ _ => Cert.ConvOutB.Gen.frame m ρ, fun m ρ _ => Cert.ConvOutBIdeal.Gen.frame m ρ, Proof.ConvOutB.frame_ref,
  fun m ρ _ => Cert.OutDw.Gen.frame m ρ, fun m ρ _ => Cert.OutDwIdeal.Gen.frame m ρ, Proof.OutDw.frame_ref,
  fun m ρ _ => Cert.Glu.Gen.frame m ρ, fun m ρ _ => Cert.GluIdeal.Gen.frame m ρ, Proof.Glu.frame_ref,
  fun m ρ _ => Cert.GluDw.Gen.frame m ρ, fun m ρ _ => Cert.GluDwIdeal.Gen.frame m ρ, Proof.GluDw.frame_ref,
  Proof.Dw.frame, Proof.Dw.frame_ideal, Proof.Dw.frame_ref, fun m ρ _ => Proof.Dw.frame_ref m ρ trivial,
  Proof.DwD.frame, Proof.DwD.frame_ideal, Proof.DwD.frame_ref, fun m ρ _ => Proof.DwD.frame_ref m ρ trivial,
  fun m ρ _ => Cert.Norm.Gen.frame m ρ, fun m ρ _ => Cert.NormIdeal.Gen.frame m ρ, Proof.Norm.frame_ref,
  fun m ρ _ => Cert.NormB.Gen.frame m ρ, fun m ρ _ => Cert.NormBIdeal.Gen.frame m ρ, Proof.NormB.frame_ref,
  fun m ρ _ => Cert.Final.Gen.frame m ρ, fun m ρ _ => Cert.FinalIdeal.Gen.frame m ρ, Proof.Final.frame_ref,
  fun m ρ _ => Cert.SumSmall.Gen.frame m ρ, fun m ρ _ => Cert.SumSmallIdeal.Gen.frame m ρ, Proof.SumSmall.frame_ref,
  fun m ρ _ => Cert.ConvF.Gen.frame m ρ, fun m ρ _ => Cert.ConvFIdeal.Gen.frame m ρ, Proof.ConvF.frame_ref,
  fun m ρ _ => Cert.VecG.Gen.frame m ρ, fun m ρ _ => Cert.VecGIdeal.Gen.frame m ρ, Proof.VecG.frame_ref,
  fun m ρ _ => Cert.Disc.Gen.frame m ρ, fun m ρ _ => Cert.DiscIdeal.Gen.frame m ρ, Proof.Disc.frame_ref,
  fun m ρ _ => Cert.DiscB.Gen.frame m ρ, fun m ρ _ => Cert.DiscBIdeal.Gen.frame m ρ, Proof.DiscB.frame_ref,
  fun m ρ _ => Cert.AdamIn.Gen.frame m ρ, fun m ρ _ => Cert.AdamInIdeal.Gen.frame m ρ, Proof.AdamIn.frame_ref,
  fun m ρ _ => Cert.AdamO.Gen.frame m ρ, fun m ρ _ => Cert.AdamOIdeal.Gen.frame m ρ, Proof.AdamO.frame_ref,
  fun m ρ _ => Cert.AdamOut.Gen.frame m ρ, fun m ρ _ => Cert.AdamOutIdeal.Gen.frame m ρ, Proof.AdamOut.frame_ref,
  fun m ρ _ => Cert.AdamGlu.Gen.frame m ρ, fun m ρ _ => Cert.AdamGluIdeal.Gen.frame m ρ, Proof.AdamGlu.frame_ref,
  fun m ρ _ => Cert.AdamFfn.Gen.frame m ρ, fun m ρ _ => Cert.AdamFfnIdeal.Gen.frame m ρ, Proof.AdamFfn.frame_ref,
  fun m ρ _ => Cert.AdamFfnT.Gen.frame m ρ, fun m ρ _ => Cert.AdamFfnTIdeal.Gen.frame m ρ, Proof.AdamFfnT.frame_ref,
  fun m ρ _ => Cert.AdamSmall.Gen.frame m ρ, fun m ρ _ => Cert.AdamSmallIdeal.Gen.frame m ρ, Proof.AdamSmall.frame_ref,
  trivial, Proof.Conv.algebraic,
  trivial, Proof.Down.algebraic,
  trivial, Proof.Du.algebraic,
  trivial, Proof.Proj.algebraic,
  trivial, Proof.ProjDw.algebraic,
  trivial, Proof.ProjB.algebraic,
  trivial, Proof.GateUp.algebraic,
  trivial, Proof.Dhid.algebraic,
  trivial, Proof.MixOut.algebraic,
  trivial, Proof.MixOutB.algebraic,
  trivial, Proof.MixOutDw.algebraic,
  trivial, Proof.SOut.algebraic,
  trivial, Proof.SOutB.algebraic,
  trivial, Proof.ConvOut.algebraic,
  trivial, Proof.ConvOutB.algebraic,
  trivial, Proof.OutDw.algebraic,
  trivial, Proof.Glu.algebraic,
  trivial, Proof.GluDw.algebraic,
  trivial, Proof.Dw.algebraic,
  trivial, Proof.DwD.algebraic,
  trivial, Proof.Norm.algebraic,
  trivial, Proof.NormB.algebraic,
  trivial, Proof.Final.algebraic,
  trivial, Proof.SumSmall.algebraic,
  trivial, Proof.ConvF.algebraic,
  trivial, Proof.VecG.algebraic,
  trivial, Proof.Disc.algebraic,
  trivial, Proof.DiscB.algebraic,
  Proof.AdamIn.preserves, Proof.AdamIn.algebraic,
  Proof.AdamO.preserves, Proof.AdamO.algebraic,
  Proof.AdamOut.preserves, Proof.AdamOut.algebraic,
  Proof.AdamGlu.preserves, Proof.AdamGlu.algebraic,
  Proof.AdamFfn.preserves, Proof.AdamFfn.algebraic,
  Proof.AdamFfnT.preserves, Proof.AdamFfnT.algebraic,
  Proof.AdamSmall.preserves, Proof.AdamSmall.algebraic⟩

end Cert.Proof

end
